-- ==== Defs.lean ====
def Pre_XaKernel (m : (ℓ : Loc Cert.XaKernel.nD Cert.XaKernel.τ Cert.XaKernel.sig) → Buf (Elt Bits) ℓ) : Prop :=
  True

def Pre_XaKernelIdeal (m : (ℓ : Loc Cert.XaKernelIdeal.nD Cert.XaKernelIdeal.τ Cert.XaKernelIdeal.sig) → Buf (Elt Ideal) ℓ) : Prop :=
  True

def Pre_XaKernelIdeal_finite_keys [hPre_finite_keys : Cert.Pre_finite_keys.Facts] (m : (ℓ : Loc Cert.XaKernelIdeal.nD Cert.XaKernelIdeal.τ Cert.XaKernelIdeal.sig) → Buf (Elt Ideal) ℓ) : Prop :=
  ∀ c : Dev Cert.XaKernelIdeal.nD,
    (Cert.Pre_finite_keys.fn (F := Ideal) (m ((c.tc : Thread Cert.XaKernelIdeal.nD Cert.XaKernelIdeal.τ).loc Cert.XaKernelIdeal.main_arg0)) (m ((c.tc : Thread Cert.XaKernelIdeal.nD Cert.XaKernelIdeal.τ).loc Cert.XaKernelIdeal.main_arg1)) (m ((c.tc : Thread Cert.XaKernelIdeal.nD Cert.XaKernelIdeal.τ).loc Cert.XaKernelIdeal.main_arg2)) (m ((c.tc : Thread Cert.XaKernelIdeal.nD Cert.XaKernelIdeal.τ).loc Cert.XaKernelIdeal.main_arg3)) (m ((c.tc : Thread Cert.XaKernelIdeal.nD Cert.XaKernelIdeal.τ).loc Cert.XaKernelIdeal.main_arg4))) = (fun _ => 1#1)

def Pre_XaReferenceIdeal (m : (ℓ : Loc Cert.XaReferenceIdeal.nD Cert.XaReferenceIdeal.τ Cert.XaReferenceIdeal.sig) → Buf (Elt Ideal) ℓ) : Prop :=
  True

def Pre_XaReferenceIdeal_finite_keys [hPre_finite_keys : Cert.Pre_finite_keys.Facts] (m : (ℓ : Loc Cert.XaReferenceIdeal.nD Cert.XaReferenceIdeal.τ Cert.XaReferenceIdeal.sig) → Buf (Elt Ideal) ℓ) : Prop :=
  ∀ c : Dev Cert.XaReferenceIdeal.nD,
    (Cert.Pre_finite_keys.fn (F := Ideal) (m ((c.tc : Thread Cert.XaReferenceIdeal.nD Cert.XaReferenceIdeal.τ).loc Cert.XaReferenceIdeal.main_arg0)) (m ((c.tc : Thread Cert.XaReferenceIdeal.nD Cert.XaReferenceIdeal.τ).loc Cert.XaReferenceIdeal.main_arg1)) (m ((c.tc : Thread Cert.XaReferenceIdeal.nD Cert.XaReferenceIdeal.τ).loc Cert.XaReferenceIdeal.main_arg2)) (m ((c.tc : Thread Cert.XaReferenceIdeal.nD Cert.XaReferenceIdeal.τ).loc Cert.XaReferenceIdeal.main_arg3)) (m ((c.tc : Thread Cert.XaReferenceIdeal.nD Cert.XaReferenceIdeal.τ).loc Cert.XaReferenceIdeal.main_arg4))) = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActKernelIdeal_finite_gate [hPre_finite_gate : Cert.Pre_finite_gate.Facts] (m : (ℓ : Loc Cert.ActKernelIdeal.nD Cert.ActKernelIdeal.τ Cert.ActKernelIdeal.sig) → Buf (Elt Ideal) ℓ) : Prop :=
  ∀ c : Dev Cert.ActKernelIdeal.nD,
    (Cert.Pre_finite_gate.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_gate [hPre_finite_gate : Cert.Pre_finite_gate.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_gate.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))) = (fun _ => 1#1)

def Pre_DwdKernel (m : (ℓ : Loc Cert.DwdKernel.nD Cert.DwdKernel.τ Cert.DwdKernel.sig) → Buf (Elt Bits) ℓ) : Prop :=
  True

def Pre_DwdKernelIdeal (m : (ℓ : Loc Cert.DwdKernelIdeal.nD Cert.DwdKernelIdeal.τ Cert.DwdKernelIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_DwgKernel (m : (ℓ : Loc Cert.DwgKernel.nD Cert.DwgKernel.τ Cert.DwgKernel.sig) → Buf (Elt Bits) ℓ) : Prop :=
  True

def Pre_DwgKernelIdeal (m : (ℓ : Loc Cert.DwgKernelIdeal.nD Cert.DwgKernelIdeal.τ Cert.DwgKernelIdeal.sig) → Buf (Elt Ideal) ℓ) : Prop :=
  True

def Pre_DwgReferenceIdeal (m : (ℓ : Loc Cert.DwgReferenceIdeal.nD Cert.DwgReferenceIdeal.τ Cert.DwgReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_IneKernel (m : (ℓ : Loc Cert.IneKernel.nD Cert.IneKernel.τ Cert.IneKernel.sig) → Buf (Elt Bits) ℓ) : Prop :=
  True

def Pre_IneKernelIdeal (m : (ℓ : Loc Cert.IneKernelIdeal.nD Cert.IneKernelIdeal.τ Cert.IneKernelIdeal.sig) → Buf (Elt Ideal) ℓ) : Prop :=
  True

def Pre_IneReferenceIdeal (m : (ℓ : Loc Cert.IneReferenceIdeal.nD Cert.IneReferenceIdeal.τ Cert.IneReferenceIdeal.sig) → Buf (Elt Ideal) ℓ) : Prop :=
  True

def Pre_InoKernel (m : (ℓ : Loc Cert.InoKernel.nD Cert.InoKernel.τ Cert.InoKernel.sig) → Buf (Elt Bits) ℓ) : Prop :=
  True

def Pre_InoKernelIdeal (m : (ℓ : Loc Cert.InoKernelIdeal.nD Cert.InoKernelIdeal.τ Cert.InoKernelIdeal.sig) → Buf (Elt Ideal) ℓ) : Prop :=
  True

def Pre_InoReferenceIdeal (m : (ℓ : Loc Cert.InoReferenceIdeal.nD Cert.InoReferenceIdeal.τ Cert.InoReferenceIdeal.sig) → Buf (Elt Ideal) ℓ) : Prop :=
  True

def Pre_XqKernel (m : (ℓ : Loc Cert.XqKernel.nD Cert.XqKernel.τ Cert.XqKernel.sig) → Buf (Elt Bits) ℓ) : Prop :=
  True

def Pre_XqKernelIdeal (m : (ℓ : Loc Cert.XqKernelIdeal.nD Cert.XqKernelIdeal.τ Cert.XqKernelIdeal.sig) → Buf (Elt Ideal) ℓ) : Prop :=
  True

def Pre_XqReferenceIdeal (m : (ℓ : Loc Cert.XqReferenceIdeal.nD Cert.XqReferenceIdeal.τ Cert.XqReferenceIdeal.sig) → Buf (Elt Ideal) ℓ) : Prop :=
  True

def Pre_OuteKernel (m : (ℓ : Loc Cert.OuteKernel.nD Cert.OuteKernel.τ Cert.OuteKernel.sig) → Buf (Elt Bits) ℓ) : Prop :=
  True

def Pre_OuteKernelIdeal (m : (ℓ : Loc Cert.OuteKernelIdeal.nD Cert.OuteKernelIdeal.τ Cert.OuteKernelIdeal.sig) → Buf (Elt Ideal) ℓ) : Prop :=
  True

def Pre_OuteReferenceIdeal (m : (ℓ : Loc Cert.OuteReferenceIdeal.nD Cert.OuteReferenceIdeal.τ Cert.OuteReferenceIdeal.sig) → Buf (Elt Ideal) ℓ) : Prop :=
  True

def Pre_OutoKernel (m : (ℓ : Loc Cert.OutoKernel.nD Cert.OutoKernel.τ Cert.OutoKernel.sig) → Buf (Elt Bits) ℓ) : Prop :=
  True

def Pre_OutoKernelIdeal (m : (ℓ : Loc Cert.OutoKernelIdeal.nD Cert.OutoKernelIdeal.τ Cert.OutoKernelIdeal.sig) → Buf (Elt Ideal) ℓ) : Prop :=
  True

def Pre_OutoReferenceIdeal (m : (ℓ : Loc Cert.OutoReferenceIdeal.nD Cert.OutoReferenceIdeal.τ Cert.OutoReferenceIdeal.sig) → Buf (Elt Ideal) ℓ) : Prop :=
  True

def Pre_XoKernel (m : (ℓ : Loc Cert.XoKernel.nD Cert.XoKernel.τ Cert.XoKernel.sig) → Buf (Elt Bits) ℓ) : Prop :=
  True

def Pre_XoKernelIdeal (m : (ℓ : Loc Cert.XoKernelIdeal.nD Cert.XoKernelIdeal.τ Cert.XoKernelIdeal.sig) → Buf (Elt Ideal) ℓ) : Prop :=
  True

def Pre_XoReferenceIdeal (m : (ℓ : Loc Cert.XoReferenceIdeal.nD Cert.XoReferenceIdeal.τ Cert.XoReferenceIdeal.sig) → Buf (Elt Ideal) ℓ) : Prop :=
  True

def Pre_DwieKernel (m : (ℓ : Loc Cert.DwieKernel.nD Cert.DwieKernel.τ Cert.DwieKernel.sig) → Buf (Elt Bits) ℓ) : Prop :=
  True

def Pre_DwieKernelIdeal (m : (ℓ : Loc Cert.DwieKernelIdeal.nD Cert.DwieKernelIdeal.τ Cert.DwieKernelIdeal.sig) → Buf (Elt Ideal) ℓ) : Prop :=
  True

def Pre_DwieReferenceIdeal (m : (ℓ : Loc Cert.DwieReferenceIdeal.nD Cert.DwieReferenceIdeal.τ Cert.DwieReferenceIdeal.sig) → Buf (Elt Ideal) ℓ) : Prop :=
  True

def Pre_DwioKernel (m : (ℓ : Loc Cert.DwioKernel.nD Cert.DwioKernel.τ Cert.DwioKernel.sig) → Buf (Elt Bits) ℓ) : Prop :=
  True

def Pre_DwioKernelIdeal (m : (ℓ : Loc Cert.DwioKernelIdeal.nD Cert.DwioKernelIdeal.τ Cert.DwioKernelIdeal.sig) → Buf (Elt Ideal) ℓ) : Prop :=
  True

def Pre_DwioReferenceIdeal (m : (ℓ : Loc Cert.DwioReferenceIdeal.nD Cert.DwioReferenceIdeal.τ Cert.DwioReferenceIdeal.sig) → Buf (Elt Ideal) ℓ) : Prop :=
  True

def Pre_DwqKernel (m : (ℓ : Loc Cert.DwqKernel.nD Cert.DwqKernel.τ Cert.DwqKernel.sig) → Buf (Elt Bits) ℓ) : Prop :=
  True

def Pre_DwqKernelIdeal (m : (ℓ : Loc Cert.DwqKernelIdeal.nD Cert.DwqKernelIdeal.τ Cert.DwqKernelIdeal.sig) → Buf (Elt Ideal) ℓ) : Prop :=
  True

def Pre_DwqReferenceIdeal (m : (ℓ : Loc Cert.DwqReferenceIdeal.nD Cert.DwqReferenceIdeal.τ Cert.DwqReferenceIdeal.sig) → Buf (Elt Ideal) ℓ) : Prop :=
  True

def Pre_DwcKernel (m : (ℓ : Loc Cert.DwcKernel.nD Cert.DwcKernel.τ Cert.DwcKernel.sig) → Buf (Elt Bits) ℓ) : Prop :=
  True

def Pre_DwcKernelIdeal (m : (ℓ : Loc Cert.DwcKernelIdeal.nD Cert.DwcKernelIdeal.τ Cert.DwcKernelIdeal.sig) → Buf (Elt Ideal) ℓ) : Prop :=
  True

def Pre_DwcReferenceIdeal (m : (ℓ : Loc Cert.DwcReferenceIdeal.nD Cert.DwcReferenceIdeal.τ Cert.DwcReferenceIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_DheKernel (m : (ℓ : Loc Cert.DheKernel.nD Cert.DheKernel.τ Cert.DheKernel.sig) → Buf (Elt Bits) ℓ) : Prop :=
  True

def Pre_DheKernelIdeal (m : (ℓ : Loc Cert.DheKernelIdeal.nD Cert.DheKernelIdeal.τ Cert.DheKernelIdeal.sig) → Buf (Elt Ideal) ℓ) : Prop :=
  True

def Pre_DheReferenceIdeal (m : (ℓ : Loc Cert.DheReferenceIdeal.nD Cert.DheReferenceIdeal.τ Cert.DheReferenceIdeal.sig) → Buf (Elt Ideal) ℓ) : Prop :=
  True

def Pre_DhoKernel (m : (ℓ : Loc Cert.DhoKernel.nD Cert.DhoKernel.τ Cert.DhoKernel.sig) → Buf (Elt Bits) ℓ) : Prop :=
  True

def Pre_DhoKernelIdeal (m : (ℓ : Loc Cert.DhoKernelIdeal.nD Cert.DhoKernelIdeal.τ Cert.DhoKernelIdeal.sig) → Buf (Elt Ideal) ℓ) : Prop :=
  True

def Pre_DhoReferenceIdeal (m : (ℓ : Loc Cert.DhoReferenceIdeal.nD Cert.DhoReferenceIdeal.τ Cert.DhoReferenceIdeal.sig) → Buf (Elt Ideal) ℓ) : Prop :=
  True

def Pre_DhqKernel (m : (ℓ : Loc Cert.DhqKernel.nD Cert.DhqKernel.τ Cert.DhqKernel.sig) → Buf (Elt Bits) ℓ) : Prop :=
  True

def Pre_DhqKernelIdeal (m : (ℓ : Loc Cert.DhqKernelIdeal.nD Cert.DhqKernelIdeal.τ Cert.DhqKernelIdeal.sig) → Buf (Elt Ideal) ℓ) : Prop :=
  True

def Pre_DhqReferenceIdeal (m : (ℓ : Loc Cert.DhqReferenceIdeal.nD Cert.DhqReferenceIdeal.τ Cert.DhqReferenceIdeal.sig) → Buf (Elt Ideal) ℓ) : Prop :=
  True

def Pre_DyKernel (m : (ℓ : Loc Cert.DyKernel.nD Cert.DyKernel.τ Cert.DyKernel.sig) → Buf (Elt Bits) ℓ) : Prop :=
  True

def Pre_DyKernelIdeal (m : (ℓ : Loc Cert.DyKernelIdeal.nD Cert.DyKernelIdeal.τ Cert.DyKernelIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_DoKernel (m : (ℓ : Loc Cert.DoKernel.nD Cert.DoKernel.τ Cert.DoKernel.sig) → Buf (Elt Bits) ℓ) : Prop :=
  True

def Pre_DoKernelIdeal (m : (ℓ : Loc Cert.DoKernelIdeal.nD Cert.DoKernelIdeal.τ Cert.DoKernelIdeal.sig) → Buf (Elt Ideal) ℓ) : Prop :=
  True

def Pre_DoReferenceIdeal (m : (ℓ : Loc Cert.DoReferenceIdeal.nD Cert.DoReferenceIdeal.τ Cert.DoReferenceIdeal.sig) → Buf (Elt Ideal) ℓ) : Prop :=
  True

def Pre_XfKernel (m : (ℓ : Loc Cert.XfKernel.nD Cert.XfKernel.τ Cert.XfKernel.sig) → Buf (Elt Bits) ℓ) : Prop :=
  True

def Pre_XfKernelIdeal (m : (ℓ : Loc Cert.XfKernelIdeal.nD Cert.XfKernelIdeal.τ Cert.XfKernelIdeal.sig) → Buf (Elt Ideal) ℓ) : Prop :=
  True

def Pre_XfReferenceIdeal (m : (ℓ : Loc Cert.XfReferenceIdeal.nD Cert.XfReferenceIdeal.τ Cert.XfReferenceIdeal.sig) → Buf (Elt Ideal) ℓ) : Prop :=
  True

def Pre_NfKernel (m : (ℓ : Loc Cert.NfKernel.nD Cert.NfKernel.τ Cert.NfKernel.sig) → Buf (Elt Bits) ℓ) : Prop :=
  True

def Pre_NfKernelIdeal (m : (ℓ : Loc Cert.NfKernelIdeal.nD Cert.NfKernelIdeal.τ Cert.NfKernelIdeal.sig) → Buf (Elt Ideal) ℓ) : Prop :=
  True

def Pre_NfReferenceIdeal (m : (ℓ : Loc Cert.NfReferenceIdeal.nD Cert.NfReferenceIdeal.τ Cert.NfReferenceIdeal.sig) → Buf (Elt Ideal) ℓ) : Prop :=
  True

def Pre_OfKernel (m : (ℓ : Loc Cert.OfKernel.nD Cert.OfKernel.τ Cert.OfKernel.sig) → Buf (Elt Bits) ℓ) : Prop :=
  True

def Pre_OfKernelIdeal (m : (ℓ : Loc Cert.OfKernelIdeal.nD Cert.OfKernelIdeal.τ Cert.OfKernelIdeal.sig) → Buf (Elt Ideal) ℓ) : Prop :=
  True

def Pre_OfReferenceIdeal (m : (ℓ : Loc Cert.OfReferenceIdeal.nD Cert.OfReferenceIdeal.τ Cert.OfReferenceIdeal.sig) → Buf (Elt Ideal) ℓ) : Prop :=
  True

def Pre_ObKernel (m : (ℓ : Loc Cert.ObKernel.nD Cert.ObKernel.τ Cert.ObKernel.sig) → Buf (Elt Bits) ℓ) : Prop :=
  True

def Pre_ObKernelIdeal (m : (ℓ : Loc Cert.ObKernelIdeal.nD Cert.ObKernelIdeal.τ Cert.ObKernelIdeal.sig) → Buf (Elt Ideal) ℓ) : Prop :=
  True

def Pre_ObReferenceIdeal (m : (ℓ : Loc Cert.ObReferenceIdeal.nD Cert.ObReferenceIdeal.τ Cert.ObReferenceIdeal.sig) → Buf (Elt Ideal) ℓ) : Prop :=
  True

def Pre_MfKernel (m : (ℓ : Loc Cert.MfKernel.nD Cert.MfKernel.τ Cert.MfKernel.sig) → Buf (Elt Bits) ℓ) : Prop :=
  True

def Pre_MfKernelIdeal (m : (ℓ : Loc Cert.MfKernelIdeal.nD Cert.MfKernelIdeal.τ Cert.MfKernelIdeal.sig) → Buf (Elt Ideal) ℓ) : Prop :=
  True

def Pre_MfReferenceIdeal (m : (ℓ : Loc Cert.MfReferenceIdeal.nD Cert.MfReferenceIdeal.τ Cert.MfReferenceIdeal.sig) → Buf (Elt Ideal) ℓ) : Prop :=
  True

def Pre_MbKernel (m : (ℓ : Loc Cert.MbKernel.nD Cert.MbKernel.τ Cert.MbKernel.sig) → Buf (Elt Bits) ℓ) : Prop :=
  True

def Pre_MbKernelIdeal (m : (ℓ : Loc Cert.MbKernelIdeal.nD Cert.MbKernelIdeal.τ Cert.MbKernelIdeal.sig) → Buf (Elt Ideal) ℓ) : Prop :=
  True

def Pre_MbReferenceIdeal (m : (ℓ : Loc Cert.MbReferenceIdeal.nD Cert.MbReferenceIdeal.τ Cert.MbReferenceIdeal.sig) → Buf (Elt Ideal) ℓ) : Prop :=
  True

def Pre_LsKernel (m : (ℓ : Loc Cert.LsKernel.nD Cert.LsKernel.τ Cert.LsKernel.sig) → Buf (Elt Bits) ℓ) : Prop :=
  True

def Pre_LsKernelIdeal (m : (ℓ : Loc Cert.LsKernelIdeal.nD Cert.LsKernelIdeal.τ Cert.LsKernelIdeal.sig) → Buf (Elt Ideal) ℓ) : Prop :=
  True

def Pre_LsReferenceIdeal (m : (ℓ : Loc Cert.LsReferenceIdeal.nD Cert.LsReferenceIdeal.τ Cert.LsReferenceIdeal.sig) → Buf (Elt Ideal) ℓ) : Prop :=
  True

def quiescent_XaKernel [hXaKernel : Cert.XaKernel.Facts] : Prop :=
  ∀ (m : (ℓ : Loc Cert.XaKernel.nD Cert.XaKernel.τ Cert.XaKernel.sig) → Buf (Elt Bits) ℓ) (g : Dev Cert.XaKernel.nD → PrngReg), Pre_XaKernel m →
    θ_run (Cert.XaKernel.defs (F := Bits)) (onTc (τ := Cert.XaKernel.τ) (Cert.XaKernel.main (F := Bits))) ⟨m, fun _ => 0, g⟩ (fun r => (∀ c : Dev Cert.XaKernel.nD,
      r.2.mem ((c.tc : Thread Cert.XaKernel.nD Cert.XaKernel.τ).loc Cert.XaKernel.main_arg0) = m ((c.tc : Thread Cert.XaKernel.nD Cert.XaKernel.τ).loc Cert.XaKernel.main_arg0)
      ∧ r.2.mem ((c.tc : Thread Cert.XaKernel.nD Cert.XaKernel.τ).loc Cert.XaKernel.main_arg1) = m ((c.tc : Thread Cert.XaKernel.nD Cert.XaKernel.τ).loc Cert.XaKernel.main_arg1)
      ∧ r.2.mem ((c.tc : Thread Cert.XaKernel.nD Cert.XaKernel.τ).loc Cert.XaKernel.main_arg2) = m ((c.tc : Thread Cert.XaKernel.nD Cert.XaKernel.τ).loc Cert.XaKernel.main_arg2)
      ∧ r.2.mem ((c.tc : Thread Cert.XaKernel.nD Cert.XaKernel.τ).loc Cert.XaKernel.main_arg3) = m ((c.tc : Thread Cert.XaKernel.nD Cert.XaKernel.τ).loc Cert.XaKernel.main_arg3)
      ∧ r.2.mem ((c.tc : Thread Cert.XaKernel.nD Cert.XaKernel.τ).loc Cert.XaKernel.main_arg4) = m ((c.tc : Thread Cert.XaKernel.nD Cert.XaKernel.τ).loc Cert.XaKernel.main_arg4))
      ∧ r.2.sem = fun _ => 0)

def quiescent_XaKernelIdeal [hXaKernelIdeal : Cert.XaKernelIdeal.Facts] : Prop :=
  ∀ (m : (ℓ : Loc Cert.XaKernelIdeal.nD Cert.XaKernelIdeal.τ Cert.XaKernelIdeal.sig) → Buf (Elt Ideal) ℓ) (g : Dev Cert.XaKernelIdeal.nD → PrngReg), Pre_XaKernelIdeal m →
    θ_run (Cert.XaKernelIdeal.defs (F := Ideal)) (onTc (τ := Cert.XaKernelIdeal.τ) (Cert.XaKernelIdeal.main (F := Ideal))) ⟨m, fun _ => 0, g⟩ (fun r => (∀ c : Dev Cert.XaKernelIdeal.nD,
      r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
      ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
      ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
      ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
      ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4))
      ∧ r.2.sem = fun _ => 0)

def quiescent_XaKernelIdeal_pre_finite_keys [hXaKernelIdeal : Cert.XaKernelIdeal.Facts] [hPre_finite_keys : Cert.Pre_finite_keys.Facts] : Prop :=
  ∀ (m : (ℓ : Loc Cert.XaKernelIdeal.nD Cert.XaKernelIdeal.τ Cert.XaKernelIdeal.sig) → Buf (Elt Ideal) ℓ) (g : Dev Cert.XaKernelIdeal.nD → PrngReg), Pre_XaKernelIdeal_finite_keys m →
    θ_run (Cert.XaKernelIdeal.defs (F := Ideal)) (onTc (τ := Cert.XaKernelIdeal.τ) (Cert.XaKernelIdeal.main (F := Ideal))) ⟨m, fun _ => 0, g⟩ (fun r => (∀ c : Dev Cert.XaKernelIdeal.nD,
      r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
      ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
      ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
      ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
      ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4))
      ∧ r.2.sem = fun _ => 0)

def quiescent_XaReferenceIdeal [hXaReferenceIdeal : Cert.XaReferenceIdeal.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4))
      ∧ r.2.sem = fun _ => 0)

def quiescent_XaReferenceIdeal_pre_finite_keys [hXaReferenceIdeal : Cert.XaReferenceIdeal.Facts] [hPre_finite_keys : Cert.Pre_finite_keys.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal_finite_keys m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActKernelIdeal_pre_finite_gate [hActKernelIdeal : Cert.ActKernelIdeal.Facts] [hPre_finite_gate : Cert.Pre_finite_gate.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal_finite_gate m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_finite_gate [hActReferenceIdeal : Cert.ActReferenceIdeal.Facts] [hPre_finite_gate : Cert.Pre_finite_gate.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_gate m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_DwdKernel [hDwdKernel : Cert.DwdKernel.Facts] : Prop :=
  ∀ (m : (ℓ : Loc Cert.DwdKernel.nD Cert.DwdKernel.τ Cert.DwdKernel.sig) → Buf (Elt Bits) ℓ) (g : Dev Cert.DwdKernel.nD → PrngReg), Pre_DwdKernel m →
    θ_run (Cert.DwdKernel.defs (F := Bits)) (onTc (τ := Cert.DwdKernel.τ) (Cert.DwdKernel.main (F := Bits))) ⟨m, fun _ => 0, g⟩ (fun r => (∀ c : Dev Cert.DwdKernel.nD,
      r.2.mem ((c.tc : Thread Cert.DwdKernel.nD Cert.DwdKernel.τ).loc Cert.DwdKernel.main_arg0) = m ((c.tc : Thread Cert.DwdKernel.nD Cert.DwdKernel.τ).loc Cert.DwdKernel.main_arg0)
      ∧ r.2.mem ((c.tc : Thread Cert.DwdKernel.nD Cert.DwdKernel.τ).loc Cert.DwdKernel.main_arg1) = m ((c.tc : Thread Cert.DwdKernel.nD Cert.DwdKernel.τ).loc Cert.DwdKernel.main_arg1))
      ∧ r.2.sem = fun _ => 0)

def quiescent_DwdKernelIdeal [hDwdKernelIdeal : Cert.DwdKernelIdeal.Facts] : Prop :=
  ∀ (m : (ℓ : Loc Cert.DwdKernelIdeal.nD Cert.DwdKernelIdeal.τ Cert.DwdKernelIdeal.sig) → Buf (Elt Ideal) ℓ) (g : Dev Cert.DwdKernelIdeal.nD → PrngReg), Pre_DwdKernelIdeal m →
    θ_run (Cert.DwdKernelIdeal.defs (F := Ideal)) (onTc (τ := Cert.DwdKernelIdeal.τ) (Cert.DwdKernelIdeal.main (F := Ideal))) ⟨m, fun _ => 0, g⟩ (fun r => (∀ c : Dev Cert.DwdKernelIdeal.nD,
      r.2.mem ((c.tc : Thread Cert.DwdKernelIdeal.nD Cert.DwdKernelIdeal.τ).loc Cert.DwdKernelIdeal.main_arg0) = m ((c.tc : Thread Cert.DwdKernelIdeal.nD Cert.DwdKernelIdeal.τ).loc Cert.DwdKernelIdeal.main_arg0)
      ∧ r.2.mem ((c.tc : Thread Cert.DwdKernelIdeal.nD Cert.DwdKernelIdeal.τ).loc Cert.DwdKernelIdeal.main_arg1) = m ((c.tc : Thread Cert.DwdKernelIdeal.nD Cert.DwdKernelIdeal.τ).loc Cert.DwdKernelIdeal.main_arg1))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1))
      ∧ r.2.sem = fun _ => 0)

def quiescent_DwgKernel [hDwgKernel : Cert.DwgKernel.Facts] : Prop :=
  ∀ (m : (ℓ : Loc Cert.DwgKernel.nD Cert.DwgKernel.τ Cert.DwgKernel.sig) → Buf (Elt Bits) ℓ) (g : Dev Cert.DwgKernel.nD → PrngReg), Pre_DwgKernel m →
    θ_run (Cert.DwgKernel.defs (F := Bits)) (onTc (τ := Cert.DwgKernel.τ) (Cert.DwgKernel.main (F := Bits))) ⟨m, fun _ => 0, g⟩ (fun r => (∀ c : Dev Cert.DwgKernel.nD,
      r.2.mem ((c.tc : Thread Cert.DwgKernel.nD Cert.DwgKernel.τ).loc Cert.DwgKernel.main_arg0) = m ((c.tc : Thread Cert.DwgKernel.nD Cert.DwgKernel.τ).loc Cert.DwgKernel.main_arg0)
      ∧ r.2.mem ((c.tc : Thread Cert.DwgKernel.nD Cert.DwgKernel.τ).loc Cert.DwgKernel.main_arg1) = m ((c.tc : Thread Cert.DwgKernel.nD Cert.DwgKernel.τ).loc Cert.DwgKernel.main_arg1))
      ∧ r.2.sem = fun _ => 0)

def quiescent_DwgKernelIdeal [hDwgKernelIdeal : Cert.DwgKernelIdeal.Facts] : Prop :=
  ∀ (m : (ℓ : Loc Cert.DwgKernelIdeal.nD Cert.DwgKernelIdeal.τ Cert.DwgKernelIdeal.sig) → Buf (Elt Ideal) ℓ) (g : Dev Cert.DwgKernelIdeal.nD → PrngReg), Pre_DwgKernelIdeal m →
    θ_run (Cert.DwgKernelIdeal.defs (F := Ideal)) (onTc (τ := Cert.DwgKernelIdeal.τ) (Cert.DwgKernelIdeal.main (F := Ideal))) ⟨m, fun _ => 0, g⟩ (fun r => (∀ c : Dev Cert.DwgKernelIdeal.nD,
      r.2.mem ((c.tc : Thread Cert.DwgKernelIdeal.nD Cert.DwgKernelIdeal.τ).loc Cert.DwgKernelIdeal.main_arg0) = m ((c.tc : Thread Cert.DwgKernelIdeal.nD Cert.DwgKernelIdeal.τ).loc Cert.DwgKernelIdeal.main_arg0)
      ∧ r.2.mem ((c.tc : Thread Cert.DwgKernelIdeal.nD Cert.DwgKernelIdeal.τ).loc Cert.DwgKernelIdeal.main_arg1) = m ((c.tc : Thread Cert.DwgKernelIdeal.nD Cert.DwgKernelIdeal.τ).loc Cert.DwgKernelIdeal.main_arg1))
      ∧ r.2.sem = fun _ => 0)

def quiescent_DwgReferenceIdeal [hDwgReferenceIdeal : Cert.DwgReferenceIdeal.Facts] : Prop :=
  ∀ (m : (ℓ : Loc Cert.DwgReferenceIdeal.nD Cert.DwgReferenceIdeal.τ Cert.DwgReferenceIdeal.sig) → Buf (Elt Ideal) ℓ) (g : Dev Cert.DwgReferenceIdeal.nD → PrngReg), Pre_DwgReferenceIdeal m →
    θ_run (Cert.DwgReferenceIdeal.defs (F := Ideal)) (onTc (τ := Cert.DwgReferenceIdeal.τ) (Cert.DwgReferenceIdeal.main (F := Ideal))) ⟨m, fun _ => 0, g⟩ (fun r => (∀ c : Dev Cert.DwgReferenceIdeal.nD,
      r.2.mem ((c.tc : Thread Cert.DwgReferenceIdeal.nD Cert.DwgReferenceIdeal.τ).loc Cert.DwgReferenceIdeal.main_arg0) = m ((c.tc : Thread Cert.DwgReferenceIdeal.nD Cert.DwgReferenceIdeal.τ).loc Cert.DwgReferenceIdeal.main_arg0)
      ∧ r.2.mem ((c.tc : Thread Cert.DwgReferenceIdeal.nD Cert.DwgReferenceIdeal.τ).loc Cert.DwgReferenceIdeal.main_arg1) = m ((c.tc : Thread Cert.DwgReferenceIdeal.nD Cert.DwgReferenceIdeal.τ).loc Cert.DwgReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_IneKernel [hIneKernel : Cert.IneKernel.Facts] : Prop :=
  ∀ (m : (ℓ : Loc Cert.IneKernel.nD Cert.IneKernel.τ Cert.IneKernel.sig) → Buf (Elt Bits) ℓ) (g : Dev Cert.IneKernel.nD → PrngReg), Pre_IneKernel m →
    θ_run (Cert.IneKernel.defs (F := Bits)) (onTc (τ := Cert.IneKernel.τ) (Cert.IneKernel.main (F := Bits))) ⟨m, fun _ => 0, g⟩ (fun r => (∀ c : Dev Cert.IneKernel.nD,
      r.2.mem ((c.tc : Thread Cert.IneKernel.nD Cert.IneKernel.τ).loc Cert.IneKernel.main_arg0) = m ((c.tc : Thread Cert.IneKernel.nD Cert.IneKernel.τ).loc Cert.IneKernel.main_arg0)
      ∧ r.2.mem ((c.tc : Thread Cert.IneKernel.nD Cert.IneKernel.τ).loc Cert.IneKernel.main_arg1) = m ((c.tc : Thread Cert.IneKernel.nD Cert.IneKernel.τ).loc Cert.IneKernel.main_arg1))
      ∧ r.2.sem = fun _ => 0)

def quiescent_IneKernelIdeal [hIneKernelIdeal : Cert.IneKernelIdeal.Facts] : Prop :=
  ∀ (m : (ℓ : Loc Cert.IneKernelIdeal.nD Cert.IneKernelIdeal.τ Cert.IneKernelIdeal.sig) → Buf (Elt Ideal) ℓ) (g : Dev Cert.IneKernelIdeal.nD → PrngReg), Pre_IneKernelIdeal m →
    θ_run (Cert.IneKernelIdeal.defs (F := Ideal)) (onTc (τ := Cert.IneKernelIdeal.τ) (Cert.IneKernelIdeal.main (F := Ideal))) ⟨m, fun _ => 0, g⟩ (fun r => (∀ c : Dev Cert.IneKernelIdeal.nD,
      r.2.mem ((c.tc : Thread Cert.IneKernelIdeal.nD Cert.IneKernelIdeal.τ).loc Cert.IneKernelIdeal.main_arg0) = m ((c.tc : Thread Cert.IneKernelIdeal.nD Cert.IneKernelIdeal.τ).loc Cert.IneKernelIdeal.main_arg0)
      ∧ r.2.mem ((c.tc : Thread Cert.IneKernelIdeal.nD Cert.IneKernelIdeal.τ).loc Cert.IneKernelIdeal.main_arg1) = m ((c.tc : Thread Cert.IneKernelIdeal.nD Cert.IneKernelIdeal.τ).loc Cert.IneKernelIdeal.main_arg1))
      ∧ r.2.sem = fun _ => 0)

def quiescent_IneReferenceIdeal [hIneReferenceIdeal : Cert.IneReferenceIdeal.Facts] : Prop :=
  ∀ (m : (ℓ : Loc Cert.IneReferenceIdeal.nD Cert.IneReferenceIdeal.τ Cert.IneReferenceIdeal.sig) → Buf (Elt Ideal) ℓ) (g : Dev Cert.IneReferenceIdeal.nD → PrngReg), Pre_IneReferenceIdeal m →
    θ_run (Cert.IneReferenceIdeal.defs (F := Ideal)) (onTc (τ := Cert.IneReferenceIdeal.τ) (Cert.IneReferenceIdeal.main (F := Ideal))) ⟨m, fun _ => 0, g⟩ (fun r => (∀ c : Dev Cert.IneReferenceIdeal.nD,
      r.2.mem ((c.tc : Thread Cert.IneReferenceIdeal.nD Cert.IneReferenceIdeal.τ).loc Cert.IneReferenceIdeal.main_arg0) = m ((c.tc : Thread Cert.IneReferenceIdeal.nD Cert.IneReferenceIdeal.τ).loc Cert.IneReferenceIdeal.main_arg0)
      ∧ r.2.mem ((c.tc : Thread Cert.IneReferenceIdeal.nD Cert.IneReferenceIdeal.τ).loc Cert.IneReferenceIdeal.main_arg1) = m ((c.tc : Thread Cert.IneReferenceIdeal.nD Cert.IneReferenceIdeal.τ).loc Cert.IneReferenceIdeal.main_arg1))
      ∧ r.2.sem = fun _ => 0)

def quiescent_InoKernel [hInoKernel : Cert.InoKernel.Facts] : Prop :=
  ∀ (m : (ℓ : Loc Cert.InoKernel.nD Cert.InoKernel.τ Cert.InoKernel.sig) → Buf (Elt Bits) ℓ) (g : Dev Cert.InoKernel.nD → PrngReg), Pre_InoKernel m →
    θ_run (Cert.InoKernel.defs (F := Bits)) (onTc (τ := Cert.InoKernel.τ) (Cert.InoKernel.main (F := Bits))) ⟨m, fun _ => 0, g⟩ (fun r => (∀ c : Dev Cert.InoKernel.nD,
      r.2.mem ((c.tc : Thread Cert.InoKernel.nD Cert.InoKernel.τ).loc Cert.InoKernel.main_arg0) = m ((c.tc : Thread Cert.InoKernel.nD Cert.InoKernel.τ).loc Cert.InoKernel.main_arg0)
      ∧ r.2.mem ((c.tc : Thread Cert.InoKernel.nD Cert.InoKernel.τ).loc Cert.InoKernel.main_arg1) = m ((c.tc : Thread Cert.InoKernel.nD Cert.InoKernel.τ).loc Cert.InoKernel.main_arg1))
      ∧ r.2.sem = fun _ => 0)

def quiescent_InoKernelIdeal [hInoKernelIdeal : Cert.InoKernelIdeal.Facts] : Prop :=
  ∀ (m : (ℓ : Loc Cert.InoKernelIdeal.nD Cert.InoKernelIdeal.τ Cert.InoKernelIdeal.sig) → Buf (Elt Ideal) ℓ) (g : Dev Cert.InoKernelIdeal.nD → PrngReg), Pre_InoKernelIdeal m →
    θ_run (Cert.InoKernelIdeal.defs (F := Ideal)) (onTc (τ := Cert.InoKernelIdeal.τ) (Cert.InoKernelIdeal.main (F := Ideal))) ⟨m, fun _ => 0, g⟩ (fun r => (∀ c : Dev Cert.InoKernelIdeal.nD,
      r.2.mem ((c.tc : Thread Cert.InoKernelIdeal.nD Cert.InoKernelIdeal.τ).loc Cert.InoKernelIdeal.main_arg0) = m ((c.tc : Thread Cert.InoKernelIdeal.nD Cert.InoKernelIdeal.τ).loc Cert.InoKernelIdeal.main_arg0)
      ∧ r.2.mem ((c.tc : Thread Cert.InoKernelIdeal.nD Cert.InoKernelIdeal.τ).loc Cert.InoKernelIdeal.main_arg1) = m ((c.tc : Thread Cert.InoKernelIdeal.nD Cert.InoKernelIdeal.τ).loc Cert.InoKernelIdeal.main_arg1))
      ∧ r.2.sem = fun _ => 0)

def quiescent_InoReferenceIdeal [hInoReferenceIdeal : Cert.InoReferenceIdeal.Facts] : Prop :=
  ∀ (m : (ℓ : Loc Cert.InoReferenceIdeal.nD Cert.InoReferenceIdeal.τ Cert.InoReferenceIdeal.sig) → Buf (Elt Ideal) ℓ) (g : Dev Cert.InoReferenceIdeal.nD → PrngReg), Pre_InoReferenceIdeal m →
    θ_run (Cert.InoReferenceIdeal.defs (F := Ideal)) (onTc (τ := Cert.InoReferenceIdeal.τ) (Cert.InoReferenceIdeal.main (F := Ideal))) ⟨m, fun _ => 0, g⟩ (fun r => (∀ c : Dev Cert.InoReferenceIdeal.nD,
      r.2.mem ((c.tc : Thread Cert.InoReferenceIdeal.nD Cert.InoReferenceIdeal.τ).loc Cert.InoReferenceIdeal.main_arg0) = m ((c.tc : Thread Cert.InoReferenceIdeal.nD Cert.InoReferenceIdeal.τ).loc Cert.InoReferenceIdeal.main_arg0)
      ∧ r.2.mem ((c.tc : Thread Cert.InoReferenceIdeal.nD Cert.InoReferenceIdeal.τ).loc Cert.InoReferenceIdeal.main_arg1) = m ((c.tc : Thread Cert.InoReferenceIdeal.nD Cert.InoReferenceIdeal.τ).loc Cert.InoReferenceIdeal.main_arg1))
      ∧ r.2.sem = fun _ => 0)

def quiescent_XqKernel [hXqKernel : Cert.XqKernel.Facts] : Prop :=
  ∀ (m : (ℓ : Loc Cert.XqKernel.nD Cert.XqKernel.τ Cert.XqKernel.sig) → Buf (Elt Bits) ℓ) (g : Dev Cert.XqKernel.nD → PrngReg), Pre_XqKernel m →
    θ_run (Cert.XqKernel.defs (F := Bits)) (onTc (τ := Cert.XqKernel.τ) (Cert.XqKernel.main (F := Bits))) ⟨m, fun _ => 0, g⟩ (fun r => (∀ c : Dev Cert.XqKernel.nD,
      r.2.mem ((c.tc : Thread Cert.XqKernel.nD Cert.XqKernel.τ).loc Cert.XqKernel.main_arg0) = m ((c.tc : Thread Cert.XqKernel.nD Cert.XqKernel.τ).loc Cert.XqKernel.main_arg0)
      ∧ r.2.mem ((c.tc : Thread Cert.XqKernel.nD Cert.XqKernel.τ).loc Cert.XqKernel.main_arg1) = m ((c.tc : Thread Cert.XqKernel.nD Cert.XqKernel.τ).loc Cert.XqKernel.main_arg1))
      ∧ r.2.sem = fun _ => 0)

def quiescent_XqKernelIdeal [hXqKernelIdeal : Cert.XqKernelIdeal.Facts] : Prop :=
  ∀ (m : (ℓ : Loc Cert.XqKernelIdeal.nD Cert.XqKernelIdeal.τ Cert.XqKernelIdeal.sig) → Buf (Elt Ideal) ℓ) (g : Dev Cert.XqKernelIdeal.nD → PrngReg), Pre_XqKernelIdeal m →
    θ_run (Cert.XqKernelIdeal.defs (F := Ideal)) (onTc (τ := Cert.XqKernelIdeal.τ) (Cert.XqKernelIdeal.main (F := Ideal))) ⟨m, fun _ => 0, g⟩ (fun r => (∀ c : Dev Cert.XqKernelIdeal.nD,
      r.2.mem ((c.tc : Thread Cert.XqKernelIdeal.nD Cert.XqKernelIdeal.τ).loc Cert.XqKernelIdeal.main_arg0) = m ((c.tc : Thread Cert.XqKernelIdeal.nD Cert.XqKernelIdeal.τ).loc Cert.XqKernelIdeal.main_arg0)
      ∧ r.2.mem ((c.tc : Thread Cert.XqKernelIdeal.nD Cert.XqKernelIdeal.τ).loc Cert.XqKernelIdeal.main_arg1) = m ((c.tc : Thread Cert.XqKernelIdeal.nD Cert.XqKernelIdeal.τ).loc Cert.XqKernelIdeal.main_arg1))
      ∧ r.2.sem = fun _ => 0)

def quiescent_XqReferenceIdeal [hXqReferenceIdeal : Cert.XqReferenceIdeal.Facts] : Prop :=
  ∀ (m : (ℓ : Loc Cert.XqReferenceIdeal.nD Cert.XqReferenceIdeal.τ Cert.XqReferenceIdeal.sig) → Buf (Elt Ideal) ℓ) (g : Dev Cert.XqReferenceIdeal.nD → PrngReg), Pre_XqReferenceIdeal m →
    θ_run (Cert.XqReferenceIdeal.defs (F := Ideal)) (onTc (τ := Cert.XqReferenceIdeal.τ) (Cert.XqReferenceIdeal.main (F := Ideal))) ⟨m, fun _ => 0, g⟩ (fun r => (∀ c : Dev Cert.XqReferenceIdeal.nD,
      r.2.mem ((c.tc : Thread Cert.XqReferenceIdeal.nD Cert.XqReferenceIdeal.τ).loc Cert.XqReferenceIdeal.main_arg0) = m ((c.tc : Thread Cert.XqReferenceIdeal.nD Cert.XqReferenceIdeal.τ).loc Cert.XqReferenceIdeal.main_arg0)
      ∧ r.2.mem ((c.tc : Thread Cert.XqReferenceIdeal.nD Cert.XqReferenceIdeal.τ).loc Cert.XqReferenceIdeal.main_arg1) = m ((c.tc : Thread Cert.XqReferenceIdeal.nD Cert.XqReferenceIdeal.τ).loc Cert.XqReferenceIdeal.main_arg1))
      ∧ r.2.sem = fun _ => 0)

def quiescent_OuteKernel [hOuteKernel : Cert.OuteKernel.Facts] : Prop :=
  ∀ (m : (ℓ : Loc Cert.OuteKernel.nD Cert.OuteKernel.τ Cert.OuteKernel.sig) → Buf (Elt Bits) ℓ) (g : Dev Cert.OuteKernel.nD → PrngReg), Pre_OuteKernel m →
    θ_run (Cert.OuteKernel.defs (F := Bits)) (onTc (τ := Cert.OuteKernel.τ) (Cert.OuteKernel.main (F := Bits))) ⟨m, fun _ => 0, g⟩ (fun r => (∀ c : Dev Cert.OuteKernel.nD,
      r.2.mem ((c.tc : Thread Cert.OuteKernel.nD Cert.OuteKernel.τ).loc Cert.OuteKernel.main_arg0) = m ((c.tc : Thread Cert.OuteKernel.nD Cert.OuteKernel.τ).loc Cert.OuteKernel.main_arg0)
      ∧ r.2.mem ((c.tc : Thread Cert.OuteKernel.nD Cert.OuteKernel.τ).loc Cert.OuteKernel.main_arg1) = m ((c.tc : Thread Cert.OuteKernel.nD Cert.OuteKernel.τ).loc Cert.OuteKernel.main_arg1)
      ∧ r.2.mem ((c.tc : Thread Cert.OuteKernel.nD Cert.OuteKernel.τ).loc Cert.OuteKernel.main_arg2) = m ((c.tc : Thread Cert.OuteKernel.nD Cert.OuteKernel.τ).loc Cert.OuteKernel.main_arg2)
      ∧ r.2.mem ((c.tc : Thread Cert.OuteKernel.nD Cert.OuteKernel.τ).loc Cert.OuteKernel.main_arg3) = m ((c.tc : Thread Cert.OuteKernel.nD Cert.OuteKernel.τ).loc Cert.OuteKernel.main_arg3))
      ∧ r.2.sem = fun _ => 0)

def quiescent_OuteKernelIdeal [hOuteKernelIdeal : Cert.OuteKernelIdeal.Facts] : Prop :=
  ∀ (m : (ℓ : Loc Cert.OuteKernelIdeal.nD Cert.OuteKernelIdeal.τ Cert.OuteKernelIdeal.sig) → Buf (Elt Ideal) ℓ) (g : Dev Cert.OuteKernelIdeal.nD → PrngReg), Pre_OuteKernelIdeal m →
    θ_run (Cert.OuteKernelIdeal.defs (F := Ideal)) (onTc (τ := Cert.OuteKernelIdeal.τ) (Cert.OuteKernelIdeal.main (F := Ideal))) ⟨m, fun _ => 0, g⟩ (fun r => (∀ c : Dev Cert.OuteKernelIdeal.nD,
      r.2.mem ((c.tc : Thread Cert.OuteKernelIdeal.nD Cert.OuteKernelIdeal.τ).loc Cert.OuteKernelIdeal.main_arg0) = m ((c.tc : Thread Cert.OuteKernelIdeal.nD Cert.OuteKernelIdeal.τ).loc Cert.OuteKernelIdeal.main_arg0)
      ∧ r.2.mem ((c.tc : Thread Cert.OuteKernelIdeal.nD Cert.OuteKernelIdeal.τ).loc Cert.OuteKernelIdeal.main_arg1) = m ((c.tc : Thread Cert.OuteKernelIdeal.nD Cert.OuteKernelIdeal.τ).loc Cert.OuteKernelIdeal.main_arg1)
      ∧ r.2.mem ((c.tc : Thread Cert.OuteKernelIdeal.nD Cert.OuteKernelIdeal.τ).loc Cert.OuteKernelIdeal.main_arg2) = m ((c.tc : Thread Cert.OuteKernelIdeal.nD Cert.OuteKernelIdeal.τ).loc Cert.OuteKernelIdeal.main_arg2)
      ∧ r.2.mem ((c.tc : Thread Cert.OuteKernelIdeal.nD Cert.OuteKernelIdeal.τ).loc Cert.OuteKernelIdeal.main_arg3) = m ((c.tc : Thread Cert.OuteKernelIdeal.nD Cert.OuteKernelIdeal.τ).loc Cert.OuteKernelIdeal.main_arg3))
      ∧ r.2.sem = fun _ => 0)

def quiescent_OuteReferenceIdeal [hOuteReferenceIdeal : Cert.OuteReferenceIdeal.Facts] : Prop :=
  ∀ (m : (ℓ : Loc Cert.OuteReferenceIdeal.nD Cert.OuteReferenceIdeal.τ Cert.OuteReferenceIdeal.sig) → Buf (Elt Ideal) ℓ) (g : Dev Cert.OuteReferenceIdeal.nD → PrngReg), Pre_OuteReferenceIdeal m →
    θ_run (Cert.OuteReferenceIdeal.defs (F := Ideal)) (onTc (τ := Cert.OuteReferenceIdeal.τ) (Cert.OuteReferenceIdeal.main (F := Ideal))) ⟨m, fun _ => 0, g⟩ (fun r => (∀ c : Dev Cert.OuteReferenceIdeal.nD,
      r.2.mem ((c.tc : Thread Cert.OuteReferenceIdeal.nD Cert.OuteReferenceIdeal.τ).loc Cert.OuteReferenceIdeal.main_arg0) = m ((c.tc : Thread Cert.OuteReferenceIdeal.nD Cert.OuteReferenceIdeal.τ).loc Cert.OuteReferenceIdeal.main_arg0)
      ∧ r.2.mem ((c.tc : Thread Cert.OuteReferenceIdeal.nD Cert.OuteReferenceIdeal.τ).loc Cert.OuteReferenceIdeal.main_arg1) = m ((c.tc : Thread Cert.OuteReferenceIdeal.nD Cert.OuteReferenceIdeal.τ).loc Cert.OuteReferenceIdeal.main_arg1)
      ∧ r.2.mem ((c.tc : Thread Cert.OuteReferenceIdeal.nD Cert.OuteReferenceIdeal.τ).loc Cert.OuteReferenceIdeal.main_arg2) = m ((c.tc : Thread Cert.OuteReferenceIdeal.nD Cert.OuteReferenceIdeal.τ).loc Cert.OuteReferenceIdeal.main_arg2)
      ∧ r.2.mem ((c.tc : Thread Cert.OuteReferenceIdeal.nD Cert.OuteReferenceIdeal.τ).loc Cert.OuteReferenceIdeal.main_arg3) = m ((c.tc : Thread Cert.OuteReferenceIdeal.nD Cert.OuteReferenceIdeal.τ).loc Cert.OuteReferenceIdeal.main_arg3))
      ∧ r.2.sem = fun _ => 0)

def quiescent_OutoKernel [hOutoKernel : Cert.OutoKernel.Facts] : Prop :=
  ∀ (m : (ℓ : Loc Cert.OutoKernel.nD Cert.OutoKernel.τ Cert.OutoKernel.sig) → Buf (Elt Bits) ℓ) (g : Dev Cert.OutoKernel.nD → PrngReg), Pre_OutoKernel m →
    θ_run (Cert.OutoKernel.defs (F := Bits)) (onTc (τ := Cert.OutoKernel.τ) (Cert.OutoKernel.main (F := Bits))) ⟨m, fun _ => 0, g⟩ (fun r => (∀ c : Dev Cert.OutoKernel.nD,
      r.2.mem ((c.tc : Thread Cert.OutoKernel.nD Cert.OutoKernel.τ).loc Cert.OutoKernel.main_arg0) = m ((c.tc : Thread Cert.OutoKernel.nD Cert.OutoKernel.τ).loc Cert.OutoKernel.main_arg0)
      ∧ r.2.mem ((c.tc : Thread Cert.OutoKernel.nD Cert.OutoKernel.τ).loc Cert.OutoKernel.main_arg1) = m ((c.tc : Thread Cert.OutoKernel.nD Cert.OutoKernel.τ).loc Cert.OutoKernel.main_arg1)
      ∧ r.2.mem ((c.tc : Thread Cert.OutoKernel.nD Cert.OutoKernel.τ).loc Cert.OutoKernel.main_arg2) = m ((c.tc : Thread Cert.OutoKernel.nD Cert.OutoKernel.τ).loc Cert.OutoKernel.main_arg2))
      ∧ r.2.sem = fun _ => 0)

def quiescent_OutoKernelIdeal [hOutoKernelIdeal : Cert.OutoKernelIdeal.Facts] : Prop :=
  ∀ (m : (ℓ : Loc Cert.OutoKernelIdeal.nD Cert.OutoKernelIdeal.τ Cert.OutoKernelIdeal.sig) → Buf (Elt Ideal) ℓ) (g : Dev Cert.OutoKernelIdeal.nD → PrngReg), Pre_OutoKernelIdeal m →
    θ_run (Cert.OutoKernelIdeal.defs (F := Ideal)) (onTc (τ := Cert.OutoKernelIdeal.τ) (Cert.OutoKernelIdeal.main (F := Ideal))) ⟨m, fun _ => 0, g⟩ (fun r => (∀ c : Dev Cert.OutoKernelIdeal.nD,
      r.2.mem ((c.tc : Thread Cert.OutoKernelIdeal.nD Cert.OutoKernelIdeal.τ).loc Cert.OutoKernelIdeal.main_arg0) = m ((c.tc : Thread Cert.OutoKernelIdeal.nD Cert.OutoKernelIdeal.τ).loc Cert.OutoKernelIdeal.main_arg0)
      ∧ r.2.mem ((c.tc : Thread Cert.OutoKernelIdeal.nD Cert.OutoKernelIdeal.τ).loc Cert.OutoKernelIdeal.main_arg1) = m ((c.tc : Thread Cert.OutoKernelIdeal.nD Cert.OutoKernelIdeal.τ).loc Cert.OutoKernelIdeal.main_arg1)
      ∧ r.2.mem ((c.tc : Thread Cert.OutoKernelIdeal.nD Cert.OutoKernelIdeal.τ).loc Cert.OutoKernelIdeal.main_arg2) = m ((c.tc : Thread Cert.OutoKernelIdeal.nD Cert.OutoKernelIdeal.τ).loc Cert.OutoKernelIdeal.main_arg2))
      ∧ r.2.sem = fun _ => 0)

def quiescent_OutoReferenceIdeal [hOutoReferenceIdeal : Cert.OutoReferenceIdeal.Facts] : Prop :=
  ∀ (m : (ℓ : Loc Cert.OutoReferenceIdeal.nD Cert.OutoReferenceIdeal.τ Cert.OutoReferenceIdeal.sig) → Buf (Elt Ideal) ℓ) (g : Dev Cert.OutoReferenceIdeal.nD → PrngReg), Pre_OutoReferenceIdeal m →
    θ_run (Cert.OutoReferenceIdeal.defs (F := Ideal)) (onTc (τ := Cert.OutoReferenceIdeal.τ) (Cert.OutoReferenceIdeal.main (F := Ideal))) ⟨m, fun _ => 0, g⟩ (fun r => (∀ c : Dev Cert.OutoReferenceIdeal.nD,
      r.2.mem ((c.tc : Thread Cert.OutoReferenceIdeal.nD Cert.OutoReferenceIdeal.τ).loc Cert.OutoReferenceIdeal.main_arg0) = m ((c.tc : Thread Cert.OutoReferenceIdeal.nD Cert.OutoReferenceIdeal.τ).loc Cert.OutoReferenceIdeal.main_arg0)
      ∧ r.2.mem ((c.tc : Thread Cert.OutoReferenceIdeal.nD Cert.OutoReferenceIdeal.τ).loc Cert.OutoReferenceIdeal.main_arg1) = m ((c.tc : Thread Cert.OutoReferenceIdeal.nD Cert.OutoReferenceIdeal.τ).loc Cert.OutoReferenceIdeal.main_arg1)
      ∧ r.2.mem ((c.tc : Thread Cert.OutoReferenceIdeal.nD Cert.OutoReferenceIdeal.τ).loc Cert.OutoReferenceIdeal.main_arg2) = m ((c.tc : Thread Cert.OutoReferenceIdeal.nD Cert.OutoReferenceIdeal.τ).loc Cert.OutoReferenceIdeal.main_arg2))
      ∧ r.2.sem = fun _ => 0)

def quiescent_XoKernel [hXoKernel : Cert.XoKernel.Facts] : Prop :=
  ∀ (m : (ℓ : Loc Cert.XoKernel.nD Cert.XoKernel.τ Cert.XoKernel.sig) → Buf (Elt Bits) ℓ) (g : Dev Cert.XoKernel.nD → PrngReg), Pre_XoKernel m →
    θ_run (Cert.XoKernel.defs (F := Bits)) (onTc (τ := Cert.XoKernel.τ) (Cert.XoKernel.main (F := Bits))) ⟨m, fun _ => 0, g⟩ (fun r => (∀ c : Dev Cert.XoKernel.nD,
      r.2.mem ((c.tc : Thread Cert.XoKernel.nD Cert.XoKernel.τ).loc Cert.XoKernel.main_arg0) = m ((c.tc : Thread Cert.XoKernel.nD Cert.XoKernel.τ).loc Cert.XoKernel.main_arg0)
      ∧ r.2.mem ((c.tc : Thread Cert.XoKernel.nD Cert.XoKernel.τ).loc Cert.XoKernel.main_arg1) = m ((c.tc : Thread Cert.XoKernel.nD Cert.XoKernel.τ).loc Cert.XoKernel.main_arg1)
      ∧ r.2.mem ((c.tc : Thread Cert.XoKernel.nD Cert.XoKernel.τ).loc Cert.XoKernel.main_arg2) = m ((c.tc : Thread Cert.XoKernel.nD Cert.XoKernel.τ).loc Cert.XoKernel.main_arg2))
      ∧ r.2.sem = fun _ => 0)

def quiescent_XoKernelIdeal [hXoKernelIdeal : Cert.XoKernelIdeal.Facts] : Prop :=
  ∀ (m : (ℓ : Loc Cert.XoKernelIdeal.nD Cert.XoKernelIdeal.τ Cert.XoKernelIdeal.sig) → Buf (Elt Ideal) ℓ) (g : Dev Cert.XoKernelIdeal.nD → PrngReg), Pre_XoKernelIdeal m →
    θ_run (Cert.XoKernelIdeal.defs (F := Ideal)) (onTc (τ := Cert.XoKernelIdeal.τ) (Cert.XoKernelIdeal.main (F := Ideal))) ⟨m, fun _ => 0, g⟩ (fun r => (∀ c : Dev Cert.XoKernelIdeal.nD,
      r.2.mem ((c.tc : Thread Cert.XoKernelIdeal.nD Cert.XoKernelIdeal.τ).loc Cert.XoKernelIdeal.main_arg0) = m ((c.tc : Thread Cert.XoKernelIdeal.nD Cert.XoKernelIdeal.τ).loc Cert.XoKernelIdeal.main_arg0)
      ∧ r.2.mem ((c.tc : Thread Cert.XoKernelIdeal.nD Cert.XoKernelIdeal.τ).loc Cert.XoKernelIdeal.main_arg1) = m ((c.tc : Thread Cert.XoKernelIdeal.nD Cert.XoKernelIdeal.τ).loc Cert.XoKernelIdeal.main_arg1)
      ∧ r.2.mem ((c.tc : Thread Cert.XoKernelIdeal.nD Cert.XoKernelIdeal.τ).loc Cert.XoKernelIdeal.main_arg2) = m ((c.tc : Thread Cert.XoKernelIdeal.nD Cert.XoKernelIdeal.τ).loc Cert.XoKernelIdeal.main_arg2))
      ∧ r.2.sem = fun _ => 0)

def quiescent_XoReferenceIdeal [hXoReferenceIdeal : Cert.XoReferenceIdeal.Facts] : Prop :=
  ∀ (m : (ℓ : Loc Cert.XoReferenceIdeal.nD Cert.XoReferenceIdeal.τ Cert.XoReferenceIdeal.sig) → Buf (Elt Ideal) ℓ) (g : Dev Cert.XoReferenceIdeal.nD → PrngReg), Pre_XoReferenceIdeal m →
    θ_run (Cert.XoReferenceIdeal.defs (F := Ideal)) (onTc (τ := Cert.XoReferenceIdeal.τ) (Cert.XoReferenceIdeal.main (F := Ideal))) ⟨m, fun _ => 0, g⟩ (fun r => (∀ c : Dev Cert.XoReferenceIdeal.nD,
      r.2.mem ((c.tc : Thread Cert.XoReferenceIdeal.nD Cert.XoReferenceIdeal.τ).loc Cert.XoReferenceIdeal.main_arg0) = m ((c.tc : Thread Cert.XoReferenceIdeal.nD Cert.XoReferenceIdeal.τ).loc Cert.XoReferenceIdeal.main_arg0)
      ∧ r.2.mem ((c.tc : Thread Cert.XoReferenceIdeal.nD Cert.XoReferenceIdeal.τ).loc Cert.XoReferenceIdeal.main_arg1) = m ((c.tc : Thread Cert.XoReferenceIdeal.nD Cert.XoReferenceIdeal.τ).loc Cert.XoReferenceIdeal.main_arg1)
      ∧ r.2.mem ((c.tc : Thread Cert.XoReferenceIdeal.nD Cert.XoReferenceIdeal.τ).loc Cert.XoReferenceIdeal.main_arg2) = m ((c.tc : Thread Cert.XoReferenceIdeal.nD Cert.XoReferenceIdeal.τ).loc Cert.XoReferenceIdeal.main_arg2))
      ∧ r.2.sem = fun _ => 0)

def quiescent_DwieKernel [hDwieKernel : Cert.DwieKernel.Facts] : Prop :=
  ∀ (m : (ℓ : Loc Cert.DwieKernel.nD Cert.DwieKernel.τ Cert.DwieKernel.sig) → Buf (Elt Bits) ℓ) (g : Dev Cert.DwieKernel.nD → PrngReg), Pre_DwieKernel m →
    θ_run (Cert.DwieKernel.defs (F := Bits)) (onTc (τ := Cert.DwieKernel.τ) (Cert.DwieKernel.main (F := Bits))) ⟨m, fun _ => 0, g⟩ (fun r => (∀ c : Dev Cert.DwieKernel.nD,
      r.2.mem ((c.tc : Thread Cert.DwieKernel.nD Cert.DwieKernel.τ).loc Cert.DwieKernel.main_arg0) = m ((c.tc : Thread Cert.DwieKernel.nD Cert.DwieKernel.τ).loc Cert.DwieKernel.main_arg0)
      ∧ r.2.mem ((c.tc : Thread Cert.DwieKernel.nD Cert.DwieKernel.τ).loc Cert.DwieKernel.main_arg1) = m ((c.tc : Thread Cert.DwieKernel.nD Cert.DwieKernel.τ).loc Cert.DwieKernel.main_arg1))
      ∧ r.2.sem = fun _ => 0)

def quiescent_DwieKernelIdeal [hDwieKernelIdeal : Cert.DwieKernelIdeal.Facts] : Prop :=
  ∀ (m : (ℓ : Loc Cert.DwieKernelIdeal.nD Cert.DwieKernelIdeal.τ Cert.DwieKernelIdeal.sig) → Buf (Elt Ideal) ℓ) (g : Dev Cert.DwieKernelIdeal.nD → PrngReg), Pre_DwieKernelIdeal m →
    θ_run (Cert.DwieKernelIdeal.defs (F := Ideal)) (onTc (τ := Cert.DwieKernelIdeal.τ) (Cert.DwieKernelIdeal.main (F := Ideal))) ⟨m, fun _ => 0, g⟩ (fun r => (∀ c : Dev Cert.DwieKernelIdeal.nD,
      r.2.mem ((c.tc : Thread Cert.DwieKernelIdeal.nD Cert.DwieKernelIdeal.τ).loc Cert.DwieKernelIdeal.main_arg0) = m ((c.tc : Thread Cert.DwieKernelIdeal.nD Cert.DwieKernelIdeal.τ).loc Cert.DwieKernelIdeal.main_arg0)
      ∧ r.2.mem ((c.tc : Thread Cert.DwieKernelIdeal.nD Cert.DwieKernelIdeal.τ).loc Cert.DwieKernelIdeal.main_arg1) = m ((c.tc : Thread Cert.DwieKernelIdeal.nD Cert.DwieKernelIdeal.τ).loc Cert.DwieKernelIdeal.main_arg1))
      ∧ r.2.sem = fun _ => 0)

def quiescent_DwieReferenceIdeal [hDwieReferenceIdeal : Cert.DwieReferenceIdeal.Facts] : Prop :=
  ∀ (m : (ℓ : Loc Cert.DwieReferenceIdeal.nD Cert.DwieReferenceIdeal.τ Cert.DwieReferenceIdeal.sig) → Buf (Elt Ideal) ℓ) (g : Dev Cert.DwieReferenceIdeal.nD → PrngReg), Pre_DwieReferenceIdeal m →
    θ_run (Cert.DwieReferenceIdeal.defs (F := Ideal)) (onTc (τ := Cert.DwieReferenceIdeal.τ) (Cert.DwieReferenceIdeal.main (F := Ideal))) ⟨m, fun _ => 0, g⟩ (fun r => (∀ c : Dev Cert.DwieReferenceIdeal.nD,
      r.2.mem ((c.tc : Thread Cert.DwieReferenceIdeal.nD Cert.DwieReferenceIdeal.τ).loc Cert.DwieReferenceIdeal.main_arg0) = m ((c.tc : Thread Cert.DwieReferenceIdeal.nD Cert.DwieReferenceIdeal.τ).loc Cert.DwieReferenceIdeal.main_arg0)
      ∧ r.2.mem ((c.tc : Thread Cert.DwieReferenceIdeal.nD Cert.DwieReferenceIdeal.τ).loc Cert.DwieReferenceIdeal.main_arg1) = m ((c.tc : Thread Cert.DwieReferenceIdeal.nD Cert.DwieReferenceIdeal.τ).loc Cert.DwieReferenceIdeal.main_arg1))
      ∧ r.2.sem = fun _ => 0)

def quiescent_DwioKernel [hDwioKernel : Cert.DwioKernel.Facts] : Prop :=
  ∀ (m : (ℓ : Loc Cert.DwioKernel.nD Cert.DwioKernel.τ Cert.DwioKernel.sig) → Buf (Elt Bits) ℓ) (g : Dev Cert.DwioKernel.nD → PrngReg), Pre_DwioKernel m →
    θ_run (Cert.DwioKernel.defs (F := Bits)) (onTc (τ := Cert.DwioKernel.τ) (Cert.DwioKernel.main (F := Bits))) ⟨m, fun _ => 0, g⟩ (fun r => (∀ c : Dev Cert.DwioKernel.nD,
      r.2.mem ((c.tc : Thread Cert.DwioKernel.nD Cert.DwioKernel.τ).loc Cert.DwioKernel.main_arg0) = m ((c.tc : Thread Cert.DwioKernel.nD Cert.DwioKernel.τ).loc Cert.DwioKernel.main_arg0)
      ∧ r.2.mem ((c.tc : Thread Cert.DwioKernel.nD Cert.DwioKernel.τ).loc Cert.DwioKernel.main_arg1) = m ((c.tc : Thread Cert.DwioKernel.nD Cert.DwioKernel.τ).loc Cert.DwioKernel.main_arg1))
      ∧ r.2.sem = fun _ => 0)

def quiescent_DwioKernelIdeal [hDwioKernelIdeal : Cert.DwioKernelIdeal.Facts] : Prop :=
  ∀ (m : (ℓ : Loc Cert.DwioKernelIdeal.nD Cert.DwioKernelIdeal.τ Cert.DwioKernelIdeal.sig) → Buf (Elt Ideal) ℓ) (g : Dev Cert.DwioKernelIdeal.nD → PrngReg), Pre_DwioKernelIdeal m →
    θ_run (Cert.DwioKernelIdeal.defs (F := Ideal)) (onTc (τ := Cert.DwioKernelIdeal.τ) (Cert.DwioKernelIdeal.main (F := Ideal))) ⟨m, fun _ => 0, g⟩ (fun r => (∀ c : Dev Cert.DwioKernelIdeal.nD,
      r.2.mem ((c.tc : Thread Cert.DwioKernelIdeal.nD Cert.DwioKernelIdeal.τ).loc Cert.DwioKernelIdeal.main_arg0) = m ((c.tc : Thread Cert.DwioKernelIdeal.nD Cert.DwioKernelIdeal.τ).loc Cert.DwioKernelIdeal.main_arg0)
      ∧ r.2.mem ((c.tc : Thread Cert.DwioKernelIdeal.nD Cert.DwioKernelIdeal.τ).loc Cert.DwioKernelIdeal.main_arg1) = m ((c.tc : Thread Cert.DwioKernelIdeal.nD Cert.DwioKernelIdeal.τ).loc Cert.DwioKernelIdeal.main_arg1))
      ∧ r.2.sem = fun _ => 0)

def quiescent_DwioReferenceIdeal [hDwioReferenceIdeal : Cert.DwioReferenceIdeal.Facts] : Prop :=
  ∀ (m : (ℓ : Loc Cert.DwioReferenceIdeal.nD Cert.DwioReferenceIdeal.τ Cert.DwioReferenceIdeal.sig) → Buf (Elt Ideal) ℓ) (g : Dev Cert.DwioReferenceIdeal.nD → PrngReg), Pre_DwioReferenceIdeal m →
    θ_run (Cert.DwioReferenceIdeal.defs (F := Ideal)) (onTc (τ := Cert.DwioReferenceIdeal.τ) (Cert.DwioReferenceIdeal.main (F := Ideal))) ⟨m, fun _ => 0, g⟩ (fun r => (∀ c : Dev Cert.DwioReferenceIdeal.nD,
      r.2.mem ((c.tc : Thread Cert.DwioReferenceIdeal.nD Cert.DwioReferenceIdeal.τ).loc Cert.DwioReferenceIdeal.main_arg0) = m ((c.tc : Thread Cert.DwioReferenceIdeal.nD Cert.DwioReferenceIdeal.τ).loc Cert.DwioReferenceIdeal.main_arg0)
      ∧ r.2.mem ((c.tc : Thread Cert.DwioReferenceIdeal.nD Cert.DwioReferenceIdeal.τ).loc Cert.DwioReferenceIdeal.main_arg1) = m ((c.tc : Thread Cert.DwioReferenceIdeal.nD Cert.DwioReferenceIdeal.τ).loc Cert.DwioReferenceIdeal.main_arg1))
      ∧ r.2.sem = fun _ => 0)

def quiescent_DwqKernel [hDwqKernel : Cert.DwqKernel.Facts] : Prop :=
  ∀ (m : (ℓ : Loc Cert.DwqKernel.nD Cert.DwqKernel.τ Cert.DwqKernel.sig) → Buf (Elt Bits) ℓ) (g : Dev Cert.DwqKernel.nD → PrngReg), Pre_DwqKernel m →
    θ_run (Cert.DwqKernel.defs (F := Bits)) (onTc (τ := Cert.DwqKernel.τ) (Cert.DwqKernel.main (F := Bits))) ⟨m, fun _ => 0, g⟩ (fun r => (∀ c : Dev Cert.DwqKernel.nD,
      r.2.mem ((c.tc : Thread Cert.DwqKernel.nD Cert.DwqKernel.τ).loc Cert.DwqKernel.main_arg0) = m ((c.tc : Thread Cert.DwqKernel.nD Cert.DwqKernel.τ).loc Cert.DwqKernel.main_arg0)
      ∧ r.2.mem ((c.tc : Thread Cert.DwqKernel.nD Cert.DwqKernel.τ).loc Cert.DwqKernel.main_arg1) = m ((c.tc : Thread Cert.DwqKernel.nD Cert.DwqKernel.τ).loc Cert.DwqKernel.main_arg1))
      ∧ r.2.sem = fun _ => 0)

def quiescent_DwqKernelIdeal [hDwqKernelIdeal : Cert.DwqKernelIdeal.Facts] : Prop :=
  ∀ (m : (ℓ : Loc Cert.DwqKernelIdeal.nD Cert.DwqKernelIdeal.τ Cert.DwqKernelIdeal.sig) → Buf (Elt Ideal) ℓ) (g : Dev Cert.DwqKernelIdeal.nD → PrngReg), Pre_DwqKernelIdeal m →
    θ_run (Cert.DwqKernelIdeal.defs (F := Ideal)) (onTc (τ := Cert.DwqKernelIdeal.τ) (Cert.DwqKernelIdeal.main (F := Ideal))) ⟨m, fun _ => 0, g⟩ (fun r => (∀ c : Dev Cert.DwqKernelIdeal.nD,
      r.2.mem ((c.tc : Thread Cert.DwqKernelIdeal.nD Cert.DwqKernelIdeal.τ).loc Cert.DwqKernelIdeal.main_arg0) = m ((c.tc : Thread Cert.DwqKernelIdeal.nD Cert.DwqKernelIdeal.τ).loc Cert.DwqKernelIdeal.main_arg0)
      ∧ r.2.mem ((c.tc : Thread Cert.DwqKernelIdeal.nD Cert.DwqKernelIdeal.τ).loc Cert.DwqKernelIdeal.main_arg1) = m ((c.tc : Thread Cert.DwqKernelIdeal.nD Cert.DwqKernelIdeal.τ).loc Cert.DwqKernelIdeal.main_arg1))
      ∧ r.2.sem = fun _ => 0)

def quiescent_DwqReferenceIdeal [hDwqReferenceIdeal : Cert.DwqReferenceIdeal.Facts] : Prop :=
  ∀ (m : (ℓ : Loc Cert.DwqReferenceIdeal.nD Cert.DwqReferenceIdeal.τ Cert.DwqReferenceIdeal.sig) → Buf (Elt Ideal) ℓ) (g : Dev Cert.DwqReferenceIdeal.nD → PrngReg), Pre_DwqReferenceIdeal m →
    θ_run (Cert.DwqReferenceIdeal.defs (F := Ideal)) (onTc (τ := Cert.DwqReferenceIdeal.τ) (Cert.DwqReferenceIdeal.main (F := Ideal))) ⟨m, fun _ => 0, g⟩ (fun r => (∀ c : Dev Cert.DwqReferenceIdeal.nD,
      r.2.mem ((c.tc : Thread Cert.DwqReferenceIdeal.nD Cert.DwqReferenceIdeal.τ).loc Cert.DwqReferenceIdeal.main_arg0) = m ((c.tc : Thread Cert.DwqReferenceIdeal.nD Cert.DwqReferenceIdeal.τ).loc Cert.DwqReferenceIdeal.main_arg0)
      ∧ r.2.mem ((c.tc : Thread Cert.DwqReferenceIdeal.nD Cert.DwqReferenceIdeal.τ).loc Cert.DwqReferenceIdeal.main_arg1) = m ((c.tc : Thread Cert.DwqReferenceIdeal.nD Cert.DwqReferenceIdeal.τ).loc Cert.DwqReferenceIdeal.main_arg1))
      ∧ r.2.sem = fun _ => 0)

def quiescent_DwcKernel [hDwcKernel : Cert.DwcKernel.Facts] : Prop :=
  ∀ (m : (ℓ : Loc Cert.DwcKernel.nD Cert.DwcKernel.τ Cert.DwcKernel.sig) → Buf (Elt Bits) ℓ) (g : Dev Cert.DwcKernel.nD → PrngReg), Pre_DwcKernel m →
    θ_run (Cert.DwcKernel.defs (F := Bits)) (onTc (τ := Cert.DwcKernel.τ) (Cert.DwcKernel.main (F := Bits))) ⟨m, fun _ => 0, g⟩ (fun r => (∀ c : Dev Cert.DwcKernel.nD,
      r.2.mem ((c.tc : Thread Cert.DwcKernel.nD Cert.DwcKernel.τ).loc Cert.DwcKernel.main_arg0) = m ((c.tc : Thread Cert.DwcKernel.nD Cert.DwcKernel.τ).loc Cert.DwcKernel.main_arg0)
      ∧ r.2.mem ((c.tc : Thread Cert.DwcKernel.nD Cert.DwcKernel.τ).loc Cert.DwcKernel.main_arg1) = m ((c.tc : Thread Cert.DwcKernel.nD Cert.DwcKernel.τ).loc Cert.DwcKernel.main_arg1))
      ∧ r.2.sem = fun _ => 0)

def quiescent_DwcKernelIdeal [hDwcKernelIdeal : Cert.DwcKernelIdeal.Facts] : Prop :=
  ∀ (m : (ℓ : Loc Cert.DwcKernelIdeal.nD Cert.DwcKernelIdeal.τ Cert.DwcKernelIdeal.sig) → Buf (Elt Ideal) ℓ) (g : Dev Cert.DwcKernelIdeal.nD → PrngReg), Pre_DwcKernelIdeal m →
    θ_run (Cert.DwcKernelIdeal.defs (F := Ideal)) (onTc (τ := Cert.DwcKernelIdeal.τ) (Cert.DwcKernelIdeal.main (F := Ideal))) ⟨m, fun _ => 0, g⟩ (fun r => (∀ c : Dev Cert.DwcKernelIdeal.nD,
      r.2.mem ((c.tc : Thread Cert.DwcKernelIdeal.nD Cert.DwcKernelIdeal.τ).loc Cert.DwcKernelIdeal.main_arg0) = m ((c.tc : Thread Cert.DwcKernelIdeal.nD Cert.DwcKernelIdeal.τ).loc Cert.DwcKernelIdeal.main_arg0)
      ∧ r.2.mem ((c.tc : Thread Cert.DwcKernelIdeal.nD Cert.DwcKernelIdeal.τ).loc Cert.DwcKernelIdeal.main_arg1) = m ((c.tc : Thread Cert.DwcKernelIdeal.nD Cert.DwcKernelIdeal.τ).loc Cert.DwcKernelIdeal.main_arg1))
      ∧ r.2.sem = fun _ => 0)

def quiescent_DwcReferenceIdeal [hDwcReferenceIdeal : Cert.DwcReferenceIdeal.Facts] : Prop :=
  ∀ (m : (ℓ : Loc Cert.DwcReferenceIdeal.nD Cert.DwcReferenceIdeal.τ Cert.DwcReferenceIdeal.sig) → Buf (Elt Ideal) ℓ) (g : Dev Cert.DwcReferenceIdeal.nD → PrngReg), Pre_DwcReferenceIdeal m →
    θ_run (Cert.DwcReferenceIdeal.defs (F := Ideal)) (onTc (τ := Cert.DwcReferenceIdeal.τ) (Cert.DwcReferenceIdeal.main (F := Ideal))) ⟨m, fun _ => 0, g⟩ (fun r => (∀ c : Dev Cert.DwcReferenceIdeal.nD,
      r.2.mem ((c.tc : Thread Cert.DwcReferenceIdeal.nD Cert.DwcReferenceIdeal.τ).loc Cert.DwcReferenceIdeal.main_arg0) = m ((c.tc : Thread Cert.DwcReferenceIdeal.nD Cert.DwcReferenceIdeal.τ).loc Cert.DwcReferenceIdeal.main_arg0)
      ∧ r.2.mem ((c.tc : Thread Cert.DwcReferenceIdeal.nD Cert.DwcReferenceIdeal.τ).loc Cert.DwcReferenceIdeal.main_arg1) = m ((c.tc : Thread Cert.DwcReferenceIdeal.nD Cert.DwcReferenceIdeal.τ).loc Cert.DwcReferenceIdeal.main_arg1))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1))
      ∧ r.2.sem = fun _ => 0)

def quiescent_DheKernel [hDheKernel : Cert.DheKernel.Facts] : Prop :=
  ∀ (m : (ℓ : Loc Cert.DheKernel.nD Cert.DheKernel.τ Cert.DheKernel.sig) → Buf (Elt Bits) ℓ) (g : Dev Cert.DheKernel.nD → PrngReg), Pre_DheKernel m →
    θ_run (Cert.DheKernel.defs (F := Bits)) (onTc (τ := Cert.DheKernel.τ) (Cert.DheKernel.main (F := Bits))) ⟨m, fun _ => 0, g⟩ (fun r => (∀ c : Dev Cert.DheKernel.nD,
      r.2.mem ((c.tc : Thread Cert.DheKernel.nD Cert.DheKernel.τ).loc Cert.DheKernel.main_arg0) = m ((c.tc : Thread Cert.DheKernel.nD Cert.DheKernel.τ).loc Cert.DheKernel.main_arg0)
      ∧ r.2.mem ((c.tc : Thread Cert.DheKernel.nD Cert.DheKernel.τ).loc Cert.DheKernel.main_arg1) = m ((c.tc : Thread Cert.DheKernel.nD Cert.DheKernel.τ).loc Cert.DheKernel.main_arg1)
      ∧ r.2.mem ((c.tc : Thread Cert.DheKernel.nD Cert.DheKernel.τ).loc Cert.DheKernel.main_arg2) = m ((c.tc : Thread Cert.DheKernel.nD Cert.DheKernel.τ).loc Cert.DheKernel.main_arg2)
      ∧ r.2.mem ((c.tc : Thread Cert.DheKernel.nD Cert.DheKernel.τ).loc Cert.DheKernel.main_arg3) = m ((c.tc : Thread Cert.DheKernel.nD Cert.DheKernel.τ).loc Cert.DheKernel.main_arg3)
      ∧ r.2.mem ((c.tc : Thread Cert.DheKernel.nD Cert.DheKernel.τ).loc Cert.DheKernel.main_arg4) = m ((c.tc : Thread Cert.DheKernel.nD Cert.DheKernel.τ).loc Cert.DheKernel.main_arg4))
      ∧ r.2.sem = fun _ => 0)

def quiescent_DheKernelIdeal [hDheKernelIdeal : Cert.DheKernelIdeal.Facts] : Prop :=
  ∀ (m : (ℓ : Loc Cert.DheKernelIdeal.nD Cert.DheKernelIdeal.τ Cert.DheKernelIdeal.sig) → Buf (Elt Ideal) ℓ) (g : Dev Cert.DheKernelIdeal.nD → PrngReg), Pre_DheKernelIdeal m →
    θ_run (Cert.DheKernelIdeal.defs (F := Ideal)) (onTc (τ := Cert.DheKernelIdeal.τ) (Cert.DheKernelIdeal.main (F := Ideal))) ⟨m, fun _ => 0, g⟩ (fun r => (∀ c : Dev Cert.DheKernelIdeal.nD,
      r.2.mem ((c.tc : Thread Cert.DheKernelIdeal.nD Cert.DheKernelIdeal.τ).loc Cert.DheKernelIdeal.main_arg0) = m ((c.tc : Thread Cert.DheKernelIdeal.nD Cert.DheKernelIdeal.τ).loc Cert.DheKernelIdeal.main_arg0)
      ∧ r.2.mem ((c.tc : Thread Cert.DheKernelIdeal.nD Cert.DheKernelIdeal.τ).loc Cert.DheKernelIdeal.main_arg1) = m ((c.tc : Thread Cert.DheKernelIdeal.nD Cert.DheKernelIdeal.τ).loc Cert.DheKernelIdeal.main_arg1)
      ∧ r.2.mem ((c.tc : Thread Cert.DheKernelIdeal.nD Cert.DheKernelIdeal.τ).loc Cert.DheKernelIdeal.main_arg2) = m ((c.tc : Thread Cert.DheKernelIdeal.nD Cert.DheKernelIdeal.τ).loc Cert.DheKernelIdeal.main_arg2)
      ∧ r.2.mem ((c.tc : Thread Cert.DheKernelIdeal.nD Cert.DheKernelIdeal.τ).loc Cert.DheKernelIdeal.main_arg3) = m ((c.tc : Thread Cert.DheKernelIdeal.nD Cert.DheKernelIdeal.τ).loc Cert.DheKernelIdeal.main_arg3)
      ∧ r.2.mem ((c.tc : Thread Cert.DheKernelIdeal.nD Cert.DheKernelIdeal.τ).loc Cert.DheKernelIdeal.main_arg4) = m ((c.tc : Thread Cert.DheKernelIdeal.nD Cert.DheKernelIdeal.τ).loc Cert.DheKernelIdeal.main_arg4))
      ∧ r.2.sem = fun _ => 0)

def quiescent_DheReferenceIdeal [hDheReferenceIdeal : Cert.DheReferenceIdeal.Facts] : Prop :=
  ∀ (m : (ℓ : Loc Cert.DheReferenceIdeal.nD Cert.DheReferenceIdeal.τ Cert.DheReferenceIdeal.sig) → Buf (Elt Ideal) ℓ) (g : Dev Cert.DheReferenceIdeal.nD → PrngReg), Pre_DheReferenceIdeal m →
    θ_run (Cert.DheReferenceIdeal.defs (F := Ideal)) (onTc (τ := Cert.DheReferenceIdeal.τ) (Cert.DheReferenceIdeal.main (F := Ideal))) ⟨m, fun _ => 0, g⟩ (fun r => (∀ c : Dev Cert.DheReferenceIdeal.nD,
      r.2.mem ((c.tc : Thread Cert.DheReferenceIdeal.nD Cert.DheReferenceIdeal.τ).loc Cert.DheReferenceIdeal.main_arg0) = m ((c.tc : Thread Cert.DheReferenceIdeal.nD Cert.DheReferenceIdeal.τ).loc Cert.DheReferenceIdeal.main_arg0)
      ∧ r.2.mem ((c.tc : Thread Cert.DheReferenceIdeal.nD Cert.DheReferenceIdeal.τ).loc Cert.DheReferenceIdeal.main_arg1) = m ((c.tc : Thread Cert.DheReferenceIdeal.nD Cert.DheReferenceIdeal.τ).loc Cert.DheReferenceIdeal.main_arg1)
      ∧ r.2.mem ((c.tc : Thread Cert.DheReferenceIdeal.nD Cert.DheReferenceIdeal.τ).loc Cert.DheReferenceIdeal.main_arg2) = m ((c.tc : Thread Cert.DheReferenceIdeal.nD Cert.DheReferenceIdeal.τ).loc Cert.DheReferenceIdeal.main_arg2)
      ∧ r.2.mem ((c.tc : Thread Cert.DheReferenceIdeal.nD Cert.DheReferenceIdeal.τ).loc Cert.DheReferenceIdeal.main_arg3) = m ((c.tc : Thread Cert.DheReferenceIdeal.nD Cert.DheReferenceIdeal.τ).loc Cert.DheReferenceIdeal.main_arg3)
      ∧ r.2.mem ((c.tc : Thread Cert.DheReferenceIdeal.nD Cert.DheReferenceIdeal.τ).loc Cert.DheReferenceIdeal.main_arg4) = m ((c.tc : Thread Cert.DheReferenceIdeal.nD Cert.DheReferenceIdeal.τ).loc Cert.DheReferenceIdeal.main_arg4))
      ∧ r.2.sem = fun _ => 0)

def quiescent_DhoKernel [hDhoKernel : Cert.DhoKernel.Facts] : Prop :=
  ∀ (m : (ℓ : Loc Cert.DhoKernel.nD Cert.DhoKernel.τ Cert.DhoKernel.sig) → Buf (Elt Bits) ℓ) (g : Dev Cert.DhoKernel.nD → PrngReg), Pre_DhoKernel m →
    θ_run (Cert.DhoKernel.defs (F := Bits)) (onTc (τ := Cert.DhoKernel.τ) (Cert.DhoKernel.main (F := Bits))) ⟨m, fun _ => 0, g⟩ (fun r => (∀ c : Dev Cert.DhoKernel.nD,
      r.2.mem ((c.tc : Thread Cert.DhoKernel.nD Cert.DhoKernel.τ).loc Cert.DhoKernel.main_arg0) = m ((c.tc : Thread Cert.DhoKernel.nD Cert.DhoKernel.τ).loc Cert.DhoKernel.main_arg0)
      ∧ r.2.mem ((c.tc : Thread Cert.DhoKernel.nD Cert.DhoKernel.τ).loc Cert.DhoKernel.main_arg1) = m ((c.tc : Thread Cert.DhoKernel.nD Cert.DhoKernel.τ).loc Cert.DhoKernel.main_arg1)
      ∧ r.2.mem ((c.tc : Thread Cert.DhoKernel.nD Cert.DhoKernel.τ).loc Cert.DhoKernel.main_arg2) = m ((c.tc : Thread Cert.DhoKernel.nD Cert.DhoKernel.τ).loc Cert.DhoKernel.main_arg2)
      ∧ r.2.mem ((c.tc : Thread Cert.DhoKernel.nD Cert.DhoKernel.τ).loc Cert.DhoKernel.main_arg3) = m ((c.tc : Thread Cert.DhoKernel.nD Cert.DhoKernel.τ).loc Cert.DhoKernel.main_arg3)
      ∧ r.2.mem ((c.tc : Thread Cert.DhoKernel.nD Cert.DhoKernel.τ).loc Cert.DhoKernel.main_arg4) = m ((c.tc : Thread Cert.DhoKernel.nD Cert.DhoKernel.τ).loc Cert.DhoKernel.main_arg4))
      ∧ r.2.sem = fun _ => 0)

def quiescent_DhoKernelIdeal [hDhoKernelIdeal : Cert.DhoKernelIdeal.Facts] : Prop :=
  ∀ (m : (ℓ : Loc Cert.DhoKernelIdeal.nD Cert.DhoKernelIdeal.τ Cert.DhoKernelIdeal.sig) → Buf (Elt Ideal) ℓ) (g : Dev Cert.DhoKernelIdeal.nD → PrngReg), Pre_DhoKernelIdeal m →
    θ_run (Cert.DhoKernelIdeal.defs (F := Ideal)) (onTc (τ := Cert.DhoKernelIdeal.τ) (Cert.DhoKernelIdeal.main (F := Ideal))) ⟨m, fun _ => 0, g⟩ (fun r => (∀ c : Dev Cert.DhoKernelIdeal.nD,
      r.2.mem ((c.tc : Thread Cert.DhoKernelIdeal.nD Cert.DhoKernelIdeal.τ).loc Cert.DhoKernelIdeal.main_arg0) = m ((c.tc : Thread Cert.DhoKernelIdeal.nD Cert.DhoKernelIdeal.τ).loc Cert.DhoKernelIdeal.main_arg0)
      ∧ r.2.mem ((c.tc : Thread Cert.DhoKernelIdeal.nD Cert.DhoKernelIdeal.τ).loc Cert.DhoKernelIdeal.main_arg1) = m ((c.tc : Thread Cert.DhoKernelIdeal.nD Cert.DhoKernelIdeal.τ).loc Cert.DhoKernelIdeal.main_arg1)
      ∧ r.2.mem ((c.tc : Thread Cert.DhoKernelIdeal.nD Cert.DhoKernelIdeal.τ).loc Cert.DhoKernelIdeal.main_arg2) = m ((c.tc : Thread Cert.DhoKernelIdeal.nD Cert.DhoKernelIdeal.τ).loc Cert.DhoKernelIdeal.main_arg2)
      ∧ r.2.mem ((c.tc : Thread Cert.DhoKernelIdeal.nD Cert.DhoKernelIdeal.τ).loc Cert.DhoKernelIdeal.main_arg3) = m ((c.tc : Thread Cert.DhoKernelIdeal.nD Cert.DhoKernelIdeal.τ).loc Cert.DhoKernelIdeal.main_arg3)
      ∧ r.2.mem ((c.tc : Thread Cert.DhoKernelIdeal.nD Cert.DhoKernelIdeal.τ).loc Cert.DhoKernelIdeal.main_arg4) = m ((c.tc : Thread Cert.DhoKernelIdeal.nD Cert.DhoKernelIdeal.τ).loc Cert.DhoKernelIdeal.main_arg4))
      ∧ r.2.sem = fun _ => 0)

def quiescent_DhoReferenceIdeal [hDhoReferenceIdeal : Cert.DhoReferenceIdeal.Facts] : Prop :=
  ∀ (m : (ℓ : Loc Cert.DhoReferenceIdeal.nD Cert.DhoReferenceIdeal.τ Cert.DhoReferenceIdeal.sig) → Buf (Elt Ideal) ℓ) (g : Dev Cert.DhoReferenceIdeal.nD → PrngReg), Pre_DhoReferenceIdeal m →
    θ_run (Cert.DhoReferenceIdeal.defs (F := Ideal)) (onTc (τ := Cert.DhoReferenceIdeal.τ) (Cert.DhoReferenceIdeal.main (F := Ideal))) ⟨m, fun _ => 0, g⟩ (fun r => (∀ c : Dev Cert.DhoReferenceIdeal.nD,
      r.2.mem ((c.tc : Thread Cert.DhoReferenceIdeal.nD Cert.DhoReferenceIdeal.τ).loc Cert.DhoReferenceIdeal.main_arg0) = m ((c.tc : Thread Cert.DhoReferenceIdeal.nD Cert.DhoReferenceIdeal.τ).loc Cert.DhoReferenceIdeal.main_arg0)
      ∧ r.2.mem ((c.tc : Thread Cert.DhoReferenceIdeal.nD Cert.DhoReferenceIdeal.τ).loc Cert.DhoReferenceIdeal.main_arg1) = m ((c.tc : Thread Cert.DhoReferenceIdeal.nD Cert.DhoReferenceIdeal.τ).loc Cert.DhoReferenceIdeal.main_arg1)
      ∧ r.2.mem ((c.tc : Thread Cert.DhoReferenceIdeal.nD Cert.DhoReferenceIdeal.τ).loc Cert.DhoReferenceIdeal.main_arg2) = m ((c.tc : Thread Cert.DhoReferenceIdeal.nD Cert.DhoReferenceIdeal.τ).loc Cert.DhoReferenceIdeal.main_arg2)
      ∧ r.2.mem ((c.tc : Thread Cert.DhoReferenceIdeal.nD Cert.DhoReferenceIdeal.τ).loc Cert.DhoReferenceIdeal.main_arg3) = m ((c.tc : Thread Cert.DhoReferenceIdeal.nD Cert.DhoReferenceIdeal.τ).loc Cert.DhoReferenceIdeal.main_arg3)
      ∧ r.2.mem ((c.tc : Thread Cert.DhoReferenceIdeal.nD Cert.DhoReferenceIdeal.τ).loc Cert.DhoReferenceIdeal.main_arg4) = m ((c.tc : Thread Cert.DhoReferenceIdeal.nD Cert.DhoReferenceIdeal.τ).loc Cert.DhoReferenceIdeal.main_arg4))
      ∧ r.2.sem = fun _ => 0)

def quiescent_DhqKernel [hDhqKernel : Cert.DhqKernel.Facts] : Prop :=
  ∀ (m : (ℓ : Loc Cert.DhqKernel.nD Cert.DhqKernel.τ Cert.DhqKernel.sig) → Buf (Elt Bits) ℓ) (g : Dev Cert.DhqKernel.nD → PrngReg), Pre_DhqKernel m →
    θ_run (Cert.DhqKernel.defs (F := Bits)) (onTc (τ := Cert.DhqKernel.τ) (Cert.DhqKernel.main (F := Bits))) ⟨m, fun _ => 0, g⟩ (fun r => (∀ c : Dev Cert.DhqKernel.nD,
      r.2.mem ((c.tc : Thread Cert.DhqKernel.nD Cert.DhqKernel.τ).loc Cert.DhqKernel.main_arg0) = m ((c.tc : Thread Cert.DhqKernel.nD Cert.DhqKernel.τ).loc Cert.DhqKernel.main_arg0)
      ∧ r.2.mem ((c.tc : Thread Cert.DhqKernel.nD Cert.DhqKernel.τ).loc Cert.DhqKernel.main_arg1) = m ((c.tc : Thread Cert.DhqKernel.nD Cert.DhqKernel.τ).loc Cert.DhqKernel.main_arg1)
      ∧ r.2.mem ((c.tc : Thread Cert.DhqKernel.nD Cert.DhqKernel.τ).loc Cert.DhqKernel.main_arg2) = m ((c.tc : Thread Cert.DhqKernel.nD Cert.DhqKernel.τ).loc Cert.DhqKernel.main_arg2)
      ∧ r.2.mem ((c.tc : Thread Cert.DhqKernel.nD Cert.DhqKernel.τ).loc Cert.DhqKernel.main_arg3) = m ((c.tc : Thread Cert.DhqKernel.nD Cert.DhqKernel.τ).loc Cert.DhqKernel.main_arg3)
      ∧ r.2.mem ((c.tc : Thread Cert.DhqKernel.nD Cert.DhqKernel.τ).loc Cert.DhqKernel.main_arg4) = m ((c.tc : Thread Cert.DhqKernel.nD Cert.DhqKernel.τ).loc Cert.DhqKernel.main_arg4))
      ∧ r.2.sem = fun _ => 0)

def quiescent_DhqKernelIdeal [hDhqKernelIdeal : Cert.DhqKernelIdeal.Facts] : Prop :=
  ∀ (m : (ℓ : Loc Cert.DhqKernelIdeal.nD Cert.DhqKernelIdeal.τ Cert.DhqKernelIdeal.sig) → Buf (Elt Ideal) ℓ) (g : Dev Cert.DhqKernelIdeal.nD → PrngReg), Pre_DhqKernelIdeal m →
    θ_run (Cert.DhqKernelIdeal.defs (F := Ideal)) (onTc (τ := Cert.DhqKernelIdeal.τ) (Cert.DhqKernelIdeal.main (F := Ideal))) ⟨m, fun _ => 0, g⟩ (fun r => (∀ c : Dev Cert.DhqKernelIdeal.nD,
      r.2.mem ((c.tc : Thread Cert.DhqKernelIdeal.nD Cert.DhqKernelIdeal.τ).loc Cert.DhqKernelIdeal.main_arg0) = m ((c.tc : Thread Cert.DhqKernelIdeal.nD Cert.DhqKernelIdeal.τ).loc Cert.DhqKernelIdeal.main_arg0)
      ∧ r.2.mem ((c.tc : Thread Cert.DhqKernelIdeal.nD Cert.DhqKernelIdeal.τ).loc Cert.DhqKernelIdeal.main_arg1) = m ((c.tc : Thread Cert.DhqKernelIdeal.nD Cert.DhqKernelIdeal.τ).loc Cert.DhqKernelIdeal.main_arg1)
      ∧ r.2.mem ((c.tc : Thread Cert.DhqKernelIdeal.nD Cert.DhqKernelIdeal.τ).loc Cert.DhqKernelIdeal.main_arg2) = m ((c.tc : Thread Cert.DhqKernelIdeal.nD Cert.DhqKernelIdeal.τ).loc Cert.DhqKernelIdeal.main_arg2)
      ∧ r.2.mem ((c.tc : Thread Cert.DhqKernelIdeal.nD Cert.DhqKernelIdeal.τ).loc Cert.DhqKernelIdeal.main_arg3) = m ((c.tc : Thread Cert.DhqKernelIdeal.nD Cert.DhqKernelIdeal.τ).loc Cert.DhqKernelIdeal.main_arg3)
      ∧ r.2.mem ((c.tc : Thread Cert.DhqKernelIdeal.nD Cert.DhqKernelIdeal.τ).loc Cert.DhqKernelIdeal.main_arg4) = m ((c.tc : Thread Cert.DhqKernelIdeal.nD Cert.DhqKernelIdeal.τ).loc Cert.DhqKernelIdeal.main_arg4))
      ∧ r.2.sem = fun _ => 0)

def quiescent_DhqReferenceIdeal [hDhqReferenceIdeal : Cert.DhqReferenceIdeal.Facts] : Prop :=
  ∀ (m : (ℓ : Loc Cert.DhqReferenceIdeal.nD Cert.DhqReferenceIdeal.τ Cert.DhqReferenceIdeal.sig) → Buf (Elt Ideal) ℓ) (g : Dev Cert.DhqReferenceIdeal.nD → PrngReg), Pre_DhqReferenceIdeal m →
    θ_run (Cert.DhqReferenceIdeal.defs (F := Ideal)) (onTc (τ := Cert.DhqReferenceIdeal.τ) (Cert.DhqReferenceIdeal.main (F := Ideal))) ⟨m, fun _ => 0, g⟩ (fun r => (∀ c : Dev Cert.DhqReferenceIdeal.nD,
      r.2.mem ((c.tc : Thread Cert.DhqReferenceIdeal.nD Cert.DhqReferenceIdeal.τ).loc Cert.DhqReferenceIdeal.main_arg0) = m ((c.tc : Thread Cert.DhqReferenceIdeal.nD Cert.DhqReferenceIdeal.τ).loc Cert.DhqReferenceIdeal.main_arg0)
      ∧ r.2.mem ((c.tc : Thread Cert.DhqReferenceIdeal.nD Cert.DhqReferenceIdeal.τ).loc Cert.DhqReferenceIdeal.main_arg1) = m ((c.tc : Thread Cert.DhqReferenceIdeal.nD Cert.DhqReferenceIdeal.τ).loc Cert.DhqReferenceIdeal.main_arg1)
      ∧ r.2.mem ((c.tc : Thread Cert.DhqReferenceIdeal.nD Cert.DhqReferenceIdeal.τ).loc Cert.DhqReferenceIdeal.main_arg2) = m ((c.tc : Thread Cert.DhqReferenceIdeal.nD Cert.DhqReferenceIdeal.τ).loc Cert.DhqReferenceIdeal.main_arg2)
      ∧ r.2.mem ((c.tc : Thread Cert.DhqReferenceIdeal.nD Cert.DhqReferenceIdeal.τ).loc Cert.DhqReferenceIdeal.main_arg3) = m ((c.tc : Thread Cert.DhqReferenceIdeal.nD Cert.DhqReferenceIdeal.τ).loc Cert.DhqReferenceIdeal.main_arg3)
      ∧ r.2.mem ((c.tc : Thread Cert.DhqReferenceIdeal.nD Cert.DhqReferenceIdeal.τ).loc Cert.DhqReferenceIdeal.main_arg4) = m ((c.tc : Thread Cert.DhqReferenceIdeal.nD Cert.DhqReferenceIdeal.τ).loc Cert.DhqReferenceIdeal.main_arg4))
      ∧ r.2.sem = fun _ => 0)

def quiescent_DyKernel [hDyKernel : Cert.DyKernel.Facts] : Prop :=
  ∀ (m : (ℓ : Loc Cert.DyKernel.nD Cert.DyKernel.τ Cert.DyKernel.sig) → Buf (Elt Bits) ℓ) (g : Dev Cert.DyKernel.nD → PrngReg), Pre_DyKernel m →
    θ_run (Cert.DyKernel.defs (F := Bits)) (onTc (τ := Cert.DyKernel.τ) (Cert.DyKernel.main (F := Bits))) ⟨m, fun _ => 0, g⟩ (fun r => (∀ c : Dev Cert.DyKernel.nD,
      r.2.mem ((c.tc : Thread Cert.DyKernel.nD Cert.DyKernel.τ).loc Cert.DyKernel.main_arg0) = m ((c.tc : Thread Cert.DyKernel.nD Cert.DyKernel.τ).loc Cert.DyKernel.main_arg0)
      ∧ r.2.mem ((c.tc : Thread Cert.DyKernel.nD Cert.DyKernel.τ).loc Cert.DyKernel.main_arg1) = m ((c.tc : Thread Cert.DyKernel.nD Cert.DyKernel.τ).loc Cert.DyKernel.main_arg1))
      ∧ r.2.sem = fun _ => 0)

def quiescent_DyKernelIdeal [hDyKernelIdeal : Cert.DyKernelIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg), Pre_DyKernelIdeal m →
    θ_run (Cert.DyKernelIdeal.defs (F := Ideal)) (onTc (τ := Cert.DyKernelIdeal.τ) (Cert.DyKernelIdeal.main (F := Ideal))) ⟨m, fun _ => 0, g⟩ (fun r => (∀ c : Dev Cert.DyKernelIdeal.nD,
      r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
      ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0)

def quiescent_DoKernel [hDoKernel : Cert.DoKernel.Facts] : Prop :=
  ∀ (m : (ℓ : Loc Cert.DoKernel.nD Cert.DoKernel.τ Cert.DoKernel.sig) → Buf (Elt Bits) ℓ) (g : Dev Cert.DoKernel.nD → PrngReg), Pre_DoKernel m →
    θ_run (Cert.DoKernel.defs (F := Bits)) (onTc (τ := Cert.DoKernel.τ) (Cert.DoKernel.main (F := Bits))) ⟨m, fun _ => 0, g⟩ (fun r => (∀ c : Dev Cert.DoKernel.nD,
      r.2.mem ((c.tc : Thread Cert.DoKernel.nD Cert.DoKernel.τ).loc Cert.DoKernel.main_arg0) = m ((c.tc : Thread Cert.DoKernel.nD Cert.DoKernel.τ).loc Cert.DoKernel.main_arg0)
      ∧ r.2.mem ((c.tc : Thread Cert.DoKernel.nD Cert.DoKernel.τ).loc Cert.DoKernel.main_arg1) = m ((c.tc : Thread Cert.DoKernel.nD Cert.DoKernel.τ).loc Cert.DoKernel.main_arg1))
      ∧ r.2.sem = fun _ => 0)

def quiescent_DoKernelIdeal [hDoKernelIdeal : Cert.DoKernelIdeal.Facts] : Prop :=
  ∀ (m : (ℓ : Loc Cert.DoKernelIdeal.nD Cert.DoKernelIdeal.τ Cert.DoKernelIdeal.sig) → Buf (Elt Ideal) ℓ) (g : Dev Cert.DoKernelIdeal.nD → PrngReg), Pre_DoKernelIdeal m →
    θ_run (Cert.DoKernelIdeal.defs (F := Ideal)) (onTc (τ := Cert.DoKernelIdeal.τ) (Cert.DoKernelIdeal.main (F := Ideal))) ⟨m, fun _ => 0, g⟩ (fun r => (∀ c : Dev Cert.DoKernelIdeal.nD,
      r.2.mem ((c.tc : Thread Cert.DoKernelIdeal.nD Cert.DoKernelIdeal.τ).loc Cert.DoKernelIdeal.main_arg0) = m ((c.tc : Thread Cert.DoKernelIdeal.nD Cert.DoKernelIdeal.τ).loc Cert.DoKernelIdeal.main_arg0)
      ∧ r.2.mem ((c.tc : Thread Cert.DoKernelIdeal.nD Cert.DoKernelIdeal.τ).loc Cert.DoKernelIdeal.main_arg1) = m ((c.tc : Thread Cert.DoKernelIdeal.nD Cert.DoKernelIdeal.τ).loc Cert.DoKernelIdeal.main_arg1))
      ∧ r.2.sem = fun _ => 0)

def quiescent_DoReferenceIdeal [hDoReferenceIdeal : Cert.DoReferenceIdeal.Facts] : Prop :=
  ∀ (m : (ℓ : Loc Cert.DoReferenceIdeal.nD Cert.DoReferenceIdeal.τ Cert.DoReferenceIdeal.sig) → Buf (Elt Ideal) ℓ) (g : Dev Cert.DoReferenceIdeal.nD → PrngReg), Pre_DoReferenceIdeal m →
    θ_run (Cert.DoReferenceIdeal.defs (F := Ideal)) (onTc (τ := Cert.DoReferenceIdeal.τ) (Cert.DoReferenceIdeal.main (F := Ideal))) ⟨m, fun _ => 0, g⟩ (fun r => (∀ c : Dev Cert.DoReferenceIdeal.nD,
      r.2.mem ((c.tc : Thread Cert.DoReferenceIdeal.nD Cert.DoReferenceIdeal.τ).loc Cert.DoReferenceIdeal.main_arg0) = m ((c.tc : Thread Cert.DoReferenceIdeal.nD Cert.DoReferenceIdeal.τ).loc Cert.DoReferenceIdeal.main_arg0)
      ∧ r.2.mem ((c.tc : Thread Cert.DoReferenceIdeal.nD Cert.DoReferenceIdeal.τ).loc Cert.DoReferenceIdeal.main_arg1) = m ((c.tc : Thread Cert.DoReferenceIdeal.nD Cert.DoReferenceIdeal.τ).loc Cert.DoReferenceIdeal.main_arg1))
      ∧ r.2.sem = fun _ => 0)

def quiescent_XfKernel [hXfKernel : Cert.XfKernel.Facts] : Prop :=
  ∀ (m : (ℓ : Loc Cert.XfKernel.nD Cert.XfKernel.τ Cert.XfKernel.sig) → Buf (Elt Bits) ℓ) (g : Dev Cert.XfKernel.nD → PrngReg), Pre_XfKernel m →
    θ_run (Cert.XfKernel.defs (F := Bits)) (onTc (τ := Cert.XfKernel.τ) (Cert.XfKernel.main (F := Bits))) ⟨m, fun _ => 0, g⟩ (fun r => (∀ c : Dev Cert.XfKernel.nD,
      r.2.mem ((c.tc : Thread Cert.XfKernel.nD Cert.XfKernel.τ).loc Cert.XfKernel.main_arg0) = m ((c.tc : Thread Cert.XfKernel.nD Cert.XfKernel.τ).loc Cert.XfKernel.main_arg0)
      ∧ r.2.mem ((c.tc : Thread Cert.XfKernel.nD Cert.XfKernel.τ).loc Cert.XfKernel.main_arg1) = m ((c.tc : Thread Cert.XfKernel.nD Cert.XfKernel.τ).loc Cert.XfKernel.main_arg1)
      ∧ r.2.mem ((c.tc : Thread Cert.XfKernel.nD Cert.XfKernel.τ).loc Cert.XfKernel.main_arg2) = m ((c.tc : Thread Cert.XfKernel.nD Cert.XfKernel.τ).loc Cert.XfKernel.main_arg2)
      ∧ r.2.mem ((c.tc : Thread Cert.XfKernel.nD Cert.XfKernel.τ).loc Cert.XfKernel.main_arg3) = m ((c.tc : Thread Cert.XfKernel.nD Cert.XfKernel.τ).loc Cert.XfKernel.main_arg3))
      ∧ r.2.sem = fun _ => 0)

def quiescent_XfKernelIdeal [hXfKernelIdeal : Cert.XfKernelIdeal.Facts] : Prop :=
  ∀ (m : (ℓ : Loc Cert.XfKernelIdeal.nD Cert.XfKernelIdeal.τ Cert.XfKernelIdeal.sig) → Buf (Elt Ideal) ℓ) (g : Dev Cert.XfKernelIdeal.nD → PrngReg), Pre_XfKernelIdeal m →
    θ_run (Cert.XfKernelIdeal.defs (F := Ideal)) (onTc (τ := Cert.XfKernelIdeal.τ) (Cert.XfKernelIdeal.main (F := Ideal))) ⟨m, fun _ => 0, g⟩ (fun r => (∀ c : Dev Cert.XfKernelIdeal.nD,
      r.2.mem ((c.tc : Thread Cert.XfKernelIdeal.nD Cert.XfKernelIdeal.τ).loc Cert.XfKernelIdeal.main_arg0) = m ((c.tc : Thread Cert.XfKernelIdeal.nD Cert.XfKernelIdeal.τ).loc Cert.XfKernelIdeal.main_arg0)
      ∧ r.2.mem ((c.tc : Thread Cert.XfKernelIdeal.nD Cert.XfKernelIdeal.τ).loc Cert.XfKernelIdeal.main_arg1) = m ((c.tc : Thread Cert.XfKernelIdeal.nD Cert.XfKernelIdeal.τ).loc Cert.XfKernelIdeal.main_arg1)
      ∧ r.2.mem ((c.tc : Thread Cert.XfKernelIdeal.nD Cert.XfKernelIdeal.τ).loc Cert.XfKernelIdeal.main_arg2) = m ((c.tc : Thread Cert.XfKernelIdeal.nD Cert.XfKernelIdeal.τ).loc Cert.XfKernelIdeal.main_arg2)
      ∧ r.2.mem ((c.tc : Thread Cert.XfKernelIdeal.nD Cert.XfKernelIdeal.τ).loc Cert.XfKernelIdeal.main_arg3) = m ((c.tc : Thread Cert.XfKernelIdeal.nD Cert.XfKernelIdeal.τ).loc Cert.XfKernelIdeal.main_arg3))
      ∧ r.2.sem = fun _ => 0)

def quiescent_XfReferenceIdeal [hXfReferenceIdeal : Cert.XfReferenceIdeal.Facts] : Prop :=
  ∀ (m : (ℓ : Loc Cert.XfReferenceIdeal.nD Cert.XfReferenceIdeal.τ Cert.XfReferenceIdeal.sig) → Buf (Elt Ideal) ℓ) (g : Dev Cert.XfReferenceIdeal.nD → PrngReg), Pre_XfReferenceIdeal m →
    θ_run (Cert.XfReferenceIdeal.defs (F := Ideal)) (onTc (τ := Cert.XfReferenceIdeal.τ) (Cert.XfReferenceIdeal.main (F := Ideal))) ⟨m, fun _ => 0, g⟩ (fun r => (∀ c : Dev Cert.XfReferenceIdeal.nD,
      r.2.mem ((c.tc : Thread Cert.XfReferenceIdeal.nD Cert.XfReferenceIdeal.τ).loc Cert.XfReferenceIdeal.main_arg0) = m ((c.tc : Thread Cert.XfReferenceIdeal.nD Cert.XfReferenceIdeal.τ).loc Cert.XfReferenceIdeal.main_arg0)
      ∧ r.2.mem ((c.tc : Thread Cert.XfReferenceIdeal.nD Cert.XfReferenceIdeal.τ).loc Cert.XfReferenceIdeal.main_arg1) = m ((c.tc : Thread Cert.XfReferenceIdeal.nD Cert.XfReferenceIdeal.τ).loc Cert.XfReferenceIdeal.main_arg1)
      ∧ r.2.mem ((c.tc : Thread Cert.XfReferenceIdeal.nD Cert.XfReferenceIdeal.τ).loc Cert.XfReferenceIdeal.main_arg2) = m ((c.tc : Thread Cert.XfReferenceIdeal.nD Cert.XfReferenceIdeal.τ).loc Cert.XfReferenceIdeal.main_arg2)
      ∧ r.2.mem ((c.tc : Thread Cert.XfReferenceIdeal.nD Cert.XfReferenceIdeal.τ).loc Cert.XfReferenceIdeal.main_arg3) = m ((c.tc : Thread Cert.XfReferenceIdeal.nD Cert.XfReferenceIdeal.τ).loc Cert.XfReferenceIdeal.main_arg3))
      ∧ r.2.sem = fun _ => 0)

def quiescent_NfKernel [hNfKernel : Cert.NfKernel.Facts] : Prop :=
  ∀ (m : (ℓ : Loc Cert.NfKernel.nD Cert.NfKernel.τ Cert.NfKernel.sig) → Buf (Elt Bits) ℓ) (g : Dev Cert.NfKernel.nD → PrngReg), Pre_NfKernel m →
    θ_run (Cert.NfKernel.defs (F := Bits)) (onTc (τ := Cert.NfKernel.τ) (Cert.NfKernel.main (F := Bits))) ⟨m, fun _ => 0, g⟩ (fun r => (∀ c : Dev Cert.NfKernel.nD,
      r.2.mem ((c.tc : Thread Cert.NfKernel.nD Cert.NfKernel.τ).loc Cert.NfKernel.main_arg0) = m ((c.tc : Thread Cert.NfKernel.nD Cert.NfKernel.τ).loc Cert.NfKernel.main_arg0)
      ∧ r.2.mem ((c.tc : Thread Cert.NfKernel.nD Cert.NfKernel.τ).loc Cert.NfKernel.main_arg1) = m ((c.tc : Thread Cert.NfKernel.nD Cert.NfKernel.τ).loc Cert.NfKernel.main_arg1))
      ∧ r.2.sem = fun _ => 0)

def quiescent_NfKernelIdeal [hNfKernelIdeal : Cert.NfKernelIdeal.Facts] : Prop :=
  ∀ (m : (ℓ : Loc Cert.NfKernelIdeal.nD Cert.NfKernelIdeal.τ Cert.NfKernelIdeal.sig) → Buf (Elt Ideal) ℓ) (g : Dev Cert.NfKernelIdeal.nD → PrngReg), Pre_NfKernelIdeal m →
    θ_run (Cert.NfKernelIdeal.defs (F := Ideal)) (onTc (τ := Cert.NfKernelIdeal.τ) (Cert.NfKernelIdeal.main (F := Ideal))) ⟨m, fun _ => 0, g⟩ (fun r => (∀ c : Dev Cert.NfKernelIdeal.nD,
      r.2.mem ((c.tc : Thread Cert.NfKernelIdeal.nD Cert.NfKernelIdeal.τ).loc Cert.NfKernelIdeal.main_arg0) = m ((c.tc : Thread Cert.NfKernelIdeal.nD Cert.NfKernelIdeal.τ).loc Cert.NfKernelIdeal.main_arg0)
      ∧ r.2.mem ((c.tc : Thread Cert.NfKernelIdeal.nD Cert.NfKernelIdeal.τ).loc Cert.NfKernelIdeal.main_arg1) = m ((c.tc : Thread Cert.NfKernelIdeal.nD Cert.NfKernelIdeal.τ).loc Cert.NfKernelIdeal.main_arg1))
      ∧ r.2.sem = fun _ => 0)

def quiescent_NfReferenceIdeal [hNfReferenceIdeal : Cert.NfReferenceIdeal.Facts] : Prop :=
  ∀ (m : (ℓ : Loc Cert.NfReferenceIdeal.nD Cert.NfReferenceIdeal.τ Cert.NfReferenceIdeal.sig) → Buf (Elt Ideal) ℓ) (g : Dev Cert.NfReferenceIdeal.nD → PrngReg), Pre_NfReferenceIdeal m →
    θ_run (Cert.NfReferenceIdeal.defs (F := Ideal)) (onTc (τ := Cert.NfReferenceIdeal.τ) (Cert.NfReferenceIdeal.main (F := Ideal))) ⟨m, fun _ => 0, g⟩ (fun r => (∀ c : Dev Cert.NfReferenceIdeal.nD,
      r.2.mem ((c.tc : Thread Cert.NfReferenceIdeal.nD Cert.NfReferenceIdeal.τ).loc Cert.NfReferenceIdeal.main_arg0) = m ((c.tc : Thread Cert.NfReferenceIdeal.nD Cert.NfReferenceIdeal.τ).loc Cert.NfReferenceIdeal.main_arg0)
      ∧ r.2.mem ((c.tc : Thread Cert.NfReferenceIdeal.nD Cert.NfReferenceIdeal.τ).loc Cert.NfReferenceIdeal.main_arg1) = m ((c.tc : Thread Cert.NfReferenceIdeal.nD Cert.NfReferenceIdeal.τ).loc Cert.NfReferenceIdeal.main_arg1))
      ∧ r.2.sem = fun _ => 0)

def quiescent_OfKernel [hOfKernel : Cert.OfKernel.Facts] : Prop :=
  ∀ (m : (ℓ : Loc Cert.OfKernel.nD Cert.OfKernel.τ Cert.OfKernel.sig) → Buf (Elt Bits) ℓ) (g : Dev Cert.OfKernel.nD → PrngReg), Pre_OfKernel m →
    θ_run (Cert.OfKernel.defs (F := Bits)) (onTc (τ := Cert.OfKernel.τ) (Cert.OfKernel.main (F := Bits))) ⟨m, fun _ => 0, g⟩ (fun r => (∀ c : Dev Cert.OfKernel.nD,
      r.2.mem ((c.tc : Thread Cert.OfKernel.nD Cert.OfKernel.τ).loc Cert.OfKernel.main_arg0) = m ((c.tc : Thread Cert.OfKernel.nD Cert.OfKernel.τ).loc Cert.OfKernel.main_arg0)
      ∧ r.2.mem ((c.tc : Thread Cert.OfKernel.nD Cert.OfKernel.τ).loc Cert.OfKernel.main_arg1) = m ((c.tc : Thread Cert.OfKernel.nD Cert.OfKernel.τ).loc Cert.OfKernel.main_arg1)
      ∧ r.2.mem ((c.tc : Thread Cert.OfKernel.nD Cert.OfKernel.τ).loc Cert.OfKernel.main_arg2) = m ((c.tc : Thread Cert.OfKernel.nD Cert.OfKernel.τ).loc Cert.OfKernel.main_arg2)
      ∧ r.2.mem ((c.tc : Thread Cert.OfKernel.nD Cert.OfKernel.τ).loc Cert.OfKernel.main_arg3) = m ((c.tc : Thread Cert.OfKernel.nD Cert.OfKernel.τ).loc Cert.OfKernel.main_arg3))
      ∧ r.2.sem = fun _ => 0)

def quiescent_OfKernelIdeal [hOfKernelIdeal : Cert.OfKernelIdeal.Facts] : Prop :=
  ∀ (m : (ℓ : Loc Cert.OfKernelIdeal.nD Cert.OfKernelIdeal.τ Cert.OfKernelIdeal.sig) → Buf (Elt Ideal) ℓ) (g : Dev Cert.OfKernelIdeal.nD → PrngReg), Pre_OfKernelIdeal m →
    θ_run (Cert.OfKernelIdeal.defs (F := Ideal)) (onTc (τ := Cert.OfKernelIdeal.τ) (Cert.OfKernelIdeal.main (F := Ideal))) ⟨m, fun _ => 0, g⟩ (fun r => (∀ c : Dev Cert.OfKernelIdeal.nD,
      r.2.mem ((c.tc : Thread Cert.OfKernelIdeal.nD Cert.OfKernelIdeal.τ).loc Cert.OfKernelIdeal.main_arg0) = m ((c.tc : Thread Cert.OfKernelIdeal.nD Cert.OfKernelIdeal.τ).loc Cert.OfKernelIdeal.main_arg0)
      ∧ r.2.mem ((c.tc : Thread Cert.OfKernelIdeal.nD Cert.OfKernelIdeal.τ).loc Cert.OfKernelIdeal.main_arg1) = m ((c.tc : Thread Cert.OfKernelIdeal.nD Cert.OfKernelIdeal.τ).loc Cert.OfKernelIdeal.main_arg1)
      ∧ r.2.mem ((c.tc : Thread Cert.OfKernelIdeal.nD Cert.OfKernelIdeal.τ).loc Cert.OfKernelIdeal.main_arg2) = m ((c.tc : Thread Cert.OfKernelIdeal.nD Cert.OfKernelIdeal.τ).loc Cert.OfKernelIdeal.main_arg2)
      ∧ r.2.mem ((c.tc : Thread Cert.OfKernelIdeal.nD Cert.OfKernelIdeal.τ).loc Cert.OfKernelIdeal.main_arg3) = m ((c.tc : Thread Cert.OfKernelIdeal.nD Cert.OfKernelIdeal.τ).loc Cert.OfKernelIdeal.main_arg3))
      ∧ r.2.sem = fun _ => 0)

def quiescent_OfReferenceIdeal [hOfReferenceIdeal : Cert.OfReferenceIdeal.Facts] : Prop :=
  ∀ (m : (ℓ : Loc Cert.OfReferenceIdeal.nD Cert.OfReferenceIdeal.τ Cert.OfReferenceIdeal.sig) → Buf (Elt Ideal) ℓ) (g : Dev Cert.OfReferenceIdeal.nD → PrngReg), Pre_OfReferenceIdeal m →
    θ_run (Cert.OfReferenceIdeal.defs (F := Ideal)) (onTc (τ := Cert.OfReferenceIdeal.τ) (Cert.OfReferenceIdeal.main (F := Ideal))) ⟨m, fun _ => 0, g⟩ (fun r => (∀ c : Dev Cert.OfReferenceIdeal.nD,
      r.2.mem ((c.tc : Thread Cert.OfReferenceIdeal.nD Cert.OfReferenceIdeal.τ).loc Cert.OfReferenceIdeal.main_arg0) = m ((c.tc : Thread Cert.OfReferenceIdeal.nD Cert.OfReferenceIdeal.τ).loc Cert.OfReferenceIdeal.main_arg0)
      ∧ r.2.mem ((c.tc : Thread Cert.OfReferenceIdeal.nD Cert.OfReferenceIdeal.τ).loc Cert.OfReferenceIdeal.main_arg1) = m ((c.tc : Thread Cert.OfReferenceIdeal.nD Cert.OfReferenceIdeal.τ).loc Cert.OfReferenceIdeal.main_arg1)
      ∧ r.2.mem ((c.tc : Thread Cert.OfReferenceIdeal.nD Cert.OfReferenceIdeal.τ).loc Cert.OfReferenceIdeal.main_arg2) = m ((c.tc : Thread Cert.OfReferenceIdeal.nD Cert.OfReferenceIdeal.τ).loc Cert.OfReferenceIdeal.main_arg2)
      ∧ r.2.mem ((c.tc : Thread Cert.OfReferenceIdeal.nD Cert.OfReferenceIdeal.τ).loc Cert.OfReferenceIdeal.main_arg3) = m ((c.tc : Thread Cert.OfReferenceIdeal.nD Cert.OfReferenceIdeal.τ).loc Cert.OfReferenceIdeal.main_arg3))
      ∧ r.2.sem = fun _ => 0)

def quiescent_ObKernel [hObKernel : Cert.ObKernel.Facts] : Prop :=
  ∀ (m : (ℓ : Loc Cert.ObKernel.nD Cert.ObKernel.τ Cert.ObKernel.sig) → Buf (Elt Bits) ℓ) (g : Dev Cert.ObKernel.nD → PrngReg), Pre_ObKernel m →
    θ_run (Cert.ObKernel.defs (F := Bits)) (onTc (τ := Cert.ObKernel.τ) (Cert.ObKernel.main (F := Bits))) ⟨m, fun _ => 0, g⟩ (fun r => (∀ c : Dev Cert.ObKernel.nD,
      r.2.mem ((c.tc : Thread Cert.ObKernel.nD Cert.ObKernel.τ).loc Cert.ObKernel.main_arg0) = m ((c.tc : Thread Cert.ObKernel.nD Cert.ObKernel.τ).loc Cert.ObKernel.main_arg0)
      ∧ r.2.mem ((c.tc : Thread Cert.ObKernel.nD Cert.ObKernel.τ).loc Cert.ObKernel.main_arg1) = m ((c.tc : Thread Cert.ObKernel.nD Cert.ObKernel.τ).loc Cert.ObKernel.main_arg1)
      ∧ r.2.mem ((c.tc : Thread Cert.ObKernel.nD Cert.ObKernel.τ).loc Cert.ObKernel.main_arg2) = m ((c.tc : Thread Cert.ObKernel.nD Cert.ObKernel.τ).loc Cert.ObKernel.main_arg2)
      ∧ r.2.mem ((c.tc : Thread Cert.ObKernel.nD Cert.ObKernel.τ).loc Cert.ObKernel.main_arg3) = m ((c.tc : Thread Cert.ObKernel.nD Cert.ObKernel.τ).loc Cert.ObKernel.main_arg3)
      ∧ r.2.mem ((c.tc : Thread Cert.ObKernel.nD Cert.ObKernel.τ).loc Cert.ObKernel.main_arg4) = m ((c.tc : Thread Cert.ObKernel.nD Cert.ObKernel.τ).loc Cert.ObKernel.main_arg4))
      ∧ r.2.sem = fun _ => 0)

def quiescent_ObKernelIdeal [hObKernelIdeal : Cert.ObKernelIdeal.Facts] : Prop :=
  ∀ (m : (ℓ : Loc Cert.ObKernelIdeal.nD Cert.ObKernelIdeal.τ Cert.ObKernelIdeal.sig) → Buf (Elt Ideal) ℓ) (g : Dev Cert.ObKernelIdeal.nD → PrngReg), Pre_ObKernelIdeal m →
    θ_run (Cert.ObKernelIdeal.defs (F := Ideal)) (onTc (τ := Cert.ObKernelIdeal.τ) (Cert.ObKernelIdeal.main (F := Ideal))) ⟨m, fun _ => 0, g⟩ (fun r => (∀ c : Dev Cert.ObKernelIdeal.nD,
      r.2.mem ((c.tc : Thread Cert.ObKernelIdeal.nD Cert.ObKernelIdeal.τ).loc Cert.ObKernelIdeal.main_arg0) = m ((c.tc : Thread Cert.ObKernelIdeal.nD Cert.ObKernelIdeal.τ).loc Cert.ObKernelIdeal.main_arg0)
      ∧ r.2.mem ((c.tc : Thread Cert.ObKernelIdeal.nD Cert.ObKernelIdeal.τ).loc Cert.ObKernelIdeal.main_arg1) = m ((c.tc : Thread Cert.ObKernelIdeal.nD Cert.ObKernelIdeal.τ).loc Cert.ObKernelIdeal.main_arg1)
      ∧ r.2.mem ((c.tc : Thread Cert.ObKernelIdeal.nD Cert.ObKernelIdeal.τ).loc Cert.ObKernelIdeal.main_arg2) = m ((c.tc : Thread Cert.ObKernelIdeal.nD Cert.ObKernelIdeal.τ).loc Cert.ObKernelIdeal.main_arg2)
      ∧ r.2.mem ((c.tc : Thread Cert.ObKernelIdeal.nD Cert.ObKernelIdeal.τ).loc Cert.ObKernelIdeal.main_arg3) = m ((c.tc : Thread Cert.ObKernelIdeal.nD Cert.ObKernelIdeal.τ).loc Cert.ObKernelIdeal.main_arg3)
      ∧ r.2.mem ((c.tc : Thread Cert.ObKernelIdeal.nD Cert.ObKernelIdeal.τ).loc Cert.ObKernelIdeal.main_arg4) = m ((c.tc : Thread Cert.ObKernelIdeal.nD Cert.ObKernelIdeal.τ).loc Cert.ObKernelIdeal.main_arg4))
      ∧ r.2.sem = fun _ => 0)

def quiescent_ObReferenceIdeal [hObReferenceIdeal : Cert.ObReferenceIdeal.Facts] : Prop :=
  ∀ (m : (ℓ : Loc Cert.ObReferenceIdeal.nD Cert.ObReferenceIdeal.τ Cert.ObReferenceIdeal.sig) → Buf (Elt Ideal) ℓ) (g : Dev Cert.ObReferenceIdeal.nD → PrngReg), Pre_ObReferenceIdeal m →
    θ_run (Cert.ObReferenceIdeal.defs (F := Ideal)) (onTc (τ := Cert.ObReferenceIdeal.τ) (Cert.ObReferenceIdeal.main (F := Ideal))) ⟨m, fun _ => 0, g⟩ (fun r => (∀ c : Dev Cert.ObReferenceIdeal.nD,
      r.2.mem ((c.tc : Thread Cert.ObReferenceIdeal.nD Cert.ObReferenceIdeal.τ).loc Cert.ObReferenceIdeal.main_arg0) = m ((c.tc : Thread Cert.ObReferenceIdeal.nD Cert.ObReferenceIdeal.τ).loc Cert.ObReferenceIdeal.main_arg0)
      ∧ r.2.mem ((c.tc : Thread Cert.ObReferenceIdeal.nD Cert.ObReferenceIdeal.τ).loc Cert.ObReferenceIdeal.main_arg1) = m ((c.tc : Thread Cert.ObReferenceIdeal.nD Cert.ObReferenceIdeal.τ).loc Cert.ObReferenceIdeal.main_arg1)
      ∧ r.2.mem ((c.tc : Thread Cert.ObReferenceIdeal.nD Cert.ObReferenceIdeal.τ).loc Cert.ObReferenceIdeal.main_arg2) = m ((c.tc : Thread Cert.ObReferenceIdeal.nD Cert.ObReferenceIdeal.τ).loc Cert.ObReferenceIdeal.main_arg2)
      ∧ r.2.mem ((c.tc : Thread Cert.ObReferenceIdeal.nD Cert.ObReferenceIdeal.τ).loc Cert.ObReferenceIdeal.main_arg3) = m ((c.tc : Thread Cert.ObReferenceIdeal.nD Cert.ObReferenceIdeal.τ).loc Cert.ObReferenceIdeal.main_arg3)
      ∧ r.2.mem ((c.tc : Thread Cert.ObReferenceIdeal.nD Cert.ObReferenceIdeal.τ).loc Cert.ObReferenceIdeal.main_arg4) = m ((c.tc : Thread Cert.ObReferenceIdeal.nD Cert.ObReferenceIdeal.τ).loc Cert.ObReferenceIdeal.main_arg4))
      ∧ r.2.sem = fun _ => 0)

def quiescent_MfKernel [hMfKernel : Cert.MfKernel.Facts] : Prop :=
  ∀ (m : (ℓ : Loc Cert.MfKernel.nD Cert.MfKernel.τ Cert.MfKernel.sig) → Buf (Elt Bits) ℓ) (g : Dev Cert.MfKernel.nD → PrngReg), Pre_MfKernel m →
    θ_run (Cert.MfKernel.defs (F := Bits)) (onTc (τ := Cert.MfKernel.τ) (Cert.MfKernel.main (F := Bits))) ⟨m, fun _ => 0, g⟩ (fun r => (∀ c : Dev Cert.MfKernel.nD,
      r.2.mem ((c.tc : Thread Cert.MfKernel.nD Cert.MfKernel.τ).loc Cert.MfKernel.main_arg0) = m ((c.tc : Thread Cert.MfKernel.nD Cert.MfKernel.τ).loc Cert.MfKernel.main_arg0)
      ∧ r.2.mem ((c.tc : Thread Cert.MfKernel.nD Cert.MfKernel.τ).loc Cert.MfKernel.main_arg1) = m ((c.tc : Thread Cert.MfKernel.nD Cert.MfKernel.τ).loc Cert.MfKernel.main_arg1)
      ∧ r.2.mem ((c.tc : Thread Cert.MfKernel.nD Cert.MfKernel.τ).loc Cert.MfKernel.main_arg2) = m ((c.tc : Thread Cert.MfKernel.nD Cert.MfKernel.τ).loc Cert.MfKernel.main_arg2)
      ∧ r.2.mem ((c.tc : Thread Cert.MfKernel.nD Cert.MfKernel.τ).loc Cert.MfKernel.main_arg3) = m ((c.tc : Thread Cert.MfKernel.nD Cert.MfKernel.τ).loc Cert.MfKernel.main_arg3))
      ∧ r.2.sem = fun _ => 0)

def quiescent_MfKernelIdeal [hMfKernelIdeal : Cert.MfKernelIdeal.Facts] : Prop :=
  ∀ (m : (ℓ : Loc Cert.MfKernelIdeal.nD Cert.MfKernelIdeal.τ Cert.MfKernelIdeal.sig) → Buf (Elt Ideal) ℓ) (g : Dev Cert.MfKernelIdeal.nD → PrngReg), Pre_MfKernelIdeal m →
    θ_run (Cert.MfKernelIdeal.defs (F := Ideal)) (onTc (τ := Cert.MfKernelIdeal.τ) (Cert.MfKernelIdeal.main (F := Ideal))) ⟨m, fun _ => 0, g⟩ (fun r => (∀ c : Dev Cert.MfKernelIdeal.nD,
      r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
      ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
      ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
      ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3))
      ∧ r.2.sem = fun _ => 0)

def quiescent_MfReferenceIdeal [hMfReferenceIdeal : Cert.MfReferenceIdeal.Facts] : Prop :=
  ∀ (m : (ℓ : Loc Cert.MfReferenceIdeal.nD Cert.MfReferenceIdeal.τ Cert.MfReferenceIdeal.sig) → Buf (Elt Ideal) ℓ) (g : Dev Cert.MfReferenceIdeal.nD → PrngReg), Pre_MfReferenceIdeal m →
    θ_run (Cert.MfReferenceIdeal.defs (F := Ideal)) (onTc (τ := Cert.MfReferenceIdeal.τ) (Cert.MfReferenceIdeal.main (F := Ideal))) ⟨m, fun _ => 0, g⟩ (fun r => (∀ c : Dev Cert.MfReferenceIdeal.nD,
      r.2.mem ((c.tc : Thread Cert.MfReferenceIdeal.nD Cert.MfReferenceIdeal.τ).loc Cert.MfReferenceIdeal.main_arg0) = m ((c.tc : Thread Cert.MfReferenceIdeal.nD Cert.MfReferenceIdeal.τ).loc Cert.MfReferenceIdeal.main_arg0)
      ∧ r.2.mem ((c.tc : Thread Cert.MfReferenceIdeal.nD Cert.MfReferenceIdeal.τ).loc Cert.MfReferenceIdeal.main_arg1) = m ((c.tc : Thread Cert.MfReferenceIdeal.nD Cert.MfReferenceIdeal.τ).loc Cert.MfReferenceIdeal.main_arg1)
      ∧ r.2.mem ((c.tc : Thread Cert.MfReferenceIdeal.nD Cert.MfReferenceIdeal.τ).loc Cert.MfReferenceIdeal.main_arg2) = m ((c.tc : Thread Cert.MfReferenceIdeal.nD Cert.MfReferenceIdeal.τ).loc Cert.MfReferenceIdeal.main_arg2)
      ∧ r.2.mem ((c.tc : Thread Cert.MfReferenceIdeal.nD Cert.MfReferenceIdeal.τ).loc Cert.MfReferenceIdeal.main_arg3) = m ((c.tc : Thread Cert.MfReferenceIdeal.nD Cert.MfReferenceIdeal.τ).loc Cert.MfReferenceIdeal.main_arg3))
      ∧ r.2.sem = fun _ => 0)

def quiescent_MbKernel [hMbKernel : Cert.MbKernel.Facts] : Prop :=
  ∀ (m : (ℓ : Loc Cert.MbKernel.nD Cert.MbKernel.τ Cert.MbKernel.sig) → Buf (Elt Bits) ℓ) (g : Dev Cert.MbKernel.nD → PrngReg), Pre_MbKernel m →
    θ_run (Cert.MbKernel.defs (F := Bits)) (onTc (τ := Cert.MbKernel.τ) (Cert.MbKernel.main (F := Bits))) ⟨m, fun _ => 0, g⟩ (fun r => (∀ c : Dev Cert.MbKernel.nD,
      r.2.mem ((c.tc : Thread Cert.MbKernel.nD Cert.MbKernel.τ).loc Cert.MbKernel.main_arg0) = m ((c.tc : Thread Cert.MbKernel.nD Cert.MbKernel.τ).loc Cert.MbKernel.main_arg0)
      ∧ r.2.mem ((c.tc : Thread Cert.MbKernel.nD Cert.MbKernel.τ).loc Cert.MbKernel.main_arg1) = m ((c.tc : Thread Cert.MbKernel.nD Cert.MbKernel.τ).loc Cert.MbKernel.main_arg1)
      ∧ r.2.mem ((c.tc : Thread Cert.MbKernel.nD Cert.MbKernel.τ).loc Cert.MbKernel.main_arg2) = m ((c.tc : Thread Cert.MbKernel.nD Cert.MbKernel.τ).loc Cert.MbKernel.main_arg2)
      ∧ r.2.mem ((c.tc : Thread Cert.MbKernel.nD Cert.MbKernel.τ).loc Cert.MbKernel.main_arg3) = m ((c.tc : Thread Cert.MbKernel.nD Cert.MbKernel.τ).loc Cert.MbKernel.main_arg3)
      ∧ r.2.mem ((c.tc : Thread Cert.MbKernel.nD Cert.MbKernel.τ).loc Cert.MbKernel.main_arg4) = m ((c.tc : Thread Cert.MbKernel.nD Cert.MbKernel.τ).loc Cert.MbKernel.main_arg4)
      ∧ r.2.mem ((c.tc : Thread Cert.MbKernel.nD Cert.MbKernel.τ).loc Cert.MbKernel.main_arg5) = m ((c.tc : Thread Cert.MbKernel.nD Cert.MbKernel.τ).loc Cert.MbKernel.main_arg5)
      ∧ r.2.mem ((c.tc : Thread Cert.MbKernel.nD Cert.MbKernel.τ).loc Cert.MbKernel.main_arg6) = m ((c.tc : Thread Cert.MbKernel.nD Cert.MbKernel.τ).loc Cert.MbKernel.main_arg6)
      ∧ r.2.mem ((c.tc : Thread Cert.MbKernel.nD Cert.MbKernel.τ).loc Cert.MbKernel.main_arg7) = m ((c.tc : Thread Cert.MbKernel.nD Cert.MbKernel.τ).loc Cert.MbKernel.main_arg7))
      ∧ r.2.sem = fun _ => 0)

def quiescent_MbKernelIdeal [hMbKernelIdeal : Cert.MbKernelIdeal.Facts] : Prop :=
  ∀ (m : (ℓ : Loc Cert.MbKernelIdeal.nD Cert.MbKernelIdeal.τ Cert.MbKernelIdeal.sig) → Buf (Elt Ideal) ℓ) (g : Dev Cert.MbKernelIdeal.nD → PrngReg), Pre_MbKernelIdeal m →
    θ_run (Cert.MbKernelIdeal.defs (F := Ideal)) (onTc (τ := Cert.MbKernelIdeal.τ) (Cert.MbKernelIdeal.main (F := Ideal))) ⟨m, fun _ => 0, g⟩ (fun r => (∀ c : Dev Cert.MbKernelIdeal.nD,
      r.2.mem ((c.tc : Thread Cert.MbKernelIdeal.nD Cert.MbKernelIdeal.τ).loc Cert.MbKernelIdeal.main_arg0) = m ((c.tc : Thread Cert.MbKernelIdeal.nD Cert.MbKernelIdeal.τ).loc Cert.MbKernelIdeal.main_arg0)
      ∧ r.2.mem ((c.tc : Thread Cert.MbKernelIdeal.nD Cert.MbKernelIdeal.τ).loc Cert.MbKernelIdeal.main_arg1) = m ((c.tc : Thread Cert.MbKernelIdeal.nD Cert.MbKernelIdeal.τ).loc Cert.MbKernelIdeal.main_arg1)
      ∧ r.2.mem ((c.tc : Thread Cert.MbKernelIdeal.nD Cert.MbKernelIdeal.τ).loc Cert.MbKernelIdeal.main_arg2) = m ((c.tc : Thread Cert.MbKernelIdeal.nD Cert.MbKernelIdeal.τ).loc Cert.MbKernelIdeal.main_arg2)
      ∧ r.2.mem ((c.tc : Thread Cert.MbKernelIdeal.nD Cert.MbKernelIdeal.τ).loc Cert.MbKernelIdeal.main_arg3) = m ((c.tc : Thread Cert.MbKernelIdeal.nD Cert.MbKernelIdeal.τ).loc Cert.MbKernelIdeal.main_arg3)
      ∧ r.2.mem ((c.tc : Thread Cert.MbKernelIdeal.nD Cert.MbKernelIdeal.τ).loc Cert.MbKernelIdeal.main_arg4) = m ((c.tc : Thread Cert.MbKernelIdeal.nD Cert.MbKernelIdeal.τ).loc Cert.MbKernelIdeal.main_arg4)
      ∧ r.2.mem ((c.tc : Thread Cert.MbKernelIdeal.nD Cert.MbKernelIdeal.τ).loc Cert.MbKernelIdeal.main_arg5) = m ((c.tc : Thread Cert.MbKernelIdeal.nD Cert.MbKernelIdeal.τ).loc Cert.MbKernelIdeal.main_arg5)
      ∧ r.2.mem ((c.tc : Thread Cert.MbKernelIdeal.nD Cert.MbKernelIdeal.τ).loc Cert.MbKernelIdeal.main_arg6) = m ((c.tc : Thread Cert.MbKernelIdeal.nD Cert.MbKernelIdeal.τ).loc Cert.MbKernelIdeal.main_arg6)
      ∧ r.2.mem ((c.tc : Thread Cert.MbKernelIdeal.nD Cert.MbKernelIdeal.τ).loc Cert.MbKernelIdeal.main_arg7) = m ((c.tc : Thread Cert.MbKernelIdeal.nD Cert.MbKernelIdeal.τ).loc Cert.MbKernelIdeal.main_arg7))
      ∧ r.2.sem = fun _ => 0)

def quiescent_MbReferenceIdeal [hMbReferenceIdeal : Cert.MbReferenceIdeal.Facts] : Prop :=
  ∀ (m : (ℓ : Loc Cert.MbReferenceIdeal.nD Cert.MbReferenceIdeal.τ Cert.MbReferenceIdeal.sig) → Buf (Elt Ideal) ℓ) (g : Dev Cert.MbReferenceIdeal.nD → PrngReg), Pre_MbReferenceIdeal m →
    θ_run (Cert.MbReferenceIdeal.defs (F := Ideal)) (onTc (τ := Cert.MbReferenceIdeal.τ) (Cert.MbReferenceIdeal.main (F := Ideal))) ⟨m, fun _ => 0, g⟩ (fun r => (∀ c : Dev Cert.MbReferenceIdeal.nD,
      r.2.mem ((c.tc : Thread Cert.MbReferenceIdeal.nD Cert.MbReferenceIdeal.τ).loc Cert.MbReferenceIdeal.main_arg0) = m ((c.tc : Thread Cert.MbReferenceIdeal.nD Cert.MbReferenceIdeal.τ).loc Cert.MbReferenceIdeal.main_arg0)
      ∧ r.2.mem ((c.tc : Thread Cert.MbReferenceIdeal.nD Cert.MbReferenceIdeal.τ).loc Cert.MbReferenceIdeal.main_arg1) = m ((c.tc : Thread Cert.MbReferenceIdeal.nD Cert.MbReferenceIdeal.τ).loc Cert.MbReferenceIdeal.main_arg1)
      ∧ r.2.mem ((c.tc : Thread Cert.MbReferenceIdeal.nD Cert.MbReferenceIdeal.τ).loc Cert.MbReferenceIdeal.main_arg2) = m ((c.tc : Thread Cert.MbReferenceIdeal.nD Cert.MbReferenceIdeal.τ).loc Cert.MbReferenceIdeal.main_arg2)
      ∧ r.2.mem ((c.tc : Thread Cert.MbReferenceIdeal.nD Cert.MbReferenceIdeal.τ).loc Cert.MbReferenceIdeal.main_arg3) = m ((c.tc : Thread Cert.MbReferenceIdeal.nD Cert.MbReferenceIdeal.τ).loc Cert.MbReferenceIdeal.main_arg3)
      ∧ r.2.mem ((c.tc : Thread Cert.MbReferenceIdeal.nD Cert.MbReferenceIdeal.τ).loc Cert.MbReferenceIdeal.main_arg4) = m ((c.tc : Thread Cert.MbReferenceIdeal.nD Cert.MbReferenceIdeal.τ).loc Cert.MbReferenceIdeal.main_arg4)
      ∧ r.2.mem ((c.tc : Thread Cert.MbReferenceIdeal.nD Cert.MbReferenceIdeal.τ).loc Cert.MbReferenceIdeal.main_arg5) = m ((c.tc : Thread Cert.MbReferenceIdeal.nD Cert.MbReferenceIdeal.τ).loc Cert.MbReferenceIdeal.main_arg5)
      ∧ r.2.mem ((c.tc : Thread Cert.MbReferenceIdeal.nD Cert.MbReferenceIdeal.τ).loc Cert.MbReferenceIdeal.main_arg6) = m ((c.tc : Thread Cert.MbReferenceIdeal.nD Cert.MbReferenceIdeal.τ).loc Cert.MbReferenceIdeal.main_arg6)
      ∧ r.2.mem ((c.tc : Thread Cert.MbReferenceIdeal.nD Cert.MbReferenceIdeal.τ).loc Cert.MbReferenceIdeal.main_arg7) = m ((c.tc : Thread Cert.MbReferenceIdeal.nD Cert.MbReferenceIdeal.τ).loc Cert.MbReferenceIdeal.main_arg7))
      ∧ r.2.sem = fun _ => 0)

def quiescent_LsKernel [hLsKernel : Cert.LsKernel.Facts] : Prop :=
  ∀ (m : (ℓ : Loc Cert.LsKernel.nD Cert.LsKernel.τ Cert.LsKernel.sig) → Buf (Elt Bits) ℓ) (g : Dev Cert.LsKernel.nD → PrngReg), Pre_LsKernel m →
    θ_run (Cert.LsKernel.defs (F := Bits)) (onTc (τ := Cert.LsKernel.τ) (Cert.LsKernel.main (F := Bits))) ⟨m, fun _ => 0, g⟩ (fun r => (∀ c : Dev Cert.LsKernel.nD,
      r.2.mem ((c.tc : Thread Cert.LsKernel.nD Cert.LsKernel.τ).loc Cert.LsKernel.main_arg0) = m ((c.tc : Thread Cert.LsKernel.nD Cert.LsKernel.τ).loc Cert.LsKernel.main_arg0)
      ∧ r.2.mem ((c.tc : Thread Cert.LsKernel.nD Cert.LsKernel.τ).loc Cert.LsKernel.main_arg1) = m ((c.tc : Thread Cert.LsKernel.nD Cert.LsKernel.τ).loc Cert.LsKernel.main_arg1))
      ∧ r.2.sem = fun _ => 0)

def quiescent_LsKernelIdeal [hLsKernelIdeal : Cert.LsKernelIdeal.Facts] : Prop :=
  ∀ (m : (ℓ : Loc Cert.LsKernelIdeal.nD Cert.LsKernelIdeal.τ Cert.LsKernelIdeal.sig) → Buf (Elt Ideal) ℓ) (g : Dev Cert.LsKernelIdeal.nD → PrngReg), Pre_LsKernelIdeal m →
    θ_run (Cert.LsKernelIdeal.defs (F := Ideal)) (onTc (τ := Cert.LsKernelIdeal.τ) (Cert.LsKernelIdeal.main (F := Ideal))) ⟨m, fun _ => 0, g⟩ (fun r => (∀ c : Dev Cert.LsKernelIdeal.nD,
      r.2.mem ((c.tc : Thread Cert.LsKernelIdeal.nD Cert.LsKernelIdeal.τ).loc Cert.LsKernelIdeal.main_arg0) = m ((c.tc : Thread Cert.LsKernelIdeal.nD Cert.LsKernelIdeal.τ).loc Cert.LsKernelIdeal.main_arg0)
      ∧ r.2.mem ((c.tc : Thread Cert.LsKernelIdeal.nD Cert.LsKernelIdeal.τ).loc Cert.LsKernelIdeal.main_arg1) = m ((c.tc : Thread Cert.LsKernelIdeal.nD Cert.LsKernelIdeal.τ).loc Cert.LsKernelIdeal.main_arg1))
      ∧ r.2.sem = fun _ => 0)

def quiescent_LsReferenceIdeal [hLsReferenceIdeal : Cert.LsReferenceIdeal.Facts] : Prop :=
  ∀ (m : (ℓ : Loc Cert.LsReferenceIdeal.nD Cert.LsReferenceIdeal.τ Cert.LsReferenceIdeal.sig) → Buf (Elt Ideal) ℓ) (g : Dev Cert.LsReferenceIdeal.nD → PrngReg), Pre_LsReferenceIdeal m →
    θ_run (Cert.LsReferenceIdeal.defs (F := Ideal)) (onTc (τ := Cert.LsReferenceIdeal.τ) (Cert.LsReferenceIdeal.main (F := Ideal))) ⟨m, fun _ => 0, g⟩ (fun r => (∀ c : Dev Cert.LsReferenceIdeal.nD,
      r.2.mem ((c.tc : Thread Cert.LsReferenceIdeal.nD Cert.LsReferenceIdeal.τ).loc Cert.LsReferenceIdeal.main_arg0) = m ((c.tc : Thread Cert.LsReferenceIdeal.nD Cert.LsReferenceIdeal.τ).loc Cert.LsReferenceIdeal.main_arg0)
      ∧ r.2.mem ((c.tc : Thread Cert.LsReferenceIdeal.nD Cert.LsReferenceIdeal.τ).loc Cert.LsReferenceIdeal.main_arg1) = m ((c.tc : Thread Cert.LsReferenceIdeal.nD Cert.LsReferenceIdeal.τ).loc Cert.LsReferenceIdeal.main_arg1))
      ∧ r.2.sem = fun _ => 0)

def preserves_XaKernel_XaKernelIdeal : Prop :=
  IdealRules.named_const.Statement Cert.XaKernelIdeal.κ "inv_sqrt_hd" .f32 0x3DB504F3#32 (((Real.sqrt 128)⁻¹ : ℝ) : EReal)

def algebraic_XaKernelIdeal_XaReferenceIdeal_pre_finite_keys [hXaKernelIdeal : Cert.XaKernelIdeal.Facts] [hXaReferenceIdeal : Cert.XaReferenceIdeal.Facts] [hPre_finite_keys : Cert.Pre_finite_keys.Facts] : Prop :=
  ∀ (m : (ℓ : Loc Cert.XaKernelIdeal.nD Cert.XaKernelIdeal.τ Cert.XaKernelIdeal.sig) → Buf (Elt Ideal) ℓ) (g : Dev Cert.XaKernelIdeal.nD → PrngReg)
    (m' : (ℓ : Loc Cert.XaReferenceIdeal.nD Cert.XaReferenceIdeal.τ Cert.XaReferenceIdeal.sig) → Buf (Elt Ideal) ℓ) (g' : Dev Cert.XaReferenceIdeal.nD → PrngReg), Pre_XaKernelIdeal_finite_keys m →
    (∀ c : Dev Cert.XaKernelIdeal.nD,
      m' ((c.tc : Thread Cert.XaReferenceIdeal.nD Cert.XaReferenceIdeal.τ).loc Cert.XaReferenceIdeal.main_arg0) = m ((c.tc : Thread Cert.XaKernelIdeal.nD Cert.XaKernelIdeal.τ).loc Cert.XaKernelIdeal.main_arg0)
      ∧ m' ((c.tc : Thread Cert.XaReferenceIdeal.nD Cert.XaReferenceIdeal.τ).loc Cert.XaReferenceIdeal.main_arg1) = m ((c.tc : Thread Cert.XaKernelIdeal.nD Cert.XaKernelIdeal.τ).loc Cert.XaKernelIdeal.main_arg1)
      ∧ m' ((c.tc : Thread Cert.XaReferenceIdeal.nD Cert.XaReferenceIdeal.τ).loc Cert.XaReferenceIdeal.main_arg2) = m ((c.tc : Thread Cert.XaKernelIdeal.nD Cert.XaKernelIdeal.τ).loc Cert.XaKernelIdeal.main_arg2)
      ∧ m' ((c.tc : Thread Cert.XaReferenceIdeal.nD Cert.XaReferenceIdeal.τ).loc Cert.XaReferenceIdeal.main_arg3) = m ((c.tc : Thread Cert.XaKernelIdeal.nD Cert.XaKernelIdeal.τ).loc Cert.XaKernelIdeal.main_arg3)
      ∧ m' ((c.tc : Thread Cert.XaReferenceIdeal.nD Cert.XaReferenceIdeal.τ).loc Cert.XaReferenceIdeal.main_arg4) = m ((c.tc : Thread Cert.XaKernelIdeal.nD Cert.XaKernelIdeal.τ).loc Cert.XaKernelIdeal.main_arg4)) →
    ∃ (v0 : (c : Dev Cert.XaKernelIdeal.nD) → Buf (Elt Ideal) ((c.tc : Thread Cert.XaKernelIdeal.nD Cert.XaKernelIdeal.τ).loc Cert.XaKernelIdeal.main_v1_0)) (v1 : (c : Dev Cert.XaKernelIdeal.nD) → Buf (Elt Ideal) ((c.tc : Thread Cert.XaKernelIdeal.nD Cert.XaKernelIdeal.τ).loc Cert.XaKernelIdeal.main_v1_1)) (v2 : (c : Dev Cert.XaKernelIdeal.nD) → Buf (Elt Ideal) ((c.tc : Thread Cert.XaKernelIdeal.nD Cert.XaKernelIdeal.τ).loc Cert.XaKernelIdeal.main_v1_2)) (v3 : (c : Dev Cert.XaKernelIdeal.nD) → Buf (Elt Ideal) ((c.tc : Thread Cert.XaKernelIdeal.nD Cert.XaKernelIdeal.τ).loc Cert.XaKernelIdeal.main_v1_3)),
      θ_run (Cert.XaKernelIdeal.defs (F := Ideal)) (onTc (τ := Cert.XaKernelIdeal.τ) (Cert.XaKernelIdeal.main (F := Ideal))) ⟨m, fun _ => 0, g⟩ (fun r => ∀ c : Dev Cert.XaKernelIdeal.nD,
          r.2.mem ((c.tc : Thread Cert.XaKernelIdeal.nD Cert.XaKernelIdeal.τ).loc Cert.XaKernelIdeal.main_v1_0) = v0 c
          ∧ r.2.mem ((c.tc : Thread Cert.XaKernelIdeal.nD Cert.XaKernelIdeal.τ).loc Cert.XaKernelIdeal.main_v1_1) = v1 c
          ∧ r.2.mem ((c.tc : Thread Cert.XaKernelIdeal.nD Cert.XaKernelIdeal.τ).loc Cert.XaKernelIdeal.main_v1_2) = v2 c
          ∧ r.2.mem ((c.tc : Thread Cert.XaKernelIdeal.nD Cert.XaKernelIdeal.τ).loc Cert.XaKernelIdeal.main_v1_3) = v3 c
          ∧ r.2.mem ((c.tc : Thread Cert.XaKernelIdeal.nD Cert.XaKernelIdeal.τ).loc Cert.XaKernelIdeal.main_arg0) = m ((c.tc : Thread Cert.XaKernelIdeal.nD Cert.XaKernelIdeal.τ).loc Cert.XaKernelIdeal.main_arg0)
          ∧ r.2.mem ((c.tc : Thread Cert.XaKernelIdeal.nD Cert.XaKernelIdeal.τ).loc Cert.XaKernelIdeal.main_arg1) = m ((c.tc : Thread Cert.XaKernelIdeal.nD Cert.XaKernelIdeal.τ).loc Cert.XaKernelIdeal.main_arg1)
          ∧ r.2.mem ((c.tc : Thread Cert.XaKernelIdeal.nD Cert.XaKernelIdeal.τ).loc Cert.XaKernelIdeal.main_arg2) = m ((c.tc : Thread Cert.XaKernelIdeal.nD Cert.XaKernelIdeal.τ).loc Cert.XaKernelIdeal.main_arg2)
          ∧ r.2.mem ((c.tc : Thread Cert.XaKernelIdeal.nD Cert.XaKernelIdeal.τ).loc Cert.XaKernelIdeal.main_arg3) = m ((c.tc : Thread Cert.XaKernelIdeal.nD Cert.XaKernelIdeal.τ).loc Cert.XaKernelIdeal.main_arg3)
          ∧ r.2.mem ((c.tc : Thread Cert.XaKernelIdeal.nD Cert.XaKernelIdeal.τ).loc Cert.XaKernelIdeal.main_arg4) = m ((c.tc : Thread Cert.XaKernelIdeal.nD Cert.XaKernelIdeal.τ).loc Cert.XaKernelIdeal.main_arg4))
      ∧ θ_run (Cert.XaReferenceIdeal.defs (F := Ideal)) (onTc (τ := Cert.XaReferenceIdeal.τ) (Cert.XaReferenceIdeal.main (F := Ideal))) ⟨m', fun _ => 0, g'⟩ (fun r => ∀ c : Dev Cert.XaReferenceIdeal.nD,
          r.2.mem ((c.tc : Thread Cert.XaReferenceIdeal.nD Cert.XaReferenceIdeal.τ).loc Cert.XaReferenceIdeal.main_v103) = v0 c
          ∧ r.2.mem ((c.tc : Thread Cert.XaReferenceIdeal.nD Cert.XaReferenceIdeal.τ).loc Cert.XaReferenceIdeal.main_v81) = v1 c
          ∧ r.2.mem ((c.tc : Thread Cert.XaReferenceIdeal.nD Cert.XaReferenceIdeal.τ).loc Cert.XaReferenceIdeal.main_v80) = v2 c
          ∧ r.2.mem ((c.tc : Thread Cert.XaReferenceIdeal.nD Cert.XaReferenceIdeal.τ).loc Cert.XaReferenceIdeal.main_v104) = v3 c
          ∧ r.2.mem ((c.tc : Thread Cert.XaReferenceIdeal.nD Cert.XaReferenceIdeal.τ).loc Cert.XaReferenceIdeal.main_arg0) = m' ((c.tc : Thread Cert.XaReferenceIdeal.nD Cert.XaReferenceIdeal.τ).loc Cert.XaReferenceIdeal.main_arg0)
          ∧ r.2.mem ((c.tc : Thread Cert.XaReferenceIdeal.nD Cert.XaReferenceIdeal.τ).loc Cert.XaReferenceIdeal.main_arg1) = m' ((c.tc : Thread Cert.XaReferenceIdeal.nD Cert.XaReferenceIdeal.τ).loc Cert.XaReferenceIdeal.main_arg1)
          ∧ r.2.mem ((c.tc : Thread Cert.XaReferenceIdeal.nD Cert.XaReferenceIdeal.τ).loc Cert.XaReferenceIdeal.main_arg2) = m' ((c.tc : Thread Cert.XaReferenceIdeal.nD Cert.XaReferenceIdeal.τ).loc Cert.XaReferenceIdeal.main_arg2)
          ∧ r.2.mem ((c.tc : Thread Cert.XaReferenceIdeal.nD Cert.XaReferenceIdeal.τ).loc Cert.XaReferenceIdeal.main_arg3) = m' ((c.tc : Thread Cert.XaReferenceIdeal.nD Cert.XaReferenceIdeal.τ).loc Cert.XaReferenceIdeal.main_arg3)
          ∧ r.2.mem ((c.tc : Thread Cert.XaReferenceIdeal.nD Cert.XaReferenceIdeal.τ).loc Cert.XaReferenceIdeal.main_arg4) = m' ((c.tc : Thread Cert.XaReferenceIdeal.nD Cert.XaReferenceIdeal.τ).loc Cert.XaReferenceIdeal.main_arg4))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)
      ∧ m' ((c.tc : Thread Cert.DhReferenceIdeal.nD Cert.DhReferenceIdeal.τ).loc Cert.DhReferenceIdeal.main_arg5) = m ((c.tc : Thread Cert.DhKernelIdeal.nD Cert.DhKernelIdeal.τ).loc Cert.DhKernelIdeal.main_arg5)
      ∧ m' ((c.tc : Thread Cert.DhReferenceIdeal.nD Cert.DhReferenceIdeal.τ).loc Cert.DhReferenceIdeal.main_arg6) = m ((c.tc : Thread Cert.DhKernelIdeal.nD Cert.DhKernelIdeal.τ).loc Cert.DhKernelIdeal.main_arg6)) →
    ∃ (v0 : (c : Dev Cert.DhKernelIdeal.nD) → Buf (Elt Ideal) ((c.tc : Thread Cert.DhKernelIdeal.nD Cert.DhKernelIdeal.τ).loc Cert.DhKernelIdeal.main_v1_0)) (v1 : (c : Dev Cert.DhKernelIdeal.nD) → Buf (Elt Ideal) ((c.tc : Thread Cert.DhKernelIdeal.nD Cert.DhKernelIdeal.τ).loc Cert.DhKernelIdeal.main_v1_1)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v1_0) = v0 c
          ∧ r.2.mem ((c.tc : Thread Cert.DhKernelIdeal.nD Cert.DhKernelIdeal.τ).loc Cert.DhKernelIdeal.main_v1_1) = v1 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v45) = v0 c
          ∧ r.2.mem ((c.tc : Thread Cert.DhReferenceIdeal.nD Cert.DhReferenceIdeal.τ).loc Cert.DhReferenceIdeal.main_v46) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6))

def preserves_ActKernel_ActKernelIdeal : Prop :=
  True

def algebraic_ActKernelIdeal_ActReferenceIdeal_pre_finite_gate [hActKernelIdeal : Cert.ActKernelIdeal.Facts] [hActReferenceIdeal : Cert.ActReferenceIdeal.Facts] [hPre_finite_gate : Cert.Pre_finite_gate.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal_finite_gate m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)) →
    ∃ (v0 : (c : Dev Cert.ActKernelIdeal.nD) → Buf (Elt Ideal) ((c.tc : Thread Cert.ActKernelIdeal.nD Cert.ActKernelIdeal.τ).loc Cert.ActKernelIdeal.main_v0_0)) (v1 : (c : Dev Cert.ActKernelIdeal.nD) → Buf (Elt Ideal) ((c.tc : Thread Cert.ActKernelIdeal.nD Cert.ActKernelIdeal.τ).loc Cert.ActKernelIdeal.main_v0_1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v0_0) = v0 c
          ∧ r.2.mem ((c.tc : Thread Cert.ActKernelIdeal.nD Cert.ActKernelIdeal.τ).loc Cert.ActKernelIdeal.main_v0_1) = v1 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v10) = v0 c
          ∧ r.2.mem ((c.tc : Thread Cert.ActReferenceIdeal.nD Cert.ActReferenceIdeal.τ).loc Cert.ActReferenceIdeal.main_v11) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_DwdKernel_DwdKernelIdeal : Prop :=
  True

def algebraic_DwdKernelIdeal_DwdReferenceIdeal [hDwdKernelIdeal : Cert.DwdKernelIdeal.Facts] [hDwdReferenceIdeal : Cert.DwdReferenceIdeal.Facts] : Prop :=
  ∀ (m : (ℓ : Loc Cert.DwdKernelIdeal.nD Cert.DwdKernelIdeal.τ Cert.DwdKernelIdeal.sig) → Buf (Elt Ideal) ℓ) (g : Dev Cert.DwdKernelIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdKernelIdeal m →
    (∀ c : Dev Cert.DwdKernelIdeal.nD,
      m' ((c.tc : Thread Cert.DwdReferenceIdeal.nD Cert.DwdReferenceIdeal.τ).loc Cert.DwdReferenceIdeal.main_arg0) = m ((c.tc : Thread Cert.DwdKernelIdeal.nD Cert.DwdKernelIdeal.τ).loc Cert.DwdKernelIdeal.main_arg0)
      ∧ m' ((c.tc : Thread Cert.DwdReferenceIdeal.nD Cert.DwdReferenceIdeal.τ).loc Cert.DwdReferenceIdeal.main_arg1) = m ((c.tc : Thread Cert.DwdKernelIdeal.nD Cert.DwdKernelIdeal.τ).loc Cert.DwdKernelIdeal.main_arg1)) →
    ∃ (v0 : (c : Dev Cert.DwdKernelIdeal.nD) → Buf (Elt Ideal) ((c.tc : Thread Cert.DwdKernelIdeal.nD Cert.DwdKernelIdeal.τ).loc Cert.DwdKernelIdeal.main_v0)),
      θ_run (Cert.DwdKernelIdeal.defs (F := Ideal)) (onTc (τ := Cert.DwdKernelIdeal.τ) (Cert.DwdKernelIdeal.main (F := Ideal))) ⟨m, fun _ => 0, g⟩ (fun r => ∀ c : Dev Cert.DwdKernelIdeal.nD,
          r.2.mem ((c.tc : Thread Cert.DwdKernelIdeal.nD Cert.DwdKernelIdeal.τ).loc Cert.DwdKernelIdeal.main_v0) = v0 c
          ∧ r.2.mem ((c.tc : Thread Cert.DwdKernelIdeal.nD Cert.DwdKernelIdeal.τ).loc Cert.DwdKernelIdeal.main_arg0) = m ((c.tc : Thread Cert.DwdKernelIdeal.nD Cert.DwdKernelIdeal.τ).loc Cert.DwdKernelIdeal.main_arg0)
          ∧ r.2.mem ((c.tc : Thread Cert.DwdKernelIdeal.nD Cert.DwdKernelIdeal.τ).loc Cert.DwdKernelIdeal.main_arg1) = m ((c.tc : Thread Cert.DwdKernelIdeal.nD Cert.DwdKernelIdeal.τ).loc Cert.DwdKernelIdeal.main_arg1))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v4) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1))

def preserves_DwgKernel_DwgKernelIdeal : Prop :=
  True

def algebraic_DwgKernelIdeal_DwgReferenceIdeal [hDwgKernelIdeal : Cert.DwgKernelIdeal.Facts] [hDwgReferenceIdeal : Cert.DwgReferenceIdeal.Facts] : Prop :=
  ∀ (m : (ℓ : Loc Cert.DwgKernelIdeal.nD Cert.DwgKernelIdeal.τ Cert.DwgKernelIdeal.sig) → Buf (Elt Ideal) ℓ) (g : Dev Cert.DwgKernelIdeal.nD → PrngReg)
    (m' : (ℓ : Loc Cert.DwgReferenceIdeal.nD Cert.DwgReferenceIdeal.τ Cert.DwgReferenceIdeal.sig) → Buf (Elt Ideal) ℓ) (g' : Dev Cert.DwgReferenceIdeal.nD → PrngReg), Pre_DwgKernelIdeal m →
    (∀ c : Dev Cert.DwgKernelIdeal.nD,
      m' ((c.tc : Thread Cert.DwgReferenceIdeal.nD Cert.DwgReferenceIdeal.τ).loc Cert.DwgReferenceIdeal.main_arg0) = m ((c.tc : Thread Cert.DwgKernelIdeal.nD Cert.DwgKernelIdeal.τ).loc Cert.DwgKernelIdeal.main_arg0)
      ∧ m' ((c.tc : Thread Cert.DwgReferenceIdeal.nD Cert.DwgReferenceIdeal.τ).loc Cert.DwgReferenceIdeal.main_arg1) = m ((c.tc : Thread Cert.DwgKernelIdeal.nD Cert.DwgKernelIdeal.τ).loc Cert.DwgKernelIdeal.main_arg1)) →
    ∃ (v0 : (c : Dev Cert.DwgKernelIdeal.nD) → Buf (Elt Ideal) ((c.tc : Thread Cert.DwgKernelIdeal.nD Cert.DwgKernelIdeal.τ).loc Cert.DwgKernelIdeal.main_v0)),
      θ_run (Cert.DwgKernelIdeal.defs (F := Ideal)) (onTc (τ := Cert.DwgKernelIdeal.τ) (Cert.DwgKernelIdeal.main (F := Ideal))) ⟨m, fun _ => 0, g⟩ (fun r => ∀ c : Dev Cert.DwgKernelIdeal.nD,
          r.2.mem ((c.tc : Thread Cert.DwgKernelIdeal.nD Cert.DwgKernelIdeal.τ).loc Cert.DwgKernelIdeal.main_v0) = v0 c
          ∧ r.2.mem ((c.tc : Thread Cert.DwgKernelIdeal.nD Cert.DwgKernelIdeal.τ).loc Cert.DwgKernelIdeal.main_arg0) = m ((c.tc : Thread Cert.DwgKernelIdeal.nD Cert.DwgKernelIdeal.τ).loc Cert.DwgKernelIdeal.main_arg0)
          ∧ r.2.mem ((c.tc : Thread Cert.DwgKernelIdeal.nD Cert.DwgKernelIdeal.τ).loc Cert.DwgKernelIdeal.main_arg1) = m ((c.tc : Thread Cert.DwgKernelIdeal.nD Cert.DwgKernelIdeal.τ).loc Cert.DwgKernelIdeal.main_arg1))
      ∧ θ_run (Cert.DwgReferenceIdeal.defs (F := Ideal)) (onTc (τ := Cert.DwgReferenceIdeal.τ) (Cert.DwgReferenceIdeal.main (F := Ideal))) ⟨m', fun _ => 0, g'⟩ (fun r => ∀ c : Dev Cert.DwgReferenceIdeal.nD,
          r.2.mem ((c.tc : Thread Cert.DwgReferenceIdeal.nD Cert.DwgReferenceIdeal.τ).loc Cert.DwgReferenceIdeal.main_v5) = v0 c
          ∧ r.2.mem ((c.tc : Thread Cert.DwgReferenceIdeal.nD Cert.DwgReferenceIdeal.τ).loc Cert.DwgReferenceIdeal.main_arg0) = m' ((c.tc : Thread Cert.DwgReferenceIdeal.nD Cert.DwgReferenceIdeal.τ).loc Cert.DwgReferenceIdeal.main_arg0)
          ∧ r.2.mem ((c.tc : Thread Cert.DwgReferenceIdeal.nD Cert.DwgReferenceIdeal.τ).loc Cert.DwgReferenceIdeal.main_arg1) = m' ((c.tc : Thread Cert.DwgReferenceIdeal.nD Cert.DwgReferenceIdeal.τ).loc Cert.DwgReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)) (v2 : (c : Dev Cert.UpKernelIdeal.nD) → Buf (Elt Ideal) ((c.tc : Thread Cert.UpKernelIdeal.nD Cert.UpKernelIdeal.τ).loc Cert.UpKernelIdeal.main_v0_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_v0_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_v9) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_IneKernel_IneKernelIdeal : Prop :=
  True

def algebraic_IneKernelIdeal_IneReferenceIdeal [hIneKernelIdeal : Cert.IneKernelIdeal.Facts] [hIneReferenceIdeal : Cert.IneReferenceIdeal.Facts] : Prop :=
  ∀ (m : (ℓ : Loc Cert.IneKernelIdeal.nD Cert.IneKernelIdeal.τ Cert.IneKernelIdeal.sig) → Buf (Elt Ideal) ℓ) (g : Dev Cert.IneKernelIdeal.nD → PrngReg)
    (m' : (ℓ : Loc Cert.IneReferenceIdeal.nD Cert.IneReferenceIdeal.τ Cert.IneReferenceIdeal.sig) → Buf (Elt Ideal) ℓ) (g' : Dev Cert.IneReferenceIdeal.nD → PrngReg), Pre_IneKernelIdeal m →
    (∀ c : Dev Cert.IneKernelIdeal.nD,
      m' ((c.tc : Thread Cert.IneReferenceIdeal.nD Cert.IneReferenceIdeal.τ).loc Cert.IneReferenceIdeal.main_arg0) = m ((c.tc : Thread Cert.IneKernelIdeal.nD Cert.IneKernelIdeal.τ).loc Cert.IneKernelIdeal.main_arg0)
      ∧ m' ((c.tc : Thread Cert.IneReferenceIdeal.nD Cert.IneReferenceIdeal.τ).loc Cert.IneReferenceIdeal.main_arg1) = m ((c.tc : Thread Cert.IneKernelIdeal.nD Cert.IneKernelIdeal.τ).loc Cert.IneKernelIdeal.main_arg1)) →
    ∃ (v0 : (c : Dev Cert.IneKernelIdeal.nD) → Buf (Elt Ideal) ((c.tc : Thread Cert.IneKernelIdeal.nD Cert.IneKernelIdeal.τ).loc Cert.IneKernelIdeal.main_v0)),
      θ_run (Cert.IneKernelIdeal.defs (F := Ideal)) (onTc (τ := Cert.IneKernelIdeal.τ) (Cert.IneKernelIdeal.main (F := Ideal))) ⟨m, fun _ => 0, g⟩ (fun r => ∀ c : Dev Cert.IneKernelIdeal.nD,
          r.2.mem ((c.tc : Thread Cert.IneKernelIdeal.nD Cert.IneKernelIdeal.τ).loc Cert.IneKernelIdeal.main_v0) = v0 c
          ∧ r.2.mem ((c.tc : Thread Cert.IneKernelIdeal.nD Cert.IneKernelIdeal.τ).loc Cert.IneKernelIdeal.main_arg0) = m ((c.tc : Thread Cert.IneKernelIdeal.nD Cert.IneKernelIdeal.τ).loc Cert.IneKernelIdeal.main_arg0)
          ∧ r.2.mem ((c.tc : Thread Cert.IneKernelIdeal.nD Cert.IneKernelIdeal.τ).loc Cert.IneKernelIdeal.main_arg1) = m ((c.tc : Thread Cert.IneKernelIdeal.nD Cert.IneKernelIdeal.τ).loc Cert.IneKernelIdeal.main_arg1))
      ∧ θ_run (Cert.IneReferenceIdeal.defs (F := Ideal)) (onTc (τ := Cert.IneReferenceIdeal.τ) (Cert.IneReferenceIdeal.main (F := Ideal))) ⟨m', fun _ => 0, g'⟩ (fun r => ∀ c : Dev Cert.IneReferenceIdeal.nD,
          r.2.mem ((c.tc : Thread Cert.IneReferenceIdeal.nD Cert.IneReferenceIdeal.τ).loc Cert.IneReferenceIdeal.main_v2) = v0 c
          ∧ r.2.mem ((c.tc : Thread Cert.IneReferenceIdeal.nD Cert.IneReferenceIdeal.τ).loc Cert.IneReferenceIdeal.main_arg0) = m' ((c.tc : Thread Cert.IneReferenceIdeal.nD Cert.IneReferenceIdeal.τ).loc Cert.IneReferenceIdeal.main_arg0)
          ∧ r.2.mem ((c.tc : Thread Cert.IneReferenceIdeal.nD Cert.IneReferenceIdeal.τ).loc Cert.IneReferenceIdeal.main_arg1) = m' ((c.tc : Thread Cert.IneReferenceIdeal.nD Cert.IneReferenceIdeal.τ).loc Cert.IneReferenceIdeal.main_arg1))

def preserves_InoKernel_InoKernelIdeal : Prop :=
  True

def algebraic_InoKernelIdeal_InoReferenceIdeal [hInoKernelIdeal : Cert.InoKernelIdeal.Facts] [hInoReferenceIdeal : Cert.InoReferenceIdeal.Facts] : Prop :=
  ∀ (m : (ℓ : Loc Cert.InoKernelIdeal.nD Cert.InoKernelIdeal.τ Cert.InoKernelIdeal.sig) → Buf (Elt Ideal) ℓ) (g : Dev Cert.InoKernelIdeal.nD → PrngReg)
    (m' : (ℓ : Loc Cert.InoReferenceIdeal.nD Cert.InoReferenceIdeal.τ Cert.InoReferenceIdeal.sig) → Buf (Elt Ideal) ℓ) (g' : Dev Cert.InoReferenceIdeal.nD → PrngReg), Pre_InoKernelIdeal m →
    (∀ c : Dev Cert.InoKernelIdeal.nD,
      m' ((c.tc : Thread Cert.InoReferenceIdeal.nD Cert.InoReferenceIdeal.τ).loc Cert.InoReferenceIdeal.main_arg0) = m ((c.tc : Thread Cert.InoKernelIdeal.nD Cert.InoKernelIdeal.τ).loc Cert.InoKernelIdeal.main_arg0)
      ∧ m' ((c.tc : Thread Cert.InoReferenceIdeal.nD Cert.InoReferenceIdeal.τ).loc Cert.InoReferenceIdeal.main_arg1) = m ((c.tc : Thread Cert.InoKernelIdeal.nD Cert.InoKernelIdeal.τ).loc Cert.InoKernelIdeal.main_arg1)) →
    ∃ (v0 : (c : Dev Cert.InoKernelIdeal.nD) → Buf (Elt Ideal) ((c.tc : Thread Cert.InoKernelIdeal.nD Cert.InoKernelIdeal.τ).loc Cert.InoKernelIdeal.main_v0)),
      θ_run (Cert.InoKernelIdeal.defs (F := Ideal)) (onTc (τ := Cert.InoKernelIdeal.τ) (Cert.InoKernelIdeal.main (F := Ideal))) ⟨m, fun _ => 0, g⟩ (fun r => ∀ c : Dev Cert.InoKernelIdeal.nD,
          r.2.mem ((c.tc : Thread Cert.InoKernelIdeal.nD Cert.InoKernelIdeal.τ).loc Cert.InoKernelIdeal.main_v0) = v0 c
          ∧ r.2.mem ((c.tc : Thread Cert.InoKernelIdeal.nD Cert.InoKernelIdeal.τ).loc Cert.InoKernelIdeal.main_arg0) = m ((c.tc : Thread Cert.InoKernelIdeal.nD Cert.InoKernelIdeal.τ).loc Cert.InoKernelIdeal.main_arg0)
          ∧ r.2.mem ((c.tc : Thread Cert.InoKernelIdeal.nD Cert.InoKernelIdeal.τ).loc Cert.InoKernelIdeal.main_arg1) = m ((c.tc : Thread Cert.InoKernelIdeal.nD Cert.InoKernelIdeal.τ).loc Cert.InoKernelIdeal.main_arg1))
      ∧ θ_run (Cert.InoReferenceIdeal.defs (F := Ideal)) (onTc (τ := Cert.InoReferenceIdeal.τ) (Cert.InoReferenceIdeal.main (F := Ideal))) ⟨m', fun _ => 0, g'⟩ (fun r => ∀ c : Dev Cert.InoReferenceIdeal.nD,
          r.2.mem ((c.tc : Thread Cert.InoReferenceIdeal.nD Cert.InoReferenceIdeal.τ).loc Cert.InoReferenceIdeal.main_v2) = v0 c
          ∧ r.2.mem ((c.tc : Thread Cert.InoReferenceIdeal.nD Cert.InoReferenceIdeal.τ).loc Cert.InoReferenceIdeal.main_arg0) = m' ((c.tc : Thread Cert.InoReferenceIdeal.nD Cert.InoReferenceIdeal.τ).loc Cert.InoReferenceIdeal.main_arg0)
          ∧ r.2.mem ((c.tc : Thread Cert.InoReferenceIdeal.nD Cert.InoReferenceIdeal.τ).loc Cert.InoReferenceIdeal.main_arg1) = m' ((c.tc : Thread Cert.InoReferenceIdeal.nD Cert.InoReferenceIdeal.τ).loc Cert.InoReferenceIdeal.main_arg1))

def preserves_XqKernel_XqKernelIdeal : Prop :=
  True

def algebraic_XqKernelIdeal_XqReferenceIdeal [hXqKernelIdeal : Cert.XqKernelIdeal.Facts] [hXqReferenceIdeal : Cert.XqReferenceIdeal.Facts] : Prop :=
  ∀ (m : (ℓ : Loc Cert.XqKernelIdeal.nD Cert.XqKernelIdeal.τ Cert.XqKernelIdeal.sig) → Buf (Elt Ideal) ℓ) (g : Dev Cert.XqKernelIdeal.nD → PrngReg)
    (m' : (ℓ : Loc Cert.XqReferenceIdeal.nD Cert.XqReferenceIdeal.τ Cert.XqReferenceIdeal.sig) → Buf (Elt Ideal) ℓ) (g' : Dev Cert.XqReferenceIdeal.nD → PrngReg), Pre_XqKernelIdeal m →
    (∀ c : Dev Cert.XqKernelIdeal.nD,
      m' ((c.tc : Thread Cert.XqReferenceIdeal.nD Cert.XqReferenceIdeal.τ).loc Cert.XqReferenceIdeal.main_arg0) = m ((c.tc : Thread Cert.XqKernelIdeal.nD Cert.XqKernelIdeal.τ).loc Cert.XqKernelIdeal.main_arg0)
      ∧ m' ((c.tc : Thread Cert.XqReferenceIdeal.nD Cert.XqReferenceIdeal.τ).loc Cert.XqReferenceIdeal.main_arg1) = m ((c.tc : Thread Cert.XqKernelIdeal.nD Cert.XqKernelIdeal.τ).loc Cert.XqKernelIdeal.main_arg1)) →
    ∃ (v0 : (c : Dev Cert.XqKernelIdeal.nD) → Buf (Elt Ideal) ((c.tc : Thread Cert.XqKernelIdeal.nD Cert.XqKernelIdeal.τ).loc Cert.XqKernelIdeal.main_v0)),
      θ_run (Cert.XqKernelIdeal.defs (F := Ideal)) (onTc (τ := Cert.XqKernelIdeal.τ) (Cert.XqKernelIdeal.main (F := Ideal))) ⟨m, fun _ => 0, g⟩ (fun r => ∀ c : Dev Cert.XqKernelIdeal.nD,
          r.2.mem ((c.tc : Thread Cert.XqKernelIdeal.nD Cert.XqKernelIdeal.τ).loc Cert.XqKernelIdeal.main_v0) = v0 c
          ∧ r.2.mem ((c.tc : Thread Cert.XqKernelIdeal.nD Cert.XqKernelIdeal.τ).loc Cert.XqKernelIdeal.main_arg0) = m ((c.tc : Thread Cert.XqKernelIdeal.nD Cert.XqKernelIdeal.τ).loc Cert.XqKernelIdeal.main_arg0)
          ∧ r.2.mem ((c.tc : Thread Cert.XqKernelIdeal.nD Cert.XqKernelIdeal.τ).loc Cert.XqKernelIdeal.main_arg1) = m ((c.tc : Thread Cert.XqKernelIdeal.nD Cert.XqKernelIdeal.τ).loc Cert.XqKernelIdeal.main_arg1))
      ∧ θ_run (Cert.XqReferenceIdeal.defs (F := Ideal)) (onTc (τ := Cert.XqReferenceIdeal.τ) (Cert.XqReferenceIdeal.main (F := Ideal))) ⟨m', fun _ => 0, g'⟩ (fun r => ∀ c : Dev Cert.XqReferenceIdeal.nD,
          r.2.mem ((c.tc : Thread Cert.XqReferenceIdeal.nD Cert.XqReferenceIdeal.τ).loc Cert.XqReferenceIdeal.main_v2) = v0 c
          ∧ r.2.mem ((c.tc : Thread Cert.XqReferenceIdeal.nD Cert.XqReferenceIdeal.τ).loc Cert.XqReferenceIdeal.main_arg0) = m' ((c.tc : Thread Cert.XqReferenceIdeal.nD Cert.XqReferenceIdeal.τ).loc Cert.XqReferenceIdeal.main_arg0)
          ∧ r.2.mem ((c.tc : Thread Cert.XqReferenceIdeal.nD Cert.XqReferenceIdeal.τ).loc Cert.XqReferenceIdeal.main_arg1) = m' ((c.tc : Thread Cert.XqReferenceIdeal.nD Cert.XqReferenceIdeal.τ).loc Cert.XqReferenceIdeal.main_arg1))

def preserves_OuteKernel_OuteKernelIdeal : Prop :=
  True

def algebraic_OuteKernelIdeal_OuteReferenceIdeal [hOuteKernelIdeal : Cert.OuteKernelIdeal.Facts] [hOuteReferenceIdeal : Cert.OuteReferenceIdeal.Facts] : Prop :=
  ∀ (m : (ℓ : Loc Cert.OuteKernelIdeal.nD Cert.OuteKernelIdeal.τ Cert.OuteKernelIdeal.sig) → Buf (Elt Ideal) ℓ) (g : Dev Cert.OuteKernelIdeal.nD → PrngReg)
    (m' : (ℓ : Loc Cert.OuteReferenceIdeal.nD Cert.OuteReferenceIdeal.τ Cert.OuteReferenceIdeal.sig) → Buf (Elt Ideal) ℓ) (g' : Dev Cert.OuteReferenceIdeal.nD → PrngReg), Pre_OuteKernelIdeal m →
    (∀ c : Dev Cert.OuteKernelIdeal.nD,
      m' ((c.tc : Thread Cert.OuteReferenceIdeal.nD Cert.OuteReferenceIdeal.τ).loc Cert.OuteReferenceIdeal.main_arg0) = m ((c.tc : Thread Cert.OuteKernelIdeal.nD Cert.OuteKernelIdeal.τ).loc Cert.OuteKernelIdeal.main_arg0)
      ∧ m' ((c.tc : Thread Cert.OuteReferenceIdeal.nD Cert.OuteReferenceIdeal.τ).loc Cert.OuteReferenceIdeal.main_arg1) = m ((c.tc : Thread Cert.OuteKernelIdeal.nD Cert.OuteKernelIdeal.τ).loc Cert.OuteKernelIdeal.main_arg1)
      ∧ m' ((c.tc : Thread Cert.OuteReferenceIdeal.nD Cert.OuteReferenceIdeal.τ).loc Cert.OuteReferenceIdeal.main_arg2) = m ((c.tc : Thread Cert.OuteKernelIdeal.nD Cert.OuteKernelIdeal.τ).loc Cert.OuteKernelIdeal.main_arg2)
      ∧ m' ((c.tc : Thread Cert.OuteReferenceIdeal.nD Cert.OuteReferenceIdeal.τ).loc Cert.OuteReferenceIdeal.main_arg3) = m ((c.tc : Thread Cert.OuteKernelIdeal.nD Cert.OuteKernelIdeal.τ).loc Cert.OuteKernelIdeal.main_arg3)) →
    ∃ (v0 : (c : Dev Cert.OuteKernelIdeal.nD) → Buf (Elt Ideal) ((c.tc : Thread Cert.OuteKernelIdeal.nD Cert.OuteKernelIdeal.τ).loc Cert.OuteKernelIdeal.main_v2)),
      θ_run (Cert.OuteKernelIdeal.defs (F := Ideal)) (onTc (τ := Cert.OuteKernelIdeal.τ) (Cert.OuteKernelIdeal.main (F := Ideal))) ⟨m, fun _ => 0, g⟩ (fun r => ∀ c : Dev Cert.OuteKernelIdeal.nD,
          r.2.mem ((c.tc : Thread Cert.OuteKernelIdeal.nD Cert.OuteKernelIdeal.τ).loc Cert.OuteKernelIdeal.main_v2) = v0 c
          ∧ r.2.mem ((c.tc : Thread Cert.OuteKernelIdeal.nD Cert.OuteKernelIdeal.τ).loc Cert.OuteKernelIdeal.main_arg0) = m ((c.tc : Thread Cert.OuteKernelIdeal.nD Cert.OuteKernelIdeal.τ).loc Cert.OuteKernelIdeal.main_arg0)
          ∧ r.2.mem ((c.tc : Thread Cert.OuteKernelIdeal.nD Cert.OuteKernelIdeal.τ).loc Cert.OuteKernelIdeal.main_arg1) = m ((c.tc : Thread Cert.OuteKernelIdeal.nD Cert.OuteKernelIdeal.τ).loc Cert.OuteKernelIdeal.main_arg1)
          ∧ r.2.mem ((c.tc : Thread Cert.OuteKernelIdeal.nD Cert.OuteKernelIdeal.τ).loc Cert.OuteKernelIdeal.main_arg2) = m ((c.tc : Thread Cert.OuteKernelIdeal.nD Cert.OuteKernelIdeal.τ).loc Cert.OuteKernelIdeal.main_arg2)
          ∧ r.2.mem ((c.tc : Thread Cert.OuteKernelIdeal.nD Cert.OuteKernelIdeal.τ).loc Cert.OuteKernelIdeal.main_arg3) = m ((c.tc : Thread Cert.OuteKernelIdeal.nD Cert.OuteKernelIdeal.τ).loc Cert.OuteKernelIdeal.main_arg3))
      ∧ θ_run (Cert.OuteReferenceIdeal.defs (F := Ideal)) (onTc (τ := Cert.OuteReferenceIdeal.τ) (Cert.OuteReferenceIdeal.main (F := Ideal))) ⟨m', fun _ => 0, g'⟩ (fun r => ∀ c : Dev Cert.OuteReferenceIdeal.nD,
          r.2.mem ((c.tc : Thread Cert.OuteReferenceIdeal.nD Cert.OuteReferenceIdeal.τ).loc Cert.OuteReferenceIdeal.main_v5) = v0 c
          ∧ r.2.mem ((c.tc : Thread Cert.OuteReferenceIdeal.nD Cert.OuteReferenceIdeal.τ).loc Cert.OuteReferenceIdeal.main_arg0) = m' ((c.tc : Thread Cert.OuteReferenceIdeal.nD Cert.OuteReferenceIdeal.τ).loc Cert.OuteReferenceIdeal.main_arg0)
          ∧ r.2.mem ((c.tc : Thread Cert.OuteReferenceIdeal.nD Cert.OuteReferenceIdeal.τ).loc Cert.OuteReferenceIdeal.main_arg1) = m' ((c.tc : Thread Cert.OuteReferenceIdeal.nD Cert.OuteReferenceIdeal.τ).loc Cert.OuteReferenceIdeal.main_arg1)
          ∧ r.2.mem ((c.tc : Thread Cert.OuteReferenceIdeal.nD Cert.OuteReferenceIdeal.τ).loc Cert.OuteReferenceIdeal.main_arg2) = m' ((c.tc : Thread Cert.OuteReferenceIdeal.nD Cert.OuteReferenceIdeal.τ).loc Cert.OuteReferenceIdeal.main_arg2)
          ∧ r.2.mem ((c.tc : Thread Cert.OuteReferenceIdeal.nD Cert.OuteReferenceIdeal.τ).loc Cert.OuteReferenceIdeal.main_arg3) = m' ((c.tc : Thread Cert.OuteReferenceIdeal.nD Cert.OuteReferenceIdeal.τ).loc Cert.OuteReferenceIdeal.main_arg3))

def preserves_OutoKernel_OutoKernelIdeal : Prop :=
  True

def algebraic_OutoKernelIdeal_OutoReferenceIdeal [hOutoKernelIdeal : Cert.OutoKernelIdeal.Facts] [hOutoReferenceIdeal : Cert.OutoReferenceIdeal.Facts] : Prop :=
  ∀ (m : (ℓ : Loc Cert.OutoKernelIdeal.nD Cert.OutoKernelIdeal.τ Cert.OutoKernelIdeal.sig) → Buf (Elt Ideal) ℓ) (g : Dev Cert.OutoKernelIdeal.nD → PrngReg)
    (m' : (ℓ : Loc Cert.OutoReferenceIdeal.nD Cert.OutoReferenceIdeal.τ Cert.OutoReferenceIdeal.sig) → Buf (Elt Ideal) ℓ) (g' : Dev Cert.OutoReferenceIdeal.nD → PrngReg), Pre_OutoKernelIdeal m →
    (∀ c : Dev Cert.OutoKernelIdeal.nD,
      m' ((c.tc : Thread Cert.OutoReferenceIdeal.nD Cert.OutoReferenceIdeal.τ).loc Cert.OutoReferenceIdeal.main_arg0) = m ((c.tc : Thread Cert.OutoKernelIdeal.nD Cert.OutoKernelIdeal.τ).loc Cert.OutoKernelIdeal.main_arg0)
      ∧ m' ((c.tc : Thread Cert.OutoReferenceIdeal.nD Cert.OutoReferenceIdeal.τ).loc Cert.OutoReferenceIdeal.main_arg1) = m ((c.tc : Thread Cert.OutoKernelIdeal.nD Cert.OutoKernelIdeal.τ).loc Cert.OutoKernelIdeal.main_arg1)
      ∧ m' ((c.tc : Thread Cert.OutoReferenceIdeal.nD Cert.OutoReferenceIdeal.τ).loc Cert.OutoReferenceIdeal.main_arg2) = m ((c.tc : Thread Cert.OutoKernelIdeal.nD Cert.OutoKernelIdeal.τ).loc Cert.OutoKernelIdeal.main_arg2)) →
    ∃ (v0 : (c : Dev Cert.OutoKernelIdeal.nD) → Buf (Elt Ideal) ((c.tc : Thread Cert.OutoKernelIdeal.nD Cert.OutoKernelIdeal.τ).loc Cert.OutoKernelIdeal.main_v0)),
      θ_run (Cert.OutoKernelIdeal.defs (F := Ideal)) (onTc (τ := Cert.OutoKernelIdeal.τ) (Cert.OutoKernelIdeal.main (F := Ideal))) ⟨m, fun _ => 0, g⟩ (fun r => ∀ c : Dev Cert.OutoKernelIdeal.nD,
          r.2.mem ((c.tc : Thread Cert.OutoKernelIdeal.nD Cert.OutoKernelIdeal.τ).loc Cert.OutoKernelIdeal.main_v0) = v0 c
          ∧ r.2.mem ((c.tc : Thread Cert.OutoKernelIdeal.nD Cert.OutoKernelIdeal.τ).loc Cert.OutoKernelIdeal.main_arg0) = m ((c.tc : Thread Cert.OutoKernelIdeal.nD Cert.OutoKernelIdeal.τ).loc Cert.OutoKernelIdeal.main_arg0)
          ∧ r.2.mem ((c.tc : Thread Cert.OutoKernelIdeal.nD Cert.OutoKernelIdeal.τ).loc Cert.OutoKernelIdeal.main_arg1) = m ((c.tc : Thread Cert.OutoKernelIdeal.nD Cert.OutoKernelIdeal.τ).loc Cert.OutoKernelIdeal.main_arg1)
          ∧ r.2.mem ((c.tc : Thread Cert.OutoKernelIdeal.nD Cert.OutoKernelIdeal.τ).loc Cert.OutoKernelIdeal.main_arg2) = m ((c.tc : Thread Cert.OutoKernelIdeal.nD Cert.OutoKernelIdeal.τ).loc Cert.OutoKernelIdeal.main_arg2))
      ∧ θ_run (Cert.OutoReferenceIdeal.defs (F := Ideal)) (onTc (τ := Cert.OutoReferenceIdeal.τ) (Cert.OutoReferenceIdeal.main (F := Ideal))) ⟨m', fun _ => 0, g'⟩ (fun r => ∀ c : Dev Cert.OutoReferenceIdeal.nD,
          r.2.mem ((c.tc : Thread Cert.OutoReferenceIdeal.nD Cert.OutoReferenceIdeal.τ).loc Cert.OutoReferenceIdeal.main_v3) = v0 c
          ∧ r.2.mem ((c.tc : Thread Cert.OutoReferenceIdeal.nD Cert.OutoReferenceIdeal.τ).loc Cert.OutoReferenceIdeal.main_arg0) = m' ((c.tc : Thread Cert.OutoReferenceIdeal.nD Cert.OutoReferenceIdeal.τ).loc Cert.OutoReferenceIdeal.main_arg0)
          ∧ r.2.mem ((c.tc : Thread Cert.OutoReferenceIdeal.nD Cert.OutoReferenceIdeal.τ).loc Cert.OutoReferenceIdeal.main_arg1) = m' ((c.tc : Thread Cert.OutoReferenceIdeal.nD Cert.OutoReferenceIdeal.τ).loc Cert.OutoReferenceIdeal.main_arg1)
          ∧ r.2.mem ((c.tc : Thread Cert.OutoReferenceIdeal.nD Cert.OutoReferenceIdeal.τ).loc Cert.OutoReferenceIdeal.main_arg2) = m' ((c.tc : Thread Cert.OutoReferenceIdeal.nD Cert.OutoReferenceIdeal.τ).loc Cert.OutoReferenceIdeal.main_arg2))

def preserves_XoKernel_XoKernelIdeal : Prop :=
  True

def algebraic_XoKernelIdeal_XoReferenceIdeal [hXoKernelIdeal : Cert.XoKernelIdeal.Facts] [hXoReferenceIdeal : Cert.XoReferenceIdeal.Facts] : Prop :=
  ∀ (m : (ℓ : Loc Cert.XoKernelIdeal.nD Cert.XoKernelIdeal.τ Cert.XoKernelIdeal.sig) → Buf (Elt Ideal) ℓ) (g : Dev Cert.XoKernelIdeal.nD → PrngReg)
    (m' : (ℓ : Loc Cert.XoReferenceIdeal.nD Cert.XoReferenceIdeal.τ Cert.XoReferenceIdeal.sig) → Buf (Elt Ideal) ℓ) (g' : Dev Cert.XoReferenceIdeal.nD → PrngReg), Pre_XoKernelIdeal m →
    (∀ c : Dev Cert.XoKernelIdeal.nD,
      m' ((c.tc : Thread Cert.XoReferenceIdeal.nD Cert.XoReferenceIdeal.τ).loc Cert.XoReferenceIdeal.main_arg0) = m ((c.tc : Thread Cert.XoKernelIdeal.nD Cert.XoKernelIdeal.τ).loc Cert.XoKernelIdeal.main_arg0)
      ∧ m' ((c.tc : Thread Cert.XoReferenceIdeal.nD Cert.XoReferenceIdeal.τ).loc Cert.XoReferenceIdeal.main_arg1) = m ((c.tc : Thread Cert.XoKernelIdeal.nD Cert.XoKernelIdeal.τ).loc Cert.XoKernelIdeal.main_arg1)
      ∧ m' ((c.tc : Thread Cert.XoReferenceIdeal.nD Cert.XoReferenceIdeal.τ).loc Cert.XoReferenceIdeal.main_arg2) = m ((c.tc : Thread Cert.XoKernelIdeal.nD Cert.XoKernelIdeal.τ).loc Cert.XoKernelIdeal.main_arg2)) →
    ∃ (v0 : (c : Dev Cert.XoKernelIdeal.nD) → Buf (Elt Ideal) ((c.tc : Thread Cert.XoKernelIdeal.nD Cert.XoKernelIdeal.τ).loc Cert.XoKernelIdeal.main_v0)),
      θ_run (Cert.XoKernelIdeal.defs (F := Ideal)) (onTc (τ := Cert.XoKernelIdeal.τ) (Cert.XoKernelIdeal.main (F := Ideal))) ⟨m, fun _ => 0, g⟩ (fun r => ∀ c : Dev Cert.XoKernelIdeal.nD,
          r.2.mem ((c.tc : Thread Cert.XoKernelIdeal.nD Cert.XoKernelIdeal.τ).loc Cert.XoKernelIdeal.main_v0) = v0 c
          ∧ r.2.mem ((c.tc : Thread Cert.XoKernelIdeal.nD Cert.XoKernelIdeal.τ).loc Cert.XoKernelIdeal.main_arg0) = m ((c.tc : Thread Cert.XoKernelIdeal.nD Cert.XoKernelIdeal.τ).loc Cert.XoKernelIdeal.main_arg0)
          ∧ r.2.mem ((c.tc : Thread Cert.XoKernelIdeal.nD Cert.XoKernelIdeal.τ).loc Cert.XoKernelIdeal.main_arg1) = m ((c.tc : Thread Cert.XoKernelIdeal.nD Cert.XoKernelIdeal.τ).loc Cert.XoKernelIdeal.main_arg1)
          ∧ r.2.mem ((c.tc : Thread Cert.XoKernelIdeal.nD Cert.XoKernelIdeal.τ).loc Cert.XoKernelIdeal.main_arg2) = m ((c.tc : Thread Cert.XoKernelIdeal.nD Cert.XoKernelIdeal.τ).loc Cert.XoKernelIdeal.main_arg2))
      ∧ θ_run (Cert.XoReferenceIdeal.defs (F := Ideal)) (onTc (τ := Cert.XoReferenceIdeal.τ) (Cert.XoReferenceIdeal.main (F := Ideal))) ⟨m', fun _ => 0, g'⟩ (fun r => ∀ c : Dev Cert.XoReferenceIdeal.nD,
          r.2.mem ((c.tc : Thread Cert.XoReferenceIdeal.nD Cert.XoReferenceIdeal.τ).loc Cert.XoReferenceIdeal.main_v3) = v0 c
          ∧ r.2.mem ((c.tc : Thread Cert.XoReferenceIdeal.nD Cert.XoReferenceIdeal.τ).loc Cert.XoReferenceIdeal.main_arg0) = m' ((c.tc : Thread Cert.XoReferenceIdeal.nD Cert.XoReferenceIdeal.τ).loc Cert.XoReferenceIdeal.main_arg0)
          ∧ r.2.mem ((c.tc : Thread Cert.XoReferenceIdeal.nD Cert.XoReferenceIdeal.τ).loc Cert.XoReferenceIdeal.main_arg1) = m' ((c.tc : Thread Cert.XoReferenceIdeal.nD Cert.XoReferenceIdeal.τ).loc Cert.XoReferenceIdeal.main_arg1)
          ∧ r.2.mem ((c.tc : Thread Cert.XoReferenceIdeal.nD Cert.XoReferenceIdeal.τ).loc Cert.XoReferenceIdeal.main_arg2) = m' ((c.tc : Thread Cert.XoReferenceIdeal.nD Cert.XoReferenceIdeal.τ).loc Cert.XoReferenceIdeal.main_arg2))

def preserves_DwieKernel_DwieKernelIdeal : Prop :=
  True

def algebraic_DwieKernelIdeal_DwieReferenceIdeal [hDwieKernelIdeal : Cert.DwieKernelIdeal.Facts] [hDwieReferenceIdeal : Cert.DwieReferenceIdeal.Facts] : Prop :=
  ∀ (m : (ℓ : Loc Cert.DwieKernelIdeal.nD Cert.DwieKernelIdeal.τ Cert.DwieKernelIdeal.sig) → Buf (Elt Ideal) ℓ) (g : Dev Cert.DwieKernelIdeal.nD → PrngReg)
    (m' : (ℓ : Loc Cert.DwieReferenceIdeal.nD Cert.DwieReferenceIdeal.τ Cert.DwieReferenceIdeal.sig) → Buf (Elt Ideal) ℓ) (g' : Dev Cert.DwieReferenceIdeal.nD → PrngReg), Pre_DwieKernelIdeal m →
    (∀ c : Dev Cert.DwieKernelIdeal.nD,
      m' ((c.tc : Thread Cert.DwieReferenceIdeal.nD Cert.DwieReferenceIdeal.τ).loc Cert.DwieReferenceIdeal.main_arg0) = m ((c.tc : Thread Cert.DwieKernelIdeal.nD Cert.DwieKernelIdeal.τ).loc Cert.DwieKernelIdeal.main_arg0)
      ∧ m' ((c.tc : Thread Cert.DwieReferenceIdeal.nD Cert.DwieReferenceIdeal.τ).loc Cert.DwieReferenceIdeal.main_arg1) = m ((c.tc : Thread Cert.DwieKernelIdeal.nD Cert.DwieKernelIdeal.τ).loc Cert.DwieKernelIdeal.main_arg1)) →
    ∃ (v0 : (c : Dev Cert.DwieKernelIdeal.nD) → Buf (Elt Ideal) ((c.tc : Thread Cert.DwieKernelIdeal.nD Cert.DwieKernelIdeal.τ).loc Cert.DwieKernelIdeal.main_v0)),
      θ_run (Cert.DwieKernelIdeal.defs (F := Ideal)) (onTc (τ := Cert.DwieKernelIdeal.τ) (Cert.DwieKernelIdeal.main (F := Ideal))) ⟨m, fun _ => 0, g⟩ (fun r => ∀ c : Dev Cert.DwieKernelIdeal.nD,
          r.2.mem ((c.tc : Thread Cert.DwieKernelIdeal.nD Cert.DwieKernelIdeal.τ).loc Cert.DwieKernelIdeal.main_v0) = v0 c
          ∧ r.2.mem ((c.tc : Thread Cert.DwieKernelIdeal.nD Cert.DwieKernelIdeal.τ).loc Cert.DwieKernelIdeal.main_arg0) = m ((c.tc : Thread Cert.DwieKernelIdeal.nD Cert.DwieKernelIdeal.τ).loc Cert.DwieKernelIdeal.main_arg0)
          ∧ r.2.mem ((c.tc : Thread Cert.DwieKernelIdeal.nD Cert.DwieKernelIdeal.τ).loc Cert.DwieKernelIdeal.main_arg1) = m ((c.tc : Thread Cert.DwieKernelIdeal.nD Cert.DwieKernelIdeal.τ).loc Cert.DwieKernelIdeal.main_arg1))
      ∧ θ_run (Cert.DwieReferenceIdeal.defs (F := Ideal)) (onTc (τ := Cert.DwieReferenceIdeal.τ) (Cert.DwieReferenceIdeal.main (F := Ideal))) ⟨m', fun _ => 0, g'⟩ (fun r => ∀ c : Dev Cert.DwieReferenceIdeal.nD,
          r.2.mem ((c.tc : Thread Cert.DwieReferenceIdeal.nD Cert.DwieReferenceIdeal.τ).loc Cert.DwieReferenceIdeal.main_v5) = v0 c
          ∧ r.2.mem ((c.tc : Thread Cert.DwieReferenceIdeal.nD Cert.DwieReferenceIdeal.τ).loc Cert.DwieReferenceIdeal.main_arg0) = m' ((c.tc : Thread Cert.DwieReferenceIdeal.nD Cert.DwieReferenceIdeal.τ).loc Cert.DwieReferenceIdeal.main_arg0)
          ∧ r.2.mem ((c.tc : Thread Cert.DwieReferenceIdeal.nD Cert.DwieReferenceIdeal.τ).loc Cert.DwieReferenceIdeal.main_arg1) = m' ((c.tc : Thread Cert.DwieReferenceIdeal.nD Cert.DwieReferenceIdeal.τ).loc Cert.DwieReferenceIdeal.main_arg1))

def preserves_DwioKernel_DwioKernelIdeal : Prop :=
  True

def algebraic_DwioKernelIdeal_DwioReferenceIdeal [hDwioKernelIdeal : Cert.DwioKernelIdeal.Facts] [hDwioReferenceIdeal : Cert.DwioReferenceIdeal.Facts] : Prop :=
  ∀ (m : (ℓ : Loc Cert.DwioKernelIdeal.nD Cert.DwioKernelIdeal.τ Cert.DwioKernelIdeal.sig) → Buf (Elt Ideal) ℓ) (g : Dev Cert.DwioKernelIdeal.nD → PrngReg)
    (m' : (ℓ : Loc Cert.DwioReferenceIdeal.nD Cert.DwioReferenceIdeal.τ Cert.DwioReferenceIdeal.sig) → Buf (Elt Ideal) ℓ) (g' : Dev Cert.DwioReferenceIdeal.nD → PrngReg), Pre_DwioKernelIdeal m →
    (∀ c : Dev Cert.DwioKernelIdeal.nD,
      m' ((c.tc : Thread Cert.DwioReferenceIdeal.nD Cert.DwioReferenceIdeal.τ).loc Cert.DwioReferenceIdeal.main_arg0) = m ((c.tc : Thread Cert.DwioKernelIdeal.nD Cert.DwioKernelIdeal.τ).loc Cert.DwioKernelIdeal.main_arg0)
      ∧ m' ((c.tc : Thread Cert.DwioReferenceIdeal.nD Cert.DwioReferenceIdeal.τ).loc Cert.DwioReferenceIdeal.main_arg1) = m ((c.tc : Thread Cert.DwioKernelIdeal.nD Cert.DwioKernelIdeal.τ).loc Cert.DwioKernelIdeal.main_arg1)) →
    ∃ (v0 : (c : Dev Cert.DwioKernelIdeal.nD) → Buf (Elt Ideal) ((c.tc : Thread Cert.DwioKernelIdeal.nD Cert.DwioKernelIdeal.τ).loc Cert.DwioKernelIdeal.main_v0)),
      θ_run (Cert.DwioKernelIdeal.defs (F := Ideal)) (onTc (τ := Cert.DwioKernelIdeal.τ) (Cert.DwioKernelIdeal.main (F := Ideal))) ⟨m, fun _ => 0, g⟩ (fun r => ∀ c : Dev Cert.DwioKernelIdeal.nD,
          r.2.mem ((c.tc : Thread Cert.DwioKernelIdeal.nD Cert.DwioKernelIdeal.τ).loc Cert.DwioKernelIdeal.main_v0) = v0 c
          ∧ r.2.mem ((c.tc : Thread Cert.DwioKernelIdeal.nD Cert.DwioKernelIdeal.τ).loc Cert.DwioKernelIdeal.main_arg0) = m ((c.tc : Thread Cert.DwioKernelIdeal.nD Cert.DwioKernelIdeal.τ).loc Cert.DwioKernelIdeal.main_arg0)
          ∧ r.2.mem ((c.tc : Thread Cert.DwioKernelIdeal.nD Cert.DwioKernelIdeal.τ).loc Cert.DwioKernelIdeal.main_arg1) = m ((c.tc : Thread Cert.DwioKernelIdeal.nD Cert.DwioKernelIdeal.τ).loc Cert.DwioKernelIdeal.main_arg1))
      ∧ θ_run (Cert.DwioReferenceIdeal.defs (F := Ideal)) (onTc (τ := Cert.DwioReferenceIdeal.τ) (Cert.DwioReferenceIdeal.main (F := Ideal))) ⟨m', fun _ => 0, g'⟩ (fun r => ∀ c : Dev Cert.DwioReferenceIdeal.nD,
          r.2.mem ((c.tc : Thread Cert.DwioReferenceIdeal.nD Cert.DwioReferenceIdeal.τ).loc Cert.DwioReferenceIdeal.main_v5) = v0 c
          ∧ r.2.mem ((c.tc : Thread Cert.DwioReferenceIdeal.nD Cert.DwioReferenceIdeal.τ).loc Cert.DwioReferenceIdeal.main_arg0) = m' ((c.tc : Thread Cert.DwioReferenceIdeal.nD Cert.DwioReferenceIdeal.τ).loc Cert.DwioReferenceIdeal.main_arg0)
          ∧ r.2.mem ((c.tc : Thread Cert.DwioReferenceIdeal.nD Cert.DwioReferenceIdeal.τ).loc Cert.DwioReferenceIdeal.main_arg1) = m' ((c.tc : Thread Cert.DwioReferenceIdeal.nD Cert.DwioReferenceIdeal.τ).loc Cert.DwioReferenceIdeal.main_arg1))

def preserves_DwqKernel_DwqKernelIdeal : Prop :=
  True

def algebraic_DwqKernelIdeal_DwqReferenceIdeal [hDwqKernelIdeal : Cert.DwqKernelIdeal.Facts] [hDwqReferenceIdeal : Cert.DwqReferenceIdeal.Facts] : Prop :=
  ∀ (m : (ℓ : Loc Cert.DwqKernelIdeal.nD Cert.DwqKernelIdeal.τ Cert.DwqKernelIdeal.sig) → Buf (Elt Ideal) ℓ) (g : Dev Cert.DwqKernelIdeal.nD → PrngReg)
    (m' : (ℓ : Loc Cert.DwqReferenceIdeal.nD Cert.DwqReferenceIdeal.τ Cert.DwqReferenceIdeal.sig) → Buf (Elt Ideal) ℓ) (g' : Dev Cert.DwqReferenceIdeal.nD → PrngReg), Pre_DwqKernelIdeal m →
    (∀ c : Dev Cert.DwqKernelIdeal.nD,
      m' ((c.tc : Thread Cert.DwqReferenceIdeal.nD Cert.DwqReferenceIdeal.τ).loc Cert.DwqReferenceIdeal.main_arg0) = m ((c.tc : Thread Cert.DwqKernelIdeal.nD Cert.DwqKernelIdeal.τ).loc Cert.DwqKernelIdeal.main_arg0)
      ∧ m' ((c.tc : Thread Cert.DwqReferenceIdeal.nD Cert.DwqReferenceIdeal.τ).loc Cert.DwqReferenceIdeal.main_arg1) = m ((c.tc : Thread Cert.DwqKernelIdeal.nD Cert.DwqKernelIdeal.τ).loc Cert.DwqKernelIdeal.main_arg1)) →
    ∃ (v0 : (c : Dev Cert.DwqKernelIdeal.nD) → Buf (Elt Ideal) ((c.tc : Thread Cert.DwqKernelIdeal.nD Cert.DwqKernelIdeal.τ).loc Cert.DwqKernelIdeal.main_v0)),
      θ_run (Cert.DwqKernelIdeal.defs (F := Ideal)) (onTc (τ := Cert.DwqKernelIdeal.τ) (Cert.DwqKernelIdeal.main (F := Ideal))) ⟨m, fun _ => 0, g⟩ (fun r => ∀ c : Dev Cert.DwqKernelIdeal.nD,
          r.2.mem ((c.tc : Thread Cert.DwqKernelIdeal.nD Cert.DwqKernelIdeal.τ).loc Cert.DwqKernelIdeal.main_v0) = v0 c
          ∧ r.2.mem ((c.tc : Thread Cert.DwqKernelIdeal.nD Cert.DwqKernelIdeal.τ).loc Cert.DwqKernelIdeal.main_arg0) = m ((c.tc : Thread Cert.DwqKernelIdeal.nD Cert.DwqKernelIdeal.τ).loc Cert.DwqKernelIdeal.main_arg0)
          ∧ r.2.mem ((c.tc : Thread Cert.DwqKernelIdeal.nD Cert.DwqKernelIdeal.τ).loc Cert.DwqKernelIdeal.main_arg1) = m ((c.tc : Thread Cert.DwqKernelIdeal.nD Cert.DwqKernelIdeal.τ).loc Cert.DwqKernelIdeal.main_arg1))
      ∧ θ_run (Cert.DwqReferenceIdeal.defs (F := Ideal)) (onTc (τ := Cert.DwqReferenceIdeal.τ) (Cert.DwqReferenceIdeal.main (F := Ideal))) ⟨m', fun _ => 0, g'⟩ (fun r => ∀ c : Dev Cert.DwqReferenceIdeal.nD,
          r.2.mem ((c.tc : Thread Cert.DwqReferenceIdeal.nD Cert.DwqReferenceIdeal.τ).loc Cert.DwqReferenceIdeal.main_v5) = v0 c
          ∧ r.2.mem ((c.tc : Thread Cert.DwqReferenceIdeal.nD Cert.DwqReferenceIdeal.τ).loc Cert.DwqReferenceIdeal.main_arg0) = m' ((c.tc : Thread Cert.DwqReferenceIdeal.nD Cert.DwqReferenceIdeal.τ).loc Cert.DwqReferenceIdeal.main_arg0)
          ∧ r.2.mem ((c.tc : Thread Cert.DwqReferenceIdeal.nD Cert.DwqReferenceIdeal.τ).loc Cert.DwqReferenceIdeal.main_arg1) = m' ((c.tc : Thread Cert.DwqReferenceIdeal.nD Cert.DwqReferenceIdeal.τ).loc Cert.DwqReferenceIdeal.main_arg1))

def preserves_DwcKernel_DwcKernelIdeal : Prop :=
  True

def algebraic_DwcKernelIdeal_DwcReferenceIdeal [hDwcKernelIdeal : Cert.DwcKernelIdeal.Facts] [hDwcReferenceIdeal : Cert.DwcReferenceIdeal.Facts] : Prop :=
  ∀ (m : (ℓ : Loc Cert.DwcKernelIdeal.nD Cert.DwcKernelIdeal.τ Cert.DwcKernelIdeal.sig) → Buf (Elt Ideal) ℓ) (g : Dev Cert.DwcKernelIdeal.nD → PrngReg)
    (m' : (ℓ : Loc Cert.DwcReferenceIdeal.nD Cert.DwcReferenceIdeal.τ Cert.DwcReferenceIdeal.sig) → Buf (Elt Ideal) ℓ) (g' : Dev Cert.DwcReferenceIdeal.nD → PrngReg), Pre_DwcKernelIdeal m →
    (∀ c : Dev Cert.DwcKernelIdeal.nD,
      m' ((c.tc : Thread Cert.DwcReferenceIdeal.nD Cert.DwcReferenceIdeal.τ).loc Cert.DwcReferenceIdeal.main_arg0) = m ((c.tc : Thread Cert.DwcKernelIdeal.nD Cert.DwcKernelIdeal.τ).loc Cert.DwcKernelIdeal.main_arg0)
      ∧ m' ((c.tc : Thread Cert.DwcReferenceIdeal.nD Cert.DwcReferenceIdeal.τ).loc Cert.DwcReferenceIdeal.main_arg1) = m ((c.tc : Thread Cert.DwcKernelIdeal.nD Cert.DwcKernelIdeal.τ).loc Cert.DwcKernelIdeal.main_arg1)) →
    ∃ (v0 : (c : Dev Cert.DwcKernelIdeal.nD) → Buf (Elt Ideal) ((c.tc : Thread Cert.DwcKernelIdeal.nD Cert.DwcKernelIdeal.τ).loc Cert.DwcKernelIdeal.main_v0)),
      θ_run (Cert.DwcKernelIdeal.defs (F := Ideal)) (onTc (τ := Cert.DwcKernelIdeal.τ) (Cert.DwcKernelIdeal.main (F := Ideal))) ⟨m, fun _ => 0, g⟩ (fun r => ∀ c : Dev Cert.DwcKernelIdeal.nD,
          r.2.mem ((c.tc : Thread Cert.DwcKernelIdeal.nD Cert.DwcKernelIdeal.τ).loc Cert.DwcKernelIdeal.main_v0) = v0 c
          ∧ r.2.mem ((c.tc : Thread Cert.DwcKernelIdeal.nD Cert.DwcKernelIdeal.τ).loc Cert.DwcKernelIdeal.main_arg0) = m ((c.tc : Thread Cert.DwcKernelIdeal.nD Cert.DwcKernelIdeal.τ).loc Cert.DwcKernelIdeal.main_arg0)
          ∧ r.2.mem ((c.tc : Thread Cert.DwcKernelIdeal.nD Cert.DwcKernelIdeal.τ).loc Cert.DwcKernelIdeal.main_arg1) = m ((c.tc : Thread Cert.DwcKernelIdeal.nD Cert.DwcKernelIdeal.τ).loc Cert.DwcKernelIdeal.main_arg1))
      ∧ θ_run (Cert.DwcReferenceIdeal.defs (F := Ideal)) (onTc (τ := Cert.DwcReferenceIdeal.τ) (Cert.DwcReferenceIdeal.main (F := Ideal))) ⟨m', fun _ => 0, g'⟩ (fun r => ∀ c : Dev Cert.DwcReferenceIdeal.nD,
          r.2.mem ((c.tc : Thread Cert.DwcReferenceIdeal.nD Cert.DwcReferenceIdeal.τ).loc Cert.DwcReferenceIdeal.main_v4) = v0 c
          ∧ r.2.mem ((c.tc : Thread Cert.DwcReferenceIdeal.nD Cert.DwcReferenceIdeal.τ).loc Cert.DwcReferenceIdeal.main_arg0) = m' ((c.tc : Thread Cert.DwcReferenceIdeal.nD Cert.DwcReferenceIdeal.τ).loc Cert.DwcReferenceIdeal.main_arg0)
          ∧ r.2.mem ((c.tc : Thread Cert.DwcReferenceIdeal.nD Cert.DwcReferenceIdeal.τ).loc Cert.DwcReferenceIdeal.main_arg1) = m' ((c.tc : Thread Cert.DwcReferenceIdeal.nD Cert.DwcReferenceIdeal.τ).loc Cert.DwcReferenceIdeal.main_arg1))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)) →
    ∃ (v0 : (c : Dev Cert.DwoKernelIdeal.nD) → Buf (Elt Ideal) ((c.tc : Thread Cert.DwoKernelIdeal.nD Cert.DwoKernelIdeal.τ).loc Cert.DwoKernelIdeal.main_v0)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v0) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v4) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1))

def preserves_DheKernel_DheKernelIdeal : Prop :=
  True

def algebraic_DheKernelIdeal_DheReferenceIdeal [hDheKernelIdeal : Cert.DheKernelIdeal.Facts] [hDheReferenceIdeal : Cert.DheReferenceIdeal.Facts] : Prop :=
  ∀ (m : (ℓ : Loc Cert.DheKernelIdeal.nD Cert.DheKernelIdeal.τ Cert.DheKernelIdeal.sig) → Buf (Elt Ideal) ℓ) (g : Dev Cert.DheKernelIdeal.nD → PrngReg)
    (m' : (ℓ : Loc Cert.DheReferenceIdeal.nD Cert.DheReferenceIdeal.τ Cert.DheReferenceIdeal.sig) → Buf (Elt Ideal) ℓ) (g' : Dev Cert.DheReferenceIdeal.nD → PrngReg), Pre_DheKernelIdeal m →
    (∀ c : Dev Cert.DheKernelIdeal.nD,
      m' ((c.tc : Thread Cert.DheReferenceIdeal.nD Cert.DheReferenceIdeal.τ).loc Cert.DheReferenceIdeal.main_arg0) = m ((c.tc : Thread Cert.DheKernelIdeal.nD Cert.DheKernelIdeal.τ).loc Cert.DheKernelIdeal.main_arg0)
      ∧ m' ((c.tc : Thread Cert.DheReferenceIdeal.nD Cert.DheReferenceIdeal.τ).loc Cert.DheReferenceIdeal.main_arg1) = m ((c.tc : Thread Cert.DheKernelIdeal.nD Cert.DheKernelIdeal.τ).loc Cert.DheKernelIdeal.main_arg1)
      ∧ m' ((c.tc : Thread Cert.DheReferenceIdeal.nD Cert.DheReferenceIdeal.τ).loc Cert.DheReferenceIdeal.main_arg2) = m ((c.tc : Thread Cert.DheKernelIdeal.nD Cert.DheKernelIdeal.τ).loc Cert.DheKernelIdeal.main_arg2)
      ∧ m' ((c.tc : Thread Cert.DheReferenceIdeal.nD Cert.DheReferenceIdeal.τ).loc Cert.DheReferenceIdeal.main_arg3) = m ((c.tc : Thread Cert.DheKernelIdeal.nD Cert.DheKernelIdeal.τ).loc Cert.DheKernelIdeal.main_arg3)
      ∧ m' ((c.tc : Thread Cert.DheReferenceIdeal.nD Cert.DheReferenceIdeal.τ).loc Cert.DheReferenceIdeal.main_arg4) = m ((c.tc : Thread Cert.DheKernelIdeal.nD Cert.DheKernelIdeal.τ).loc Cert.DheKernelIdeal.main_arg4)) →
    ∃ (v0 : (c : Dev Cert.DheKernelIdeal.nD) → Buf (Elt Ideal) ((c.tc : Thread Cert.DheKernelIdeal.nD Cert.DheKernelIdeal.τ).loc Cert.DheKernelIdeal.main_v1_0)) (v1 : (c : Dev Cert.DheKernelIdeal.nD) → Buf (Elt Ideal) ((c.tc : Thread Cert.DheKernelIdeal.nD Cert.DheKernelIdeal.τ).loc Cert.DheKernelIdeal.main_v1_1)),
      θ_run (Cert.DheKernelIdeal.defs (F := Ideal)) (onTc (τ := Cert.DheKernelIdeal.τ) (Cert.DheKernelIdeal.main (F := Ideal))) ⟨m, fun _ => 0, g⟩ (fun r => ∀ c : Dev Cert.DheKernelIdeal.nD,
          r.2.mem ((c.tc : Thread Cert.DheKernelIdeal.nD Cert.DheKernelIdeal.τ).loc Cert.DheKernelIdeal.main_v1_0) = v0 c
          ∧ r.2.mem ((c.tc : Thread Cert.DheKernelIdeal.nD Cert.DheKernelIdeal.τ).loc Cert.DheKernelIdeal.main_v1_1) = v1 c
          ∧ r.2.mem ((c.tc : Thread Cert.DheKernelIdeal.nD Cert.DheKernelIdeal.τ).loc Cert.DheKernelIdeal.main_arg0) = m ((c.tc : Thread Cert.DheKernelIdeal.nD Cert.DheKernelIdeal.τ).loc Cert.DheKernelIdeal.main_arg0)
          ∧ r.2.mem ((c.tc : Thread Cert.DheKernelIdeal.nD Cert.DheKernelIdeal.τ).loc Cert.DheKernelIdeal.main_arg1) = m ((c.tc : Thread Cert.DheKernelIdeal.nD Cert.DheKernelIdeal.τ).loc Cert.DheKernelIdeal.main_arg1)
          ∧ r.2.mem ((c.tc : Thread Cert.DheKernelIdeal.nD Cert.DheKernelIdeal.τ).loc Cert.DheKernelIdeal.main_arg2) = m ((c.tc : Thread Cert.DheKernelIdeal.nD Cert.DheKernelIdeal.τ).loc Cert.DheKernelIdeal.main_arg2)
          ∧ r.2.mem ((c.tc : Thread Cert.DheKernelIdeal.nD Cert.DheKernelIdeal.τ).loc Cert.DheKernelIdeal.main_arg3) = m ((c.tc : Thread Cert.DheKernelIdeal.nD Cert.DheKernelIdeal.τ).loc Cert.DheKernelIdeal.main_arg3)
          ∧ r.2.mem ((c.tc : Thread Cert.DheKernelIdeal.nD Cert.DheKernelIdeal.τ).loc Cert.DheKernelIdeal.main_arg4) = m ((c.tc : Thread Cert.DheKernelIdeal.nD Cert.DheKernelIdeal.τ).loc Cert.DheKernelIdeal.main_arg4))
      ∧ θ_run (Cert.DheReferenceIdeal.defs (F := Ideal)) (onTc (τ := Cert.DheReferenceIdeal.τ) (Cert.DheReferenceIdeal.main (F := Ideal))) ⟨m', fun _ => 0, g'⟩ (fun r => ∀ c : Dev Cert.DheReferenceIdeal.nD,
          r.2.mem ((c.tc : Thread Cert.DheReferenceIdeal.nD Cert.DheReferenceIdeal.τ).loc Cert.DheReferenceIdeal.main_v40) = v0 c
          ∧ r.2.mem ((c.tc : Thread Cert.DheReferenceIdeal.nD Cert.DheReferenceIdeal.τ).loc Cert.DheReferenceIdeal.main_v41) = v1 c
          ∧ r.2.mem ((c.tc : Thread Cert.DheReferenceIdeal.nD Cert.DheReferenceIdeal.τ).loc Cert.DheReferenceIdeal.main_arg0) = m' ((c.tc : Thread Cert.DheReferenceIdeal.nD Cert.DheReferenceIdeal.τ).loc Cert.DheReferenceIdeal.main_arg0)
          ∧ r.2.mem ((c.tc : Thread Cert.DheReferenceIdeal.nD Cert.DheReferenceIdeal.τ).loc Cert.DheReferenceIdeal.main_arg1) = m' ((c.tc : Thread Cert.DheReferenceIdeal.nD Cert.DheReferenceIdeal.τ).loc Cert.DheReferenceIdeal.main_arg1)
          ∧ r.2.mem ((c.tc : Thread Cert.DheReferenceIdeal.nD Cert.DheReferenceIdeal.τ).loc Cert.DheReferenceIdeal.main_arg2) = m' ((c.tc : Thread Cert.DheReferenceIdeal.nD Cert.DheReferenceIdeal.τ).loc Cert.DheReferenceIdeal.main_arg2)
          ∧ r.2.mem ((c.tc : Thread Cert.DheReferenceIdeal.nD Cert.DheReferenceIdeal.τ).loc Cert.DheReferenceIdeal.main_arg3) = m' ((c.tc : Thread Cert.DheReferenceIdeal.nD Cert.DheReferenceIdeal.τ).loc Cert.DheReferenceIdeal.main_arg3)
          ∧ r.2.mem ((c.tc : Thread Cert.DheReferenceIdeal.nD Cert.DheReferenceIdeal.τ).loc Cert.DheReferenceIdeal.main_arg4) = m' ((c.tc : Thread Cert.DheReferenceIdeal.nD Cert.DheReferenceIdeal.τ).loc Cert.DheReferenceIdeal.main_arg4))

def preserves_DhoKernel_DhoKernelIdeal : Prop :=
  True

def algebraic_DhoKernelIdeal_DhoReferenceIdeal [hDhoKernelIdeal : Cert.DhoKernelIdeal.Facts] [hDhoReferenceIdeal : Cert.DhoReferenceIdeal.Facts] : Prop :=
  ∀ (m : (ℓ : Loc Cert.DhoKernelIdeal.nD Cert.DhoKernelIdeal.τ Cert.DhoKernelIdeal.sig) → Buf (Elt Ideal) ℓ) (g : Dev Cert.DhoKernelIdeal.nD → PrngReg)
    (m' : (ℓ : Loc Cert.DhoReferenceIdeal.nD Cert.DhoReferenceIdeal.τ Cert.DhoReferenceIdeal.sig) → Buf (Elt Ideal) ℓ) (g' : Dev Cert.DhoReferenceIdeal.nD → PrngReg), Pre_DhoKernelIdeal m →
    (∀ c : Dev Cert.DhoKernelIdeal.nD,
      m' ((c.tc : Thread Cert.DhoReferenceIdeal.nD Cert.DhoReferenceIdeal.τ).loc Cert.DhoReferenceIdeal.main_arg0) = m ((c.tc : Thread Cert.DhoKernelIdeal.nD Cert.DhoKernelIdeal.τ).loc Cert.DhoKernelIdeal.main_arg0)
      ∧ m' ((c.tc : Thread Cert.DhoReferenceIdeal.nD Cert.DhoReferenceIdeal.τ).loc Cert.DhoReferenceIdeal.main_arg1) = m ((c.tc : Thread Cert.DhoKernelIdeal.nD Cert.DhoKernelIdeal.τ).loc Cert.DhoKernelIdeal.main_arg1)
      ∧ m' ((c.tc : Thread Cert.DhoReferenceIdeal.nD Cert.DhoReferenceIdeal.τ).loc Cert.DhoReferenceIdeal.main_arg2) = m ((c.tc : Thread Cert.DhoKernelIdeal.nD Cert.DhoKernelIdeal.τ).loc Cert.DhoKernelIdeal.main_arg2)
      ∧ m' ((c.tc : Thread Cert.DhoReferenceIdeal.nD Cert.DhoReferenceIdeal.τ).loc Cert.DhoReferenceIdeal.main_arg3) = m ((c.tc : Thread Cert.DhoKernelIdeal.nD Cert.DhoKernelIdeal.τ).loc Cert.DhoKernelIdeal.main_arg3)
      ∧ m' ((c.tc : Thread Cert.DhoReferenceIdeal.nD Cert.DhoReferenceIdeal.τ).loc Cert.DhoReferenceIdeal.main_arg4) = m ((c.tc : Thread Cert.DhoKernelIdeal.nD Cert.DhoKernelIdeal.τ).loc Cert.DhoKernelIdeal.main_arg4)) →
    ∃ (v0 : (c : Dev Cert.DhoKernelIdeal.nD) → Buf (Elt Ideal) ((c.tc : Thread Cert.DhoKernelIdeal.nD Cert.DhoKernelIdeal.τ).loc Cert.DhoKernelIdeal.main_v1_0)) (v1 : (c : Dev Cert.DhoKernelIdeal.nD) → Buf (Elt Ideal) ((c.tc : Thread Cert.DhoKernelIdeal.nD Cert.DhoKernelIdeal.τ).loc Cert.DhoKernelIdeal.main_v1_1)),
      θ_run (Cert.DhoKernelIdeal.defs (F := Ideal)) (onTc (τ := Cert.DhoKernelIdeal.τ) (Cert.DhoKernelIdeal.main (F := Ideal))) ⟨m, fun _ => 0, g⟩ (fun r => ∀ c : Dev Cert.DhoKernelIdeal.nD,
          r.2.mem ((c.tc : Thread Cert.DhoKernelIdeal.nD Cert.DhoKernelIdeal.τ).loc Cert.DhoKernelIdeal.main_v1_0) = v0 c
          ∧ r.2.mem ((c.tc : Thread Cert.DhoKernelIdeal.nD Cert.DhoKernelIdeal.τ).loc Cert.DhoKernelIdeal.main_v1_1) = v1 c
          ∧ r.2.mem ((c.tc : Thread Cert.DhoKernelIdeal.nD Cert.DhoKernelIdeal.τ).loc Cert.DhoKernelIdeal.main_arg0) = m ((c.tc : Thread Cert.DhoKernelIdeal.nD Cert.DhoKernelIdeal.τ).loc Cert.DhoKernelIdeal.main_arg0)
          ∧ r.2.mem ((c.tc : Thread Cert.DhoKernelIdeal.nD Cert.DhoKernelIdeal.τ).loc Cert.DhoKernelIdeal.main_arg1) = m ((c.tc : Thread Cert.DhoKernelIdeal.nD Cert.DhoKernelIdeal.τ).loc Cert.DhoKernelIdeal.main_arg1)
          ∧ r.2.mem ((c.tc : Thread Cert.DhoKernelIdeal.nD Cert.DhoKernelIdeal.τ).loc Cert.DhoKernelIdeal.main_arg2) = m ((c.tc : Thread Cert.DhoKernelIdeal.nD Cert.DhoKernelIdeal.τ).loc Cert.DhoKernelIdeal.main_arg2)
          ∧ r.2.mem ((c.tc : Thread Cert.DhoKernelIdeal.nD Cert.DhoKernelIdeal.τ).loc Cert.DhoKernelIdeal.main_arg3) = m ((c.tc : Thread Cert.DhoKernelIdeal.nD Cert.DhoKernelIdeal.τ).loc Cert.DhoKernelIdeal.main_arg3)
          ∧ r.2.mem ((c.tc : Thread Cert.DhoKernelIdeal.nD Cert.DhoKernelIdeal.τ).loc Cert.DhoKernelIdeal.main_arg4) = m ((c.tc : Thread Cert.DhoKernelIdeal.nD Cert.DhoKernelIdeal.τ).loc Cert.DhoKernelIdeal.main_arg4))
      ∧ θ_run (Cert.DhoReferenceIdeal.defs (F := Ideal)) (onTc (τ := Cert.DhoReferenceIdeal.τ) (Cert.DhoReferenceIdeal.main (F := Ideal))) ⟨m', fun _ => 0, g'⟩ (fun r => ∀ c : Dev Cert.DhoReferenceIdeal.nD,
          r.2.mem ((c.tc : Thread Cert.DhoReferenceIdeal.nD Cert.DhoReferenceIdeal.τ).loc Cert.DhoReferenceIdeal.main_v40) = v0 c
          ∧ r.2.mem ((c.tc : Thread Cert.DhoReferenceIdeal.nD Cert.DhoReferenceIdeal.τ).loc Cert.DhoReferenceIdeal.main_v41) = v1 c
          ∧ r.2.mem ((c.tc : Thread Cert.DhoReferenceIdeal.nD Cert.DhoReferenceIdeal.τ).loc Cert.DhoReferenceIdeal.main_arg0) = m' ((c.tc : Thread Cert.DhoReferenceIdeal.nD Cert.DhoReferenceIdeal.τ).loc Cert.DhoReferenceIdeal.main_arg0)
          ∧ r.2.mem ((c.tc : Thread Cert.DhoReferenceIdeal.nD Cert.DhoReferenceIdeal.τ).loc Cert.DhoReferenceIdeal.main_arg1) = m' ((c.tc : Thread Cert.DhoReferenceIdeal.nD Cert.DhoReferenceIdeal.τ).loc Cert.DhoReferenceIdeal.main_arg1)
          ∧ r.2.mem ((c.tc : Thread Cert.DhoReferenceIdeal.nD Cert.DhoReferenceIdeal.τ).loc Cert.DhoReferenceIdeal.main_arg2) = m' ((c.tc : Thread Cert.DhoReferenceIdeal.nD Cert.DhoReferenceIdeal.τ).loc Cert.DhoReferenceIdeal.main_arg2)
          ∧ r.2.mem ((c.tc : Thread Cert.DhoReferenceIdeal.nD Cert.DhoReferenceIdeal.τ).loc Cert.DhoReferenceIdeal.main_arg3) = m' ((c.tc : Thread Cert.DhoReferenceIdeal.nD Cert.DhoReferenceIdeal.τ).loc Cert.DhoReferenceIdeal.main_arg3)
          ∧ r.2.mem ((c.tc : Thread Cert.DhoReferenceIdeal.nD Cert.DhoReferenceIdeal.τ).loc Cert.DhoReferenceIdeal.main_arg4) = m' ((c.tc : Thread Cert.DhoReferenceIdeal.nD Cert.DhoReferenceIdeal.τ).loc Cert.DhoReferenceIdeal.main_arg4))

def preserves_DhqKernel_DhqKernelIdeal : Prop :=
  True

def algebraic_DhqKernelIdeal_DhqReferenceIdeal [hDhqKernelIdeal : Cert.DhqKernelIdeal.Facts] [hDhqReferenceIdeal : Cert.DhqReferenceIdeal.Facts] : Prop :=
  ∀ (m : (ℓ : Loc Cert.DhqKernelIdeal.nD Cert.DhqKernelIdeal.τ Cert.DhqKernelIdeal.sig) → Buf (Elt Ideal) ℓ) (g : Dev Cert.DhqKernelIdeal.nD → PrngReg)
    (m' : (ℓ : Loc Cert.DhqReferenceIdeal.nD Cert.DhqReferenceIdeal.τ Cert.DhqReferenceIdeal.sig) → Buf (Elt Ideal) ℓ) (g' : Dev Cert.DhqReferenceIdeal.nD → PrngReg), Pre_DhqKernelIdeal m →
    (∀ c : Dev Cert.DhqKernelIdeal.nD,
      m' ((c.tc : Thread Cert.DhqReferenceIdeal.nD Cert.DhqReferenceIdeal.τ).loc Cert.DhqReferenceIdeal.main_arg0) = m ((c.tc : Thread Cert.DhqKernelIdeal.nD Cert.DhqKernelIdeal.τ).loc Cert.DhqKernelIdeal.main_arg0)
      ∧ m' ((c.tc : Thread Cert.DhqReferenceIdeal.nD Cert.DhqReferenceIdeal.τ).loc Cert.DhqReferenceIdeal.main_arg1) = m ((c.tc : Thread Cert.DhqKernelIdeal.nD Cert.DhqKernelIdeal.τ).loc Cert.DhqKernelIdeal.main_arg1)
      ∧ m' ((c.tc : Thread Cert.DhqReferenceIdeal.nD Cert.DhqReferenceIdeal.τ).loc Cert.DhqReferenceIdeal.main_arg2) = m ((c.tc : Thread Cert.DhqKernelIdeal.nD Cert.DhqKernelIdeal.τ).loc Cert.DhqKernelIdeal.main_arg2)
      ∧ m' ((c.tc : Thread Cert.DhqReferenceIdeal.nD Cert.DhqReferenceIdeal.τ).loc Cert.DhqReferenceIdeal.main_arg3) = m ((c.tc : Thread Cert.DhqKernelIdeal.nD Cert.DhqKernelIdeal.τ).loc Cert.DhqKernelIdeal.main_arg3)
      ∧ m' ((c.tc : Thread Cert.DhqReferenceIdeal.nD Cert.DhqReferenceIdeal.τ).loc Cert.DhqReferenceIdeal.main_arg4) = m ((c.tc : Thread Cert.DhqKernelIdeal.nD Cert.DhqKernelIdeal.τ).loc Cert.DhqKernelIdeal.main_arg4)) →
    ∃ (v0 : (c : Dev Cert.DhqKernelIdeal.nD) → Buf (Elt Ideal) ((c.tc : Thread Cert.DhqKernelIdeal.nD Cert.DhqKernelIdeal.τ).loc Cert.DhqKernelIdeal.main_v1_0)) (v1 : (c : Dev Cert.DhqKernelIdeal.nD) → Buf (Elt Ideal) ((c.tc : Thread Cert.DhqKernelIdeal.nD Cert.DhqKernelIdeal.τ).loc Cert.DhqKernelIdeal.main_v1_1)),
      θ_run (Cert.DhqKernelIdeal.defs (F := Ideal)) (onTc (τ := Cert.DhqKernelIdeal.τ) (Cert.DhqKernelIdeal.main (F := Ideal))) ⟨m, fun _ => 0, g⟩ (fun r => ∀ c : Dev Cert.DhqKernelIdeal.nD,
          r.2.mem ((c.tc : Thread Cert.DhqKernelIdeal.nD Cert.DhqKernelIdeal.τ).loc Cert.DhqKernelIdeal.main_v1_0) = v0 c
          ∧ r.2.mem ((c.tc : Thread Cert.DhqKernelIdeal.nD Cert.DhqKernelIdeal.τ).loc Cert.DhqKernelIdeal.main_v1_1) = v1 c
          ∧ r.2.mem ((c.tc : Thread Cert.DhqKernelIdeal.nD Cert.DhqKernelIdeal.τ).loc Cert.DhqKernelIdeal.main_arg0) = m ((c.tc : Thread Cert.DhqKernelIdeal.nD Cert.DhqKernelIdeal.τ).loc Cert.DhqKernelIdeal.main_arg0)
          ∧ r.2.mem ((c.tc : Thread Cert.DhqKernelIdeal.nD Cert.DhqKernelIdeal.τ).loc Cert.DhqKernelIdeal.main_arg1) = m ((c.tc : Thread Cert.DhqKernelIdeal.nD Cert.DhqKernelIdeal.τ).loc Cert.DhqKernelIdeal.main_arg1)
          ∧ r.2.mem ((c.tc : Thread Cert.DhqKernelIdeal.nD Cert.DhqKernelIdeal.τ).loc Cert.DhqKernelIdeal.main_arg2) = m ((c.tc : Thread Cert.DhqKernelIdeal.nD Cert.DhqKernelIdeal.τ).loc Cert.DhqKernelIdeal.main_arg2)
          ∧ r.2.mem ((c.tc : Thread Cert.DhqKernelIdeal.nD Cert.DhqKernelIdeal.τ).loc Cert.DhqKernelIdeal.main_arg3) = m ((c.tc : Thread Cert.DhqKernelIdeal.nD Cert.DhqKernelIdeal.τ).loc Cert.DhqKernelIdeal.main_arg3)
          ∧ r.2.mem ((c.tc : Thread Cert.DhqKernelIdeal.nD Cert.DhqKernelIdeal.τ).loc Cert.DhqKernelIdeal.main_arg4) = m ((c.tc : Thread Cert.DhqKernelIdeal.nD Cert.DhqKernelIdeal.τ).loc Cert.DhqKernelIdeal.main_arg4))
      ∧ θ_run (Cert.DhqReferenceIdeal.defs (F := Ideal)) (onTc (τ := Cert.DhqReferenceIdeal.τ) (Cert.DhqReferenceIdeal.main (F := Ideal))) ⟨m', fun _ => 0, g'⟩ (fun r => ∀ c : Dev Cert.DhqReferenceIdeal.nD,
          r.2.mem ((c.tc : Thread Cert.DhqReferenceIdeal.nD Cert.DhqReferenceIdeal.τ).loc Cert.DhqReferenceIdeal.main_v40) = v0 c
          ∧ r.2.mem ((c.tc : Thread Cert.DhqReferenceIdeal.nD Cert.DhqReferenceIdeal.τ).loc Cert.DhqReferenceIdeal.main_v41) = v1 c
          ∧ r.2.mem ((c.tc : Thread Cert.DhqReferenceIdeal.nD Cert.DhqReferenceIdeal.τ).loc Cert.DhqReferenceIdeal.main_arg0) = m' ((c.tc : Thread Cert.DhqReferenceIdeal.nD Cert.DhqReferenceIdeal.τ).loc Cert.DhqReferenceIdeal.main_arg0)
          ∧ r.2.mem ((c.tc : Thread Cert.DhqReferenceIdeal.nD Cert.DhqReferenceIdeal.τ).loc Cert.DhqReferenceIdeal.main_arg1) = m' ((c.tc : Thread Cert.DhqReferenceIdeal.nD Cert.DhqReferenceIdeal.τ).loc Cert.DhqReferenceIdeal.main_arg1)
          ∧ r.2.mem ((c.tc : Thread Cert.DhqReferenceIdeal.nD Cert.DhqReferenceIdeal.τ).loc Cert.DhqReferenceIdeal.main_arg2) = m' ((c.tc : Thread Cert.DhqReferenceIdeal.nD Cert.DhqReferenceIdeal.τ).loc Cert.DhqReferenceIdeal.main_arg2)
          ∧ r.2.mem ((c.tc : Thread Cert.DhqReferenceIdeal.nD Cert.DhqReferenceIdeal.τ).loc Cert.DhqReferenceIdeal.main_arg3) = m' ((c.tc : Thread Cert.DhqReferenceIdeal.nD Cert.DhqReferenceIdeal.τ).loc Cert.DhqReferenceIdeal.main_arg3)
          ∧ r.2.mem ((c.tc : Thread Cert.DhqReferenceIdeal.nD Cert.DhqReferenceIdeal.τ).loc Cert.DhqReferenceIdeal.main_arg4) = m' ((c.tc : Thread Cert.DhqReferenceIdeal.nD Cert.DhqReferenceIdeal.τ).loc Cert.DhqReferenceIdeal.main_arg4))

def preserves_DyKernel_DyKernelIdeal : Prop :=
  True

def algebraic_DyKernelIdeal_DyReferenceIdeal [hDyKernelIdeal : Cert.DyKernelIdeal.Facts] [hDyReferenceIdeal : Cert.DyReferenceIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyKernelIdeal m →
    (∀ c : Dev Cert.DyKernelIdeal.nD,
      m' ((c.tc : Thread Cert.DyReferenceIdeal.nD Cert.DyReferenceIdeal.τ).loc Cert.DyReferenceIdeal.main_arg0) = m ((c.tc : Thread Cert.DyKernelIdeal.nD Cert.DyKernelIdeal.τ).loc Cert.DyKernelIdeal.main_arg0)
      ∧ m' ((c.tc : Thread Cert.DyReferenceIdeal.nD Cert.DyReferenceIdeal.τ).loc Cert.DyReferenceIdeal.main_arg1) = m ((c.tc : Thread Cert.DyKernelIdeal.nD Cert.DyKernelIdeal.τ).loc Cert.DyKernelIdeal.main_arg1)) →
    ∃ (v0 : (c : Dev Cert.DyKernelIdeal.nD) → Buf (Elt Ideal) ((c.tc : Thread Cert.DyKernelIdeal.nD Cert.DyKernelIdeal.τ).loc Cert.DyKernelIdeal.main_v0)),
      θ_run (Cert.DyKernelIdeal.defs (F := Ideal)) (onTc (τ := Cert.DyKernelIdeal.τ) (Cert.DyKernelIdeal.main (F := Ideal))) ⟨m, fun _ => 0, g⟩ (fun r => ∀ c : Dev Cert.DyKernelIdeal.nD,
          r.2.mem ((c.tc : Thread Cert.DyKernelIdeal.nD Cert.DyKernelIdeal.τ).loc Cert.DyKernelIdeal.main_v0) = v0 c
          ∧ r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
          ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v3) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_DoKernel_DoKernelIdeal : Prop :=
  True

def algebraic_DoKernelIdeal_DoReferenceIdeal [hDoKernelIdeal : Cert.DoKernelIdeal.Facts] [hDoReferenceIdeal : Cert.DoReferenceIdeal.Facts] : Prop :=
  ∀ (m : (ℓ : Loc Cert.DoKernelIdeal.nD Cert.DoKernelIdeal.τ Cert.DoKernelIdeal.sig) → Buf (Elt Ideal) ℓ) (g : Dev Cert.DoKernelIdeal.nD → PrngReg)
    (m' : (ℓ : Loc Cert.DoReferenceIdeal.nD Cert.DoReferenceIdeal.τ Cert.DoReferenceIdeal.sig) → Buf (Elt Ideal) ℓ) (g' : Dev Cert.DoReferenceIdeal.nD → PrngReg), Pre_DoKernelIdeal m →
    (∀ c : Dev Cert.DoKernelIdeal.nD,
      m' ((c.tc : Thread Cert.DoReferenceIdeal.nD Cert.DoReferenceIdeal.τ).loc Cert.DoReferenceIdeal.main_arg0) = m ((c.tc : Thread Cert.DoKernelIdeal.nD Cert.DoKernelIdeal.τ).loc Cert.DoKernelIdeal.main_arg0)
      ∧ m' ((c.tc : Thread Cert.DoReferenceIdeal.nD Cert.DoReferenceIdeal.τ).loc Cert.DoReferenceIdeal.main_arg1) = m ((c.tc : Thread Cert.DoKernelIdeal.nD Cert.DoKernelIdeal.τ).loc Cert.DoKernelIdeal.main_arg1)) →
    ∃ (v0 : (c : Dev Cert.DoKernelIdeal.nD) → Buf (Elt Ideal) ((c.tc : Thread Cert.DoKernelIdeal.nD Cert.DoKernelIdeal.τ).loc Cert.DoKernelIdeal.main_v0)),
      θ_run (Cert.DoKernelIdeal.defs (F := Ideal)) (onTc (τ := Cert.DoKernelIdeal.τ) (Cert.DoKernelIdeal.main (F := Ideal))) ⟨m, fun _ => 0, g⟩ (fun r => ∀ c : Dev Cert.DoKernelIdeal.nD,
          r.2.mem ((c.tc : Thread Cert.DoKernelIdeal.nD Cert.DoKernelIdeal.τ).loc Cert.DoKernelIdeal.main_v0) = v0 c
          ∧ r.2.mem ((c.tc : Thread Cert.DoKernelIdeal.nD Cert.DoKernelIdeal.τ).loc Cert.DoKernelIdeal.main_arg0) = m ((c.tc : Thread Cert.DoKernelIdeal.nD Cert.DoKernelIdeal.τ).loc Cert.DoKernelIdeal.main_arg0)
          ∧ r.2.mem ((c.tc : Thread Cert.DoKernelIdeal.nD Cert.DoKernelIdeal.τ).loc Cert.DoKernelIdeal.main_arg1) = m ((c.tc : Thread Cert.DoKernelIdeal.nD Cert.DoKernelIdeal.τ).loc Cert.DoKernelIdeal.main_arg1))
      ∧ θ_run (Cert.DoReferenceIdeal.defs (F := Ideal)) (onTc (τ := Cert.DoReferenceIdeal.τ) (Cert.DoReferenceIdeal.main (F := Ideal))) ⟨m', fun _ => 0, g'⟩ (fun r => ∀ c : Dev Cert.DoReferenceIdeal.nD,
          r.2.mem ((c.tc : Thread Cert.DoReferenceIdeal.nD Cert.DoReferenceIdeal.τ).loc Cert.DoReferenceIdeal.main_v4) = v0 c
          ∧ r.2.mem ((c.tc : Thread Cert.DoReferenceIdeal.nD Cert.DoReferenceIdeal.τ).loc Cert.DoReferenceIdeal.main_arg0) = m' ((c.tc : Thread Cert.DoReferenceIdeal.nD Cert.DoReferenceIdeal.τ).loc Cert.DoReferenceIdeal.main_arg0)
          ∧ r.2.mem ((c.tc : Thread Cert.DoReferenceIdeal.nD Cert.DoReferenceIdeal.τ).loc Cert.DoReferenceIdeal.main_arg1) = m' ((c.tc : Thread Cert.DoReferenceIdeal.nD Cert.DoReferenceIdeal.τ).loc Cert.DoReferenceIdeal.main_arg1))

def preserves_XfKernel_XfKernelIdeal : Prop :=
  IdealRules.named_const.Statement Cert.XfKernelIdeal.κ "inv_sqrt_hd" .f32 0x3DB504F3#32 (((Real.sqrt 128)⁻¹ : ℝ) : EReal)

def algebraic_XfKernelIdeal_XfReferenceIdeal [hXfKernelIdeal : Cert.XfKernelIdeal.Facts] [hXfReferenceIdeal : Cert.XfReferenceIdeal.Facts] : Prop :=
  ∀ (m : (ℓ : Loc Cert.XfKernelIdeal.nD Cert.XfKernelIdeal.τ Cert.XfKernelIdeal.sig) → Buf (Elt Ideal) ℓ) (g : Dev Cert.XfKernelIdeal.nD → PrngReg)
    (m' : (ℓ : Loc Cert.XfReferenceIdeal.nD Cert.XfReferenceIdeal.τ Cert.XfReferenceIdeal.sig) → Buf (Elt Ideal) ℓ) (g' : Dev Cert.XfReferenceIdeal.nD → PrngReg), Pre_XfKernelIdeal m →
    (∀ c : Dev Cert.XfKernelIdeal.nD,
      m' ((c.tc : Thread Cert.XfReferenceIdeal.nD Cert.XfReferenceIdeal.τ).loc Cert.XfReferenceIdeal.main_arg0) = m ((c.tc : Thread Cert.XfKernelIdeal.nD Cert.XfKernelIdeal.τ).loc Cert.XfKernelIdeal.main_arg0)
      ∧ m' ((c.tc : Thread Cert.XfReferenceIdeal.nD Cert.XfReferenceIdeal.τ).loc Cert.XfReferenceIdeal.main_arg1) = m ((c.tc : Thread Cert.XfKernelIdeal.nD Cert.XfKernelIdeal.τ).loc Cert.XfKernelIdeal.main_arg1)
      ∧ m' ((c.tc : Thread Cert.XfReferenceIdeal.nD Cert.XfReferenceIdeal.τ).loc Cert.XfReferenceIdeal.main_arg2) = m ((c.tc : Thread Cert.XfKernelIdeal.nD Cert.XfKernelIdeal.τ).loc Cert.XfKernelIdeal.main_arg2)
      ∧ m' ((c.tc : Thread Cert.XfReferenceIdeal.nD Cert.XfReferenceIdeal.τ).loc Cert.XfReferenceIdeal.main_arg3) = m ((c.tc : Thread Cert.XfKernelIdeal.nD Cert.XfKernelIdeal.τ).loc Cert.XfKernelIdeal.main_arg3)) →
    ∃ (v0 : (c : Dev Cert.XfKernelIdeal.nD) → Buf (Elt Ideal) ((c.tc : Thread Cert.XfKernelIdeal.nD Cert.XfKernelIdeal.τ).loc Cert.XfKernelIdeal.main_v1)),
      θ_run (Cert.XfKernelIdeal.defs (F := Ideal)) (onTc (τ := Cert.XfKernelIdeal.τ) (Cert.XfKernelIdeal.main (F := Ideal))) ⟨m, fun _ => 0, g⟩ (fun r => ∀ c : Dev Cert.XfKernelIdeal.nD,
          r.2.mem ((c.tc : Thread Cert.XfKernelIdeal.nD Cert.XfKernelIdeal.τ).loc Cert.XfKernelIdeal.main_v1) = v0 c
          ∧ r.2.mem ((c.tc : Thread Cert.XfKernelIdeal.nD Cert.XfKernelIdeal.τ).loc Cert.XfKernelIdeal.main_arg0) = m ((c.tc : Thread Cert.XfKernelIdeal.nD Cert.XfKernelIdeal.τ).loc Cert.XfKernelIdeal.main_arg0)
          ∧ r.2.mem ((c.tc : Thread Cert.XfKernelIdeal.nD Cert.XfKernelIdeal.τ).loc Cert.XfKernelIdeal.main_arg1) = m ((c.tc : Thread Cert.XfKernelIdeal.nD Cert.XfKernelIdeal.τ).loc Cert.XfKernelIdeal.main_arg1)
          ∧ r.2.mem ((c.tc : Thread Cert.XfKernelIdeal.nD Cert.XfKernelIdeal.τ).loc Cert.XfKernelIdeal.main_arg2) = m ((c.tc : Thread Cert.XfKernelIdeal.nD Cert.XfKernelIdeal.τ).loc Cert.XfKernelIdeal.main_arg2)
          ∧ r.2.mem ((c.tc : Thread Cert.XfKernelIdeal.nD Cert.XfKernelIdeal.τ).loc Cert.XfKernelIdeal.main_arg3) = m ((c.tc : Thread Cert.XfKernelIdeal.nD Cert.XfKernelIdeal.τ).loc Cert.XfKernelIdeal.main_arg3))
      ∧ θ_run (Cert.XfReferenceIdeal.defs (F := Ideal)) (onTc (τ := Cert.XfReferenceIdeal.τ) (Cert.XfReferenceIdeal.main (F := Ideal))) ⟨m', fun _ => 0, g'⟩ (fun r => ∀ c : Dev Cert.XfReferenceIdeal.nD,
          r.2.mem ((c.tc : Thread Cert.XfReferenceIdeal.nD Cert.XfReferenceIdeal.τ).loc Cert.XfReferenceIdeal.main_v36) = v0 c
          ∧ r.2.mem ((c.tc : Thread Cert.XfReferenceIdeal.nD Cert.XfReferenceIdeal.τ).loc Cert.XfReferenceIdeal.main_arg0) = m' ((c.tc : Thread Cert.XfReferenceIdeal.nD Cert.XfReferenceIdeal.τ).loc Cert.XfReferenceIdeal.main_arg0)
          ∧ r.2.mem ((c.tc : Thread Cert.XfReferenceIdeal.nD Cert.XfReferenceIdeal.τ).loc Cert.XfReferenceIdeal.main_arg1) = m' ((c.tc : Thread Cert.XfReferenceIdeal.nD Cert.XfReferenceIdeal.τ).loc Cert.XfReferenceIdeal.main_arg1)
          ∧ r.2.mem ((c.tc : Thread Cert.XfReferenceIdeal.nD Cert.XfReferenceIdeal.τ).loc Cert.XfReferenceIdeal.main_arg2) = m' ((c.tc : Thread Cert.XfReferenceIdeal.nD Cert.XfReferenceIdeal.τ).loc Cert.XfReferenceIdeal.main_arg2)
          ∧ r.2.mem ((c.tc : Thread Cert.XfReferenceIdeal.nD Cert.XfReferenceIdeal.τ).loc Cert.XfReferenceIdeal.main_arg3) = m' ((c.tc : Thread Cert.XfReferenceIdeal.nD Cert.XfReferenceIdeal.τ).loc Cert.XfReferenceIdeal.main_arg3))

def preserves_NfKernel_NfKernelIdeal : Prop :=
  True

def algebraic_NfKernelIdeal_NfReferenceIdeal [hNfKernelIdeal : Cert.NfKernelIdeal.Facts] [hNfReferenceIdeal : Cert.NfReferenceIdeal.Facts] : Prop :=
  ∀ (m : (ℓ : Loc Cert.NfKernelIdeal.nD Cert.NfKernelIdeal.τ Cert.NfKernelIdeal.sig) → Buf (Elt Ideal) ℓ) (g : Dev Cert.NfKernelIdeal.nD → PrngReg)
    (m' : (ℓ : Loc Cert.NfReferenceIdeal.nD Cert.NfReferenceIdeal.τ Cert.NfReferenceIdeal.sig) → Buf (Elt Ideal) ℓ) (g' : Dev Cert.NfReferenceIdeal.nD → PrngReg), Pre_NfKernelIdeal m →
    (∀ c : Dev Cert.NfKernelIdeal.nD,
      m' ((c.tc : Thread Cert.NfReferenceIdeal.nD Cert.NfReferenceIdeal.τ).loc Cert.NfReferenceIdeal.main_arg0) = m ((c.tc : Thread Cert.NfKernelIdeal.nD Cert.NfKernelIdeal.τ).loc Cert.NfKernelIdeal.main_arg0)
      ∧ m' ((c.tc : Thread Cert.NfReferenceIdeal.nD Cert.NfReferenceIdeal.τ).loc Cert.NfReferenceIdeal.main_arg1) = m ((c.tc : Thread Cert.NfKernelIdeal.nD Cert.NfKernelIdeal.τ).loc Cert.NfKernelIdeal.main_arg1)) →
    ∃ (v0 : (c : Dev Cert.NfKernelIdeal.nD) → Buf (Elt Ideal) ((c.tc : Thread Cert.NfKernelIdeal.nD Cert.NfKernelIdeal.τ).loc Cert.NfKernelIdeal.main_v1)),
      θ_run (Cert.NfKernelIdeal.defs (F := Ideal)) (onTc (τ := Cert.NfKernelIdeal.τ) (Cert.NfKernelIdeal.main (F := Ideal))) ⟨m, fun _ => 0, g⟩ (fun r => ∀ c : Dev Cert.NfKernelIdeal.nD,
          r.2.mem ((c.tc : Thread Cert.NfKernelIdeal.nD Cert.NfKernelIdeal.τ).loc Cert.NfKernelIdeal.main_v1) = v0 c
          ∧ r.2.mem ((c.tc : Thread Cert.NfKernelIdeal.nD Cert.NfKernelIdeal.τ).loc Cert.NfKernelIdeal.main_arg0) = m ((c.tc : Thread Cert.NfKernelIdeal.nD Cert.NfKernelIdeal.τ).loc Cert.NfKernelIdeal.main_arg0)
          ∧ r.2.mem ((c.tc : Thread Cert.NfKernelIdeal.nD Cert.NfKernelIdeal.τ).loc Cert.NfKernelIdeal.main_arg1) = m ((c.tc : Thread Cert.NfKernelIdeal.nD Cert.NfKernelIdeal.τ).loc Cert.NfKernelIdeal.main_arg1))
      ∧ θ_run (Cert.NfReferenceIdeal.defs (F := Ideal)) (onTc (τ := Cert.NfReferenceIdeal.τ) (Cert.NfReferenceIdeal.main (F := Ideal))) ⟨m', fun _ => 0, g'⟩ (fun r => ∀ c : Dev Cert.NfReferenceIdeal.nD,
          r.2.mem ((c.tc : Thread Cert.NfReferenceIdeal.nD Cert.NfReferenceIdeal.τ).loc Cert.NfReferenceIdeal.main_v13) = v0 c
          ∧ r.2.mem ((c.tc : Thread Cert.NfReferenceIdeal.nD Cert.NfReferenceIdeal.τ).loc Cert.NfReferenceIdeal.main_arg0) = m' ((c.tc : Thread Cert.NfReferenceIdeal.nD Cert.NfReferenceIdeal.τ).loc Cert.NfReferenceIdeal.main_arg0)
          ∧ r.2.mem ((c.tc : Thread Cert.NfReferenceIdeal.nD Cert.NfReferenceIdeal.τ).loc Cert.NfReferenceIdeal.main_arg1) = m' ((c.tc : Thread Cert.NfReferenceIdeal.nD Cert.NfReferenceIdeal.τ).loc Cert.NfReferenceIdeal.main_arg1))

def preserves_OfKernel_OfKernelIdeal : Prop :=
  True

def algebraic_OfKernelIdeal_OfReferenceIdeal [hOfKernelIdeal : Cert.OfKernelIdeal.Facts] [hOfReferenceIdeal : Cert.OfReferenceIdeal.Facts] : Prop :=
  ∀ (m : (ℓ : Loc Cert.OfKernelIdeal.nD Cert.OfKernelIdeal.τ Cert.OfKernelIdeal.sig) → Buf (Elt Ideal) ℓ) (g : Dev Cert.OfKernelIdeal.nD → PrngReg)
    (m' : (ℓ : Loc Cert.OfReferenceIdeal.nD Cert.OfReferenceIdeal.τ Cert.OfReferenceIdeal.sig) → Buf (Elt Ideal) ℓ) (g' : Dev Cert.OfReferenceIdeal.nD → PrngReg), Pre_OfKernelIdeal m →
    (∀ c : Dev Cert.OfKernelIdeal.nD,
      m' ((c.tc : Thread Cert.OfReferenceIdeal.nD Cert.OfReferenceIdeal.τ).loc Cert.OfReferenceIdeal.main_arg0) = m ((c.tc : Thread Cert.OfKernelIdeal.nD Cert.OfKernelIdeal.τ).loc Cert.OfKernelIdeal.main_arg0)
      ∧ m' ((c.tc : Thread Cert.OfReferenceIdeal.nD Cert.OfReferenceIdeal.τ).loc Cert.OfReferenceIdeal.main_arg1) = m ((c.tc : Thread Cert.OfKernelIdeal.nD Cert.OfKernelIdeal.τ).loc Cert.OfKernelIdeal.main_arg1)
      ∧ m' ((c.tc : Thread Cert.OfReferenceIdeal.nD Cert.OfReferenceIdeal.τ).loc Cert.OfReferenceIdeal.main_arg2) = m ((c.tc : Thread Cert.OfKernelIdeal.nD Cert.OfKernelIdeal.τ).loc Cert.OfKernelIdeal.main_arg2)
      ∧ m' ((c.tc : Thread Cert.OfReferenceIdeal.nD Cert.OfReferenceIdeal.τ).loc Cert.OfReferenceIdeal.main_arg3) = m ((c.tc : Thread Cert.OfKernelIdeal.nD Cert.OfKernelIdeal.τ).loc Cert.OfKernelIdeal.main_arg3)) →
    ∃ (v0 : (c : Dev Cert.OfKernelIdeal.nD) → Buf (Elt Ideal) ((c.tc : Thread Cert.OfKernelIdeal.nD Cert.OfKernelIdeal.τ).loc Cert.OfKernelIdeal.main_v1)),
      θ_run (Cert.OfKernelIdeal.defs (F := Ideal)) (onTc (τ := Cert.OfKernelIdeal.τ) (Cert.OfKernelIdeal.main (F := Ideal))) ⟨m, fun _ => 0, g⟩ (fun r => ∀ c : Dev Cert.OfKernelIdeal.nD,
          r.2.mem ((c.tc : Thread Cert.OfKernelIdeal.nD Cert.OfKernelIdeal.τ).loc Cert.OfKernelIdeal.main_v1) = v0 c
          ∧ r.2.mem ((c.tc : Thread Cert.OfKernelIdeal.nD Cert.OfKernelIdeal.τ).loc Cert.OfKernelIdeal.main_arg0) = m ((c.tc : Thread Cert.OfKernelIdeal.nD Cert.OfKernelIdeal.τ).loc Cert.OfKernelIdeal.main_arg0)
          ∧ r.2.mem ((c.tc : Thread Cert.OfKernelIdeal.nD Cert.OfKernelIdeal.τ).loc Cert.OfKernelIdeal.main_arg1) = m ((c.tc : Thread Cert.OfKernelIdeal.nD Cert.OfKernelIdeal.τ).loc Cert.OfKernelIdeal.main_arg1)
          ∧ r.2.mem ((c.tc : Thread Cert.OfKernelIdeal.nD Cert.OfKernelIdeal.τ).loc Cert.OfKernelIdeal.main_arg2) = m ((c.tc : Thread Cert.OfKernelIdeal.nD Cert.OfKernelIdeal.τ).loc Cert.OfKernelIdeal.main_arg2)
          ∧ r.2.mem ((c.tc : Thread Cert.OfKernelIdeal.nD Cert.OfKernelIdeal.τ).loc Cert.OfKernelIdeal.main_arg3) = m ((c.tc : Thread Cert.OfKernelIdeal.nD Cert.OfKernelIdeal.τ).loc Cert.OfKernelIdeal.main_arg3))
      ∧ θ_run (Cert.OfReferenceIdeal.defs (F := Ideal)) (onTc (τ := Cert.OfReferenceIdeal.τ) (Cert.OfReferenceIdeal.main (F := Ideal))) ⟨m', fun _ => 0, g'⟩ (fun r => ∀ c : Dev Cert.OfReferenceIdeal.nD,
          r.2.mem ((c.tc : Thread Cert.OfReferenceIdeal.nD Cert.OfReferenceIdeal.τ).loc Cert.OfReferenceIdeal.main_v89) = v0 c
          ∧ r.2.mem ((c.tc : Thread Cert.OfReferenceIdeal.nD Cert.OfReferenceIdeal.τ).loc Cert.OfReferenceIdeal.main_arg0) = m' ((c.tc : Thread Cert.OfReferenceIdeal.nD Cert.OfReferenceIdeal.τ).loc Cert.OfReferenceIdeal.main_arg0)
          ∧ r.2.mem ((c.tc : Thread Cert.OfReferenceIdeal.nD Cert.OfReferenceIdeal.τ).loc Cert.OfReferenceIdeal.main_arg1) = m' ((c.tc : Thread Cert.OfReferenceIdeal.nD Cert.OfReferenceIdeal.τ).loc Cert.OfReferenceIdeal.main_arg1)
          ∧ r.2.mem ((c.tc : Thread Cert.OfReferenceIdeal.nD Cert.OfReferenceIdeal.τ).loc Cert.OfReferenceIdeal.main_arg2) = m' ((c.tc : Thread Cert.OfReferenceIdeal.nD Cert.OfReferenceIdeal.τ).loc Cert.OfReferenceIdeal.main_arg2)
          ∧ r.2.mem ((c.tc : Thread Cert.OfReferenceIdeal.nD Cert.OfReferenceIdeal.τ).loc Cert.OfReferenceIdeal.main_arg3) = m' ((c.tc : Thread Cert.OfReferenceIdeal.nD Cert.OfReferenceIdeal.τ).loc Cert.OfReferenceIdeal.main_arg3))

def preserves_ObKernel_ObKernelIdeal : Prop :=
  True

def algebraic_ObKernelIdeal_ObReferenceIdeal [hObKernelIdeal : Cert.ObKernelIdeal.Facts] [hObReferenceIdeal : Cert.ObReferenceIdeal.Facts] : Prop :=
  ∀ (m : (ℓ : Loc Cert.ObKernelIdeal.nD Cert.ObKernelIdeal.τ Cert.ObKernelIdeal.sig) → Buf (Elt Ideal) ℓ) (g : Dev Cert.ObKernelIdeal.nD → PrngReg)
    (m' : (ℓ : Loc Cert.ObReferenceIdeal.nD Cert.ObReferenceIdeal.τ Cert.ObReferenceIdeal.sig) → Buf (Elt Ideal) ℓ) (g' : Dev Cert.ObReferenceIdeal.nD → PrngReg), Pre_ObKernelIdeal m →
    (∀ c : Dev Cert.ObKernelIdeal.nD,
      m' ((c.tc : Thread Cert.ObReferenceIdeal.nD Cert.ObReferenceIdeal.τ).loc Cert.ObReferenceIdeal.main_arg0) = m ((c.tc : Thread Cert.ObKernelIdeal.nD Cert.ObKernelIdeal.τ).loc Cert.ObKernelIdeal.main_arg0)
      ∧ m' ((c.tc : Thread Cert.ObReferenceIdeal.nD Cert.ObReferenceIdeal.τ).loc Cert.ObReferenceIdeal.main_arg1) = m ((c.tc : Thread Cert.ObKernelIdeal.nD Cert.ObKernelIdeal.τ).loc Cert.ObKernelIdeal.main_arg1)
      ∧ m' ((c.tc : Thread Cert.ObReferenceIdeal.nD Cert.ObReferenceIdeal.τ).loc Cert.ObReferenceIdeal.main_arg2) = m ((c.tc : Thread Cert.ObKernelIdeal.nD Cert.ObKernelIdeal.τ).loc Cert.ObKernelIdeal.main_arg2)
      ∧ m' ((c.tc : Thread Cert.ObReferenceIdeal.nD Cert.ObReferenceIdeal.τ).loc Cert.ObReferenceIdeal.main_arg3) = m ((c.tc : Thread Cert.ObKernelIdeal.nD Cert.ObKernelIdeal.τ).loc Cert.ObKernelIdeal.main_arg3)
      ∧ m' ((c.tc : Thread Cert.ObReferenceIdeal.nD Cert.ObReferenceIdeal.τ).loc Cert.ObReferenceIdeal.main_arg4) = m ((c.tc : Thread Cert.ObKernelIdeal.nD Cert.ObKernelIdeal.τ).loc Cert.ObKernelIdeal.main_arg4)) →
    ∃ (v0 : (c : Dev Cert.ObKernelIdeal.nD) → Buf (Elt Ideal) ((c.tc : Thread Cert.ObKernelIdeal.nD Cert.ObKernelIdeal.τ).loc Cert.ObKernelIdeal.main_v1_0)) (v1 : (c : Dev Cert.ObKernelIdeal.nD) → Buf (Elt Ideal) ((c.tc : Thread Cert.ObKernelIdeal.nD Cert.ObKernelIdeal.τ).loc Cert.ObKernelIdeal.main_v1_1)) (v2 : (c : Dev Cert.ObKernelIdeal.nD) → Buf (Elt Ideal) ((c.tc : Thread Cert.ObKernelIdeal.nD Cert.ObKernelIdeal.τ).loc Cert.ObKernelIdeal.main_v1_2)) (v3 : (c : Dev Cert.ObKernelIdeal.nD) → Buf (Elt Ideal) ((c.tc : Thread Cert.ObKernelIdeal.nD Cert.ObKernelIdeal.τ).loc Cert.ObKernelIdeal.main_v1_3)),
      θ_run (Cert.ObKernelIdeal.defs (F := Ideal)) (onTc (τ := Cert.ObKernelIdeal.τ) (Cert.ObKernelIdeal.main (F := Ideal))) ⟨m, fun _ => 0, g⟩ (fun r => ∀ c : Dev Cert.ObKernelIdeal.nD,
          r.2.mem ((c.tc : Thread Cert.ObKernelIdeal.nD Cert.ObKernelIdeal.τ).loc Cert.ObKernelIdeal.main_v1_0) = v0 c
          ∧ r.2.mem ((c.tc : Thread Cert.ObKernelIdeal.nD Cert.ObKernelIdeal.τ).loc Cert.ObKernelIdeal.main_v1_1) = v1 c
          ∧ r.2.mem ((c.tc : Thread Cert.ObKernelIdeal.nD Cert.ObKernelIdeal.τ).loc Cert.ObKernelIdeal.main_v1_2) = v2 c
          ∧ r.2.mem ((c.tc : Thread Cert.ObKernelIdeal.nD Cert.ObKernelIdeal.τ).loc Cert.ObKernelIdeal.main_v1_3) = v3 c
          ∧ r.2.mem ((c.tc : Thread Cert.ObKernelIdeal.nD Cert.ObKernelIdeal.τ).loc Cert.ObKernelIdeal.main_arg0) = m ((c.tc : Thread Cert.ObKernelIdeal.nD Cert.ObKernelIdeal.τ).loc Cert.ObKernelIdeal.main_arg0)
          ∧ r.2.mem ((c.tc : Thread Cert.ObKernelIdeal.nD Cert.ObKernelIdeal.τ).loc Cert.ObKernelIdeal.main_arg1) = m ((c.tc : Thread Cert.ObKernelIdeal.nD Cert.ObKernelIdeal.τ).loc Cert.ObKernelIdeal.main_arg1)
          ∧ r.2.mem ((c.tc : Thread Cert.ObKernelIdeal.nD Cert.ObKernelIdeal.τ).loc Cert.ObKernelIdeal.main_arg2) = m ((c.tc : Thread Cert.ObKernelIdeal.nD Cert.ObKernelIdeal.τ).loc Cert.ObKernelIdeal.main_arg2)
          ∧ r.2.mem ((c.tc : Thread Cert.ObKernelIdeal.nD Cert.ObKernelIdeal.τ).loc Cert.ObKernelIdeal.main_arg3) = m ((c.tc : Thread Cert.ObKernelIdeal.nD Cert.ObKernelIdeal.τ).loc Cert.ObKernelIdeal.main_arg3)
          ∧ r.2.mem ((c.tc : Thread Cert.ObKernelIdeal.nD Cert.ObKernelIdeal.τ).loc Cert.ObKernelIdeal.main_arg4) = m ((c.tc : Thread Cert.ObKernelIdeal.nD Cert.ObKernelIdeal.τ).loc Cert.ObKernelIdeal.main_arg4))
      ∧ θ_run (Cert.ObReferenceIdeal.defs (F := Ideal)) (onTc (τ := Cert.ObReferenceIdeal.τ) (Cert.ObReferenceIdeal.main (F := Ideal))) ⟨m', fun _ => 0, g'⟩ (fun r => ∀ c : Dev Cert.ObReferenceIdeal.nD,
          r.2.mem ((c.tc : Thread Cert.ObReferenceIdeal.nD Cert.ObReferenceIdeal.τ).loc Cert.ObReferenceIdeal.main_v129) = v0 c
          ∧ r.2.mem ((c.tc : Thread Cert.ObReferenceIdeal.nD Cert.ObReferenceIdeal.τ).loc Cert.ObReferenceIdeal.main_v251) = v1 c
          ∧ r.2.mem ((c.tc : Thread Cert.ObReferenceIdeal.nD Cert.ObReferenceIdeal.τ).loc Cert.ObReferenceIdeal.main_v252) = v2 c
          ∧ r.2.mem ((c.tc : Thread Cert.ObReferenceIdeal.nD Cert.ObReferenceIdeal.τ).loc Cert.ObReferenceIdeal.main_v241) = v3 c
          ∧ r.2.mem ((c.tc : Thread Cert.ObReferenceIdeal.nD Cert.ObReferenceIdeal.τ).loc Cert.ObReferenceIdeal.main_arg0) = m' ((c.tc : Thread Cert.ObReferenceIdeal.nD Cert.ObReferenceIdeal.τ).loc Cert.ObReferenceIdeal.main_arg0)
          ∧ r.2.mem ((c.tc : Thread Cert.ObReferenceIdeal.nD Cert.ObReferenceIdeal.τ).loc Cert.ObReferenceIdeal.main_arg1) = m' ((c.tc : Thread Cert.ObReferenceIdeal.nD Cert.ObReferenceIdeal.τ).loc Cert.ObReferenceIdeal.main_arg1)
          ∧ r.2.mem ((c.tc : Thread Cert.ObReferenceIdeal.nD Cert.ObReferenceIdeal.τ).loc Cert.ObReferenceIdeal.main_arg2) = m' ((c.tc : Thread Cert.ObReferenceIdeal.nD Cert.ObReferenceIdeal.τ).loc Cert.ObReferenceIdeal.main_arg2)
          ∧ r.2.mem ((c.tc : Thread Cert.ObReferenceIdeal.nD Cert.ObReferenceIdeal.τ).loc Cert.ObReferenceIdeal.main_arg3) = m' ((c.tc : Thread Cert.ObReferenceIdeal.nD Cert.ObReferenceIdeal.τ).loc Cert.ObReferenceIdeal.main_arg3)
          ∧ r.2.mem ((c.tc : Thread Cert.ObReferenceIdeal.nD Cert.ObReferenceIdeal.τ).loc Cert.ObReferenceIdeal.main_arg4) = m' ((c.tc : Thread Cert.ObReferenceIdeal.nD Cert.ObReferenceIdeal.τ).loc Cert.ObReferenceIdeal.main_arg4))

def preserves_MfKernel_MfKernelIdeal : Prop :=
  True

def algebraic_MfKernelIdeal_MfReferenceIdeal [hMfKernelIdeal : Cert.MfKernelIdeal.Facts] [hMfReferenceIdeal : Cert.MfReferenceIdeal.Facts] : Prop :=
  ∀ (m : (ℓ : Loc Cert.MfKernelIdeal.nD Cert.MfKernelIdeal.τ Cert.MfKernelIdeal.sig) → Buf (Elt Ideal) ℓ) (g : Dev Cert.MfKernelIdeal.nD → PrngReg)
    (m' : (ℓ : Loc Cert.MfReferenceIdeal.nD Cert.MfReferenceIdeal.τ Cert.MfReferenceIdeal.sig) → Buf (Elt Ideal) ℓ) (g' : Dev Cert.MfReferenceIdeal.nD → PrngReg), Pre_MfKernelIdeal m →
    (∀ c : Dev Cert.MfKernelIdeal.nD,
      m' ((c.tc : Thread Cert.MfReferenceIdeal.nD Cert.MfReferenceIdeal.τ).loc Cert.MfReferenceIdeal.main_arg0) = m ((c.tc : Thread Cert.MfKernelIdeal.nD Cert.MfKernelIdeal.τ).loc Cert.MfKernelIdeal.main_arg0)
      ∧ m' ((c.tc : Thread Cert.MfReferenceIdeal.nD Cert.MfReferenceIdeal.τ).loc Cert.MfReferenceIdeal.main_arg1) = m ((c.tc : Thread Cert.MfKernelIdeal.nD Cert.MfKernelIdeal.τ).loc Cert.MfKernelIdeal.main_arg1)
      ∧ m' ((c.tc : Thread Cert.MfReferenceIdeal.nD Cert.MfReferenceIdeal.τ).loc Cert.MfReferenceIdeal.main_arg2) = m ((c.tc : Thread Cert.MfKernelIdeal.nD Cert.MfKernelIdeal.τ).loc Cert.MfKernelIdeal.main_arg2)
      ∧ m' ((c.tc : Thread Cert.MfReferenceIdeal.nD Cert.MfReferenceIdeal.τ).loc Cert.MfReferenceIdeal.main_arg3) = m ((c.tc : Thread Cert.MfKernelIdeal.nD Cert.MfKernelIdeal.τ).loc Cert.MfKernelIdeal.main_arg3)) →
    ∃ (v0 : (c : Dev Cert.MfKernelIdeal.nD) → Buf (Elt Ideal) ((c.tc : Thread Cert.MfKernelIdeal.nD Cert.MfKernelIdeal.τ).loc Cert.MfKernelIdeal.main_v2_0)) (v1 : (c : Dev Cert.MfKernelIdeal.nD) → Buf (Elt Ideal) ((c.tc : Thread Cert.MfKernelIdeal.nD Cert.MfKernelIdeal.τ).loc Cert.MfKernelIdeal.main_v2_1)) (v2 : (c : Dev Cert.MfKernelIdeal.nD) → Buf (Elt Ideal) ((c.tc : Thread Cert.MfKernelIdeal.nD Cert.MfKernelIdeal.τ).loc Cert.MfKernelIdeal.main_v2_2)) (v3 : (c : Dev Cert.MfKernelIdeal.nD) → Buf (Elt Ideal) ((c.tc : Thread Cert.MfKernelIdeal.nD Cert.MfKernelIdeal.τ).loc Cert.MfKernelIdeal.main_v2_3)),
      θ_run (Cert.MfKernelIdeal.defs (F := Ideal)) (onTc (τ := Cert.MfKernelIdeal.τ) (Cert.MfKernelIdeal.main (F := Ideal))) ⟨m, fun _ => 0, g⟩ (fun r => ∀ c : Dev Cert.MfKernelIdeal.nD,
          r.2.mem ((c.tc : Thread Cert.MfKernelIdeal.nD Cert.MfKernelIdeal.τ).loc Cert.MfKernelIdeal.main_v2_0) = v0 c
          ∧ r.2.mem ((c.tc : Thread Cert.MfKernelIdeal.nD Cert.MfKernelIdeal.τ).loc Cert.MfKernelIdeal.main_v2_1) = v1 c
          ∧ r.2.mem ((c.tc : Thread Cert.MfKernelIdeal.nD Cert.MfKernelIdeal.τ).loc Cert.MfKernelIdeal.main_v2_2) = v2 c
          ∧ r.2.mem ((c.tc : Thread Cert.MfKernelIdeal.nD Cert.MfKernelIdeal.τ).loc Cert.MfKernelIdeal.main_v2_3) = v3 c
          ∧ r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
          ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
          ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
          ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3))
      ∧ θ_run (Cert.MfReferenceIdeal.defs (F := Ideal)) (onTc (τ := Cert.MfReferenceIdeal.τ) (Cert.MfReferenceIdeal.main (F := Ideal))) ⟨m', fun _ => 0, g'⟩ (fun r => ∀ c : Dev Cert.MfReferenceIdeal.nD,
          r.2.mem ((c.tc : Thread Cert.MfReferenceIdeal.nD Cert.MfReferenceIdeal.τ).loc Cert.MfReferenceIdeal.main_v32) = v0 c
          ∧ r.2.mem ((c.tc : Thread Cert.MfReferenceIdeal.nD Cert.MfReferenceIdeal.τ).loc Cert.MfReferenceIdeal.main_v14) = v1 c
          ∧ r.2.mem ((c.tc : Thread Cert.MfReferenceIdeal.nD Cert.MfReferenceIdeal.τ).loc Cert.MfReferenceIdeal.main_v33) = v2 c
          ∧ r.2.mem ((c.tc : Thread Cert.MfReferenceIdeal.nD Cert.MfReferenceIdeal.τ).loc Cert.MfReferenceIdeal.main_v34) = v3 c
          ∧ r.2.mem ((c.tc : Thread Cert.MfReferenceIdeal.nD Cert.MfReferenceIdeal.τ).loc Cert.MfReferenceIdeal.main_arg0) = m' ((c.tc : Thread Cert.MfReferenceIdeal.nD Cert.MfReferenceIdeal.τ).loc Cert.MfReferenceIdeal.main_arg0)
          ∧ r.2.mem ((c.tc : Thread Cert.MfReferenceIdeal.nD Cert.MfReferenceIdeal.τ).loc Cert.MfReferenceIdeal.main_arg1) = m' ((c.tc : Thread Cert.MfReferenceIdeal.nD Cert.MfReferenceIdeal.τ).loc Cert.MfReferenceIdeal.main_arg1)
          ∧ r.2.mem ((c.tc : Thread Cert.MfReferenceIdeal.nD Cert.MfReferenceIdeal.τ).loc Cert.MfReferenceIdeal.main_arg2) = m' ((c.tc : Thread Cert.MfReferenceIdeal.nD Cert.MfReferenceIdeal.τ).loc Cert.MfReferenceIdeal.main_arg2)
          ∧ r.2.mem ((c.tc : Thread Cert.MfReferenceIdeal.nD Cert.MfReferenceIdeal.τ).loc Cert.MfReferenceIdeal.main_arg3) = m' ((c.tc : Thread Cert.MfReferenceIdeal.nD Cert.MfReferenceIdeal.τ).loc Cert.MfReferenceIdeal.main_arg3))

def preserves_MbKernel_MbKernelIdeal : Prop :=
  True

def algebraic_MbKernelIdeal_MbReferenceIdeal [hMbKernelIdeal : Cert.MbKernelIdeal.Facts] [hMbReferenceIdeal : Cert.MbReferenceIdeal.Facts] : Prop :=
  ∀ (m : (ℓ : Loc Cert.MbKernelIdeal.nD Cert.MbKernelIdeal.τ Cert.MbKernelIdeal.sig) → Buf (Elt Ideal) ℓ) (g : Dev Cert.MbKernelIdeal.nD → PrngReg)
    (m' : (ℓ : Loc Cert.MbReferenceIdeal.nD Cert.MbReferenceIdeal.τ Cert.MbReferenceIdeal.sig) → Buf (Elt Ideal) ℓ) (g' : Dev Cert.MbReferenceIdeal.nD → PrngReg), Pre_MbKernelIdeal m →
    (∀ c : Dev Cert.MbKernelIdeal.nD,
      m' ((c.tc : Thread Cert.MbReferenceIdeal.nD Cert.MbReferenceIdeal.τ).loc Cert.MbReferenceIdeal.main_arg0) = m ((c.tc : Thread Cert.MbKernelIdeal.nD Cert.MbKernelIdeal.τ).loc Cert.MbKernelIdeal.main_arg0)
      ∧ m' ((c.tc : Thread Cert.MbReferenceIdeal.nD Cert.MbReferenceIdeal.τ).loc Cert.MbReferenceIdeal.main_arg1) = m ((c.tc : Thread Cert.MbKernelIdeal.nD Cert.MbKernelIdeal.τ).loc Cert.MbKernelIdeal.main_arg1)
      ∧ m' ((c.tc : Thread Cert.MbReferenceIdeal.nD Cert.MbReferenceIdeal.τ).loc Cert.MbReferenceIdeal.main_arg2) = m ((c.tc : Thread Cert.MbKernelIdeal.nD Cert.MbKernelIdeal.τ).loc Cert.MbKernelIdeal.main_arg2)
      ∧ m' ((c.tc : Thread Cert.MbReferenceIdeal.nD Cert.MbReferenceIdeal.τ).loc Cert.MbReferenceIdeal.main_arg3) = m ((c.tc : Thread Cert.MbKernelIdeal.nD Cert.MbKernelIdeal.τ).loc Cert.MbKernelIdeal.main_arg3)
      ∧ m' ((c.tc : Thread Cert.MbReferenceIdeal.nD Cert.MbReferenceIdeal.τ).loc Cert.MbReferenceIdeal.main_arg4) = m ((c.tc : Thread Cert.MbKernelIdeal.nD Cert.MbKernelIdeal.τ).loc Cert.MbKernelIdeal.main_arg4)
      ∧ m' ((c.tc : Thread Cert.MbReferenceIdeal.nD Cert.MbReferenceIdeal.τ).loc Cert.MbReferenceIdeal.main_arg5) = m ((c.tc : Thread Cert.MbKernelIdeal.nD Cert.MbKernelIdeal.τ).loc Cert.MbKernelIdeal.main_arg5)
      ∧ m' ((c.tc : Thread Cert.MbReferenceIdeal.nD Cert.MbReferenceIdeal.τ).loc Cert.MbReferenceIdeal.main_arg6) = m ((c.tc : Thread Cert.MbKernelIdeal.nD Cert.MbKernelIdeal.τ).loc Cert.MbKernelIdeal.main_arg6)
      ∧ m' ((c.tc : Thread Cert.MbReferenceIdeal.nD Cert.MbReferenceIdeal.τ).loc Cert.MbReferenceIdeal.main_arg7) = m ((c.tc : Thread Cert.MbKernelIdeal.nD Cert.MbKernelIdeal.τ).loc Cert.MbKernelIdeal.main_arg7)) →
    ∃ (v0 : (c : Dev Cert.MbKernelIdeal.nD) → Buf (Elt Ideal) ((c.tc : Thread Cert.MbKernelIdeal.nD Cert.MbKernelIdeal.τ).loc Cert.MbKernelIdeal.main_v2_0)) (v1 : (c : Dev Cert.MbKernelIdeal.nD) → Buf (Elt Ideal) ((c.tc : Thread Cert.MbKernelIdeal.nD Cert.MbKernelIdeal.τ).loc Cert.MbKernelIdeal.main_v2_1)) (v2 : (c : Dev Cert.MbKernelIdeal.nD) → Buf (Elt Ideal) ((c.tc : Thread Cert.MbKernelIdeal.nD Cert.MbKernelIdeal.τ).loc Cert.MbKernelIdeal.main_v2_2)),
      θ_run (Cert.MbKernelIdeal.defs (F := Ideal)) (onTc (τ := Cert.MbKernelIdeal.τ) (Cert.MbKernelIdeal.main (F := Ideal))) ⟨m, fun _ => 0, g⟩ (fun r => ∀ c : Dev Cert.MbKernelIdeal.nD,
          r.2.mem ((c.tc : Thread Cert.MbKernelIdeal.nD Cert.MbKernelIdeal.τ).loc Cert.MbKernelIdeal.main_v2_0) = v0 c
          ∧ r.2.mem ((c.tc : Thread Cert.MbKernelIdeal.nD Cert.MbKernelIdeal.τ).loc Cert.MbKernelIdeal.main_v2_1) = v1 c
          ∧ r.2.mem ((c.tc : Thread Cert.MbKernelIdeal.nD Cert.MbKernelIdeal.τ).loc Cert.MbKernelIdeal.main_v2_2) = v2 c
          ∧ r.2.mem ((c.tc : Thread Cert.MbKernelIdeal.nD Cert.MbKernelIdeal.τ).loc Cert.MbKernelIdeal.main_arg0) = m ((c.tc : Thread Cert.MbKernelIdeal.nD Cert.MbKernelIdeal.τ).loc Cert.MbKernelIdeal.main_arg0)
          ∧ r.2.mem ((c.tc : Thread Cert.MbKernelIdeal.nD Cert.MbKernelIdeal.τ).loc Cert.MbKernelIdeal.main_arg1) = m ((c.tc : Thread Cert.MbKernelIdeal.nD Cert.MbKernelIdeal.τ).loc Cert.MbKernelIdeal.main_arg1)
          ∧ r.2.mem ((c.tc : Thread Cert.MbKernelIdeal.nD Cert.MbKernelIdeal.τ).loc Cert.MbKernelIdeal.main_arg2) = m ((c.tc : Thread Cert.MbKernelIdeal.nD Cert.MbKernelIdeal.τ).loc Cert.MbKernelIdeal.main_arg2)
          ∧ r.2.mem ((c.tc : Thread Cert.MbKernelIdeal.nD Cert.MbKernelIdeal.τ).loc Cert.MbKernelIdeal.main_arg3) = m ((c.tc : Thread Cert.MbKernelIdeal.nD Cert.MbKernelIdeal.τ).loc Cert.MbKernelIdeal.main_arg3)
          ∧ r.2.mem ((c.tc : Thread Cert.MbKernelIdeal.nD Cert.MbKernelIdeal.τ).loc Cert.MbKernelIdeal.main_arg4) = m ((c.tc : Thread Cert.MbKernelIdeal.nD Cert.MbKernelIdeal.τ).loc Cert.MbKernelIdeal.main_arg4)
          ∧ r.2.mem ((c.tc : Thread Cert.MbKernelIdeal.nD Cert.MbKernelIdeal.τ).loc Cert.MbKernelIdeal.main_arg5) = m ((c.tc : Thread Cert.MbKernelIdeal.nD Cert.MbKernelIdeal.τ).loc Cert.MbKernelIdeal.main_arg5)
          ∧ r.2.mem ((c.tc : Thread Cert.MbKernelIdeal.nD Cert.MbKernelIdeal.τ).loc Cert.MbKernelIdeal.main_arg6) = m ((c.tc : Thread Cert.MbKernelIdeal.nD Cert.MbKernelIdeal.τ).loc Cert.MbKernelIdeal.main_arg6)
          ∧ r.2.mem ((c.tc : Thread Cert.MbKernelIdeal.nD Cert.MbKernelIdeal.τ).loc Cert.MbKernelIdeal.main_arg7) = m ((c.tc : Thread Cert.MbKernelIdeal.nD Cert.MbKernelIdeal.τ).loc Cert.MbKernelIdeal.main_arg7))
      ∧ θ_run (Cert.MbReferenceIdeal.defs (F := Ideal)) (onTc (τ := Cert.MbReferenceIdeal.τ) (Cert.MbReferenceIdeal.main (F := Ideal))) ⟨m', fun _ => 0, g'⟩ (fun r => ∀ c : Dev Cert.MbReferenceIdeal.nD,
          r.2.mem ((c.tc : Thread Cert.MbReferenceIdeal.nD Cert.MbReferenceIdeal.τ).loc Cert.MbReferenceIdeal.main_v46) = v0 c
          ∧ r.2.mem ((c.tc : Thread Cert.MbReferenceIdeal.nD Cert.MbReferenceIdeal.τ).loc Cert.MbReferenceIdeal.main_v65) = v1 c
          ∧ r.2.mem ((c.tc : Thread Cert.MbReferenceIdeal.nD Cert.MbReferenceIdeal.τ).loc Cert.MbReferenceIdeal.main_v66) = v2 c
          ∧ r.2.mem ((c.tc : Thread Cert.MbReferenceIdeal.nD Cert.MbReferenceIdeal.τ).loc Cert.MbReferenceIdeal.main_arg0) = m' ((c.tc : Thread Cert.MbReferenceIdeal.nD Cert.MbReferenceIdeal.τ).loc Cert.MbReferenceIdeal.main_arg0)
          ∧ r.2.mem ((c.tc : Thread Cert.MbReferenceIdeal.nD Cert.MbReferenceIdeal.τ).loc Cert.MbReferenceIdeal.main_arg1) = m' ((c.tc : Thread Cert.MbReferenceIdeal.nD Cert.MbReferenceIdeal.τ).loc Cert.MbReferenceIdeal.main_arg1)
          ∧ r.2.mem ((c.tc : Thread Cert.MbReferenceIdeal.nD Cert.MbReferenceIdeal.τ).loc Cert.MbReferenceIdeal.main_arg2) = m' ((c.tc : Thread Cert.MbReferenceIdeal.nD Cert.MbReferenceIdeal.τ).loc Cert.MbReferenceIdeal.main_arg2)
          ∧ r.2.mem ((c.tc : Thread Cert.MbReferenceIdeal.nD Cert.MbReferenceIdeal.τ).loc Cert.MbReferenceIdeal.main_arg3) = m' ((c.tc : Thread Cert.MbReferenceIdeal.nD Cert.MbReferenceIdeal.τ).loc Cert.MbReferenceIdeal.main_arg3)
          ∧ r.2.mem ((c.tc : Thread Cert.MbReferenceIdeal.nD Cert.MbReferenceIdeal.τ).loc Cert.MbReferenceIdeal.main_arg4) = m' ((c.tc : Thread Cert.MbReferenceIdeal.nD Cert.MbReferenceIdeal.τ).loc Cert.MbReferenceIdeal.main_arg4)
          ∧ r.2.mem ((c.tc : Thread Cert.MbReferenceIdeal.nD Cert.MbReferenceIdeal.τ).loc Cert.MbReferenceIdeal.main_arg5) = m' ((c.tc : Thread Cert.MbReferenceIdeal.nD Cert.MbReferenceIdeal.τ).loc Cert.MbReferenceIdeal.main_arg5)
          ∧ r.2.mem ((c.tc : Thread Cert.MbReferenceIdeal.nD Cert.MbReferenceIdeal.τ).loc Cert.MbReferenceIdeal.main_arg6) = m' ((c.tc : Thread Cert.MbReferenceIdeal.nD Cert.MbReferenceIdeal.τ).loc Cert.MbReferenceIdeal.main_arg6)
          ∧ r.2.mem ((c.tc : Thread Cert.MbReferenceIdeal.nD Cert.MbReferenceIdeal.τ).loc Cert.MbReferenceIdeal.main_arg7) = m' ((c.tc : Thread Cert.MbReferenceIdeal.nD Cert.MbReferenceIdeal.τ).loc Cert.MbReferenceIdeal.main_arg7))

def preserves_LsKernel_LsKernelIdeal : Prop :=
  True

def algebraic_LsKernelIdeal_LsReferenceIdeal [hLsKernelIdeal : Cert.LsKernelIdeal.Facts] [hLsReferenceIdeal : Cert.LsReferenceIdeal.Facts] : Prop :=
  ∀ (m : (ℓ : Loc Cert.LsKernelIdeal.nD Cert.LsKernelIdeal.τ Cert.LsKernelIdeal.sig) → Buf (Elt Ideal) ℓ) (g : Dev Cert.LsKernelIdeal.nD → PrngReg)
    (m' : (ℓ : Loc Cert.LsReferenceIdeal.nD Cert.LsReferenceIdeal.τ Cert.LsReferenceIdeal.sig) → Buf (Elt Ideal) ℓ) (g' : Dev Cert.LsReferenceIdeal.nD → PrngReg), Pre_LsKernelIdeal m →
    (∀ c : Dev Cert.LsKernelIdeal.nD,
      m' ((c.tc : Thread Cert.LsReferenceIdeal.nD Cert.LsReferenceIdeal.τ).loc Cert.LsReferenceIdeal.main_arg0) = m ((c.tc : Thread Cert.LsKernelIdeal.nD Cert.LsKernelIdeal.τ).loc Cert.LsKernelIdeal.main_arg0)
      ∧ m' ((c.tc : Thread Cert.LsReferenceIdeal.nD Cert.LsReferenceIdeal.τ).loc Cert.LsReferenceIdeal.main_arg1) = m ((c.tc : Thread Cert.LsKernelIdeal.nD Cert.LsKernelIdeal.τ).loc Cert.LsKernelIdeal.main_arg1)) →
    ∃ (v0 : (c : Dev Cert.LsKernelIdeal.nD) → Buf (Elt Ideal) ((c.tc : Thread Cert.LsKernelIdeal.nD Cert.LsKernelIdeal.τ).loc Cert.LsKernelIdeal.main_v0_0)) (v1 : (c : Dev Cert.LsKernelIdeal.nD) → Buf (Elt Ideal) ((c.tc : Thread Cert.LsKernelIdeal.nD Cert.LsKernelIdeal.τ).loc Cert.LsKernelIdeal.main_v0_1)),
      θ_run (Cert.LsKernelIdeal.defs (F := Ideal)) (onTc (τ := Cert.LsKernelIdeal.τ) (Cert.LsKernelIdeal.main (F := Ideal))) ⟨m, fun _ => 0, g⟩ (fun r => ∀ c : Dev Cert.LsKernelIdeal.nD,
          r.2.mem ((c.tc : Thread Cert.LsKernelIdeal.nD Cert.LsKernelIdeal.τ).loc Cert.LsKernelIdeal.main_v0_0) = v0 c
          ∧ r.2.mem ((c.tc : Thread Cert.LsKernelIdeal.nD Cert.LsKernelIdeal.τ).loc Cert.LsKernelIdeal.main_v0_1) = v1 c
          ∧ r.2.mem ((c.tc : Thread Cert.LsKernelIdeal.nD Cert.LsKernelIdeal.τ).loc Cert.LsKernelIdeal.main_arg0) = m ((c.tc : Thread Cert.LsKernelIdeal.nD Cert.LsKernelIdeal.τ).loc Cert.LsKernelIdeal.main_arg0)
          ∧ r.2.mem ((c.tc : Thread Cert.LsKernelIdeal.nD Cert.LsKernelIdeal.τ).loc Cert.LsKernelIdeal.main_arg1) = m ((c.tc : Thread Cert.LsKernelIdeal.nD Cert.LsKernelIdeal.τ).loc Cert.LsKernelIdeal.main_arg1))
      ∧ θ_run (Cert.LsReferenceIdeal.defs (F := Ideal)) (onTc (τ := Cert.LsReferenceIdeal.τ) (Cert.LsReferenceIdeal.main (F := Ideal))) ⟨m', fun _ => 0, g'⟩ (fun r => ∀ c : Dev Cert.LsReferenceIdeal.nD,
          r.2.mem ((c.tc : Thread Cert.LsReferenceIdeal.nD Cert.LsReferenceIdeal.τ).loc Cert.LsReferenceIdeal.main_v22) = v0 c
          ∧ r.2.mem ((c.tc : Thread Cert.LsReferenceIdeal.nD Cert.LsReferenceIdeal.τ).loc Cert.LsReferenceIdeal.main_v7) = v1 c
          ∧ r.2.mem ((c.tc : Thread Cert.LsReferenceIdeal.nD Cert.LsReferenceIdeal.τ).loc Cert.LsReferenceIdeal.main_arg0) = m' ((c.tc : Thread Cert.LsReferenceIdeal.nD Cert.LsReferenceIdeal.τ).loc Cert.LsReferenceIdeal.main_arg0)
          ∧ r.2.mem ((c.tc : Thread Cert.LsReferenceIdeal.nD Cert.LsReferenceIdeal.τ).loc Cert.LsReferenceIdeal.main_arg1) = m' ((c.tc : Thread Cert.LsReferenceIdeal.nD Cert.LsReferenceIdeal.τ).loc Cert.LsReferenceIdeal.main_arg1))

def Claim : Prop :=
  ∃ (hXaKernel : Cert.XaKernel.Facts) (hXaKernelIdeal : Cert.XaKernelIdeal.Facts) (hXaReferenceIdeal : Cert.XaReferenceIdeal.Facts) (hDhKernel : Cert.DhKernel.Facts) (hDhKernelIdeal : Cert.DhKernelIdeal.Facts) (hDhReferenceIdeal : Cert.DhReferenceIdeal.Facts) (hActKernel : Cert.ActKernel.Facts) (hActKernelIdeal : Cert.ActKernelIdeal.Facts) (hActReferenceIdeal : Cert.ActReferenceIdeal.Facts) (hDwdKernel : Cert.DwdKernel.Facts) (hDwdKernelIdeal : Cert.DwdKernelIdeal.Facts) (hDwdReferenceIdeal : Cert.DwdReferenceIdeal.Facts) (hDwgKernel : Cert.DwgKernel.Facts) (hDwgKernelIdeal : Cert.DwgKernelIdeal.Facts) (hDwgReferenceIdeal : Cert.DwgReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hIneKernel : Cert.IneKernel.Facts) (hIneKernelIdeal : Cert.IneKernelIdeal.Facts) (hIneReferenceIdeal : Cert.IneReferenceIdeal.Facts) (hInoKernel : Cert.InoKernel.Facts) (hInoKernelIdeal : Cert.InoKernelIdeal.Facts) (hInoReferenceIdeal : Cert.InoReferenceIdeal.Facts) (hXqKernel : Cert.XqKernel.Facts) (hXqKernelIdeal : Cert.XqKernelIdeal.Facts) (hXqReferenceIdeal : Cert.XqReferenceIdeal.Facts) (hOuteKernel : Cert.OuteKernel.Facts) (hOuteKernelIdeal : Cert.OuteKernelIdeal.Facts) (hOuteReferenceIdeal : Cert.OuteReferenceIdeal.Facts) (hOutoKernel : Cert.OutoKernel.Facts) (hOutoKernelIdeal : Cert.OutoKernelIdeal.Facts) (hOutoReferenceIdeal : Cert.OutoReferenceIdeal.Facts) (hXoKernel : Cert.XoKernel.Facts) (hXoKernelIdeal : Cert.XoKernelIdeal.Facts) (hXoReferenceIdeal : Cert.XoReferenceIdeal.Facts) (hDwieKernel : Cert.DwieKernel.Facts) (hDwieKernelIdeal : Cert.DwieKernelIdeal.Facts) (hDwieReferenceIdeal : Cert.DwieReferenceIdeal.Facts) (hDwioKernel : Cert.DwioKernel.Facts) (hDwioKernelIdeal : Cert.DwioKernelIdeal.Facts) (hDwioReferenceIdeal : Cert.DwioReferenceIdeal.Facts) (hDwqKernel : Cert.DwqKernel.Facts) (hDwqKernelIdeal : Cert.DwqKernelIdeal.Facts) (hDwqReferenceIdeal : Cert.DwqReferenceIdeal.Facts) (hDwcKernel : Cert.DwcKernel.Facts) (hDwcKernelIdeal : Cert.DwcKernelIdeal.Facts) (hDwcReferenceIdeal : Cert.DwcReferenceIdeal.Facts) (hDwoKernel : Cert.DwoKernel.Facts) (hDwoKernelIdeal : Cert.DwoKernelIdeal.Facts) (hDwoReferenceIdeal : Cert.DwoReferenceIdeal.Facts) (hDheKernel : Cert.DheKernel.Facts) (hDheKernelIdeal : Cert.DheKernelIdeal.Facts) (hDheReferenceIdeal : Cert.DheReferenceIdeal.Facts) (hDhoKernel : Cert.DhoKernel.Facts) (hDhoKernelIdeal : Cert.DhoKernelIdeal.Facts) (hDhoReferenceIdeal : Cert.DhoReferenceIdeal.Facts) (hDhqKernel : Cert.DhqKernel.Facts) (hDhqKernelIdeal : Cert.DhqKernelIdeal.Facts) (hDhqReferenceIdeal : Cert.DhqReferenceIdeal.Facts) (hDyKernel : Cert.DyKernel.Facts) (hDyKernelIdeal : Cert.DyKernelIdeal.Facts) (hDyReferenceIdeal : Cert.DyReferenceIdeal.Facts) (hDoKernel : Cert.DoKernel.Facts) (hDoKernelIdeal : Cert.DoKernelIdeal.Facts) (hDoReferenceIdeal : Cert.DoReferenceIdeal.Facts) (hXfKernel : Cert.XfKernel.Facts) (hXfKernelIdeal : Cert.XfKernelIdeal.Facts) (hXfReferenceIdeal : Cert.XfReferenceIdeal.Facts) (hNfKernel : Cert.NfKernel.Facts) (hNfKernelIdeal : Cert.NfKernelIdeal.Facts) (hNfReferenceIdeal : Cert.NfReferenceIdeal.Facts) (hOfKernel : Cert.OfKernel.Facts) (hOfKernelIdeal : Cert.OfKernelIdeal.Facts) (hOfReferenceIdeal : Cert.OfReferenceIdeal.Facts) (hObKernel : Cert.ObKernel.Facts) (hObKernelIdeal : Cert.ObKernelIdeal.Facts) (hObReferenceIdeal : Cert.ObReferenceIdeal.Facts) (hMfKernel : Cert.MfKernel.Facts) (hMfKernelIdeal : Cert.MfKernelIdeal.Facts) (hMfReferenceIdeal : Cert.MfReferenceIdeal.Facts) (hMbKernel : Cert.MbKernel.Facts) (hMbKernelIdeal : Cert.MbKernelIdeal.Facts) (hMbReferenceIdeal : Cert.MbReferenceIdeal.Facts) (hLsKernel : Cert.LsKernel.Facts) (hLsKernelIdeal : Cert.LsKernelIdeal.Facts) (hLsReferenceIdeal : Cert.LsReferenceIdeal.Facts) (hPre_finite_keys : Cert.Pre_finite_keys.Facts) (hPre_finite_gate : Cert.Pre_finite_gate.Facts),
    quiescent_XaKernel (hXaKernel := hXaKernel)
    ∧ quiescent_XaKernelIdeal (hXaKernelIdeal := hXaKernelIdeal)
    ∧ quiescent_XaKernelIdeal_pre_finite_keys (hXaKernelIdeal := hXaKernelIdeal) (hPre_finite_keys := hPre_finite_keys)
    ∧ quiescent_XaReferenceIdeal (hXaReferenceIdeal := hXaReferenceIdeal)
    ∧ quiescent_XaReferenceIdeal_pre_finite_keys (hXaReferenceIdeal := hXaReferenceIdeal) (hPre_finite_keys := hPre_finite_keys)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_ActKernel (hActKernel := hActKernel)
    ∧ quiescent_ActKernelIdeal (hActKernelIdeal := hActKernelIdeal)
    ∧ quiescent_ActKernelIdeal_pre_finite_gate (hActKernelIdeal := hActKernelIdeal) (hPre_finite_gate := hPre_finite_gate)
    ∧ quiescent_ActReferenceIdeal (hActReferenceIdeal := hActReferenceIdeal)
    ∧ quiescent_ActReferenceIdeal_pre_finite_gate (hActReferenceIdeal := hActReferenceIdeal) (hPre_finite_gate := hPre_finite_gate)
    ∧ quiescent_DwdKernel (hDwdKernel := hDwdKernel)
    ∧ quiescent_DwdKernelIdeal (hDwdKernelIdeal := hDwdKernelIdeal)
    ∧ quiescent_DwdReferenceIdeal (hDwdReferenceIdeal := hDwdReferenceIdeal)
    ∧ quiescent_DwgKernel (hDwgKernel := hDwgKernel)
    ∧ quiescent_DwgKernelIdeal (hDwgKernelIdeal := hDwgKernelIdeal)
    ∧ quiescent_DwgReferenceIdeal (hDwgReferenceIdeal := hDwgReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_IneKernel (hIneKernel := hIneKernel)
    ∧ quiescent_IneKernelIdeal (hIneKernelIdeal := hIneKernelIdeal)
    ∧ quiescent_IneReferenceIdeal (hIneReferenceIdeal := hIneReferenceIdeal)
    ∧ quiescent_InoKernel (hInoKernel := hInoKernel)
    ∧ quiescent_InoKernelIdeal (hInoKernelIdeal := hInoKernelIdeal)
    ∧ quiescent_InoReferenceIdeal (hInoReferenceIdeal := hInoReferenceIdeal)
    ∧ quiescent_XqKernel (hXqKernel := hXqKernel)
    ∧ quiescent_XqKernelIdeal (hXqKernelIdeal := hXqKernelIdeal)
    ∧ quiescent_XqReferenceIdeal (hXqReferenceIdeal := hXqReferenceIdeal)
    ∧ quiescent_OuteKernel (hOuteKernel := hOuteKernel)
    ∧ quiescent_OuteKernelIdeal (hOuteKernelIdeal := hOuteKernelIdeal)
    ∧ quiescent_OuteReferenceIdeal (hOuteReferenceIdeal := hOuteReferenceIdeal)
    ∧ quiescent_OutoKernel (hOutoKernel := hOutoKernel)
    ∧ quiescent_OutoKernelIdeal (hOutoKernelIdeal := hOutoKernelIdeal)
    ∧ quiescent_OutoReferenceIdeal (hOutoReferenceIdeal := hOutoReferenceIdeal)
    ∧ quiescent_XoKernel (hXoKernel := hXoKernel)
    ∧ quiescent_XoKernelIdeal (hXoKernelIdeal := hXoKernelIdeal)
    ∧ quiescent_XoReferenceIdeal (hXoReferenceIdeal := hXoReferenceIdeal)
    ∧ quiescent_DwieKernel (hDwieKernel := hDwieKernel)
    ∧ quiescent_DwieKernelIdeal (hDwieKernelIdeal := hDwieKernelIdeal)
    ∧ quiescent_DwieReferenceIdeal (hDwieReferenceIdeal := hDwieReferenceIdeal)
    ∧ quiescent_DwioKernel (hDwioKernel := hDwioKernel)
    ∧ quiescent_DwioKernelIdeal (hDwioKernelIdeal := hDwioKernelIdeal)
    ∧ quiescent_DwioReferenceIdeal (hDwioReferenceIdeal := hDwioReferenceIdeal)
    ∧ quiescent_DwqKernel (hDwqKernel := hDwqKernel)
    ∧ quiescent_DwqKernelIdeal (hDwqKernelIdeal := hDwqKernelIdeal)
    ∧ quiescent_DwqReferenceIdeal (hDwqReferenceIdeal := hDwqReferenceIdeal)
    ∧ quiescent_DwcKernel (hDwcKernel := hDwcKernel)
    ∧ quiescent_DwcKernelIdeal (hDwcKernelIdeal := hDwcKernelIdeal)
    ∧ quiescent_DwcReferenceIdeal (hDwcReferenceIdeal := hDwcReferenceIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_DheKernel (hDheKernel := hDheKernel)
    ∧ quiescent_DheKernelIdeal (hDheKernelIdeal := hDheKernelIdeal)
    ∧ quiescent_DheReferenceIdeal (hDheReferenceIdeal := hDheReferenceIdeal)
    ∧ quiescent_DhoKernel (hDhoKernel := hDhoKernel)
    ∧ quiescent_DhoKernelIdeal (hDhoKernelIdeal := hDhoKernelIdeal)
    ∧ quiescent_DhoReferenceIdeal (hDhoReferenceIdeal := hDhoReferenceIdeal)
    ∧ quiescent_DhqKernel (hDhqKernel := hDhqKernel)
    ∧ quiescent_DhqKernelIdeal (hDhqKernelIdeal := hDhqKernelIdeal)
    ∧ quiescent_DhqReferenceIdeal (hDhqReferenceIdeal := hDhqReferenceIdeal)
    ∧ quiescent_DyKernel (hDyKernel := hDyKernel)
    ∧ quiescent_DyKernelIdeal (hDyKernelIdeal := hDyKernelIdeal)
    ∧ quiescent_DyReferenceIdeal (hDyReferenceIdeal := hDyReferenceIdeal)
    ∧ quiescent_DoKernel (hDoKernel := hDoKernel)
    ∧ quiescent_DoKernelIdeal (hDoKernelIdeal := hDoKernelIdeal)
    ∧ quiescent_DoReferenceIdeal (hDoReferenceIdeal := hDoReferenceIdeal)
    ∧ quiescent_XfKernel (hXfKernel := hXfKernel)
    ∧ quiescent_XfKernelIdeal (hXfKernelIdeal := hXfKernelIdeal)
    ∧ quiescent_XfReferenceIdeal (hXfReferenceIdeal := hXfReferenceIdeal)
    ∧ quiescent_NfKernel (hNfKernel := hNfKernel)
    ∧ quiescent_NfKernelIdeal (hNfKernelIdeal := hNfKernelIdeal)
    ∧ quiescent_NfReferenceIdeal (hNfReferenceIdeal := hNfReferenceIdeal)
    ∧ quiescent_OfKernel (hOfKernel := hOfKernel)
    ∧ quiescent_OfKernelIdeal (hOfKernelIdeal := hOfKernelIdeal)
    ∧ quiescent_OfReferenceIdeal (hOfReferenceIdeal := hOfReferenceIdeal)
    ∧ quiescent_ObKernel (hObKernel := hObKernel)
    ∧ quiescent_ObKernelIdeal (hObKernelIdeal := hObKernelIdeal)
    ∧ quiescent_ObReferenceIdeal (hObReferenceIdeal := hObReferenceIdeal)
    ∧ quiescent_MfKernel (hMfKernel := hMfKernel)
    ∧ quiescent_MfKernelIdeal (hMfKernelIdeal := hMfKernelIdeal)
    ∧ quiescent_MfReferenceIdeal (hMfReferenceIdeal := hMfReferenceIdeal)
    ∧ quiescent_MbKernel (hMbKernel := hMbKernel)
    ∧ quiescent_MbKernelIdeal (hMbKernelIdeal := hMbKernelIdeal)
    ∧ quiescent_MbReferenceIdeal (hMbReferenceIdeal := hMbReferenceIdeal)
    ∧ quiescent_LsKernel (hLsKernel := hLsKernel)
    ∧ quiescent_LsKernelIdeal (hLsKernelIdeal := hLsKernelIdeal)
    ∧ quiescent_LsReferenceIdeal (hLsReferenceIdeal := hLsReferenceIdeal)
    ∧ preserves_XaKernel_XaKernelIdeal
    ∧ algebraic_XaKernelIdeal_XaReferenceIdeal_pre_finite_keys (hXaKernelIdeal := hXaKernelIdeal) (hXaReferenceIdeal := hXaReferenceIdeal) (hPre_finite_keys := hPre_finite_keys)
    ∧ preserves_DhKernel_DhKernelIdeal
    ∧ algebraic_DhKernelIdeal_DhReferenceIdeal (hDhKernelIdeal := hDhKernelIdeal) (hDhReferenceIdeal := hDhReferenceIdeal)
    ∧ preserves_ActKernel_ActKernelIdeal
    ∧ algebraic_ActKernelIdeal_ActReferenceIdeal_pre_finite_gate (hActKernelIdeal := hActKernelIdeal) (hActReferenceIdeal := hActReferenceIdeal) (hPre_finite_gate := hPre_finite_gate)
    ∧ preserves_DwdKernel_DwdKernelIdeal
    ∧ algebraic_DwdKernelIdeal_DwdReferenceIdeal (hDwdKernelIdeal := hDwdKernelIdeal) (hDwdReferenceIdeal := hDwdReferenceIdeal)
    ∧ preserves_DwgKernel_DwgKernelIdeal
    ∧ algebraic_DwgKernelIdeal_DwgReferenceIdeal (hDwgKernelIdeal := hDwgKernelIdeal) (hDwgReferenceIdeal := hDwgReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_IneKernel_IneKernelIdeal
    ∧ algebraic_IneKernelIdeal_IneReferenceIdeal (hIneKernelIdeal := hIneKernelIdeal) (hIneReferenceIdeal := hIneReferenceIdeal)
    ∧ preserves_InoKernel_InoKernelIdeal
    ∧ algebraic_InoKernelIdeal_InoReferenceIdeal (hInoKernelIdeal := hInoKernelIdeal) (hInoReferenceIdeal := hInoReferenceIdeal)
    ∧ preserves_XqKernel_XqKernelIdeal
    ∧ algebraic_XqKernelIdeal_XqReferenceIdeal (hXqKernelIdeal := hXqKernelIdeal) (hXqReferenceIdeal := hXqReferenceIdeal)
    ∧ preserves_OuteKernel_OuteKernelIdeal
    ∧ algebraic_OuteKernelIdeal_OuteReferenceIdeal (hOuteKernelIdeal := hOuteKernelIdeal) (hOuteReferenceIdeal := hOuteReferenceIdeal)
    ∧ preserves_OutoKernel_OutoKernelIdeal
    ∧ algebraic_OutoKernelIdeal_OutoReferenceIdeal (hOutoKernelIdeal := hOutoKernelIdeal) (hOutoReferenceIdeal := hOutoReferenceIdeal)
    ∧ preserves_XoKernel_XoKernelIdeal
    ∧ algebraic_XoKernelIdeal_XoReferenceIdeal (hXoKernelIdeal := hXoKernelIdeal) (hXoReferenceIdeal := hXoReferenceIdeal)
    ∧ preserves_DwieKernel_DwieKernelIdeal
    ∧ algebraic_DwieKernelIdeal_DwieReferenceIdeal (hDwieKernelIdeal := hDwieKernelIdeal) (hDwieReferenceIdeal := hDwieReferenceIdeal)
    ∧ preserves_DwioKernel_DwioKernelIdeal
    ∧ algebraic_DwioKernelIdeal_DwioReferenceIdeal (hDwioKernelIdeal := hDwioKernelIdeal) (hDwioReferenceIdeal := hDwioReferenceIdeal)
    ∧ preserves_DwqKernel_DwqKernelIdeal
    ∧ algebraic_DwqKernelIdeal_DwqReferenceIdeal (hDwqKernelIdeal := hDwqKernelIdeal) (hDwqReferenceIdeal := hDwqReferenceIdeal)
    ∧ preserves_DwcKernel_DwcKernelIdeal
    ∧ algebraic_DwcKernelIdeal_DwcReferenceIdeal (hDwcKernelIdeal := hDwcKernelIdeal) (hDwcReferenceIdeal := hDwcReferenceIdeal)
    ∧ preserves_DwoKernel_DwoKernelIdeal
    ∧ algebraic_DwoKernelIdeal_DwoReferenceIdeal (hDwoKernelIdeal := hDwoKernelIdeal) (hDwoReferenceIdeal := hDwoReferenceIdeal)
    ∧ preserves_DheKernel_DheKernelIdeal
    ∧ algebraic_DheKernelIdeal_DheReferenceIdeal (hDheKernelIdeal := hDheKernelIdeal) (hDheReferenceIdeal := hDheReferenceIdeal)
    ∧ preserves_DhoKernel_DhoKernelIdeal
    ∧ algebraic_DhoKernelIdeal_DhoReferenceIdeal (hDhoKernelIdeal := hDhoKernelIdeal) (hDhoReferenceIdeal := hDhoReferenceIdeal)
    ∧ preserves_DhqKernel_DhqKernelIdeal
    ∧ algebraic_DhqKernelIdeal_DhqReferenceIdeal (hDhqKernelIdeal := hDhqKernelIdeal) (hDhqReferenceIdeal := hDhqReferenceIdeal)
    ∧ preserves_DyKernel_DyKernelIdeal
    ∧ algebraic_DyKernelIdeal_DyReferenceIdeal (hDyKernelIdeal := hDyKernelIdeal) (hDyReferenceIdeal := hDyReferenceIdeal)
    ∧ preserves_DoKernel_DoKernelIdeal
    ∧ algebraic_DoKernelIdeal_DoReferenceIdeal (hDoKernelIdeal := hDoKernelIdeal) (hDoReferenceIdeal := hDoReferenceIdeal)
    ∧ preserves_XfKernel_XfKernelIdeal
    ∧ algebraic_XfKernelIdeal_XfReferenceIdeal (hXfKernelIdeal := hXfKernelIdeal) (hXfReferenceIdeal := hXfReferenceIdeal)
    ∧ preserves_NfKernel_NfKernelIdeal
    ∧ algebraic_NfKernelIdeal_NfReferenceIdeal (hNfKernelIdeal := hNfKernelIdeal) (hNfReferenceIdeal := hNfReferenceIdeal)
    ∧ preserves_OfKernel_OfKernelIdeal
    ∧ algebraic_OfKernelIdeal_OfReferenceIdeal (hOfKernelIdeal := hOfKernelIdeal) (hOfReferenceIdeal := hOfReferenceIdeal)
    ∧ preserves_ObKernel_ObKernelIdeal
    ∧ algebraic_ObKernelIdeal_ObReferenceIdeal (hObKernelIdeal := hObKernelIdeal) (hObReferenceIdeal := hObReferenceIdeal)
    ∧ preserves_MfKernel_MfKernelIdeal
    ∧ algebraic_MfKernelIdeal_MfReferenceIdeal (hMfKernelIdeal := hMfKernelIdeal) (hMfReferenceIdeal := hMfReferenceIdeal)
    ∧ preserves_MbKernel_MbKernelIdeal
    ∧ algebraic_MbKernelIdeal_MbReferenceIdeal (hMbKernelIdeal := hMbKernelIdeal) (hMbReferenceIdeal := hMbReferenceIdeal)
    ∧ preserves_LsKernel_LsKernelIdeal
    ∧ algebraic_LsKernelIdeal_LsReferenceIdeal (hLsKernelIdeal := hLsKernelIdeal) (hLsReferenceIdeal := hLsReferenceIdeal)
-- ==== Pre_finite_gate.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  main_v15
-- ==== Pre_finite_keys.lean ====
abbrev S8192x512 : Shape := ⟨2, ![8192, 512]⟩
abbrev S128 : Shape := ⟨1, ![128]⟩
abbrev S256x512 : Shape := ⟨2, ![256, 512]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .f32) (main_arg1 : FVec F S8192x512 .bf16) (main_arg2 : FVec F S128 .f32) (main_arg3 : FVec F S256x512 .bf16) (main_arg4 : FVec F S256x512 .bf16) : IVec S_ 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S256x512 .f32 := (extf .f32 · bitsLt_bf16_f32) main_arg3
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  main_v9
-- ==== XaKernel.lean ====
abbrev S8192x512 : Shape := ⟨2, ![8192, 512]⟩
abbrev S128 : Shape := ⟨1, ![128]⟩
abbrev S256x512 : Shape := ⟨2, ![256, 512]⟩
abbrev S1x128 : Shape := ⟨2, ![1, 128]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S512x256 : Shape := ⟨2, ![512, 256]⟩

abbrev nBuf : Space → Nat
  | .hbm => 10
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S128, .f32⟩
  | .hbm, ⟨3, _⟩ => ⟨S256x512, .bf16⟩
  | .hbm, ⟨4, _⟩ => ⟨S256x512, .bf16⟩
  | .hbm, ⟨5, _⟩ => ⟨S1x128, .f32⟩
  | .hbm, ⟨6, _⟩ => ⟨S8192x512, .bf16⟩
  | .hbm, ⟨7, _⟩ => ⟨S256x512, .f32⟩
  | .hbm, ⟨8, _⟩ => ⟨S256x512, .f32⟩
  | .hbm, ⟨9, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S512x512, .bf16⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== XaKernelIdeal.lean ====
variable {F : FTy → Type} [FloatOps F] [Named F]
def κ : String → Option EReal := fun
  | "inv_sqrt_hd" => some (((Real.sqrt 128)⁻¹ : ℝ) : EReal)
  | _ => none
-- ==== XaReferenceIdeal.lean ====
abbrev S8192x512 : Shape := ⟨2, ![8192, 512]⟩
abbrev S128 : Shape := ⟨1, ![128]⟩
abbrev S256x512 : Shape := ⟨2, ![256, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S8192x512, .f32⟩
  | 1 => ⟨S8192x512, .bf16⟩
  | 2 => ⟨S128, .f32⟩
  | 3 => ⟨S256x512, .bf16⟩
  | 4 => ⟨S256x512, .bf16⟩
  | 5 => ⟨S256x512, .f32⟩
  | 6 => ⟨S256x512, .f32⟩
  | 7 => ⟨S8192x512, .f32⟩
  | 8 => ⟨S8192x4x128, .f32⟩
  | 9 => ⟨S8192x4x128, .f32⟩
  | 10 => ⟨S_, .f32⟩
  | 11 => ⟨S8192x4, .f32⟩
  | 12 => ⟨S8192x4x1, .f32⟩
  | 13 => ⟨S_, .f32⟩
  | 14 => ⟨S8192x4x1, .f32⟩
  | 15 => ⟨S8192x4x1, .f32⟩
  | 16 => ⟨S_, .f32⟩
  | 17 => ⟨S8192x4x1, .f32⟩
  | 18 => ⟨S8192x4x1, .f32⟩
  | 19 => ⟨S8192x4x1, .f32⟩
  | 20 => ⟨S8192x4x1, .f32⟩
  | 21 => ⟨S_, .f32⟩
  | 22 => ⟨S8192x4x1, .f32⟩
  | 23 => ⟨S8192x4x1, .f32⟩
  | 24 => ⟨S8192x4x128, .f32⟩
  | 25 => ⟨S8192x4x128, .f32⟩
  | 26 => ⟨S1x1x128, .f32⟩
  | 27 => ⟨S8192x4x128, .f32⟩
  | 28 => ⟨S8192x4x128, .f32⟩
  | 29 => ⟨S256x4x128, .f32⟩
  | 30 => ⟨S256x4x128, .f32⟩
  | 31 => ⟨S4x8192x256, .f32⟩
  | 32 => ⟨S_, .f32⟩
  | 33 => ⟨S_, .f32⟩
  | 34 => ⟨S4x8192x256, .f32⟩
  | 35 => ⟨S4x8192x256, .f32⟩
  | 36 => ⟨S_, .f32⟩
  | 37 => ⟨S4x8192, .f32⟩
  | 38 => ⟨S4x8192x1, .f32⟩
  | 39 => ⟨S4x8192x256, .f32⟩
  | 40 => ⟨S4x8192x256, .i1⟩
  | 41 => ⟨S4x8192x256, .f32⟩
  | 42 => ⟨S_, .f32⟩
  | 43 => ⟨S4x8192, .f32⟩
  | 44 => ⟨S_, .f32⟩
  | 45 => ⟨S4x8192, .f32⟩
  | 46 => ⟨S4x8192, .f32⟩
  | 47 => ⟨S_, .f32⟩
  | 48 => ⟨S4x8192, .f32⟩
  | 49 => ⟨S4x8192, .i1⟩
  | 50 => ⟨S_, .f32⟩
  | 51 => ⟨S4x8192, .f32⟩
  | 52 => ⟨S4x8192, .i1⟩
  | 53 => ⟨S_, .f32⟩
  | 54 => ⟨S4x8192, .f32⟩
  | 55 => ⟨S_, .f32⟩
  | 56 => ⟨S4x8192, .f32⟩
  | 57 => ⟨S_, .f32⟩
  | 58 => ⟨S4x8192, .f32⟩
  | 59 => ⟨S4x8192, .f32⟩
  | 60 => ⟨S4x8192, .f32⟩
  | 61 => ⟨S4x8192x1, .f32⟩
  | 62 => ⟨S4x8192x256, .f32⟩
  | 63 => ⟨S4x8192x256, .f32⟩
  | 64 => ⟨S4x8192x256, .f32⟩
  | 65 => ⟨S_, .f32⟩
  | 66 => ⟨S4x8192, .f32⟩
  | 67 => ⟨S4x8192x1, .f32⟩
  | 68 => ⟨S4x8192x256, .f32⟩
  | 69 => ⟨S4x8192x256, .f32⟩
  | 70 => ⟨S4x8192x1, .f32⟩
  | 71 => ⟨S_, .f32⟩
  | 72 => ⟨S4x8192x1, .f32⟩
  | 73 => ⟨S4x8192x1, .f32⟩
  | 74 => ⟨S4x128x8192, .f32⟩
  | 75 => ⟨S8192x4x128, .f32⟩
  | 76 => ⟨S8192x512, .f32⟩
  | 77 => ⟨S8192x4x128, .f32⟩
  | 78 => ⟨S4x128x8192, .f32⟩
  | 79 => ⟨S4x8192x256, .f32⟩
  | 80 => ⟨S4x128x256, .f32⟩
  | 81 => ⟨S256x4x128, .f32⟩
  | 82 => ⟨S4x8192x256, .f32⟩
  | 83 => ⟨S4x8192x256, .f32⟩
  | 84 => ⟨S4x8192x256, .f32⟩
  | 85 => ⟨S_, .f32⟩
  | 86 => ⟨S4x8192, .f32⟩
  | 87 => ⟨S4x8192x1, .f32⟩
  | 88 => ⟨S4x8192x1, .f32⟩
  | 89 => ⟨S4x8192x256, .f32⟩
  | 90 => ⟨S4x8192x256, .f32⟩
  | 91 => ⟨S_, .f32⟩
  | 92 => ⟨S4x8192, .f32⟩
  | 93 => ⟨S4x8192x256, .f32⟩
  | 94 => ⟨S4x8192x256, .f32⟩
  | 95 => ⟨S4x8192x256, .f32⟩
  | 96 => ⟨S4x8192x256, .f32⟩
  | 97 => ⟨S4x8192x256, .f32⟩
  | 98 => ⟨S4x256x128, .f32⟩
  | 99 => ⟨S256x4x128, .f32⟩
  | 100 => ⟨S4x8192x128, .f32⟩
  | 101 => ⟨S8192x4x128, .f32⟩
  | 102 => ⟨S256x512, .f32⟩
  | 103 => ⟨S256x512, .f32⟩
  | 104 => ⟨S8192x4x128, .f32⟩
  | 105 => ⟨S_, .f32⟩
  | 106 => ⟨S128, .f32⟩
  | 107 => ⟨S1x1x128, .f32⟩
  | 108 => ⟨S8192x4x128, .f32⟩
  | 109 => ⟨S8192x4x128, .f32⟩
  | 110 => ⟨S_, .f32⟩
  | 111 => ⟨S128, .f32⟩
  | 112 => ⟨S8192x4x128, .f32⟩
  | 113 => ⟨S_, .f32⟩
  | 114 => ⟨S8192x4, .f32⟩
  | 115 => ⟨S8192x4x1, .f32⟩
  | 116 => ⟨S8192x4x128, .f32⟩
  | 117 => ⟨S8192x4x128, .f32⟩
  | 118 => ⟨S8192x4x1, .f32⟩
  | 119 => ⟨S_, .f32⟩
  | 120 => ⟨S8192x4x1, .f32⟩
  | 121 => ⟨S8192x4x1, .f32⟩
  | 122 => ⟨S_, .f32⟩
  | 123 => ⟨S8192x4, .f32⟩
  | 124 => ⟨S8192x4x128, .f32⟩
  | 125 => ⟨S8192x4x128, .f32⟩
  | 126 => ⟨S8192x4x128, .f32⟩
  | 127 => ⟨S8192x4x128, .f32⟩
  | _ => ⟨S8192x512, .f32⟩

abbrev hbmTy0_1 (i : Nat) : BufTy := match i % 128 with
  | 0 => ⟨S8192x4x128, .f32⟩
  | 1 => ⟨S8192x512, .f32⟩
  | 2 => ⟨S8192x512, .bf16⟩
  | 3 => ⟨S1x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_17 : Ref sig .tc := ⟨.hbm, 110, rfl⟩
abbrev main_v87 : Ref sig .tc := ⟨.hbm, 111, rfl⟩
abbrev main_v88 : Ref sig .tc := ⟨.hbm, 112, rfl⟩
abbrev main_cst_18 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_19 : Ref sig .tc := ⟨.hbm, 119, rfl⟩
abbrev main_v94 : Ref sig .tc := ⟨.hbm, 120, rfl⟩
abbrev main_v95 : Ref sig .tc := ⟨.hbm, 121, rfl⟩
abbrev main_cst_20 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩

abbrev nD : Nat := 1
abbrev τ : Topo := Topo.v7x

variable {F : FTy → Type} [FloatOps F]
-- ==== DhKernel.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![1, 16, 2], ![false, false, false]⟩

def k0_cond2 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_18 : BitVec 32 := 0#32
  let v22 : BitVec 1 := Scalar.cmpi .ne v21 c0_i32_18
  v22

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v39 : BitVec 32 := Scalar.extui v0
  let c0_i32_28 : BitVec 32 := 0#32
  let v40 : BitVec 1 := Scalar.cmpi .ne v39 c0_i32_28
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]
-- ==== DhReferenceIdeal.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S1024x2816, .f32⟩
  | .hbm, ⟨8, _⟩ => ⟨S1024x2816, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== ActKernel.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DwdKernel.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwgKernel.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgReferenceIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpKernel.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S1024x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DownKernel.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== IneKernel.lean ====
abbrev S8192x1024 : Shape := ⟨2, ![8192, 1024]⟩
abbrev S1024x2688 : Shape := ⟨2, ![1024, 2688]⟩
abbrev S8192x2688 : Shape := ⟨2, ![8192, 2688]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== IneKernelIdeal.lean ====
abbrev S8192x1024 : Shape := ⟨2, ![8192, 1024]⟩
abbrev S1024x2688 : Shape := ⟨2, ![1024, 2688]⟩
abbrev S8192x2688 : Shape := ⟨2, ![8192, 2688]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== IneReferenceIdeal.lean ====
abbrev S8192x1024 : Shape := ⟨2, ![8192, 1024]⟩
abbrev S1024x2688 : Shape := ⟨2, ![1024, 2688]⟩
abbrev S8192x2688 : Shape := ⟨2, ![8192, 2688]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x1024, .f32⟩
  | .hbm, ⟨3, _⟩ => ⟨S1024x2688, .f32⟩
  | .hbm, ⟨4, _⟩ => ⟨S8192x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InoKernel.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InoKernelIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InoReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XqKernel.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqReferenceIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OuteKernel.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩
abbrev S1024x512 : Shape := ⟨2, ![1024, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S512x1024, .bf16⟩
  | .hbm, ⟨5, _⟩ => ⟨S512x1024, .bf16⟩
  | .hbm, ⟨6, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_17 : BitVec 32 := 0#32
  let v21 : BitVec 1 := Scalar.cmpi .eq arg2 c0_i32_17
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OuteReferenceIdeal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutoKernel.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutoKernelIdeal.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutoReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XoKernel.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwieKernel.lean ====
abbrev S8192x1024 : Shape := ⟨2, ![8192, 1024]⟩
abbrev S8192x2688 : Shape := ⟨2, ![8192, 2688]⟩
abbrev S1024x2688 : Shape := ⟨2, ![1024, 2688]⟩
abbrev S512x1024 : Shape := ⟨2, ![512, 1024]⟩
abbrev S512x896 : Shape := ⟨2, ![512, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S1024x2688, .f32⟩
  | .local _ .vmem, ⟨0, _⟩ => ⟨S512x1024, .bf16⟩
  | .local _ .vmem, ⟨1, _⟩ => ⟨S512x1024, .bf16⟩
  | .local _ .vmem, ⟨2, _⟩ => ⟨S512x896, .bf16⟩
  | .local _ .vmem, ⟨3, _⟩ => ⟨S512x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwieKernelIdeal.lean ====
abbrev S8192x1024 : Shape := ⟨2, ![8192, 1024]⟩
abbrev S8192x2688 : Shape := ⟨2, ![8192, 2688]⟩
abbrev S1024x2688 : Shape := ⟨2, ![1024, 2688]⟩
abbrev S512x1024 : Shape := ⟨2, ![512, 1024]⟩
abbrev S512x896 : Shape := ⟨2, ![512, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S1024x2688, .f32⟩
  | .local _ .vmem, ⟨0, _⟩ => ⟨S512x1024, .bf16⟩
  | .local _ .vmem, ⟨1, _⟩ => ⟨S512x1024, .bf16⟩
  | .local _ .vmem, ⟨2, _⟩ => ⟨S512x896, .bf16⟩
  | .local _ .vmem, ⟨3, _⟩ => ⟨S512x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwieReferenceIdeal.lean ====
abbrev S8192x1024 : Shape := ⟨2, ![8192, 1024]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S8192x1024, .f32⟩
  | .hbm, ⟨3, _⟩ => ⟨S_, .f32⟩
  | .hbm, ⟨4, _⟩ => ⟨S1024x2688, .f32⟩
  | .hbm, ⟨5, _⟩ => ⟨S8192x2688, .f32⟩
  | .hbm, ⟨6, _⟩ => ⟨S8192x2688, .f32⟩
  | .hbm, ⟨7, _⟩ => ⟨S2688x1024, .f32⟩
  | .hbm, ⟨8, _⟩ => ⟨S1024x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwioKernel.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwioKernelIdeal.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwioReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwqKernel.lean ====
abbrev S8192x1024 : Shape := ⟨2, ![8192, 1024]⟩
abbrev S8192x512 : Shape := ⟨2, ![8192, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwqKernelIdeal.lean ====
abbrev S8192x1024 : Shape := ⟨2, ![8192, 1024]⟩
abbrev S8192x512 : Shape := ⟨2, ![8192, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwqReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S_, .f32⟩
  | .hbm, ⟨4, _⟩ => ⟨S1024x512, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwcKernel.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwcKernelIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwcReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwoKernel.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S8192x512, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DheKernel.lean ====
abbrev S8192x2688 : Shape := ⟨2, ![8192, 2688]⟩
abbrev S1024x2688 : Shape := ⟨2, ![1024, 2688]⟩
abbrev S8192x1024 : Shape := ⟨2, ![8192, 1024]⟩
abbrev S1024 : Shape := ⟨1, ![1024]⟩
abbrev S1x1024 : Shape := ⟨2, ![1, 1024]⟩
abbrev S512x896 : Shape := ⟨2, ![512, 896]⟩
abbrev S1024x896 : Shape := ⟨2, ![1024, 896]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2688, .bf16⟩
  | .hbm, ⟨1, _⟩ => ⟨S1024x2688, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x896, .bf16⟩
  | .local _ .vmem, ⟨1, _⟩ => ⟨S512x896, .bf16⟩
  | .local _ .vmem, ⟨2, _⟩ => ⟨S1024x896, .bf16⟩
  | .local _ .vmem, ⟨3, _⟩ => ⟨S1024x896, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 16, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v31 : BitVec 32 := Scalar.extui v0
  let c0_i32_19 : BitVec 32 := 0#32
  let v32 : BitVec 1 := Scalar.cmpi .ne v31 c0_i32_19
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== DheKernelIdeal.lean ====
abbrev S8192x2688 : Shape := ⟨2, ![8192, 2688]⟩
abbrev S1024x2688 : Shape := ⟨2, ![1024, 2688]⟩
abbrev S8192x1024 : Shape := ⟨2, ![8192, 1024]⟩
abbrev S1024 : Shape := ⟨1, ![1024]⟩
abbrev S1x1024 : Shape := ⟨2, ![1, 1024]⟩
abbrev S512x896 : Shape := ⟨2, ![512, 896]⟩
abbrev S1024x896 : Shape := ⟨2, ![1024, 896]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2688, .bf16⟩
  | .hbm, ⟨1, _⟩ => ⟨S1024x2688, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x896, .bf16⟩
  | .local _ .vmem, ⟨1, _⟩ => ⟨S512x896, .bf16⟩
  | .local _ .vmem, ⟨2, _⟩ => ⟨S1024x896, .bf16⟩
  | .local _ .vmem, ⟨3, _⟩ => ⟨S1024x896, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 16, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v31 : BitVec 32 := Scalar.extui v0
  let c0_i32_19 : BitVec 32 := 0#32
  let v32 : BitVec 1 := Scalar.cmpi .ne v31 c0_i32_19
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== DheReferenceIdeal.lean ====
abbrev S8192x2688 : Shape := ⟨2, ![8192, 2688]⟩
abbrev S1024x2688 : Shape := ⟨2, ![1024, 2688]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2688, .bf16⟩
  | .hbm, ⟨1, _⟩ => ⟨S1024x2688, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x2688, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2688, .f32⟩
  | .hbm, ⟨27, _⟩ => ⟨S8192x2688, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DhoKernel.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 16, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v31 : BitVec 32 := Scalar.extui v0
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== DhoKernelIdeal.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 16, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v31 : BitVec 32 := Scalar.extui v0
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== DhoReferenceIdeal.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DhqKernel.lean ====
abbrev S8192x512 : Shape := ⟨2, ![8192, 512]⟩
abbrev S1024x512 : Shape := ⟨2, ![1024, 512]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 16, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v31 : BitVec 32 := Scalar.extui v0
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== DhqReferenceIdeal.lean ====
abbrev S8192x512 : Shape := ⟨2, ![8192, 512]⟩
abbrev S1024x512 : Shape := ⟨2, ![1024, 512]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x512, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DyKernel.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DoKernel.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoReferenceIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S8192x512, .f32⟩
  | .hbm, ⟨5, _⟩ => ⟨S8192x1024, .f32⟩
  | .hbm, ⟨6, _⟩ => ⟨S8192x512, .f32⟩
  | .hbm, ⟨7, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XfKernel.lean ====
abbrev S8192x512 : Shape := ⟨2, ![8192, 512]⟩
abbrev S128 : Shape := ⟨1, ![128]⟩
abbrev S256x512 : Shape := ⟨2, ![256, 512]⟩
abbrev S1x128 : Shape := ⟨2, ![1, 128]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S128, .f32⟩
  | .hbm, ⟨2, _⟩ => ⟨S256x512, .bf16⟩
  | .hbm, ⟨3, _⟩ => ⟨S256x512, .bf16⟩
  | .hbm, ⟨4, _⟩ => ⟨S1x128, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x128, .f32⟩
  | .local _ .vmem, ⟨3, _⟩ => ⟨S256x512, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XfKernelIdeal.lean ====
variable {F : FTy → Type} [FloatOps F] [Named F]
def κ : String → Option EReal := fun
  | "inv_sqrt_hd" => some (((Real.sqrt 128)⁻¹ : ℝ) : EReal)
  | _ => none
-- ==== XfReferenceIdeal.lean ====
abbrev S8192x512 : Shape := ⟨2, ![8192, 512]⟩
abbrev S128 : Shape := ⟨1, ![128]⟩
abbrev S256x512 : Shape := ⟨2, ![256, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S128, .f32⟩
  | .hbm, ⟨2, _⟩ => ⟨S256x512, .bf16⟩
  | .hbm, ⟨3, _⟩ => ⟨S256x512, .bf16⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S8192x4x128, .f32⟩
  | .hbm, ⟨8, _⟩ => ⟨S_, .f32⟩
  | .hbm, ⟨9, _⟩ => ⟨S8192x4, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S8192x4x1, .f32⟩
  | .hbm, ⟨18, _⟩ => ⟨S8192x4x128, .f32⟩
  | .hbm, ⟨19, _⟩ => ⟨S8192x4x128, .f32⟩
  | .hbm, ⟨20, _⟩ => ⟨S1x1x128, .f32⟩
  | .hbm, ⟨21, _⟩ => ⟨S8192x4x128, .f32⟩
  | .hbm, ⟨22, _⟩ => ⟨S8192x4x128, .f32⟩
  | .hbm, ⟨23, _⟩ => ⟨S256x4x128, .f32⟩
  | .hbm, ⟨24, _⟩ => ⟨S256x4x128, .f32⟩
  | .hbm, ⟨25, _⟩ => ⟨S4x8192x256, .f32⟩
  | .hbm, ⟨26, _⟩ => ⟨S_, .f32⟩
  | .hbm, ⟨27, _⟩ => ⟨S_, .f32⟩
  | .hbm, ⟨28, _⟩ => ⟨S4x8192x256, .f32⟩
  | .hbm, ⟨29, _⟩ => ⟨S4x8192x256, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192x1, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x128x8192, .f32⟩
  | .hbm, ⟨45, _⟩ => ⟨S8192x4x128, .f32⟩
  | .hbm, ⟨46, _⟩ => ⟨S8192x512, .f32⟩
  | .hbm, ⟨47, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== NfKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NfReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OfKernel.lean ====
abbrev S8192x2048 : Shape := ⟨2, ![8192, 2048]⟩
abbrev S4x128x128 : Shape := ⟨3, ![4, 128, 128]⟩
abbrev S512 : Shape := ⟨1, ![512]⟩
abbrev S8x512 : Shape := ⟨2, ![8, 512]⟩
abbrev S1x512 : Shape := ⟨2, ![1, 512]⟩
abbrev S8192x1024 : Shape := ⟨2, ![8192, 1024]⟩
abbrev S256x2048 : Shape := ⟨2, ![256, 2048]⟩
abbrev S16x2048 : Shape := ⟨2, ![16, 2048]⟩
abbrev S256x1024 : Shape := ⟨2, ![256, 1024]⟩
abbrev S256x128 : Shape := ⟨2, ![256, 128]⟩
abbrev S16x128 : Shape := ⟨2, ![16, 128]⟩
abbrev S272x128 : Shape := ⟨2, ![272, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4x128x128, .bf16⟩
  | .hbm, ⟨2, _⟩ => ⟨S512, .f32⟩
  | .hbm, ⟨3, _⟩ => ⟨S8x512, .f32⟩
  | .hbm, ⟨4, _⟩ => ⟨S1x512, .f32⟩
  | .hbm, ⟨5, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S4x128x128, .bf16⟩
  | .local _ .vmem, ⟨5, _⟩ => ⟨S1x512, .f32⟩
  | .local _ .vmem, ⟨6, _⟩ => ⟨S8x512, .f32⟩
  | .local _ .vmem, ⟨7, _⟩ => ⟨S256x1024, .bf16⟩
  | .local _ .vmem, ⟨8, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OfReferenceIdeal.lean ====
abbrev S8192x2048 : Shape := ⟨2, ![8192, 2048]⟩
abbrev S4x128x128 : Shape := ⟨3, ![4, 128, 128]⟩
abbrev S512 : Shape := ⟨1, ![512]⟩
abbrev S8x512 : Shape := ⟨2, ![8, 512]⟩
abbrev S8192 : Shape := ⟨1, ![8192]⟩
abbrev S4 : Shape := ⟨1, ![4]⟩
abbrev S_ : Shape := ⟨0, ![]⟩
abbrev S4x1x1 : Shape := ⟨3, ![4, 1, 1]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S4x1x8192 : Shape := ⟨3, ![4, 1, 8192]⟩
abbrev S4x8192x8192 : Shape := ⟨3, ![4, 8192, 8192]⟩
abbrev S4x8192x1 : Shape := ⟨3, ![4, 8192, 1]⟩
abbrev S8192x512 : Shape := ⟨2, ![8192, 512]⟩
abbrev S8192x4x128 : Shape := ⟨3, ![8192, 4, 128]⟩
abbrev S4x8192x128 : Shape := ⟨3, ![4, 8192, 128]⟩
abbrev S1x512 : Shape := ⟨2, ![1, 512]⟩
abbrev S2x512 : Shape := ⟨2, ![2, 512]⟩
abbrev S8194x512 : Shape := ⟨2, ![8194, 512]⟩
abbrev S8192x1024 : Shape := ⟨2, ![8192, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x128x128, .bf16⟩
  | .hbm, ⟨2, _⟩ => ⟨S512, .f32⟩
  | .hbm, ⟨3, _⟩ => ⟨S8x512, .f32⟩
  | .hbm, ⟨4, _⟩ => ⟨S4x128x128, .f32⟩
  | .hbm, ⟨5, _⟩ => ⟨S8192, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S_, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4, .i32⟩
  | .hbm, ⟨27, _⟩ => ⟨S4, .i32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i1⟩
  | .hbm, ⟨32, _⟩ => ⟨S_, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4, .i32⟩
  | .hbm, ⟨37, _⟩ => ⟨S4, .i32⟩
  | .hbm, ⟨38, _⟩ => ⟨S4, .i32⟩
  | .hbm, ⟨39, _⟩ => ⟨S_, .i32⟩
  | .hbm, ⟨40, _⟩ => ⟨S4, .i32⟩
  | .hbm, ⟨41, _⟩ => ⟨S4, .i1⟩
  | .hbm, ⟨42, _⟩ => ⟨S_, .i32⟩
  | .hbm, ⟨43, _⟩ => ⟨S_, .i32⟩
  | .hbm, ⟨44, _⟩ => ⟨S4, .i32⟩
  | .hbm, ⟨45, _⟩ => ⟨S4, .i32⟩
  | .hbm, ⟨46, _⟩ => ⟨S4, .i32⟩
  | .hbm, ⟨47, _⟩ => ⟨S4, .i32⟩
  | .hbm, ⟨48, _⟩ => ⟨S4x1x1, .i32⟩
  | .hbm, ⟨49, _⟩ => ⟨S1x8192x1, .i32⟩
  | .hbm, ⟨50, _⟩ => ⟨S1x1x8192, .i32⟩
  | .hbm, ⟨51, _⟩ => ⟨S1x8192x8192, .i32⟩
  | .hbm, ⟨52, _⟩ => ⟨S1x8192x8192, .i32⟩
  | .hbm, ⟨53, _⟩ => ⟨S1x8192x8192, .i1⟩
  | .hbm, ⟨54, _⟩ => ⟨S4x1x1, .i32⟩
  | .hbm, ⟨55, _⟩ => ⟨S4x1x8192, .i32⟩
  | .hbm, ⟨56, _⟩ => ⟨S4x1x8192, .i32⟩
  | .hbm, ⟨57, _⟩ => ⟨S4x1x8192, .i32⟩
  | .hbm, ⟨58, _⟩ => ⟨S4x8192x8192, .i32⟩
  | .hbm, ⟨59, _⟩ => ⟨S4x8192x8192, .i32⟩
  | .hbm, ⟨60, _⟩ => ⟨S4x8192x8192, .i1⟩
  | .hbm, ⟨61, _⟩ => ⟨S4x8192x8192, .i1⟩
  | .hbm, ⟨62, _⟩ => ⟨S4x8192x8192, .i1⟩
  | .hbm, ⟨63, _⟩ => ⟨S_, .f32⟩
  | .hbm, ⟨64, _⟩ => ⟨S_, .f32⟩
  | .hbm, ⟨65, _⟩ => ⟨S4x8192x8192, .f32⟩
  | .hbm, ⟨66, _⟩ => ⟨S4x8192x8192, .f32⟩
  | .hbm, ⟨67, _⟩ => ⟨S4x8192x8192, .f32⟩
  | .hbm, ⟨68, _⟩ => ⟨S_, .i32⟩
  | .hbm, ⟨69, _⟩ => ⟨S1x8192x1, .i32⟩
  | .hbm, ⟨70, _⟩ => ⟨S1x8192x1, .i32⟩
  | .hbm, ⟨71, _⟩ => ⟨S4x1x1, .i32⟩
  | .hbm, ⟨72, _⟩ => ⟨S4x8192x1, .i32⟩
  | .hbm, ⟨73, _⟩ => ⟨S4x8192x1, .i32⟩
  | .hbm, ⟨74, _⟩ => ⟨S4x8192x1, .i32⟩
  | .hbm, ⟨75, _⟩ => ⟨S4x8192x1, .f32⟩
  | .hbm, ⟨76, _⟩ => ⟨S8192x512, .f32⟩
  | .hbm, ⟨77, _⟩ => ⟨S8192x4x128, .f32⟩
  | .hbm, ⟨78, _⟩ => ⟨S4x8192x128, .f32⟩
  | .hbm, ⟨79, _⟩ => ⟨S4x8192x128, .f32⟩
  | .hbm, ⟨80, _⟩ => ⟨S4x8192x128, .f32⟩
  | .hbm, ⟨81, _⟩ => ⟨S4x8192x128, .f32⟩
  | .hbm, ⟨82, _⟩ => ⟨S4x8192x128, .f32⟩
  | .hbm, ⟨83, _⟩ => ⟨S4x8192x128, .f32⟩
  | .hbm, ⟨84, _⟩ => ⟨S8192x4x128, .f32⟩
  | .hbm, ⟨85, _⟩ => ⟨S8192x512, .f32⟩
  | .hbm, ⟨86, _⟩ => ⟨S1x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S2x512, .f32⟩
  | .hbm, ⟨94, _⟩ => ⟨S8192x512, .f32⟩
  | .hbm, ⟨95, _⟩ => ⟨S8194x512, .f32⟩
  | .hbm, ⟨96, _⟩ => ⟨S1x512, .f32⟩
  | .hbm, ⟨97, _⟩ => ⟨S512, .f32⟩
  | .hbm, ⟨98, _⟩ => ⟨S8192x512, .f32⟩
  | .hbm, ⟨99, _⟩ => ⟨S1x512, .f32⟩
  | .hbm, ⟨100, _⟩ => ⟨S8192x512, .f32⟩
  | .hbm, ⟨101, _⟩ => ⟨S8192x512, .f32⟩
  | .hbm, ⟨102, _⟩ => ⟨S_, .f32⟩
  | .hbm, ⟨103, _⟩ => ⟨S8192x512, .f32⟩
  | .hbm, ⟨104, _⟩ => ⟨S8192x512, .f32⟩
  | .hbm, ⟨105, _⟩ => ⟨S1x512, .f32⟩
  | .hbm, ⟨106, _⟩ => ⟨S512, .f32⟩
  | .hbm, ⟨107, _⟩ => ⟨S8192x512, .f32⟩
  | .hbm, ⟨108, _⟩ => ⟨S1x512, .f32⟩
  | .hbm, ⟨109, _⟩ => ⟨S8192x512, .f32⟩
  | .hbm, ⟨110, _⟩ => ⟨S8192x512, .f32⟩
  | .hbm, ⟨111, _⟩ => ⟨S8192x512, .f32⟩
  | .hbm, ⟨112, _⟩ => ⟨S1x512, .f32⟩
  | .hbm, ⟨113, _⟩ => ⟨S512, .f32⟩
  | .hbm, ⟨114, _⟩ => ⟨S8192x512, .f32⟩
  | .hbm, ⟨115, _⟩ => ⟨S1x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x1024, .f32⟩
  | .hbm, ⟨121, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_6 : Ref sig .tc := ⟨.hbm, 29, rfl⟩
abbrev main_v14 : Ref sig .tc := ⟨.hbm, 30, rfl⟩
abbrev main_v15 : Ref sig .tc := ⟨.hbm, 31, rfl⟩
abbrev main_c_7 : Ref sig .tc := ⟨.hbm, 32, rfl⟩
abbrev main_c_8 : Ref sig .tc := ⟨.hbm, 33, rfl⟩
abbrev main_call2_v0 : Ref sig .tc := ⟨.hbm, 34, rfl⟩
abbrev main_call2_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_9 : Ref sig .tc := ⟨.hbm, 39, rfl⟩
abbrev main_v19 : Ref sig .tc := ⟨.hbm, 40, rfl⟩
abbrev main_v20 : Ref sig .tc := ⟨.hbm, 41, rfl⟩
abbrev main_c_10 : Ref sig .tc := ⟨.hbm, 42, rfl⟩
abbrev main_c_11 : Ref sig .tc := ⟨.hbm, 43, rfl⟩
abbrev main_call3_v0 : Ref sig .tc := ⟨.hbm, 44, rfl⟩
abbrev main_call3_v1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst : Ref sig .tc := ⟨.hbm, 63, rfl⟩
abbrev main_cst_12 : Ref sig .tc := ⟨.hbm, 64, rfl⟩
abbrev main_call4_v0 : Ref sig .tc := ⟨.hbm, 65, rfl⟩
abbrev main_call4_v1 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== ObKernel.lean ====
abbrev S8192x2048 : Shape := ⟨2, ![8192, 2048]⟩
abbrev S8192x1024 : Shape := ⟨2, ![8192, 1024]⟩
abbrev S4x128x128 : Shape := ⟨3, ![4, 128, 128]⟩
abbrev S512 : Shape := ⟨1, ![512]⟩
abbrev S8x512 : Shape := ⟨2, ![8, 512]⟩
abbrev S1x512 : Shape := ⟨2, ![1, 512]⟩
abbrev S256x2048 : Shape := ⟨2, ![256, 2048]⟩
abbrev S16x2048 : Shape := ⟨2, ![16, 2048]⟩
abbrev S256x1024 : Shape := ⟨2, ![256, 1024]⟩
abbrev S16x1024 : Shape := ⟨2, ![16, 1024]⟩
abbrev S256x128 : Shape := ⟨2, ![256, 128]⟩
abbrev S272x128 : Shape := ⟨2, ![272, 128]⟩
abbrev S16x128 : Shape := ⟨2, ![16, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x128x128, .bf16⟩
  | .hbm, ⟨3, _⟩ => ⟨S512, .f32⟩
  | .hbm, ⟨4, _⟩ => ⟨S8x512, .f32⟩
  | .hbm, ⟨5, _⟩ => ⟨S1x512, .f32⟩
  | .hbm, ⟨6, _⟩ => ⟨S8192x2048, .bf16⟩
  | .hbm, ⟨7, _⟩ => ⟨S4x128x128, .f32⟩
  | .hbm, ⟨8, _⟩ => ⟨S1x512, .f32⟩
  | .hbm, ⟨9, _⟩ => ⟨S8x512, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S256x1024, .f32⟩
  | .local _ .vmem, ⟨7, _⟩ => ⟨S256x1024, .f32⟩
  | .local _ .vmem, ⟨8, _⟩ => ⟨S16x1024, .f32⟩
  | .local _ .vmem, ⟨9, _⟩ => ⟨S16x1024, .f32⟩
  | .local _ .vmem, ⟨10, _⟩ => ⟨S4x128x128, .bf16⟩
  | .local _ .vmem, ⟨11, _⟩ => ⟨S1x512, .f32⟩
  | .local _ .vmem, ⟨12, _⟩ => ⟨S8x512, .f32⟩
  | .local _ .vmem, ⟨13, _⟩ => ⟨S256x2048, .bf16⟩
  | .local _ .vmem, ⟨14, _⟩ => ⟨S256x2048, .bf16⟩
  | .local _ .vmem, ⟨15, _⟩ => ⟨S4x128x128, .f32⟩
  | .local _ .vmem, ⟨16, _⟩ => ⟨S1x512, .f32⟩
  | .local _ .vmem, ⟨17, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ObReferenceIdeal.lean ====
abbrev S8192x2048 : Shape := ⟨2, ![8192, 2048]⟩
abbrev S8192x1024 : Shape := ⟨2, ![8192, 1024]⟩
abbrev S4x128x128 : Shape := ⟨3, ![4, 128, 128]⟩
abbrev S512 : Shape := ⟨1, ![512]⟩
abbrev S8x512 : Shape := ⟨2, ![8, 512]⟩
abbrev S8192 : Shape := ⟨1, ![8192]⟩
abbrev S4 : Shape := ⟨1, ![4]⟩
abbrev S_ : Shape := ⟨0, ![]⟩
abbrev S4x1x1 : Shape := ⟨3, ![4, 1, 1]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S4x1x8192 : Shape := ⟨3, ![4, 1, 8192]⟩
abbrev S4x8192x8192 : Shape := ⟨3, ![4, 8192, 8192]⟩
abbrev S4x8192x1 : Shape := ⟨3, ![4, 8192, 1]⟩
abbrev S8192x512 : Shape := ⟨2, ![8192, 512]⟩
abbrev S8192x4x128 : Shape := ⟨3, ![8192, 4, 128]⟩
abbrev S4x8192x128 : Shape := ⟨3, ![4, 8192, 128]⟩
abbrev S1x512 : Shape := ⟨2, ![1, 512]⟩
abbrev S2x512 : Shape := ⟨2, ![2, 512]⟩
abbrev S8194x512 : Shape := ⟨2, ![8194, 512]⟩
abbrev S4x128x8192 : Shape := ⟨3, ![4, 128, 8192]⟩

abbrev nBuf : Space → Nat
  | .hbm => 333
  | .vmem => 0
  | .smem => 0
  | _ => 0

abbrev hbmTy0_0 (i : Nat) : BufTy := match i % 128 with
  | 0 => ⟨S8192x2048, .f32⟩
  | 1 => ⟨S8192x1024, .f32⟩
  | 2 => ⟨S4x128x128, .bf16⟩
  | 3 => ⟨S512, .f32⟩
  | 4 => ⟨S8x512, .f32⟩
  | 5 => ⟨S4x128x128, .f32⟩
  | 6 => ⟨S8192, .i32⟩
  | 7 => ⟨S4, .i32⟩
  | 8 => ⟨S_, .i32⟩
  | 9 => ⟨S4, .i32⟩
  | 10 => ⟨S4, .i1⟩
  | 11 => ⟨S_, .i32⟩
  | 12 => ⟨S_, .i32⟩
  | 13 => ⟨S4, .i32⟩
  | 14 => ⟨S4, .i32⟩
  | 15 => ⟨S4, .i32⟩
  | 16 => ⟨S_, .i32⟩
  | 17 => ⟨S4, .i32⟩
  | 18 => ⟨S4, .i32⟩
  | 19 => ⟨S4, .i32⟩
  | 20 => ⟨S_, .i32⟩
  | 21 => ⟨S4, .i32⟩
  | 22 => ⟨S4, .i1⟩
  | 23 => ⟨S_, .i32⟩
  | 24 => ⟨S_, .i32⟩
  | 25 => ⟨S4, .i32⟩
  | 26 => ⟨S4, .i32⟩
  | 27 => ⟨S4, .i32⟩
  | 28 => ⟨S4, .i32⟩
  | 29 => ⟨S4, .i32⟩
  | 30 => ⟨S_, .i32⟩
  | 31 => ⟨S4, .i32⟩
  | 32 => ⟨S4, .i1⟩
  | 33 => ⟨S_, .i32⟩
  | 34 => ⟨S_, .i32⟩
  | 35 => ⟨S4, .i32⟩
  | 36 => ⟨S4, .i32⟩
  | 37 => ⟨S4, .i32⟩
  | 38 => ⟨S4, .i32⟩
  | 39 => ⟨S4, .i32⟩
  | 40 => ⟨S_, .i32⟩
  | 41 => ⟨S4, .i32⟩
  | 42 => ⟨S4, .i1⟩
  | 43 => ⟨S_, .i32⟩
  | 44 => ⟨S_, .i32⟩
  | 45 => ⟨S4, .i32⟩
  | 46 => ⟨S4, .i32⟩
  | 47 => ⟨S4, .i32⟩
  | 48 => ⟨S4, .i32⟩
  | 49 => ⟨S4x1x1, .i32⟩
  | 50 => ⟨S1x8192x1, .i32⟩
  | 51 => ⟨S1x1x8192, .i32⟩
  | 52 => ⟨S1x8192x8192, .i32⟩
  | 53 => ⟨S1x8192x8192, .i32⟩
  | 54 => ⟨S1x8192x8192, .i1⟩
  | 55 => ⟨S4x1x1, .i32⟩
  | 56 => ⟨S4x1x8192, .i32⟩
  | 57 => ⟨S4x1x8192, .i32⟩
  | 58 => ⟨S4x1x8192, .i32⟩
  | 59 => ⟨S4x8192x8192, .i32⟩
  | 60 => ⟨S4x8192x8192, .i32⟩
  | 61 => ⟨S4x8192x8192, .i1⟩
  | 62 => ⟨S4x8192x8192, .i1⟩
  | 63 => ⟨S4x8192x8192, .i1⟩
  | 64 => ⟨S_, .f32⟩
  | 65 => ⟨S_, .f32⟩
  | 66 => ⟨S4x8192x8192, .f32⟩
  | 67 => ⟨S4x8192x8192, .f32⟩
  | 68 => ⟨S4x8192x8192, .f32⟩
  | 69 => ⟨S_, .i32⟩
  | 70 => ⟨S1x8192x1, .i32⟩
  | 71 => ⟨S1x8192x1, .i32⟩
  | 72 => ⟨S4x1x1, .i32⟩
  | 73 => ⟨S4x8192x1, .i32⟩
  | 74 => ⟨S4x8192x1, .i32⟩
  | 75 => ⟨S4x8192x1, .i32⟩
  | 76 => ⟨S4x8192x1, .f32⟩
  | 77 => ⟨S8192x512, .f32⟩
  | 78 => ⟨S8192x4x128, .f32⟩
  | 79 => ⟨S4x8192x128, .f32⟩
  | 80 => ⟨S4x8192x128, .f32⟩
  | 81 => ⟨S4x8192x128, .f32⟩
  | 82 => ⟨S4x8192x128, .f32⟩
  | 83 => ⟨S4x8192x128, .f32⟩
  | 84 => ⟨S4x8192x128, .f32⟩
  | 85 => ⟨S8192x4x128, .f32⟩
  | 86 => ⟨S8192x512, .f32⟩
  | 87 => ⟨S1x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S_, .f32⟩
  | 94 => ⟨S2x512, .f32⟩
  | 95 => ⟨S8192x512, .f32⟩
  | 96 => ⟨S8194x512, .f32⟩
  | 97 => ⟨S_, .f32⟩
  | 98 => ⟨S2x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S_, .f32⟩
  | 106 => ⟨S8192x512, .f32⟩
  | 107 => ⟨S8192x512, .f32⟩
  | 108 => ⟨S1x512, .f32⟩
  | 109 => ⟨S512, .f32⟩
  | 110 => ⟨S8192x512, .f32⟩
  | 111 => ⟨S1x512, .f32⟩
  | 112 => ⟨S8192x512, .f32⟩
  | 113 => ⟨S8192x512, .f32⟩
  | 114 => ⟨S8192x512, .f32⟩
  | 115 => ⟨S1x512, .f32⟩
  | 116 => ⟨S512, .f32⟩
  | 117 => ⟨S8192x512, .f32⟩
  | 118 => ⟨S1x512, .f32⟩
  | 119 => ⟨S8192x512, .f32⟩
  | 120 => ⟨S8192x512, .f32⟩
  | 121 => ⟨S8192x512, .f32⟩
  | 122 => ⟨S8192x512, .f32⟩
  | 123 => ⟨S8192x1024, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S_, .f32⟩
  | 3 => ⟨S8194x512, .f32⟩
  | 4 => ⟨S8192x512, .f32⟩
  | 5 => ⟨S8192x512, .f32⟩
  | 6 => ⟨S_, .f32⟩
  | 7 => ⟨S8194x512, .f32⟩
  | 8 => ⟨S8194x512, .f32⟩
  | 9 => ⟨S8192x512, .f32⟩
  | 10 => ⟨S8192x512, .f32⟩
  | 11 => ⟨S_, .f32⟩
  | 12 => ⟨S8194x512, .f32⟩
  | 13 => ⟨S8194x512, .f32⟩
  | 14 => ⟨S2x512, .f32⟩
  | 15 => ⟨S8192x512, .f32⟩
  | 16 => ⟨S8192x512, .f32⟩
  | 17 => ⟨S8192x512, .f32⟩
  | 18 => ⟨S_, .f32⟩
  | 19 => ⟨S8192x2048, .f32⟩
  | 20 => ⟨S_, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S8192x512, .f32⟩
  | 27 => ⟨S8192x512, .f32⟩
  | 28 => ⟨S8192x4x128, .f32⟩
  | 29 => ⟨S4x8192x128, .f32⟩
  | 30 => ⟨S4x8192x128, .f32⟩
  | 31 => ⟨S4x8192x128, .f32⟩
  | 32 => ⟨S4x8192x128, .f32⟩
  | 33 => ⟨S4x8192x128, .f32⟩
  | 34 => ⟨S4x128x8192, .f32⟩
  | 35 => ⟨S4x8192x128, .f32⟩
  | 36 => ⟨S4x8192x128, .f32⟩
  | 37 => ⟨S8192x4x128, .f32⟩
  | 38 => ⟨S8192x512, .f32⟩
  | 39 => ⟨S_, .f32⟩
  | 40 => ⟨S8192x2048, .f32⟩
  | 41 => ⟨S8192x2048, .f32⟩
  | 42 => ⟨S8192x2048, .bf16⟩
  | 43 => ⟨S4x128x128, .f32⟩
  | 44 => ⟨S8192, .i32⟩
  | 45 => ⟨S4, .i32⟩
  | 46 => ⟨S_, .i32⟩
  | 47 => ⟨S4, .i32⟩
  | 48 => ⟨S4, .i1⟩
  | 49 => ⟨S_, .i32⟩
  | 50 => ⟨S_, .i32⟩
  | 51 => ⟨S4, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S_, .i32⟩
  | 59 => ⟨S4, .i32⟩
  | 60 => ⟨S4, .i1⟩
  | 61 => ⟨S_, .i32⟩
  | 62 => ⟨S_, .i32⟩
  | 63 => ⟨S4, .i32⟩
  | 64 => ⟨S4, .i32⟩
  | 65 => ⟨S4, .i32⟩
  | 66 => ⟨S4, .i32⟩
  | 67 => ⟨S4, .i32⟩
  | 68 => ⟨S_, .i32⟩
  | 69 => ⟨S4, .i32⟩
  | 70 => ⟨S4, .i1⟩
  | 71 => ⟨S_, .i32⟩
  | 72 => ⟨S_, .i32⟩
  | 73 => ⟨S4, .i32⟩
  | 74 => ⟨S4, .i32⟩
  | 75 => ⟨S4, .i32⟩
  | 76 => ⟨S4, .i32⟩
  | 77 => ⟨S4, .i32⟩
  | 78 => ⟨S_, .i32⟩
  | 79 => ⟨S4, .i32⟩
  | 80 => ⟨S4, .i1⟩
  | 81 => ⟨S_, .i32⟩
  | 82 => ⟨S_, .i32⟩
  | 83 => ⟨S4, .i32⟩
  | 84 => ⟨S4, .i32⟩
  | 85 => ⟨S4, .i32⟩
  | 86 => ⟨S4, .i32⟩
  | 87 => ⟨S4x1x1, .i32⟩
  | 88 => ⟨S1x8192x1, .i32⟩
  | 89 => ⟨S1x1x8192, .i32⟩
  | 90 => ⟨S1x8192x8192, .i32⟩
  | 91 => ⟨S1x8192x8192, .i32⟩
  | 92 => ⟨S1x8192x8192, .i1⟩
  | 93 => ⟨S4x1x1, .i32⟩
  | 94 => ⟨S4x1x8192, .i32⟩
  | 95 => ⟨S4x1x8192, .i32⟩
  | 96 => ⟨S4x1x8192, .i32⟩
  | 97 => ⟨S4x8192x8192, .i32⟩
  | 98 => ⟨S4x8192x8192, .i32⟩
  | 99 => ⟨S4x8192x8192, .i1⟩
  | 100 => ⟨S4x8192x8192, .i1⟩
  | 101 => ⟨S4x8192x8192, .i1⟩
  | 102 => ⟨S_, .f32⟩
  | 103 => ⟨S_, .f32⟩
  | 104 => ⟨S4x8192x8192, .f32⟩
  | 105 => ⟨S4x8192x8192, .f32⟩
  | 106 => ⟨S4x8192x8192, .f32⟩
  | 107 => ⟨S_, .i32⟩
  | 108 => ⟨S1x8192x1, .i32⟩
  | 109 => ⟨S1x8192x1, .i32⟩
  | 110 => ⟨S4x1x1, .i32⟩
  | 111 => ⟨S4x8192x1, .i32⟩
  | 112 => ⟨S4x8192x1, .i32⟩
  | 113 => ⟨S4x8192x1, .i32⟩
  | 114 => ⟨S4x8192x1, .f32⟩
  | 115 => ⟨S8192x512, .f32⟩
  | 116 => ⟨S8192x4x128, .f32⟩
  | 117 => ⟨S4x8192x128, .f32⟩
  | 118 => ⟨S4x8192x128, .f32⟩
  | 119 => ⟨S4x8192x128, .f32⟩
  | 120 => ⟨S4x8192x128, .f32⟩
  | 121 => ⟨S4x8192x128, .f32⟩
  | 122 => ⟨S4x8192x128, .f32⟩
  | 123 => ⟨S8192x4x128, .f32⟩
  | 124 => ⟨S8192x512, .f32⟩
  | 125 => ⟨S1x512, .f32⟩
  | 126 => ⟨S8192x512, .f32⟩
  | 127 => ⟨S8192x512, .f32⟩
  | _ => ⟨S8192x2048, .f32⟩

abbrev hbmTy0_2 (i : Nat) : BufTy := match i % 128 with
  | 0 => ⟨S8192x512, .f32⟩
  | 1 => ⟨S8192x512, .f32⟩
  | 2 => ⟨S8192x512, .f32⟩
  | 3 => ⟨S_, .f32⟩
  | 4 => ⟨S2x512, .f32⟩
  | 5 => ⟨S8192x512, .f32⟩
  | 6 => ⟨S8194x512, .f32⟩
  | 7 => ⟨S1x512, .f32⟩
  | 8 => ⟨S512, .f32⟩
  | 9 => ⟨S8192x512, .f32⟩
  | 10 => ⟨S1x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S1x512, .f32⟩
  | 17 => ⟨S512, .f32⟩
  | 18 => ⟨S8192x512, .f32⟩
  | 19 => ⟨S1x512, .f32⟩
  | 20 => ⟨S8192x512, .f32⟩
  | 21 => ⟨S8192x512, .f32⟩
  | 22 => ⟨S8192x512, .f32⟩
  | 23 => ⟨S1x512, .f32⟩
  | 24 => ⟨S512, .f32⟩
  | 25 => ⟨S8192x512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S8192x1024, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S512, .f32⟩
  | 38 => ⟨S1x512, .f32⟩
  | 39 => ⟨S_, .f32⟩
  | 40 => ⟨S512, .f32⟩
  | 41 => ⟨S1x512, .f32⟩
  | 42 => ⟨S_, .f32⟩
  | 43 => ⟨S8x512, .f32⟩
  | 44 => ⟨S8192x512, .f32⟩
  | 45 => ⟨S_, .f32⟩
  | 46 => ⟨S512, .f32⟩
  | 47 => ⟨S1x512, .f32⟩
  | 48 => ⟨S_, .f32⟩
  | 49 => ⟨S512, .f32⟩
  | 50 => ⟨S1x512, .f32⟩
  | 51 => ⟨S_, .f32⟩
  | 52 => ⟨S8x512, .f32⟩
  | 53 => ⟨S8x512, .f32⟩
  | 54 => ⟨S8192x512, .f32⟩
  | 55 => ⟨S_, .f32⟩
  | 56 => ⟨S512, .f32⟩
  | 57 => ⟨S1x512, .f32⟩
  | 58 => ⟨S_, .f32⟩
  | 59 => ⟨S512, .f32⟩
  | 60 => ⟨S1x512, .f32⟩
  | 61 => ⟨S_, .f32⟩
  | 62 => ⟨S8x512, .f32⟩
  | 63 => ⟨S8x512, .f32⟩
  | 64 => ⟨S8192x512, .f32⟩
  | 65 => ⟨S_, .f32⟩
  | 66 => ⟨S512, .f32⟩
  | 67 => ⟨S1x512, .f32⟩
  | 68 => ⟨S8192x512, .f32⟩
  | 69 => ⟨S8192x512, .f32⟩
  | 70 => ⟨S_, .f32⟩
  | 71 => ⟨S512, .f32⟩
  | 72 => ⟨S8192x4x128, .f32⟩
  | 73 => ⟨S4x8192x128, .f32⟩
  | 74 => ⟨S4x128x128, .f32⟩
  | 75 => ⟨S4x128x128, .f32⟩
  | 76 => ⟨S1x512, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_c_5 : Ref sig .tc := ⟨.hbm, 24, rfl⟩
abbrev main_call1_v0 : Ref sig .tc := ⟨.hbm, 25, rfl⟩
abbrev main_call1_v1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_c_7 : Ref sig .tc := ⟨.hbm, 33, rfl⟩
abbrev main_c_8 : Ref sig .tc := ⟨.hbm, 34, rfl⟩
abbrev main_call2_v0 : Ref sig .tc := ⟨.hbm, 35, rfl⟩
abbrev main_call2_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_9 : Ref sig .tc := ⟨.hbm, 40, rfl⟩
abbrev main_v19 : Ref sig .tc := ⟨.hbm, 41, rfl⟩
abbrev main_v20 : Ref sig .tc := ⟨.hbm, 42, rfl⟩
abbrev main_c_10 : Ref sig .tc := ⟨.hbm, 43, rfl⟩
abbrev main_c_11 : Ref sig .tc := ⟨.hbm, 44, rfl⟩
abbrev main_call3_v0 : Ref sig .tc := ⟨.hbm, 45, rfl⟩
abbrev main_call3_v1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst : Ref sig .tc := ⟨.hbm, 64, rfl⟩
abbrev main_cst_12 : Ref sig .tc := ⟨.hbm, 65, rfl⟩
abbrev main_call4_v0 : Ref sig .tc := ⟨.hbm, 66, rfl⟩
abbrev main_call4_v1 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_17 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_18 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_19 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_20 : Ref sig .tc := ⟨.hbm, 146, rfl⟩
abbrev main_v109 : Ref sig .tc := ⟨.hbm, 147, rfl⟩
abbrev main_cst_21 : Ref sig .tc := ⟨.hbm, 148, rfl⟩
abbrev main_v110 : Ref sig .tc := ⟨.hbm, 149, rfl⟩
abbrev main_v111 : Ref sig .tc := ⟨.hbm, 150, rfl⟩
abbrev main_cst_22 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_24 : Ref sig .tc := ⟨.hbm, 174, rfl⟩
abbrev main_v133 : Ref sig .tc := ⟨.hbm, 175, rfl⟩
abbrev main_v134 : Ref sig .tc := ⟨.hbm, 176, rfl⟩
abbrev main_c_25 : Ref sig .tc := ⟨.hbm, 177, rfl⟩
abbrev main_c_26 : Ref sig .tc := ⟨.hbm, 178, rfl⟩
abbrev main_call5_v0 : Ref sig .tc := ⟨.hbm, 179, rfl⟩
abbrev main_call5_v1 : Ref sig .tc := ⟨.hbm, 180, rfl⟩
abbrev main_v135 : Ref sig .tc := ⟨.hbm, 181, rfl⟩
abbrev main_c_27 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_c_28 : Ref sig .tc := ⟨.hbm, 186, rfl⟩
abbrev main_v139 : Ref sig .tc := ⟨.hbm, 187, rfl⟩
abbrev main_v140 : Ref sig .tc := ⟨.hbm, 188, rfl⟩
abbrev main_c_29 : Ref sig .tc := ⟨.hbm, 189, rfl⟩
abbrev main_c_30 : Ref sig .tc := ⟨.hbm, 190, rfl⟩
abbrev main_call6_v0 : Ref sig .tc := ⟨.hbm, 191, rfl⟩
abbrev main_call6_v1 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c_31 : Ref sig .tc := ⟨.hbm, 196, rfl⟩
abbrev main_v144 : Ref sig .tc := ⟨.hbm, 197, rfl⟩
abbrev main_v145 : Ref sig .tc := ⟨.hbm, 198, rfl⟩
abbrev main_c_32 : Ref sig .tc := ⟨.hbm, 199, rfl⟩
abbrev main_c_33 : Ref sig .tc := ⟨.hbm, 200, rfl⟩
abbrev main_call7_v0 : Ref sig .tc := ⟨.hbm, 201, rfl⟩
abbrev main_call7_v1 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_c_34 : Ref sig .tc := ⟨.hbm, 206, rfl⟩
abbrev main_v149 : Ref sig .tc := ⟨.hbm, 207, rfl⟩
abbrev main_v150 : Ref sig .tc := ⟨.hbm, 208, rfl⟩
abbrev main_c_35 : Ref sig .tc := ⟨.hbm, 209, rfl⟩
abbrev main_c_36 : Ref sig .tc := ⟨.hbm, 210, rfl⟩
abbrev main_call8_v0 : Ref sig .tc := ⟨.hbm, 211, rfl⟩
abbrev main_call8_v1 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_37 : Ref sig .tc := ⟨.hbm, 230, rfl⟩
abbrev main_cst_38 : Ref sig .tc := ⟨.hbm, 231, rfl⟩
abbrev main_call9_v0 : Ref sig .tc := ⟨.hbm, 232, rfl⟩
abbrev main_call9_v1 : Ref sig .tc := ⟨.hbm, 233, rfl⟩
abbrev main_v168 : Ref sig .tc := ⟨.hbm, 234, rfl⟩
abbrev main_c_39 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_40 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_cst_41 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_cst_42 : Ref sig .tc := ⟨.hbm, 292, rfl⟩
abbrev main_v223 : Ref sig .tc := ⟨.hbm, 293, rfl⟩
abbrev main_v224 : Ref sig .tc := ⟨.hbm, 294, rfl⟩
abbrev main_cst_43 : Ref sig .tc := ⟨.hbm, 295, rfl⟩
abbrev main_v225 : Ref sig .tc := ⟨.hbm, 296, rfl⟩
abbrev main_v226 : Ref sig .tc := ⟨.hbm, 297, rfl⟩
abbrev main_cst_44 : Ref sig .tc := ⟨.hbm, 298, rfl⟩
abbrev main_v227 : Ref sig .tc := ⟨.hbm, 299, rfl⟩
abbrev main_v228 : Ref sig .tc := ⟨.hbm, 300, rfl⟩
abbrev main_cst_45 : Ref sig .tc := ⟨.hbm, 301, rfl⟩
abbrev main_v229 : Ref sig .tc := ⟨.hbm, 302, rfl⟩
abbrev main_v230 : Ref sig .tc := ⟨.hbm, 303, rfl⟩
abbrev main_cst_46 : Ref sig .tc := ⟨.hbm, 304, rfl⟩
abbrev main_v231 : Ref sig .tc := ⟨.hbm, 305, rfl⟩
abbrev main_v232 : Ref sig .tc := ⟨.hbm, 306, rfl⟩
abbrev main_cst_47 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_cst_48 : Ref sig .tc := ⟨.hbm, 311, rfl⟩
abbrev main_v236 : Ref sig .tc := ⟨.hbm, 312, rfl⟩
abbrev main_v237 : Ref sig .tc := ⟨.hbm, 313, rfl⟩
abbrev main_cst_49 : Ref sig .tc := ⟨.hbm, 314, rfl⟩
abbrev main_v238 : Ref sig .tc := ⟨.hbm, 315, rfl⟩
abbrev main_v239 : Ref sig .tc := ⟨.hbm, 316, rfl⟩
abbrev main_cst_50 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_cst_51 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_52 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩

abbrev nD : Nat := 1
abbrev τ : Topo := Topo.v7x

variable {F : FTy → Type} [FloatOps F]
-- ==== MfKernel.lean ====
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .bf16⟩
  | .hbm, ⟨3, _⟩ => ⟨S128, .f32⟩
  | .hbm, ⟨4, _⟩ => ⟨S1x1024, .f32⟩
  | .hbm, ⟨5, _⟩ => ⟨S1x128, .f32⟩
  | .hbm, ⟨6, _⟩ => ⟨S256x1024, .bf16⟩
  | .hbm, ⟨7, _⟩ => ⟨S256x1024, .f32⟩
  | .hbm, ⟨8, _⟩ => ⟨S256x512, .bf16⟩
  | .hbm, ⟨9, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x128, .f32⟩
  | .local _ .vmem, ⟨4, _⟩ => ⟨S256x1024, .bf16⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== MfReferenceIdeal.lean ====
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .bf16⟩
  | .hbm, ⟨3, _⟩ => ⟨S128, .f32⟩
  | .hbm, ⟨4, _⟩ => ⟨S1024x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x512, .f32⟩
  | .hbm, ⟨23, _⟩ => ⟨S256x4x128, .f32⟩
  | .hbm, ⟨24, _⟩ => ⟨S256x4x128, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x128, .f32⟩
  | .hbm, ⟨36, _⟩ => ⟨S256x4x128, .f32⟩
  | .hbm, ⟨37, _⟩ => ⟨S1x1x128, .f32⟩
  | .hbm, ⟨38, _⟩ => ⟨S256x4x128, .f32⟩
  | .hbm, ⟨39, _⟩ => ⟨S256x4x128, .f32⟩
  | .hbm, ⟨40, _⟩ => ⟨S256x512, .f32⟩
  | .hbm, ⟨41, _⟩ => ⟨S256x512, .f32⟩
  | .hbm, ⟨42, _⟩ => ⟨S256x1024, .bf16⟩
  | .hbm, ⟨43, _⟩ => ⟨S256x512, .bf16⟩
  | .hbm, ⟨44, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MbKernel.lean ====
abbrev S256x1024 : Shape := ⟨2, ![256, 1024]⟩
abbrev S1024 : Shape := ⟨1, ![1024]⟩
abbrev S128 : Shape := ⟨1, ![128]⟩
abbrev S256x512 : Shape := ⟨2, ![256, 512]⟩
abbrev S1024x1024 : Shape := ⟨2, ![1024, 1024]⟩
abbrev S1x1024 : Shape := ⟨2, ![1, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .bf16⟩
  | .hbm, ⟨3, _⟩ => ⟨S256x1024, .f32⟩
  | .hbm, ⟨4, _⟩ => ⟨S128, .f32⟩
  | .hbm, ⟨5, _⟩ => ⟨S256x512, .f32⟩
  | .hbm, ⟨6, _⟩ => ⟨S256x512, .f32⟩
  | .hbm, ⟨7, _⟩ => ⟨S1024x1024, .bf16⟩
  | .hbm, ⟨8, _⟩ => ⟨S1x1024, .f32⟩
  | .hbm, ⟨9, _⟩ => ⟨S1x128, .f32⟩
  | .hbm, ⟨10, _⟩ => ⟨S1024x1024, .f32⟩
  | .hbm, ⟨11, _⟩ => ⟨S1x128, .f32⟩
  | .hbm, ⟨12, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .f32⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S1024x1024, .bf16⟩
  | .local _ .vmem, ⟨8, _⟩ => ⟨S1024x1024, .f32⟩
  | .local _ .vmem, ⟨9, _⟩ => ⟨S1x128, .f32⟩
  | .local _ .vmem, ⟨10, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== MbReferenceIdeal.lean ====
abbrev S256x1024 : Shape := ⟨2, ![256, 1024]⟩
abbrev S1024 : Shape := ⟨1, ![1024]⟩
abbrev S128 : Shape := ⟨1, ![128]⟩
abbrev S256x512 : Shape := ⟨2, ![256, 512]⟩
abbrev S1024x1024 : Shape := ⟨2, ![1024, 1024]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S256 : Shape := ⟨1, ![256]⟩
abbrev S256x1 : Shape := ⟨2, ![256, 1]⟩
abbrev S1x1024 : Shape := ⟨2, ![1, 1024]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .bf16⟩
  | .hbm, ⟨3, _⟩ => ⟨S256x1024, .f32⟩
  | .hbm, ⟨4, _⟩ => ⟨S128, .f32⟩
  | .hbm, ⟨5, _⟩ => ⟨S256x512, .f32⟩
  | .hbm, ⟨6, _⟩ => ⟨S256x512, .f32⟩
  | .hbm, ⟨7, _⟩ => ⟨S1024x1024, .bf16⟩
  | .hbm, ⟨8, _⟩ => ⟨S256x512, .f32⟩
  | .hbm, ⟨9, _⟩ => ⟨S256x4x128, .f32⟩
  | .hbm, ⟨10, _⟩ => ⟨S256x4x128, .f32⟩
  | .hbm, ⟨11, _⟩ => ⟨S_, .f32⟩
  | .hbm, ⟨12, _⟩ => ⟨S256x4, .f32⟩
  | .hbm, ⟨13, _⟩ => ⟨S256x4x1, .f32⟩
  | .hbm, ⟨14, _⟩ => ⟨S_, .f32⟩
  | .hbm, ⟨15, _⟩ => ⟨S256x4x1, .f32⟩
  | .hbm, ⟨16, _⟩ => ⟨S256x4x1, .f32⟩
  | .hbm, ⟨17, _⟩ => ⟨S_, .f32⟩
  | .hbm, ⟨18, _⟩ => ⟨S256x4x1, .f32⟩
  | .hbm, ⟨19, _⟩ => ⟨S256x4x1, .f32⟩
  | .hbm, ⟨20, _⟩ => ⟨S256x4x1, .f32⟩
  | .hbm, ⟨21, _⟩ => ⟨S256x4x1, .f32⟩
  | .hbm, ⟨22, _⟩ => ⟨S_, .f32⟩
  | .hbm, ⟨23, _⟩ => ⟨S256x4x1, .f32⟩
  | .hbm, ⟨24, _⟩ => ⟨S256x4x1, .f32⟩
  | .hbm, ⟨25, _⟩ => ⟨S256x4x128, .f32⟩
  | .hbm, ⟨26, _⟩ => ⟨S256x4x128, .f32⟩
  | .hbm, ⟨27, _⟩ => ⟨S1x1x128, .f32⟩
  | .hbm, ⟨28, _⟩ => ⟨S256x4x128, .f32⟩
  | .hbm, ⟨29, _⟩ => ⟨S256x4x128, .f32⟩
  | .hbm, ⟨30, _⟩ => ⟨S256x512, .f32⟩
  | .hbm, ⟨31, _⟩ => ⟨S256x4x128, .f32⟩
  | .hbm, ⟨32, _⟩ => ⟨S256x4x128, .f32⟩
  | .hbm, ⟨33, _⟩ => ⟨S_, .f32⟩
  | .hbm, ⟨34, _⟩ => ⟨S128, .f32⟩
  | .hbm, ⟨35, _⟩ => ⟨S1x1x128, .f32⟩
  | .hbm, ⟨36, _⟩ => ⟨S256x4x128, .f32⟩
  | .hbm, ⟨37, _⟩ => ⟨S256x4x128, .f32⟩
  | .hbm, ⟨38, _⟩ => ⟨S_, .f32⟩
  | .hbm, ⟨39, _⟩ => ⟨S128, .f32⟩
  | .hbm, ⟨40, _⟩ => ⟨S256x4x128, .f32⟩
  | .hbm, ⟨41, _⟩ => ⟨S_, .f32⟩
  | .hbm, ⟨42, _⟩ => ⟨S256x4, .f32⟩
  | .hbm, ⟨43, _⟩ => ⟨S256x4x1, .f32⟩
  | .hbm, ⟨44, _⟩ => ⟨S256x4x128, .f32⟩
  | .hbm, ⟨45, _⟩ => ⟨S256x4x128, .f32⟩
  | .hbm, ⟨46, _⟩ => ⟨S256x4x1, .f32⟩
  | .hbm, ⟨47, _⟩ => ⟨S_, .f32⟩
  | .hbm, ⟨48, _⟩ => ⟨S256x4x1, .f32⟩
  | .hbm, ⟨49, _⟩ => ⟨S256x4x1, .f32⟩
  | .hbm, ⟨50, _⟩ => ⟨S_, .f32⟩
  | .hbm, ⟨51, _⟩ => ⟨S256x4, .f32⟩
  | .hbm, ⟨52, _⟩ => ⟨S256x4x128, .f32⟩
  | .hbm, ⟨53, _⟩ => ⟨S256x4x128, .f32⟩
  | .hbm, ⟨54, _⟩ => ⟨S256x4x128, .f32⟩
  | .hbm, ⟨55, _⟩ => ⟨S256x4x128, .f32⟩
  | .hbm, ⟨56, _⟩ => ⟨S256x4x128, .f32⟩
  | .hbm, ⟨57, _⟩ => ⟨S256x512, .f32⟩
  | .hbm, ⟨58, _⟩ => ⟨S256x1024, .f32⟩
  | .hbm, ⟨59, _⟩ => ⟨S256x1024, .f32⟩
  | .hbm, ⟨60, _⟩ => ⟨S1024x1024, .f32⟩
  | .hbm, ⟨61, _⟩ => ⟨S256x1024, .f32⟩
  | .hbm, ⟨62, _⟩ => ⟨S1024x1024, .f32⟩
  | .hbm, ⟨63, _⟩ => ⟨S1024x1024, .f32⟩
  | .hbm, ⟨64, _⟩ => ⟨S256x1024, .f32⟩
  | .hbm, ⟨65, _⟩ => ⟨S256x1024, .f32⟩
  | .hbm, ⟨66, _⟩ => ⟨S_, .f32⟩
  | .hbm, ⟨67, _⟩ => ⟨S256, .f32⟩
  | .hbm, ⟨68, _⟩ => ⟨S256x1, .f32⟩
  | .hbm, ⟨69, _⟩ => ⟨S_, .f32⟩
  | .hbm, ⟨70, _⟩ => ⟨S256x1, .f32⟩
  | .hbm, ⟨71, _⟩ => ⟨S256x1, .f32⟩
  | .hbm, ⟨72, _⟩ => ⟨S_, .f32⟩
  | .hbm, ⟨73, _⟩ => ⟨S256x1, .f32⟩
  | .hbm, ⟨74, _⟩ => ⟨S256x1, .f32⟩
  | .hbm, ⟨75, _⟩ => ⟨S256x1, .f32⟩
  | .hbm, ⟨76, _⟩ => ⟨S256x1024, .f32⟩
  | .hbm, ⟨77, _⟩ => ⟨S256x1024, .f32⟩
  | .hbm, ⟨78, _⟩ => ⟨S1x1024, .f32⟩
  | .hbm, ⟨79, _⟩ => ⟨S256x1024, .f32⟩
  | .hbm, ⟨80, _⟩ => ⟨S256x1024, .f32⟩
  | .hbm, ⟨81, _⟩ => ⟨S256x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S1x128, .f32⟩
  | .hbm, ⟨88, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== LsKernel.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LsReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S8192 : Shape := ⟨1, ![8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.Reals.lean ====
/-
  Extended-real algebra shared by the value claims: real factors moved through sums, the two constants of a row
  normalisation, and the two gradient identities the claims rest on.

  * `norm_grad`: the gradient of a row normalisation `x * rsqrt (mean (x * x) + eps)` in the form a kernel writes it
    (`r * (y - xhat * mean (y * xhat))`) and in the form differentiation writes it (`y * r` plus twice the term through
    the root). No entry of `x` or `y` has to be finite: the root's reciprocal is a nonnegative real in every case.
  * `softmax_grad`: the gradient of a softmax over real logits in the two forms, the incoming gradient being arbitrary.
-/
module

public import Idealize.ShloMosaic.PureOps.Ideal
public import Idealize.ShloMosaic.Lib.Pointwise

@[expose] public section

noncomputable section

namespace Cert.Reals

open Idealize.ShloMosaic

/-! ## Constants -/

/-- `128.0` denotes the real 128. -/
theorem ofBits_128 : Ideal.ofBits .f32 0x43000000#32 = ((128 : ℝ) : EReal) := by
  simp [Ideal.ofBits, Ideal.ieee, -EReal.coe_mul]; norm_num

/-- `-0.5` denotes the real -1/2. -/
theorem ofBits_neg_half : Ideal.ofBits .f32 0xBF000000#32 = ((-(1 / 2) : ℝ) : EReal) := by
  simp [Ideal.ofBits, Ideal.ieee, -EReal.coe_mul]; norm_num

/-- `1.0` denotes the real 1. -/
theorem ofBits_one : Ideal.ofBits .f32 0x3F800000#32 = ((1 : ℝ) : EReal) := by
  simp [Ideal.ofBits, Ideal.ieee, -EReal.coe_mul]; norm_num

/-- The pattern of minus infinity. -/
theorem ofBits_neg_inf : Ideal.ofBits .f32 0xFF800000#32 = (⊥ : EReal) := by
  simp [Ideal.ofBits, Ideal.ieee]

/-- The pattern of plus infinity. -/
theorem ofBits_inf : Ideal.ofBits .f32 0x7F800000#32 = (⊤ : EReal) := by
  simp [Ideal.ofBits, Ideal.ieee]

/-- The normalisation's small constant denotes a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-! ## Real factors and sums -/

/-- A finite sum of reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum. -/
theorem mul_add_nn {r : ℝ} (hr : 0 ≤ r) (a b : EReal) : (r : EReal) * (a + b) = r * a + r * b :=
  EReal.left_distrib_of_nonneg_of_ne_top (EReal.coe_nonneg.mpr hr) (EReal.coe_ne_top r) a b

/-- A nonnegative real factor distributes over a difference. -/
theorem mul_sub_nn {r : ℝ} (hr : 0 ≤ r) (a b : EReal) : (r : EReal) * (a - b) = r * a - r * b := by
  rw [sub_eq_add_neg, mul_add_nn hr, mul_neg, ← sub_eq_add_neg]

/-- A nonnegative real factor distributes over a finite sum. -/
theorem mul_sum_nn {ι : Type*} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_add_nn hr, ih]

/-- An extended real added to itself is twice it. -/
theorem add_self_eq (a : EReal) : a + a = ((2 : ℝ) : EReal) * a := by
  have := mul_comm a ((2 : ℝ) : EReal)
  induction a using EReal.rec with
  | bot => rw [EReal.coe_mul_bot_of_pos (by norm_num)]; rfl
  | top => rw [EReal.coe_mul_top_of_pos (by norm_num)]; rfl
  | coe x => rw [← EReal.coe_add, ← EReal.coe_mul]; congr 1; ring

theorem mul_self_nonneg (a : EReal) : 0 ≤ a * a := by
  induction a using EReal.rec with
  | bot => simp
  | top => simp
  | coe x => rw [← EReal.coe_mul]; exact EReal.coe_nonneg.mpr (_root_.mul_self_nonneg x)

theorem sum_nonneg {n : ℕ} (f : Fin n → EReal) (h : ∀ i, 0 ≤ f i) : 0 ≤ ∑ i, f i :=
  Finset.sum_nonneg fun i _ => h i

/-- Division by a positive real is the product with its reciprocal. -/
theorem div_pos {n : ℝ} (hn : 0 < n) (a : EReal) : Ideal.div a (n : EReal) = ((1 / n : ℝ) : EReal) * a := by
  rw [Ideal.div_coe hn.ne', mul_comm]

/-! ## A row's normalising factor -/

/-- The mean square of a row plus the small constant is a positive real or infinite. -/
theorem ms_cases {n : ℕ} {N e : ℝ} (hN : 0 < N) (he : 0 < e) (x : Fin n → EReal) :
    (∃ s : ℝ, 0 < s ∧ Ideal.div (∑ d, x d * x d) N + (e : EReal) = (s : EReal)
        ∧ ∀ d, x d ≠ ⊤ ∧ x d ≠ ⊥)
      ∨ Ideal.div (∑ d, x d * x d) N + (e : EReal) = ⊤ := by
  have h0 : 0 ≤ ∑ d, x d * x d := sum_nonneg _ fun d => mul_self_nonneg _
  rw [div_pos hN]
  have hn : (0 : ℝ) < 1 / N := by positivity
  generalize hS : ∑ d, x d * x d = S at h0
  induction S using EReal.rec with
  | bot => simp at h0
  | top => right; rw [EReal.coe_mul_top_of_pos hn]; rfl
  | coe s =>
    left
    have hs : 0 ≤ s := EReal.coe_nonneg.mp h0
    refine ⟨1 / N * s + e, by positivity, by rw [EReal.coe_add, EReal.coe_mul], fun d => ?_⟩
    have hd : x d * x d ≤ (s : EReal) := by
      rw [← hS]
      exact Finset.single_le_sum (f := fun d => x d * x d) (fun i _ => mul_self_nonneg _) (Finset.mem_univ d)
    constructor <;> intro hx <;> rw [hx] at hd <;> simp at hd

/-- The reciprocal root is a nonnegative real `ρ`, its quotient by the shifted mean square is `ρ` cubed, and every
    normalised entry is real. -/
theorem rsqrt_ms {n : ℕ} {N e : ℝ} (hN : 0 < N) (he : 0 < e) (x : Fin n → EReal) :
    ∃ ρ : ℝ, 0 ≤ ρ ∧ Ideal.rsqrt (Ideal.div (∑ d, x d * x d) N + (e : EReal)) = (ρ : EReal)
      ∧ Ideal.div (Ideal.rsqrt (Ideal.div (∑ d, x d * x d) N + (e : EReal))) (Ideal.div (∑ d, x d * x d) N + (e : EReal))
          = ((ρ * ρ * ρ : ℝ) : EReal)
      ∧ ∀ d, ∃ q : ℝ, x d * (ρ : EReal) = (q : EReal) := by
  rcases ms_cases hN he x with ⟨s, hs, h, hx⟩ | h
  · have hr : Ideal.rsqrt (s : EReal) = (((Real.sqrt s)⁻¹ : ℝ) : EReal) := by
      rw [Ideal.rsqrt_coe, if_neg (not_lt.mpr hs.le), if_neg hs.ne']
    refine ⟨(Real.sqrt s)⁻¹, by positivity, by rw [h, hr], ?_, fun d => ?_⟩
    · rw [h, hr, Ideal.div_coe hs.ne', ← EReal.coe_mul]
      congr 1
      have h2 : Real.sqrt s * Real.sqrt s = s := Real.mul_self_sqrt hs.le
      have h3 : Real.sqrt s ≠ 0 := (Real.sqrt_pos.mpr hs).ne'
      rw [one_div, mul_assoc, ← mul_inv (√s) (√s), h2]
    · lift x d to ℝ using hx d with y
      exact ⟨y * (Real.sqrt s)⁻¹, by rw [EReal.coe_mul]⟩
  · refine ⟨0, le_rfl, by rw [h, Ideal.rsqrt_top]; rfl, ?_, fun d => ⟨0, by simp⟩⟩
    rw [h, Ideal.rsqrt_top]
    simp [Ideal.div]

/-- The gradient of a row normalisation in the two forms. `t` is the term through the root. -/
theorem norm_grad {n : ℕ} {N e : ℝ} (hN : 0 < N) (he : 0 < e) (x y : Fin n → EReal) (d : Fin n) :
    Ideal.rsqrt (Ideal.div (∑ d, x d * x d) N + (e : EReal))
        * (y d - x d * Ideal.rsqrt (Ideal.div (∑ d, x d * x d) N + (e : EReal))
            * Ideal.div (∑ d, y d * (x d * Ideal.rsqrt (Ideal.div (∑ d, x d * x d) N + (e : EReal)))) N)
      = y d * Ideal.rsqrt (Ideal.div (∑ d, x d * x d) N + (e : EReal))
        + x d * Ideal.div ((∑ d, x d * y d) * (((-(1 / 2) : ℝ) : EReal)
            * Ideal.div (Ideal.rsqrt (Ideal.div (∑ d, x d * x d) N + (e : EReal))) (Ideal.div (∑ d, x d * x d) N + (e : EReal)))) N
        + Ideal.div ((∑ d, x d * y d) * (((-(1 / 2) : ℝ) : EReal)
            * Ideal.div (Ideal.rsqrt (Ideal.div (∑ d, x d * x d) N + (e : EReal))) (Ideal.div (∑ d, x d * x d) N + (e : EReal)))) N * x d := by
  obtain ⟨ρ, hρ, h1, h2, -⟩ := rsqrt_ms hN he x
  rw [h2, h1]
  have hS : ∑ d, y d * (x d * (ρ : EReal)) = (ρ : EReal) * ∑ d, x d * y d := by
    rw [mul_sum_nn hρ]
    exact Finset.sum_congr rfl fun i _ => by ac_rfl
  rw [hS, mul_sub_nn hρ, div_pos hN, div_pos hN]
  generalize ∑ d, x d * y d = S
  generalize y d = b
  generalize x d = a
  rw [← EReal.coe_mul, add_assoc,
    show ((1 / N : ℝ) : EReal) * (S * ((-(1 / 2) * (ρ * ρ * ρ) : ℝ) : EReal)) * a
      = a * (((1 / N : ℝ) : EReal) * (S * ((-(1 / 2) * (ρ * ρ * ρ) : ℝ) : EReal))) by rw [mul_comm],
    add_self_eq, sub_eq_add_neg, mul_comm b]
  congr 1
  rw [show (ρ : EReal) * (a * ρ * (((1 / N : ℝ) : EReal) * (ρ * S))) = ((ρ : EReal) * ρ * ρ * ((1 / N : ℝ) : EReal)) * (a * S) by
      ac_rfl,
    show ((2 : ℝ) : EReal) * (a * (((1 / N : ℝ) : EReal) * (S * ((-(1 / 2) * (ρ * ρ * ρ) : ℝ) : EReal))))
      = (((2 : ℝ) : EReal) * ((1 / N : ℝ) : EReal) * ((-(1 / 2) * (ρ * ρ * ρ) : ℝ) : EReal)) * (a * S) by ac_rfl,
    ← neg_mul, ← EReal.coe_mul, ← EReal.coe_mul, ← EReal.coe_mul, ← EReal.coe_mul, ← EReal.coe_mul, ← EReal.coe_neg]
  congr 2
  ring

/-! ## A softmax over real logits -/

/-- The greatest of finitely many reals, started from minus infinity, is real when there is one. -/
theorem fold_max_real {n : ℕ} (hn : 0 < n) (l : Fin n → EReal) (hl : ∀ k, ∃ q : ℝ, l k = (q : EReal)) :
    ∃ q : ℝ, (Finset.univ : Finset (Fin n)).fold max (⊥ : EReal) l = (q : EReal) := by
  classical
  have key : ∀ s : Finset (Fin n), s.fold max (⊥ : EReal) l = ⊥ ∧ s = ∅
      ∨ ∃ q : ℝ, s.fold max (⊥ : EReal) l = (q : EReal) := by
    intro s
    induction s using Finset.induction_on with
    | empty => left; simp
    | insert a s ha ih =>
      right
      rw [Finset.fold_insert ha]
      obtain ⟨q, hq⟩ := hl a
      rcases ih with ⟨h, -⟩ | ⟨p, h⟩
      · exact ⟨q, by rw [hq, h]; simp⟩
      · exact ⟨max q p, by rw [hq, h, EReal.coe_strictMono.monotone.map_max]⟩
  rcases key Finset.univ with ⟨-, h⟩ | h
  · exact absurd (Finset.mem_univ (⟨0, hn⟩ : Fin n)) (by rw [h]; simp)
  · exact h

/-- The exponentials of real logits less a real, and their sum, are positive reals. -/
theorem exp_real {n : ℕ} (hn : 0 < n) (l : Fin n → EReal) (hl : ∀ k, ∃ q : ℝ, l k = (q : EReal)) :
    ∃ (f : Fin n → ℝ) (Z : ℝ), 0 < Z ∧ (∀ k, 0 < f k)
      ∧ (∀ k, Ideal.exp (l k - (Finset.univ : Finset (Fin n)).fold max (⊥ : EReal) l) = (f k : EReal))
      ∧ ∑ k, Ideal.exp (l k - (Finset.univ : Finset (Fin n)).fold max (⊥ : EReal) l) = (Z : EReal) := by
  obtain ⟨M, hM⟩ := fold_max_real hn l hl
  choose q hq using hl
  refine ⟨fun k => Real.exp (q k - M), ∑ k, Real.exp (q k - M), ?_, fun k => Real.exp_pos _, fun k => ?_, ?_⟩
  · exact Finset.sum_pos (fun k _ => Real.exp_pos _) ⟨⟨0, hn⟩, Finset.mem_univ _⟩
  · rw [hM, hq, ← EReal.coe_sub, Ideal.exp_coe]
  · rw [coe_sum]
    exact Finset.sum_congr rfl fun k _ => by rw [hM, hq, ← EReal.coe_sub, Ideal.exp_coe]

/-- The gradient of a softmax in the two forms: exponentials `f`, sum `Z`, incoming gradient `D`. -/
theorem softmax_grad {n : ℕ} (f : Fin n → ℝ) (Z c : ℝ) (hZ : 0 < Z) (hf : ∀ k, 0 < f k) (D : Fin n → EReal) (k : Fin n) :
    Ideal.div (f k : EReal) (Z : EReal) * (D k - ∑ j, Ideal.div (f j : EReal) (Z : EReal) * D j) * (c : EReal)
      = (Ideal.div (D k) (Z : EReal)
          + -(∑ j, D j * Ideal.div ((1 : ℝ) : EReal) ((Z : EReal) * (Z : EReal)) * (f j : EReal))) * (f k : EReal) * (c : EReal) := by
  congr 1
  have hz : (0 : ℝ) ≤ 1 / Z := by positivity
  have hT : ∑ j, D j * Ideal.div ((1 : ℝ) : EReal) ((Z : EReal) * (Z : EReal)) * (f j : EReal)
      = ((1 / Z : ℝ) : EReal) * ∑ j, Ideal.div (f j : EReal) (Z : EReal) * D j := by
    rw [mul_sum_nn hz]
    refine Finset.sum_congr rfl fun j _ => ?_
    rw [← EReal.coe_mul, Ideal.div_coe (mul_pos hZ hZ).ne', Ideal.div_coe hZ.ne', ← EReal.coe_mul, ← EReal.coe_mul, mul_assoc,
      ← EReal.coe_mul, mul_comm (D j), ← mul_assoc, ← EReal.coe_mul]
    congr 2
    field_simp
  rw [hT, Ideal.div_coe hZ.ne' (D k), mul_comm (D k), ← sub_eq_add_neg, ← mul_sub_nn hz, Ideal.div_coe hZ.ne']
  ac_rfl

end Cert.Reals

end
-- ==== Proof.XaSpec.lean ====
/-
  The gradient of one cross-attention head at one query row, written out over the extended reals.

  `x` is the head's query row, `g` the scale of its normalisation, `k` and `v` the head's keys and values, `o` the
  gradient arriving at the head's output row. The kernel computes these functions; `soft_eq`, `dq_eq` say that they are
  what differentiating the attention gives (a softmax's quotient rule, and the two terms of a normalisation) when the
  scale and the keys are finite.
-/
module

public import proofs.«01_k».proof.Proof.Reals

@[expose] public section

noncomputable section

namespace Cert.XaSpec

open Idealize.ShloMosaic Cert.Reals

/-- Column `d` of head `h` in an array of four heads of 128 columns. -/
def col (h : Fin 4) (d : Fin 128) : Fin 512 := ⟨128 * h.val + d.val, by have := h.isLt; have := d.isLt; omega⟩

/-- The reciprocal root of the head dimension. -/
def sc : EReal := (((Real.sqrt 128)⁻¹ : ℝ) : EReal)

variable (x g o : Fin 128 → EReal) (k v : Fin 256 → Fin 128 → EReal)

/-- The mean square of the query row plus the small constant. -/
def ms : EReal := Ideal.div (∑ d, x d * x d) (Ideal.ofBits .f32 0x43000000#32) + Ideal.ofBits .f32 0x358637BD#32
/-- The normalising factor of the query row. -/
def rs : EReal := Ideal.rsqrt (ms x)
/-- The normalised query row. -/
def qh (d : Fin 128) : EReal := x d * rs x
/-- The normalised query row, scaled. -/
def qn (d : Fin 128) : EReal := qh x d * g d
/-- The logit of key `m`. -/
def lg (m : Fin 256) : EReal := (∑ d, qn x g d * k m d) * sc
/-- The exponential of a logit less the greatest of the row. -/
def ex (m : Fin 256) : EReal := Ideal.exp (lg x g k m - (Finset.univ : Finset (Fin 256)).fold max (Ideal.ofBits .f32 0xFF800000#32) (lg x g k))
/-- The probability of key `m`. -/
def pr (m : Fin 256) : EReal := Ideal.div (ex x g k m) (∑ j, ex x g k j)
/-- The gradient of the probability of key `m`. -/
def dp (m : Fin 256) : EReal := ∑ d, o d * v m d
/-- The gradient of the dot product with key `m`. -/
def ds (m : Fin 256) : EReal := pr x g k m * (dp o v m - ∑ j, pr x g k j * dp o v j) * sc
/-- The gradient of the scaled normalised query. -/
def dn (d : Fin 128) : EReal := ∑ m, ds x g o k v m * k m d
/-- The gradient of the normalised query. -/
def dh (d : Fin 128) : EReal := dn x g o k v d * g d
/-- The gradient of the query row. -/
def dq (d : Fin 128) : EReal :=
  rs x * (dh x g o k v d - qh x d * Ideal.div (∑ j, dh x g o k v j * qh x j) (Ideal.ofBits .f32 0x43000000#32))

/-- The gradient of the query row through the root of the normalisation, as differentiation writes it. -/
def dr : EReal :=
  Ideal.div ((∑ d, x d * dh x g o k v d) * (((-(1 / 2) : ℝ) : EReal) * Ideal.div (rs x) (ms x))) (Ideal.ofBits .f32 0x43000000#32)

/-- The query gradient is the sum differentiation writes: through the product with the factor, and twice through the root. -/
theorem dq_eq (d : Fin 128) : dq x g o k v d = dh x g o k v d * rs x + x d * dr x g o k v + dr x g o k v * x d := by
  obtain ⟨e, he, hE⟩ := ofBits_eps
  have := norm_grad (N := 128) (by norm_num) he x (dh x g o k v) d
  unfold dq dr qh rs ms
  rw [ofBits_128, hE]
  exact this

/-- Every logit is real when the scale and the keys are. -/
theorem lg_real (hg : ∀ d, ∃ q : ℝ, g d = (q : EReal)) (hk : ∀ m d, ∃ q : ℝ, k m d = (q : EReal)) (m : Fin 256) :
    ∃ q : ℝ, lg x g k m = (q : EReal) := by
  obtain ⟨e, he, hE⟩ := ofBits_eps
  obtain ⟨ρ, -, h1, -, h2⟩ := rsqrt_ms (N := 128) (by norm_num) he x
  have hr : rs x = (ρ : EReal) := by unfold rs ms; rw [ofBits_128, hE]; exact h1
  choose a ha using h2
  choose b hb using hg
  choose c hc using hk
  refine ⟨(∑ d, a d * b d * c m d) * (Real.sqrt 128)⁻¹, ?_⟩
  unfold lg sc
  rw [EReal.coe_mul, coe_sum]
  congr 1
  refine Finset.sum_congr rfl fun d _ => ?_
  unfold qn qh
  rw [hr, ha, hb, hc, EReal.coe_mul, EReal.coe_mul]

/-- The gradient of the dot products, as the quotient rule writes the softmax's. -/
theorem ds_eq (hg : ∀ d, ∃ q : ℝ, g d = (q : EReal)) (hk : ∀ m d, ∃ q : ℝ, k m d = (q : EReal)) (m : Fin 256) :
    ds x g o k v m
      = (Ideal.div (dp o v m) (∑ j, ex x g k j)
          + -(∑ j, dp o v j * Ideal.div ((1 : ℝ) : EReal) ((∑ j, ex x g k j) * (∑ j, ex x g k j)) * ex x g k j))
        * ex x g k m * sc := by
  obtain ⟨f, Z, hZ, hf, h1, h2⟩ := exp_real (by norm_num) (lg x g k) (lg_real x g k hg hk)
  have e1 : ∀ j, ex x g k j = (f j : EReal) := fun j => by unfold ex; rw [ofBits_neg_inf]; exact h1 j
  have e2 : ∑ j, (f j : EReal) = (Z : EReal) := by rw [← h2]; exact Finset.sum_congr rfl fun j _ => by rw [h1]
  unfold ds pr
  simp only [e1, e2]
  exact softmax_grad f Z (Real.sqrt 128)⁻¹ hZ hf (dp o v) m

end Cert.XaSpec

end
-- ==== Proof.XaRows.lean ====
/-
  The kernel's four heads, entry by entry: each value the kernel's body computes for a head from the head's query,
  gradient, key and value columns is the corresponding function of `XaSpec` at the row's data. The four heads are one
  text up to how the printed body is cut, so the lemmas are stated of the first head and the others are it by definition.
-/
module

public import Idealize.ShloMosaic.Lib.Pointwise
public import proofs.«01_k».proof.Proof.Gen.XaKernelIdeal.Skeleton
public import proofs.«01_k».proof.Proof.XaSpec

@[expose] public section

set_option maxRecDepth 16384

noncomputable section

namespace Cert.XaRows

open Idealize.ShloMosaic Cert.XaKernelIdeal Cert.XaKernelIdeal.Gen Cert.XaSpec

/-- The kernel's named constant is the reciprocal root of the head dimension. -/
theorem named_sc : Named.named (F := Ideal) κ "inv_sqrt_hd" (φ := .f32) 0x3DB504F3#32 = sc :=
  IdealRules.named_const.ideal_named_scalar _ _ _ _ rfl

variable (G : Vec Ideal S1x128 .f32) (Q : Vec Ideal S512x128 .f32) (O : Vec Ideal S512x128 .bf16) (K V : Vec Ideal S256x128 .bf16)

/-- The probabilities of the first head. -/
abbrev P := k0_pay9 (F := Ideal) G Q K
/-- The gradient of its probabilities. -/
abbrev D := k0_pay10 (F := Ideal) O V

theorem rs_eq (i : Fin 512) (u : Fin 1) : k0_pay6 (F := Ideal) Q (ix2 i u) = rs (fun d => Q (ix2 i d)) := by
  pointwise [k0_pay6]; rfl

theorem qh_eq (i : Fin 512) (d : Fin 128) : k0_pay7 (F := Ideal) Q (ix2 i d) = qh (fun d => Q (ix2 i d)) d := by
  pointwise [k0_pay7]; rw [rs_eq]; rfl

theorem g_eq (u : Fin 1) (d : Fin 128) : k0_pay5 (F := Ideal) G (ix2 u d) = G (ix2 u d) := by
  pointwise [k0_pay5]

theorem qn_eq (i : Fin 512) (d : Fin 128) : k0_pay8 (F := Ideal) G Q (ix2 i d) = qn (fun d => Q (ix2 i d)) (fun d => G (ix2 0 d)) d := by
  pointwise [k0_pay8]; rw [qh_eq, g_eq]; rfl

theorem pr_eq (i : Fin 512) (m : Fin 256) :
    P G Q K (ix2 i m) = pr (fun d => Q (ix2 i d)) (fun d => G (ix2 0 d)) (fun m d => K (ix2 m d)) m := by
  pointwise [k0_pay9]
  simp only [qn_eq]
  rw [named_sc]
  rfl

theorem dp_eq (i : Fin 512) (m : Fin 256) :
    D O V (ix2 i m) = dp (fun d => O (ix2 i d)) (fun m d => V (ix2 m d)) m := by
  pointwise [k0_pay10]; rfl

theorem ds_eq (i : Fin 512) (m : Fin 256) :
    k0_pay12 (F := Ideal) (P G Q K) (D O V) (ix2 i m)
      = ds (fun d => Q (ix2 i d)) (fun d => G (ix2 0 d)) (fun d => O (ix2 i d)) (fun m d => K (ix2 m d)) (fun m d => V (ix2 m d)) m := by
  pointwise [k0_pay12]
  simp only [pr_eq, dp_eq]
  rw [named_sc]
  rfl

theorem dn_eq (i : Fin 512) (d : Fin 128) :
    k0_pay13 (F := Ideal) (P G Q K) (D O V) K (ix2 i d)
      = dn (fun d => Q (ix2 i d)) (fun d => G (ix2 0 d)) (fun d => O (ix2 i d)) (fun m d => K (ix2 m d)) (fun m d => V (ix2 m d)) d := by
  pointwise [k0_pay13]
  simp only [ds_eq]
  rfl

theorem dh_eq (i : Fin 512) (d : Fin 128) :
    k0_pay16 (F := Ideal) (k0_pay5 G) (P G Q K) (D O V) K (ix2 i d)
      = dh (fun d => Q (ix2 i d)) (fun d => G (ix2 0 d)) (fun d => O (ix2 i d)) (fun m d => K (ix2 m d)) (fun m d => V (ix2 m d)) d := by
  pointwise [k0_pay16]
  rw [dn_eq, g_eq]
  rfl

/-- The first head's query gradient. -/
abbrev payQ : FVec Ideal S512x128 .bf16 :=
  k0_pay18 (k0_pay6 Q) (k0_pay7 Q) (k0_pay16 (k0_pay5 G) (P G Q K) (D O V) K) (k0_pay17 (k0_pay5 G) (k0_pay7 Q) (P G Q K) (D O V) K)
/-- What the first head adds to the key gradient `A`. -/
abbrev payK (A : Vec Ideal S256x128 .f32) : FVec Ideal S256x128 .f32 := k0_pay14 (k0_pay8 G Q) (P G Q K) (D O V) A
/-- What it adds to the value gradient `A`. -/
abbrev payV (A : Vec Ideal S256x128 .f32) : FVec Ideal S256x128 .f32 := k0_pay11 (P G Q K) O A
/-- What it adds to the scale's gradient `A`. -/
abbrev payG (A : Vec Ideal S1x128 .f32) : FVec Ideal S1x128 .f32 := k0_pay15 (k0_pay7 Q) (P G Q K) (D O V) K A

theorem payQ_eq (i : Fin 512) (d : Fin 128) :
    payQ G Q O K V (ix2 i d)
      = dq (fun d => Q (ix2 i d)) (fun d => G (ix2 0 d)) (fun d => O (ix2 i d)) (fun m d => K (ix2 m d)) (fun m d => V (ix2 m d)) d := by
  pointwise [k0_pay18, k0_pay17]
  simp only [rs_eq, qh_eq, dh_eq]
  rfl

theorem payK_eq (A : Vec Ideal S256x128 .f32) (m : Fin 256) (d : Fin 128) :
    payK G Q O K V A (ix2 m d) = A (ix2 m d) + ∑ i : Fin 512,
      ds (fun d => Q (ix2 i d)) (fun d => G (ix2 0 d)) (fun d => O (ix2 i d)) (fun m d => K (ix2 m d)) (fun m d => V (ix2 m d)) m
        * qn (fun d => Q (ix2 i d)) (fun d => G (ix2 0 d)) d := by
  pointwise [k0_pay14]
  simp only [ds_eq, qn_eq]

theorem payV_eq (A : Vec Ideal S256x128 .f32) (m : Fin 256) (d : Fin 128) :
    payV G Q O K A (ix2 m d) = A (ix2 m d) + ∑ i : Fin 512,
      pr (fun d => Q (ix2 i d)) (fun d => G (ix2 0 d)) (fun m d => K (ix2 m d)) m * O (ix2 i d) := by
  pointwise [k0_pay11]
  simp only [pr_eq]

theorem payG_eq (A : Vec Ideal S1x128 .f32) (u : Fin 1) (d : Fin 128) :
    payG G Q O K V A (ix2 u d) = A (ix2 u d) + ∑ i : Fin 512,
      dn (fun d => Q (ix2 i d)) (fun d => G (ix2 0 d)) (fun d => O (ix2 i d)) (fun m d => K (ix2 m d)) (fun m d => V (ix2 m d)) d
        * qh (fun d => Q (ix2 i d)) d := by
  pointwise [k0_pay15]
  simp only [dn_eq, qh_eq]

end Cert.XaRows

end
-- ==== Proof.XaBlocks.lean ====
/-
  What one grid point leaves in each result's block, entry by entry, as the functions of `XaSpec` at the point's blocks:
  the query gradient of the point's rows, and the key, value and scale gradients of what the point found (zero at the
  first point) plus the point's rows' contributions, head by head.
-/
module

public import Idealize.ShloMosaic.Lib.Pipeline.ValueKit
public import Idealize.ShloMosaic.Lib.Pipeline.ReadBack
public import proofs.«01_k».proof.Proof.Gen.XaKernelIdeal.Frame
public import proofs.«01_k».proof.Proof.XaRows

@[expose] public section

set_option maxRecDepth 16384

noncomputable section

namespace Cert.XaBlocks

open Idealize.ShloMosaic Cert.XaKernelIdeal Cert.XaKernelIdeal.Gen Cert.XaSpec Cert.XaRows
open Idealize.ShloMosaic.TcCoe Idealize.SL.Sem

/-- A load of one head's columns, at an index. -/
theorem ld_col {n : Nat} {e : EltTy} (X : Vec Ideal ⟨2, ![n, 512]⟩ e) (h : Fin 4) (o : Nat) (ho : o = 128 * h.val)
    (inb) (i : Fin n) (d : Fin 128) :
    View.ld X (Rect.unit (s := ⟨2, ![n, 512]⟩) ![0, o] ![n, 128] inb) (ix2 i d) = X (ix2 i (col h d)) := by
  refine View.ld_unit_apply_of X _ _ inb _ _ fun a => ?_
  subst ho
  fin_cases a
  · show i.val = 0 + i.val; omega
  · show 128 * h.val + d.val = 128 * h.val + d.val; rfl

/-- A column is its head's and its place in the head's. -/
theorem col_inj {h k : Fin 4} {d e : Fin 128} (H : (col h d).val = 128 * k.val + e.val) : h = k ∧ d = e := by
  have H' : 128 * h.val + d.val = 128 * k.val + e.val := H
  have := d.isLt; have := e.isLt
  exact ⟨Fin.ext (by omega), Fin.ext (by omega)⟩

/-- An index of a matrix is its two coordinates. -/
theorem ix2_eta {n l : Nat} (x : (⟨2, ![n, l]⟩ : Shape).Idx) : ∃ (a : Fin n) (b : Fin l), x = ix2 a b :=
  ⟨x 0, x 1, by funext a; fin_cases a <;> rfl⟩

section
variable (X0 : Vec Ideal S512x512 .f32) (X1 : Vec Ideal S512x512 .bf16) (X2 : Vec Ideal S1x128 .f32) (X3 X4 : Vec Ideal S256x512 .bf16)
/-- Head `h` of query row `i`. -/
abbrev qr {n : Nat} (X0 : Vec Ideal ⟨2, ![n, 512]⟩ .f32) (i : Fin n) (h : Fin 4) (d : Fin 128) : EReal := X0 (ix2 i (col h d))
/-- Head `h` of row `i` of the incoming gradient. -/
abbrev orow {n : Nat} (X1 : Vec Ideal ⟨2, ![n, 512]⟩ .bf16) (i : Fin n) (h : Fin 4) (d : Fin 128) : EReal := X1 (ix2 i (col h d))
/-- The scale. -/
abbrev gr (X2 : Vec Ideal S1x128 .f32) (d : Fin 128) : EReal := X2 (ix2 0 d)
/-- Head `h` of the keys, or of the values. -/
abbrev kr (X3 : Vec Ideal S256x512 .bf16) (h : Fin 4) (m : Fin 256) (d : Fin 128) : EReal := X3 (ix2 m (col h d))

/-- The contribution of a block of query rows to the key gradient of key `m`, head `h`, column `d`. -/
def addK {n : Nat} (X0 : Vec Ideal ⟨2, ![n, 512]⟩ .f32) (X1 : Vec Ideal ⟨2, ![n, 512]⟩ .bf16) (X2 : Vec Ideal S1x128 .f32)
    (X3 X4 : Vec Ideal S256x512 .bf16) (m : Fin 256) (h : Fin 4) (d : Fin 128) : EReal :=
  ∑ i : Fin n, ds (qr X0 i h) (gr X2) (orow X1 i h) (kr X3 h) (kr X4 h) m * qn (qr X0 i h) (gr X2) d
/-- Its contribution to the value gradient. -/
def addV {n : Nat} (X0 : Vec Ideal ⟨2, ![n, 512]⟩ .f32) (X1 : Vec Ideal ⟨2, ![n, 512]⟩ .bf16) (X2 : Vec Ideal S1x128 .f32)
    (X3 : Vec Ideal S256x512 .bf16) (m : Fin 256) (h : Fin 4) (d : Fin 128) : EReal :=
  ∑ i : Fin n, pr (qr X0 i h) (gr X2) (kr X3 h) m * orow X1 i h d
/-- Its contribution to the scale's gradient through head `h`. -/
def addG {n : Nat} (X0 : Vec Ideal ⟨2, ![n, 512]⟩ .f32) (X1 : Vec Ideal ⟨2, ![n, 512]⟩ .bf16) (X2 : Vec Ideal S1x128 .f32)
    (X3 X4 : Vec Ideal S256x512 .bf16) (h : Fin 4) (d : Fin 128) : EReal :=
  ∑ i : Fin n, dn (qr X0 i h) (gr X2) (orow X1 i h) (kr X3 h) (kr X4 h) d * qh (qr X0 i h) d

variable {X0 X1 X2 X3 X4}

theorem headQ (k : Fin 4) {Q O K V} (hQ : ∀ i d, Q (ix2 i d) = X0 (ix2 i (col k d))) (hO : ∀ i d, O (ix2 i d) = X1 (ix2 i (col k d)))
    (hK : ∀ i d, K (ix2 i d) = X3 (ix2 i (col k d))) (hV : ∀ i d, V (ix2 i d) = X4 (ix2 i (col k d)))
    (x : S512x128.Idx) (i : Fin 512) (h : Fin 4) (d : Fin 128) (h0 : i.val = (x 0).val) (h1 : (col h d).val = 128 * k.val + (x 1).val) :
    payQ X2 Q O K V x = dq (qr X0 i h) (gr X2) (orow X1 i h) (kr X3 h) (kr X4 h) d := by
  obtain ⟨a, b, rfl⟩ := ix2_eta x
  obtain ⟨rfl, rfl⟩ := col_inj (e := b) h1
  obtain rfl : i = a := Fin.ext h0
  rw [payQ_eq]
  simp only [hQ, hO, hK, hV]

theorem headK (k : Fin 4) {Q O K V A} {A' : Vec Ideal S256x512 .f32} (hQ : ∀ i d, Q (ix2 i d) = X0 (ix2 i (col k d)))
    (hO : ∀ i d, O (ix2 i d) = X1 (ix2 i (col k d))) (hK : ∀ i d, K (ix2 i d) = X3 (ix2 i (col k d)))
    (hV : ∀ i d, V (ix2 i d) = X4 (ix2 i (col k d))) (hA : ∀ i d, A (ix2 i d) = A' (ix2 i (col k d)))
    (x : S256x128.Idx) (i : Fin 256) (h : Fin 4) (d : Fin 128) (h0 : i.val = (x 0).val) (h1 : (col h d).val = 128 * k.val + (x 1).val) :
    payK X2 Q O K V A x = A' (ix2 i (col h d)) + addK X0 X1 X2 X3 X4 i h d := by
  obtain ⟨a, b, rfl⟩ := ix2_eta x
  obtain ⟨rfl, rfl⟩ := col_inj (e := b) h1
  obtain rfl : i = a := Fin.ext h0
  rw [payK_eq]
  simp only [hQ, hO, hK, hV, hA]
  rfl

theorem headV (k : Fin 4) {Q O K A} {A' : Vec Ideal S256x512 .f32} (hQ : ∀ i d, Q (ix2 i d) = X0 (ix2 i (col k d)))
    (hO : ∀ i d, O (ix2 i d) = X1 (ix2 i (col k d))) (hK : ∀ i d, K (ix2 i d) = X3 (ix2 i (col k d)))
    (hA : ∀ i d, A (ix2 i d) = A' (ix2 i (col k d)))
    (x : S256x128.Idx) (i : Fin 256) (h : Fin 4) (d : Fin 128) (h0 : i.val = (x 0).val) (h1 : (col h d).val = 128 * k.val + (x 1).val) :
    payV X2 Q O K A x = A' (ix2 i (col h d)) + addV X0 X1 X2 X3 i h d := by
  obtain ⟨a, b, rfl⟩ := ix2_eta x
  obtain ⟨rfl, rfl⟩ := col_inj (e := b) h1
  obtain rfl : i = a := Fin.ext h0
  rw [payV_eq]
  simp only [hQ, hO, hK, hA]
  rfl

theorem headG (k : Fin 4) {Q O K V A} (hQ : ∀ i d, Q (ix2 i d) = X0 (ix2 i (col k d)))
    (hO : ∀ i d, O (ix2 i d) = X1 (ix2 i (col k d))) (hK : ∀ i d, K (ix2 i d) = X3 (ix2 i (col k d)))
    (hV : ∀ i d, V (ix2 i d) = X4 (ix2 i (col k d))) (u : Fin 1) (d : Fin 128) :
    payG X2 Q O K V A (ix2 u d) = A (ix2 u d) + addG X0 X1 X2 X3 X4 k d := by
  rw [payG_eq]
  simp only [hQ, hO, hK, hV]
  rfl

/-- The block a point zeroes holds zero. -/
theorem zero2 (j : S256x512.Idx) : k0_pay2 (F := Ideal) j = 0 := by pointwise [k0_pay2]
theorem zero3 (j : S256x512.Idx) : k0_pay3 (F := Ideal) j = 0 := by pointwise [k0_pay3]
theorem zero4 (j : S1x128.Idx) : k0_pay4 (F := Ideal) j = 0 := by pointwise [k0_pay4]

/-- Stores that cover an index hide the stores before them. -/
theorem canon_hide {Val : EltTy → Type} [∀ e, Nonempty (Val e)] {S : Shape} {e : EltTy} (L L' : List (View.Piece Val S e)) (y : S.Idx) (h : ∃ p ∈ L, y ∈ p.1.set) :
    View.canon (L ++ L') y = View.canon L y := by
  induction L with
  | nil => obtain ⟨p, hp, -⟩ := h; exact absurd hp List.not_mem_nil
  | cons p L ih =>
    by_cases hy : y ∈ p.1.set
    · obtain ⟨x, hx⟩ := p.1.exists_idx_of_mem hy
      obtain rfl : p.1.emb x = y := hx
      exact (View.canon_cons_emb p.1 p.2 (L ++ L') x).trans (View.canon_cons_emb p.1 p.2 L x).symm
    · rw [List.cons_append, View.canon_cons_of_not_mem p _ hy, View.canon_cons_of_not_mem p _ hy]
      obtain ⟨q, hq, hqy⟩ := h
      rcases List.mem_cons.mp hq with rfl | hq
      · exact absurd hqy hy
      · exact ih ⟨q, hq, hqy⟩

theorem canon_hide4 {Val : EltTy → Type} [∀ e, Nonempty (Val e)] {S : Shape} {e : EltTy} (a b c d z : View.Piece Val S e) (y : S.Idx) (h : ∃ p ∈ [a, b, c, d], y ∈ p.1.set) :
    View.canon [a, b, c, d, z] y = View.canon [a, b, c, d] y := canon_hide [a, b, c, d] [z] y h

theorem out5_A (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : cond0_0 i)
    (x0 : Vec Ideal S512x512 .f32) (x1 : Vec Ideal S512x512 .bf16) (x2 : Vec Ideal S1x128 .f32) (x3 : Vec Ideal S256x512 .bf16) (x4 : Vec Ideal S256x512 .bf16) (q : Fin 512) (h : Fin 4) (d : Fin 128) :
    out0_A_5 c i arg1 harg1 arg2 harg2 arg3 harg3 arg4 harg4 arg5 harg5 arg6 harg6 arg7 harg7 arg8 harg8 arg9 harg9 hc0 x0 x1 x2 x3 x4 (ix2 q (col h d)) = dq (qr x0 q h) (gr x2) (orow x1 q h) (kr x3 h) (kr x4 h) d := by
  unfold out0_A_5
  frame_out
  canon_tiles x hx
  case piece0 => exact headQ 3 (ld_col x0 3 _ rfl _) (ld_col x1 3 _ rfl _) (ld_col x3 3 _ rfl _) (ld_col x4 3 _ rfl _) x q h d hx0 hx1
  case piece1 => exact headQ 2 (ld_col x0 2 _ rfl _) (ld_col x1 2 _ rfl _) (ld_col x3 2 _ rfl _) (ld_col x4 2 _ rfl _) x q h d hx0 hx1
  case piece2 => exact headQ 1 (ld_col x0 1 _ rfl _) (ld_col x1 1 _ rfl _) (ld_col x3 1 _ rfl _) (ld_col x4 1 _ rfl _) x q h d hx0 hx1
  case piece3 => exact headQ 0 (ld_col x0 0 _ rfl _) (ld_col x1 0 _ rfl _) (ld_col x3 0 _ rfl _) (ld_col x4 0 _ rfl _) x q h d hx0 (hx1.trans (Nat.zero_add _).symm)

theorem out5_B (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : ¬cond0_0 i)
    (x0 : Vec Ideal S512x512 .f32) (x1 : Vec Ideal S512x512 .bf16) (x2 : Vec Ideal S1x128 .f32) (x3 : Vec Ideal S256x512 .bf16) (x4 : Vec Ideal S256x512 .bf16) (xo6 : Vec Ideal S256x512 .f32) (xo7 : Vec Ideal S256x512 .f32) (xo8 : Vec Ideal S1x128 .f32) (q : Fin 512) (h : Fin 4) (d : Fin 128) :
    out0_B_5 c i arg1 harg1 arg2 harg2 arg3 harg3 arg4 harg4 arg5 harg5 arg6 harg6 arg7 harg7 arg8 harg8 arg9 harg9 hc0 x0 x1 x2 x3 x4 xo6 xo7 xo8 (ix2 q (col h d)) = dq (qr x0 q h) (gr x2) (orow x1 q h) (kr x3 h) (kr x4 h) d := by
  unfold out0_B_5
  frame_out
  canon_tiles x hx
  case piece0 => exact headQ 3 (ld_col x0 3 _ rfl _) (ld_col x1 3 _ rfl _) (ld_col x3 3 _ rfl _) (ld_col x4 3 _ rfl _) x q h d hx0 hx1
  case piece1 => exact headQ 2 (ld_col x0 2 _ rfl _) (ld_col x1 2 _ rfl _) (ld_col x3 2 _ rfl _) (ld_col x4 2 _ rfl _) x q h d hx0 hx1
  case piece2 => exact headQ 1 (ld_col x0 1 _ rfl _) (ld_col x1 1 _ rfl _) (ld_col x3 1 _ rfl _) (ld_col x4 1 _ rfl _) x q h d hx0 hx1
  case piece3 => exact headQ 0 (ld_col x0 0 _ rfl _) (ld_col x1 0 _ rfl _) (ld_col x3 0 _ rfl _) (ld_col x4 0 _ rfl _) x q h d hx0 (hx1.trans (Nat.zero_add _).symm)

theorem out6_A (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : cond0_0 i)
    (x0 : Vec Ideal S512x512 .f32) (x1 : Vec Ideal S512x512 .bf16) (x2 : Vec Ideal S1x128 .f32) (x3 : Vec Ideal S256x512 .bf16) (x4 : Vec Ideal S256x512 .bf16) (q : Fin 256) (h : Fin 4) (d : Fin 128) :
    out0_A_6 c i arg1 harg1 arg2 harg2 arg3 harg3 arg4 harg4 arg5 harg5 arg6 harg6 arg7 harg7 arg8 harg8 arg9 harg9 hc0 x0 x1 x2 x3 x4 (ix2 q (col h d)) = addK x0 x1 x2 x3 x4 q h d := by
  unfold out0_A_6
  frame_open
  simp (disch := decide) only [↓ View.readCov_skip, ↓ View.readCov_cons_toLoadRect, ↓ View.readCov_fill]
  frame_out
  rw [← zero_add (addK x0 x1 x2 x3 x4 q h d), ← zero2 (ix2 q (col h d))]
  refine (canon_hide4 _ _ _ _ _ _ ?_).trans ?_
  · exact View.cover_of_tiledL _ ![256, 128] (by sl_kernel_rfl) _
  canon_tiles x hx
  case piece0 => exact headK 3 (ld_col x0 3 _ rfl _) (ld_col x1 3 _ rfl _) (ld_col x3 3 _ rfl _) (ld_col x4 3 _ rfl _) (ld_col (k0_pay2 (F := Ideal)) 3 _ rfl inb_S256x512_S256x128_0_384) x q h d hx0 hx1
  case piece1 => exact headK 2 (ld_col x0 2 _ rfl _) (ld_col x1 2 _ rfl _) (ld_col x3 2 _ rfl _) (ld_col x4 2 _ rfl _) (ld_col (k0_pay2 (F := Ideal)) 2 _ rfl inb_S256x512_S256x128_0_256) x q h d hx0 hx1
  case piece2 => exact headK 1 (ld_col x0 1 _ rfl _) (ld_col x1 1 _ rfl _) (ld_col x3 1 _ rfl _) (ld_col x4 1 _ rfl _) (ld_col (k0_pay2 (F := Ideal)) 1 _ rfl inb_S256x512_S256x128_0_128) x q h d hx0 hx1
  case piece3 => exact headK 0 (ld_col x0 0 _ rfl _) (ld_col x1 0 _ rfl _) (ld_col x3 0 _ rfl _) (ld_col x4 0 _ rfl _) (ld_col (k0_pay2 (F := Ideal)) 0 _ rfl inb_S256x512_S256x128_0_0) x q h d hx0 (hx1.trans (Nat.zero_add _).symm)

theorem out6_B (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : ¬cond0_0 i)
    (x0 : Vec Ideal S512x512 .f32) (x1 : Vec Ideal S512x512 .bf16) (x2 : Vec Ideal S1x128 .f32) (x3 : Vec Ideal S256x512 .bf16) (x4 : Vec Ideal S256x512 .bf16) (xo6 : Vec Ideal S256x512 .f32) (xo7 : Vec Ideal S256x512 .f32) (xo8 : Vec Ideal S1x128 .f32) (q : Fin 256) (h : Fin 4) (d : Fin 128) :
    out0_B_6 c i arg1 harg1 arg2 harg2 arg3 harg3 arg4 harg4 arg5 harg5 arg6 harg6 arg7 harg7 arg8 harg8 arg9 harg9 hc0 x0 x1 x2 x3 x4 xo6 xo7 xo8 (ix2 q (col h d)) = xo6 (ix2 q (col h d)) + addK x0 x1 x2 x3 x4 q h d := by
  unfold out0_B_6
  frame_open
  frame_out
  canon_tiles x hx
  case piece0 => exact headK 3 (ld_col x0 3 _ rfl _) (ld_col x1 3 _ rfl _) (ld_col x3 3 _ rfl _) (ld_col x4 3 _ rfl _) (ld_col xo6 3 _ rfl inb_S256x512_S256x128_0_384) x q h d hx0 hx1
  case piece1 => exact headK 2 (ld_col x0 2 _ rfl _) (ld_col x1 2 _ rfl _) (ld_col x3 2 _ rfl _) (ld_col x4 2 _ rfl _) (ld_col xo6 2 _ rfl inb_S256x512_S256x128_0_256) x q h d hx0 hx1
  case piece2 => exact headK 1 (ld_col x0 1 _ rfl _) (ld_col x1 1 _ rfl _) (ld_col x3 1 _ rfl _) (ld_col x4 1 _ rfl _) (ld_col xo6 1 _ rfl inb_S256x512_S256x128_0_128) x q h d hx0 hx1
  case piece3 => exact headK 0 (ld_col x0 0 _ rfl _) (ld_col x1 0 _ rfl _) (ld_col x3 0 _ rfl _) (ld_col x4 0 _ rfl _) (ld_col xo6 0 _ rfl inb_S256x512_S256x128_0_0) x q h d hx0 (hx1.trans (Nat.zero_add _).symm)

theorem out7_A (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : cond0_0 i)
    (x0 : Vec Ideal S512x512 .f32) (x1 : Vec Ideal S512x512 .bf16) (x2 : Vec Ideal S1x128 .f32) (x3 : Vec Ideal S256x512 .bf16) (x4 : Vec Ideal S256x512 .bf16) (q : Fin 256) (h : Fin 4) (d : Fin 128) :
    out0_A_7 c i arg1 harg1 arg2 harg2 arg3 harg3 arg4 harg4 arg5 harg5 arg6 harg6 arg7 harg7 arg8 harg8 arg9 harg9 hc0 x0 x1 x2 x3 x4 (ix2 q (col h d)) = addV x0 x1 x2 x3 q h d := by
  unfold out0_A_7
  frame_open
  simp (disch := decide) only [↓ View.readCov_skip, ↓ View.readCov_cons_toLoadRect, ↓ View.readCov_fill]
  frame_out
  rw [← zero_add (addV x0 x1 x2 x3 q h d), ← zero3 (ix2 q (col h d))]
  refine (canon_hide4 _ _ _ _ _ _ ?_).trans ?_
  · exact View.cover_of_tiledL _ ![256, 128] (by sl_kernel_rfl) _
  canon_tiles x hx
  case piece0 => exact headV 3 (ld_col x0 3 _ rfl _) (ld_col x1 3 _ rfl _) (ld_col x3 3 _ rfl _) (ld_col (k0_pay3 (F := Ideal)) 3 _ rfl inb_S256x512_S256x128_0_384) x q h d hx0 hx1
  case piece1 => exact headV 2 (ld_col x0 2 _ rfl _) (ld_col x1 2 _ rfl _) (ld_col x3 2 _ rfl _) (ld_col (k0_pay3 (F := Ideal)) 2 _ rfl inb_S256x512_S256x128_0_256) x q h d hx0 hx1
  case piece2 => exact headV 1 (ld_col x0 1 _ rfl _) (ld_col x1 1 _ rfl _) (ld_col x3 1 _ rfl _) (ld_col (k0_pay3 (F := Ideal)) 1 _ rfl inb_S256x512_S256x128_0_128) x q h d hx0 hx1
  case piece3 => exact headV 0 (ld_col x0 0 _ rfl _) (ld_col x1 0 _ rfl _) (ld_col x3 0 _ rfl _) (ld_col (k0_pay3 (F := Ideal)) 0 _ rfl inb_S256x512_S256x128_0_0) x q h d hx0 (hx1.trans (Nat.zero_add _).symm)

theorem out7_B (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : ¬cond0_0 i)
    (x0 : Vec Ideal S512x512 .f32) (x1 : Vec Ideal S512x512 .bf16) (x2 : Vec Ideal S1x128 .f32) (x3 : Vec Ideal S256x512 .bf16) (x4 : Vec Ideal S256x512 .bf16) (xo6 : Vec Ideal S256x512 .f32) (xo7 : Vec Ideal S256x512 .f32) (xo8 : Vec Ideal S1x128 .f32) (q : Fin 256) (h : Fin 4) (d : Fin 128) :
    out0_B_7 c i arg1 harg1 arg2 harg2 arg3 harg3 arg4 harg4 arg5 harg5 arg6 harg6 arg7 harg7 arg8 harg8 arg9 harg9 hc0 x0 x1 x2 x3 x4 xo6 xo7 xo8 (ix2 q (col h d)) = xo7 (ix2 q (col h d)) + addV x0 x1 x2 x3 q h d := by
  unfold out0_B_7
  frame_open
  frame_out
  canon_tiles x hx
  case piece0 => exact headV 3 (ld_col x0 3 _ rfl _) (ld_col x1 3 _ rfl _) (ld_col x3 3 _ rfl _) (ld_col xo7 3 _ rfl inb_S256x512_S256x128_0_384) x q h d hx0 hx1
  case piece1 => exact headV 2 (ld_col x0 2 _ rfl _) (ld_col x1 2 _ rfl _) (ld_col x3 2 _ rfl _) (ld_col xo7 2 _ rfl inb_S256x512_S256x128_0_256) x q h d hx0 hx1
  case piece2 => exact headV 1 (ld_col x0 1 _ rfl _) (ld_col x1 1 _ rfl _) (ld_col x3 1 _ rfl _) (ld_col xo7 1 _ rfl inb_S256x512_S256x128_0_128) x q h d hx0 hx1
  case piece3 => exact headV 0 (ld_col x0 0 _ rfl _) (ld_col x1 0 _ rfl _) (ld_col x3 0 _ rfl _) (ld_col xo7 0 _ rfl inb_S256x512_S256x128_0_0) x q h d hx0 (hx1.trans (Nat.zero_add _).symm)

theorem out8_A (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : cond0_0 i)
    (x0 : Vec Ideal S512x512 .f32) (x1 : Vec Ideal S512x512 .bf16) (x2 : Vec Ideal S1x128 .f32) (x3 : Vec Ideal S256x512 .bf16) (x4 : Vec Ideal S256x512 .bf16) (u : Fin 1) (d : Fin 128) :
    out0_A_8 c i arg1 harg1 arg2 harg2 arg3 harg3 arg4 harg4 arg5 harg5 arg6 harg6 arg7 harg7 arg8 harg8 arg9 harg9 hc0 x0 x1 x2 x3 x4 (ix2 u d) = ∑ h : Fin 4, addG x0 x1 x2 x3 x4 h d := by
  unfold out0_A_8
  frame_open
  simp (disch := decide) only [↓ View.readCov_skip, ↓ View.readCov_cons_toLoadRect, ↓ View.readCov_fill]
  frame_out

  refine ((headG 3 (ld_col x0 3 _ rfl _) (ld_col x1 3 _ rfl _) (ld_col x3 3 _ rfl _) (ld_col x4 3 _ rfl _) u d).trans (congrArg (· + _) ((headG 2 (ld_col x0 2 _ rfl _) (ld_col x1 2 _ rfl _) (ld_col x3 2 _ rfl _) (ld_col x4 2 _ rfl _) u d).trans (congrArg (· + _) ((headG 1 (ld_col x0 1 _ rfl _) (ld_col x1 1 _ rfl _) (ld_col x3 1 _ rfl _) (ld_col x4 1 _ rfl _) u d).trans (congrArg (· + _) (headG 0 (ld_col x0 0 _ rfl _) (ld_col x1 0 _ rfl _) (ld_col x3 0 _ rfl _) (ld_col x4 0 _ rfl _) u d))))))).trans ?_
  rw [Fin.sum_univ_four]
  rw [zero4, zero_add]

theorem out8_B (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (hc0 : ¬cond0_0 i)
    (x0 : Vec Ideal S512x512 .f32) (x1 : Vec Ideal S512x512 .bf16) (x2 : Vec Ideal S1x128 .f32) (x3 : Vec Ideal S256x512 .bf16) (x4 : Vec Ideal S256x512 .bf16) (xo6 : Vec Ideal S256x512 .f32) (xo7 : Vec Ideal S256x512 .f32) (xo8 : Vec Ideal S1x128 .f32) (u : Fin 1) (d : Fin 128) :
    out0_B_8 c i arg1 harg1 arg2 harg2 arg3 harg3 arg4 harg4 arg5 harg5 arg6 harg6 arg7 harg7 arg8 harg8 arg9 harg9 hc0 x0 x1 x2 x3 x4 xo6 xo7 xo8 (ix2 u d) = xo8 (ix2 u d) + ∑ h : Fin 4, addG x0 x1 x2 x3 x4 h d := by
  unfold out0_B_8
  frame_open
  frame_out

  refine ((headG 3 (ld_col x0 3 _ rfl _) (ld_col x1 3 _ rfl _) (ld_col x3 3 _ rfl _) (ld_col x4 3 _ rfl _) u d).trans (congrArg (· + _) ((headG 2 (ld_col x0 2 _ rfl _) (ld_col x1 2 _ rfl _) (ld_col x3 2 _ rfl _) (ld_col x4 2 _ rfl _) u d).trans (congrArg (· + _) ((headG 1 (ld_col x0 1 _ rfl _) (ld_col x1 1 _ rfl _) (ld_col x3 1 _ rfl _) (ld_col x4 1 _ rfl _) u d).trans (congrArg (· + _) (headG 0 (ld_col x0 0 _ rfl _) (ld_col x1 0 _ rfl _) (ld_col x3 0 _ rfl _) (ld_col x4 0 _ rfl _) u d))))))).trans ?_
  rw [Fin.sum_univ_four]
  simp only [add_assoc]

end

end Cert.XaBlocks

end
-- ==== Proof.XaFinal.lean ====
/-
  The four result arrays of the cross-attention gradient after the run, entry by entry: the query gradient of each row,
  and the key, value and scale gradients as sums over all the rows.
-/
module

public import Idealize.ShloMosaic.Lib.Pipeline.ValueKit
public import proofs.«01_k».proof.Proof.Gen.XaKernelIdeal.Value
public import proofs.«01_k».proof.Proof.XaBlocks

@[expose] public section

set_option maxRecDepth 16384

noncomputable section

namespace Cert.XaFinal

open Idealize.ShloMosaic Cert.XaKernelIdeal Cert.XaKernelIdeal.Gen Cert.XaSpec Cert.XaRows Cert.XaBlocks
open Idealize.ShloMosaic.TcCoe Idealize.SL.Sem
open Idealize.ShloMosaic.Pipeline (Dat)

variable (m : (ℓ : Loc nD τ sig) → Buf (Elt Ideal) ℓ) (c : Dev nD)

/-- The queries. -/
abbrev Qa : Vec Ideal S8192x512 .f32 := m ((c : Thread nD τ).loc main_arg0)
/-- The incoming gradient. -/
abbrev Oa : Vec Ideal S8192x512 .bf16 := m ((c : Thread nD τ).loc main_arg1)
/-- The scale as a row. -/
def Ga : Vec Ideal S1x128 .f32 := fun j => m ((c : Thread nD τ).loc main_arg2) (ix1 (j 1))
/-- The keys. -/
abbrev Ka : Vec Ideal S256x512 .bf16 := m ((c : Thread nD τ).loc main_arg3)
/-- The values. -/
abbrev Va : Vec Ideal S256x512 .bf16 := m ((c : Thread nD τ).loc main_arg4)

/-- The windows' block indices at a point (decided). -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- Row `i` of point `t`'s block is a row of the array. -/
theorem row_lt (t : Fin cfg0.N) (i : Fin 512) : t.val * 512 + i.val < 8192 := by
  have h : cfg0.N = 16 := N_0
  have := t.isLt; have := i.isLt; omega

theorem iblk0 (t : Fin cfg0.N) (i : Fin 512) (j : Fin 512) :
    iblk m c 0 t (ix2 i j) = Qa m c (ix2 ⟨t.val * 512 + i.val, row_lt t i⟩ j) := by
  blk_ext [iblk, V, idx t]
theorem iblk1 (t : Fin cfg0.N) (i : Fin 512) (j : Fin 512) :
    iblk m c 1 t (ix2 i j) = Oa m c (ix2 ⟨t.val * 512 + i.val, row_lt t i⟩ j) := by
  blk_ext [iblk, V, idx t]
theorem iblk2 (t : Fin cfg0.N) : iblk m c 2 t = Ga m c := by
  funext j
  obtain ⟨a, b, rfl⟩ := Cert.XaBlocks.ix2_eta j
  show _ = m ((c : Thread nD τ).loc main_arg2) (ix1 b)
  blk_ext! [iblk, V, idx t]
theorem iblk3 (t : Fin cfg0.N) : iblk m c 3 t = Ka m c := by
  blk_ext! [iblk, V, idx t]
theorem iblk4 (t : Fin cfg0.N) : iblk m c 4 t = Va m c := by
  blk_ext! [iblk, V, idx t]

theorem qr_blk (t : Fin cfg0.N) (i : Fin 512) (h : Fin 4) : qr (iblk m c 0 t) i h = qr (Qa m c) ⟨t.val * 512 + i.val, row_lt t i⟩ h :=
  funext fun d => iblk0 m c t i (col h d)
theorem orow_blk (t : Fin cfg0.N) (i : Fin 512) (h : Fin 4) : orow (iblk m c 1 t) i h = orow (Oa m c) ⟨t.val * 512 + i.val, row_lt t i⟩ h :=
  funext fun d => iblk1 m c t i (col h d)

/-- The contributions of the points together are the contribution of all the rows. -/
theorem addK_sum (k : Fin 256) (h : Fin 4) (d : Fin 128) :
    ∑ t : Fin cfg0.N, addK (iblk m c 0 t) (iblk m c 1 t) (Ga m c) (Ka m c) (Va m c) k h d = addK (Qa m c) (Oa m c) (Ga m c) (Ka m c) (Va m c) k h d := by
  unfold addK
  refine Fin.sum_mul_add_congr fun t i hl => ?_
  rw [qr_blk, orow_blk]
theorem addV_sum (k : Fin 256) (h : Fin 4) (d : Fin 128) :
    ∑ t : Fin cfg0.N, addV (iblk m c 0 t) (iblk m c 1 t) (Ga m c) (Ka m c) k h d = addV (Qa m c) (Oa m c) (Ga m c) (Ka m c) k h d := by
  unfold addV
  refine Fin.sum_mul_add_congr fun t i hl => ?_
  rw [qr_blk, orow_blk]
theorem addG_sum (h : Fin 4) (d : Fin 128) :
    ∑ t : Fin cfg0.N, addG (iblk m c 0 t) (iblk m c 1 t) (Ga m c) (Ka m c) (Va m c) h d = addG (Qa m c) (Oa m c) (Ga m c) (Ka m c) (Va m c) h d := by
  unfold addG
  refine Fin.sum_mul_add_congr fun t i hl => ?_
  rw [qr_blk, orow_blk]

theorem addG_all (d : Fin 128) :
    ∑ t : Fin cfg0.N, ∑ h : Fin 4, addG (iblk m c 0 t) (iblk m c 1 t) (Ga m c) (Ka m c) (Va m c) h d
      = ∑ h : Fin 4, addG (Qa m c) (Oa m c) (Ga m c) (Ka m c) (Va m c) h d := by
  rw [Finset.sum_comm]
  exact Finset.sum_congr rfl fun h _ => addG_sum m c h d

/-- The head of a column, -/
def hd (l : Fin 512) : Fin 4 := ⟨l.val / 128, by have := l.isLt; omega⟩
/-- and its place in the head. -/
def ln (l : Fin 512) : Fin 128 := ⟨l.val % 128, Nat.mod_lt _ (by decide)⟩
theorem hd_col (h : Fin 4) (d : Fin 128) : hd (col h d) = h := by
  have := d.isLt; apply Fin.ext; show (128 * h.val + d.val) / 128 = h.val; omega
theorem ln_col (h : Fin 4) (d : Fin 128) : ln (col h d) = d := by
  have := d.isLt; apply Fin.ext; show (128 * h.val + d.val) % 128 = d.val; omega
theorem col_hd (l : Fin 512) : l = col (hd l) (ln l) := by
  apply Fin.ext; show l.val = 128 * (l.val / 128) + l.val % 128; omega
theorem ix_split {n : Nat} (j : (⟨2, ![n, 512]⟩ : Shape).Idx) : ∃ (a : Fin n) (h : Fin 4) (d : Fin 128), j = ix2 a (col h d) := by
  obtain ⟨a, b, rfl⟩ := Cert.XaBlocks.ix2_eta j
  exact ⟨a, hd b, ln b, by rw [← col_hd]⟩

/-- The query gradient, -/
def DQ : Vec Ideal S8192x512 .bf16 := fun j =>
  dq (qr (Qa m c) (j 0) (hd (j 1))) (gr (Ga m c)) (orow (Oa m c) (j 0) (hd (j 1))) (kr (Ka m c) (hd (j 1))) (kr (Va m c) (hd (j 1))) (ln (j 1))
/-- the key gradient, -/
def DK : Vec Ideal S256x512 .f32 := fun j => addK (Qa m c) (Oa m c) (Ga m c) (Ka m c) (Va m c) (j 0) (hd (j 1)) (ln (j 1))
/-- the value gradient -/
def DV : Vec Ideal S256x512 .f32 := fun j => addV (Qa m c) (Oa m c) (Ga m c) (Ka m c) (j 0) (hd (j 1)) (ln (j 1))
/-- and the scale's. -/
def DG : Vec Ideal S1x128 .f32 := fun j => ∑ h : Fin 4, addG (Qa m c) (Oa m c) (Ga m c) (Ka m c) (Va m c) h (j 1)

/-- What a point leaves in the query gradient's block. -/
theorem outs5 (t : Fin cfg0.N) (i : Fin 512) (h : Fin 4) (d : Fin 128) : (outsAt0 m c t.val t.isLt).1 (ix2 i (col h d))
    = dq (qr (Qa m c) ⟨t.val * 512 + i.val, row_lt t i⟩ h) (gr (Ga m c)) (orow (Oa m c) ⟨t.val * 512 + i.val, row_lt t i⟩ h) (kr (Ka m c) h) (kr (Va m c) h) d := by
  by_cases ht : t.val % 16 = 0
  · rw [outsAt0_A m c t ht]; dsimp only; rw [out5_A, iblk2, iblk3, iblk4, qr_blk, orow_blk]
  · rw [outsAt0_B m c t ht]; dsimp only; rw [out5_B, iblk2, iblk3, iblk4, qr_blk, orow_blk]

theorem final5 : (dats m 0 c).arrAt 5 cfg0.N = DQ m c := by
  refine (dats m 0 c).arrAt_eq_of_covers 5 _ (by decide +kernel) fun t hf y => ?_
  blk_simp
  rw [after0_5]
  obtain ⟨i, h, d, rfl⟩ := ix_split y
  have he : (win0_5.blk t).view.emb (ix2 i (col h d)) = ix2 (⟨t.val * 512 + i.val, row_lt t i⟩ : Fin 8192) (col h d) := by
    blk_ext [idx t]
  rw [he]
  refine (outs5 m c t i h d).trans ?_
  show _ = dq (qr _ ⟨t.val * 512 + i.val, row_lt t i⟩ (hd (col h d))) _ (orow _ ⟨t.val * 512 + i.val, row_lt t i⟩ (hd (col h d))) (kr _ (hd (col h d))) (kr _ (hd (col h d))) (ln (col h d))
  rw [hd_col, ln_col]

theorem final6 : (dats m 0 c).arrAt 6 cfg0.N = DK m c := by
  refine (dats m 0 c).arrAt_eq_of_after_last 6 t0_15 (by decide +kernel) _ fun j => ?_
  blk_simp
  rw [after0_6]
  obtain ⟨k, h, d, rfl⟩ := ix_split j
  refine Eq.trans (Pipeline.eq_sum_fin_of_reset_step_apply_last
      (fun n hn (p : Fin 256 × Fin 4 × Fin 128) => (outsAt0 m c n hn).2.1 (ix2 p.1 (col p.2.1 p.2.2))) 16 (fun _ => 0)
      (fun t p => addK (iblk m c 0 t) (iblk m c 1 t) (Ga m c) (Ka m c) (Va m c) p.1 p.2.1 p.2.2)
      (fun t ht p => by rw [outsAt0_A m c t ht]; dsimp only; rw [out6_A, iblk2, iblk3, iblk4, zero_add])
      (fun t ht p => by rw [outsAt0_B m c t ht]; dsimp only; rw [out6_B, iblk2, iblk3, iblk4])
      (le_of_eq N_0) t0_15 rfl (k, h, d)) ?_
  rw [zero_add, addK_sum]
  show _ = addK _ _ _ _ _ k (hd (col h d)) (ln (col h d))
  rw [hd_col, ln_col]

theorem final7 : (dats m 0 c).arrAt 7 cfg0.N = DV m c := by
  refine (dats m 0 c).arrAt_eq_of_after_last 7 t0_15 (by decide +kernel) _ fun j => ?_
  blk_simp
  rw [after0_7]
  obtain ⟨k, h, d, rfl⟩ := ix_split j
  refine Eq.trans (Pipeline.eq_sum_fin_of_reset_step_apply_last
      (fun n hn (p : Fin 256 × Fin 4 × Fin 128) => (outsAt0 m c n hn).2.2.1 (ix2 p.1 (col p.2.1 p.2.2))) 16 (fun _ => 0)
      (fun t p => addV (iblk m c 0 t) (iblk m c 1 t) (Ga m c) (Ka m c) p.1 p.2.1 p.2.2)
      (fun t ht p => by rw [outsAt0_A m c t ht]; dsimp only; rw [out7_A, iblk2, iblk3, zero_add])
      (fun t ht p => by rw [outsAt0_B m c t ht]; dsimp only; rw [out7_B, iblk2, iblk3])
      (le_of_eq N_0) t0_15 rfl (k, h, d)) ?_
  rw [zero_add, addV_sum]
  show _ = addV _ _ _ _ k (hd (col h d)) (ln (col h d))
  rw [hd_col, ln_col]

theorem final8 : (dats m 0 c).arrAt 8 cfg0.N = DG m c := by
  refine (dats m 0 c).arrAt_eq_of_after_last 8 t0_15 (by decide +kernel) _ fun j => ?_
  blk_simp
  rw [after0_8]
  obtain ⟨u, d, rfl⟩ := Cert.XaBlocks.ix2_eta j
  refine Eq.trans (Pipeline.eq_sum_fin_of_reset_step_apply_last
      (fun n hn (p : Fin 1 × Fin 128) => (outsAt0 m c n hn).2.2.2 (ix2 p.1 p.2)) 16 (fun _ => 0)
      (fun t p => ∑ h : Fin 4, addG (iblk m c 0 t) (iblk m c 1 t) (Ga m c) (Ka m c) (Va m c) h p.2)
      (fun t ht p => by rw [outsAt0_A m c t ht]; dsimp only; rw [out8_A, iblk2, iblk3, iblk4, zero_add])
      (fun t ht p => by rw [outsAt0_B m c t ht]; dsimp only; rw [out8_B, iblk2, iblk3, iblk4])
      (le_of_eq N_0) t0_15 rfl (u, d)) ?_
  rw [zero_add]
  exact addG_all m c d

end Cert.XaFinal

end
-- ==== Proof.XaRefA.lean ====
/-
  The reference's arrays, entry by entry: each is the function of `XaSpec` that the chain rule writes, up to the
  probabilities' gradient.
-/
module

public import Idealize.ShloMosaic.Lib.Pointwise
public import proofs.«01_k».proof.Proof.Gen.XaReferenceIdeal.Read
public import proofs.«01_k».proof.Proof.XaSpec

@[expose] public section

set_option maxRecDepth 16384

noncomputable section

namespace Cert.XaRef

open Idealize.ShloMosaic Cert.XaReferenceIdeal Cert.XaReferenceIdeal.Gen Cert.XaReferenceIdeal.Read Cert.XaSpec

variable (x0 : Vec Ideal S8192x512 .f32) (x1 : Vec Ideal S8192x512 .bf16) (x2 : Vec Ideal S128 .f32) (x3 x4 : Vec Ideal S256x512 .bf16)

/-- Head `h` of query row `s`. -/
abbrev X (s : Fin 8192) (h : Fin 4) (d : Fin 128) : EReal := x0 (ix2 s (col h d))
/-- Head `h` of the incoming gradient's row `s`. -/
abbrev O (s : Fin 8192) (h : Fin 4) (d : Fin 128) : EReal := x1 (ix2 s (col h d))
/-- The scale. -/
abbrev G (d : Fin 128) : EReal := x2 (ix1 d)
/-- Head `h` of the keys, or of the values. -/
abbrev K (h : Fin 4) (m : Fin 256) (d : Fin 128) : EReal := x3 (ix2 m (col h d))

theorem v3 (s : Fin 8192) (h : Fin 4) (d : Fin 128) : val_main_v3 (F := Ideal) x0 (ix3 s h d) = X x0 s h d := by
  rw [val_main_v3_apply]
  refine congrArg x0 (funext fun a => Fin.ext ?_)
  have := d.isLt; have := h.isLt
  fin_cases a
  · show ((s.val * 4 + h.val) * 128 + d.val) / 512 = s.val; omega
  · show ((s.val * 4 + h.val) * 128 + d.val) % 512 = 128 * h.val + d.val; omega
theorem v57 (s : Fin 8192) (h : Fin 4) (d : Fin 128) : val_main_v57 (F := Ideal) x1 (ix3 s h d) = O x1 s h d := by
  rw [val_main_v57_apply]
  pointwise [val_main_v2]
  refine congrArg x1 (funext fun a => Fin.ext ?_)
  have := d.isLt; have := h.isLt
  fin_cases a
  · show ((s.val * 4 + h.val) * 128 + d.val) / 512 = s.val; omega
  · show ((s.val * 4 + h.val) * 128 + d.val) % 512 = 128 * h.val + d.val; omega
theorem v20 (m : Fin 256) (h : Fin 4) (d : Fin 128) : val_main_v20 (F := Ideal) x3 (ix3 m h d) = K x3 h m d := by
  rw [val_main_v20_apply]
  pointwise [val_main_v0]
  refine congrArg x3 (funext fun a => Fin.ext ?_)
  have := d.isLt; have := h.isLt
  fin_cases a
  · show ((m.val * 4 + h.val) * 128 + d.val) / 512 = m.val; omega
  · show ((m.val * 4 + h.val) * 128 + d.val) % 512 = 128 * h.val + d.val; omega
theorem v21 (m : Fin 256) (h : Fin 4) (d : Fin 128) : val_main_v21 (F := Ideal) x4 (ix3 m h d) = K x4 h m d := v20 x4 m h d

theorem v10 (s : Fin 8192) (h : Fin 4) (u : Fin 1) : val_main_v10 (F := Ideal) x0 (ix3 s h u) = ms (X x0 s h) := by
  pointwise [val_main_v10, val_main_v9, val_main_cst_1, val_main_v8, val_main_v7, val_main_cst_0, val_main_v6, val_main_v5, val_main_cst, val_main_v4]
  simp only [v3]
  rfl
theorem v11 (s : Fin 8192) (h : Fin 4) (u : Fin 1) : val_main_v11 (F := Ideal) x0 (ix3 s h u) = rs (X x0 s h) := by
  pointwise [val_main_v11]
  rw [v10]
  rfl
theorem v14 (s : Fin 8192) (h : Fin 4) (u : Fin 1) :
    val_main_v14 (F := Ideal) x0 (ix3 s h u) = ((-(1 / 2) : ℝ) : EReal) * Ideal.div (rs (X x0 s h)) (ms (X x0 s h)) := by
  pointwise [val_main_v14, val_main_v13, val_main_cst_2, val_main_v12]
  rw [v10, v11, Reals.ofBits_neg_half]
theorem v16 (s : Fin 8192) (h : Fin 4) (d : Fin 128) : val_main_v16 (F := Ideal) x0 (ix3 s h d) = qh (X x0 s h) d := by
  pointwise [val_main_v16, val_main_v15]
  rw [v3, v11]
  rfl
theorem v19 (s : Fin 8192) (h : Fin 4) (d : Fin 128) : val_main_v19 (F := Ideal) x0 x2 (ix3 s h d) = qn (X x0 s h) (G x2) d := by
  pointwise [val_main_v19, val_main_v18, val_main_v17]
  rw [v16]
  rfl

/-- A quotient by the root of the head dimension is a product with its reciprocal. -/
theorem div_root (y : EReal) : Ideal.div y (Ideal.sqrt (Ideal.ofBits .f32 0x43000000#32)) = y * sc := by
  obtain ⟨e, he⟩ : ∃ e : ℝ, e = Real.sqrt 128 := ⟨_, rfl⟩
  have hp : e ≠ 0 := by rw [he]; positivity
  unfold sc
  rw [Reals.ofBits_128, Ideal.sqrt_coe, if_neg (by norm_num), ← he, Ideal.div_coe hp, one_div]

theorem v25 (s : Fin 8192) (h : Fin 4) (m : Fin 256) : val_main_v25 (F := Ideal) x0 x2 x3 (ix3 h s m) = lg (X x0 s h) (G x2) (K x3 h) m := by
  pointwise [val_main_v25, val_main_v24, val_main_v23, val_main_cst_3, val_main_v22]
  simp only [v19, v20]
  exact div_root _

end Cert.XaRef

end
-- ==== Proof.XaRef.lean ====
/-
  The reference's arrays, entry by entry: each is the function of `XaSpec` that the chain rule writes, up to the
  probabilities' gradient.
-/
module

public import Idealize.ShloMosaic.Lib.Pointwise
public import proofs.«01_k».proof.Proof.Gen.XaReferenceIdeal.Read
public import proofs.«01_k».proof.Proof.XaRefA

@[expose] public section

set_option maxRecDepth 16384

noncomputable section

namespace Cert.XaRef

open Idealize.ShloMosaic Cert.XaReferenceIdeal Cert.XaReferenceIdeal.Gen Cert.XaReferenceIdeal.Read Cert.XaSpec

variable (x0 : Vec Ideal S8192x512 .f32) (x1 : Vec Ideal S8192x512 .bf16) (x2 : Vec Ideal S128 .f32) (x3 x4 : Vec Ideal S256x512 .bf16)

/-- The greatest of the last axis, at an index. -/
theorem max_last {a b n : Nat} (y : FVec Ideal ⟨3, ![a, b, n]⟩ .f32) (z : FVec Ideal S_ .f32)
    (h' : (⟨3, ![a, b, n]⟩ : Shape).ReducesTo [2] ⟨2, ![a, b]⟩) (h : (⟨3, ![a, b, n]⟩ : Shape).Reduces [2] ⟨2, ![a, b]⟩)
    (hu : 0 < S_.numel) (i : Fin a) (j : Fin b) :
    Host.reduce FloatOps.maximumf y z h' hu (ix2 i j)
      = (Finset.univ : Finset (Fin n)).fold max (z (Shape.Idx.first hu)) (fun k => y (ix3 i j k)) := by
  rw [Host.reduce_eq_fold_single FloatOps.maximumf y _ h' h hu]
  have hf : (y ∘ h.lift (ix2 i j)) = fun k : Fin n => y (ix3 i j k) := by
    funext k
    refine congrArg y (funext fun c => Fin.ext ?_)
    fin_cases c <;> rfl
  exact congrArg (fun f => Finset.fold max (z (Shape.Idx.first hu)) f (Finset.univ : Finset (Fin n))) hf

theorem v26 (s : Fin 8192) (h : Fin 4) : val_main_v26 (F := Ideal) x0 x2 x3 (ix2 h s)
    = (Finset.univ : Finset (Fin 256)).fold max (Ideal.ofBits .f32 0xFF800000#32) (lg (X x0 s h) (G x2) (K x3 h)) := by
  refine (max_last _ _ reducesTo_S4x8192x256_S4x8192_d2 (by decide) h_S_ h s).trans ?_
  simp only [v25]
  rfl
theorem v33 (s : Fin 8192) (h : Fin 4) : val_main_v33 (F := Ideal) x0 x2 x3 (ix2 h s)
    = (Finset.univ : Finset (Fin 256)).fold max (Ideal.ofBits .f32 0xFF800000#32) (lg (X x0 s h) (G x2) (K x3 h)) := by
  rw [val_main_v33_apply, v26, val_main_v32_apply, val_main_cst_6_apply]
  exact max_eq_right (le_of_eq_of_le Reals.ofBits_neg_inf bot_le)
theorem v46 (s : Fin 8192) (h : Fin 4) (m : Fin 256) : val_main_v46 (F := Ideal) x0 x2 x3 (ix3 h s m) = ex (X x0 s h) (G x2) (K x3 h) m := by
  pointwise [val_main_v46, val_main_v45, val_main_v44, val_main_v43]
  rw [v25, v33]
  rfl
theorem v47 (s : Fin 8192) (h : Fin 4) : val_main_v47 (F := Ideal) x0 x2 x3 (ix2 h s) = ∑ j, ex (X x0 s h) (G x2) (K x3 h) j := by
  pointwise [val_main_v47, val_main_cst_12]
  simp only [v46]
theorem v50 (s : Fin 8192) (h : Fin 4) (m : Fin 256) : val_main_v50 (F := Ideal) x0 x2 x3 (ix3 h s m) = pr (X x0 s h) (G x2) (K x3 h) m := by
  pointwise [val_main_v50, val_main_v49, val_main_v48]
  rw [v46, v47]
  rfl
theorem v59 (s : Fin 8192) (h : Fin 4) (m : Fin 256) : val_main_v59 (F := Ideal) x1 x4 (ix3 h s m) = dp (O x1 s h) (K x4 h) m := by
  pointwise [val_main_v59, val_main_v58]
  simp only [v57, v21]
  rfl
theorem v65 (s : Fin 8192) (h : Fin 4) : val_main_v65 (F := Ideal) x0 x1 x2 x3 x4 (ix2 h s)
    = ∑ j, dp (O x1 s h) (K x4 h) j * Ideal.div ((1 : ℝ) : EReal) ((∑ j, ex (X x0 s h) (G x2) (K x3 h) j) * (∑ j, ex (X x0 s h) (G x2) (K x3 h) j)) * ex (X x0 s h) (G x2) (K x3 h) j := by
  pointwise [val_main_v65, val_main_cst_14, val_main_v64, val_main_v63, val_main_v62, val_main_v53, val_main_v52, val_main_cst_13, val_main_v51, val_main_v48]
  simp only [v59, v47, v46, EReal.coe_one]

end Cert.XaRef

end
-- ==== Proof.XaRefB.lean ====
/-
  The reference's four results, entry by entry, as the functions of `XaSpec`, for a finite scale and finite keys.
-/
module

public import Idealize.ShloMosaic.Lib.Pointwise
public import proofs.«01_k».proof.Proof.XaRef

@[expose] public section

set_option maxRecDepth 16384

noncomputable section

namespace Cert.XaRef

open Idealize.ShloMosaic Cert.XaReferenceIdeal Cert.XaReferenceIdeal.Gen Cert.XaReferenceIdeal.Read Cert.XaSpec

variable (x0 : Vec Ideal S8192x512 .f32) (x1 : Vec Ideal S8192x512 .bf16) (x2 : Vec Ideal S128 .f32) (x3 x4 : Vec Ideal S256x512 .bf16)
variable (hg : ∀ d, ∃ q : ℝ, x2 (ix1 d) = (q : EReal)) (hk : ∀ m j, ∃ q : ℝ, x3 (ix2 m j) = (q : EReal))

theorem v60 (m : Fin 256) (h : Fin 4) (d : Fin 128) : val_main_v60 (F := Ideal) x0 x1 x2 x3 (ix3 h d m)
    = ∑ s, pr (X x0 s h) (G x2) (K x3 h) m * O x1 s h d := by
  pointwise [val_main_v60, val_main_v58]
  simp only [v57, v50]
  exact Finset.sum_congr rfl fun s _ => mul_comm _ _

include hg hk in
theorem v75 (s : Fin 8192) (h : Fin 4) (m : Fin 256) : val_main_v75 (F := Ideal) x0 x1 x2 x3 x4 (ix3 h s m)
    = ds (X x0 s h) (G x2) (O x1 s h) (K x3 h) (K x4 h) m := by
  pointwise [val_main_v75, val_main_v74, val_main_v23, val_main_cst_3, val_main_v73, val_main_v72, val_main_v71, val_main_v70, val_main_cst_15, val_main_v67, val_main_v66, val_main_v69, val_main_v68, val_main_v48]
  rw [div_root, ds_eq _ _ _ _ _ hg fun m d => hk m (col h d)]
  simp only [v59, v47, v46, v65, Fin.sum_univ_one]

include hg hk in
theorem v76 (m : Fin 256) (h : Fin 4) (d : Fin 128) : val_main_v76 (F := Ideal) x0 x1 x2 x3 x4 (ix3 h m d)
    = ∑ s, ds (X x0 s h) (G x2) (O x1 s h) (K x3 h) (K x4 h) m * qn (X x0 s h) (G x2) d := by
  pointwise [val_main_v76]
  simp only [v75 x0 x1 x2 x3 x4 hg hk, v19]

include hg hk in
theorem v79 (s : Fin 8192) (h : Fin 4) (d : Fin 128) : val_main_v79 (F := Ideal) x0 x1 x2 x3 x4 (ix3 s h d)
    = dn (X x0 s h) (G x2) (O x1 s h) (K x3 h) (K x4 h) d := by
  pointwise [val_main_v79, val_main_v78]
  simp only [v75 x0 x1 x2 x3 x4 hg hk, v20]
  rfl

include hg hk in
theorem v86 (s : Fin 8192) (h : Fin 4) (d : Fin 128) : val_main_v86 (F := Ideal) x0 x1 x2 x3 x4 (ix3 s h d)
    = dh (X x0 s h) (G x2) (O x1 s h) (K x3 h) (K x4 h) d := by
  pointwise [val_main_v86, val_main_v85, val_main_v17]
  rw [v79 x0 x1 x2 x3 x4 hg hk]
  rfl

include hg hk in
theorem v95 (s : Fin 8192) (h : Fin 4) (u : Fin 1) : val_main_v95 (F := Ideal) x0 x1 x2 x3 x4 (ix3 s h u)
    = dr (X x0 s h) (G x2) (O x1 s h) (K x3 h) (K x4 h) := by
  pointwise [val_main_v95, val_main_v94, val_main_cst_19, val_main_v93, val_main_v90, val_main_v89, val_main_cst_18, val_main_v88]
  simp only [v86 x0 x1 x2 x3 x4 hg hk, v3, v14]
  rfl

include hg hk in
theorem v101 (s : Fin 8192) (h : Fin 4) (d : Fin 128) : val_main_v101 (F := Ideal) x0 x1 x2 x3 x4 (ix3 s h d)
    = dq (X x0 s h) (G x2) (O x1 s h) (K x3 h) (K x4 h) d := by
  pointwise [val_main_v101, val_main_v100, val_main_v99, val_main_v98, val_main_v97, val_main_v96, val_main_cst_20, val_main_v92, val_main_v91]
  simp only [v86 x0 x1 x2 x3 x4 hg hk, v95 x0 x1 x2 x3 x4 hg hk, v3, v11, Fin.sum_univ_one]
  exact (dq_eq _ _ _ _ _ d).symm

include hg hk in
theorem v82 (s : Fin 8192) (h : Fin 4) (d : Fin 128) : val_main_v82 (F := Ideal) x0 x1 x2 x3 x4 (ix3 s h d)
    = dn (X x0 s h) (G x2) (O x1 s h) (K x3 h) (K x4 h) d * qh (X x0 s h) d := by
  pointwise [val_main_v82]
  rw [v79 x0 x1 x2 x3 x4 hg hk, v16, mul_comm]

/-- A sum over the two leading axes, at an index. -/
theorem sum_lead {a b n : Nat} (y : FVec Ideal ⟨3, ![a, b, n]⟩ .f32) (d : Fin n) (h' : (⟨3, ![a, b, n]⟩ : Shape).ReducesTo [0, 1] ⟨1, ![n]⟩)
    (hu : 0 < S_.numel) :
    Host.reduceAdd y (constant (F := Ideal) S_ .f32 0x00000000#32) h' hu (ix1 d) = ∑ h : Fin b, ∑ s : Fin a, y (ix3 s h d) := by
  pointwise []
  unfold Ideal.hostReduceAdd
  rw [zero_add, ← Finset.sum_product' (s := Finset.univ) (t := Finset.univ)]
  have hd : ∀ i : (⟨3, ![a, b, n]⟩ : Shape).Idx, h'.drop i = ix1 (i 2) := fun i => by
    funext c; fin_cases c; rfl
  refine Finset.sum_nbij' (fun i => ((i 1, i 0) : Fin b × Fin a)) (fun p => ix3 p.2 p.1 d) ?_ ?_ ?_ ?_ ?_
  · intro i _; exact Finset.mem_product.2 ⟨Finset.mem_univ _, Finset.mem_univ _⟩
  · intro p _; exact Finset.mem_filter.2 ⟨Finset.mem_univ _, hd _⟩
  · intro i hi
    have e : ix1 (i 2) = ix1 d := (hd i).symm.trans (Finset.mem_filter.1 hi).2
    obtain rfl : i 2 = d := congrFun e 0
    funext c; fin_cases c <;> rfl
  · intro p _; rfl
  · intro i hi
    have e : ix1 (i 2) = ix1 d := (hd i).symm.trans (Finset.mem_filter.1 hi).2
    obtain rfl : i 2 = d := congrFun e 0
    refine congrArg y (funext fun c => ?_)
    fin_cases c <;> rfl

include hg hk in
theorem v87 (d : Fin 128) : val_main_v87 (F := Ideal) x0 x1 x2 x3 x4 (ix1 d)
    = ∑ h : Fin 4, ∑ s : Fin 8192, dn (X x0 s h) (G x2) (O x1 s h) (K x3 h) (K x4 h) d * qh (X x0 s h) d := by
  refine (sum_lead _ d reducesTo_S1x1x128_S128_d0_1 h_S_).trans ?_
  simp only [Fin.sum_univ_one]
  rw [val_main_v84_apply]
  refine Eq.trans (congrArg (val_main_v83 (F := Ideal) x0 x1 x2 x3 x4) ?_) ((sum_lead _ d reducesTo_S8192x4x128_S128_d0_1 h_S_).trans ?_)
  · funext c; fin_cases c; apply Fin.ext; show (((0 : Fin 1).val * 1 + (0 : Fin 1).val) * 128 + d.val) = d.val; simp
  · simp only [v82 x0 x1 x2 x3 x4 hg hk]

include hg hk in
theorem v103 (s : Fin 8192) (h : Fin 4) (d : Fin 128) : val_main_v103 (F := Ideal) x0 x1 x2 x3 x4 (ix2 s (col h d))
    = dq (X x0 s h) (G x2) (O x1 s h) (K x3 h) (K x4 h) d := by
  pointwise [val_main_v103]
  rw [val_main_v102_apply, ← v101 x0 x1 x2 x3 x4 hg hk]
  refine congrArg _ (funext fun a => Fin.ext ?_)
  have := d.isLt; have := h.isLt
  fin_cases a
  · show (s.val * 512 + (128 * h.val + d.val)) / 512 = s.val; omega
  · show (s.val * 512 + (128 * h.val + d.val)) / 128 % 4 = h.val; omega
  · show (s.val * 512 + (128 * h.val + d.val)) % 128 = d.val; omega

theorem v80 (m : Fin 256) (h : Fin 4) (d : Fin 128) : val_main_v80 (F := Ideal) x0 x1 x2 x3 (ix2 m (col h d))
    = ∑ s, pr (X x0 s h) (G x2) (K x3 h) m * O x1 s h d := by
  rw [val_main_v80_apply, ← v60]
  refine Eq.trans (congrArg (val_main_v61 (F := Ideal) x0 x1 x2 x3) (?_ : _ = ix3 m h d)) (by pointwise [val_main_v61])
  funext a; apply Fin.ext
  have := d.isLt; have := h.isLt
  fin_cases a
  · show (m.val * 512 + (128 * h.val + d.val)) / 512 = m.val; omega
  · show (m.val * 512 + (128 * h.val + d.val)) / 128 % 4 = h.val; omega
  · show (m.val * 512 + (128 * h.val + d.val)) % 128 = d.val; omega

include hg hk in
theorem v81 (m : Fin 256) (h : Fin 4) (d : Fin 128) : val_main_v81 (F := Ideal) x0 x1 x2 x3 x4 (ix2 m (col h d))
    = ∑ s, ds (X x0 s h) (G x2) (O x1 s h) (K x3 h) (K x4 h) m * qn (X x0 s h) (G x2) d := by
  rw [val_main_v81_apply, ← v76 x0 x1 x2 x3 x4 hg hk]
  refine Eq.trans (congrArg (val_main_v77 (F := Ideal) x0 x1 x2 x3 x4) (?_ : _ = ix3 m h d)) (by pointwise [val_main_v77])
  funext a; apply Fin.ext
  have := d.isLt; have := h.isLt
  fin_cases a
  · show (m.val * 512 + (128 * h.val + d.val)) / 512 = m.val; omega
  · show (m.val * 512 + (128 * h.val + d.val)) / 128 % 4 = h.val; omega
  · show (m.val * 512 + (128 * h.val + d.val)) % 128 = d.val; omega

include hg hk in
theorem v104 (u : Fin 1) (d : Fin 128) : val_main_v104 (F := Ideal) x0 x1 x2 x3 x4 (ix2 u d)
    = ∑ h : Fin 4, ∑ s : Fin 8192, dn (X x0 s h) (G x2) (O x1 s h) (K x3 h) (K x4 h) d * qh (X x0 s h) d := by
  rw [val_main_v104_apply, ← v87 x0 x1 x2 x3 x4 hg hk]
  refine congrArg _ (funext fun a => ?_)
  fin_cases a; apply Fin.ext
  have := u.isLt
  show u.val * 128 + d.val = d.val; omega

end Cert.XaRef

end
-- ==== Proof.XaClaim.lean ====
/-
  The value claim of the memory-token cross-attention's backward: kernel and reference end in equal arrays.
-/
module

public import proofs.«01_k».proof.Defs
public import proofs.«01_k».proof.Proof.Gen.Pre_finite_keys
public import Idealize.ShloMosaic.Lib.Claim
public import Idealize.ShloMosaic.Lib.ReduceAll
public import proofs.«01_k».proof.Proof.Gen.XaKernelIdeal.Value
public import proofs.«01_k».proof.Proof.Gen.XaReferenceIdeal.Read
public import proofs.«01_k».proof.Proof.Gen.XaReferenceIdeal.Run
public import proofs.«01_k».proof.Proof.XaFinal
public import proofs.«01_k».proof.Proof.XaRefB

@[expose] public section

set_option maxRecDepth 16384

noncomputable section

namespace Cert.Proof.XaClaim

open Idealize.ShloMosaic Cert.XaFinal Cert.XaBlocks Cert.XaSpec

/-- A comparison of an absolute value with infinity, read: the value is a real number. -/
theorem real_of_olt (x : EReal) (h : FloatOps.cmpf (F := Ideal) (φ := .f32) .olt (FloatOps.hostAbsf (F := Ideal) (φ := .f32) x)
    (FloatOps.ofBits (F := Ideal) .f32 0x7F800000#32) = 1#1) : ∃ q : ℝ, x = (q : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  induction x using EReal.rec with
  | bot => simp at h
  | coe q => exact ⟨q, rfl⟩
  | top => simp at h

variable (a0 : FVec Ideal Cert.Pre_finite_keys.S8192x512 .f32) (a1 : FVec Ideal Cert.Pre_finite_keys.S8192x512 .bf16)
  (a2 : FVec Ideal Cert.Pre_finite_keys.S128 .f32) (a3 a4 : FVec Ideal Cert.Pre_finite_keys.S256x512 .bf16)

/-- The precondition bounds every entry of the scale, -/
theorem pre_scale (h : Cert.Pre_finite_keys.fn (F := Ideal) a0 a1 a2 a3 a4 = fun _ => 1#1) (d : Fin 128) : ∃ q : ℝ, a2 (ix1 d) = (q : EReal) := by
  have h0 := congrFun h (Shape.Idx.first (by decide))
  obtain ⟨h1, -⟩ := IntOp.andi_eq_one.1 h0
  have h2 := Host.reduce_andi_all _ _ _ _ _ h1 (ix1 d)
  exact real_of_olt _ h2

/-- and every entry of the keys. -/
theorem pre_keys (h : Cert.Pre_finite_keys.fn (F := Ideal) a0 a1 a2 a3 a4 = fun _ => 1#1) (k : Fin 256) (j : Fin 512) :
    ∃ q : ℝ, a3 (ix2 k j) = (q : EReal) := by
  have h0 := congrFun h (Shape.Idx.first (by decide))
  obtain ⟨-, h1⟩ := IntOp.andi_eq_one.1 h0
  have h2 := Host.reduce_andi_all _ _ _ _ _ h1 (ix2 k j)
  exact real_of_olt _ h2

variable (m : (ℓ : Loc Cert.XaKernelIdeal.nD Cert.XaKernelIdeal.τ Cert.XaKernelIdeal.sig) → Buf (Elt Ideal) ℓ) (c : Dev Cert.XaKernelIdeal.nD)

theorem dq_at (s : Fin 8192) (h : Fin 4) (d : Fin 128) : DQ m c (ix2 s (col h d))
    = Cert.XaSpec.dq (qr (Qa m c) s h) (gr (Ga m c)) (orow (Oa m c) s h) (kr (Ka m c) h) (kr (Va m c) h) d := by
  show Cert.XaSpec.dq (qr _ s (hd (col h d))) _ (orow _ s (hd (col h d))) (kr _ (hd (col h d))) (kr _ (hd (col h d))) (ln (col h d)) = _
  rw [hd_col, ln_col]
theorem dk_at (k : Fin 256) (h : Fin 4) (d : Fin 128) : DK m c (ix2 k (col h d)) = addK (Qa m c) (Oa m c) (Ga m c) (Ka m c) (Va m c) k h d := by
  show addK _ _ _ _ _ k (hd (col h d)) (ln (col h d)) = _
  rw [hd_col, ln_col]
theorem dv_at (k : Fin 256) (h : Fin 4) (d : Fin 128) : DV m c (ix2 k (col h d)) = addV (Qa m c) (Oa m c) (Ga m c) (Ka m c) k h d := by
  show addV _ _ _ _ k (hd (col h d)) (ln (col h d)) = _
  rw [hd_col, ln_col]

/-- The kernel's four arrays are the reference's. -/
theorem algebraic : Cert.algebraic_XaKernelIdeal_XaReferenceIdeal_pre_finite_keys := by
  pair_intro
  · run_from Cert.XaKernelIdeal.Value.run_blocks m g
  · run_from Cert.XaReferenceIdeal.Value.run m' g'
    · obtain ⟨e0, e1, e2, e3, e4⟩ := hagree c
      have hg := pre_scale _ _ _ _ _ (hpre c)
      have hk := pre_keys _ _ _ _ _ (hpre c)
      rw [Cert.XaReferenceIdeal.Read.val_main_v103_eq, e0, e1, e2, e3, e4]
      refine Eq.trans (funext fun j => ?_) (final5 m c).symm
      obtain ⟨s, h, d, rfl⟩ := ix_split j
      exact (Cert.XaRef.v103 _ _ _ _ _ hg hk s h d).trans (dq_at m c s h d).symm
    · obtain ⟨e0, e1, e2, e3, e4⟩ := hagree c
      have hg := pre_scale _ _ _ _ _ (hpre c)
      have hk := pre_keys _ _ _ _ _ (hpre c)
      rw [Cert.XaReferenceIdeal.Read.val_main_v81_eq, e0, e1, e2, e3, e4]
      refine Eq.trans (funext fun j => ?_) (final6 m c).symm
      obtain ⟨s, h, d, rfl⟩ := ix_split j
      exact (Cert.XaRef.v81 _ _ _ _ _ hg hk s h d).trans (dk_at m c s h d).symm
    · obtain ⟨e0, e1, e2, e3, e4⟩ := hagree c
      have hg := pre_scale _ _ _ _ _ (hpre c)
      have hk := pre_keys _ _ _ _ _ (hpre c)
      rw [Cert.XaReferenceIdeal.Read.val_main_v80_eq, e0, e1, e2, e3]
      refine Eq.trans (funext fun j => ?_) (final7 m c).symm
      obtain ⟨s, h, d, rfl⟩ := ix_split j
      exact (Cert.XaRef.v80 _ _ _ _ s h d).trans (dv_at m c s h d).symm
    · obtain ⟨e0, e1, e2, e3, e4⟩ := hagree c
      have hg := pre_scale _ _ _ _ _ (hpre c)
      have hk := pre_keys _ _ _ _ _ (hpre c)
      rw [Cert.XaReferenceIdeal.Read.val_main_v104_eq, e0, e1, e2, e3, e4]
      refine Eq.trans (funext fun j => ?_) (final8 m c).symm
      obtain ⟨u, d, rfl⟩ := Cert.XaBlocks.ix2_eta j
      exact (Cert.XaRef.v104 _ _ _ _ _ hg hk u d).trans (rfl : DG m c (ix2 u d) = _).symm

/-- The reference runs, keeps its arguments and leaves every counter at zero. -/
theorem frame_ref : Cert.quiescent_XaReferenceIdeal := fun m ρ _ =>
  (θ_run Cert.XaReferenceIdeal.defs _ _).mono (fun r h => ⟨fun c => (h c).2.2.2.2, sem_eq_zero_of_no_sems (by decide) r.2⟩)
    (Cert.XaReferenceIdeal.Value.run (F := Ideal) m ρ)

end Cert.Proof.XaClaim

end
-- ==== Proof.ActSpec.lean ====
/-
  The gate of the feed-forward layer, forward and backward, as scalar functions, and the identity its gradient claim
  rests on: the derivative of `x * sigmoid x` in the form a kernel writes it and in the form differentiation writes it.
-/
module

public import proofs.«01_k».proof.Proof.Reals

@[expose] public section

noncomputable section

namespace Cert.ActSpec

open Idealize.ShloMosaic

/-- The sigmoid. -/
def sg (a : EReal) : EReal := Ideal.logistic a
/-- The sigmoid spelled out. -/
theorem sg_spelled (a : EReal) : Ideal.div 1 (1 + Ideal.exp (-a)) = sg a := rfl

/-- A row of the product with the transposed weight. -/
def ds {n : Nat} (g w : Fin n → EReal) : EReal := ∑ k, g k * w k
/-- The gradient of the gate's input, as the kernel writes it, -/
def da (s a b : EReal) : EReal := s * b * (sg a * (1 + a * (1 - sg a)))
/-- and of the other factor. -/
def db (s a : EReal) : EReal := s * (a * sg a)
/-- The gate. -/
def act (a b : EReal) : EReal := a * sg a * b

/-- A sum of products of reals is real. -/
theorem ds_real {n : Nat} (g w : Fin n → EReal) (hg : ∀ k, ∃ q : ℝ, g k = q) (hw : ∀ k, ∃ q : ℝ, w k = q) : ∃ q : ℝ, ds g w = q := by
  choose g' hg' using hg
  choose w' hw' using hw
  refine ⟨∑ k, g' k * w' k, ?_⟩
  rw [ds, Reals.coe_sum]
  exact Finset.sum_congr rfl fun k _ => by rw [hg', hw', EReal.coe_mul]

/-- The two forms of the gate's derivative agree where the incoming gradient is real; the gate's input may be infinite. -/
theorem da_eq (s a b : EReal) (hs : ∃ q : ℝ, s = q) (hb : ∃ q : ℝ, b = q) :
    s * b * sg a + a * (s * b) * (sg a * (1 - sg a)) = da s a b := by
  obtain ⟨s, rfl⟩ := hs
  obtain ⟨b, rfl⟩ := hb
  unfold da
  rw [← EReal.coe_mul]
  induction a using EReal.rec with
  | bot => simp [sg]
  | top =>
    have h : (1 : EReal) - 1 = 0 := by rw [← EReal.coe_one, ← EReal.coe_sub]; simp
    simp [sg, h]
  | coe x =>
    rw [sg, Ideal.logistic_coe]
    norm_cast
    ring

theorem db_eq (s a : EReal) : a * sg a * s = db s a := mul_comm _ _

end Cert.ActSpec

end
-- ==== Proof.DhSpec.lean ====
/-
  The gradient through the feed-forward layer's row normalisation, as scalar functions of a row, and the identity the
  claim rests on: the form a kernel writes and the form differentiation writes.
-/
module

public import proofs.«01_k».proof.Proof.Reals

@[expose] public section

noncomputable section

namespace Cert.DhSpec

open Idealize.ShloMosaic

/-- `1024.0`. -/
abbrev N : EReal := Ideal.ofBits .f32 0x44800000#32
/-- The normalisation's small constant. -/
abbrev eps : EReal := Ideal.ofBits .f32 0x358637BD#32

theorem N_eq : N = ((1024 : ℝ) : EReal) := by
  simp [Ideal.ofBits, Ideal.ieee, -EReal.coe_mul]; norm_num

/-- A row's mean square, shifted, -/
def ms (x : Fin 1024 → EReal) : EReal := Ideal.div (∑ d, x d * x d) N + eps
/-- and the factor normalising the row. -/
def nrm (x : Fin 1024 → EReal) : EReal := Ideal.rsqrt (ms x)

/-- The gradient of a row `x` under the incoming gradient `y`, as the kernel writes it. -/
def gx (y x : Fin 1024 → EReal) (d : Fin 1024) : EReal :=
  nrm x * (y d - x d * nrm x * Ideal.div (∑ d, y d * (x d * nrm x)) N)

/-- The term through the root, as differentiation writes it. -/
def root (y x : Fin 1024 → EReal) : EReal :=
  Ideal.div ((∑ d, x d * y d) * (Ideal.ofBits .f32 0xBF000000#32 * Ideal.div (nrm x) (ms x))) N

/-- The two forms agree. -/
theorem gx_eq (y x : Fin 1024 → EReal) (r : EReal) (d : Fin 1024) :
    r + y d * nrm x + x d * root y x + root y x * x d = r + gx y x d := by
  obtain ⟨e, he, h⟩ := Reals.ofBits_eps
  have := Reals.norm_grad (N := 1024) (by norm_num) he x y d
  unfold gx root nrm ms
  rw [Reals.ofBits_neg_half, N_eq, show eps = (e : EReal) from h, this]
  simp only [add_assoc]

end Cert.DhSpec

end
-- ==== Proof.DhFinal.lean ====
/-
  The two result arrays of the gradient through the feed-forward layer's first half after the run: the gradient of its
  input and the gradient of its normalisation's scale, the latter summed over all the rows.
-/
module

public import Idealize.ShloMosaic.Lib.Pipeline.ValueKit
public import Idealize.ShloMosaic.Lib.Pipeline.ReadBack
public import proofs.«01_k».proof.Proof.Gen.DhKernelIdeal.Value
public import proofs.«01_k».proof.Proof.ActSpec
public import proofs.«01_k».proof.Proof.DhSpec

@[expose] public section

set_option maxRecDepth 16384

noncomputable section

namespace Cert.DhFinal

open Idealize.ShloMosaic Cert.DhKernelIdeal Cert.DhKernelIdeal.Gen Cert.ActSpec Cert.DhSpec
open Idealize.ShloMosaic.TcCoe Idealize.SL.Sem
open Idealize.ShloMosaic.Pipeline (Dat)

theorem ix2_split {n l : Nat} (x : (⟨2, ![n, l]⟩ : Shape).Idx) : ∃ (a : Fin n) (b : Fin l), x = ix2 a b :=
  ⟨x 0, x 1, by funext a; fin_cases a <;> rfl⟩

/-! ## What the kernel computes from its blocks -/

/-- A row. -/
abbrev row {n l : Nat} (X : Vec Ideal ⟨2, ![n, l]⟩ .f32) (i : Fin n) : Fin l → EReal := fun d => X (ix2 i d)

/-- The block a run starts from holds zero, -/
theorem pay1 (j : S512x1024.Idx) : k0_pay1 (F := Ideal) j = 0 := by
  obtain ⟨i, l, rfl⟩ := ix2_split j
  pointwise [k0_pay1]
/-- and so does the scale's gradient. -/
theorem pay6 (j : S1x1024.Idx) : k0_pay6 (F := Ideal) j = 0 := by
  obtain ⟨i, l, rfl⟩ := ix2_split j
  pointwise [k0_pay6]

/-- A point adds one product -/
theorem pay2 (A : Vec Ideal S512x1024 .f32) (X : Vec Ideal S512x1408 .bf16) (W : Vec Ideal S1024x1408 .bf16) (i : Fin 512) (l : Fin 1024) :
    k0_pay2 (F := Ideal) A X W (ix2 i l) = A (ix2 i l) + ds (fun k : Fin 1408 => X (ix2 i k)) fun k => W (ix2 l k) := by
  pointwise [k0_pay2]
  rfl
/-- and then the other. -/
theorem pay3 (A : Vec Ideal S512x1024 .f32) (X : Vec Ideal S512x1408 .bf16) (W : Vec Ideal S1024x1408 .bf16) (i : Fin 512) (l : Fin 1024) :
    k0_pay3 (F := Ideal) A X W (ix2 i l) = A (ix2 i l) + ds (fun k : Fin 1408 => X (ix2 i k)) fun k => W (ix2 l k) := by
  pointwise [k0_pay3]
  rfl

section
variable (A X : Vec Ideal S512x1024 .f32)

/-- The factor normalising a row, -/
theorem pay4 (i : Fin 512) (u : Fin 1) : k0_pay4 (F := Ideal) X (ix2 i u) = nrm (row X i) := by
  pointwise [k0_pay4]
  rfl
/-- the normalised row, -/
theorem pay5 (i : Fin 512) (l : Fin 1024) : k0_pay5 (F := Ideal) X (ix2 i l) = X (ix2 i l) * nrm (row X i) := by
  pointwise [k0_pay5]
  rw [pay4]
/-- what a row tile adds to the scale's gradient, -/
theorem pay7 (D : Vec Ideal S1x1024 .f32) (u : Fin 1) (l : Fin 1024) : k0_pay7 (F := Ideal) A X D (ix2 u l)
    = D (ix2 u l) + ∑ i : Fin 512, A (ix2 i l) * (X (ix2 i l) * nrm (row X i)) := by
  obtain rfl : u = 0 := Subsingleton.elim _ _
  pointwise [k0_pay7]
  simp only [pay5]
/-- and the input's gradient. -/
theorem pay8 (G : Vec Ideal S1x1024 .f32) (R : Vec Ideal S512x1024 .f32) (i : Fin 512) (l : Fin 1024) :
    k0_pay8 (F := Ideal) A X G R (ix2 i l) = R (ix2 i l) + gx (fun d => A (ix2 i d) * G (ix2 0 d)) (row X i) l := by
  pointwise [k0_pay8]
  simp only [pay5, pay4]
  rfl
end

/-! ## The arguments and their blocks -/

variable (m : (ℓ : Loc nD τ sig) → Buf (Elt Ideal) ℓ) (c : Dev nD)

/-- The gradient of the gate's input, -/
abbrev DA : Vec Ideal S8192x2816 .bf16 := m ((c : Thread nD τ).loc main_arg0)
/-- its weight, -/
abbrev WG : Vec Ideal S1024x2816 .bf16 := m ((c : Thread nD τ).loc main_arg1)
/-- the gradient of the other factor, -/
abbrev DB : Vec Ideal S8192x2816 .bf16 := m ((c : Thread nD τ).loc main_arg2)
/-- its weight, -/
abbrev WU : Vec Ideal S1024x2816 .bf16 := m ((c : Thread nD τ).loc main_arg3)
/-- the layer's input, -/
abbrev Xa : Vec Ideal S8192x1024 .f32 := m ((c : Thread nD τ).loc main_arg4)
/-- the normalisation's scale -/
abbrev Sa : Vec Ideal S1024 .f32 := m ((c : Thread nD τ).loc main_arg5)
/-- and the gradient passed around the layer. -/
abbrev Ra : Vec Ideal S8192x1024 .f32 := m ((c : Thread nD τ).loc main_arg6)

/-- The windows' block indices at a point (decided). -/
theorem idx : ∀ t : Fin cfg0.N, win0_0.index t = ![t.val / 2, t.val % 2] ∧ win0_1.index t = ![0, t.val % 2]
    ∧ win0_2.index t = ![t.val / 2, t.val % 2] ∧ win0_3.index t = ![0, t.val % 2] ∧ win0_4.index t = ![t.val / 2, 0]
    ∧ win0_5.index t = ![0, 0] ∧ win0_6.index t = ![t.val / 2, 0] ∧ win0_7.index t = ![t.val / 2, 0] :=
  (by decide +kernel : ∀ t : Fin grid0.N, _)

/-- Row `i` of point `t`'s block is a row of the array, -/
theorem row_lt (t : Fin cfg0.N) (i : Fin 512) : t.val / 2 * 512 + i.val < 8192 := by
  have h : cfg0.N = 32 := N_0
  have := t.isLt; have := i.isLt; omega
/-- and column `k` of it a column. -/
theorem col_lt (t : Fin cfg0.N) (k : Fin 1408) : t.val % 2 * 1408 + k.val < 2816 := by
  have := k.isLt; omega

theorem iblk0 (t : Fin cfg0.N) (i : Fin 512) (k : Fin 1408) :
    iblk m c 0 t (ix2 i k) = DA m c (ix2 ⟨t.val / 2 * 512 + i.val, row_lt t i⟩ ⟨t.val % 2 * 1408 + k.val, col_lt t k⟩) := by
  blk_ext [iblk, V, idx t]
theorem iblk1 (t : Fin cfg0.N) (l : Fin 1024) (k : Fin 1408) :
    iblk m c 1 t (ix2 l k) = WG m c (ix2 l ⟨t.val % 2 * 1408 + k.val, col_lt t k⟩) := by
  blk_ext [iblk, V, idx t]
theorem iblk2 (t : Fin cfg0.N) (i : Fin 512) (k : Fin 1408) :
    iblk m c 2 t (ix2 i k) = DB m c (ix2 ⟨t.val / 2 * 512 + i.val, row_lt t i⟩ ⟨t.val % 2 * 1408 + k.val, col_lt t k⟩) := by
  blk_ext [iblk, V, idx t]
theorem iblk3 (t : Fin cfg0.N) (l : Fin 1024) (k : Fin 1408) :
    iblk m c 3 t (ix2 l k) = WU m c (ix2 l ⟨t.val % 2 * 1408 + k.val, col_lt t k⟩) := by
  blk_ext [iblk, V, idx t]
theorem iblk4 (t : Fin cfg0.N) (i : Fin 512) (l : Fin 1024) :
    iblk m c 4 t (ix2 i l) = Xa m c (ix2 ⟨t.val / 2 * 512 + i.val, row_lt t i⟩ l) := by
  blk_ext [iblk, V, idx t]
theorem iblk5 (t : Fin cfg0.N) (u : Fin 1) (l : Fin 1024) : iblk m c 5 t (ix2 u l) = Sa m c (ix1 l) := by
  blk_ext! [iblk, V, idx t]
theorem iblk6 (t : Fin cfg0.N) (i : Fin 512) (l : Fin 1024) :
    iblk m c 6 t (ix2 i l) = Ra m c (ix2 ⟨t.val / 2 * 512 + i.val, row_lt t i⟩ l) := by
  blk_ext [iblk, V, idx t]

theorem row4 (t : Fin cfg0.N) (i : Fin 512) : row (iblk m c 4 t) i = row (Xa m c) ⟨t.val / 2 * 512 + i.val, row_lt t i⟩ :=
  funext fun l => iblk4 m c t i l

/-! ## What a point leaves -/

/-- What the accumulator gains at a point. -/
def add (t : Fin cfg0.N) (i : Fin 512) (l : Fin 1024) : EReal :=
  ds (fun k : Fin 1408 => iblk m c 0 t (ix2 i k)) (fun k => iblk m c 1 t (ix2 l k))
    + ds (fun k : Fin 1408 => iblk m c 2 t (ix2 i k)) fun k => iblk m c 3 t (ix2 l k)

theorem sc_A (t : Fin cfg0.N) (h : t.val % 2 = 0) (i : Fin 512) (l : Fin 1024) :
    (outsAt0 m c t.val t.isLt).2.2 (ix2 i l) = add m c t i l := by
  rw [outsAt0_A m c t h (by omega)]
  dsimp only
  unfold sout0_A_0
  frame_open
  simp (disch := decide) only [↓ View.readCov_skip, ↓ View.readCov_cons_toLoadRect, ↓ View.readCov_fill]
  frame_out
  rw [pay3, pay2, pay1, zero_add]
  rfl

/-- The accumulator after a run's last point, as the kernel's own term. -/
theorem sc_odd (t : Fin cfg0.N) (h : t.val % 2 = 1) :
    (outsAt0 m c t.val t.isLt).2.2 = k0_pay3 (F := Ideal) (k0_pay2 (F := Ideal)
      (outsAt0 m c (t.val - 1) (Nat.lt_of_le_of_lt (Nat.sub_le _ _) t.isLt)).2.2 (iblk m c 0 t) (iblk m c 1 t)) (iblk m c 2 t) (iblk m c 3 t) := by
  by_cases h2 : t.val < 2
  · rw [outsAt0_B m c t (by omega) h h2]
    dsimp only
    unfold sout0_B_0
    funext j
    obtain ⟨i, l, rfl⟩ := ix2_split j
    frame_open
    simp (disch := decide) only [↓ View.readCov_skip, ↓ View.readCov_cons_toLoadRect, ↓ View.readCov_fill]
    frame_out
    rw [read_unread_whole]
  · rw [outsAt0_C m c t (by omega) h h2]
    dsimp only
    unfold sout0_C_0
    funext j
    obtain ⟨i, l, rfl⟩ := ix2_split j
    frame_open
    simp (disch := decide) only [↓ View.readCov_skip, ↓ View.readCov_cons_toLoadRect, ↓ View.readCov_fill]
    frame_out
    rw [read_unread_whole]

/-- The input gradient's block after a run's last point, as the kernel's own term of the accumulator. -/
theorem out7 (t : Fin cfg0.N) (h : t.val % 2 = 1) (i : Fin 512) (l : Fin 1024) :
    (outsAt0 m c t.val t.isLt).1 (ix2 i l)
      = k0_pay8 (F := Ideal) (outsAt0 m c t.val t.isLt).2.2 (iblk m c 4 t) (iblk m c 5 t) (iblk m c 6 t) (ix2 i l) := by
  rw [sc_odd m c t h]
  by_cases h2 : t.val < 2
  · rw [outsAt0_B m c t (by omega) h h2]
    dsimp only
    unfold out0_B_7
    frame_open
    simp (disch := decide) only [↓ View.readCov_skip, ↓ View.readCov_cons_toLoadRect, ↓ View.readCov_fill]
    frame_out
    rw [read_unread_whole]
  · rw [outsAt0_C m c t (by omega) h h2]
    dsimp only
    unfold out0_C_7
    frame_open
    simp (disch := decide) only [↓ View.readCov_skip, ↓ View.readCov_cons_toLoadRect, ↓ View.readCov_fill]
    frame_out
    rw [read_unread_whole]

/-- The scale gradient after the first run, -/
theorem out8_B (t : Fin cfg0.N) (h : t.val % 2 = 1) (h2 : t.val < 2) (u : Fin 1) (l : Fin 1024) :
    (outsAt0 m c t.val t.isLt).2.1 (ix2 u l)
      = k0_pay7 (F := Ideal) (outsAt0 m c t.val t.isLt).2.2 (iblk m c 4 t) (k0_pay6 (F := Ideal)) (ix2 u l) := by
  rw [sc_odd m c t h, outsAt0_B m c t (by omega) h h2]
  dsimp only
  unfold out0_B_8
  frame_open
  simp (disch := decide) only [↓ View.readCov_skip, ↓ View.readCov_cons_toLoadRect, ↓ View.readCov_fill]
  frame_out
  rw [read_unread_whole]
/-- after a later run, -/
theorem out8_C (t : Fin cfg0.N) (h : t.val % 2 = 1) (h2 : ¬t.val < 2) (u : Fin 1) (l : Fin 1024) :
    (outsAt0 m c t.val t.isLt).2.1 (ix2 u l)
      = k0_pay7 (F := Ideal) (outsAt0 m c t.val t.isLt).2.2 (iblk m c 4 t)
          (outsAt0 m c (t.val - 1) (Nat.lt_of_le_of_lt (Nat.sub_le _ _) t.isLt)).2.1 (ix2 u l) := by
  rw [sc_odd m c t h, outsAt0_C m c t (by omega) h h2]
  dsimp only
  unfold out0_C_8
  frame_open
  simp (disch := decide) only [↓ View.readCov_skip, ↓ View.readCov_cons_toLoadRect, ↓ View.readCov_fill]
  frame_out
  rw [read_unread_whole]
/-- and at a run's first point, which leaves it as it was. -/
theorem out8_A (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega)]
  rfl

/-! ## The results -/

/-- The gradient of the normalised input. -/
def H (DA : Vec Ideal S8192x2816 .bf16) (WG : Vec Ideal S1024x2816 .bf16) (DB : Vec Ideal S8192x2816 .bf16) (WU : Vec Ideal S1024x2816 .bf16)
    (s : Fin 8192) (l : Fin 1024) : EReal :=
  ds (fun k : Fin 2816 => DA (ix2 s k)) (fun k => WG (ix2 l k)) + ds (fun k : Fin 2816 => DB (ix2 s k)) fun k => WU (ix2 l k)

abbrev Hm : Fin 8192 → Fin 1024 → EReal := H (DA m c) (WG m c) (DB m c) (WU m c)

/-- After a run's last point the accumulator holds it. -/
theorem sc_last (t : Fin cfg0.N) (h1 : t.val % 2 = 1) (i : Fin 512) (l : Fin 1024) :
    (outsAt0 m c t.val t.isLt).2.2 (ix2 i l) = Hm m c ⟨t.val / 2 * 512 + i.val, row_lt t i⟩ l := by
  refine Eq.trans (Pipeline.eq_sum_fin_of_reset_step_apply_of_flush (fun n hn (p : Fin 512 × Fin 1024) => (outsAt0 m c n hn).2.2 (ix2 p.1 p.2)) 2 (fun _ => 0)
    (fun t p => add m c t p.1 p.2)
    (fun t h p => (sc_A m c t h p.1 p.2).trans (zero_add _).symm)
    (fun t h p => by rw [sc_odd m c t (by omega), pay3, pay2, add_assoc]; rfl) t h1 (i, l)) ?_
  rw [zero_add]
  unfold add
  rw [Finset.sum_add_distrib]
  unfold ds Hm H
  refine congrArg₂ (· + ·) (Fin.sum_mul_add_congr fun s k hl => ?_) (Fin.sum_mul_add_congr fun s k hl => ?_)
  all_goals
    have hs := s.isLt
    have e1 : (2 * (t.val / 2) + s.val) % 2 = s.val := by omega
    have e2 : (2 * (t.val / 2) + s.val) / 2 = t.val / 2 := by omega
    dsimp only
    first
      | rw [iblk0, iblk1]
      | rw [iblk2, iblk3]
    simp only [e1, e2]

theorem row_last (t : Fin cfg0.N) (h1 : t.val % 2 = 1) (i : Fin 512) :
    (fun d => (outsAt0 m c t.val t.isLt).2.2 (ix2 i d)) = Hm m c ⟨t.val / 2 * 512 + i.val, row_lt t i⟩ :=
  funext fun l => sc_last m c t h1 i l

/-- The input's gradient, -/
def GX (DA : Vec Ideal S8192x2816 .bf16) (WG : Vec Ideal S1024x2816 .bf16) (DB : Vec Ideal S8192x2816 .bf16) (WU : Vec Ideal S1024x2816 .bf16)
    (X : Vec Ideal S8192x1024 .f32) (S : Vec Ideal S1024 .f32) (R : Vec Ideal S8192x1024 .f32) : Vec Ideal S8192x1024 .f32 := fun j =>
  R (ix2 (j 0) (j 1)) + gx (fun d => H DA WG DB WU (j 0) d * S (ix1 d)) (row X (j 0)) (j 1)
/-- and the scale's. -/
def GS (DA : Vec Ideal S8192x2816 .bf16) (WG : Vec Ideal S1024x2816 .bf16) (DB : Vec Ideal S8192x2816 .bf16) (WU : Vec Ideal S1024x2816 .bf16)
    (X : Vec Ideal S8192x1024 .f32) : Vec Ideal S1x1024 .f32 := fun j =>
  ∑ s : Fin 8192, H DA WG DB WU s (j 1) * (X (ix2 s (j 1)) * nrm (row X s))

theorem final7 : (dats m 0 c).arrAt 7 cfg0.N = GX (DA m c) (WG m c) (DB m c) (WU m c) (Xa m c) (Sa m c) (Ra m c) := by
  refine (dats m 0 c).arrAt_eq_of_covers 7 _ (by decide +kernel) fun t hf y => ?_
  have h1 : t.val % 2 = 1 := (flush0_7 t).mp hf
  blk_simp
  rw [after0_7]
  obtain ⟨i, l, rfl⟩ := ix2_split y
  have he : (win0_7.blk t).view.emb (ix2 i l) = ix2 (⟨t.val / 2 * 512 + i.val, row_lt t i⟩ : Fin 8192) l := by
    blk_ext [idx t]
  rw [he]
  refine (out7 m c t h1 i l).trans ?_
  rw [pay8, iblk6, row4]
  simp only [sc_last m c t h1, iblk5]
  rfl

/-- What a row tile adds to the scale's gradient. -/
def addS (n : Fin 16) (l : Fin 1024) : EReal :=
  ∑ i : Fin 512, Hm m c ⟨n.val * 512 + i.val, by have := n.isLt; have := i.isLt; omega⟩ l
    * (Xa m c (ix2 ⟨n.val * 512 + i.val, by have := n.isLt; have := i.isLt; omega⟩ l)
      * nrm (row (Xa m c) ⟨n.val * 512 + i.val, by have := n.isLt; have := i.isLt; omega⟩))

theorem odd_lt (n : Nat) (h : n < 16) : 2 * n + 1 < cfg0.N := by
  rw [show cfg0.N = 32 from N_0]; omega

/-- The two lemmas on the scale gradient with the point before spelled out. -/
theorem out8_A' (a b : Nat) (e : a = b + 1) (ha : a < cfg0.N) (hb : b < cfg0.N) (h : a % 2 = 0) :
    (outsAt0 m c a ha).2.1 = (outsAt0 m c b hb).2.1 := by
  subst e
  exact out8_A m c ⟨b + 1, ha⟩ h
theorem out8_C' (a b : Nat) (e : a = b + 1) (ha : a < cfg0.N) (hb : b < cfg0.N) (h : a % 2 = 1) (h2 : ¬a < 2) (u : Fin 1) (l : Fin 1024) :
    (outsAt0 m c a ha).2.1 (ix2 u l)
      = k0_pay7 (F := Ideal) (outsAt0 m c a ha).2.2 (iblk m c 4 ⟨a, ha⟩) (outsAt0 m c b hb).2.1 (ix2 u l) := by
  subst e
  exact out8_C m c ⟨b + 1, ha⟩ h h2 u l
theorem outs_cast (a b : Nat) (e : a = b) (ha : a < cfg0.N) (hb : b < cfg0.N) : outsAt0 m c a ha = outsAt0 m c b hb := by
  subst e; rfl

/-- The input's block. -/
abbrev Xb (t : Fin cfg0.N) : Vec Ideal S512x1024 .f32 := iblk m c 4 t

theorem tile_sum (n : Fin 16) (l : Fin 1024) :
    ∑ i : Fin 512, (outsAt0 m c (2 * n.val + 1) (odd_lt n.val n.isLt)).2.2 (ix2 i l)
        * (Xb m c ⟨2 * n.val + 1, odd_lt n.val n.isLt⟩ (ix2 i l) * nrm (row (Xb m c ⟨2 * n.val + 1, odd_lt n.val n.isLt⟩) i))
      = addS m c n l := by
  refine Finset.sum_congr rfl fun i _ => ?_
  have e : (2 * n.val + 1) / 2 = n.val := by omega
  rw [sc_last m c ⟨2 * n.val + 1, odd_lt n.val n.isLt⟩ (by dsimp only; omega) i l, row4,
    show Xb m c ⟨2 * n.val + 1, odd_lt n.val n.isLt⟩ (ix2 i l) = _ from iblk4 m c ⟨2 * n.val + 1, odd_lt n.val n.isLt⟩ i l]
  simp only [e]

/-- The scale gradient after run `n`'s last point: its first value, -/
theorem sg_zero (n : Fin 16) (h : n.val = 0) (u : Fin 1) (l : Fin 1024) :
    (outsAt0 m c (2 * n.val + 1) (odd_lt n.val n.isLt)).2.1 (ix2 u l) = 0 + addS m c n l := by
  refine (out8_B m c ⟨2 * n.val + 1, odd_lt n.val n.isLt⟩ (by dsimp only; omega) (by dsimp only; omega) u l).trans ?_
  rw [pay7, pay6]
  exact congrArg (0 + ·) (tile_sum m c n l)
/-- and its step. -/
theorem sg_step (n : Fin 16) (h : ¬n.val = 0) (u : Fin 1) (l : Fin 1024) :
    (outsAt0 m c (2 * n.val + 1) (odd_lt n.val n.isLt)).2.1 (ix2 u l)
      = (outsAt0 m c (2 * (n.val - 1) + 1) (odd_lt _ (Nat.lt_of_le_of_lt (Nat.sub_le _ _) n.isLt))).2.1 (ix2 u l) + addS m c n l := by
  have hl : 2 * n.val < cfg0.N := lt_trans (Nat.lt_succ_self _) (odd_lt n.val n.isLt)
  rw [out8_C' m c (2 * n.val + 1) (2 * n.val) rfl (odd_lt n.val n.isLt) hl (by omega) (by omega) u l, pay7,
    out8_A' m c (2 * n.val) (2 * (n.val - 1) + 1) (by omega) hl (odd_lt _ (Nat.lt_of_le_of_lt (Nat.sub_le _ _) n.isLt)) (by omega)]
  exact congrArg _ (tile_sum m c n l)

/-- At the last point it holds the sum over the row tiles. -/
theorem sg_last (u : Fin 1) (l : Fin 1024) : (outsAt0 m c (2 * 15 + 1) (odd_lt 15 (by decide))).2.1 (ix2 u l) = ∑ n : Fin 16, addS m c n l :=
  (Pipeline.eq_sum_fin_of_reset_step_apply_last (N := 16)
    (fun n hn (p : Fin 1 × Fin 1024) => (outsAt0 m c (2 * n + 1) (odd_lt n hn)).2.1 (ix2 p.1 p.2)) 16 (fun _ => 0)
    (fun n p => addS m c n p.2)
    (fun n h p => sg_zero m c n (by have := n.isLt; omega) p.1 p.2) (fun n h p => sg_step m c n (by have := n.isLt; omega) p.1 p.2)
    le_rfl (15 : Fin 16) rfl (u, l)).trans (zero_add _)

theorem tiles (l : Fin 1024) : ∑ n : Fin 16, addS m c n l
    = ∑ s : Fin 8192, Hm m c s l * (Xa m c (ix2 s l) * nrm (row (Xa m c) s)) := by
  unfold addS
  exact Fin.sum_mul_add_congr fun n i hl => rfl

/-- The last point. -/
def lastPt : Fin cfg0.N := ⟨2 * 15 + 1, odd_lt 15 (by decide)⟩

theorem final8 : (dats m 0 c).arrAt 8 cfg0.N = GS (DA m c) (WG m c) (DB m c) (WU m c) (Xa m c) := by
  refine (dats m 0 c).arrAt_eq_of_after_last 8 lastPt (by decide +kernel) _ fun j => ?_
  blk_simp
  rw [after0_8]
  obtain ⟨u, l, rfl⟩ := ix2_split j
  rw [outs_cast m c lastPt.val (2 * 15 + 1) rfl lastPt.isLt (odd_lt 15 (by decide))]
  rw [sg_last, tiles]
  rfl

end Cert.DhFinal

end
-- ==== Proof.DhClaim.lean ====
/-
  The value claim of the gradient through the feed-forward layer's first half: kernel and reference end in equal arrays.
-/
module

public import proofs.«01_k».proof.Defs
public import Idealize.ShloMosaic.Lib.Claim
public import Idealize.ShloMosaic.Lib.Pointwise
public import proofs.«01_k».proof.Proof.Gen.DhKernelIdeal.Value
public import proofs.«01_k».proof.Proof.Gen.DhReferenceIdeal.Read
public import proofs.«01_k».proof.Proof.Gen.DhReferenceIdeal.Run
public import proofs.«01_k».proof.Proof.DhFinal

@[expose] public section

set_option maxRecDepth 16384

noncomputable section

namespace Cert.Proof.DhClaim

open Idealize.ShloMosaic Cert.DhFinal Cert.ActSpec Cert.DhSpec

section
open Cert.DhReferenceIdeal Cert.DhReferenceIdeal.Gen Cert.DhReferenceIdeal.Read
variable (x0 : Vec Ideal S8192x2816 .bf16) (x1 : Vec Ideal S1024x2816 .bf16) (x2 : Vec Ideal S8192x2816 .bf16) (x3 : Vec Ideal S1024x2816 .bf16)
  (x4 : Vec Ideal S8192x1024 .f32) (x5 : Vec Ideal S1024 .f32) (x6 : Vec Ideal S8192x1024 .f32)

/-- The shifted mean square of a row, -/
theorem v8 (s : Fin 8192) (u : Fin 1) : val_main_v8 (F := Ideal) x4 (ix2 s u) = ms (row x4 s) := by
  pointwise [val_main_v8, val_main_v7, val_main_cst_1, val_main_v6, val_main_v5, val_main_cst_0, val_main_v4, val_main_v3, val_main_cst, val_main_v2]
  rfl
/-- the factor normalising it, -/
theorem v9 (s : Fin 8192) (u : Fin 1) : val_main_v9 (F := Ideal) x4 (ix2 s u) = nrm (row x4 s) := by
  pointwise [val_main_v9]
  rw [v8]
  rfl
/-- its derivative. -/
theorem v12 (s : Fin 8192) (u : Fin 1) : val_main_v12 (F := Ideal) x4 (ix2 s u)
    = Ideal.ofBits .f32 0xBF000000#32 * Ideal.div (nrm (row x4 s)) (ms (row x4 s)) := by
  pointwise [val_main_v12, val_main_v11, val_main_cst_2, val_main_v10]
  rw [v8, v9]
/-- The normalised input, -/
theorem v14 (s : Fin 8192) (l : Fin 1024) : val_main_v14 (F := Ideal) x4 (ix2 s l) = x4 (ix2 s l) * nrm (row x4 s) := by
  pointwise [val_main_v14, val_main_v13]
  rw [v9]
/-- its gradient, -/
theorem v24 (s : Fin 8192) (l : Fin 1024) : val_main_v24 (F := Ideal) x0 x1 x2 x3 (ix2 s l) = H x0 x1 x2 x3 s l := by
  pointwise [val_main_v24, val_main_v23, val_main_v22, val_main_v21, val_main_v20, val_main_v1, val_main_v0]
  exact add_comm _ _
/-- the same before the scale, -/
theorem v29 (s : Fin 8192) (l : Fin 1024) : val_main_v29 (F := Ideal) x0 x1 x2 x3 x5 (ix2 s l) = H x0 x1 x2 x3 s l * x5 (ix1 l) := by
  pointwise [val_main_v29, val_main_v28, val_main_v15]
  rw [v24]
/-- and the scale's gradient. -/
theorem v26 (l : Fin 1024) : val_main_v26 (F := Ideal) x0 x1 x2 x3 x4 (ix1 l)
    = ∑ s : Fin 8192, H x0 x1 x2 x3 s l * (x4 (ix2 s l) * nrm (row x4 s)) := by
  pointwise [val_main_v26, val_main_cst_3, val_main_v25]
  exact Finset.sum_congr rfl fun s _ => by rw [v14, v24, mul_comm]
theorem v46 (u : Fin 1) (l : Fin 1024) : val_main_v46 (F := Ideal) x0 x1 x2 x3 x4 (ix2 u l)
    = ∑ s : Fin 8192, H x0 x1 x2 x3 s l * (x4 (ix2 s l) * nrm (row x4 s)) := by
  pointwise [val_main_v46, val_main_v30, val_main_cst_4, val_main_v27]
  rw [Fin.sum_univ_one, v26]
/-- The term through the root. -/
theorem v33 (s : Fin 8192) (u : Fin 1) : val_main_v33 (F := Ideal) x0 x1 x2 x3 x4 x5 (ix2 s u)
    = ∑ d : Fin 1024, x4 (ix2 s d) * (H x0 x1 x2 x3 s d * x5 (ix1 d)) := by
  pointwise [val_main_v33, val_main_v32, val_main_cst_5, val_main_v31]
  exact Finset.sum_congr rfl fun d _ => by rw [v29]
theorem v41 (s : Fin 8192) (l : Fin 1024) : val_main_v41 (F := Ideal) x0 x1 x2 x3 x4 x5 (ix2 s l)
    = root (fun d => H x0 x1 x2 x3 s d * x5 (ix1 d)) (row x4 s) := by
  pointwise [val_main_v41, val_main_v40, val_main_cst_7, val_main_v39, val_main_v38, val_main_cst_6, val_main_v37]
  rw [Fin.sum_univ_one, v33, v12]
  rfl
theorem v45 (s : Fin 8192) (l : Fin 1024) : val_main_v45 (F := Ideal) x0 x1 x2 x3 x4 x5 x6 (ix2 s l)
    = x6 (ix2 s l) + gx (fun d => H x0 x1 x2 x3 s d * x5 (ix1 d)) (row x4 s) l := by
  pointwise [val_main_v45, val_main_v44, val_main_v43, val_main_v42, val_main_v36, val_main_v35, val_main_v34]
  rw [v29, v9, v41]
  exact gx_eq (fun d => H x0 x1 x2 x3 s d * x5 (ix1 d)) (row x4 s) (x6 (ix2 s l)) l
end

/-- The kernel's two arrays are the reference's. -/
theorem algebraic : Cert.algebraic_DhKernelIdeal_DhReferenceIdeal := by
  pair_intro
  · run_from Cert.DhKernelIdeal.Value.run_blocks m g
  · run_from Cert.DhReferenceIdeal.Value.run m' g'
    · obtain ⟨e0, e1, e2, e3, e4, e5, e6⟩ := hagree c
      rw [Cert.DhReferenceIdeal.Read.val_main_v45_eq, e0, e1, e2, e3, e4, e5, e6]
      refine Eq.trans (funext fun j => ?_) (final7 m c).symm
      obtain ⟨s, l, rfl⟩ := ix2_split j
      exact v45 _ _ _ _ _ _ _ s l
    · rw [Cert.DhReferenceIdeal.Read.val_main_v46_eq]
      refine Eq.trans (funext fun j => ?_) (final8 m c).symm
      obtain ⟨u, l, rfl⟩ := ix2_split j
      exact v46 _ _ _ _ _ u l

/-- The reference runs, keeps its arguments and leaves every counter at zero. -/
theorem frame_ref : Cert.quiescent_DhReferenceIdeal := fun m ρ _ =>
  (θ_run Cert.DhReferenceIdeal.defs _ _).mono (fun r h => ⟨fun c => (h c).2.2, sem_eq_zero_of_no_sems (by decide) r.2⟩)
    (Cert.DhReferenceIdeal.Value.run (F := Ideal) m ρ)

end Cert.Proof.DhClaim

end
-- ==== Proof.ActFinal.lean ====
/-
  The two result arrays of the gate's gradient after the run, entry by entry.
-/
module

public import Idealize.ShloMosaic.Lib.Pipeline.ValueKit
public import proofs.«01_k».proof.Proof.Gen.ActKernelIdeal.Value
public import proofs.«01_k».proof.Proof.ActSpec

@[expose] public section

set_option maxRecDepth 16384

noncomputable section

namespace Cert.ActFinal

open Idealize.ShloMosaic Cert.ActKernelIdeal Cert.ActKernelIdeal.Gen Cert.ActSpec
open Idealize.ShloMosaic.TcCoe Idealize.SL.Sem
open Idealize.ShloMosaic.Pipeline (Dat)

section
variable (X0 : Vec Ideal S512x1024 .f32) (X1 : Vec Ideal S1408x1024 .bf16) (X2 X3 : Vec Ideal S512x1408 .bf16)

theorem pay1 (i : Fin 512) (l : Fin 1408) : k0_pay1 (F := Ideal) X0 X1 (ix2 i l) = ds (fun k : Fin 1024 => X0 (ix2 i k)) fun k => X1 (ix2 l k) := by
  pointwise [k0_pay1]
  rfl

theorem out4 (i : Fin 512) (l : Fin 1408) : out0_4 (F := Ideal) X0 X1 X2 X3 (ix2 i l)
    = da (ds (fun k : Fin 1024 => X0 (ix2 i k)) fun k => X1 (ix2 l k)) (X2 (ix2 i l)) (X3 (ix2 i l)) := by
  unfold out0_4
  frame_out
  pointwise [k0_pay4, k0_pay3, k0_pay2]
  rw [pay1]
  rfl

theorem out5 (i : Fin 512) (l : Fin 1408) : out0_5 (F := Ideal) X0 X1 X2 X3 (ix2 i l)
    = db (ds (fun k : Fin 1024 => X0 (ix2 i k)) fun k => X1 (ix2 l k)) (X2 (ix2 i l)) := by
  unfold out0_5
  frame_out
  pointwise [k0_pay5, k0_pay3, k0_pay2]
  rw [pay1]
  rfl
end

variable (m : (ℓ : Loc nD τ sig) → Buf (Elt Ideal) ℓ) (c : Dev nD)

/-- The incoming gradient. -/
abbrev Ga : Vec Ideal S8192x1024 .f32 := m ((c : Thread nD τ).loc main_arg0)
/-- The weight. -/
abbrev Wa : Vec Ideal S2816x1024 .bf16 := m ((c : Thread nD τ).loc main_arg1)
/-- The gate's input. -/
abbrev Aa : Vec Ideal S8192x2816 .bf16 := m ((c : Thread nD τ).loc main_arg2)
/-- The other factor. -/
abbrev Ba : Vec Ideal S8192x2816 .bf16 := m ((c : Thread nD τ).loc main_arg3)

/-- The windows' block indices at a point (decided). -/
theorem idx : ∀ t : Fin cfg0.N, win0_0.index t = ![t.val % 16, 0] ∧ win0_1.index t = ![t.val / 16, 0]
    ∧ win0_2.index t = ![t.val % 16, t.val / 16] ∧ win0_3.index t = ![t.val % 16, t.val / 16]
    ∧ win0_4.index t = ![t.val % 16, t.val / 16] ∧ win0_5.index t = ![t.val % 16, t.val / 16] :=
  (by decide +kernel : ∀ t : Fin grid0.N, _)

/-- Row `i` of point `t`'s block is a row of the array. -/
theorem row_lt (t : Fin cfg0.N) (i : Fin 512) : t.val % 16 * 512 + i.val < 8192 := by
  have := i.isLt; omega
theorem col_lt (t : Fin cfg0.N) (l : Fin 1408) : t.val / 16 * 1408 + l.val < 2816 := by
  have h : cfg0.N = 32 := N_0
  have := t.isLt; have := l.isLt; omega

theorem iblk0 (t : Fin cfg0.N) (i : Fin 512) (k : Fin 1024) :
    iblk m c 0 t (ix2 i k) = Ga m c (ix2 ⟨t.val % 16 * 512 + i.val, row_lt t i⟩ k) := by
  blk_ext [iblk, V, idx t]
theorem iblk1 (t : Fin cfg0.N) (l : Fin 1408) (k : Fin 1024) :
    iblk m c 1 t (ix2 l k) = Wa m c (ix2 ⟨t.val / 16 * 1408 + l.val, col_lt t l⟩ k) := by
  blk_ext [iblk, V, idx t]
theorem iblk2 (t : Fin cfg0.N) (i : Fin 512) (l : Fin 1408) :
    iblk m c 2 t (ix2 i l) = Aa m c (ix2 ⟨t.val % 16 * 512 + i.val, row_lt t i⟩ ⟨t.val / 16 * 1408 + l.val, col_lt t l⟩) := by
  blk_ext [iblk, V, idx t]
theorem iblk3 (t : Fin cfg0.N) (i : Fin 512) (l : Fin 1408) :
    iblk m c 3 t (ix2 i l) = Ba m c (ix2 ⟨t.val % 16 * 512 + i.val, row_lt t i⟩ ⟨t.val / 16 * 1408 + l.val, col_lt t l⟩) := by
  blk_ext [iblk, V, idx t]

/-- The gradient of the gate's input -/
def DA (G : Vec Ideal S8192x1024 .f32) (W : Vec Ideal S2816x1024 .bf16) (A B : Vec Ideal S8192x2816 .bf16) : Vec Ideal S8192x2816 .bf16 := fun j =>
  da (ds (fun k : Fin 1024 => G (ix2 (j 0) k)) fun k => W (ix2 (j 1) k)) (A (ix2 (j 0) (j 1))) (B (ix2 (j 0) (j 1)))
/-- and of the other factor. -/
def DB (G : Vec Ideal S8192x1024 .f32) (W : Vec Ideal S2816x1024 .bf16) (A : Vec Ideal S8192x2816 .bf16) : Vec Ideal S8192x2816 .bf16 := fun j =>
  db (ds (fun k : Fin 1024 => G (ix2 (j 0) k)) fun k => W (ix2 (j 1) k)) (A (ix2 (j 0) (j 1)))

theorem ix2_split {n l : Nat} (x : (⟨2, ![n, l]⟩ : Shape).Idx) : ∃ (a : Fin n) (b : Fin l), x = ix2 a b :=
  ⟨x 0, x 1, by funext a; fin_cases a <;> rfl⟩

theorem final4 : (dats m 0 c).arrAt 4 cfg0.N = DA (Ga m c) (Wa m c) (Aa m c) (Ba m c) := by
  refine (dats m 0 c).arrAt_eq_of_covers 4 _ (by decide +kernel) fun t hf y => ?_
  blk_simp
  rw [after0_4]
  obtain ⟨i, l, rfl⟩ := ix2_split y
  have he : (win0_4.blk t).view.emb (ix2 i l) = ix2 (⟨t.val % 16 * 512 + i.val, row_lt t i⟩ : Fin 8192) (⟨t.val / 16 * 1408 + l.val, col_lt t l⟩ : Fin 2816) := by
    blk_ext [idx t]
  rw [he]
  refine (out4 _ _ _ _ i l).trans ?_
  simp only [iblk0, iblk1, iblk2, iblk3]
  rfl

theorem final5 : (dats m 0 c).arrAt 5 cfg0.N = DB (Ga m c) (Wa m c) (Aa m c) := by
  refine (dats m 0 c).arrAt_eq_of_covers 5 _ (by decide +kernel) fun t hf y => ?_
  blk_simp
  rw [after0_5]
  obtain ⟨i, l, rfl⟩ := ix2_split y
  have he : (win0_5.blk t).view.emb (ix2 i l) = ix2 (⟨t.val % 16 * 512 + i.val, row_lt t i⟩ : Fin 8192) (⟨t.val / 16 * 1408 + l.val, col_lt t l⟩ : Fin 2816) := by
    blk_ext [idx t]
  rw [he]
  refine (out5 _ _ _ _ i l).trans ?_
  simp only [iblk0, iblk1, iblk2]
  rfl

end Cert.ActFinal

end
-- ==== Proof.ActClaim.lean ====
/-
  The value claim of the gate's gradient: kernel and reference end in equal arrays.
-/
module

public import proofs.«01_k».proof.Defs
public import proofs.«01_k».proof.Proof.Gen.Pre_finite_gate
public import Idealize.ShloMosaic.Lib.Claim
public import Idealize.ShloMosaic.Lib.ReduceAll
public import Idealize.ShloMosaic.Lib.Pointwise
public import proofs.«01_k».proof.Proof.Gen.ActKernelIdeal.Value
public import proofs.«01_k».proof.Proof.Gen.ActReferenceIdeal.Read
public import proofs.«01_k».proof.Proof.Gen.ActReferenceIdeal.Run
public import proofs.«01_k».proof.Proof.ActFinal

@[expose] public section

set_option maxRecDepth 16384

noncomputable section

namespace Cert.Proof.ActClaim

open Idealize.ShloMosaic Cert.ActFinal Cert.ActSpec

section
open Cert.ActReferenceIdeal Cert.ActReferenceIdeal.Gen Cert.ActReferenceIdeal.Read
variable (x0 : Vec Ideal S8192x1024 .f32) (x1 : Vec Ideal S2816x1024 .bf16) (x2 x3 : Vec Ideal S8192x2816 .bf16)

theorem v6 (s : Fin 8192) (l : Fin 2816) : val_main_v6 (F := Ideal) x0 x1 (ix2 s l) = ds (fun k : Fin 1024 => x0 (ix2 s k)) fun k => x1 (ix2 l k) := by
  pointwise [val_main_v6, val_main_v0]
  rfl
theorem v3_2 (s : Fin 8192) (l : Fin 2816) : val_main_v3_2 (F := Ideal) x2 (ix2 s l) = sg (x2 (ix2 s l)) := by
  pointwise [val_main_v3_2, val_main_call0_v4, val_main_call0_cst_0, val_main_call0_v3, val_main_call0_v2, val_main_call0_cst,
    val_main_call0_v1, val_main_call0_v0, val_main_v1]
  exact sg_spelled _
theorem v10 (hg : ∀ s k, ∃ q : ℝ, x0 (ix2 s k) = q) (hw : ∀ l k, ∃ q : ℝ, x1 (ix2 l k) = q) (hb : ∀ s l, ∃ q : ℝ, x3 (ix2 s l) = q)
    (s : Fin 8192) (l : Fin 2816) : val_main_v10 (F := Ideal) x0 x1 x2 x3 (ix2 s l)
    = da (ds (fun k : Fin 1024 => x0 (ix2 s k)) fun k => x1 (ix2 l k)) (x2 (ix2 s l)) (x3 (ix2 s l)) := by
  pointwise [val_main_v10, val_main_v9, val_main_call1_v2, val_main_call1_v1, val_main_call1_v0, val_main_v8, val_main_v3_1,
    val_main_call0_v7, val_main_call0_v6, val_main_call0_cst_1, val_main_v2, val_main_v1]
  rw [v6, v3_2]
  exact da_eq _ _ _ (ds_real _ _ (fun k => hg s k) fun k => hw l k) (hb s l)
theorem v11 (s : Fin 8192) (l : Fin 2816) : val_main_v11 (F := Ideal) x0 x1 x2 (ix2 s l)
    = db (ds (fun k : Fin 1024 => x0 (ix2 s k)) fun k => x1 (ix2 l k)) (x2 (ix2 s l)) := by
  pointwise [val_main_v11, val_main_v7, val_main_v3_0, val_main_v1]
  rw [v6, v3_2]
  exact db_eq _ _
end

/-- A comparison of an absolute value with infinity, read: the value is a real number. -/
theorem real_of_olt (x : EReal) (h : FloatOps.cmpf (F := Ideal) (φ := .f32) .olt (FloatOps.hostAbsf (F := Ideal) (φ := .f32) x)
    (FloatOps.ofBits (F := Ideal) .f32 0x7F800000#32) = 1#1) : ∃ q : ℝ, x = (q : EReal) := by
  change BitVec.ofBool (decide (max x (-x) < Ideal.ofBits .f32 0x7F800000#32)) = 1#1 at h
  rw [Reals.ofBits_inf] at h
  induction x using EReal.rec with
  | bot => simp at h
  | coe q => exact ⟨q, rfl⟩
  | top => simp at h

/-- The precondition bounds every entry of the incoming gradient, of the weight and of the other factor. -/
theorem pre (a0 : FVec Ideal Cert.Pre_finite_gate.S8192x1024 .f32) (a1 : FVec Ideal Cert.Pre_finite_gate.S2816x1024 .bf16)
    (a2 a3 : FVec Ideal Cert.Pre_finite_gate.S8192x2816 .bf16) (h : Cert.Pre_finite_gate.fn (F := Ideal) a0 a1 a2 a3 = fun _ => 1#1) :
    (∀ s k, ∃ q : ℝ, a0 (ix2 s k) = q) ∧ (∀ l k, ∃ q : ℝ, a1 (ix2 l k) = q) ∧ ∀ s l, ∃ q : ℝ, a3 (ix2 s l) = q := by
  have h0 := congrFun h (Shape.Idx.first (by decide))
  obtain ⟨h1, h3⟩ := IntOp.andi_eq_one.1 h0
  obtain ⟨h1, h2⟩ := IntOp.andi_eq_one.1 h1
  refine ⟨fun s k => ?_, fun l k => ?_, fun s l => ?_⟩
  · have := Host.reduce_andi_all _ _ _ _ _ h1 (ix2 s k)
    exact real_of_olt _ this
  · have := Host.reduce_andi_all _ _ _ _ _ h2 (ix2 l k)
    exact real_of_olt _ this
  · have := Host.reduce_andi_all _ _ _ _ _ h3 (ix2 s l)
    exact real_of_olt _ this

/-- The kernel's two arrays are the reference's. -/
theorem algebraic : Cert.algebraic_ActKernelIdeal_ActReferenceIdeal_pre_finite_gate := by
  pair_intro
  · run_from Cert.ActKernelIdeal.Value.run_blocks m g
  · run_from Cert.ActReferenceIdeal.Value.run m' g'
    · obtain ⟨hg, hw, hb⟩ := pre _ _ _ _ (hpre c)
      rw [Cert.ActReferenceIdeal.Read.val_main_v10_eq]
      refine Eq.trans (funext fun j => ?_) (final4 m c).symm
      obtain ⟨s, l, rfl⟩ := ix2_split j
      exact v10 _ _ _ _ hg hw hb s l
    · rw [Cert.ActReferenceIdeal.Read.val_main_v11_eq]
      refine Eq.trans (funext fun j => ?_) (final5 m c).symm
      obtain ⟨s, l, rfl⟩ := ix2_split j
      exact v11 _ _ _ s l

/-- The reference runs, keeps its arguments and leaves every counter at zero. -/
theorem frame_ref : Cert.quiescent_ActReferenceIdeal := fun m ρ _ =>
  (θ_run Cert.ActReferenceIdeal.defs _ _).mono (fun r h => ⟨fun c => (h c).2.2, sem_eq_zero_of_no_sems (by decide) r.2⟩)
    (Cert.ActReferenceIdeal.Value.run (F := Ideal) m ρ)

end Cert.Proof.ActClaim

end
-- ==== Proof.DwdFinal.lean ====
/-
  The result array of the weight gradient of the feed-forward layer's second half after the run: the product of the
  transposed rows with the incoming gradient, summed over all the rows.
-/
module

public import Idealize.ShloMosaic.Lib.Pipeline.ValueKit
public import Idealize.ShloMosaic.Lib.Pipeline.ReadBack
public import proofs.«01_k».proof.Proof.Gen.DwdKernelIdeal.Value
public import proofs.«01_k».proof.Proof.ActSpec

@[expose] public section

set_option maxRecDepth 16384

noncomputable section

namespace Cert.DwdFinal

open Idealize.ShloMosaic Cert.DwdKernelIdeal Cert.DwdKernelIdeal.Gen Cert.ActSpec
open Idealize.ShloMosaic.TcCoe Idealize.SL.Sem
open Idealize.ShloMosaic.Pipeline (Dat)

/-- The block a run starts from holds zero. -/
theorem pay1 (j : S1408x1024.Idx) : k0_pay1 (F := Ideal) j = 0 := by
  obtain ⟨i, l, rfl⟩ : ∃ (a : Fin 1408) (b : Fin 1024), j = ix2 a b := ⟨j 0, j 1, by funext a; fin_cases a <;> rfl⟩
  pointwise [k0_pay1]

section
variable (X0 : Vec Ideal S512x1408 .bf16) (X1 : Vec Ideal S512x1024 .f32)

/-- A point adds its rows' products. -/
theorem pay2 (A : Vec Ideal S1408x1024 .f32) (i : Fin 1408) (l : Fin 1024) :
    k0_pay2 (F := Ideal) A X0 X1 (ix2 i l) = A (ix2 i l) + ds (fun k : Fin 512 => X0 (ix2 k i)) fun k => X1 (ix2 k l) := by
  pointwise [k0_pay2]
  rfl
end

variable (m : (ℓ : Loc nD τ sig) → Buf (Elt Ideal) ℓ) (c : Dev nD)

/-- The rows. -/
abbrev Ha : Vec Ideal S8192x2816 .bf16 := m ((c : Thread nD τ).loc main_arg0)
/-- The incoming gradient. -/
abbrev Da : Vec Ideal S8192x1024 .f32 := m ((c : Thread nD τ).loc main_arg1)

/-- The windows' block indices at a point (decided). -/
theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- Row `k` of point `t`'s block is a row of the array, -/
theorem row_lt (t : Fin cfg0.N) (k : Fin 512) : t.val % 16 * 512 + k.val < 8192 := by
  have := k.isLt; omega
/-- and column `i` of it a column. -/
theorem col_lt (t : Fin cfg0.N) (i : Fin 1408) : t.val / 16 * 1408 + i.val < 2816 := by
  have h : cfg0.N = 32 := N_0
  have := t.isLt; have := i.isLt; omega

theorem iblk0 (t : Fin cfg0.N) (k : Fin 512) (i : Fin 1408) :
    iblk m c 0 t (ix2 k i) = Ha m c (ix2 ⟨t.val % 16 * 512 + k.val, row_lt t k⟩ ⟨t.val / 16 * 1408 + i.val, col_lt t i⟩) := by
  blk_ext [iblk, V, idx t]
theorem iblk1 (t : Fin cfg0.N) (k : Fin 512) (l : Fin 1024) :
    iblk m c 1 t (ix2 k l) = Da m c (ix2 ⟨t.val % 16 * 512 + k.val, row_lt t k⟩ l) := by
  blk_ext [iblk, V, idx t]

/-- What a point leaves in the accumulator, case by case. -/
theorem sc_A (t : Fin cfg0.N) (h : t.val % 16 = 0) (i : Fin 1408) (l : Fin 1024) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 1408) (l : Fin 1024) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator. -/
theorem out_C (t : Fin cfg0.N) (h1 : t.val % 16 = 15) (i : Fin 1408) (l : Fin 1024) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out

/-- At a run's last point the accumulator holds the products of all the rows. -/
theorem sc_last (t : Fin cfg0.N) (h1 : t.val % 16 = 15) (i : Fin 1408) (l : Fin 1024) :
    (outsAt0 m c t.val t.isLt).2 (ix2 i l)
      = ds (fun k : Fin 8192 => Ha m c (ix2 k ⟨t.val / 16 * 1408 + i.val, col_lt t i⟩)) fun k => Da m c (ix2 k l) := by
  refine Eq.trans (Pipeline.eq_sum_fin_of_reset_step_apply_of_flush (fun n hn (p : Fin 1408 × Fin 1024) => (outsAt0 m c n hn).2 (ix2 p.1 p.2)) 16 (fun _ => 0)
    (fun t p => ds (fun k : Fin 512 => iblk m c 0 t (ix2 k p.1)) fun k => iblk m c 1 t (ix2 k p.2))
    (fun t h p => (sc_A m c t h p.1 p.2).trans (zero_add _).symm) (fun t h p => sc_B m c t h p.1 p.2) t h1 (i, l)) ?_
  rw [zero_add]
  unfold ds
  refine Fin.sum_mul_add_congr fun s k hl => ?_
  have hs := s.isLt
  have e1 : (16 * (t.val / 16) + s.val) % 16 = s.val := by omega
  have e2 : (16 * (t.val / 16) + s.val) / 16 = t.val / 16 := by omega
  dsimp only
  rw [iblk0, iblk1]
  simp only [e1, e2]

/-- The product. -/
def G (H : Vec Ideal S8192x2816 .bf16) (D : Vec Ideal S8192x1024 .f32) : Vec Ideal S2816x1024 .f32 := fun j =>
  ds (fun k : Fin 8192 => H (ix2 k (j 0))) fun k => D (ix2 k (j 1))

theorem ix2_split {n l : Nat} (x : (⟨2, ![n, l]⟩ : Shape).Idx) : ∃ (a : Fin n) (b : Fin l), x = ix2 a b :=
  ⟨x 0, x 1, by funext a; fin_cases a <;> rfl⟩

theorem final2 : (dats m 0 c).arrAt 2 cfg0.N = G (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 (⟨t.val / 16 * 1408 + i.val, col_lt t i⟩ : Fin 2816) l := by
    blk_ext [idx t]
  rw [he]
  exact (out_C m c t h1 i l).trans (sc_last m c t h1 i l)

end Cert.DwdFinal

end
-- ==== Proof.DwdClaim.lean ====
/-
  The value claim of the weight gradient of the feed-forward layer's second half: kernel and reference end in equal arrays.
-/
module

public import proofs.«01_k».proof.Defs
public import Idealize.ShloMosaic.Lib.Claim
public import Idealize.ShloMosaic.Lib.Pointwise
public import proofs.«01_k».proof.Proof.Gen.DwdKernelIdeal.Value
public import proofs.«01_k».proof.Proof.Gen.DwdReferenceIdeal.Read
public import proofs.«01_k».proof.Proof.Gen.DwdReferenceIdeal.Run
public import proofs.«01_k».proof.Proof.DwdFinal

@[expose] public section

set_option maxRecDepth 16384

noncomputable section

namespace Cert.Proof.DwdClaim

open Idealize.ShloMosaic Cert.DwdFinal Cert.ActSpec

section
open Cert.DwdReferenceIdeal Cert.DwdReferenceIdeal.Gen Cert.DwdReferenceIdeal.Read
variable (x0 : Vec Ideal S8192x2816 .bf16) (x1 : Vec Ideal S8192x1024 .f32)

theorem v3 (l : Fin 1024) (s : Fin 2816) : val_main_v3 (F := Ideal) x0 x1 (ix2 l s)
    = ds (fun k : Fin 8192 => x1 (ix2 k l)) fun k => x0 (ix2 k s) := by
  pointwise [val_main_v3, val_main_v0]
  rfl
theorem v4 (s : Fin 2816) (l : Fin 1024) : val_main_v4 (F := Ideal) x0 x1 (ix2 s l)
    = ds (fun k : Fin 8192 => x0 (ix2 k s)) fun k => x1 (ix2 k l) := by
  pointwise [val_main_v4]
  rw [v3]
  exact Finset.sum_congr rfl fun k _ => mul_comm _ _
end

/-- The kernel's array is the reference's. -/
theorem algebraic : Cert.algebraic_DwdKernelIdeal_DwdReferenceIdeal := by
  pair_intro
  · run_from Cert.DwdKernelIdeal.Value.run_blocks m g
  · run_from Cert.DwdReferenceIdeal.Value.run m' g'
    · rw [Cert.DwdReferenceIdeal.Read.val_main_v4_eq]
      refine Eq.trans (funext fun j => ?_) (final2 m c).symm
      obtain ⟨s, l, rfl⟩ := ix2_split j
      exact v4 _ _ s l

/-- The reference runs, keeps its arguments and leaves every counter at zero. -/
theorem frame_ref : Cert.quiescent_DwdReferenceIdeal := fun m ρ _ =>
  (θ_run Cert.DwdReferenceIdeal.defs _ _).mono (fun r h => ⟨fun c => (h c).2, sem_eq_zero_of_no_sems (by decide) r.2⟩)
    (Cert.DwdReferenceIdeal.Value.run (F := Ideal) m ρ)

end Cert.Proof.DwdClaim

end
-- ==== Proof.DwgFinal.lean ====
/-
  The result array of a weight gradient of the feed-forward layer's first half after the run: the product of the
  transposed rows with the incoming gradient, summed over all the rows.
-/
module

public import Idealize.ShloMosaic.Lib.Pipeline.ValueKit
public import Idealize.ShloMosaic.Lib.Pipeline.ReadBack
public import proofs.«01_k».proof.Proof.Gen.DwgKernelIdeal.Value
public import proofs.«01_k».proof.Proof.ActSpec

@[expose] public section

set_option maxRecDepth 16384

noncomputable section

namespace Cert.DwgFinal

open Idealize.ShloMosaic Cert.DwgKernelIdeal Cert.DwgKernelIdeal.Gen Cert.ActSpec
open Idealize.ShloMosaic.TcCoe Idealize.SL.Sem
open Idealize.ShloMosaic.Pipeline (Dat)

/-- The block a run starts from holds zero. -/
theorem pay1 (j : S1024x1408.Idx) : k0_pay1 (F := Ideal) j = 0 := by
  obtain ⟨i, l, rfl⟩ : ∃ (a : Fin 1024) (b : Fin 1408), j = ix2 a b := ⟨j 0, j 1, by funext a; fin_cases a <;> rfl⟩
  pointwise [k0_pay1]

section
variable (X0 : Vec Ideal S512x1024 .bf16) (X1 : Vec Ideal S512x1408 .bf16)

/-- A point adds its rows' products. -/
theorem pay2 (A : Vec Ideal S1024x1408 .f32) (i : Fin 1024) (l : Fin 1408) :
    k0_pay2 (F := Ideal) A X0 X1 (ix2 i l) = A (ix2 i l) + ds (fun k : Fin 512 => X0 (ix2 k i)) fun k => X1 (ix2 k l) := by
  pointwise [k0_pay2]
  rfl
end

variable (m : (ℓ : Loc nD τ sig) → Buf (Elt Ideal) ℓ) (c : Dev nD)

/-- The rows. -/
abbrev Ha : Vec Ideal S8192x1024 .bf16 := m ((c : Thread nD τ).loc main_arg0)
/-- The incoming gradient. -/
abbrev Da : Vec Ideal S8192x2816 .bf16 := m ((c : Thread nD τ).loc main_arg1)

/-- The windows' block indices at a point (decided). -/
theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

/-- Row `k` of point `t`'s block is a row of the array, -/
theorem row_lt (t : Fin cfg0.N) (k : Fin 512) : t.val % 16 * 512 + k.val < 8192 := by
  have := k.isLt; omega
/-- and so is column `l` a column. -/
theorem col_lt (t : Fin cfg0.N) (l : Fin 1408) : t.val / 16 * 1408 + l.val < 2816 := by
  have h : cfg0.N = 32 := N_0
  have := t.isLt; have := l.isLt; omega

theorem iblk0 (t : Fin cfg0.N) (k : Fin 512) (i : Fin 1024) :
    iblk m c 0 t (ix2 k i) = Ha m c (ix2 ⟨t.val % 16 * 512 + k.val, row_lt t k⟩ i) := by
  blk_ext [iblk, V, idx t]
theorem iblk1 (t : Fin cfg0.N) (k : Fin 512) (l : Fin 1408) :
    iblk m c 1 t (ix2 k l) = Da m c (ix2 ⟨t.val % 16 * 512 + k.val, row_lt t k⟩ ⟨t.val / 16 * 1408 + l.val, col_lt t l⟩) := by
  blk_ext [iblk, V, idx t]

/-- What a point leaves in the accumulator, case by case. -/
theorem sc_A (t : Fin cfg0.N) (h : t.val % 16 = 0) (i : Fin 1024) (l : Fin 1408) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 1024) (l : Fin 1408) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator. -/
theorem out_C (t : Fin cfg0.N) (h1 : t.val % 16 = 15) (i : Fin 1024) (l : Fin 1408) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out

/-- At a run's last point the accumulator holds the products of all the rows. -/
theorem sc_last (t : Fin cfg0.N) (h1 : t.val % 16 = 15) (i : Fin 1024) (l : Fin 1408) :
    (outsAt0 m c t.val t.isLt).2 (ix2 i l)
      = ds (fun k : Fin 8192 => Ha m c (ix2 k i)) fun k => Da m c (ix2 k ⟨t.val / 16 * 1408 + l.val, col_lt t l⟩) := by
  refine Eq.trans (Pipeline.eq_sum_fin_of_reset_step_apply_of_flush (fun n hn (p : Fin 1024 × Fin 1408) => (outsAt0 m c n hn).2 (ix2 p.1 p.2)) 16 (fun _ => 0)
    (fun t p => ds (fun k : Fin 512 => iblk m c 0 t (ix2 k p.1)) fun k => iblk m c 1 t (ix2 k p.2))
    (fun t h p => (sc_A m c t h p.1 p.2).trans (zero_add _).symm) (fun t h p => sc_B m c t h p.1 p.2) t h1 (i, l)) ?_
  rw [zero_add]
  unfold ds
  refine Fin.sum_mul_add_congr fun s k hl => ?_
  have hs := s.isLt
  have e1 : (16 * (t.val / 16) + s.val) % 16 = s.val := by omega
  have e2 : (16 * (t.val / 16) + s.val) / 16 = t.val / 16 := by omega
  dsimp only
  rw [iblk0, iblk1]
  simp only [e1, e2]

/-- The product. -/
def G (H : Vec Ideal S8192x1024 .bf16) (D : Vec Ideal S8192x2816 .bf16) : Vec Ideal S1024x2816 .f32 := fun j =>
  ds (fun k : Fin 8192 => H (ix2 k (j 0))) fun k => D (ix2 k (j 1))

theorem ix2_split {n l : Nat} (x : (⟨2, ![n, l]⟩ : Shape).Idx) : ∃ (a : Fin n) (b : Fin l), x = ix2 a b :=
  ⟨x 0, x 1, by funext a; fin_cases a <;> rfl⟩

theorem final2 : (dats m 0 c).arrAt 2 cfg0.N = G (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 i (⟨t.val / 16 * 1408 + l.val, col_lt t l⟩ : Fin 2816) := by
    blk_ext [idx t]
  rw [he]
  exact (out_C m c t h1 i l).trans (sc_last m c t h1 i l)

end Cert.DwgFinal

end
-- ==== Proof.DwgClaim.lean ====
/-
  The value claim of a weight gradient of the feed-forward layer's first half: kernel and reference end in equal arrays.
-/
module

public import proofs.«01_k».proof.Defs
public import Idealize.ShloMosaic.Lib.Claim
public import Idealize.ShloMosaic.Lib.Pointwise
public import proofs.«01_k».proof.Proof.Gen.DwgKernelIdeal.Value
public import proofs.«01_k».proof.Proof.Gen.DwgReferenceIdeal.Read
public import proofs.«01_k».proof.Proof.Gen.DwgReferenceIdeal.Run
public import proofs.«01_k».proof.Proof.DwgFinal

@[expose] public section

set_option maxRecDepth 16384

noncomputable section

namespace Cert.Proof.DwgClaim

open Idealize.ShloMosaic Cert.DwgFinal Cert.ActSpec

section
open Cert.DwgReferenceIdeal Cert.DwgReferenceIdeal.Gen Cert.DwgReferenceIdeal.Read
variable (x0 : Vec Ideal S8192x1024 .bf16) (x1 : Vec Ideal S8192x2816 .bf16)

theorem v4 (l : Fin 2816) (s : Fin 1024) : val_main_v4 (F := Ideal) x0 x1 (ix2 l s)
    = ds (fun k : Fin 8192 => x1 (ix2 k l)) fun k => x0 (ix2 k s) := by
  pointwise [val_main_v4, val_main_v3, val_main_v0]
  rfl
theorem v5 (s : Fin 1024) (l : Fin 2816) : val_main_v5 (F := Ideal) x0 x1 (ix2 s l)
    = ds (fun k : Fin 8192 => x0 (ix2 k s)) fun k => x1 (ix2 k l) := by
  pointwise [val_main_v5]
  rw [v4]
  exact Finset.sum_congr rfl fun k _ => mul_comm _ _
end

/-- The kernel's array is the reference's. -/
theorem algebraic : Cert.algebraic_DwgKernelIdeal_DwgReferenceIdeal := by
  pair_intro
  · run_from Cert.DwgKernelIdeal.Value.run_blocks m g
  · run_from Cert.DwgReferenceIdeal.Value.run m' g'
    · rw [Cert.DwgReferenceIdeal.Read.val_main_v5_eq]
      refine Eq.trans (funext fun j => ?_) (final2 m c).symm
      obtain ⟨s, l, rfl⟩ := ix2_split j
      exact v5 _ _ s l

/-- The reference runs, keeps its arguments and leaves every counter at zero. -/
theorem frame_ref : Cert.quiescent_DwgReferenceIdeal := fun m ρ _ =>
  (θ_run Cert.DwgReferenceIdeal.defs _ _).mono (fun r h => ⟨fun c => (h c).2, sem_eq_zero_of_no_sems (by decide) r.2⟩)
    (Cert.DwgReferenceIdeal.Value.run (F := Ideal) m ρ)

end Cert.Proof.DwgClaim

end
-- ==== Proof.UpFinal.lean ====
/-
  The three result arrays of the feed-forward layer's first half after the run, entry by entry.
-/
module

public import Idealize.ShloMosaic.Lib.Pipeline.ValueKit
public import proofs.«01_k».proof.Proof.Gen.UpKernelIdeal.Value
public import proofs.«01_k».proof.Proof.ActSpec

@[expose] public section

set_option maxRecDepth 16384

noncomputable section

namespace Cert.UpFinal

open Idealize.ShloMosaic Cert.UpKernelIdeal Cert.UpKernelIdeal.Gen Cert.ActSpec
open Idealize.ShloMosaic.TcCoe Idealize.SL.Sem
open Idealize.ShloMosaic.Pipeline (Dat)

section
variable (X0 : Vec Ideal S512x1024 .bf16) (X1 X2 : Vec Ideal S1024x1408 .bf16)

theorem pay1 (i : Fin 512) (l : Fin 1408) : k0_pay1 (F := Ideal) X0 X1 (ix2 i l) = ds (fun k : Fin 1024 => X0 (ix2 i k)) fun k => X1 (ix2 k l) := by
  pointwise [k0_pay1]
  rfl
theorem pay2 (i : Fin 512) (l : Fin 1408) : k0_pay2 (F := Ideal) X0 X2 (ix2 i l) = ds (fun k : Fin 1024 => X0 (ix2 i k)) fun k => X2 (ix2 k l) := by
  pointwise [k0_pay2]
  rfl

theorem out3 (i : Fin 512) (l : Fin 1408) : out0_3 (F := Ideal) X0 X1 X2 (ix2 i l)
    = ds (fun k : Fin 1024 => X0 (ix2 i k)) fun k => X1 (ix2 k l) := by
  unfold out0_3
  frame_out
  pointwise [k0_pay3]
  rw [pay1]

theorem out4 (i : Fin 512) (l : Fin 1408) : out0_4 (F := Ideal) X0 X1 X2 (ix2 i l)
    = ds (fun k : Fin 1024 => X0 (ix2 i k)) fun k => X2 (ix2 k l) := by
  unfold out0_4
  frame_out
  pointwise [k0_pay4]
  rw [pay2]

theorem out5 (i : Fin 512) (l : Fin 1408) : out0_5 (F := Ideal) X0 X1 X2 (ix2 i l)
    = act (ds (fun k : Fin 1024 => X0 (ix2 i k)) fun k => X1 (ix2 k l)) (ds (fun k : Fin 1024 => X0 (ix2 i k)) fun k => X2 (ix2 k l)) := by
  unfold out0_5
  frame_out
  pointwise [k0_pay5]
  rw [pay1, pay2]
  rfl
end

variable (m : (ℓ : Loc nD τ sig) → Buf (Elt Ideal) ℓ) (c : Dev nD)

/-- The normalised rows. -/
abbrev Ha : Vec Ideal S8192x1024 .bf16 := m ((c : Thread nD τ).loc main_arg0)
/-- The gate's weight. -/
abbrev Wg : Vec Ideal S1024x2816 .bf16 := m ((c : Thread nD τ).loc main_arg1)
/-- The other factor's weight. -/
abbrev Wu : Vec Ideal S1024x2816 .bf16 := m ((c : Thread nD τ).loc main_arg2)

/-- The windows' block indices at a point (decided). -/
theorem idx : ∀ t : Fin cfg0.N, win0_0.index t = ![t.val % 16, 0] ∧ win0_1.index t = ![0, t.val / 16]
    ∧ win0_2.index t = ![0, t.val / 16] ∧ win0_3.index t = ![t.val % 16, t.val / 16]
    ∧ win0_4.index t = ![t.val % 16, t.val / 16] ∧ win0_5.index t = ![t.val % 16, t.val / 16] :=
  (by decide +kernel : ∀ t : Fin grid0.N, _)

/-- Row `i` of point `t`'s block is a row of the array. -/
theorem row_lt (t : Fin cfg0.N) (i : Fin 512) : t.val % 16 * 512 + i.val < 8192 := by
  have := i.isLt; omega
/-- Column `l` of point `t`'s block is a column of the array. -/
theorem col_lt (t : Fin cfg0.N) (l : Fin 1408) : t.val / 16 * 1408 + l.val < 2816 := by
  have h : cfg0.N = 32 := N_0
  have := t.isLt; have := l.isLt; omega

theorem iblk0 (t : Fin cfg0.N) (i : Fin 512) (k : Fin 1024) :
    iblk m c 0 t (ix2 i k) = Ha m c (ix2 ⟨t.val % 16 * 512 + i.val, row_lt t i⟩ k) := by
  blk_ext [iblk, V, idx t]
theorem iblk1 (t : Fin cfg0.N) (l : Fin 1408) (k : Fin 1024) :
    iblk m c 1 t (ix2 k l) = Wg m c (ix2 k ⟨t.val / 16 * 1408 + l.val, col_lt t l⟩) := by
  blk_ext [iblk, V, idx t]
theorem iblk2 (t : Fin cfg0.N) (l : Fin 1408) (k : Fin 1024) :
    iblk m c 2 t (ix2 k l) = Wu m c (ix2 k ⟨t.val / 16 * 1408 + l.val, col_lt t l⟩) := by
  blk_ext [iblk, V, idx t]

/-- A product of the rows with a weight, -/
def PR (H : Vec Ideal S8192x1024 .bf16) (W : Vec Ideal S1024x2816 .bf16) : Vec Ideal S8192x2816 .bf16 := fun j =>
  ds (fun k : Fin 1024 => H (ix2 (j 0) k)) fun k => W (ix2 k (j 1))
/-- and the gate of two of them. -/
def AC (H : Vec Ideal S8192x1024 .bf16) (W U : Vec Ideal S1024x2816 .bf16) : Vec Ideal S8192x2816 .bf16 := fun j =>
  act (ds (fun k : Fin 1024 => H (ix2 (j 0) k)) fun k => W (ix2 k (j 1))) (ds (fun k : Fin 1024 => H (ix2 (j 0) k)) fun k => U (ix2 k (j 1)))

theorem ix2_split {n l : Nat} (x : (⟨2, ![n, l]⟩ : Shape).Idx) : ∃ (a : Fin n) (b : Fin l), x = ix2 a b :=
  ⟨x 0, x 1, by funext a; fin_cases a <;> rfl⟩

theorem final3 : (dats m 0 c).arrAt 3 cfg0.N = PR (Ha m c) (Wg m c) := by
  refine (dats m 0 c).arrAt_eq_of_covers 3 _ (by decide +kernel) fun t hf y => ?_
  blk_simp
  rw [after0_3]
  obtain ⟨i, l, rfl⟩ := ix2_split y
  have he : (win0_3.blk t).view.emb (ix2 i l) = ix2 (⟨t.val % 16 * 512 + i.val, row_lt t i⟩ : Fin 8192) (⟨t.val / 16 * 1408 + l.val, col_lt t l⟩ : Fin 2816) := by
    blk_ext [idx t]
  rw [he]
  refine (out3 _ _ _ i l).trans ?_
  simp only [iblk0, iblk1]
  rfl

theorem final4 : (dats m 0 c).arrAt 4 cfg0.N = PR (Ha m c) (Wu m c) := by
  refine (dats m 0 c).arrAt_eq_of_covers 4 _ (by decide +kernel) fun t hf y => ?_
  blk_simp
  rw [after0_4]
  obtain ⟨i, l, rfl⟩ := ix2_split y
  have he : (win0_4.blk t).view.emb (ix2 i l) = ix2 (⟨t.val % 16 * 512 + i.val, row_lt t i⟩ : Fin 8192) (⟨t.val / 16 * 1408 + l.val, col_lt t l⟩ : Fin 2816) := by
    blk_ext [idx t]
  rw [he]
  refine (out4 _ _ _ i l).trans ?_
  simp only [iblk0, iblk2]
  rfl

theorem final5 : (dats m 0 c).arrAt 5 cfg0.N = AC (Ha m c) (Wg m c) (Wu m c) := by
  refine (dats m 0 c).arrAt_eq_of_covers 5 _ (by decide +kernel) fun t hf y => ?_
  blk_simp
  rw [after0_5]
  obtain ⟨i, l, rfl⟩ := ix2_split y
  have he : (win0_5.blk t).view.emb (ix2 i l) = ix2 (⟨t.val % 16 * 512 + i.val, row_lt t i⟩ : Fin 8192) (⟨t.val / 16 * 1408 + l.val, col_lt t l⟩ : Fin 2816) := by
    blk_ext [idx t]
  rw [he]
  refine (out5 _ _ _ i l).trans ?_
  simp only [iblk0, iblk1, iblk2]
  rfl

end Cert.UpFinal

end
-- ==== Proof.UpClaim.lean ====
/-
  The value claim of the feed-forward layer's first half: kernel and reference end in equal arrays.
-/
module

public import proofs.«01_k».proof.Defs
public import Idealize.ShloMosaic.Lib.Claim
public import Idealize.ShloMosaic.Lib.Pointwise
public import proofs.«01_k».proof.Proof.Gen.UpKernelIdeal.Value
public import proofs.«01_k».proof.Proof.Gen.UpReferenceIdeal.Read
public import proofs.«01_k».proof.Proof.Gen.UpReferenceIdeal.Run
public import proofs.«01_k».proof.Proof.UpFinal

@[expose] public section

set_option maxRecDepth 16384

noncomputable section

namespace Cert.Proof.UpClaim

open Idealize.ShloMosaic Cert.UpFinal Cert.ActSpec

section
open Cert.UpReferenceIdeal Cert.UpReferenceIdeal.Gen Cert.UpReferenceIdeal.Read
variable (x0 : Vec Ideal S8192x1024 .bf16) (x1 x2 : Vec Ideal S1024x2816 .bf16)

theorem v2 (s : Fin 8192) (l : Fin 2816) : val_main_v2 (F := Ideal) x0 x1 (ix2 s l) = ds (fun k : Fin 1024 => x0 (ix2 s k)) fun k => x1 (ix2 k l) := by
  pointwise [val_main_v2, val_main_v1, val_main_v0]
  rfl
theorem v4 (s : Fin 8192) (l : Fin 2816) : val_main_v4 (F := Ideal) x0 x2 (ix2 s l) = ds (fun k : Fin 1024 => x0 (ix2 s k)) fun k => x2 (ix2 k l) := by
  pointwise [val_main_v4, val_main_v3, val_main_v0]
  rfl
theorem v5 (s : Fin 8192) (l : Fin 2816) : val_main_v5 (F := Ideal) x0 x1 (ix2 s l) = ds (fun k : Fin 1024 => x0 (ix2 s k)) fun k => x1 (ix2 k l) := by
  pointwise [val_main_v5]
  rw [v2]
theorem v6 (s : Fin 8192) (l : Fin 2816) : val_main_v6 (F := Ideal) x0 x2 (ix2 s l) = ds (fun k : Fin 1024 => x0 (ix2 s k)) fun k => x2 (ix2 k l) := by
  pointwise [val_main_v6]
  rw [v4]
theorem v9 (s : Fin 8192) (l : Fin 2816) : val_main_v9 (F := Ideal) x0 x1 x2 (ix2 s l)
    = act (ds (fun k : Fin 1024 => x0 (ix2 s k)) fun k => x1 (ix2 k l)) (ds (fun k : Fin 1024 => x0 (ix2 s k)) fun k => x2 (ix2 k l)) := by
  pointwise [val_main_v9, val_main_v8, val_main_v7, val_main_call0_v5, val_main_call0_v4, val_main_call0_cst_0, val_main_call0_v3,
    val_main_call0_v2, val_main_call0_cst, val_main_call0_v1, val_main_call0_v0]
  rw [v2, v4]
  rfl
end

/-- The kernel's three arrays are the reference's. -/
theorem algebraic : Cert.algebraic_UpKernelIdeal_UpReferenceIdeal := by
  pair_intro
  · run_from Cert.UpKernelIdeal.Value.run_blocks m g
  · run_from Cert.UpReferenceIdeal.Value.run m' g'
    · rw [Cert.UpReferenceIdeal.Read.val_main_v5_eq]
      refine Eq.trans (funext fun j => ?_) (final3 m c).symm
      obtain ⟨s, l, rfl⟩ := ix2_split j
      exact v5 _ _ s l
    · rw [Cert.UpReferenceIdeal.Read.val_main_v6_eq]
      refine Eq.trans (funext fun j => ?_) (final4 m c).symm
      obtain ⟨s, l, rfl⟩ := ix2_split j
      exact v6 _ _ s l
    · rw [Cert.UpReferenceIdeal.Read.val_main_v9_eq]
      refine Eq.trans (funext fun j => ?_) (final5 m c).symm
      obtain ⟨s, l, rfl⟩ := ix2_split j
      exact v9 _ _ _ s l

/-- The reference runs, keeps its arguments and leaves every counter at zero. -/
theorem frame_ref : Cert.quiescent_UpReferenceIdeal := fun m ρ _ =>
  (θ_run Cert.UpReferenceIdeal.defs _ _).mono (fun r h => ⟨fun c => (h c).2.2.2, sem_eq_zero_of_no_sems (by decide) r.2⟩)
    (Cert.UpReferenceIdeal.Value.run (F := Ideal) m ρ)

end Cert.Proof.UpClaim

end
-- ==== Proof.DownFinal.lean ====
/-
  The result array of the feed-forward layer's second half after the run: the residual plus the product of the rows with
  the weight.
-/
module

public import Idealize.ShloMosaic.Lib.Pipeline.ValueKit
public import Idealize.ShloMosaic.Lib.Pipeline.ReadBack
public import proofs.«01_k».proof.Proof.Gen.DownKernelIdeal.Value
public import proofs.«01_k».proof.Proof.ActSpec

@[expose] public section

set_option maxRecDepth 16384

noncomputable section

namespace Cert.DownFinal

open Idealize.ShloMosaic Cert.DownKernelIdeal Cert.DownKernelIdeal.Gen Cert.ActSpec
open Idealize.ShloMosaic.TcCoe Idealize.SL.Sem
open Idealize.ShloMosaic.Pipeline (Dat)

/-- The block a run starts from holds zero. -/
theorem pay1 (j : S1024x1024.Idx) : k0_pay1 (F := Ideal) j = 0 := by
  obtain ⟨i, l, rfl⟩ : ∃ (a : Fin 1024) (b : Fin 1024), j = ix2 a b := ⟨j 0, j 1, by funext a; fin_cases a <;> rfl⟩
  pointwise [k0_pay1]

section
variable (X0 : Vec Ideal S1024x1408 .bf16) (X1 : Vec Ideal S1408x1024 .bf16)

/-- A point adds its share of the row's product. -/
theorem pay2 (A : Vec Ideal S1024x1024 .f32) (i l : Fin 1024) :
    k0_pay2 (F := Ideal) A X0 X1 (ix2 i l) = A (ix2 i l) + ds (fun k : Fin 1408 => X0 (ix2 i k)) fun k => X1 (ix2 k l) := by
  pointwise [k0_pay2]
  rfl
/-- The last point adds the residual. -/
theorem pay3 (A R : Vec Ideal S1024x1024 .f32) (i l : Fin 1024) :
    k0_pay3 (F := Ideal) A R (ix2 i l) = A (ix2 i l) + R (ix2 i l) := by
  pointwise [k0_pay3]
end

variable (m : (ℓ : Loc nD τ sig) → Buf (Elt Ideal) ℓ) (c : Dev nD)

/-- The rows. -/
abbrev Sa : Vec Ideal S8192x2816 .bf16 := m ((c : Thread nD τ).loc main_arg0)
/-- The weight. -/
abbrev Wa : Vec Ideal S2816x1024 .bf16 := m ((c : Thread nD τ).loc main_arg1)
/-- The residual. -/
abbrev Xa : Vec Ideal S8192x1024 .f32 := m ((c : Thread nD τ).loc main_arg2)

/-- The windows' block indices at a point (decided). -/
theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

/-- Row `i` of point `t`'s block is a row of the array, -/
theorem row_lt (t : Fin cfg0.N) (i : Fin 1024) : t.val / 2 * 1024 + i.val < 8192 := by
  have h : cfg0.N = 16 := N_0
  have := t.isLt; have := i.isLt; omega
/-- and column `k` of it a column. -/
theorem col_lt (t : Fin cfg0.N) (k : Fin 1408) : t.val % 2 * 1408 + k.val < 2816 := by
  have := k.isLt; omega

theorem iblk0 (t : Fin cfg0.N) (i : Fin 1024) (k : Fin 1408) :
    iblk m c 0 t (ix2 i k) = Sa m c (ix2 ⟨t.val / 2 * 1024 + i.val, row_lt t i⟩ ⟨t.val % 2 * 1408 + k.val, col_lt t k⟩) := by
  blk_ext [iblk, V, idx t]
theorem iblk1 (t : Fin cfg0.N) (k : Fin 1408) (l : Fin 1024) :
    iblk m c 1 t (ix2 k l) = Wa m c (ix2 ⟨t.val % 2 * 1408 + k.val, col_lt t k⟩ l) := by
  blk_ext [iblk, V, idx t]
theorem iblk2 (t : Fin cfg0.N) (i l : Fin 1024) :
    iblk m c 2 t (ix2 i l) = Xa m c (ix2 ⟨t.val / 2 * 1024 + i.val, row_lt t i⟩ l) := by
  blk_ext [iblk, V, idx t]

/-- What a point leaves in the accumulator, case by case. -/
theorem sc_A (t : Fin cfg0.N) (h : t.val % 2 = 0) (i l : Fin 1024) :
    (outsAt0 m c t.val t.isLt).2 (ix2 i l) = ds (fun k : Fin 1408 => iblk m c 0 t (ix2 i k)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 2 = 0) (i l : Fin 1024) :
    (outsAt0 m c t.val t.isLt).2 (ix2 i l) = (outsAt0 m c (t.val - 1) (Nat.lt_of_le_of_lt (Nat.sub_le _ _) t.isLt)).2 (ix2 i l)
      + ds (fun k : Fin 1408 => iblk m c 0 t (ix2 i k)) fun k => iblk m c 1 t (ix2 k l) := by
  rw [outsAt0_B m c t h (by omega)]
  dsimp only
  unfold sout0_B_0
  frame_out
  rw [pay2, read_unread_whole]
/-- At a run's last point the result's block is the accumulator plus the residual. -/
theorem out_B (t : Fin cfg0.N) (h1 : t.val % 2 = 1) (i l : Fin 1024) :
    (outsAt0 m c t.val t.isLt).1 (ix2 i l) = (outsAt0 m c t.val t.isLt).2 (ix2 i l) + iblk m c 2 t (ix2 i l) := by
  rw [outsAt0_B m c t (by omega) h1]
  dsimp only
  unfold sout0_B_0 out0_B_3
  frame_open
  simp (disch := decide) only [↓ View.readCov_skip, ↓ View.readCov_cons_toLoadRect, ↓ View.readCov_fill]
  frame_out
  rw [pay3]

/-- At a run's last point the accumulator holds the whole product. -/
theorem sc_last (t : Fin cfg0.N) (h1 : t.val % 2 = 1) (i l : Fin 1024) :
    (outsAt0 m c t.val t.isLt).2 (ix2 i l)
      = ds (fun k : Fin 2816 => Sa m c (ix2 ⟨t.val / 2 * 1024 + i.val, row_lt t i⟩ k)) fun k => Wa m c (ix2 k l) := by
  refine Eq.trans (Pipeline.eq_sum_fin_of_reset_step_apply_of_flush (fun n hn (p : Fin 1024 × Fin 1024) => (outsAt0 m c n hn).2 (ix2 p.1 p.2)) 2 (fun _ => 0)
    (fun t p => ds (fun k : Fin 1408 => iblk m c 0 t (ix2 p.1 k)) fun k => iblk m c 1 t (ix2 k p.2))
    (fun t h p => (sc_A m c t h p.1 p.2).trans (zero_add _).symm) (fun t h p => sc_B m c t h p.1 p.2) t h1 (i, l)) ?_
  rw [zero_add]
  unfold ds
  refine Fin.sum_mul_add_congr fun s k hl => ?_
  have hs := s.isLt
  have e1 : (2 * (t.val / 2) + s.val) % 2 = s.val := by omega
  have e2 : (2 * (t.val / 2) + s.val) / 2 = t.val / 2 := by omega
  dsimp only
  rw [iblk0, iblk1]
  simp only [e1, e2]

/-- The residual plus the product. -/
def G (S : Vec Ideal S8192x2816 .bf16) (W : Vec Ideal S2816x1024 .bf16) (X : Vec Ideal S8192x1024 .f32) : Vec Ideal S8192x1024 .f32 := fun j =>
  X (ix2 (j 0) (j 1)) + ds (fun k : Fin 2816 => S (ix2 (j 0) k)) fun k => W (ix2 k (j 1))

theorem ix2_split {n l : Nat} (x : (⟨2, ![n, l]⟩ : Shape).Idx) : ∃ (a : Fin n) (b : Fin l), x = ix2 a b :=
  ⟨x 0, x 1, by funext a; fin_cases a <;> rfl⟩

theorem final3 : (dats m 0 c).arrAt 3 cfg0.N = G (Sa m c) (Wa m c) (Xa m c) := by
  refine (dats m 0 c).arrAt_eq_of_covers 3 _ (by decide +kernel) fun t hf y => ?_
  have h1 : t.val % 2 = 1 := (flush0_3 t).mp hf
  blk_simp
  rw [after0_3]
  obtain ⟨i, l, rfl⟩ := ix2_split y
  have he : (win0_3.blk t).view.emb (ix2 i l) = ix2 (⟨t.val / 2 * 1024 + i.val, row_lt t i⟩ : Fin 8192) l := by
    blk_ext [idx t]
  rw [he]
  refine (out_B m c t h1 i l).trans ?_
  rw [sc_last m c t h1 i l, iblk2, add_comm]
  rfl

end Cert.DownFinal

end
-- ==== Proof.DownClaim.lean ====
/-
  The value claim of the feed-forward layer's second half: kernel and reference end in equal arrays.
-/
module

public import proofs.«01_k».proof.Defs
public import Idealize.ShloMosaic.Lib.Claim
public import Idealize.ShloMosaic.Lib.Pointwise
public import proofs.«01_k».proof.Proof.Gen.DownKernelIdeal.Value
public import proofs.«01_k».proof.Proof.Gen.DownReferenceIdeal.Read
public import proofs.«01_k».proof.Proof.Gen.DownReferenceIdeal.Run
public import proofs.«01_k».proof.Proof.DownFinal

@[expose] public section

set_option maxRecDepth 16384

noncomputable section

namespace Cert.Proof.DownClaim

open Idealize.ShloMosaic Cert.DownFinal Cert.ActSpec

section
open Cert.DownReferenceIdeal Cert.DownReferenceIdeal.Gen Cert.DownReferenceIdeal.Read
variable (x0 : Vec Ideal S8192x2816 .bf16) (x1 : Vec Ideal S2816x1024 .bf16) (x2 : Vec Ideal S8192x1024 .f32)

theorem v3 (s : Fin 8192) (l : Fin 1024) : val_main_v3 (F := Ideal) x0 x1 x2 (ix2 s l)
    = x2 (ix2 s l) + ds (fun k : Fin 2816 => x0 (ix2 s k)) fun k => x1 (ix2 k l) := by
  pointwise [val_main_v3, val_main_v2, val_main_v1, val_main_v0]
  rfl
end

/-- The kernel's array is the reference's. -/
theorem algebraic : Cert.algebraic_DownKernelIdeal_DownReferenceIdeal := by
  pair_intro
  · run_from Cert.DownKernelIdeal.Value.run_blocks m g
  · run_from Cert.DownReferenceIdeal.Value.run m' g'
    · rw [Cert.DownReferenceIdeal.Read.val_main_v3_eq]
      refine Eq.trans (funext fun j => ?_) (final3 m c).symm
      obtain ⟨s, l, rfl⟩ := ix2_split j
      exact v3 _ _ _ s l

/-- The reference runs, keeps its arguments and leaves every counter at zero. -/
theorem frame_ref : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

end Cert.Proof.DownClaim

end
-- ==== Proof.Products.lean ====
/-
  Products of matrices over the extended reals, for the calls that compute one: rows by columns, rows by rows, columns by
  columns; and what an accumulator holds after a run of sixteen grid points, each of which adds the products of its own
  rows.
-/
module

public import Idealize.ShloMosaic.Lib.Pipeline.ValueKit
public import Idealize.ShloMosaic.Lib.Pipeline.ReadBack
public import proofs.«01_k».proof.Proof.ActSpec

@[expose] public section

noncomputable section

namespace Cert.Products

open Idealize.ShloMosaic Cert.ActSpec

/-- An index of a matrix is its row and its column. -/
theorem ix2_split {n l : Nat} (x : (⟨2, ![n, l]⟩ : Shape).Idx) : ∃ (a : Fin n) (b : Fin l), x = ix2 a b :=
  ⟨x 0, x 1, by funext a; fin_cases a <;> rfl⟩

/-- A matrix of extended reals. -/
abbrev Mat (a b : Nat) : Type := (⟨2, ![a, b]⟩ : Shape).Idx → EReal

section
variable {a k b : Nat}

/-- Rows of the first by columns of the second. -/
def nn (X : Mat a k) (W : Mat k b) : Mat a b := fun j => ds (fun i : Fin k => X (ix2 (j 0) i)) fun i => W (ix2 i (j 1))
/-- Rows by rows. -/
def nt (X : Mat a k) (W : Mat b k) : Mat a b := fun j => ds (fun i : Fin k => X (ix2 (j 0) i)) fun i => W (ix2 (j 1) i)
/-- Columns by columns. -/
def tn (X : Mat k a) (W : Mat k b) : Mat a b := fun j => ds (fun i : Fin k => X (ix2 i (j 0))) fun i => W (ix2 i (j 1))

/-- The columns of the second by those of the first, transposed. -/
theorem tn_comm (X : Mat k a) (W : Mat k b) (i : Fin a) (l : Fin b) : tn W X (ix2 l i) = tn X W (ix2 i l) := by
  unfold tn ds
  exact Finset.sum_congr rfl fun k _ => mul_comm _ _
end

/-- An accumulator that a run's first point sets to its own 512 rows' products, and every later point adds its own to,
holds after the run's last point the products of all 8192 rows; `r` says which columns of the second a run reads. -/
theorem run_tn {N a b B : Nat} (f : (n : Nat) → n < N → Mat a b) (X : Mat 8192 a) (W : Mat 8192 B)
    (x : Fin N → Mat 512 a) (w : Fin N → Mat 512 b)
    (r : Fin N → Fin b → Fin B) (hr : ∀ t u : Fin N, t.val / 16 = u.val / 16 → r t = r u)
    (hx : ∀ t k i, x t (ix2 k i) = X (ix2 ⟨t.val % 16 * 512 + k.val, by have := k.isLt; omega⟩ i))
    (hw : ∀ t k l, w t (ix2 k l) = W (ix2 ⟨t.val % 16 * 512 + k.val, by have := k.isLt; omega⟩ (r t l)))
    (h0 : ∀ t : Fin N, t.val % 16 = 0 → ∀ i l, f t.val t.isLt (ix2 i l)
      = ds (fun k : Fin 512 => x t (ix2 k i)) fun k => w t (ix2 k l))
    (hs : ∀ t : Fin N, ¬t.val % 16 = 0 → ∀ i l, f t.val t.isLt (ix2 i l)
      = f (t.val - 1) (Nat.lt_of_le_of_lt (Nat.sub_le _ _) t.isLt) (ix2 i l) + ds (fun k : Fin 512 => x t (ix2 k i)) fun k => w t (ix2 k l))
    (t : Fin N) (h1 : t.val % 16 = 15) (i : Fin a) (l : Fin b) :
    f t.val t.isLt (ix2 i l) = tn X W (ix2 i (r t l)) := by
  refine Eq.trans (Pipeline.eq_sum_fin_of_reset_step_apply_of_flush (fun n hn (p : Fin a × Fin b) => f n hn (ix2 p.1 p.2)) 16 (fun _ => 0)
    (fun t p => ds (fun k : Fin 512 => x t (ix2 k p.1)) fun k => w t (ix2 k p.2))
    (fun t h p => (h0 t h p.1 p.2).trans (zero_add _).symm) (fun t h p => hs t h p.1 p.2) t h1 (i, l)) ?_
  rw [zero_add]
  show _ = ∑ k : Fin 8192, X (ix2 k i) * W (ix2 k (r t l))
  unfold ds
  refine Fin.sum_mul_add_congr fun s k hl => ?_
  have hs := s.isLt
  have e1 : (16 * (t.val / 16) + s.val) % 16 = s.val := by omega
  have e2 : (16 * (t.val / 16) + s.val) / 16 = t.val / 16 := by omega
  dsimp only
  rw [hx, hw, hr _ t e2]
  simp only [e1]

end Cert.Products

end
-- ==== Proof.IneClaim.lean ====
/-
  The first product of an even layer (e_in): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.IneKernelIdeal.Value
public import proofs.«01_k».proof.Proof.Gen.IneReferenceIdeal.Read
public import proofs.«01_k».proof.Proof.Gen.IneReferenceIdeal.Run
public import proofs.«01_k».proof.Proof.Products

@[expose] public section

set_option maxRecDepth 16384

noncomputable section

namespace Cert.Proof.IneClaim

open Idealize.ShloMosaic Cert.ActSpec Cert.Products

section
open Cert.IneKernelIdeal Cert.IneKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x896.Idx) : k0_pay1 (F := Ideal) j = 0 := by
  obtain ⟨i, l, rfl⟩ := ix2_split j
  pointwise [k0_pay1]
/-- and gains the products of its rows. -/
theorem pay2 (A : Vec Ideal S1024x896 .f32) (X : Vec Ideal S1024x1024 .bf16) (W : Vec Ideal S1024x896 .bf16) (i : Fin 1024) (l : Fin 896) :
    k0_pay2 (F := Ideal) A X W (ix2 i l) = A (ix2 i l) + ds (fun k : Fin 1024 => X (ix2 i k)) fun k => W (ix2 k l) := by
  pointwise [k0_pay2]
  rfl

/-- The rows. -/
abbrev Ha : Vec Ideal S8192x1024 .bf16 := m ((c : Thread nD τ).loc main_arg0)
/-- The weight. -/
abbrev Wa : Vec Ideal S1024x2688 .bf16 := m ((c : Thread nD τ).loc main_arg1)

/-- The windows' block indices at a point (decided). -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- Row `i` of point `t`'s block is a row of the array, -/
theorem row_lt (t : Fin cfg0.N) (i : Fin 1024) : t.val % 8 * 1024 + i.val < 8192 := by
  have := i.isLt; omega
/-- and column `l` of it a column. -/
theorem col_lt (t : Fin cfg0.N) (l : Fin 896) : t.val / 8 * 896 + l.val < 2688 := by
  have h : cfg0.N = 24 := N_0
  have := t.isLt; have := l.isLt; omega

theorem iblk0 (t : Fin cfg0.N) (i : Fin 1024) (k : Fin 1024) :
    iblk m c 0 t (ix2 i k) = Ha m c (ix2 ⟨t.val % 8 * 1024 + i.val, row_lt t i⟩ k) := by
  blk_ext [iblk, V, idx t]
theorem iblk1 (t : Fin cfg0.N) (k : Fin 1024) (l : Fin 896) :
    iblk m c 1 t (ix2 k l) = Wa m c (ix2 k ⟨t.val / 8 * 896 + l.val, col_lt t l⟩) := by
  blk_ext [iblk, V, idx t]

/-- What a point leaves in the result's block. -/
theorem out (t : Fin cfg0.N) (i : Fin 1024) (l : Fin 896) :
    outsAt0 m c t (ix2 i l) = ds (fun k : Fin 1024 => iblk m c 0 t (ix2 i k)) fun k => iblk m c 1 t (ix2 k l) := by
  unfold outsAt0 out0_A_2
  frame_open
  simp (disch := decide) only [↓ View.readCov_skip, ↓ View.readCov_cons_toLoadRect, ↓ View.readCov_fill]
  frame_out
  rw [pay2, pay1, zero_add]

theorem final : (dats m 0 c).arrAt 2 cfg0.N = nn (Ha m c) (Wa m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val % 8 * 1024 + i.val, row_lt t i⟩ : Fin 8192) (⟨t.val / 8 * 896 + l.val, col_lt t l⟩ : Fin 2688) := by
    blk_ext [idx t]
  rw [he]
  refine (out m c t i l).trans ?_
  simp only [iblk0, iblk1]
  rfl
end

section
open Cert.IneReferenceIdeal Cert.IneReferenceIdeal.Gen Cert.IneReferenceIdeal.Read
variable (x0 : Vec Ideal S8192x1024 .bf16) (x1 : Vec Ideal S1024x2688 .bf16)

theorem ref : val_main_v2 (F := Ideal) x0 x1 = nn x0 x1 := by
  funext j
  obtain ⟨s, l, rfl⟩ := ix2_split j
  pointwise [val_main_v2, val_main_v1, val_main_v0]
  rfl
end

/-- The kernel's array is the reference's. -/
theorem algebraic : Cert.algebraic_IneKernelIdeal_IneReferenceIdeal := by
  pair_intro
  · run_from Cert.IneKernelIdeal.Value.run_blocks m g
  · run_from Cert.IneReferenceIdeal.Value.run m' g'
    · exact ((Cert.IneReferenceIdeal.Read.val_main_v2_eq _ _).trans (ref _ _)).trans (final m c).symm

/-- The reference runs, keeps its arguments and leaves every counter at zero. -/
theorem frame_ref : Cert.quiescent_IneReferenceIdeal := fun m ρ _ =>
  (θ_run Cert.IneReferenceIdeal.defs _ _).mono (fun r h => ⟨fun c => (h c).2, sem_eq_zero_of_no_sems (by decide) r.2⟩)
    (Cert.IneReferenceIdeal.Value.run (F := Ideal) m ρ)

end Cert.Proof.IneClaim

end
-- ==== Proof.InoClaim.lean ====
/-
  The first product of an odd layer (o_in): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.InoKernelIdeal.Value
public import proofs.«01_k».proof.Proof.Gen.InoReferenceIdeal.Read
public import proofs.«01_k».proof.Proof.Gen.InoReferenceIdeal.Run
public import proofs.«01_k».proof.Proof.Products

@[expose] public section

set_option maxRecDepth 16384

noncomputable section

namespace Cert.Proof.InoClaim

open Idealize.ShloMosaic Cert.ActSpec Cert.Products

section
open Cert.InoKernelIdeal Cert.InoKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x1024.Idx) : k0_pay1 (F := Ideal) j = 0 := by
  obtain ⟨i, l, rfl⟩ := ix2_split j
  pointwise [k0_pay1]
/-- and gains the products of its rows. -/
theorem pay2 (A : Vec Ideal S1024x1024 .f32) (X : Vec Ideal S1024x1024 .bf16) (W : Vec Ideal S1024x1024 .bf16) (i : Fin 1024) (l : Fin 1024) :
    k0_pay2 (F := Ideal) A X W (ix2 i l) = A (ix2 i l) + ds (fun k : Fin 1024 => X (ix2 i k)) fun k => W (ix2 k l) := by
  pointwise [k0_pay2]
  rfl

/-- The rows. -/
abbrev Ha : Vec Ideal S8192x1024 .bf16 := m ((c : Thread nD τ).loc main_arg0)
/-- The weight. -/
abbrev Wa : Vec Ideal S1024x2048 .bf16 := m ((c : Thread nD τ).loc main_arg1)

/-- The windows' block indices at a point (decided). -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- Row `i` of point `t`'s block is a row of the array, -/
theorem row_lt (t : Fin cfg0.N) (i : Fin 1024) : t.val % 8 * 1024 + i.val < 8192 := by
  have := i.isLt; omega
/-- and column `l` of it a column. -/
theorem col_lt (t : Fin cfg0.N) (l : Fin 1024) : t.val / 8 * 1024 + l.val < 2048 := by
  have h : cfg0.N = 16 := N_0
  have := t.isLt; have := l.isLt; omega

theorem iblk0 (t : Fin cfg0.N) (i : Fin 1024) (k : Fin 1024) :
    iblk m c 0 t (ix2 i k) = Ha m c (ix2 ⟨t.val % 8 * 1024 + i.val, row_lt t i⟩ k) := by
  blk_ext [iblk, V, idx t]
theorem iblk1 (t : Fin cfg0.N) (k : Fin 1024) (l : Fin 1024) :
    iblk m c 1 t (ix2 k l) = Wa m c (ix2 k ⟨t.val / 8 * 1024 + l.val, col_lt t l⟩) := by
  blk_ext [iblk, V, idx t]

/-- What a point leaves in the result's block. -/
theorem out (t : Fin cfg0.N) (i : Fin 1024) (l : Fin 1024) :
    outsAt0 m c t (ix2 i l) = ds (fun k : Fin 1024 => iblk m c 0 t (ix2 i k)) fun k => iblk m c 1 t (ix2 k l) := by
  unfold outsAt0 out0_A_2
  frame_open
  simp (disch := decide) only [↓ View.readCov_skip, ↓ View.readCov_cons_toLoadRect, ↓ View.readCov_fill]
  frame_out
  rw [pay2, pay1, zero_add]

theorem final : (dats m 0 c).arrAt 2 cfg0.N = nn (Ha m c) (Wa m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val % 8 * 1024 + i.val, row_lt t i⟩ : Fin 8192) (⟨t.val / 8 * 1024 + l.val, col_lt t l⟩ : Fin 2048) := by
    blk_ext [idx t]
  rw [he]
  refine (out m c t i l).trans ?_
  simp only [iblk0, iblk1]
  rfl
end

section
open Cert.InoReferenceIdeal Cert.InoReferenceIdeal.Gen Cert.InoReferenceIdeal.Read
variable (x0 : Vec Ideal S8192x1024 .bf16) (x1 : Vec Ideal S1024x2048 .bf16)

theorem ref : val_main_v2 (F := Ideal) x0 x1 = nn x0 x1 := by
  funext j
  obtain ⟨s, l, rfl⟩ := ix2_split j
  pointwise [val_main_v2, val_main_v1, val_main_v0]
  rfl
end

/-- The kernel's array is the reference's. -/
theorem algebraic : Cert.algebraic_InoKernelIdeal_InoReferenceIdeal := by
  pair_intro
  · run_from Cert.InoKernelIdeal.Value.run_blocks m g
  · run_from Cert.InoReferenceIdeal.Value.run m' g'
    · exact ((Cert.InoReferenceIdeal.Read.val_main_v2_eq _ _).trans (ref _ _)).trans (final m c).symm

/-- The reference runs, keeps its arguments and leaves every counter at zero. -/
theorem frame_ref : Cert.quiescent_InoReferenceIdeal := fun m ρ _ =>
  (θ_run Cert.InoReferenceIdeal.defs _ _).mono (fun r h => ⟨fun c => (h c).2, sem_eq_zero_of_no_sems (by decide) r.2⟩)
    (Cert.InoReferenceIdeal.Value.run (F := Ideal) m ρ)

end Cert.Proof.InoClaim

end
-- ==== Proof.XqClaim.lean ====
/-
  The queries' product of the cross attention (xa_q): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.XqKernelIdeal.Value
public import proofs.«01_k».proof.Proof.Gen.XqReferenceIdeal.Read
public import proofs.«01_k».proof.Proof.Gen.XqReferenceIdeal.Run
public import proofs.«01_k».proof.Proof.Products

@[expose] public section

set_option maxRecDepth 16384

noncomputable section

namespace Cert.Proof.XqClaim

open Idealize.ShloMosaic Cert.ActSpec Cert.Products

section
open Cert.XqKernelIdeal Cert.XqKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x512.Idx) : k0_pay1 (F := Ideal) j = 0 := by
  obtain ⟨i, l, rfl⟩ := ix2_split j
  pointwise [k0_pay1]
/-- and gains the products of its rows. -/
theorem pay2 (A : Vec Ideal S1024x512 .f32) (X : Vec Ideal S1024x1024 .bf16) (W : Vec Ideal S1024x512 .bf16) (i : Fin 1024) (l : Fin 512) :
    k0_pay2 (F := Ideal) A X W (ix2 i l) = A (ix2 i l) + ds (fun k : Fin 1024 => X (ix2 i k)) fun k => W (ix2 k l) := by
  pointwise [k0_pay2]
  rfl

/-- The rows. -/
abbrev Ha : Vec Ideal S8192x1024 .bf16 := m ((c : Thread nD τ).loc main_arg0)
/-- The weight. -/
abbrev Wa : Vec Ideal S1024x512 .bf16 := m ((c : Thread nD τ).loc main_arg1)

/-- The windows' block indices at a point (decided). -/
theorem idx : ∀ t : Fin cfg0.N, win0_0.index t = ![t.val, 0] ∧ win0_1.index t = ![0, 0]
    ∧ win0_2.index t = ![t.val, 0] :=
  (by decide +kernel : ∀ t : Fin grid0.N, _)

/-- Row `i` of point `t`'s block is a row of the array. -/
theorem row_lt (t : Fin cfg0.N) (i : Fin 1024) : t.val * 1024 + i.val < 8192 := by
  have h : cfg0.N = 8 := N_0
  have := t.isLt; have := i.isLt; omega

theorem iblk0 (t : Fin cfg0.N) (i : Fin 1024) (k : Fin 1024) :
    iblk m c 0 t (ix2 i k) = Ha m c (ix2 ⟨t.val * 1024 + i.val, row_lt t i⟩ k) := by
  blk_ext [iblk, V, idx t]
theorem iblk1 (t : Fin cfg0.N) (k : Fin 1024) (l : Fin 512) :
    iblk m c 1 t (ix2 k l) = Wa m c (ix2 k l) := by
  blk_ext [iblk, V, idx t]

/-- What a point leaves in the result's block. -/
theorem out (t : Fin cfg0.N) (i : Fin 1024) (l : Fin 512) :
    outsAt0 m c t (ix2 i l) = ds (fun k : Fin 1024 => iblk m c 0 t (ix2 i k)) fun k => iblk m c 1 t (ix2 k l) := by
  unfold outsAt0 out0_A_2
  frame_open
  simp (disch := decide) only [↓ View.readCov_skip, ↓ View.readCov_cons_toLoadRect, ↓ View.readCov_fill]
  frame_out
  rw [pay2, pay1, zero_add]

theorem final : (dats m 0 c).arrAt 2 cfg0.N = nn (Ha m c) (Wa m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val * 1024 + i.val, row_lt t i⟩ : Fin 8192) l := by
    blk_ext [idx t]
  rw [he]
  refine (out m c t i l).trans ?_
  simp only [iblk0, iblk1]
  rfl
end

section
open Cert.XqReferenceIdeal Cert.XqReferenceIdeal.Gen Cert.XqReferenceIdeal.Read
variable (x0 : Vec Ideal S8192x1024 .bf16) (x1 : Vec Ideal S1024x512 .bf16)

theorem ref : val_main_v2 (F := Ideal) x0 x1 = nn x0 x1 := by
  funext j
  obtain ⟨s, l, rfl⟩ := ix2_split j
  pointwise [val_main_v2, val_main_v1, val_main_v0]
  rfl
end

/-- The kernel's array is the reference's. -/
theorem algebraic : Cert.algebraic_XqKernelIdeal_XqReferenceIdeal := by
  pair_intro
  · run_from Cert.XqKernelIdeal.Value.run_blocks m g
  · run_from Cert.XqReferenceIdeal.Value.run m' g'
    · exact ((Cert.XqReferenceIdeal.Read.val_main_v2_eq _ _).trans (ref _ _)).trans (final m c).symm

/-- The reference runs, keeps its arguments and leaves every counter at zero. -/
theorem frame_ref : Cert.quiescent_XqReferenceIdeal := fun m ρ _ =>
  (θ_run Cert.XqReferenceIdeal.defs _ _).mono (fun r h => ⟨fun c => (h c).2, sem_eq_zero_of_no_sems (by decide) r.2⟩)
    (Cert.XqReferenceIdeal.Value.run (F := Ideal) m ρ)

end Cert.Proof.XqClaim

end
-- ==== Proof.OuteClaim.lean ====
/-
  An even layer's output product and residual (e_out): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.OuteKernelIdeal.Value
public import proofs.«01_k».proof.Proof.Gen.OuteReferenceIdeal.Read
public import proofs.«01_k».proof.Proof.Gen.OuteReferenceIdeal.Run
public import proofs.«01_k».proof.Proof.Products

@[expose] public section

set_option maxRecDepth 16384

noncomputable section

namespace Cert.Proof.OuteClaim

open Idealize.ShloMosaic Cert.ActSpec Cert.Products

/-- The product of two half rows with the two halves of a weight's rows, and the residual. -/
def halves (Y Z : Mat 8192 512) (W : Mat 1024 1024) (X : Mat 8192 1024) : Mat 8192 1024 := fun j =>
  X (ix2 (j 0) (j 1)) + ((ds (fun k : Fin 512 => Y (ix2 (j 0) k)) fun k => W (ix2 (Fin.castAdd 512 k) (j 1)))
    + ds (fun k : Fin 512 => Z (ix2 (j 0) k)) fun k => W (ix2 (Fin.natAdd 512 k) (j 1)))

section
open Cert.OuteKernelIdeal Cert.OuteKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero, -/
theorem pay1 (j : S1024x1024.Idx) : k0_pay1 (F := Ideal) j = 0 := by
  obtain ⟨i, l, rfl⟩ := ix2_split j
  pointwise [k0_pay1]
/-- gains the products of one half of its rows -/
theorem pay2 (A : Vec Ideal S1024x1024 .f32) (X : Vec Ideal S1024x512 .bf16) (W : Vec Ideal S512x1024 .bf16) (i : Fin 1024) (l : Fin 1024) :
    k0_pay2 (F := Ideal) A X W (ix2 i l) = A (ix2 i l) + ds (fun k : Fin 512 => X (ix2 i k)) fun k => W (ix2 k l) := by
  pointwise [k0_pay2]
  rfl
/-- and those of the other. -/
theorem pay3 (A : Vec Ideal S1024x1024 .f32) (X : Vec Ideal S1024x512 .bf16) (W : Vec Ideal S512x1024 .bf16) (i : Fin 1024) (l : Fin 1024) :
    k0_pay3 (F := Ideal) A X W (ix2 i l) = A (ix2 i l) + ds (fun k : Fin 512 => X (ix2 i k)) fun k => W (ix2 k l) := by
  pointwise [k0_pay3]
  rfl
/-- The block written back is the sum and the block of the residual. -/
theorem pay4 (A X : Vec Ideal S1024x1024 .f32) (j : S1024x1024.Idx) : k0_pay4 (F := Ideal) A X j = A j + X j := by
  obtain ⟨i, l, rfl⟩ := ix2_split j
  pointwise [k0_pay4]

/-- One half of the rows. -/
abbrev Ya : Vec Ideal S8192x512 .bf16 := m ((c : Thread nD τ).loc main_arg0)
/-- The other half. -/
abbrev Za : Vec Ideal S8192x512 .bf16 := m ((c : Thread nD τ).loc main_arg1)
/-- The weight. -/
abbrev Wa : Vec Ideal S1024x1024 .bf16 := m ((c : Thread nD τ).loc main_arg2)
/-- The residual. -/
abbrev Xa : Vec Ideal S8192x1024 .f32 := m ((c : Thread nD τ).loc main_arg3)

/-- The windows' block indices at a point (decided). -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, _)

/-- Row `i` of point `t`'s block is a row of the array. -/
theorem row_lt (t : Fin cfg0.N) (i : Fin 1024) : t.val * 1024 + i.val < 8192 := by
  have h : cfg0.N = 8 := N_0
  have := t.isLt; have := i.isLt; omega

theorem iblk0 (t : Fin cfg0.N) (i : Fin 1024) (k : Fin 512) :
    iblk m c 0 t (ix2 i k) = Ya m c (ix2 ⟨t.val * 1024 + i.val, row_lt t i⟩ k) := by
  blk_ext [iblk, V, idx t]
theorem iblk1 (t : Fin cfg0.N) (k : Fin 512) (l : Fin 1024) :
    iblk m c 1 t (ix2 k l) = Wa m c (ix2 (Fin.castAdd 512 k) l) := by
  blk_ext! [iblk, V, idx t]
  rfl
theorem iblk2 (t : Fin cfg0.N) (i : Fin 1024) (k : Fin 512) :
    iblk m c 2 t (ix2 i k) = Za m c (ix2 ⟨t.val * 1024 + i.val, row_lt t i⟩ k) := by
  blk_ext [iblk, V, idx t]
theorem iblk3 (t : Fin cfg0.N) (k : Fin 512) (l : Fin 1024) :
    iblk m c 3 t (ix2 k l) = Wa m c (ix2 (Fin.natAdd 512 k) l) := by
  blk_ext! [iblk, V, idx t]
  rfl
theorem iblk4 (t : Fin cfg0.N) (i : Fin 1024) (l : Fin 1024) :
    iblk m c 4 t (ix2 i l) = Xa m c (ix2 ⟨t.val * 1024 + i.val, row_lt t i⟩ l) := by
  blk_ext [iblk, V, idx t]

/-- What a point leaves in the result's block. -/
theorem out (t : Fin cfg0.N) (i : Fin 1024) (l : Fin 1024) :
    outsAt0 m c t (ix2 i l) = ((ds (fun k : Fin 512 => iblk m c 0 t (ix2 i k)) fun k => iblk m c 1 t (ix2 k l))
      + ds (fun k : Fin 512 => iblk m c 2 t (ix2 i k)) fun k => iblk m c 3 t (ix2 k l))
      + iblk m c 4 t (ix2 i l) := by
  unfold outsAt0 out0_A_5
  frame_open
  simp (disch := decide) only [↓ View.readCov_skip, ↓ View.readCov_cons_toLoadRect, ↓ View.readCov_fill]
  frame_out
  rw [pay4, pay3, pay2, pay1, zero_add]

theorem final : (dats m 0 c).arrAt 5 cfg0.N = halves (Ya m c) (Za m c) (Wa m c) (Xa m c) := by
  refine (dats m 0 c).arrAt_eq_of_covers 5 _ (by decide +kernel) fun t hf y => ?_
  blk_simp
  rw [after0_5]
  obtain ⟨i, l, rfl⟩ := ix2_split y
  have he : (win0_5.blk t).view.emb (ix2 i l) = ix2 (⟨t.val * 1024 + i.val, row_lt t i⟩ : Fin 8192) l := by
    blk_ext [idx t]
  rw [he]
  refine (out m c t i l).trans ?_
  simp only [iblk0, iblk1, iblk2, iblk3, iblk4]
  exact add_comm _ _
end

section
open Cert.OuteReferenceIdeal Cert.OuteReferenceIdeal.Gen Cert.OuteReferenceIdeal.Read
variable (x0 x1 : Vec Ideal S8192x512 .bf16) (x2 : Vec Ideal S1024x1024 .bf16) (x3 : Vec Ideal S8192x1024 .f32)

/-- The joined rows, in their first half -/
theorem v2_left (s : Fin 8192) (k : Fin 512) : val_main_v2 (F := Ideal) x0 x1 (ix2 s (Fin.castAdd 512 k)) = x0 (ix2 s k) := by
  unfold val_main_v2
  refine (concatenate_pair_apply_left 1 _ _ concatenates_S8192x512_S8192x512_S8192x1024_d1 (ix2 s (Fin.castAdd 512 k)) rfl (ix2 s k)
    fun b => ?_).trans ?_
  · fin_cases b <;> rfl
  · rfl
/-- and in their second. -/
theorem v2_right (s : Fin 8192) (k : Fin 512) : val_main_v2 (F := Ideal) x0 x1 (ix2 s (Fin.natAdd 512 k)) = x1 (ix2 s k) := by
  unfold val_main_v2
  refine (concatenate_pair_apply_right 1 _ _ concatenates_S8192x512_S8192x512_S8192x1024_d1 (ix2 s (Fin.natAdd 512 k)) rfl rfl (ix2 s k)
    (fun b hb => ?_) ?_).trans ?_
  · fin_cases b
    · rfl
    · exact absurd rfl hb
  · exact Nat.add_comm k.val 512
  · rfl

theorem ref : val_main_v5 (F := Ideal) x0 x1 x2 x3 = halves x0 x1 x2 x3 := by
  funext j
  obtain ⟨s, l, rfl⟩ := ix2_split j
  pointwise [val_main_v5, val_main_v4, val_main_v3]
  refine congrArg (x3 (ix2 s l) + ·) ((Fin.sum_univ_add (a := 512) (b := 512) _).trans ?_)
  simp only [v2_left, v2_right]
  rfl
end

/-- The kernel's array is the reference's. -/
theorem algebraic : Cert.algebraic_OuteKernelIdeal_OuteReferenceIdeal := by
  pair_intro
  · run_from Cert.OuteKernelIdeal.Value.run_blocks m g
  · run_from Cert.OuteReferenceIdeal.Value.run m' g'
    · exact ((Cert.OuteReferenceIdeal.Read.val_main_v5_eq _ _ _ _).trans (ref _ _ _ _)).trans (final m c).symm

/-- The reference runs, keeps its arguments and leaves every counter at zero. -/
theorem frame_ref : Cert.quiescent_OuteReferenceIdeal := fun m ρ _ =>
  (θ_run Cert.OuteReferenceIdeal.defs _ _).mono (fun r h => ⟨fun c => (h c).2, sem_eq_zero_of_no_sems (by decide) r.2⟩)
    (Cert.OuteReferenceIdeal.Value.run (F := Ideal) m ρ)

end Cert.Proof.OuteClaim

end
-- ==== Proof.OutoClaim.lean ====
/-
  An odd layer's output product and residual (o_out): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.OutoKernelIdeal.Value
public import proofs.«01_k».proof.Proof.Gen.OutoReferenceIdeal.Read
public import proofs.«01_k».proof.Proof.Gen.OutoReferenceIdeal.Run
public import proofs.«01_k».proof.Proof.Products

@[expose] public section

set_option maxRecDepth 16384

noncomputable section

namespace Cert.Proof.OutoClaim

open Idealize.ShloMosaic Cert.ActSpec Cert.Products

section
open Cert.OutoKernelIdeal Cert.OutoKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x1024.Idx) : k0_pay1 (F := Ideal) j = 0 := by
  obtain ⟨i, l, rfl⟩ := ix2_split j
  pointwise [k0_pay1]
/-- and gains the products of its rows. -/
theorem pay2 (A : Vec Ideal S1024x1024 .f32) (X : Vec Ideal S1024x1024 .bf16) (W : Vec Ideal S1024x1024 .bf16) (i : Fin 1024) (l : Fin 1024) :
    k0_pay2 (F := Ideal) A X W (ix2 i l) = A (ix2 i l) + ds (fun k : Fin 1024 => X (ix2 i k)) fun k => W (ix2 k l) := by
  pointwise [k0_pay2]
  rfl
/-- The block written back is the sum and the block of the residual, -/
theorem pay3 (A X : Vec Ideal S1024x1024 .f32) (j : S1024x1024.Idx) : k0_pay3 (F := Ideal) A X j = A j + X j := by
  obtain ⟨i, l, rfl⟩ := ix2_split j
  pointwise [k0_pay3]

/-- The rows. -/
abbrev Ha : Vec Ideal S8192x1024 .bf16 := m ((c : Thread nD τ).loc main_arg0)
/-- The weight. -/
abbrev Wa : Vec Ideal S1024x1024 .bf16 := m ((c : Thread nD τ).loc main_arg1)
/-- The residual. -/
abbrev Xa : Vec Ideal S8192x1024 .f32 := m ((c : Thread nD τ).loc main_arg2)

/-- The windows' block indices at a point (decided). -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- Row `i` of point `t`'s block is a row of the array. -/
theorem row_lt (t : Fin cfg0.N) (i : Fin 1024) : t.val * 1024 + i.val < 8192 := by
  have h : cfg0.N = 8 := N_0
  have := t.isLt; have := i.isLt; omega

theorem iblk0 (t : Fin cfg0.N) (i : Fin 1024) (k : Fin 1024) :
    iblk m c 0 t (ix2 i k) = Ha m c (ix2 ⟨t.val * 1024 + i.val, row_lt t i⟩ k) := by
  blk_ext [iblk, V, idx t]
theorem iblk1 (t : Fin cfg0.N) (k : Fin 1024) (l : Fin 1024) :
    iblk m c 1 t (ix2 k l) = Wa m c (ix2 k l) := by
  blk_ext [iblk, V, idx t]
theorem iblk2 (t : Fin cfg0.N) (i : Fin 1024) (l : Fin 1024) :
    iblk m c 2 t (ix2 i l) = Xa m c (ix2 ⟨t.val * 1024 + i.val, row_lt t i⟩ l) := by
  blk_ext [iblk, V, idx t]

/-- What a point leaves in the result's block. -/
theorem out (t : Fin cfg0.N) (i : Fin 1024) (l : Fin 1024) :
    outsAt0 m c t (ix2 i l) = (ds (fun k : Fin 1024 => iblk m c 0 t (ix2 i k)) fun k => iblk m c 1 t (ix2 k l))
      + iblk m c 2 t (ix2 i l) := by
  unfold outsAt0 out0_A_3
  frame_open
  simp (disch := decide) only [↓ View.readCov_skip, ↓ View.readCov_cons_toLoadRect, ↓ View.readCov_fill]
  frame_out
  rw [pay3, pay2, pay1, zero_add]

theorem final : (dats m 0 c).arrAt 3 cfg0.N = fun j => Xa m c j + nn (Ha m c) (Wa m c) j := by
  refine (dats m 0 c).arrAt_eq_of_covers 3 _ (by decide +kernel) fun t hf y => ?_
  blk_simp
  rw [after0_3]
  obtain ⟨i, l, rfl⟩ := ix2_split y
  have he : (win0_3.blk t).view.emb (ix2 i l) = ix2 (⟨t.val * 1024 + i.val, row_lt t i⟩ : Fin 8192) l := by
    blk_ext [idx t]
  rw [he]
  refine (out m c t i l).trans ?_
  simp only [iblk0, iblk1, iblk2]
  exact add_comm _ _
end

section
open Cert.OutoReferenceIdeal Cert.OutoReferenceIdeal.Gen Cert.OutoReferenceIdeal.Read
variable (x0 : Vec Ideal S8192x1024 .bf16) (x1 : Vec Ideal S1024x1024 .bf16) (x2 : Vec Ideal S8192x1024 .f32)

theorem ref : val_main_v3 (F := Ideal) x0 x1 x2 = fun j => x2 j + nn x0 x1 j := by
  funext j
  obtain ⟨s, l, rfl⟩ := ix2_split j
  pointwise [val_main_v3, val_main_v2, val_main_v1, val_main_v0]
  rfl
end

/-- The kernel's array is the reference's. -/
theorem algebraic : Cert.algebraic_OutoKernelIdeal_OutoReferenceIdeal := by
  pair_intro
  · run_from Cert.OutoKernelIdeal.Value.run_blocks m g
  · run_from Cert.OutoReferenceIdeal.Value.run m' g'
    · exact ((Cert.OutoReferenceIdeal.Read.val_main_v3_eq _ _ _).trans (ref _ _ _)).trans (final m c).symm

/-- The reference runs, keeps its arguments and leaves every counter at zero. -/
theorem frame_ref : Cert.quiescent_OutoReferenceIdeal := fun m ρ _ =>
  (θ_run Cert.OutoReferenceIdeal.defs _ _).mono (fun r h => ⟨fun c => (h c).2, sem_eq_zero_of_no_sems (by decide) r.2⟩)
    (Cert.OutoReferenceIdeal.Value.run (F := Ideal) m ρ)

end Cert.Proof.OutoClaim

end
-- ==== Proof.XoClaim.lean ====
/-
  The cross attention's output product and residual (xa_o): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.XoKernelIdeal.Value
public import proofs.«01_k».proof.Proof.Gen.XoReferenceIdeal.Read
public import proofs.«01_k».proof.Proof.Gen.XoReferenceIdeal.Run
public import proofs.«01_k».proof.Proof.Products

@[expose] public section

set_option maxRecDepth 16384

noncomputable section

namespace Cert.Proof.XoClaim

open Idealize.ShloMosaic Cert.ActSpec Cert.Products

section
open Cert.XoKernelIdeal Cert.XoKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x1024.Idx) : k0_pay1 (F := Ideal) j = 0 := by
  obtain ⟨i, l, rfl⟩ := ix2_split j
  pointwise [k0_pay1]
/-- and gains the products of its rows. -/
theorem pay2 (A : Vec Ideal S1024x1024 .f32) (X : Vec Ideal S1024x512 .bf16) (W : Vec Ideal S512x1024 .bf16) (i : Fin 1024) (l : Fin 1024) :
    k0_pay2 (F := Ideal) A X W (ix2 i l) = A (ix2 i l) + ds (fun k : Fin 512 => X (ix2 i k)) fun k => W (ix2 k l) := by
  pointwise [k0_pay2]
  rfl
/-- The block written back is the sum and the block of the residual, -/
theorem pay3 (A X : Vec Ideal S1024x1024 .f32) (j : S1024x1024.Idx) : k0_pay3 (F := Ideal) A X j = A j + X j := by
  obtain ⟨i, l, rfl⟩ := ix2_split j
  pointwise [k0_pay3]

/-- The rows. -/
abbrev Ha : Vec Ideal S8192x512 .bf16 := m ((c : Thread nD τ).loc main_arg0)
/-- The weight. -/
abbrev Wa : Vec Ideal S512x1024 .bf16 := m ((c : Thread nD τ).loc main_arg1)
/-- The residual. -/
abbrev Xa : Vec Ideal S8192x1024 .f32 := m ((c : Thread nD τ).loc main_arg2)

/-- The windows' block indices at a point (decided). -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- Row `i` of point `t`'s block is a row of the array. -/
theorem row_lt (t : Fin cfg0.N) (i : Fin 1024) : t.val * 1024 + i.val < 8192 := by
  have h : cfg0.N = 8 := N_0
  have := t.isLt; have := i.isLt; omega

theorem iblk0 (t : Fin cfg0.N) (i : Fin 1024) (k : Fin 512) :
    iblk m c 0 t (ix2 i k) = Ha m c (ix2 ⟨t.val * 1024 + i.val, row_lt t i⟩ k) := by
  blk_ext [iblk, V, idx t]
theorem iblk1 (t : Fin cfg0.N) (k : Fin 512) (l : Fin 1024) :
    iblk m c 1 t (ix2 k l) = Wa m c (ix2 k l) := by
  blk_ext [iblk, V, idx t]
theorem iblk2 (t : Fin cfg0.N) (i : Fin 1024) (l : Fin 1024) :
    iblk m c 2 t (ix2 i l) = Xa m c (ix2 ⟨t.val * 1024 + i.val, row_lt t i⟩ l) := by
  blk_ext [iblk, V, idx t]

/-- What a point leaves in the result's block. -/
theorem out (t : Fin cfg0.N) (i : Fin 1024) (l : Fin 1024) :
    outsAt0 m c t (ix2 i l) = (ds (fun k : Fin 512 => iblk m c 0 t (ix2 i k)) fun k => iblk m c 1 t (ix2 k l))
      + iblk m c 2 t (ix2 i l) := by
  unfold outsAt0 out0_A_3
  frame_open
  simp (disch := decide) only [↓ View.readCov_skip, ↓ View.readCov_cons_toLoadRect, ↓ View.readCov_fill]
  frame_out
  rw [pay3, pay2, pay1, zero_add]

theorem final : (dats m 0 c).arrAt 3 cfg0.N = fun j => Xa m c j + nn (Ha m c) (Wa m c) j := by
  refine (dats m 0 c).arrAt_eq_of_covers 3 _ (by decide +kernel) fun t hf y => ?_
  blk_simp
  rw [after0_3]
  obtain ⟨i, l, rfl⟩ := ix2_split y
  have he : (win0_3.blk t).view.emb (ix2 i l) = ix2 (⟨t.val * 1024 + i.val, row_lt t i⟩ : Fin 8192) l := by
    blk_ext [idx t]
  rw [he]
  refine (out m c t i l).trans ?_
  simp only [iblk0, iblk1, iblk2]
  exact add_comm _ _
end

section
open Cert.XoReferenceIdeal Cert.XoReferenceIdeal.Gen Cert.XoReferenceIdeal.Read
variable (x0 : Vec Ideal S8192x512 .bf16) (x1 : Vec Ideal S512x1024 .bf16) (x2 : Vec Ideal S8192x1024 .f32)

theorem ref : val_main_v3 (F := Ideal) x0 x1 x2 = fun j => x2 j + nn x0 x1 j := by
  funext j
  obtain ⟨s, l, rfl⟩ := ix2_split j
  pointwise [val_main_v3, val_main_v2, val_main_v1, val_main_v0]
  rfl
end

/-- The kernel's array is the reference's. -/
theorem algebraic : Cert.algebraic_XoKernelIdeal_XoReferenceIdeal := by
  pair_intro
  · run_from Cert.XoKernelIdeal.Value.run_blocks m g
  · run_from Cert.XoReferenceIdeal.Value.run m' g'
    · exact ((Cert.XoReferenceIdeal.Read.val_main_v3_eq _ _ _).trans (ref _ _ _)).trans (final m c).symm

/-- The reference runs, keeps its arguments and leaves every counter at zero. -/
theorem frame_ref : Cert.quiescent_XoReferenceIdeal := fun m ρ _ =>
  (θ_run Cert.XoReferenceIdeal.defs _ _).mono (fun r h => ⟨fun c => (h c).2, sem_eq_zero_of_no_sems (by decide) r.2⟩)
    (Cert.XoReferenceIdeal.Value.run (F := Ideal) m ρ)

end Cert.Proof.XoClaim

end
-- ==== Proof.DwieClaim.lean ====
/-
  The gradient of an even layer's first weight (d_e_win): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DwieKernelIdeal.Value
public import proofs.«01_k».proof.Proof.Gen.DwieReferenceIdeal.Read
public import proofs.«01_k».proof.Proof.Gen.DwieReferenceIdeal.Run
public import proofs.«01_k».proof.Proof.Products

@[expose] public section

set_option maxRecDepth 16384

noncomputable section

namespace Cert.Proof.DwieClaim

open Idealize.ShloMosaic Cert.ActSpec Cert.Products

section
open Cert.DwieKernelIdeal Cert.DwieKernelIdeal.Gen
open Idealize.ShloMosaic.TcCoe Idealize.SL.Sem
open Idealize.ShloMosaic.Pipeline (Dat)
variable (m : (ℓ : Loc nD τ sig) → Buf (Elt Ideal) ℓ) (c : Dev nD)

/-- The accumulator starts from zero -/
theorem pay1 (j : S1024x896.Idx) : k0_pay1 (F := Ideal) j = 0 := by
  obtain ⟨i, l, rfl⟩ := ix2_split j
  pointwise [k0_pay1]
/-- and gains a point's products. -/
theorem pay2 (X : Vec Ideal S512x1024 .bf16) (W : Vec Ideal S512x896 .bf16) (Z : Vec Ideal S1024x896 .f32) (i : Fin 1024) (l : Fin 896) :
    k0_pay2 (F := Ideal) Z X W (ix2 i l) = Z (ix2 i l) + ds (fun k : Fin 512 => X (ix2 k i)) fun k => W (ix2 k l) := by
  pointwise [k0_pay2]
  rfl

/-- The rows. -/
abbrev Ha : Vec Ideal S8192x1024 .bf16 := m ((c : Thread nD τ).loc main_arg0)
/-- The incoming gradient. -/
abbrev Da : Vec Ideal S8192x2688 .bf16 := m ((c : Thread nD τ).loc main_arg1)

/-- The windows' block indices at a point (decided). -/
theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

/-- Row `k` of point `t`'s block is a row of the array, -/
theorem row_lt (t : Fin cfg0.N) (k : Fin 512) : t.val % 16 * 512 + k.val < 8192 := by
  have := k.isLt; omega
/-- and column `l` of it a column. -/
theorem col_lt (t : Fin cfg0.N) (l : Fin 896) : t.val / 16 * 896 + l.val < 2688 := by
  have h : cfg0.N = 48 := N_0
  have := t.isLt; have := l.isLt; omega

theorem iblk0 (t : Fin cfg0.N) (k : Fin 512) (i : Fin 1024) :
    iblk m c 0 t (ix2 k i) = Ha m c (ix2 ⟨t.val % 16 * 512 + k.val, row_lt t k⟩ i) := by
  blk_ext [iblk, V, idx t]
theorem iblk1 (t : Fin cfg0.N) (k : Fin 512) (l : Fin 896) :
    iblk m c 1 t (ix2 k l) = Da m c (ix2 ⟨t.val % 16 * 512 + k.val, row_lt t k⟩ ⟨t.val / 16 * 896 + l.val, col_lt t l⟩) := by
  blk_ext [iblk, V, idx t]

/-- What a point leaves in the accumulator, case by case. -/
theorem sc_A (t : Fin cfg0.N) (h : t.val % 16 = 0) (i : Fin 1024) (l : Fin 896) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 1024) (l : Fin 896) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator, -/
theorem out_C (t : Fin cfg0.N) (h1 : t.val % 16 = 15) (i : Fin 1024) (l : Fin 896) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out
/-- which then holds the products of all the rows. -/
theorem sc_last (t : Fin cfg0.N) (h1 : t.val % 16 = 15) (i : Fin 1024) (l : Fin 896) :
    (outsAt0 m c t.val t.isLt).2 (ix2 i l) = tn (Ha m c) (Da m c) (ix2 i (⟨t.val / 16 * 896 + l.val, col_lt t l⟩ : Fin 2688)) :=
  run_tn (fun n hn => (outsAt0 m c n hn).2) (Ha m c) (Da m c) (fun t => iblk m c 0 t) (fun t => iblk m c 1 t)
    (fun t l => ⟨t.val / 16 * 896 + l.val, col_lt t l⟩) (fun t u e => funext fun l => by simp only [e])
    (iblk0 m c) (iblk1 m c)
    (sc_A m c) (sc_B m c) t h1 i l

theorem final : (dats m 0 c).arrAt 2 cfg0.N = tn (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 i (⟨t.val / 16 * 896 + l.val, col_lt t l⟩ : Fin 2688) := by
    blk_ext [idx t]
  rw [he]
  exact (out_C m c t h1 i l).trans (sc_last m c t h1 i l)
end

section
open Cert.DwieReferenceIdeal Cert.DwieReferenceIdeal.Gen Cert.DwieReferenceIdeal.Read
variable (x0 : Vec Ideal S8192x1024 .bf16) (x1 : Vec Ideal S8192x2688 .bf16)

theorem ref : val_main_v5 (F := Ideal) x0 x1 = tn x0 x1 := by
  funext j
  obtain ⟨s, l, rfl⟩ := ix2_split j
  pointwise [val_main_v5, val_main_v4, val_main_v3, val_main_v0]
  exact tn_comm x0 x1 s l
end

/-- The kernel's array is the reference's. -/
theorem algebraic : Cert.algebraic_DwieKernelIdeal_DwieReferenceIdeal := by
  pair_intro
  · run_from Cert.DwieKernelIdeal.Value.run_blocks m g
  · run_from Cert.DwieReferenceIdeal.Value.run m' g'
    · exact ((Cert.DwieReferenceIdeal.Read.val_main_v5_eq _ _).trans (ref _ _)).trans (final m c).symm

/-- The reference runs, keeps its arguments and leaves every counter at zero. -/
theorem frame_ref : Cert.quiescent_DwieReferenceIdeal := fun m ρ _ =>
  (θ_run Cert.DwieReferenceIdeal.defs _ _).mono (fun r h => ⟨fun c => (h c).2, sem_eq_zero_of_no_sems (by decide) r.2⟩)
    (Cert.DwieReferenceIdeal.Value.run (F := Ideal) m ρ)

end Cert.Proof.DwieClaim

end
-- ==== Proof.DwioClaim.lean ====
/-
  The gradient of an odd layer's first weight (d_o_win): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DwioKernelIdeal.Value
public import proofs.«01_k».proof.Proof.Gen.DwioReferenceIdeal.Read
public import proofs.«01_k».proof.Proof.Gen.DwioReferenceIdeal.Run
public import proofs.«01_k».proof.Proof.Products

@[expose] public section

set_option maxRecDepth 16384

noncomputable section

namespace Cert.Proof.DwioClaim

open Idealize.ShloMosaic Cert.ActSpec Cert.Products

section
open Cert.DwioKernelIdeal Cert.DwioKernelIdeal.Gen
open Idealize.ShloMosaic.TcCoe Idealize.SL.Sem
open Idealize.ShloMosaic.Pipeline (Dat)
variable (m : (ℓ : Loc nD τ sig) → Buf (Elt Ideal) ℓ) (c : Dev nD)

/-- The accumulator starts from zero -/
theorem pay1 (j : S1024x1024.Idx) : k0_pay1 (F := Ideal) j = 0 := by
  obtain ⟨i, l, rfl⟩ := ix2_split j
  pointwise [k0_pay1]
/-- and gains a point's products. -/
theorem pay2 (X : Vec Ideal S512x1024 .bf16) (W : Vec Ideal S512x1024 .bf16) (Z : Vec Ideal S1024x1024 .f32) (i : Fin 1024) (l : Fin 1024) :
    k0_pay2 (F := Ideal) Z X W (ix2 i l) = Z (ix2 i l) + ds (fun k : Fin 512 => X (ix2 k i)) fun k => W (ix2 k l) := by
  pointwise [k0_pay2]
  rfl

/-- The rows. -/
abbrev Ha : Vec Ideal S8192x1024 .bf16 := m ((c : Thread nD τ).loc main_arg0)
/-- The incoming gradient. -/
abbrev Da : Vec Ideal S8192x2048 .bf16 := m ((c : Thread nD τ).loc main_arg1)

/-- The windows' block indices at a point (decided). -/
theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

/-- Row `k` of point `t`'s block is a row of the array, -/
theorem row_lt (t : Fin cfg0.N) (k : Fin 512) : t.val % 16 * 512 + k.val < 8192 := by
  have := k.isLt; omega
/-- and column `l` of it a column. -/
theorem col_lt (t : Fin cfg0.N) (l : Fin 1024) : t.val / 16 * 1024 + l.val < 2048 := by
  have h : cfg0.N = 32 := N_0
  have := t.isLt; have := l.isLt; omega

theorem iblk0 (t : Fin cfg0.N) (k : Fin 512) (i : Fin 1024) :
    iblk m c 0 t (ix2 k i) = Ha m c (ix2 ⟨t.val % 16 * 512 + k.val, row_lt t k⟩ i) := by
  blk_ext [iblk, V, idx t]
theorem iblk1 (t : Fin cfg0.N) (k : Fin 512) (l : Fin 1024) :
    iblk m c 1 t (ix2 k l) = Da m c (ix2 ⟨t.val % 16 * 512 + k.val, row_lt t k⟩ ⟨t.val / 16 * 1024 + l.val, col_lt t l⟩) := by
  blk_ext [iblk, V, idx t]

/-- What a point leaves in the accumulator, case by case. -/
theorem sc_A (t : Fin cfg0.N) (h : t.val % 16 = 0) (i : Fin 1024) (l : Fin 1024) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 1024) (l : Fin 1024) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator, -/
theorem out_C (t : Fin cfg0.N) (h1 : t.val % 16 = 15) (i : Fin 1024) (l : Fin 1024) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out
/-- which then holds the products of all the rows. -/
theorem sc_last (t : Fin cfg0.N) (h1 : t.val % 16 = 15) (i : Fin 1024) (l : Fin 1024) :
    (outsAt0 m c t.val t.isLt).2 (ix2 i l) = tn (Ha m c) (Da m c) (ix2 i (⟨t.val / 16 * 1024 + l.val, col_lt t l⟩ : Fin 2048)) :=
  run_tn (fun n hn => (outsAt0 m c n hn).2) (Ha m c) (Da m c) (fun t => iblk m c 0 t) (fun t => iblk m c 1 t)
    (fun t l => ⟨t.val / 16 * 1024 + l.val, col_lt t l⟩) (fun t u e => funext fun l => by simp only [e])
    (iblk0 m c) (iblk1 m c)
    (sc_A m c) (sc_B m c) t h1 i l

theorem final : (dats m 0 c).arrAt 2 cfg0.N = tn (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 i (⟨t.val / 16 * 1024 + l.val, col_lt t l⟩ : Fin 2048) := by
    blk_ext [idx t]
  rw [he]
  exact (out_C m c t h1 i l).trans (sc_last m c t h1 i l)
end

section
open Cert.DwioReferenceIdeal Cert.DwioReferenceIdeal.Gen Cert.DwioReferenceIdeal.Read
variable (x0 : Vec Ideal S8192x1024 .bf16) (x1 : Vec Ideal S8192x2048 .bf16)

theorem ref : val_main_v5 (F := Ideal) x0 x1 = tn x0 x1 := by
  funext j
  obtain ⟨s, l, rfl⟩ := ix2_split j
  pointwise [val_main_v5, val_main_v4, val_main_v3, val_main_v0]
  exact tn_comm x0 x1 s l
end

/-- The kernel's array is the reference's. -/
theorem algebraic : Cert.algebraic_DwioKernelIdeal_DwioReferenceIdeal := by
  pair_intro
  · run_from Cert.DwioKernelIdeal.Value.run_blocks m g
  · run_from Cert.DwioReferenceIdeal.Value.run m' g'
    · exact ((Cert.DwioReferenceIdeal.Read.val_main_v5_eq _ _).trans (ref _ _)).trans (final m c).symm

/-- The reference runs, keeps its arguments and leaves every counter at zero. -/
theorem frame_ref : Cert.quiescent_DwioReferenceIdeal := fun m ρ _ =>
  (θ_run Cert.DwioReferenceIdeal.defs _ _).mono (fun r h => ⟨fun c => (h c).2, sem_eq_zero_of_no_sems (by decide) r.2⟩)
    (Cert.DwioReferenceIdeal.Value.run (F := Ideal) m ρ)

end Cert.Proof.DwioClaim

end
-- ==== Proof.DwqClaim.lean ====
/-
  The gradient of the queries' weight (d_wq): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DwqKernelIdeal.Value
public import proofs.«01_k».proof.Proof.Gen.DwqReferenceIdeal.Read
public import proofs.«01_k».proof.Proof.Gen.DwqReferenceIdeal.Run
public import proofs.«01_k».proof.Proof.Products

@[expose] public section

set_option maxRecDepth 16384

noncomputable section

namespace Cert.Proof.DwqClaim

open Idealize.ShloMosaic Cert.ActSpec Cert.Products

section
open Cert.DwqKernelIdeal Cert.DwqKernelIdeal.Gen
open Idealize.ShloMosaic.TcCoe Idealize.SL.Sem
open Idealize.ShloMosaic.Pipeline (Dat)
variable (m : (ℓ : Loc nD τ sig) → Buf (Elt Ideal) ℓ) (c : Dev nD)

/-- The accumulator starts from zero -/
theorem pay1 (j : S1024x512.Idx) : k0_pay1 (F := Ideal) j = 0 := by
  obtain ⟨i, l, rfl⟩ := ix2_split j
  pointwise [k0_pay1]
/-- and gains a point's products. -/
theorem pay2 (X : Vec Ideal S512x1024 .bf16) (W : Vec Ideal S512x512 .bf16) (Z : Vec Ideal S1024x512 .f32) (i : Fin 1024) (l : Fin 512) :
    k0_pay2 (F := Ideal) Z X W (ix2 i l) = Z (ix2 i l) + ds (fun k : Fin 512 => X (ix2 k i)) fun k => W (ix2 k l) := by
  pointwise [k0_pay2]
  rfl

/-- The rows. -/
abbrev Ha : Vec Ideal S8192x1024 .bf16 := m ((c : Thread nD τ).loc main_arg0)
/-- The incoming gradient. -/
abbrev Da : Vec Ideal S8192x512 .bf16 := m ((c : Thread nD τ).loc main_arg1)

/-- The windows' block indices at a point (decided). -/
theorem idx : ∀ t : Fin cfg0.N, win0_0.index t = ![t.val, 0] ∧ win0_1.index t = ![t.val, 0]
    ∧ win0_2.index t = ![0, 0] :=
  (by decide +kernel : ∀ t : Fin grid0.N, _)

/-- There are sixteen points. -/
theorem pt_lt (t : Fin cfg0.N) : t.val < 16 := lt_of_lt_of_eq t.isLt N_0
/-- Row `k` of point `t`'s block is a row of the array. -/
theorem row_lt (t : Fin cfg0.N) (k : Fin 512) : t.val * 512 + k.val < 8192 := by
  have h : cfg0.N = 16 := N_0
  have := t.isLt; have := k.isLt; omega

theorem iblk0 (t : Fin cfg0.N) (k : Fin 512) (i : Fin 1024) :
    iblk m c 0 t (ix2 k i) = Ha m c (ix2 ⟨t.val * 512 + k.val, row_lt t k⟩ i) := by
  blk_ext [iblk, V, idx t]
theorem iblk1 (t : Fin cfg0.N) (k : Fin 512) (l : Fin 512) :
    iblk m c 1 t (ix2 k l) = Da m c (ix2 ⟨t.val * 512 + k.val, row_lt t k⟩ l) := by
  blk_ext [iblk, V, idx t]

/-- What a point leaves in the accumulator, case by case. -/
theorem sc_A (t : Fin cfg0.N) (h : t.val % 16 = 0) (i : Fin 1024) (l : Fin 512) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 1024) (l : Fin 512) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator, -/
theorem out_C (t : Fin cfg0.N) (h1 : t.val % 16 = 15) (i : Fin 1024) (l : Fin 512) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out
/-- which then holds the products of all the rows. -/
theorem sc_last (t : Fin cfg0.N) (h1 : t.val % 16 = 15) (i : Fin 1024) (l : Fin 512) :
    (outsAt0 m c t.val t.isLt).2 (ix2 i l) = tn (Ha m c) (Da m c) (ix2 i l) :=
  run_tn (fun n hn => (outsAt0 m c n hn).2) (Ha m c) (Da m c) (fun t => iblk m c 0 t) (fun t => iblk m c 1 t)
    (fun _ l => l) (fun _ _ _ => rfl)
    (fun t k i => (iblk0 m c t k i).trans (by simp only [Nat.mod_eq_of_lt (pt_lt t)])) (fun t k l => (iblk1 m c t k l).trans (by simp only [Nat.mod_eq_of_lt (pt_lt t)]))
    (sc_A m c) (sc_B m c) t h1 i l

theorem final : (dats m 0 c).arrAt 2 cfg0.N = tn (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 i l := by
    blk_ext [idx t]
  rw [he]
  exact (out_C m c t h1 i l).trans (sc_last m c t h1 i l)
end

section
open Cert.DwqReferenceIdeal Cert.DwqReferenceIdeal.Gen Cert.DwqReferenceIdeal.Read
variable (x0 : Vec Ideal S8192x1024 .bf16) (x1 : Vec Ideal S8192x512 .bf16)

theorem ref : val_main_v5 (F := Ideal) x0 x1 = tn x0 x1 := by
  funext j
  obtain ⟨s, l, rfl⟩ := ix2_split j
  pointwise [val_main_v5, val_main_v4, val_main_v3, val_main_v0]
  exact tn_comm x0 x1 s l
end

/-- The kernel's array is the reference's. -/
theorem algebraic : Cert.algebraic_DwqKernelIdeal_DwqReferenceIdeal := by
  pair_intro
  · run_from Cert.DwqKernelIdeal.Value.run_blocks m g
  · run_from Cert.DwqReferenceIdeal.Value.run m' g'
    · exact ((Cert.DwqReferenceIdeal.Read.val_main_v5_eq _ _).trans (ref _ _)).trans (final m c).symm

/-- The reference runs, keeps its arguments and leaves every counter at zero. -/
theorem frame_ref : Cert.quiescent_DwqReferenceIdeal := fun m ρ _ =>
  (θ_run Cert.DwqReferenceIdeal.defs _ _).mono (fun r h => ⟨fun c => (h c).2, sem_eq_zero_of_no_sems (by decide) r.2⟩)
    (Cert.DwqReferenceIdeal.Value.run (F := Ideal) m ρ)

end Cert.Proof.DwqClaim

end
-- ==== Proof.DwcClaim.lean ====
/-
  The gradient of an odd layer's output weight (d_o_wout): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DwcKernelIdeal.Value
public import proofs.«01_k».proof.Proof.Gen.DwcReferenceIdeal.Read
public import proofs.«01_k».proof.Proof.Gen.DwcReferenceIdeal.Run
public import proofs.«01_k».proof.Proof.Products

@[expose] public section

set_option maxRecDepth 16384

noncomputable section

namespace Cert.Proof.DwcClaim

open Idealize.ShloMosaic Cert.ActSpec Cert.Products

section
open Cert.DwcKernelIdeal Cert.DwcKernelIdeal.Gen
open Idealize.ShloMosaic.TcCoe Idealize.SL.Sem
open Idealize.ShloMosaic.Pipeline (Dat)
variable (m : (ℓ : Loc nD τ sig) → Buf (Elt Ideal) ℓ) (c : Dev nD)

/-- The accumulator starts from zero -/
theorem pay1 (j : S1024x1024.Idx) : k0_pay1 (F := Ideal) j = 0 := by
  obtain ⟨i, l, rfl⟩ := ix2_split j
  pointwise [k0_pay1]
/-- and gains a point's products. -/
theorem pay2 (X : Vec Ideal S512x1024 .bf16) (W : Vec Ideal S512x1024 .f32) (Z : Vec Ideal S1024x1024 .f32) (i : Fin 1024) (l : Fin 1024) :
    k0_pay2 (F := Ideal) Z X W (ix2 i l) = Z (ix2 i l) + ds (fun k : Fin 512 => X (ix2 k i)) fun k => W (ix2 k l) := by
  pointwise [k0_pay2]
  rfl

/-- The rows. -/
abbrev Ha : Vec Ideal S8192x1024 .bf16 := m ((c : Thread nD τ).loc main_arg0)
/-- The incoming gradient. -/
abbrev Da : Vec Ideal S8192x1024 .f32 := m ((c : Thread nD τ).loc main_arg1)

/-- The windows' block indices at a point (decided). -/
theorem idx : ∀ t : Fin cfg0.N, win0_0.index t = ![t.val, 0] ∧ win0_1.index t = ![t.val, 0]
    ∧ win0_2.index t = ![0, 0] :=
  (by decide +kernel : ∀ t : Fin grid0.N, _)

/-- There are sixteen points. -/
theorem pt_lt (t : Fin cfg0.N) : t.val < 16 := lt_of_lt_of_eq t.isLt N_0
/-- Row `k` of point `t`'s block is a row of the array. -/
theorem row_lt (t : Fin cfg0.N) (k : Fin 512) : t.val * 512 + k.val < 8192 := by
  have h : cfg0.N = 16 := N_0
  have := t.isLt; have := k.isLt; omega

theorem iblk0 (t : Fin cfg0.N) (k : Fin 512) (i : Fin 1024) :
    iblk m c 0 t (ix2 k i) = Ha m c (ix2 ⟨t.val * 512 + k.val, row_lt t k⟩ i) := by
  blk_ext [iblk, V, idx t]
theorem iblk1 (t : Fin cfg0.N) (k : Fin 512) (l : Fin 1024) :
    iblk m c 1 t (ix2 k l) = Da m c (ix2 ⟨t.val * 512 + k.val, row_lt t k⟩ l) := by
  blk_ext [iblk, V, idx t]

/-- What a point leaves in the accumulator, case by case. -/
theorem sc_A (t : Fin cfg0.N) (h : t.val % 16 = 0) (i : Fin 1024) (l : Fin 1024) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 1024) (l : Fin 1024) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator, -/
theorem out_C (t : Fin cfg0.N) (h1 : t.val % 16 = 15) (i : Fin 1024) (l : Fin 1024) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out
/-- which then holds the products of all the rows. -/
theorem sc_last (t : Fin cfg0.N) (h1 : t.val % 16 = 15) (i : Fin 1024) (l : Fin 1024) :
    (outsAt0 m c t.val t.isLt).2 (ix2 i l) = tn (Ha m c) (Da m c) (ix2 i l) :=
  run_tn (fun n hn => (outsAt0 m c n hn).2) (Ha m c) (Da m c) (fun t => iblk m c 0 t) (fun t => iblk m c 1 t)
    (fun _ l => l) (fun _ _ _ => rfl)
    (fun t k i => (iblk0 m c t k i).trans (by simp only [Nat.mod_eq_of_lt (pt_lt t)])) (fun t k l => (iblk1 m c t k l).trans (by simp only [Nat.mod_eq_of_lt (pt_lt t)]))
    (sc_A m c) (sc_B m c) t h1 i l

theorem final : (dats m 0 c).arrAt 2 cfg0.N = tn (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 i l := by
    blk_ext [idx t]
  rw [he]
  exact (out_C m c t h1 i l).trans (sc_last m c t h1 i l)
end

section
open Cert.DwcReferenceIdeal Cert.DwcReferenceIdeal.Gen Cert.DwcReferenceIdeal.Read
variable (x0 : Vec Ideal S8192x1024 .bf16) (x1 : Vec Ideal S8192x1024 .f32)

theorem ref : val_main_v4 (F := Ideal) x0 x1 = tn x0 x1 := by
  funext j
  obtain ⟨s, l, rfl⟩ := ix2_split j
  pointwise [val_main_v4, val_main_v3, val_main_v0]
  exact tn_comm x0 x1 s l
end

/-- The kernel's array is the reference's. -/
theorem algebraic : Cert.algebraic_DwcKernelIdeal_DwcReferenceIdeal := by
  pair_intro
  · run_from Cert.DwcKernelIdeal.Value.run_blocks m g
  · run_from Cert.DwcReferenceIdeal.Value.run m' g'
    · exact ((Cert.DwcReferenceIdeal.Read.val_main_v4_eq _ _).trans (ref _ _)).trans (final m c).symm

/-- The reference runs, keeps its arguments and leaves every counter at zero. -/
theorem frame_ref : Cert.quiescent_DwcReferenceIdeal := fun m ρ _ =>
  (θ_run Cert.DwcReferenceIdeal.defs _ _).mono (fun r h => ⟨fun c => (h c).2, sem_eq_zero_of_no_sems (by decide) r.2⟩)
    (Cert.DwcReferenceIdeal.Value.run (F := Ideal) m ρ)

end Cert.Proof.DwcClaim

end
-- ==== Proof.DwoClaim.lean ====
/-
  The gradient of the cross attention's output weight, and of each half of an even layer's (d_wo, d_e_wout_a, d_e_wout_b): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DwoKernelIdeal.Value
public import proofs.«01_k».proof.Proof.Gen.DwoReferenceIdeal.Read
public import proofs.«01_k».proof.Proof.Gen.DwoReferenceIdeal.Run
public import proofs.«01_k».proof.Proof.Products

@[expose] public section

set_option maxRecDepth 16384

noncomputable section

namespace Cert.Proof.DwoClaim

open Idealize.ShloMosaic Cert.ActSpec Cert.Products

section
open Cert.DwoKernelIdeal Cert.DwoKernelIdeal.Gen
open Idealize.ShloMosaic.TcCoe Idealize.SL.Sem
open Idealize.ShloMosaic.Pipeline (Dat)
variable (m : (ℓ : Loc nD τ sig) → Buf (Elt Ideal) ℓ) (c : Dev nD)

/-- The accumulator starts from zero -/
theorem pay1 (j : S512x1024.Idx) : k0_pay1 (F := Ideal) j = 0 := by
  obtain ⟨i, l, rfl⟩ := ix2_split j
  pointwise [k0_pay1]
/-- and gains a point's products. -/
theorem pay2 (X : Vec Ideal S512x512 .bf16) (W : Vec Ideal S512x1024 .f32) (Z : Vec Ideal S512x1024 .f32) (i : Fin 512) (l : Fin 1024) :
    k0_pay2 (F := Ideal) Z X W (ix2 i l) = Z (ix2 i l) + ds (fun k : Fin 512 => X (ix2 k i)) fun k => W (ix2 k l) := by
  pointwise [k0_pay2]
  rfl

/-- The rows. -/
abbrev Ha : Vec Ideal S8192x512 .bf16 := m ((c : Thread nD τ).loc main_arg0)
/-- The incoming gradient. -/
abbrev Da : Vec Ideal S8192x1024 .f32 := m ((c : Thread nD τ).loc main_arg1)

/-- The windows' block indices at a point (decided). -/
theorem idx : ∀ t : Fin cfg0.N, win0_0.index t = ![t.val, 0] ∧ win0_1.index t = ![t.val, 0]
    ∧ win0_2.index t = ![0, 0] :=
  (by decide +kernel : ∀ t : Fin grid0.N, _)

/-- There are sixteen points. -/
theorem pt_lt (t : Fin cfg0.N) : t.val < 16 := lt_of_lt_of_eq t.isLt N_0
/-- Row `k` of point `t`'s block is a row of the array. -/
theorem row_lt (t : Fin cfg0.N) (k : Fin 512) : t.val * 512 + k.val < 8192 := by
  have h : cfg0.N = 16 := N_0
  have := t.isLt; have := k.isLt; omega

theorem iblk0 (t : Fin cfg0.N) (k : Fin 512) (i : Fin 512) :
    iblk m c 0 t (ix2 k i) = Ha m c (ix2 ⟨t.val * 512 + k.val, row_lt t k⟩ i) := by
  blk_ext [iblk, V, idx t]
theorem iblk1 (t : Fin cfg0.N) (k : Fin 512) (l : Fin 1024) :
    iblk m c 1 t (ix2 k l) = Da m c (ix2 ⟨t.val * 512 + k.val, row_lt t k⟩ l) := by
  blk_ext [iblk, V, idx t]

/-- What a point leaves in the accumulator, case by case. -/
theorem sc_A (t : Fin cfg0.N) (h : t.val % 16 = 0) (i : Fin 512) (l : Fin 1024) :
    (outsAt0 m c t.val t.isLt).2 (ix2 i l) = ds (fun k : Fin 512 => iblk m c 0 t (ix2 k i)) fun k => iblk m c 1 t (ix2 k l) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
theorem sc_B (t : Fin cfg0.N) (h : ¬t.val % 16 = 0) (i : Fin 512) (l : Fin 1024) :
    (outsAt0 m c t.val t.isLt).2 (ix2 i l) = (outsAt0 m c (t.val - 1) (Nat.lt_of_le_of_lt (Nat.sub_le _ _) t.isLt)).2 (ix2 i l)
      + ds (fun k : Fin 512 => iblk m c 0 t (ix2 k i)) fun k => iblk m c 1 t (ix2 k l) := by
  by_cases h1 : t.val % 16 = 15
  · rw [outsAt0_C m c t h h1]
    dsimp only
    unfold sout0_C_0
    frame_out
    rw [pay2, read_unread_whole]
  · rw [outsAt0_B m c t h h1]
    dsimp only
    unfold sout0_B_0
    frame_out
    rw [pay2, read_unread_whole]
/-- At a run's last point the result's block is the accumulator, -/
theorem out_C (t : Fin cfg0.N) (h1 : t.val % 16 = 15) (i : Fin 512) (l : Fin 1024) :
    (outsAt0 m c t.val t.isLt).1 (ix2 i l) = (outsAt0 m c t.val t.isLt).2 (ix2 i l) := by
  rw [outsAt0_C m c t (by omega) h1]
  dsimp only
  unfold sout0_C_0 out0_C_2
  frame_open
  simp (disch := decide) only [↓ View.readCov_skip, ↓ View.readCov_cons_toLoadRect, ↓ View.readCov_fill]
  frame_out
/-- which then holds the products of all the rows. -/
theorem sc_last (t : Fin cfg0.N) (h1 : t.val % 16 = 15) (i : Fin 512) (l : Fin 1024) :
    (outsAt0 m c t.val t.isLt).2 (ix2 i l) = tn (Ha m c) (Da m c) (ix2 i l) :=
  run_tn (fun n hn => (outsAt0 m c n hn).2) (Ha m c) (Da m c) (fun t => iblk m c 0 t) (fun t => iblk m c 1 t)
    (fun _ l => l) (fun _ _ _ => rfl)
    (fun t k i => (iblk0 m c t k i).trans (by simp only [Nat.mod_eq_of_lt (pt_lt t)])) (fun t k l => (iblk1 m c t k l).trans (by simp only [Nat.mod_eq_of_lt (pt_lt t)]))
    (sc_A m c) (sc_B m c) t h1 i l

theorem final : (dats m 0 c).arrAt 2 cfg0.N = tn (Ha m c) (Da m c) := by
  refine (dats m 0 c).arrAt_eq_of_covers 2 _ (by decide +kernel) fun t hf y => ?_
  have h1 : t.val % 16 = 15 := (flush0_2 t).mp hf
  blk_simp
  rw [after0_2]
  obtain ⟨i, l, rfl⟩ := ix2_split y
  have he : (win0_2.blk t).view.emb (ix2 i l) = ix2 i l := by
    blk_ext [idx t]
  rw [he]
  exact (out_C m c t h1 i l).trans (sc_last m c t h1 i l)
end

section
open Cert.DwoReferenceIdeal Cert.DwoReferenceIdeal.Gen Cert.DwoReferenceIdeal.Read
variable (x0 : Vec Ideal S8192x512 .bf16) (x1 : Vec Ideal S8192x1024 .f32)

theorem ref : val_main_v4 (F := Ideal) x0 x1 = tn x0 x1 := by
  funext j
  obtain ⟨s, l, rfl⟩ := ix2_split j
  pointwise [val_main_v4, val_main_v3, val_main_v0]
  exact tn_comm x0 x1 s l
end

/-- The kernel's array is the reference's. -/
theorem algebraic : Cert.algebraic_DwoKernelIdeal_DwoReferenceIdeal := by
  pair_intro
  · run_from Cert.DwoKernelIdeal.Value.run_blocks m g
  · run_from Cert.DwoReferenceIdeal.Value.run m' g'
    · exact ((Cert.DwoReferenceIdeal.Read.val_main_v4_eq _ _).trans (ref _ _)).trans (final m c).symm

/-- The reference runs, keeps its arguments and leaves every counter at zero. -/
theorem frame_ref : Cert.quiescent_DwoReferenceIdeal := fun m ρ _ =>
  (θ_run Cert.DwoReferenceIdeal.defs _ _).mono (fun r h => ⟨fun c => (h c).2, sem_eq_zero_of_no_sems (by decide) r.2⟩)
    (Cert.DwoReferenceIdeal.Value.run (F := Ideal) m ρ)

end Cert.Proof.DwoClaim

end
-- ==== Proof.NormBack.lean ====
/-
  The gradient through the row normalisation before a product, for the calls that compute it: the two results as
  functions of the gradient of the normalised rows, the rows, the scale and the gradient passed around; and what a
  scale's gradient holds once sixteen tiles of 512 rows have each added their own part.
-/
module

public import Idealize.ShloMosaic.Lib.Pipeline.ValueKit
public import Idealize.ShloMosaic.Lib.Pipeline.ReadBack
public import proofs.«01_k».proof.Proof.DhSpec
public import proofs.«01_k».proof.Proof.Products

@[expose] public section

noncomputable section

namespace Cert.NormBack

open Idealize.ShloMosaic Cert.ActSpec Cert.Products Cert.DhSpec

/-- A row. -/
abbrev row {n l : Nat} (X : Mat n l) (i : Fin n) : Fin l → EReal := fun d => X (ix2 i d)

/-- The gradient of the rows, -/
def GX (H X R : Mat 8192 1024) (S : (⟨1, ![1024]⟩ : Shape).Idx → EReal) : Mat 8192 1024 := fun j =>
  R (ix2 (j 0) (j 1)) + gx (fun d => H (ix2 (j 0) d) * S (ix1 d)) (row X (j 0)) (j 1)
/-- that of the scale, -/
def GS (H X : Mat 8192 1024) : Mat 1 1024 := fun j =>
  ∑ s : Fin 8192, H (ix2 s (j 1)) * (X (ix2 s (j 1)) * nrm (row X s))
/-- and the part of it a tile of rows adds. -/
def tile (H X : Mat 512 1024) (l : Fin 1024) : EReal := ∑ i : Fin 512, H (ix2 i l) * (X (ix2 i l) * nrm (row X i))

theorem row_lt (n : Fin 16) (i : Fin 512) : n.val * 512 + i.val < 8192 := by
  have := n.isLt; have := i.isLt; omega

/-- The scale's gradient once every tile has added its part. -/
theorem run_gs (g : (n : Nat) → n < 16 → Mat 1 1024) (H X : Mat 8192 1024) (h x : Fin 16 → Mat 512 1024)
    (hh : ∀ n i l, h n (ix2 i l) = H (ix2 ⟨n.val * 512 + i.val, row_lt n i⟩ l))
    (hx : ∀ n i l, x n (ix2 i l) = X (ix2 ⟨n.val * 512 + i.val, row_lt n i⟩ l))
    (h0 : ∀ n : Fin 16, n.val = 0 → ∀ u l, g n.val n.isLt (ix2 u l) = 0 + tile (h n) (x n) l)
    (hs : ∀ n : Fin 16, ¬n.val = 0 → ∀ u l, g n.val n.isLt (ix2 u l)
      = g (n.val - 1) (Nat.lt_of_le_of_lt (Nat.sub_le _ _) n.isLt) (ix2 u l) + tile (h n) (x n) l)
    (u : Fin 1) (l : Fin 1024) : g 15 (by decide) (ix2 u l) = GS H X (ix2 u l) := by
  refine ((Pipeline.eq_sum_fin_of_reset_step_apply_last (N := 16) (fun n hn (p : Fin 1 × Fin 1024) => g n hn (ix2 p.1 p.2)) 16 (fun _ => 0)
    (fun n p => tile (h n) (x n) p.2)
    (fun n e p => h0 n (by have := n.isLt; omega) p.1 p.2) (fun n e p => hs n (by have := n.isLt; omega) p.1 p.2)
    le_rfl (15 : Fin 16) rfl (u, l)).trans (zero_add _)).trans ?_
  show _ = ∑ s : Fin 8192, H (ix2 s l) * (X (ix2 s l) * nrm (row X s))
  unfold tile
  refine Fin.sum_mul_add_congr fun n i hl => ?_
  rw [show row (x n) i = row X ⟨n.val * 512 + i.val, row_lt n i⟩ from funext fun d => hx n i d]
  dsimp only
  rw [hh, hx]

end Cert.NormBack

end
-- ==== Proof.DheClaim.lean ====
/-
  The gradient through an even layer's first normalisation (d_h1): the kernel's arrays and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DheKernelIdeal.Value
public import proofs.«01_k».proof.Proof.Gen.DheReferenceIdeal.Read
public import proofs.«01_k».proof.Proof.Gen.DheReferenceIdeal.Run
public import proofs.«01_k».proof.Proof.NormBack

@[expose] public section

set_option maxRecDepth 16384

noncomputable section

namespace Cert.Proof.DheClaim

open Idealize.ShloMosaic Cert.ActSpec Cert.Products Cert.DhSpec Cert.NormBack

section
open Cert.DheKernelIdeal Cert.DheKernelIdeal.Gen
open Idealize.ShloMosaic.TcCoe Idealize.SL.Sem
open Idealize.ShloMosaic.Pipeline (Dat)

/-- The accumulator starts from zero, -/
theorem pay1 (j : S512x1024.Idx) : k0_pay1 (F := Ideal) j = 0 := by
  obtain ⟨i, l, rfl⟩ := ix2_split j
  pointwise [k0_pay1]
/-- and so does the scale's gradient. -/
theorem pay5 (j : S1x1024.Idx) : k0_pay5 (F := Ideal) j = 0 := by
  obtain ⟨i, l, rfl⟩ := ix2_split j
  pointwise [k0_pay5]
/-- A point adds its products. -/
theorem pay2 (A : Vec Ideal S512x1024 .f32) (D : Vec Ideal S512x896 .bf16) (W : Vec Ideal S1024x896 .bf16) (i : Fin 512) (l : Fin 1024) :
    k0_pay2 (F := Ideal) A D W (ix2 i l) = A (ix2 i l) + ds (fun k : Fin 896 => D (ix2 i k)) fun k => W (ix2 l k) := by
  pointwise [k0_pay2]
  rfl

section
variable (A X : Vec Ideal S512x1024 .f32)

/-- The factor normalising a row, -/
theorem pay3 (i : Fin 512) (u : Fin 1) : k0_pay3 (F := Ideal) X (ix2 i u) = nrm (row X i) := by
  pointwise [k0_pay3]
  rfl
/-- the normalised row, -/
theorem pay4 (i : Fin 512) (l : Fin 1024) : k0_pay4 (F := Ideal) X (ix2 i l) = X (ix2 i l) * nrm (row X i) := by
  pointwise [k0_pay4]
  rw [pay3]
/-- what a row tile adds to the scale's gradient, -/
theorem pay6 (D : Vec Ideal S1x1024 .f32) (u : Fin 1) (l : Fin 1024) :
    k0_pay6 (F := Ideal) A X D (ix2 u l) = D (ix2 u l) + tile A X l := by
  obtain rfl : u = 0 := Subsingleton.elim _ _
  pointwise [k0_pay6]
  simp only [pay4]
  rfl
/-- and the rows' gradient. -/
theorem pay7 (G : Vec Ideal S1x1024 .f32) (R : Vec Ideal S512x1024 .f32) (i : Fin 512) (l : Fin 1024) :
    k0_pay7 (F := Ideal) A X G R (ix2 i l) = R (ix2 i l) + gx (fun d => A (ix2 i d) * G (ix2 0 d)) (row X i) l := by
  pointwise [k0_pay7]
  simp only [pay4, pay3]
  rfl
end

variable (m : (ℓ : Loc nD τ sig) → Buf (Elt Ideal) ℓ) (c : Dev nD)

/-- The incoming gradient, -/
abbrev Da : Vec Ideal S8192x2688 .bf16 := m ((c : Thread nD τ).loc main_arg0)
/-- the weight, -/
abbrev Wa : Vec Ideal S1024x2688 .bf16 := m ((c : Thread nD τ).loc main_arg1)
/-- the rows, -/
abbrev Xa : Vec Ideal S8192x1024 .f32 := m ((c : Thread nD τ).loc main_arg2)
/-- the normalisation's scale -/
abbrev Sa : Vec Ideal S1024 .f32 := m ((c : Thread nD τ).loc main_arg3)
/-- and the gradient passed around. -/
abbrev Ra : Vec Ideal S8192x1024 .f32 := m ((c : Thread nD τ).loc main_arg4)
/-- The gradient of the normalised rows. -/
abbrev Hm : Mat 8192 1024 := nt (Da m c) (Wa m c)

/-- The windows' block indices at a point (decided). -/
theorem idx : ∀ t : Fin cfg0.N, win0_0.index t = ![t.val / 3, t.val % 3] ∧ win0_1.index t = ![0, t.val % 3]
    ∧ win0_2.index t = ![t.val / 3, 0] ∧ win0_3.index t = ![0, 0] ∧ win0_4.index t = ![t.val / 3, 0] ∧ win0_5.index t = ![t.val / 3, 0] :=
  (by decide +kernel : ∀ t : Fin grid0.N, _)

/-- Row `i` of point `t`'s block is a row of the array, -/
theorem row_lt (t : Fin cfg0.N) (i : Fin 512) : t.val / 3 * 512 + i.val < 8192 := by
  have h : cfg0.N = 48 := N_0
  have := t.isLt; have := i.isLt; omega
/-- and column `k` of it a column. -/
theorem col_lt (t : Fin cfg0.N) (k : Fin 896) : t.val % 3 * 896 + k.val < 2688 := by
  have := k.isLt; omega

theorem iblk0 (t : Fin cfg0.N) (i : Fin 512) (k : Fin 896) :
    iblk m c 0 t (ix2 i k) = Da m c (ix2 ⟨t.val / 3 * 512 + i.val, row_lt t i⟩ ⟨t.val % 3 * 896 + k.val, col_lt t k⟩) := by
  blk_ext [iblk, V, idx t]
theorem iblk1 (t : Fin cfg0.N) (l : Fin 1024) (k : Fin 896) :
    iblk m c 1 t (ix2 l k) = Wa m c (ix2 l ⟨t.val % 3 * 896 + k.val, col_lt t k⟩) := by
  blk_ext [iblk, V, idx t]
theorem iblk2 (t : Fin cfg0.N) (i : Fin 512) (l : Fin 1024) :
    iblk m c 2 t (ix2 i l) = Xa m c (ix2 ⟨t.val / 3 * 512 + i.val, row_lt t i⟩ l) := by
  blk_ext [iblk, V, idx t]
theorem iblk3 (t : Fin cfg0.N) (u : Fin 1) (l : Fin 1024) : iblk m c 3 t (ix2 u l) = Sa m c (ix1 l) := by
  blk_ext! [iblk, V, idx t]
theorem iblk4 (t : Fin cfg0.N) (i : Fin 512) (l : Fin 1024) :
    iblk m c 4 t (ix2 i l) = Ra m c (ix2 ⟨t.val / 3 * 512 + i.val, row_lt t i⟩ l) := by
  blk_ext [iblk, V, idx t]

/-- What a point leaves in the accumulator: a run's first point -/
theorem sc_A (t : Fin cfg0.N) (h : t.val % 3 = 0) (i : Fin 512) (l : Fin 1024) :
    (outsAt0 m c t.val t.isLt).2.2 (ix2 i l) = ds (fun k : Fin 896 => iblk m c 0 t (ix2 i k)) fun k => iblk m c 1 t (ix2 l k) := by
  rw [outsAt0_A m c t h (by omega)]
  dsimp only
  unfold sout0_A_0
  frame_open
  simp (disch := decide) only [↓ View.readCov_skip, ↓ View.readCov_cons_toLoadRect, ↓ View.readCov_fill]
  frame_out
  rw [pay2, pay1, zero_add]
/-- and a later one, as the kernel's own term. -/
theorem sc_step (t : Fin cfg0.N) (h : ¬t.val % 3 = 0) : (outsAt0 m c t.val t.isLt).2.2 = k0_pay2 (F := Ideal)
    (outsAt0 m c (t.val - 1) (Nat.lt_of_le_of_lt (Nat.sub_le _ _) t.isLt)).2.2 (iblk m c 0 t) (iblk m c 1 t) := by
  funext j
  obtain ⟨i, l, rfl⟩ := ix2_split j
  by_cases h1 : t.val % 3 = 2
  · by_cases h2 : t.val < 3
    · rw [outsAt0_C m c t h h1 h2]
      dsimp only
      unfold sout0_C_0
      frame_out
      rw [read_unread_whole]
    · rw [outsAt0_D m c t h h1 h2]
      dsimp only
      unfold sout0_D_0
      frame_out
      rw [read_unread_whole]
  · rw [outsAt0_B m c t h h1]
    dsimp only
    unfold sout0_B_0
    frame_out
    rw [read_unread_whole]

/-- After a run's last point the accumulator holds the gradient of the tile's normalised rows. -/
theorem sc_last (t : Fin cfg0.N) (h1 : t.val % 3 = 2) (i : Fin 512) (l : Fin 1024) :
    (outsAt0 m c t.val t.isLt).2.2 (ix2 i l) = Hm m c (ix2 ⟨t.val / 3 * 512 + i.val, row_lt t i⟩ l) := by
  refine Eq.trans (Pipeline.eq_sum_fin_of_reset_step_apply_of_flush (fun n hn (p : Fin 512 × Fin 1024) => (outsAt0 m c n hn).2.2 (ix2 p.1 p.2)) 3 (fun _ => 0)
    (fun t p => ds (fun k : Fin 896 => iblk m c 0 t (ix2 p.1 k)) fun k => iblk m c 1 t (ix2 p.2 k))
    (fun t h p => (sc_A m c t h p.1 p.2).trans (zero_add _).symm) (fun t h p => by rw [sc_step m c t h, pay2]) t h1 (i, l)) ?_
  rw [zero_add]
  unfold Hm nt ds
  refine Fin.sum_mul_add_congr fun s k hl => ?_
  have hs := s.isLt
  have e1 : (3 * (t.val / 3) + s.val) % 3 = s.val := by omega
  have e2 : (3 * (t.val / 3) + s.val) / 3 = t.val / 3 := by omega
  dsimp only
  rw [iblk0, iblk1]
  simp only [e1, e2]
  rfl

/-- What a run's last point leaves in the rows' gradient, -/
theorem out5 (t : Fin cfg0.N) (h1 : t.val % 3 = 2) (i : Fin 512) (l : Fin 1024) : (outsAt0 m c t.val t.isLt).1 (ix2 i l)
    = k0_pay7 (F := Ideal) (outsAt0 m c t.val t.isLt).2.2 (iblk m c 2 t) (iblk m c 3 t) (iblk m c 4 t) (ix2 i l) := by
  rw [sc_step m c t (by omega)]
  by_cases h2 : t.val < 3
  · rw [outsAt0_C m c t (by omega) h1 h2]
    dsimp only
    unfold out0_C_5
    frame_open
    simp (disch := decide) only [↓ View.readCov_skip, ↓ View.readCov_cons_toLoadRect, ↓ View.readCov_fill]
    frame_out
    rw [read_unread_whole]
  · rw [outsAt0_D m c t (by omega) h1 h2]
    dsimp only
    unfold out0_D_5
    frame_open
    simp (disch := decide) only [↓ View.readCov_skip, ↓ View.readCov_cons_toLoadRect, ↓ View.readCov_fill]
    frame_out
    rw [read_unread_whole]
/-- and in the scale's: the first run -/
theorem out6_C (t : Fin cfg0.N) (h1 : t.val % 3 = 2) (h2 : t.val < 3) (u : Fin 1) (l : Fin 1024) : (outsAt0 m c t.val t.isLt).2.1 (ix2 u l)
    = k0_pay6 (F := Ideal) (outsAt0 m c t.val t.isLt).2.2 (iblk m c 2 t) (k0_pay5 (F := Ideal)) (ix2 u l) := by
  rw [sc_step m c t (by omega), outsAt0_C m c t (by omega) h1 h2]
  dsimp only
  unfold out0_C_6
  frame_open
  simp (disch := decide) only [↓ View.readCov_skip, ↓ View.readCov_cons_toLoadRect, ↓ View.readCov_fill]
  frame_out
  rw [read_unread_whole]
/-- and a later one. -/
theorem out6_D (t : Fin cfg0.N) (h1 : t.val % 3 = 2) (h2 : ¬t.val < 3) (u : Fin 1) (l : Fin 1024) : (outsAt0 m c t.val t.isLt).2.1 (ix2 u l)
    = k0_pay6 (F := Ideal) (outsAt0 m c t.val t.isLt).2.2 (iblk m c 2 t)
        (outsAt0 m c (t.val - 1) (Nat.lt_of_le_of_lt (Nat.sub_le _ _) t.isLt)).2.1 (ix2 u l) := by
  rw [sc_step m c t (by omega), outsAt0_D m c t (by omega) h1 h2]
  dsimp only
  unfold out0_D_6
  frame_open
  simp (disch := decide) only [↓ View.readCov_skip, ↓ View.readCov_cons_toLoadRect, ↓ View.readCov_fill]
  frame_out
  rw [read_unread_whole]
/-- A run's earlier points leave it as it was. -/
theorem out6_keep (t : Fin cfg0.N) (h : ¬t.val % 3 = 2) :
    (outsAt0 m c t.val t.isLt).2.1 = (outsAt0 m c (t.val - 1) (Nat.lt_of_le_of_lt (Nat.sub_le _ _) t.isLt)).2.1 := by
  by_cases h0 : t.val % 3 = 0
  · rw [outsAt0_A m c t h0 h]
    rfl
  · rw [outsAt0_B m c t h0 h]
    rfl

theorem final5 : (dats m 0 c).arrAt 5 cfg0.N = GX (Hm m c) (Xa m c) (Ra m c) (Sa m c) := by
  refine (dats m 0 c).arrAt_eq_of_covers 5 _ (by decide +kernel) fun t hf y => ?_
  have h1 : t.val % 3 = 2 := (flush0_5 t).mp hf
  blk_simp
  rw [after0_5]
  obtain ⟨i, l, rfl⟩ := ix2_split y
  have he : (win0_5.blk t).view.emb (ix2 i l) = ix2 (⟨t.val / 3 * 512 + i.val, row_lt t i⟩ : Fin 8192) l := by
    blk_ext [idx t]
  rw [he]
  refine (out5 m c t h1 i l).trans ?_
  rw [pay7, iblk4, show row (iblk m c 2 t) i = row (Xa m c) ⟨t.val / 3 * 512 + i.val, row_lt t i⟩ from funext fun l => iblk2 m c t i l]
  simp only [sc_last m c t h1, iblk3]
  rfl

/-- A run's points are points. -/
theorem pt_lt (n k : Nat) (h : n < 16) (hk : k < 3) : 3 * n + k < cfg0.N := by
  rw [show cfg0.N = 48 from N_0]; omega
/-- Tile `n`'s last point. -/
abbrev pt (n : Fin 16) : Fin cfg0.N := ⟨3 * n.val + 2, pt_lt n.val 2 n.isLt (by decide)⟩

theorem outs_cast (a b : Nat) (e : a = b) (ha : a < cfg0.N) (hb : b < cfg0.N) : outsAt0 m c a ha = outsAt0 m c b hb := by
  subst e; rfl

/-- Between two runs' last points the scale's gradient stays. -/
theorem keep (n : Nat) (h : n < 16) (h0 : ¬n = 0) :
    (outsAt0 m c (3 * n + 1) (pt_lt n 1 h (by decide))).2.1 = (outsAt0 m c (3 * (n - 1) + 2) (pt_lt (n - 1) 2 (by omega) (by decide))).2.1 :=
  (out6_keep m c ⟨3 * n + 1, pt_lt n 1 h (by decide)⟩ (by dsimp only; omega)).trans
    ((out6_keep m c ⟨3 * n, pt_lt n 0 h (by decide)⟩ (by dsimp only; omega)).trans
      (congrArg (fun p => p.2.1) (outs_cast m c (3 * n - 1) (3 * (n - 1) + 2) (by omega) _ _)))

/-- The scale's gradient at the last point. -/
theorem sg_last (u : Fin 1) (l : Fin 1024) :
    (outsAt0 m c (3 * 15 + 2) (pt_lt 15 2 (by decide) (by decide))).2.1 (ix2 u l) = GS (Hm m c) (Xa m c) (ix2 u l) :=
  run_gs (fun n hn => (outsAt0 m c (3 * n + 2) (pt_lt n 2 hn (by decide))).2.1) (Hm m c) (Xa m c)
    (fun n => (outsAt0 m c (3 * n.val + 2) (pt_lt n.val 2 n.isLt (by decide))).2.2) (fun n => iblk m c 2 (pt n))
    (fun n i l => (sc_last m c (pt n) (by dsimp only; omega) i l).trans (by
      have e : (3 * n.val + 2) / 3 = n.val := by omega
      simp only [e]))
    (fun n i l => (iblk2 m c (pt n) i l).trans (by
      have e : (3 * n.val + 2) / 3 = n.val := by omega
      simp only [e]))
    (fun n h u l => (out6_C m c (pt n) (by dsimp only; omega) (by dsimp only; omega) u l).trans (by rw [pay6, pay5]))
    (fun n h u l => (out6_D m c (pt n) (by dsimp only; omega) (by dsimp only; omega) u l).trans (by
      rw [pay6]
      exact congrArg (· + _) (congrFun (keep m c n.val n.isLt h) _))) u l

/-- The last point. -/
def lastPt : Fin cfg0.N := ⟨3 * 15 + 2, pt_lt 15 2 (by decide) (by decide)⟩

theorem final6 : (dats m 0 c).arrAt 6 cfg0.N = GS (Hm m c) (Xa m c) := by
  refine (dats m 0 c).arrAt_eq_of_after_last 6 lastPt (by decide +kernel) _ fun j => ?_
  blk_simp
  rw [after0_6]
  obtain ⟨u, l, rfl⟩ := ix2_split j
  rw [outs_cast m c lastPt.val (3 * 15 + 2) rfl lastPt.isLt (pt_lt 15 2 (by decide) (by decide)), sg_last]
end

section
open Cert.DheReferenceIdeal Cert.DheReferenceIdeal.Gen Cert.DheReferenceIdeal.Read
variable (x0 : Vec Ideal S8192x2688 .bf16) (x1 : Vec Ideal S1024x2688 .bf16) (x2 : Vec Ideal S8192x1024 .f32) (x3 : Vec Ideal S1024 .f32)
  (x4 : Vec Ideal S8192x1024 .f32)

/-- The shifted mean square of a row, -/
theorem v7 (s : Fin 8192) (u : Fin 1) : val_main_v7 (F := Ideal) x2 (ix2 s u) = ms (row x2 s) := by
  pointwise [val_main_v7, val_main_v6, val_main_cst_1, val_main_v5, val_main_v4, val_main_cst_0, val_main_v3, val_main_v2, val_main_cst, val_main_v1]
  rfl
/-- the factor normalising it, -/
theorem v8 (s : Fin 8192) (u : Fin 1) : val_main_v8 (F := Ideal) x2 (ix2 s u) = nrm (row x2 s) := by
  pointwise [val_main_v8]
  rw [v7]
  rfl
/-- its derivative. -/
theorem v11 (s : Fin 8192) (u : Fin 1) : val_main_v11 (F := Ideal) x2 (ix2 s u)
    = Ideal.ofBits .f32 0xBF000000#32 * Ideal.div (nrm (row x2 s)) (ms (row x2 s)) := by
  pointwise [val_main_v11, val_main_v10, val_main_cst_2, val_main_v9]
  rw [v7, v8]
/-- The normalised rows, -/
theorem v13 (s : Fin 8192) (l : Fin 1024) : val_main_v13 (F := Ideal) x2 (ix2 s l) = x2 (ix2 s l) * nrm (row x2 s) := by
  pointwise [val_main_v13, val_main_v12]
  rw [v8]
/-- their gradient, -/
theorem v19 (s : Fin 8192) (l : Fin 1024) : val_main_v19 (F := Ideal) x0 x1 (ix2 s l) = nt x0 x1 (ix2 s l) := by
  pointwise [val_main_v19, val_main_v18, val_main_v0]
  rfl
/-- the same before the scale, -/
theorem v24 (s : Fin 8192) (l : Fin 1024) : val_main_v24 (F := Ideal) x0 x1 x3 (ix2 s l) = nt x0 x1 (ix2 s l) * x3 (ix1 l) := by
  pointwise [val_main_v24, val_main_v23, val_main_v14]
  rw [v19]
/-- and the scale's gradient. -/
theorem v21 (l : Fin 1024) : val_main_v21 (F := Ideal) x0 x1 x2 (ix1 l)
    = ∑ s : Fin 8192, nt x0 x1 (ix2 s l) * (x2 (ix2 s l) * nrm (row x2 s)) := by
  pointwise [val_main_v21, val_main_cst_3, val_main_v20]
  exact Finset.sum_congr rfl fun s _ => by rw [v13, v19, mul_comm]
theorem v41 : val_main_v41 (F := Ideal) x0 x1 x2 = GS (nt x0 x1) x2 := by
  funext j
  obtain ⟨u, l, rfl⟩ := ix2_split j
  pointwise [val_main_v41, val_main_v25, val_main_cst_4, val_main_v22]
  rw [Fin.sum_univ_one, v21]
  rfl
/-- The term through the root. -/
theorem v28 (s : Fin 8192) (u : Fin 1) : val_main_v28 (F := Ideal) x0 x1 x2 x3 (ix2 s u)
    = ∑ d : Fin 1024, x2 (ix2 s d) * (nt x0 x1 (ix2 s d) * x3 (ix1 d)) := by
  pointwise [val_main_v28, val_main_v27, val_main_cst_5, val_main_v26]
  exact Finset.sum_congr rfl fun d _ => by rw [v24]
theorem v36 (s : Fin 8192) (l : Fin 1024) : val_main_v36 (F := Ideal) x0 x1 x2 x3 (ix2 s l)
    = root (fun d => nt x0 x1 (ix2 s d) * x3 (ix1 d)) (row x2 s) := by
  pointwise [val_main_v36, val_main_v35, val_main_cst_7, val_main_v34, val_main_v33, val_main_cst_6, val_main_v32]
  rw [Fin.sum_univ_one, v28, v11]
  rfl
theorem v40 : val_main_v40 (F := Ideal) x0 x1 x2 x3 x4 = GX (nt x0 x1) x2 x4 x3 := by
  funext j
  obtain ⟨s, l, rfl⟩ := ix2_split j
  pointwise [val_main_v40, val_main_v39, val_main_v38, val_main_v37, val_main_v31, val_main_v30, val_main_v29]
  rw [v24, v8, v36]
  exact gx_eq (fun d => nt x0 x1 (ix2 s d) * x3 (ix1 d)) (row x2 s) (x4 (ix2 s l)) l
end

/-- The kernel's two arrays are the reference's. -/
theorem algebraic : Cert.algebraic_DheKernelIdeal_DheReferenceIdeal := by
  pair_intro
  · run_from Cert.DheKernelIdeal.Value.run_blocks m g
  · run_from Cert.DheReferenceIdeal.Value.run m' g'
    · obtain ⟨e0, e1, e2, e3, e4⟩ := hagree c
      rw [Cert.DheReferenceIdeal.Read.val_main_v40_eq, e0, e1, e2, e3, e4]
      exact (v40 _ _ _ _ _).trans (final5 m c).symm
    · exact ((Cert.DheReferenceIdeal.Read.val_main_v41_eq _ _ _).trans (v41 _ _ _)).trans (final6 m c).symm

/-- The reference runs, keeps its arguments and leaves every counter at zero. -/
theorem frame_ref : Cert.quiescent_DheReferenceIdeal := fun m ρ _ =>
  (θ_run Cert.DheReferenceIdeal.defs _ _).mono (fun r h => ⟨fun c => (h c).2.2, sem_eq_zero_of_no_sems (by decide) r.2⟩)
    (Cert.DheReferenceIdeal.Value.run (F := Ideal) m ρ)

end Cert.Proof.DheClaim

end
-- ==== Proof.DhoClaim.lean ====
/-
  The gradient through an odd layer's first normalisation (d_h1): the kernel's arrays and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DhoKernelIdeal.Value
public import proofs.«01_k».proof.Proof.Gen.DhoReferenceIdeal.Read
public import proofs.«01_k».proof.Proof.Gen.DhoReferenceIdeal.Run
public import proofs.«01_k».proof.Proof.NormBack

@[expose] public section

set_option maxRecDepth 16384

noncomputable section

namespace Cert.Proof.DhoClaim

open Idealize.ShloMosaic Cert.ActSpec Cert.Products Cert.DhSpec Cert.NormBack

section
open Cert.DhoKernelIdeal Cert.DhoKernelIdeal.Gen
open Idealize.ShloMosaic.TcCoe Idealize.SL.Sem
open Idealize.ShloMosaic.Pipeline (Dat)

/-- The accumulator starts from zero, -/
theorem pay1 (j : S512x1024.Idx) : k0_pay1 (F := Ideal) j = 0 := by
  obtain ⟨i, l, rfl⟩ := ix2_split j
  pointwise [k0_pay1]
/-- and so does the scale's gradient. -/
theorem pay5 (j : S1x1024.Idx) : k0_pay5 (F := Ideal) j = 0 := by
  obtain ⟨i, l, rfl⟩ := ix2_split j
  pointwise [k0_pay5]
/-- A point adds its products. -/
theorem pay2 (A : Vec Ideal S512x1024 .f32) (D : Vec Ideal S512x2048 .bf16) (W : Vec Ideal S1024x2048 .bf16) (i : Fin 512) (l : Fin 1024) :
    k0_pay2 (F := Ideal) A D W (ix2 i l) = A (ix2 i l) + ds (fun k : Fin 2048 => D (ix2 i k)) fun k => W (ix2 l k) := by
  pointwise [k0_pay2]
  rfl

section
variable (A X : Vec Ideal S512x1024 .f32)

/-- The factor normalising a row, -/
theorem pay3 (i : Fin 512) (u : Fin 1) : k0_pay3 (F := Ideal) X (ix2 i u) = nrm (row X i) := by
  pointwise [k0_pay3]
  rfl
/-- the normalised row, -/
theorem pay4 (i : Fin 512) (l : Fin 1024) : k0_pay4 (F := Ideal) X (ix2 i l) = X (ix2 i l) * nrm (row X i) := by
  pointwise [k0_pay4]
  rw [pay3]
/-- what a row tile adds to the scale's gradient, -/
theorem pay6 (D : Vec Ideal S1x1024 .f32) (u : Fin 1) (l : Fin 1024) :
    k0_pay6 (F := Ideal) A X D (ix2 u l) = D (ix2 u l) + tile A X l := by
  obtain rfl : u = 0 := Subsingleton.elim _ _
  pointwise [k0_pay6]
  simp only [pay4]
  rfl
/-- and the rows' gradient. -/
theorem pay7 (G : Vec Ideal S1x1024 .f32) (R : Vec Ideal S512x1024 .f32) (i : Fin 512) (l : Fin 1024) :
    k0_pay7 (F := Ideal) A X G R (ix2 i l) = R (ix2 i l) + gx (fun d => A (ix2 i d) * G (ix2 0 d)) (row X i) l := by
  pointwise [k0_pay7]
  simp only [pay4, pay3]
  rfl
end

variable (m : (ℓ : Loc nD τ sig) → Buf (Elt Ideal) ℓ) (c : Dev nD)

/-- The incoming gradient, -/
abbrev Da : Vec Ideal S8192x2048 .bf16 := m ((c : Thread nD τ).loc main_arg0)
/-- the weight, -/
abbrev Wa : Vec Ideal S1024x2048 .bf16 := m ((c : Thread nD τ).loc main_arg1)
/-- the rows, -/
abbrev Xa : Vec Ideal S8192x1024 .f32 := m ((c : Thread nD τ).loc main_arg2)
/-- the normalisation's scale -/
abbrev Sa : Vec Ideal S1024 .f32 := m ((c : Thread nD τ).loc main_arg3)
/-- and the gradient passed around. -/
abbrev Ra : Vec Ideal S8192x1024 .f32 := m ((c : Thread nD τ).loc main_arg4)
/-- The gradient of the normalised rows. -/
abbrev Hm : Mat 8192 1024 := nt (Da m c) (Wa m c)

/-- The windows' block indices at a point (decided). -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, _)

/-- Row `i` of point `t`'s block is a row of the array. -/
theorem row_lt (t : Fin cfg0.N) (i : Fin 512) : t.val * 512 + i.val < 8192 := by
  have h : cfg0.N = 16 := N_0
  have := t.isLt; have := i.isLt; omega

theorem iblk0 (t : Fin cfg0.N) (i : Fin 512) (k : Fin 2048) :
    iblk m c 0 t (ix2 i k) = Da m c (ix2 ⟨t.val * 512 + i.val, row_lt t i⟩ k) := by
  blk_ext [iblk, V, idx t]
theorem iblk1 (t : Fin cfg0.N) (l : Fin 1024) (k : Fin 2048) : iblk m c 1 t (ix2 l k) = Wa m c (ix2 l k) := by
  blk_ext [iblk, V, idx t]
theorem iblk2 (t : Fin cfg0.N) (i : Fin 512) (l : Fin 1024) :
    iblk m c 2 t (ix2 i l) = Xa m c (ix2 ⟨t.val * 512 + i.val, row_lt t i⟩ l) := by
  blk_ext [iblk, V, idx t]
theorem iblk3 (t : Fin cfg0.N) (u : Fin 1) (l : Fin 1024) : iblk m c 3 t (ix2 u l) = Sa m c (ix1 l) := by
  blk_ext! [iblk, V, idx t]
theorem iblk4 (t : Fin cfg0.N) (i : Fin 512) (l : Fin 1024) :
    iblk m c 4 t (ix2 i l) = Ra m c (ix2 ⟨t.val * 512 + i.val, row_lt t i⟩ l) := by
  blk_ext [iblk, V, idx t]

/-- The gradient of a tile's normalised rows, as the kernel's own term. -/
abbrev acc (t : Fin cfg0.N) : Vec Ideal S512x1024 .f32 :=
  k0_pay2 (F := Ideal) (k0_pay1 (F := Ideal)) (iblk m c 0 t) (iblk m c 1 t)

theorem acc_eq (t : Fin cfg0.N) (i : Fin 512) (l : Fin 1024) :
    acc m c t (ix2 i l) = Hm m c (ix2 ⟨t.val * 512 + i.val, row_lt t i⟩ l) := by
  rw [acc, pay2, pay1, zero_add]
  simp only [iblk0, iblk1]
  rfl

/-- What a point leaves in the rows' gradient, -/
theorem out5 (t : Fin cfg0.N) (i : Fin 512) (l : Fin 1024) : (outsAt0 m c t.val t.isLt).1 (ix2 i l)
    = k0_pay7 (F := Ideal) (acc m c t) (iblk m c 2 t) (iblk m c 3 t) (iblk m c 4 t) (ix2 i l) := by
  by_cases h : t.val % 16 = 0
  · rw [outsAt0_A m c t h]
    dsimp only
    unfold out0_A_5
    frame_open
    simp (disch := decide) only [↓ View.readCov_skip, ↓ View.readCov_cons_toLoadRect, ↓ View.readCov_fill]
    frame_out
  · rw [outsAt0_B m c t h]
    dsimp only
    unfold out0_B_5
    frame_open
    simp (disch := decide) only [↓ View.readCov_skip, ↓ View.readCov_cons_toLoadRect, ↓ View.readCov_fill]
    frame_out
/-- and in the scale's: the first point -/
theorem out6_A (t : Fin cfg0.N) (h : t.val % 16 = 0) (u : Fin 1) (l : Fin 1024) : (outsAt0 m c t.val t.isLt).2 (ix2 u l)
    = k0_pay6 (F := Ideal) (acc m c t) (iblk m c 2 t) (k0_pay5 (F := Ideal)) (ix2 u l) := by
  rw [outsAt0_A m c t h]
  dsimp only
  unfold out0_A_6
  frame_open
  simp (disch := decide) only [↓ View.readCov_skip, ↓ View.readCov_cons_toLoadRect, ↓ View.readCov_fill]
  frame_out
/-- and a later one. -/
theorem out6_B (t : Fin cfg0.N) (h : ¬t.val % 16 = 0) (u : Fin 1) (l : Fin 1024) : (outsAt0 m c t.val t.isLt).2 (ix2 u l)
    = k0_pay6 (F := Ideal) (acc m c t) (iblk m c 2 t)
        (outsAt0 m c (t.val - 1) (Nat.lt_of_le_of_lt (Nat.sub_le _ _) t.isLt)).2 (ix2 u l) := by
  rw [outsAt0_B m c t h]
  dsimp only
  unfold out0_B_6
  frame_open
  simp (disch := decide) only [↓ View.readCov_skip, ↓ View.readCov_cons_toLoadRect, ↓ View.readCov_fill]
  frame_out

theorem final5 : (dats m 0 c).arrAt 5 cfg0.N = GX (Hm m c) (Xa m c) (Ra m c) (Sa m c) := by
  refine (dats m 0 c).arrAt_eq_of_covers 5 _ (by decide +kernel) fun t hf y => ?_
  blk_simp
  rw [after0_5]
  obtain ⟨i, l, rfl⟩ := ix2_split y
  have he : (win0_5.blk t).view.emb (ix2 i l) = ix2 (⟨t.val * 512 + i.val, row_lt t i⟩ : Fin 8192) l := by
    blk_ext [idx t]
  rw [he]
  refine (out5 m c t i l).trans ?_
  rw [pay7, iblk4, show row (iblk m c 2 t) i = row (Xa m c) ⟨t.val * 512 + i.val, row_lt t i⟩ from funext fun l => iblk2 m c t i l]
  simp only [acc_eq, iblk3]
  rfl

/-- There are sixteen points. -/
theorem pt_lt {a : Nat} (h : a < 16) : a < cfg0.N := lt_of_lt_of_eq h N_0.symm
/-- Tile `n`'s point. -/
abbrev pt (n : Fin 16) : Fin cfg0.N := ⟨n.val, pt_lt n.isLt⟩

/-- The scale's gradient at the last point. -/
theorem sg_last (u : Fin 1) (l : Fin 1024) : (outsAt0 m c 15 (pt_lt (by decide))).2 (ix2 u l) = GS (Hm m c) (Xa m c) (ix2 u l) :=
  run_gs (fun n hn => (outsAt0 m c n (pt_lt hn)).2) (Hm m c) (Xa m c) (fun n => acc m c (pt n)) (fun n => iblk m c 2 (pt n))
    (fun n i l => acc_eq m c (pt n) i l) (fun n i l => iblk2 m c (pt n) i l)
    (fun n h u l => (out6_A m c (pt n) (by dsimp only; omega) u l).trans (by rw [pay6, pay5]))
    (fun n h u l => (out6_B m c (pt n) (by have := n.isLt; dsimp only; omega) u l).trans (by rw [pay6])) u l

theorem final6 : (dats m 0 c).arrAt 6 cfg0.N = GS (Hm m c) (Xa m c) := by
  refine (dats m 0 c).arrAt_eq_of_after_last 6 (pt 15) (by decide +kernel) _ fun j => ?_
  blk_simp
  rw [after0_6]
  obtain ⟨u, l, rfl⟩ := ix2_split j
  exact sg_last m c u l
end

section
open Cert.DhoReferenceIdeal Cert.DhoReferenceIdeal.Gen Cert.DhoReferenceIdeal.Read
variable (x0 : Vec Ideal S8192x2048 .bf16) (x1 : Vec Ideal S1024x2048 .bf16) (x2 : Vec Ideal S8192x1024 .f32) (x3 : Vec Ideal S1024 .f32)
  (x4 : Vec Ideal S8192x1024 .f32)

/-- The shifted mean square of a row, -/
theorem v7 (s : Fin 8192) (u : Fin 1) : val_main_v7 (F := Ideal) x2 (ix2 s u) = ms (row x2 s) := by
  pointwise [val_main_v7, val_main_v6, val_main_cst_1, val_main_v5, val_main_v4, val_main_cst_0, val_main_v3, val_main_v2, val_main_cst, val_main_v1]
  rfl
/-- the factor normalising it, -/
theorem v8 (s : Fin 8192) (u : Fin 1) : val_main_v8 (F := Ideal) x2 (ix2 s u) = nrm (row x2 s) := by
  pointwise [val_main_v8]
  rw [v7]
  rfl
/-- its derivative. -/
theorem v11 (s : Fin 8192) (u : Fin 1) : val_main_v11 (F := Ideal) x2 (ix2 s u)
    = Ideal.ofBits .f32 0xBF000000#32 * Ideal.div (nrm (row x2 s)) (ms (row x2 s)) := by
  pointwise [val_main_v11, val_main_v10, val_main_cst_2, val_main_v9]
  rw [v7, v8]
/-- The normalised rows, -/
theorem v13 (s : Fin 8192) (l : Fin 1024) : val_main_v13 (F := Ideal) x2 (ix2 s l) = x2 (ix2 s l) * nrm (row x2 s) := by
  pointwise [val_main_v13, val_main_v12]
  rw [v8]
/-- their gradient, -/
theorem v19 (s : Fin 8192) (l : Fin 1024) : val_main_v19 (F := Ideal) x0 x1 (ix2 s l) = nt x0 x1 (ix2 s l) := by
  pointwise [val_main_v19, val_main_v18, val_main_v0]
  rfl
/-- the same before the scale, -/
theorem v24 (s : Fin 8192) (l : Fin 1024) : val_main_v24 (F := Ideal) x0 x1 x3 (ix2 s l) = nt x0 x1 (ix2 s l) * x3 (ix1 l) := by
  pointwise [val_main_v24, val_main_v23, val_main_v14]
  rw [v19]
/-- and the scale's gradient. -/
theorem v21 (l : Fin 1024) : val_main_v21 (F := Ideal) x0 x1 x2 (ix1 l)
    = ∑ s : Fin 8192, nt x0 x1 (ix2 s l) * (x2 (ix2 s l) * nrm (row x2 s)) := by
  pointwise [val_main_v21, val_main_cst_3, val_main_v20]
  exact Finset.sum_congr rfl fun s _ => by rw [v13, v19, mul_comm]
theorem v41 : val_main_v41 (F := Ideal) x0 x1 x2 = GS (nt x0 x1) x2 := by
  funext j
  obtain ⟨u, l, rfl⟩ := ix2_split j
  pointwise [val_main_v41, val_main_v25, val_main_cst_4, val_main_v22]
  rw [Fin.sum_univ_one, v21]
  rfl
/-- The term through the root. -/
theorem v28 (s : Fin 8192) (u : Fin 1) : val_main_v28 (F := Ideal) x0 x1 x2 x3 (ix2 s u)
    = ∑ d : Fin 1024, x2 (ix2 s d) * (nt x0 x1 (ix2 s d) * x3 (ix1 d)) := by
  pointwise [val_main_v28, val_main_v27, val_main_cst_5, val_main_v26]
  exact Finset.sum_congr rfl fun d _ => by rw [v24]
theorem v36 (s : Fin 8192) (l : Fin 1024) : val_main_v36 (F := Ideal) x0 x1 x2 x3 (ix2 s l)
    = root (fun d => nt x0 x1 (ix2 s d) * x3 (ix1 d)) (row x2 s) := by
  pointwise [val_main_v36, val_main_v35, val_main_cst_7, val_main_v34, val_main_v33, val_main_cst_6, val_main_v32]
  rw [Fin.sum_univ_one, v28, v11]
  rfl
theorem v40 : val_main_v40 (F := Ideal) x0 x1 x2 x3 x4 = GX (nt x0 x1) x2 x4 x3 := by
  funext j
  obtain ⟨s, l, rfl⟩ := ix2_split j
  pointwise [val_main_v40, val_main_v39, val_main_v38, val_main_v37, val_main_v31, val_main_v30, val_main_v29]
  rw [v24, v8, v36]
  exact gx_eq (fun d => nt x0 x1 (ix2 s d) * x3 (ix1 d)) (row x2 s) (x4 (ix2 s l)) l
end

/-- The kernel's two arrays are the reference's. -/
theorem algebraic : Cert.algebraic_DhoKernelIdeal_DhoReferenceIdeal := by
  pair_intro
  · run_from Cert.DhoKernelIdeal.Value.run_blocks m g
  · run_from Cert.DhoReferenceIdeal.Value.run m' g'
    · obtain ⟨e0, e1, e2, e3, e4⟩ := hagree c
      rw [Cert.DhoReferenceIdeal.Read.val_main_v40_eq, e0, e1, e2, e3, e4]
      exact (v40 _ _ _ _ _).trans (final5 m c).symm
    · exact ((Cert.DhoReferenceIdeal.Read.val_main_v41_eq _ _ _).trans (v41 _ _ _)).trans (final6 m c).symm

/-- The reference runs, keeps its arguments and leaves every counter at zero. -/
theorem frame_ref : Cert.quiescent_DhoReferenceIdeal := fun m ρ _ =>
  (θ_run Cert.DhoReferenceIdeal.defs _ _).mono (fun r h => ⟨fun c => (h c).2.2, sem_eq_zero_of_no_sems (by decide) r.2⟩)
    (Cert.DhoReferenceIdeal.Value.run (F := Ideal) m ρ)

end Cert.Proof.DhoClaim

end
-- ==== Proof.DhqClaim.lean ====
/-
  The gradient through the cross attention's normalisation (d_h2): the kernel's arrays and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DhqKernelIdeal.Value
public import proofs.«01_k».proof.Proof.Gen.DhqReferenceIdeal.Read
public import proofs.«01_k».proof.Proof.Gen.DhqReferenceIdeal.Run
public import proofs.«01_k».proof.Proof.NormBack

@[expose] public section

set_option maxRecDepth 16384

noncomputable section

namespace Cert.Proof.DhqClaim

open Idealize.ShloMosaic Cert.ActSpec Cert.Products Cert.DhSpec Cert.NormBack

section
open Cert.DhqKernelIdeal Cert.DhqKernelIdeal.Gen
open Idealize.ShloMosaic.TcCoe Idealize.SL.Sem
open Idealize.ShloMosaic.Pipeline (Dat)

/-- The accumulator starts from zero, -/
theorem pay1 (j : S512x1024.Idx) : k0_pay1 (F := Ideal) j = 0 := by
  obtain ⟨i, l, rfl⟩ := ix2_split j
  pointwise [k0_pay1]
/-- and so does the scale's gradient. -/
theorem pay5 (j : S1x1024.Idx) : k0_pay5 (F := Ideal) j = 0 := by
  obtain ⟨i, l, rfl⟩ := ix2_split j
  pointwise [k0_pay5]
/-- A point adds its products. -/
theorem pay2 (A : Vec Ideal S512x1024 .f32) (D : Vec Ideal S512x512 .bf16) (W : Vec Ideal S1024x512 .bf16) (i : Fin 512) (l : Fin 1024) :
    k0_pay2 (F := Ideal) A D W (ix2 i l) = A (ix2 i l) + ds (fun k : Fin 512 => D (ix2 i k)) fun k => W (ix2 l k) := by
  pointwise [k0_pay2]
  rfl

section
variable (A X : Vec Ideal S512x1024 .f32)

/-- The factor normalising a row, -/
theorem pay3 (i : Fin 512) (u : Fin 1) : k0_pay3 (F := Ideal) X (ix2 i u) = nrm (row X i) := by
  pointwise [k0_pay3]
  rfl
/-- the normalised row, -/
theorem pay4 (i : Fin 512) (l : Fin 1024) : k0_pay4 (F := Ideal) X (ix2 i l) = X (ix2 i l) * nrm (row X i) := by
  pointwise [k0_pay4]
  rw [pay3]
/-- what a row tile adds to the scale's gradient, -/
theorem pay6 (D : Vec Ideal S1x1024 .f32) (u : Fin 1) (l : Fin 1024) :
    k0_pay6 (F := Ideal) A X D (ix2 u l) = D (ix2 u l) + tile A X l := by
  obtain rfl : u = 0 := Subsingleton.elim _ _
  pointwise [k0_pay6]
  simp only [pay4]
  rfl
/-- and the rows' gradient. -/
theorem pay7 (G : Vec Ideal S1x1024 .f32) (R : Vec Ideal S512x1024 .f32) (i : Fin 512) (l : Fin 1024) :
    k0_pay7 (F := Ideal) A X G R (ix2 i l) = R (ix2 i l) + gx (fun d => A (ix2 i d) * G (ix2 0 d)) (row X i) l := by
  pointwise [k0_pay7]
  simp only [pay4, pay3]
  rfl
end

variable (m : (ℓ : Loc nD τ sig) → Buf (Elt Ideal) ℓ) (c : Dev nD)

/-- The incoming gradient, -/
abbrev Da : Vec Ideal S8192x512 .bf16 := m ((c : Thread nD τ).loc main_arg0)
/-- the weight, -/
abbrev Wa : Vec Ideal S1024x512 .bf16 := m ((c : Thread nD τ).loc main_arg1)
/-- the rows, -/
abbrev Xa : Vec Ideal S8192x1024 .f32 := m ((c : Thread nD τ).loc main_arg2)
/-- the normalisation's scale -/
abbrev Sa : Vec Ideal S1024 .f32 := m ((c : Thread nD τ).loc main_arg3)
/-- and the gradient passed around. -/
abbrev Ra : Vec Ideal S8192x1024 .f32 := m ((c : Thread nD τ).loc main_arg4)
/-- The gradient of the normalised rows. -/
abbrev Hm : Mat 8192 1024 := nt (Da m c) (Wa m c)

/-- The windows' block indices at a point (decided). -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, _)

/-- Row `i` of point `t`'s block is a row of the array. -/
theorem row_lt (t : Fin cfg0.N) (i : Fin 512) : t.val * 512 + i.val < 8192 := by
  have h : cfg0.N = 16 := N_0
  have := t.isLt; have := i.isLt; omega

theorem iblk0 (t : Fin cfg0.N) (i : Fin 512) (k : Fin 512) :
    iblk m c 0 t (ix2 i k) = Da m c (ix2 ⟨t.val * 512 + i.val, row_lt t i⟩ k) := by
  blk_ext [iblk, V, idx t]
theorem iblk1 (t : Fin cfg0.N) (l : Fin 1024) (k : Fin 512) : iblk m c 1 t (ix2 l k) = Wa m c (ix2 l k) := by
  blk_ext [iblk, V, idx t]
theorem iblk2 (t : Fin cfg0.N) (i : Fin 512) (l : Fin 1024) :
    iblk m c 2 t (ix2 i l) = Xa m c (ix2 ⟨t.val * 512 + i.val, row_lt t i⟩ l) := by
  blk_ext [iblk, V, idx t]
theorem iblk3 (t : Fin cfg0.N) (u : Fin 1) (l : Fin 1024) : iblk m c 3 t (ix2 u l) = Sa m c (ix1 l) := by
  blk_ext! [iblk, V, idx t]
theorem iblk4 (t : Fin cfg0.N) (i : Fin 512) (l : Fin 1024) :
    iblk m c 4 t (ix2 i l) = Ra m c (ix2 ⟨t.val * 512 + i.val, row_lt t i⟩ l) := by
  blk_ext [iblk, V, idx t]

/-- The gradient of a tile's normalised rows, as the kernel's own term. -/
abbrev acc (t : Fin cfg0.N) : Vec Ideal S512x1024 .f32 :=
  k0_pay2 (F := Ideal) (k0_pay1 (F := Ideal)) (iblk m c 0 t) (iblk m c 1 t)

theorem acc_eq (t : Fin cfg0.N) (i : Fin 512) (l : Fin 1024) :
    acc m c t (ix2 i l) = Hm m c (ix2 ⟨t.val * 512 + i.val, row_lt t i⟩ l) := by
  rw [acc, pay2, pay1, zero_add]
  simp only [iblk0, iblk1]
  rfl

/-- What a point leaves in the rows' gradient, -/
theorem out5 (t : Fin cfg0.N) (i : Fin 512) (l : Fin 1024) : (outsAt0 m c t.val t.isLt).1 (ix2 i l)
    = k0_pay7 (F := Ideal) (acc m c t) (iblk m c 2 t) (iblk m c 3 t) (iblk m c 4 t) (ix2 i l) := by
  by_cases h : t.val % 16 = 0
  · rw [outsAt0_A m c t h]
    dsimp only
    unfold out0_A_5
    frame_open
    simp (disch := decide) only [↓ View.readCov_skip, ↓ View.readCov_cons_toLoadRect, ↓ View.readCov_fill]
    frame_out
  · rw [outsAt0_B m c t h]
    dsimp only
    unfold out0_B_5
    frame_open
    simp (disch := decide) only [↓ View.readCov_skip, ↓ View.readCov_cons_toLoadRect, ↓ View.readCov_fill]
    frame_out
/-- and in the scale's: the first point -/
theorem out6_A (t : Fin cfg0.N) (h : t.val % 16 = 0) (u : Fin 1) (l : Fin 1024) : (outsAt0 m c t.val t.isLt).2 (ix2 u l)
    = k0_pay6 (F := Ideal) (acc m c t) (iblk m c 2 t) (k0_pay5 (F := Ideal)) (ix2 u l) := by
  rw [outsAt0_A m c t h]
  dsimp only
  unfold out0_A_6
  frame_open
  simp (disch := decide) only [↓ View.readCov_skip, ↓ View.readCov_cons_toLoadRect, ↓ View.readCov_fill]
  frame_out
/-- and a later one. -/
theorem out6_B (t : Fin cfg0.N) (h : ¬t.val % 16 = 0) (u : Fin 1) (l : Fin 1024) : (outsAt0 m c t.val t.isLt).2 (ix2 u l)
    = k0_pay6 (F := Ideal) (acc m c t) (iblk m c 2 t)
        (outsAt0 m c (t.val - 1) (Nat.lt_of_le_of_lt (Nat.sub_le _ _) t.isLt)).2 (ix2 u l) := by
  rw [outsAt0_B m c t h]
  dsimp only
  unfold out0_B_6
  frame_open
  simp (disch := decide) only [↓ View.readCov_skip, ↓ View.readCov_cons_toLoadRect, ↓ View.readCov_fill]
  frame_out

theorem final5 : (dats m 0 c).arrAt 5 cfg0.N = GX (Hm m c) (Xa m c) (Ra m c) (Sa m c) := by
  refine (dats m 0 c).arrAt_eq_of_covers 5 _ (by decide +kernel) fun t hf y => ?_
  blk_simp
  rw [after0_5]
  obtain ⟨i, l, rfl⟩ := ix2_split y
  have he : (win0_5.blk t).view.emb (ix2 i l) = ix2 (⟨t.val * 512 + i.val, row_lt t i⟩ : Fin 8192) l := by
    blk_ext [idx t]
  rw [he]
  refine (out5 m c t i l).trans ?_
  rw [pay7, iblk4, show row (iblk m c 2 t) i = row (Xa m c) ⟨t.val * 512 + i.val, row_lt t i⟩ from funext fun l => iblk2 m c t i l]
  simp only [acc_eq, iblk3]
  rfl

/-- There are sixteen points. -/
theorem pt_lt {a : Nat} (h : a < 16) : a < cfg0.N := lt_of_lt_of_eq h N_0.symm
/-- Tile `n`'s point. -/
abbrev pt (n : Fin 16) : Fin cfg0.N := ⟨n.val, pt_lt n.isLt⟩

/-- The scale's gradient at the last point. -/
theorem sg_last (u : Fin 1) (l : Fin 1024) : (outsAt0 m c 15 (pt_lt (by decide))).2 (ix2 u l) = GS (Hm m c) (Xa m c) (ix2 u l) :=
  run_gs (fun n hn => (outsAt0 m c n (pt_lt hn)).2) (Hm m c) (Xa m c) (fun n => acc m c (pt n)) (fun n => iblk m c 2 (pt n))
    (fun n i l => acc_eq m c (pt n) i l) (fun n i l => iblk2 m c (pt n) i l)
    (fun n h u l => (out6_A m c (pt n) (by dsimp only; omega) u l).trans (by rw [pay6, pay5]))
    (fun n h u l => (out6_B m c (pt n) (by have := n.isLt; dsimp only; omega) u l).trans (by rw [pay6])) u l

theorem final6 : (dats m 0 c).arrAt 6 cfg0.N = GS (Hm m c) (Xa m c) := by
  refine (dats m 0 c).arrAt_eq_of_after_last 6 (pt 15) (by decide +kernel) _ fun j => ?_
  blk_simp
  rw [after0_6]
  obtain ⟨u, l, rfl⟩ := ix2_split j
  exact sg_last m c u l
end

section
open Cert.DhqReferenceIdeal Cert.DhqReferenceIdeal.Gen Cert.DhqReferenceIdeal.Read
variable (x0 : Vec Ideal S8192x512 .bf16) (x1 : Vec Ideal S1024x512 .bf16) (x2 : Vec Ideal S8192x1024 .f32) (x3 : Vec Ideal S1024 .f32)
  (x4 : Vec Ideal S8192x1024 .f32)

/-- The shifted mean square of a row, -/
theorem v7 (s : Fin 8192) (u : Fin 1) : val_main_v7 (F := Ideal) x2 (ix2 s u) = ms (row x2 s) := by
  pointwise [val_main_v7, val_main_v6, val_main_cst_1, val_main_v5, val_main_v4, val_main_cst_0, val_main_v3, val_main_v2, val_main_cst, val_main_v1]
  rfl
/-- the factor normalising it, -/
theorem v8 (s : Fin 8192) (u : Fin 1) : val_main_v8 (F := Ideal) x2 (ix2 s u) = nrm (row x2 s) := by
  pointwise [val_main_v8]
  rw [v7]
  rfl
/-- its derivative. -/
theorem v11 (s : Fin 8192) (u : Fin 1) : val_main_v11 (F := Ideal) x2 (ix2 s u)
    = Ideal.ofBits .f32 0xBF000000#32 * Ideal.div (nrm (row x2 s)) (ms (row x2 s)) := by
  pointwise [val_main_v11, val_main_v10, val_main_cst_2, val_main_v9]
  rw [v7, v8]
/-- The normalised rows, -/
theorem v13 (s : Fin 8192) (l : Fin 1024) : val_main_v13 (F := Ideal) x2 (ix2 s l) = x2 (ix2 s l) * nrm (row x2 s) := by
  pointwise [val_main_v13, val_main_v12]
  rw [v8]
/-- their gradient, -/
theorem v19 (s : Fin 8192) (l : Fin 1024) : val_main_v19 (F := Ideal) x0 x1 (ix2 s l) = nt x0 x1 (ix2 s l) := by
  pointwise [val_main_v19, val_main_v18, val_main_v0]
  rfl
/-- the same before the scale, -/
theorem v24 (s : Fin 8192) (l : Fin 1024) : val_main_v24 (F := Ideal) x0 x1 x3 (ix2 s l) = nt x0 x1 (ix2 s l) * x3 (ix1 l) := by
  pointwise [val_main_v24, val_main_v23, val_main_v14]
  rw [v19]
/-- and the scale's gradient. -/
theorem v21 (l : Fin 1024) : val_main_v21 (F := Ideal) x0 x1 x2 (ix1 l)
    = ∑ s : Fin 8192, nt x0 x1 (ix2 s l) * (x2 (ix2 s l) * nrm (row x2 s)) := by
  pointwise [val_main_v21, val_main_cst_3, val_main_v20]
  exact Finset.sum_congr rfl fun s _ => by rw [v13, v19, mul_comm]
theorem v41 : val_main_v41 (F := Ideal) x0 x1 x2 = GS (nt x0 x1) x2 := by
  funext j
  obtain ⟨u, l, rfl⟩ := ix2_split j
  pointwise [val_main_v41, val_main_v25, val_main_cst_4, val_main_v22]
  rw [Fin.sum_univ_one, v21]
  rfl
/-- The term through the root. -/
theorem v28 (s : Fin 8192) (u : Fin 1) : val_main_v28 (F := Ideal) x0 x1 x2 x3 (ix2 s u)
    = ∑ d : Fin 1024, x2 (ix2 s d) * (nt x0 x1 (ix2 s d) * x3 (ix1 d)) := by
  pointwise [val_main_v28, val_main_v27, val_main_cst_5, val_main_v26]
  exact Finset.sum_congr rfl fun d _ => by rw [v24]
theorem v36 (s : Fin 8192) (l : Fin 1024) : val_main_v36 (F := Ideal) x0 x1 x2 x3 (ix2 s l)
    = root (fun d => nt x0 x1 (ix2 s d) * x3 (ix1 d)) (row x2 s) := by
  pointwise [val_main_v36, val_main_v35, val_main_cst_7, val_main_v34, val_main_v33, val_main_cst_6, val_main_v32]
  rw [Fin.sum_univ_one, v28, v11]
  rfl
theorem v40 : val_main_v40 (F := Ideal) x0 x1 x2 x3 x4 = GX (nt x0 x1) x2 x4 x3 := by
  funext j
  obtain ⟨s, l, rfl⟩ := ix2_split j
  pointwise [val_main_v40, val_main_v39, val_main_v38, val_main_v37, val_main_v31, val_main_v30, val_main_v29]
  rw [v24, v8, v36]
  exact gx_eq (fun d => nt x0 x1 (ix2 s d) * x3 (ix1 d)) (row x2 s) (x4 (ix2 s l)) l
end

/-- The kernel's two arrays are the reference's. -/
theorem algebraic : Cert.algebraic_DhqKernelIdeal_DhqReferenceIdeal := by
  pair_intro
  · run_from Cert.DhqKernelIdeal.Value.run_blocks m g
  · run_from Cert.DhqReferenceIdeal.Value.run m' g'
    · obtain ⟨e0, e1, e2, e3, e4⟩ := hagree c
      rw [Cert.DhqReferenceIdeal.Read.val_main_v40_eq, e0, e1, e2, e3, e4]
      exact (v40 _ _ _ _ _).trans (final5 m c).symm
    · exact ((Cert.DhqReferenceIdeal.Read.val_main_v41_eq _ _ _).trans (v41 _ _ _)).trans (final6 m c).symm

/-- The reference runs, keeps its arguments and leaves every counter at zero. -/
theorem frame_ref : Cert.quiescent_DhqReferenceIdeal := fun m ρ _ =>
  (θ_run Cert.DhqReferenceIdeal.defs _ _).mono (fun r h => ⟨fun c => (h c).2.2, sem_eq_zero_of_no_sems (by decide) r.2⟩)
    (Cert.DhqReferenceIdeal.Value.run (F := Ideal) m ρ)

end Cert.Proof.DhqClaim

end
-- ==== Proof.DyClaim.lean ====
/-
  The gradient entering a layer's mixing half (d_ycat): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DyKernelIdeal.Value
public import proofs.«01_k».proof.Proof.Gen.DyReferenceIdeal.Read
public import proofs.«01_k».proof.Proof.Gen.DyReferenceIdeal.Run
public import proofs.«01_k».proof.Proof.Products

@[expose] public section

set_option maxRecDepth 16384

noncomputable section

namespace Cert.Proof.DyClaim

open Idealize.ShloMosaic Cert.ActSpec Cert.Products

section
open Cert.DyKernelIdeal Cert.DyKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x1024.Idx) : k0_pay1 (F := Ideal) j = 0 := by
  obtain ⟨i, l, rfl⟩ := ix2_split j
  pointwise [k0_pay1]
/-- and gains the products of its rows. -/
theorem pay2 (A : Vec Ideal S1024x1024 .f32) (X : Vec Ideal S1024x1024 .f32) (W : Vec Ideal S1024x1024 .bf16) (i : Fin 1024) (l : Fin 1024) :
    k0_pay2 (F := Ideal) A X W (ix2 i l) = A (ix2 i l) + ds (fun k : Fin 1024 => X (ix2 i k)) fun k => W (ix2 l k) := by
  pointwise [k0_pay2]
  rfl

/-- The rows. -/
abbrev Ha : Vec Ideal S8192x1024 .f32 := m ((c : Thread nD τ).loc main_arg0)
/-- The weight. -/
abbrev Wa : Vec Ideal S1024x1024 .bf16 := m ((c : Thread nD τ).loc main_arg1)

/-- The windows' block indices at a point (decided). -/
theorem idx : ∀ t : Fin cfg0.N, win0_0.index t = ![t.val, 0] ∧ win0_1.index t = ![0, 0]
    ∧ win0_2.index t = ![t.val, 0] :=
  (by decide +kernel : ∀ t : Fin grid0.N, _)

/-- Row `i` of point `t`'s block is a row of the array. -/
theorem row_lt (t : Fin cfg0.N) (i : Fin 1024) : t.val * 1024 + i.val < 8192 := by
  have h : cfg0.N = 8 := N_0
  have := t.isLt; have := i.isLt; omega

theorem iblk0 (t : Fin cfg0.N) (i : Fin 1024) (k : Fin 1024) :
    iblk m c 0 t (ix2 i k) = Ha m c (ix2 ⟨t.val * 1024 + i.val, row_lt t i⟩ k) := by
  blk_ext [iblk, V, idx t]
theorem iblk1 (t : Fin cfg0.N) (k : Fin 1024) (l : Fin 1024) :
    iblk m c 1 t (ix2 l k) = Wa m c (ix2 l k) := by
  blk_ext [iblk, V, idx t]

/-- What a point leaves in the result's block. -/
theorem out (t : Fin cfg0.N) (i : Fin 1024) (l : Fin 1024) :
    outsAt0 m c t (ix2 i l) = ds (fun k : Fin 1024 => iblk m c 0 t (ix2 i k)) fun k => iblk m c 1 t (ix2 l k) := by
  unfold outsAt0 out0_A_2
  frame_open
  simp (disch := decide) only [↓ View.readCov_skip, ↓ View.readCov_cons_toLoadRect, ↓ View.readCov_fill]
  frame_out
  rw [pay2, pay1, zero_add]

theorem final : (dats m 0 c).arrAt 2 cfg0.N = nt (Ha m c) (Wa m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val * 1024 + i.val, row_lt t i⟩ : Fin 8192) l := by
    blk_ext [idx t]
  rw [he]
  refine (out m c t i l).trans ?_
  simp only [iblk0, iblk1]
  rfl
end

section
open Cert.DyReferenceIdeal Cert.DyReferenceIdeal.Gen Cert.DyReferenceIdeal.Read
variable (x0 : Vec Ideal S8192x1024 .f32) (x1 : Vec Ideal S1024x1024 .bf16)

theorem ref : val_main_v3 (F := Ideal) x0 x1 = nt x0 x1 := by
  funext j
  obtain ⟨s, l, rfl⟩ := ix2_split j
  pointwise [val_main_v3, val_main_v0]
  rfl
end

/-- The kernel's array is the reference's. -/
theorem algebraic : Cert.algebraic_DyKernelIdeal_DyReferenceIdeal := by
  pair_intro
  · run_from Cert.DyKernelIdeal.Value.run_blocks m g
  · run_from Cert.DyReferenceIdeal.Value.run m' g'
    · exact ((Cert.DyReferenceIdeal.Read.val_main_v3_eq _ _).trans (ref _ _)).trans (final m c).symm

/-- The reference runs, keeps its arguments and leaves every counter at zero. -/
theorem frame_ref : Cert.quiescent_DyReferenceIdeal := fun m ρ _ =>
  (θ_run Cert.DyReferenceIdeal.defs _ _).mono (fun r h => ⟨fun c => (h c).2, sem_eq_zero_of_no_sems (by decide) r.2⟩)
    (Cert.DyReferenceIdeal.Value.run (F := Ideal) m ρ)

end Cert.Proof.DyClaim

end
-- ==== Proof.DoClaim.lean ====
/-
  The gradient entering the cross attention's output (d_o): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.DoKernelIdeal.Value
public import proofs.«01_k».proof.Proof.Gen.DoReferenceIdeal.Read
public import proofs.«01_k».proof.Proof.Gen.DoReferenceIdeal.Run
public import proofs.«01_k».proof.Proof.Products

@[expose] public section

set_option maxRecDepth 16384

noncomputable section

namespace Cert.Proof.DoClaim

open Idealize.ShloMosaic Cert.ActSpec Cert.Products

section
open Cert.DoKernelIdeal Cert.DoKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result starts from zero -/
theorem pay1 (j : S1024x512.Idx) : k0_pay1 (F := Ideal) j = 0 := by
  obtain ⟨i, l, rfl⟩ := ix2_split j
  pointwise [k0_pay1]
/-- and gains the products of its rows. -/
theorem pay2 (A : Vec Ideal S1024x512 .f32) (X : Vec Ideal S1024x1024 .f32) (W : Vec Ideal S512x1024 .bf16) (i : Fin 1024) (l : Fin 512) :
    k0_pay2 (F := Ideal) A X W (ix2 i l) = A (ix2 i l) + ds (fun k : Fin 1024 => X (ix2 i k)) fun k => W (ix2 l k) := by
  pointwise [k0_pay2]
  rfl
/-- The block written back is the sum, -/
theorem pay3 (A : Vec Ideal S1024x512 .f32) (j : S1024x512.Idx) : k0_pay3 (F := Ideal) A j = A j := by
  obtain ⟨i, l, rfl⟩ := ix2_split j
  pointwise [k0_pay3]

/-- The rows. -/
abbrev Ha : Vec Ideal S8192x1024 .f32 := m ((c : Thread nD τ).loc main_arg0)
/-- The weight. -/
abbrev Wa : Vec Ideal S512x1024 .bf16 := m ((c : Thread nD τ).loc main_arg1)

/-- The windows' block indices at a point (decided). -/
theorem idx : ∀ t : Fin cfg0.N, win0_0.index t = ![t.val, 0] ∧ win0_1.index t = ![0, 0]
    ∧ win0_2.index t = ![t.val, 0] :=
  (by decide +kernel : ∀ t : Fin grid0.N, _)

/-- Row `i` of point `t`'s block is a row of the array. -/
theorem row_lt (t : Fin cfg0.N) (i : Fin 1024) : t.val * 1024 + i.val < 8192 := by
  have h : cfg0.N = 8 := N_0
  have := t.isLt; have := i.isLt; omega

theorem iblk0 (t : Fin cfg0.N) (i : Fin 1024) (k : Fin 1024) :
    iblk m c 0 t (ix2 i k) = Ha m c (ix2 ⟨t.val * 1024 + i.val, row_lt t i⟩ k) := by
  blk_ext [iblk, V, idx t]
theorem iblk1 (t : Fin cfg0.N) (k : Fin 1024) (l : Fin 512) :
    iblk m c 1 t (ix2 l k) = Wa m c (ix2 l k) := by
  blk_ext [iblk, V, idx t]

/-- What a point leaves in the result's block. -/
theorem out (t : Fin cfg0.N) (i : Fin 1024) (l : Fin 512) :
    outsAt0 m c t (ix2 i l) = ds (fun k : Fin 1024 => iblk m c 0 t (ix2 i k)) fun k => iblk m c 1 t (ix2 l k) := by
  unfold outsAt0 out0_A_2
  frame_open
  simp (disch := decide) only [↓ View.readCov_skip, ↓ View.readCov_cons_toLoadRect, ↓ View.readCov_fill]
  frame_out
  rw [pay3, pay2, pay1, zero_add]

theorem final : (dats m 0 c).arrAt 2 cfg0.N = nt (Ha m c) (Wa m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val * 1024 + i.val, row_lt t i⟩ : Fin 8192) l := by
    blk_ext [idx t]
  rw [he]
  refine (out m c t i l).trans ?_
  simp only [iblk0, iblk1]
  rfl
end

section
open Cert.DoReferenceIdeal Cert.DoReferenceIdeal.Gen Cert.DoReferenceIdeal.Read
variable (x0 : Vec Ideal S8192x1024 .f32) (x1 : Vec Ideal S512x1024 .bf16)

theorem ref : val_main_v4 (F := Ideal) x0 x1 = nt x0 x1 := by
  funext j
  obtain ⟨s, l, rfl⟩ := ix2_split j
  pointwise [val_main_v4, val_main_v3, val_main_v0]
  rfl
end

/-- The kernel's array is the reference's. -/
theorem algebraic : Cert.algebraic_DoKernelIdeal_DoReferenceIdeal := by
  pair_intro
  · run_from Cert.DoKernelIdeal.Value.run_blocks m g
  · run_from Cert.DoReferenceIdeal.Value.run m' g'
    · exact ((Cert.DoReferenceIdeal.Read.val_main_v4_eq _ _).trans (ref _ _)).trans (final m c).symm

/-- The reference runs, keeps its arguments and leaves every counter at zero. -/
theorem frame_ref : Cert.quiescent_DoReferenceIdeal := fun m ρ _ =>
  (θ_run Cert.DoReferenceIdeal.defs _ _).mono (fun r h => ⟨fun c => (h c).2, sem_eq_zero_of_no_sems (by decide) r.2⟩)
    (Cert.DoReferenceIdeal.Value.run (F := Ideal) m ρ)

end Cert.Proof.DoClaim

end
-- ==== Proof.XfClaim.lean ====
/-
  Cross-attention: the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.XfKernelIdeal.Value
public import proofs.«01_k».proof.Proof.Gen.XfReferenceIdeal.Read
public import proofs.«01_k».proof.Proof.Gen.XfReferenceIdeal.Run
public import proofs.«01_k».proof.Proof.XaFinal
public import proofs.«01_k».proof.Proof.XaRef

@[expose] public section

set_option maxRecDepth 16384

noncomputable section

namespace Cert.Proof.XfClaim

open Idealize.ShloMosaic Cert.XaSpec Cert.XaBlocks
open Cert.XaFinal (hd ln hd_col ln_col ix_split)

/-- The values averaged under the probabilities. -/
def av (x g : Fin 128 → EReal) (k v : Fin 256 → Fin 128 → EReal) (d : Fin 128) : EReal := ∑ m, pr x g k m * v m d

section
open Cert.XfKernelIdeal Cert.XfKernelIdeal.Gen
open Idealize.ShloMosaic.TcCoe Idealize.SL.Sem
open Idealize.ShloMosaic.Pipeline (Dat)

/-- The kernel's named constant is the reciprocal root of the head dimension. -/
theorem named_sc : Named.named (F := Ideal) κ "inv_sqrt_hd" (φ := .f32) 0x3DB504F3#32 = sc :=
  IdealRules.named_const.ideal_named_scalar _ _ _ _ rfl

section
variable (G : Vec Ideal S1x128 .f32) (Q : Vec Ideal S512x128 .f32) (K V : Vec Ideal S256x128 .bf16)

/-- One head's result; the others' are the same function. -/
theorem pay (i : Fin 512) (d : Fin 128) : k0_pay2 (F := Ideal) Q G K V (ix2 i d)
    = av (fun d => Q (ix2 i d)) (fun d => G (ix2 0 d)) (fun m d => K (ix2 m d)) (fun m d => V (ix2 m d)) d := by
  pointwise [k0_pay2]
  rw [named_sc]
  rfl
end

section
variable {X0 : Vec Ideal S512x512 .f32} {X1 : Vec Ideal S1x128 .f32} {X2 X3 : Vec Ideal S256x512 .bf16}

theorem head (k : Fin 4) {Q K V} (hQ : ∀ i d, Q (ix2 i d) = X0 (ix2 i (col k d)))
    (hK : ∀ i d, K (ix2 i d) = X2 (ix2 i (col k d))) (hV : ∀ i d, V (ix2 i d) = X3 (ix2 i (col k d)))
    (x : S512x128.Idx) (i : Fin 512) (h : Fin 4) (d : Fin 128) (h0 : i.val = (x 0).val) (h1 : (col h d).val = 128 * k.val + (x 1).val) :
    k0_pay2 (F := Ideal) Q X1 K V x = av (qr X0 i h) (gr X1) (kr X2 h) (kr X3 h) d := by
  obtain ⟨a, b, rfl⟩ := Cert.XaBlocks.ix2_eta x
  obtain ⟨rfl, rfl⟩ := col_inj (e := b) h1
  obtain rfl : i = a := Fin.ext h0
  rw [pay]
  simp only [hQ, hK, hV]
end

/-- A block of the result, from the four inputs' blocks. -/
theorem out4 (x0 : Vec Ideal S512x512 .f32) (x1 : Vec Ideal S1x128 .f32) (x2 x3 : Vec Ideal S256x512 .bf16) (q : Fin 512) (h : Fin 4) (d : Fin 128) :
    out0_4 x0 x1 x2 x3 (ix2 q (col h d)) = av (qr x0 q h) (gr x1) (kr x2 h) (kr x3 h) d := by
  unfold out0_4
  frame_out
  canon_tiles x hx
  case piece0 => exact head 3 (ld_col x0 3 _ rfl _) (ld_col x2 3 _ rfl _) (ld_col x3 3 _ rfl _) x q h d hx0 hx1
  case piece1 => exact head 2 (ld_col x0 2 _ rfl _) (ld_col x2 2 _ rfl _) (ld_col x3 2 _ rfl _) x q h d hx0 hx1
  case piece2 => exact head 1 (ld_col x0 1 _ rfl _) (ld_col x2 1 _ rfl _) (ld_col x3 1 _ rfl _) x q h d hx0 hx1
  case piece3 => exact head 0 (ld_col x0 0 _ rfl _) (ld_col x2 0 _ rfl _) (ld_col x3 0 _ rfl _) x q h d hx0 (hx1.trans (Nat.zero_add _).symm)

variable (m : (ℓ : Loc nD τ sig) → Buf (Elt Ideal) ℓ) (c : Dev nD)

/-- The queries. -/
abbrev Qa : Vec Ideal S8192x512 .f32 := m ((c : Thread nD τ).loc main_arg0)
/-- The scale as a row. -/
def Ga : Vec Ideal S1x128 .f32 := fun j => m ((c : Thread nD τ).loc main_arg1) (ix1 (j 1))
/-- The keys. -/
abbrev Ka : Vec Ideal S256x512 .bf16 := m ((c : Thread nD τ).loc main_arg2)
/-- The values. -/
abbrev Va : Vec Ideal S256x512 .bf16 := m ((c : Thread nD τ).loc main_arg3)

/-- The windows' block indices at a point (decided). -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- Row `i` of point `t`'s block is a row of the array. -/
theorem row_lt (t : Fin cfg0.N) (i : Fin 512) : t.val * 512 + i.val < 8192 := by
  have h : cfg0.N = 16 := N_0
  have := t.isLt; have := i.isLt; omega

theorem iblk0 (t : Fin cfg0.N) (i : Fin 512) (j : Fin 512) :
    iblk m c 0 t (ix2 i j) = Qa m c (ix2 ⟨t.val * 512 + i.val, row_lt t i⟩ j) := by
  blk_ext [iblk, V, idx t]
theorem iblk1 (t : Fin cfg0.N) : iblk m c 1 t = Ga m c := by
  funext j
  obtain ⟨a, b, rfl⟩ := Cert.XaBlocks.ix2_eta j
  show _ = m ((c : Thread nD τ).loc main_arg1) (ix1 b)
  blk_ext! [iblk, V, idx t]
theorem iblk2 (t : Fin cfg0.N) : iblk m c 2 t = Ka m c := by
  blk_ext! [iblk, V, idx t]
theorem iblk3 (t : Fin cfg0.N) : iblk m c 3 t = Va m c := by
  blk_ext! [iblk, V, idx t]

theorem qr_blk (t : Fin cfg0.N) (i : Fin 512) (h : Fin 4) : qr (iblk m c 0 t) i h = qr (Qa m c) ⟨t.val * 512 + i.val, row_lt t i⟩ h :=
  funext fun d => iblk0 m c t i (col h d)

/-- The result. -/
def AV : Vec Ideal S8192x512 .bf16 := fun j =>
  av (qr (Qa m c) (j 0) (hd (j 1))) (gr (Ga m c)) (kr (Ka m c) (hd (j 1))) (kr (Va m c) (hd (j 1))) (ln (j 1))
theorem av_at (s : Fin 8192) (h : Fin 4) (d : Fin 128) : AV m c (ix2 s (col h d))
    = av (qr (Qa m c) s h) (gr (Ga m c)) (kr (Ka m c) h) (kr (Va m c) h) d := by
  show av (qr _ s (hd (col h d))) _ (kr _ (hd (col h d))) (kr _ (hd (col h d))) (ln (col h d)) = _
  rw [hd_col, ln_col]

theorem final : (dats m 0 c).arrAt 4 cfg0.N = AV m c := by
  refine (dats m 0 c).arrAt_eq_of_covers 4 _ (by decide +kernel) fun t hf y => ?_
  blk_simp
  rw [after0_4]
  obtain ⟨i, h, d, rfl⟩ := ix_split y
  have he : (win0_4.blk t).view.emb (ix2 i (col h d)) = ix2 (⟨t.val * 512 + i.val, row_lt t i⟩ : Fin 8192) (col h d) := by
    blk_ext [idx t]
  rw [he]
  refine (out4 _ _ _ _ i h d).trans ?_
  rw [iblk1, iblk2, iblk3, qr_blk, av_at]
end

section
open Cert.XfReferenceIdeal Cert.XfReferenceIdeal.Gen Cert.XfReferenceIdeal.Read
open Cert.XaRef (X G K max_last div_root)

variable (x0 : Vec Ideal S8192x512 .f32) (x1 : Vec Ideal S128 .f32) (x2 x3 : Vec Ideal S256x512 .bf16)

theorem v2 (s : Fin 8192) (h : Fin 4) (d : Fin 128) : val_main_v2 (F := Ideal) x0 (ix3 s h d) = X x0 s h d := by
  rw [val_main_v2_apply]
  refine congrArg x0 (funext fun a => Fin.ext ?_)
  have := d.isLt; have := h.isLt
  fin_cases a
  · show ((s.val * 4 + h.val) * 128 + d.val) / 512 = s.val; omega
  · show ((s.val * 4 + h.val) * 128 + d.val) % 512 = 128 * h.val + d.val; omega
theorem v16 (m : Fin 256) (h : Fin 4) (d : Fin 128) : val_main_v16 (F := Ideal) x2 (ix3 m h d) = K x2 h m d := by
  rw [val_main_v16_apply]
  pointwise [val_main_v0]
  refine congrArg x2 (funext fun a => Fin.ext ?_)
  have := d.isLt; have := h.isLt
  fin_cases a
  · show ((m.val * 4 + h.val) * 128 + d.val) / 512 = m.val; omega
  · show ((m.val * 4 + h.val) * 128 + d.val) % 512 = 128 * h.val + d.val; omega
theorem v17 (m : Fin 256) (h : Fin 4) (d : Fin 128) : val_main_v17 (F := Ideal) x3 (ix3 m h d) = K x3 h m d := v16 x3 m h d

theorem v10 (s : Fin 8192) (h : Fin 4) (u : Fin 1) : val_main_v10 (F := Ideal) x0 (ix3 s h u) = rs (X x0 s h) := by
  pointwise [val_main_v10, val_main_v9, val_main_v8, val_main_cst_1, val_main_v7, val_main_v6, val_main_cst_0, val_main_v5, val_main_v4, val_main_cst, val_main_v3]
  simp only [v2]
  rfl
theorem v15 (s : Fin 8192) (h : Fin 4) (d : Fin 128) : val_main_v15 (F := Ideal) x0 x1 (ix3 s h d) = qn (X x0 s h) (G x1) d := by
  pointwise [val_main_v15, val_main_v14, val_main_v13, val_main_v12, val_main_v11]
  rw [v2, v10]
  rfl
theorem v21 (s : Fin 8192) (h : Fin 4) (m : Fin 256) : val_main_v21 (F := Ideal) x0 x1 x2 (ix3 h s m) = lg (X x0 s h) (G x1) (K x2 h) m := by
  pointwise [val_main_v21, val_main_v20, val_main_v19, val_main_cst_2, val_main_v18]
  simp only [v15, v16]
  exact div_root _
theorem v22 (s : Fin 8192) (h : Fin 4) : val_main_v22 (F := Ideal) x0 x1 x2 (ix2 h s)
    = (Finset.univ : Finset (Fin 256)).fold max (Ideal.ofBits .f32 0xFF800000#32) (lg (X x0 s h) (G x1) (K x2 h)) := by
  refine (max_last _ _ reducesTo_S4x8192x256_S4x8192_d2 (by decide) h_S_ h s).trans ?_
  simp only [v21]
  rfl
theorem v24 (s : Fin 8192) (h : Fin 4) : val_main_v24 (F := Ideal) x0 x1 x2 (ix2 h s)
    = (Finset.univ : Finset (Fin 256)).fold max (Ideal.ofBits .f32 0xFF800000#32) (lg (X x0 s h) (G x1) (K x2 h)) := by
  rw [val_main_v24_apply, v22, val_main_v23_apply, val_main_cst_4_apply]
  exact max_eq_right (le_of_eq_of_le Reals.ofBits_neg_inf bot_le)
theorem v28 (s : Fin 8192) (h : Fin 4) (m : Fin 256) : val_main_v28 (F := Ideal) x0 x1 x2 (ix3 h s m) = ex (X x0 s h) (G x1) (K x2 h) m := by
  pointwise [val_main_v28, val_main_v27, val_main_v26, val_main_v25]
  rw [v21, v24]
  rfl
theorem v29 (s : Fin 8192) (h : Fin 4) : val_main_v29 (F := Ideal) x0 x1 x2 (ix2 h s) = ∑ j, ex (X x0 s h) (G x1) (K x2 h) j := by
  pointwise [val_main_v29, val_main_cst_5]
  simp only [v28]
theorem v32 (s : Fin 8192) (h : Fin 4) (m : Fin 256) : val_main_v32 (F := Ideal) x0 x1 x2 (ix3 h s m) = pr (X x0 s h) (G x1) (K x2 h) m := by
  pointwise [val_main_v32, val_main_v31, val_main_v30]
  rw [v28, v29]
  rfl
theorem v34 (s : Fin 8192) (h : Fin 4) (d : Fin 128) : val_main_v34 (F := Ideal) x0 x1 x2 x3 (ix3 s h d)
    = av (X x0 s h) (G x1) (K x2 h) (K x3 h) d := by
  pointwise [val_main_v34, val_main_v33]
  simp only [v17, v32]
  exact Finset.sum_congr rfl fun k _ => mul_comm _ _
theorem v36 (s : Fin 8192) (h : Fin 4) (d : Fin 128) : val_main_v36 (F := Ideal) x0 x1 x2 x3 (ix2 s (col h d))
    = av (X x0 s h) (G x1) (K x2 h) (K x3 h) d := by
  rw [← v34, val_main_v36_apply, val_main_v35_apply]
  refine congrArg (val_main_v34 (F := Ideal) x0 x1 x2 x3) (funext fun a => Fin.ext ?_)
  have := d.isLt; have := h.isLt
  fin_cases a
  · show (s.val * 512 + (128 * h.val + d.val)) / 512 = s.val; omega
  · show (s.val * 512 + (128 * h.val + d.val)) / 128 % 4 = h.val; omega
  · show (s.val * 512 + (128 * h.val + d.val)) % 128 = d.val; omega
end

/-- The kernel's array is the reference's. -/
theorem algebraic : Cert.algebraic_XfKernelIdeal_XfReferenceIdeal := by
  pair_intro
  · run_from Cert.XfKernelIdeal.Value.run_blocks m g
  · run_from Cert.XfReferenceIdeal.Value.run m' g'
    · obtain ⟨e0, e1, e2, e3⟩ := hagree c
      rw [Cert.XfReferenceIdeal.Read.val_main_v36_eq, e0, e1, e2, e3]
      refine Eq.trans (funext fun j => ?_) (final m c).symm
      obtain ⟨s, h, d, rfl⟩ := ix_split j
      exact (v36 _ _ _ _ s h d).trans (av_at m c s h d).symm

/-- The reference runs, keeps its arguments and leaves every counter at zero. -/
theorem frame_ref : Cert.quiescent_XfReferenceIdeal := fun m ρ _ =>
  (θ_run Cert.XfReferenceIdeal.defs _ _).mono (fun r h => ⟨fun c => (h c).2, sem_eq_zero_of_no_sems (by decide) r.2⟩)
    (Cert.XfReferenceIdeal.Value.run (F := Ideal) m ρ)

end Cert.Proof.XfClaim

end
-- ==== Proof.NfClaim.lean ====
/-
  A row normalisation (norm_mix, norm_xa, norm_ffn): the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.NfKernelIdeal.Value
public import proofs.«01_k».proof.Proof.Gen.NfReferenceIdeal.Read
public import proofs.«01_k».proof.Proof.Gen.NfReferenceIdeal.Run
public import proofs.«01_k».proof.Proof.NormBack

@[expose] public section

set_option maxRecDepth 16384

noncomputable section

namespace Cert.Proof.NfClaim

open Idealize.ShloMosaic Cert.Products Cert.DhSpec Cert.NormBack

/-- The normalised rows, scaled. -/
def GN (X : Mat 8192 1024) (S : (⟨1, ![1024]⟩ : Shape).Idx → EReal) : Mat 8192 1024 := fun j =>
  X (ix2 (j 0) (j 1)) * nrm (row X (j 0)) * S (ix1 (j 1))

section
open Cert.NfKernelIdeal Cert.NfKernelIdeal.Gen
open Idealize.ShloMosaic.TcCoe Idealize.SL.Sem
open Idealize.ShloMosaic.Pipeline (Dat)
variable (m : (ℓ : Loc nD τ sig) → Buf (Elt Ideal) ℓ) (c : Dev nD)

/-- A block of the result, from the rows and the scale. -/
theorem pay1 (X : Vec Ideal S512x1024 .f32) (S : Vec Ideal S1x1024 .f32) (i : Fin 512) (l : Fin 1024) :
    k0_pay1 (F := Ideal) X S (ix2 i l) = X (ix2 i l) * nrm (row X i) * S (ix2 0 l) := by
  pointwise [k0_pay1]
  rfl
theorem out2 (X : Vec Ideal S512x1024 .f32) (S : Vec Ideal S1x1024 .f32) (i : Fin 512) (l : Fin 1024) :
    out0_2 (F := Ideal) X S (ix2 i l) = X (ix2 i l) * nrm (row X i) * S (ix2 0 l) := by
  unfold out0_2
  frame_out
  rw [pay1]

/-- The rows. -/
abbrev Xa : Vec Ideal S8192x1024 .f32 := m ((c : Thread nD τ).loc main_arg0)
/-- The scale. -/
abbrev Sa : Vec Ideal S1024 .f32 := m ((c : Thread nD τ).loc main_arg1)

/-- The windows' block indices at a point (decided). -/
theorem idx : ∀ t : Fin cfg0.N, win0_0.index t = ![t.val, 0] ∧ win0_1.index t = ![0, 0] ∧ win0_2.index t = ![t.val, 0] :=
  (by decide +kernel : ∀ t : Fin grid0.N, _)

/-- Row `i` of point `t`'s block is a row of the array. -/
theorem row_lt (t : Fin cfg0.N) (i : Fin 512) : t.val * 512 + i.val < 8192 := by
  have h : cfg0.N = 16 := N_0
  have := t.isLt; have := i.isLt; omega

theorem iblk0 (t : Fin cfg0.N) (i : Fin 512) (l : Fin 1024) :
    iblk m c 0 t (ix2 i l) = Xa m c (ix2 ⟨t.val * 512 + i.val, row_lt t i⟩ l) := by
  blk_ext [iblk, V, idx t]
theorem iblk1 (t : Fin cfg0.N) (u : Fin 1) (l : Fin 1024) : iblk m c 1 t (ix2 u l) = Sa m c (ix1 l) := by
  blk_ext! [iblk, V, idx t]

theorem final : (dats m 0 c).arrAt 2 cfg0.N = GN (Xa m c) (Sa m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val * 512 + i.val, row_lt t i⟩ : Fin 8192) l := by
    blk_ext [idx t]
  rw [he]
  refine (out2 _ _ i l).trans ?_
  rw [iblk0, iblk1, show row (iblk m c 0 t) i = row (Xa m c) ⟨t.val * 512 + i.val, row_lt t i⟩ from funext fun l => iblk0 m c t i l]
  rfl
end

section
open Cert.NfReferenceIdeal Cert.NfReferenceIdeal.Gen Cert.NfReferenceIdeal.Read
variable (x0 : Vec Ideal S8192x1024 .f32) (x1 : Vec Ideal S1024 .f32)

theorem ref : val_main_v13 (F := Ideal) x0 x1 = GN x0 x1 := by
  funext j
  obtain ⟨s, l, rfl⟩ := ix2_split j
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl
end

/-- The kernel's array is the reference's. -/
theorem algebraic : Cert.algebraic_NfKernelIdeal_NfReferenceIdeal := by
  pair_intro
  · run_from Cert.NfKernelIdeal.Value.run_blocks m g
  · run_from Cert.NfReferenceIdeal.Value.run m' g'
    · exact ((Cert.NfReferenceIdeal.Read.val_main_v13_eq _ _).trans (ref _ _)).trans (final m c).symm

/-- The reference runs, keeps its arguments and leaves every counter at zero. -/
theorem frame_ref : Cert.quiescent_NfReferenceIdeal := fun m ρ _ =>
  (θ_run Cert.NfReferenceIdeal.defs _ _).mono (fun r h => ⟨fun c => (h c).2, sem_eq_zero_of_no_sems (by decide) r.2⟩)
    (Cert.NfReferenceIdeal.Value.run (F := Ideal) m ρ)

end Cert.Proof.NfClaim

end
-- ==== Proof.Windows.lean ====
/-
  Sums over a window of a sequence of 8192 terms: as a row of a 0-1 matrix times the sequence, and as what doubling leaves,
  where each step adds an array rotated by the window's width to itself.
-/
module

public import Idealize.ShloMosaic.Lib.Pipeline.ValueKit
public import Idealize.ShloMosaic.Lib.Pipeline.ReadBack
public import Idealize.ShloMosaic.Lib.KernelVsHost
public import proofs.«01_k».proof.Proof.Products

@[expose] public section

set_option maxRecDepth 16384

noncomputable section

namespace Cert.Windows

open Idealize.ShloMosaic Cert.Products

/-- The sequence after sixteen zeros, and zero past its end. -/
def pad (z : Fin 8192 → EReal) (n : Nat) : EReal := if h : 16 ≤ n ∧ n < 8208 then z ⟨n - 16, by omega⟩ else 0

theorem pad_row (z : Fin 8192 → EReal) (s : Fin 8192) (n : Nat) (hn : n = s.val + 16) : pad z n = z s := by
  subst hn
  unfold pad
  rw [dif_pos ⟨by omega, by have := s.isLt; omega⟩]
  rfl
theorem pad_lo (z : Fin 8192 → EReal) (n : Nat) (hn : n < 16) : pad z n = 0 := by
  unfold pad
  rw [dif_neg (by omega)]
theorem pad_hi (z : Fin 8192 → EReal) (n : Nat) (hn : 8208 ≤ n) : pad z n = 0 := by
  unfold pad
  rw [dif_neg (by omega)]

/-- The `w` terms ending at term `s`. -/
def back (w : Nat) (z : Fin 8192 → EReal) (s : Nat) : EReal := ∑ j ∈ Finset.range w, pad z (s + 16 - j)
/-- The `w` terms starting at term `s`. -/
def ahead (w : Nat) (z : Fin 8192 → EReal) (s : Nat) : EReal := ∑ j ∈ Finset.range w, pad z (s + 16 + j)

theorem sum_at (z : Fin 8192 → EReal) (n : Nat) : (∑ t : Fin 8192, if t.val + 16 = n then z t else 0) = pad z n := by
  by_cases h : 16 ≤ n ∧ n < 8208
  · rw [Finset.sum_eq_single (⟨n - 16, by omega⟩ : Fin 8192)]
    · rw [if_pos (by show n - 16 + 16 = n; omega), pad_row z ⟨n - 16, by omega⟩ n (by show n = n - 16 + 16; omega)]
    · intro t _ ht
      exact if_neg fun e => ht (Fin.ext (by show t.val = n - 16; omega))
    · exact fun h => absurd (Finset.mem_univ _) h
  · unfold pad
    rw [dif_neg h]
    exact Finset.sum_eq_zero fun t _ => if_neg (by have := t.isLt; omega)

theorem sum_back (z : Fin 8192 → EReal) (s : Fin 8192) (w : Nat) (hw : w ≤ 16) :
    (∑ t : Fin 8192, (if t.val ≤ s.val ∧ s.val < t.val + w then (1 : EReal) else 0) * z t) = back w z s.val := by
  induction w with
  | zero => exact Finset.sum_eq_zero fun t _ => by rw [if_neg (by omega), zero_mul]
  | succ w ih =>
    unfold back at ih ⊢
    rw [Finset.sum_range_succ, ← ih (by omega), ← sum_at z (s.val + 16 - w), ← Finset.sum_add_distrib]
    refine Finset.sum_congr rfl fun t _ => ?_
    by_cases h : t.val + 16 = s.val + 16 - w
    · rw [if_pos (by omega), if_neg (by omega), if_pos h, one_mul, zero_mul, zero_add]
    · rw [if_neg h, add_zero]
      congr 1
      exact if_congr (by omega) rfl rfl
theorem sum_ahead (z : Fin 8192 → EReal) (s : Fin 8192) (w : Nat) :
    (∑ t : Fin 8192, (if s.val ≤ t.val ∧ t.val < s.val + w then (1 : EReal) else 0) * z t) = ahead w z s.val := by
  induction w with
  | zero => exact Finset.sum_eq_zero fun t _ => by rw [if_neg (by omega), zero_mul]
  | succ w ih =>
    unfold ahead at ih ⊢
    rw [Finset.sum_range_succ, ← ih, ← sum_at z (s.val + 16 + w), ← Finset.sum_add_distrib]
    refine Finset.sum_congr rfl fun t _ => ?_
    by_cases h : t.val + 16 = s.val + 16 + w
    · rw [if_pos (by omega), if_neg (by omega), if_pos h, one_mul, zero_mul, zero_add]
    · rw [if_neg h, add_zero]
      congr 1
      exact if_congr (by omega) rfl rfl

/-- The number of terms in the window ending at term `s`. -/
def cnt (w s : Nat) : EReal := FloatOps.sitofp (F := Ideal) .f32 (IntOp.minsi (BitVec.ofNat 32 (s + 1)) (BitVec.ofNat 32 w))

/-- The mean over the window ending at a term, less the term. -/
def pl (w : Nat) (z : Fin 8192 → EReal) (s : Fin 8192) : EReal := Ideal.div (back w z s.val) (cnt w s.val) - z s

/-! ## A block of 256 rows with the 16 rows before it, or after it -/

/-- 272 rows of 128 columns. -/
abbrev E : Type := Mat 272 128

theorem rot_at (n : BitVec 32) (Y : E) (h) (k l : Fin 272) (d : Fin 128) (hl : l.val = (k.val + 272 - n.toNat % 272) % 272) :
    dynamicRotate (s := ⟨2, ![272, 128]⟩) 0 n none Y h (ix2 k d) = Y (ix2 l d) := by
  refine dynamicRotate_apply _ _ _ _ _ _ fun b => ?_
  fin_cases b
  · exact hl
  · rfl

/-- Rows that hold the sum over the `w` rows ending at them. -/
def Back (w : Nat) (f : Nat → Fin 128 → EReal) (Y : E) : Prop :=
  ∀ (k : Fin 272) d, w ≤ k.val + 1 → Y (ix2 k d) = ∑ j ∈ Finset.range w, f (k.val - j) d
/-- Rows that hold the sum over the `w` rows starting at them. -/
def Ahead (w : Nat) (f : Nat → Fin 128 → EReal) (Y : E) : Prop :=
  ∀ (k : Fin 272) d, k.val + w ≤ 272 → Y (ix2 k d) = ∑ j ∈ Finset.range w, f (k.val + j) d

variable {w : Nat} {f : Nat → Fin 128 → EReal} {Y : E}

theorem back_one (h : ∀ (k : Fin 272) d, Y (ix2 k d) = f k.val d) : Back 1 f Y := fun k d _ => by
  rw [h, Finset.sum_range_one]; rfl
theorem ahead_one (h : ∀ (k : Fin 272) d, Y (ix2 k d) = f k.val d) : Ahead 1 f Y := fun k d _ => by
  rw [h, Finset.sum_range_one]; rfl

/-- Adding to rows that hold sums of `w` the same rows `w` places down leaves sums of `2 w`. -/
theorem Back.dbl (H : Back w f Y) (n : BitVec 32) (hn : n.toNat = w) (h0 : 0 < w) (h1 : w < 272) (h) :
    Back (w + w) f (fun y => Y y + dynamicRotate (s := ⟨2, ![272, 128]⟩) 0 n none Y h y) := fun k d hk => by
  have := k.isLt
  show Y (ix2 k d) + dynamicRotate (s := ⟨2, ![272, 128]⟩) 0 n none Y h (ix2 k d) = _
  rw [rot_at n Y h k ⟨k.val - w, by omega⟩ d (by show k.val - w = _; rw [hn]; omega), H k d (by omega),
    H _ d (by show w ≤ k.val - w + 1; omega), Finset.sum_range_add]
  congr 1
  exact Finset.sum_congr rfl fun j _ => congrFun (congrArg f (Nat.sub_sub _ _ _)) d
/-- Likewise upward. -/
theorem Ahead.dbl (H : Ahead w f Y) (n : BitVec 32) (hn : n.toNat = 272 - w) (h0 : 0 < w) (h1 : w < 272) (h) :
    Ahead (w + w) f (fun y => Y y + dynamicRotate (s := ⟨2, ![272, 128]⟩) 0 n none Y h y) := fun k d hk => by
  have := k.isLt
  show Y (ix2 k d) + dynamicRotate (s := ⟨2, ![272, 128]⟩) 0 n none Y h (ix2 k d) = _
  rw [rot_at n Y h k ⟨k.val + w, by omega⟩ d (by show k.val + w = _; rw [hn]; omega), H k d (by omega),
    H _ d (by show k.val + w + w ≤ 272; omega), Finset.sum_range_add]
  congr 1
  exact Finset.sum_congr rfl fun j _ => congrFun (congrArg f (Nat.add_assoc _ _ _)) d

/-- Sixteen rows above 256, row by row. -/
theorem above_at (H : Mat 16 128) (Z : Mat 256 128) (h) (hH : ∀ (k : Fin 16) d, H (ix2 k d) = f k.val d)
    (hZ : ∀ (k : Fin 256) d, Z (ix2 k d) = f (k.val + 16) d) (k : Fin 272) (d : Fin 128) :
    concatenate (⟨2, ![272, 128]⟩ : Shape) 0 [⟨⟨2, ![16, 128]⟩, H⟩, ⟨⟨2, ![256, 128]⟩, Z⟩] h (ix2 k d) = f k.val d := by
  have hk := k.isLt
  by_cases h' : k.val < 16
  · refine (concatenate_pair_apply_left 0 _ _ h (ix2 k d) rfl (ix2 ⟨k.val, h'⟩ d) fun b => ?_).trans (hH _ _)
    fin_cases b <;> rfl
  · refine (concatenate_pair_apply_right 0 _ _ h (ix2 k d) rfl rfl (ix2 ⟨k.val - 16, by omega⟩ d) (fun b hb => ?_) ?_).trans
      ((hZ _ _).trans (congrFun (congrArg f ?_) d))
    · fin_cases b
      · exact absurd rfl hb
      · rfl
    · show k.val - 16 + 16 = k.val; omega
    · show k.val - 16 + 16 = k.val; omega
/-- Sixteen rows below 256, row by row. -/
theorem below_at (H : Mat 16 128) (Z : Mat 256 128) (h) (hH : ∀ (k : Fin 16) d, H (ix2 k d) = f (k.val + 256) d)
    (hZ : ∀ (k : Fin 256) d, Z (ix2 k d) = f k.val d) (k : Fin 272) (d : Fin 128) :
    concatenate (⟨2, ![272, 128]⟩ : Shape) 0 [⟨⟨2, ![256, 128]⟩, Z⟩, ⟨⟨2, ![16, 128]⟩, H⟩] h (ix2 k d) = f k.val d := by
  have hk := k.isLt
  by_cases h' : k.val < 256
  · refine (concatenate_pair_apply_left 0 _ _ h (ix2 k d) rfl (ix2 ⟨k.val, h'⟩ d) fun b => ?_).trans (hZ _ _)
    fin_cases b <;> rfl
  · refine (concatenate_pair_apply_right 0 _ _ h (ix2 k d) rfl rfl (ix2 ⟨k.val - 256, by omega⟩ d) (fun b hb => ?_) ?_).trans
      ((hH _ _).trans (congrFun (congrArg f ?_) d))
    · fin_cases b
      · exact absurd rfl hb
      · rfl
    · show k.val - 256 + 256 = k.val; omega
    · show k.val - 256 + 256 = k.val; omega

/-- A rectangle of a matrix read at an index. -/
theorem ld_at {n L m : Nat} {e : EltTy} (X : Vec Ideal ⟨2, ![n, L]⟩ e) (r o : Nat) (inb) (i : Fin m) (d : Fin 128) (j : Fin n) (l : Fin L)
    (hj : j.val = r + i.val) (hl : l.val = o + d.val) :
    View.ld X (Rect.unit (s := ⟨2, ![n, L]⟩) ![r, o] ![m, 128] inb) (ix2 i d) = X (ix2 j l) := by
  refine View.ld_unit_apply_of X _ _ inb _ _ fun a => ?_
  fin_cases a
  · exact hj
  · exact hl

end Cert.Windows

end
-- ==== Proof.OfBlocks.lean ====
/-
  The odd mixer's pooling and short convolution: what a grid point leaves, from its 256 rows and the 16 before them.
-/
module

public import proofs.«01_k».proof.Defs
public import Idealize.ShloMosaic.Lib.Claim
public import Idealize.ShloMosaic.Lib.Pointwise
public import Idealize.ShloMosaic.Lib.WordCmp
public import Idealize.ShloMosaic.Lib.Pipeline.ValueKit
public import Idealize.ShloMosaic.Lib.Pipeline.ReadBack
public import proofs.«01_k».proof.Proof.Gen.OfKernelIdeal.Value
public import proofs.«01_k».proof.Proof.Windows
public import proofs.«01_k».proof.Proof.XaSpec

@[expose] public section

set_option maxRecDepth 16384

noncomputable section

namespace Cert.OfBlocks

open Idealize.ShloMosaic Cert.Products Cert.Windows Cert.XaSpec

/-- Column `c` of the `q`-th 512 of 2048. -/
def quarter (q : Fin 4) (c : Fin 512) : Fin 2048 := ⟨512 * q.val + c.val, by have := q.isLt; have := c.isLt; omega⟩
/-- Column `c` of the `q`-th 512 of 1024. -/
def half (q : Fin 2) (c : Fin 512) : Fin 1024 := ⟨512 * q.val + c.val, by have := q.isLt; have := c.isLt; omega⟩

variable (X : Mat 8192 2048) (W : (⟨3, ![4, 128, 128]⟩ : Shape).Idx → EReal) (S : Fin 512 → EReal) (C : Mat 8 512)

/-- A column as a sequence of rows. -/
def zc (q : Fin 4) (c : Fin 512) (s : Fin 8192) : EReal := X (ix2 s (quarter q c))
/-- The convolved sequence: the last gate by the value. -/
def xg (c : Fin 512) (s : Fin 8192) : EReal := zc X 3 c s * zc X 1 c s
/-- The width of a group's window. -/
def wd (g : Fin 4) : Nat := 2 ^ (g.val + 1)
/-- A group's pooled rows through its weights, scaled. -/
def yc (s : Fin 8192) (g : Fin 4) (d : Fin 128) : EReal := (∑ e, pl (wd g) (zc X 0 (col g e)) s * W (ix3 g e d)) * S (col g d)
/-- The convolution over three rows. -/
def cv (s : Fin 8192) (c : Fin 512) : EReal :=
  C (ix2 0 c) * pad (xg X c) (s.val + 14) + C (ix2 1 c) * pad (xg X c) (s.val + 15) + C (ix2 2 c) * pad (xg X c) (s.val + 16)
/-- The gated convolution. -/
def yd (s : Fin 8192) (c : Fin 512) : EReal := zc X 2 c s * cv X C s c

section
open Cert.OfKernelIdeal Cert.OfKernelIdeal.Gen

/-- Whether a point is the first. -/
abbrev b0 (i : grid0.Coords) : BitVec 1 := Scalar.cmpi .eq (BitVec.ofNat 32 (i 0).val) 0#32
/-- The rows before, or zeros at the first point. -/
def top (i : grid0.Coords) (h : FVec Ideal S16x128 .f32) : FVec Ideal S16x128 .f32 :=
  Scalar.select (b0 i) (broadcast S16x128 (Scalar.ofBits (F := Ideal) .f32 0x00000000#32)) h
/-- The rows before above a block's own. -/
def ext (i : grid0.Coords) (h : FVec Ideal S16x128 .f32) (v : FVec Ideal S256x128 .f32) : FVec Ideal S272x128 .f32 :=
  concatenate S272x128 0 [⟨S16x128, top i h⟩, ⟨S256x128, v⟩] concatenates_S16x128_S256x128_S272x128_d0
/-- A doubling. -/
def dbl (n : BitVec 32) (Y : FVec Ideal S272x128 .f32) : FVec Ideal S272x128 .f32 :=
  addf Y (dynamicRotate 0 n none Y rotates_S272x128_d0)
/-- A group's result from its rows and their sums. -/
def lin (i : grid0.Coords) (n : BitVec 32) (R Y : FVec Ideal S272x128 .f32) (W : Vec Ideal S1x128x128 .bf16) (S : Vec Ideal S1x128 .f32) :
    Vec Ideal S256x128 .bf16 :=
  k0_pay11 (subf (divf (extractStridedSlice S256x128 ![16, 0] Y slices_S272x128_o16_0_S256x128)
    (sitofp .f32 (minsi (addi (k0_pay2 i) (broadcast S256x128 1#32)) (broadcast S256x128 n))))
    (extractStridedSlice S256x128 ![16, 0] R slices_S272x128_o16_0_S256x128)) W S
/-- The gated convolution's block. -/
def gate (i : grid0.Coords) (h3 h1 : FVec Ideal S16x128 .f32) (v3 v1 : FVec Ideal S256x128 .f32) (w0 w1 w2 : Vec Ideal S1x128 .f32)
    (v2 : FVec Ideal S256x128 .f32) : Vec Ideal S256x128 .bf16 :=
  k0_pay13 (k0_pay12 (b0 i) h3 h1 v3 v1 w0 w1 w2) v2

/-- A block of the result. -/
theorem out_eq (i : grid0.Coords) (x0 : Vec Ideal S256x2048 .f32) (x1 : Vec Ideal S16x2048 .f32) (x2 : Vec Ideal S4x128x128 .bf16)
    (x3 : Vec Ideal S1x512 .f32) (x4 : Vec Ideal S8x512 .f32) :
    out0_5 (F := Ideal) i x0 x1 x2 x3 x4 = View.canon [
      ⟨r0_55, gate i (View.ld x1 r0_47) (View.ld x1 r0_48) (View.ld x0 r0_49) (View.ld x0 r0_50) (View.ld x4 r0_51) (View.ld x4 r0_52) (View.ld x4 r0_53) (View.ld x0 r0_54)⟩,
      ⟨r0_46, gate i (View.ld x1 r0_38) (View.ld x1 r0_39) (View.ld x0 r0_40) (View.ld x0 r0_41) (View.ld x4 r0_42) (View.ld x4 r0_43) (View.ld x4 r0_44) (View.ld x0 r0_45)⟩,
      ⟨r0_37, gate i (View.ld x1 r0_29) (View.ld x1 r0_30) (View.ld x0 r0_31) (View.ld x0 r0_32) (View.ld x4 r0_33) (View.ld x4 r0_34) (View.ld x4 r0_35) (View.ld x0 r0_36)⟩,
      ⟨r0_28, gate i (View.ld x1 r0_20) (View.ld x1 r0_21) (View.ld x0 r0_22) (View.ld x0 r0_23) (View.ld x4 r0_24) (View.ld x4 r0_25) (View.ld x4 r0_26) (View.ld x0 r0_27)⟩,
      ⟨r0_19, lin i 16#32 (ext i (View.ld x1 r0_15) (View.ld x0 r0_16)) (dbl 8#32 (dbl 4#32 (dbl 2#32 (dbl 1#32 (ext i (View.ld x1 r0_15) (View.ld x0 r0_16)))))) (View.ld x2 r0_17) (View.ld x3 r0_18)⟩,
      ⟨r0_14, lin i 8#32 (ext i (View.ld x1 r0_10) (View.ld x0 r0_11)) (dbl 4#32 (dbl 2#32 (dbl 1#32 (ext i (View.ld x1 r0_10) (View.ld x0 r0_11))))) (View.ld x2 r0_12) (View.ld x3 r0_13)⟩,
      ⟨r0_9, lin i 4#32 (ext i (View.ld x1 r0_5) (View.ld x0 r0_6)) (dbl 2#32 (dbl 1#32 (ext i (View.ld x1 r0_5) (View.ld x0 r0_6)))) (View.ld x2 r0_7) (View.ld x3 r0_8)⟩,
      ⟨r0_4, lin i 2#32 (ext i (View.ld x1 r0_0) (View.ld x0 r0_1)) (dbl 1#32 (ext i (View.ld x1 r0_0) (View.ld x0 r0_1))) (View.ld x2 r0_2) (View.ld x3 r0_3)⟩] := by
  unfold_out out0_5
  rfl

theorem lin_at (i : grid0.Coords) (n : BitVec 32) (R Y : Vec Ideal S272x128 .f32) (W : Vec Ideal S1x128x128 .bf16) (S : Vec Ideal S1x128 .f32)
    (r : Fin 256) (d : Fin 128) : lin i n R Y W S (ix2 r d)
      = (∑ e : Fin 128, (Ideal.div (Y (ix2 ⟨16 + r.val, by omega⟩ e)) (FloatOps.sitofp (F := Ideal) .f32 (IntOp.minsi (BitVec.ofNat 32 (256 * (i 0).val + r.val + 1)) n))
        - R (ix2 ⟨16 + r.val, by omega⟩ e)) * W (ix3 0 e d)) * S (ix2 0 d) := by
  pointwise [lin, k0_pay11, k0_pay2]
  have e' : IntOp.addi (IntOp.addi (Scalar.muli (BitVec.ofNat 32 (i 0).val) 256#32) (BitVec.ofNat 32 r.val)) 1#32
      = BitVec.ofNat 32 (256 * (i 0).val + r.val + 1) := by
    show BitVec.ofNat 32 (i 0).val * 256#32 + BitVec.ofNat 32 r.val + 1#32 = _
    rw [BitVec.ofNat_add, BitVec.ofNat_add, BitVec.ofNat_mul, BitVec.mul_comm]
  rw [e']

theorem gate_at (i : grid0.Coords) (h3 h1 : FVec Ideal S16x128 .f32) (v3 v1 : FVec Ideal S256x128 .f32) (w0 w1 w2 : Vec Ideal S1x128 .f32)
    (v2 : FVec Ideal S256x128 .f32) (f : Nat → Fin 128 → EReal) (hf : ∀ k d, ext i (mulf h3 h1) (mulf v3 v1) (ix2 k d) = f k.val d)
    (r : Fin 256) (d : Fin 128) : gate i h3 h1 v3 v1 w0 w1 w2 v2 (ix2 r d)
      = v2 (ix2 r d) * (w0 (ix2 0 d) * f (r.val + 14) d + w1 (ix2 0 d) * f (r.val + 15) d + w2 (ix2 0 d) * f (r.val + 16) d) := by
  have e : k0_pay12 (F := Ideal) (b0 i) h3 h1 v3 v1 w0 w1 w2 = addf (addf
      (mulf (broadcastTo S256x128 w0 broadcasts_S1x128_S256x128) (extractStridedSlice S256x128 ![16, 0] (dynamicRotate 0 2#32 none (ext i (mulf h3 h1) (mulf v3 v1)) rotates_S272x128_d0) slices_S272x128_o16_0_S256x128))
      (mulf (broadcastTo S256x128 w1 broadcasts_S1x128_S256x128) (extractStridedSlice S256x128 ![16, 0] (dynamicRotate 0 1#32 none (ext i (mulf h3 h1) (mulf v3 v1)) rotates_S272x128_d0) slices_S272x128_o16_0_S256x128)))
      (mulf (broadcastTo S256x128 w2 broadcasts_S1x128_S256x128) (extractStridedSlice S256x128 ![16, 0] (ext i (mulf h3 h1) (mulf v3 v1)) slices_S272x128_o16_0_S256x128)) := rfl
  unfold gate
  rw [e]
  generalize ext i (mulf h3 h1) (mulf v3 v1) = R at hf
  pointwise [k0_pay13]
  rw [hf, hf, hf]
  congr 2
  · congr 2
    · exact congrArg (f · d) (by show (16 + r.val + 272 - 2) % 272 = r.val + 14; omega)
    · exact congrArg (f · d) (by show (16 + r.val + 272 - 1) % 272 = r.val + 15; omega)
  · exact congrArg (fun n => w2 (ix2 0 d) * f n d) (Nat.add_comm _ _)

/-- The window's width as a word. -/
theorem wd_lt (g : Fin 4) : wd g ≤ 16 := by revert g; decide

section
variable {t : Nat} {i : grid0.Coords}

theorem ext_at (hi : (i 0).val = t) (ht : t < 32) {h : FVec Ideal S16x128 .f32} {v : FVec Ideal S256x128 .f32} (z : Fin 128 → Fin 8192 → EReal)
    (hh : ∀ (h1 : 1 ≤ t) (k : Fin 16) d, h (ix2 k d) = z d ⟨256 * t - 16 + k.val, by omega⟩)
    (hv : ∀ (r : Fin 256) d, v (ix2 r d) = z d ⟨256 * t + r.val, by omega⟩) (k : Fin 272) (d : Fin 128) :
    ext i h v (ix2 k d) = pad (z d) (256 * t + k.val) := by
  refine above_at (f := fun n d => pad (z d) (256 * t + n)) _ _ _ (fun k d => ?_) (fun r d => ?_) k d
  · show Scalar.select (Scalar.cmpi .eq (BitVec.ofNat 32 (i 0).val) 0#32) (broadcast S16x128 (Scalar.ofBits (F := Ideal) .f32 0x00000000#32)) h (ix2 k d) = _
    rw [hi]
    by_cases h0 : t = 0
    · subst h0
      rw [pad_lo _ _ (by omega)]
      exact Ideal.ofBits_zero_f32
    · rw [pad_row _ ⟨256 * t - 16 + k.val, by omega⟩ _ (by show 256 * t + k.val = 256 * t - 16 + k.val + 16; omega), ← hh (by omega) k d]
      rw [show Scalar.cmpi .eq (BitVec.ofNat 32 t) 0#32 = 0#1 from (WordCmp.cmpi_eq_ofNat_eq_zero_iff (by omega) (by decide)).mpr h0]
      rfl
  · rw [pad_row _ ⟨256 * t + r.val, by omega⟩ _ (by show 256 * t + (r.val + 16) = 256 * t + r.val + 16; omega)]
    exact hv r d

theorem group (hi : (i 0).val = t) (ht : t < 32) (z : Fin 128 → Fin 8192 → EReal) (w : Nat) (hw : w ≤ 16) {R Y : FVec Ideal S272x128 .f32}
    (hR : ∀ k d, R (ix2 k d) = pad (z d) (256 * t + k.val)) (hY : Back w (fun n d => pad (z d) (256 * t + n)) Y)
    (W : Vec Ideal S1x128x128 .bf16) (S : Vec Ideal S1x128 .f32) (r : Fin 256) (d : Fin 128) :
    lin i (BitVec.ofNat 32 w) R Y W S (ix2 r d)
      = (∑ e : Fin 128, pl w (z e) ⟨256 * t + r.val, by omega⟩ * W (ix3 0 e d)) * S (ix2 0 d) := by
  rw [lin_at]
  congr 1
  refine Finset.sum_congr rfl fun e _ => ?_
  congr 1
  rw [hR, hY _ _ (by show w ≤ 16 + r.val + 1; omega), hi]
  unfold pl cnt back
  congr 2
  · refine Finset.sum_congr rfl fun j hj => congrArg _ ?_
    have := Finset.mem_range.mp hj
    show 256 * t + (16 + r.val - j) = 256 * t + r.val + 16 - j
    omega
  · exact pad_row _ _ _ (by show 256 * t + (16 + r.val) = 256 * t + r.val + 16; omega)

variable {x0 : Vec Ideal S256x2048 .f32} {x1 : Vec Ideal S16x2048 .f32} {x2 : Vec Ideal S4x128x128 .bf16}
    {x3 : Vec Ideal S1x512 .f32} {x4 : Vec Ideal S8x512 .f32}

theorem ld3 (g : Fin 4) (inb) (e d : Fin 128) :
    View.ld x2 (Rect.unit (s := S4x128x128) ![g.val, 0, 0] S1x128x128.size inb) (ix3 0 e d) = x2 (ix3 g e d) := by
  refine View.ld_unit_apply_of x2 _ _ inb _ _ fun a => ?_
  fin_cases a
  · rfl
  · show e.val = 0 + e.val; omega
  · show d.val = 0 + d.val; omega

/-- A group's block is the group's result, whatever its doublings. -/
theorem group_ld (hi : (i 0).val = t) (ht : t < 32)
    (h0 : ∀ (r : Fin 256) l, x0 (ix2 r l) = X (ix2 ⟨256 * t + r.val, by omega⟩ l))
    (h1 : ∀ (_ : 1 ≤ t) (k : Fin 16) l, x1 (ix2 k l) = X (ix2 ⟨256 * t - 16 + k.val, by omega⟩ l))
    (h2 : ∀ g e d, x2 (ix3 g e d) = W (ix3 g e d)) (h3 : ∀ c, x3 (ix2 0 c) = S c)
    (g : Fin 4) (o : Nat) (ho : o = 128 * g.val) (ia ib ic id) (Y : FVec Ideal S272x128 .f32 → FVec Ideal S272x128 .f32)
    (hY : ∀ (R : FVec Ideal S272x128 .f32) f, (∀ k d, R (ix2 k d) = f k.val d) → Back (wd g) f (Y R))
    (x : S256x128.Idx) (r : Fin 256) (k : Fin 4) (d : Fin 128) (hx0 : r.val = (x 0).val) (hx1 : (half 0 (col k d)).val = o + (x 1).val) :
    lin i (BitVec.ofNat 32 (wd g))
      (ext i (View.ld x1 (Rect.unit (s := S16x2048) ![0, o] S16x128.size ia)) (View.ld x0 (Rect.unit (s := S256x2048) ![0, o] S256x128.size ib)))
      (Y (ext i (View.ld x1 (Rect.unit (s := S16x2048) ![0, o] S16x128.size ia)) (View.ld x0 (Rect.unit (s := S256x2048) ![0, o] S256x128.size ib))))
      (View.ld x2 (Rect.unit (s := S4x128x128) ![g.val, 0, 0] S1x128x128.size ic)) (View.ld x3 (Rect.unit (s := S1x512) ![0, o] S1x128.size id)) x
      = yc X W S ⟨256 * t + r.val, by omega⟩ k d := by
  subst ho
  obtain ⟨a, b, rfl⟩ := ix2_split x
  obtain rfl : r = a := Fin.ext hx0
  obtain ⟨rfl, rfl⟩ : k = g ∧ d = b := by
    have e : 512 * 0 + (128 * k.val + d.val) = 128 * g.val + b.val := hx1
    have := d.isLt; have := b.isLt
    exact ⟨Fin.ext (by omega), Fin.ext (by omega)⟩
  have hR := ext_at (i := i) hi ht (h := View.ld x1 (Rect.unit (s := S16x2048) ![0, 128 * k.val] S16x128.size ia))
    (v := View.ld x0 (Rect.unit (s := S256x2048) ![0, 128 * k.val] S256x128.size ib)) (fun e => zc X 0 (col k e))
    (fun h n e => (ld_at x1 _ _ ia n e n (quarter 0 (col k e)) (Nat.zero_add _).symm (Nat.zero_add _)).trans (h1 h n _))
    (fun n e => (ld_at x0 _ _ ib n e n (quarter 0 (col k e)) (Nat.zero_add _).symm (Nat.zero_add _)).trans (h0 n _))
  refine (group hi ht _ _ (wd_lt k) hR (hY _ _ hR) _ _ r d).trans ?_
  unfold yc
  congr 1
  · refine Finset.sum_congr rfl fun e _ => congrArg _ ?_
    exact (ld3 k ic e d).trans (h2 _ _ _)
  · exact (ld_at x3 _ _ id 0 d 0 (col k d) rfl rfl).trans (h3 _)

/-- A convolved block is the gated convolution. -/
theorem gate_ld (hi : (i 0).val = t) (ht : t < 32)
    (h0 : ∀ (r : Fin 256) l, x0 (ix2 r l) = X (ix2 ⟨256 * t + r.val, by omega⟩ l))
    (h1 : ∀ (_ : 1 ≤ t) (k : Fin 16) l, x1 (ix2 k l) = X (ix2 ⟨256 * t - 16 + k.val, by omega⟩ l))
    (h4 : ∀ n c, x4 (ix2 n c) = C (ix2 n c))
    (g : Fin 4) (o o1 o2 o3 p : Nat) (ho : o = 128 * g.val) (e1 : o1 = 512 + o) (e2 : o2 = 1024 + o) (e3 : o3 = 1536 + o) (ep : p = 512 + o)
    (ia ib ic id ie ig ih ij) (x : S256x128.Idx) (r : Fin 256) (k : Fin 4) (d : Fin 128) (hx0 : r.val = (x 0).val)
    (hx1 : (half 1 (col k d)).val = p + (x 1).val) :
    gate i (View.ld x1 (Rect.unit (s := S16x2048) ![0, o3] S16x128.size ia)) (View.ld x1 (Rect.unit (s := S16x2048) ![0, o1] S16x128.size ib))
      (View.ld x0 (Rect.unit (s := S256x2048) ![0, o3] S256x128.size ic)) (View.ld x0 (Rect.unit (s := S256x2048) ![0, o1] S256x128.size id))
      (View.ld x4 (Rect.unit (s := S8x512) ![0, o] S1x128.size ie)) (View.ld x4 (Rect.unit (s := S8x512) ![1, o] S1x128.size ig))
      (View.ld x4 (Rect.unit (s := S8x512) ![2, o] S1x128.size ih)) (View.ld x0 (Rect.unit (s := S256x2048) ![0, o2] S256x128.size ij)) x
      = yd X C ⟨256 * t + r.val, by omega⟩ (col k d) := by
  subst ho e1 e2 e3 ep
  obtain ⟨a, b, rfl⟩ := ix2_split x
  obtain rfl : r = a := Fin.ext hx0
  obtain ⟨rfl, rfl⟩ : k = g ∧ d = b := by
    have e : 512 * 1 + (128 * k.val + d.val) = 512 + 128 * g.val + b.val := hx1
    have := d.isLt; have := b.isLt
    exact ⟨Fin.ext (by omega), Fin.ext (by omega)⟩
  have q (n : Fin 4) (N : Nat) (hN : N = 512 * n.val) (e : Fin 128) : (quarter n (col k e)).val = N + 128 * k.val + e.val := by
    subst hN; exact (Nat.add_assoc _ _ _).symm
  have hR := ext_at (i := i) hi ht (h := mulf (View.ld x1 (Rect.unit (s := S16x2048) ![0, 1536 + 128 * k.val] S16x128.size ia)) (View.ld x1 (Rect.unit (s := S16x2048) ![0, 512 + 128 * k.val] S16x128.size ib)))
    (v := mulf (View.ld x0 (Rect.unit (s := S256x2048) ![0, 1536 + 128 * k.val] S256x128.size ic)) (View.ld x0 (Rect.unit (s := S256x2048) ![0, 512 + 128 * k.val] S256x128.size id)))
    (fun e => xg X (col k e))
    (fun h n e => congrArg₂ (· * ·)
      ((ld_at x1 _ _ ia n e n (quarter 3 (col k e)) (Nat.zero_add _).symm (q 3 1536 rfl e)).trans (h1 h n _))
      ((ld_at x1 _ _ ib n e n (quarter 1 (col k e)) (Nat.zero_add _).symm (q 1 512 rfl e)).trans (h1 h n _)))
    (fun n e => congrArg₂ (· * ·)
      ((ld_at x0 _ _ ic n e n (quarter 3 (col k e)) (Nat.zero_add _).symm (q 3 1536 rfl e)).trans (h0 n _))
      ((ld_at x0 _ _ id n e n (quarter 1 (col k e)) (Nat.zero_add _).symm (q 1 512 rfl e)).trans (h0 n _)))
  refine (gate_at i _ _ _ _ _ _ _ _ (fun n e => pad (xg X (col k e)) (256 * t + n)) hR r d).trans ?_
  unfold yd cv
  congr 1
  · exact (ld_at x0 _ _ ij r d r (quarter 2 (col k d)) (Nat.zero_add _).symm (q 2 1024 rfl d)).trans (h0 r _)
  · congr 1
    · congr 1
      · exact congrArg₂ (· * ·) ((ld_at x4 _ _ ie 0 d 0 (col k d) rfl rfl).trans (h4 _ _)) (congrArg _ (Nat.add_assoc _ _ _).symm)
      · exact congrArg₂ (· * ·) ((ld_at x4 _ _ ig 0 d 1 (col k d) rfl rfl).trans (h4 _ _)) (congrArg _ (Nat.add_assoc _ _ _).symm)
    · exact congrArg₂ (· * ·) ((ld_at x4 _ _ ih 0 d 2 (col k d) rfl rfl).trans (h4 _ _)) (congrArg _ (Nat.add_assoc _ _ _).symm)

/-- A block's left half: the groups' results. -/
theorem out_left (hi : (i 0).val = t) (ht : t < 32)
    (h0 : ∀ (r : Fin 256) l, x0 (ix2 r l) = X (ix2 ⟨256 * t + r.val, by omega⟩ l))
    (h1 : ∀ (_ : 1 ≤ t) (k : Fin 16) l, x1 (ix2 k l) = X (ix2 ⟨256 * t - 16 + k.val, by omega⟩ l))
    (h2 : ∀ g e d, x2 (ix3 g e d) = W (ix3 g e d)) (h3 : ∀ c, x3 (ix2 0 c) = S c) (r : Fin 256) (k : Fin 4) (d : Fin 128) :
    out0_5 (F := Ideal) i x0 x1 x2 x3 x4 (ix2 r (half 0 (col k d))) = yc X W S ⟨256 * t + r.val, by omega⟩ k d := by
  have hk : (half 0 (col k d)).val = 128 * k.val + d.val := Nat.zero_add _
  have := k.isLt; have := d.isLt
  rw [out_eq]
  canon_tiles x hx
  case piece4 =>
    exact group_ld X W S hi ht h0 h1 h2 h3 3 384 rfl _ _ _ _ (fun R => dbl 8#32 (dbl 4#32 (dbl 2#32 (dbl 1#32 R))))
      (fun R f h => ((((back_one h).dbl 1#32 rfl (by decide) (by decide) _).dbl 2#32 rfl (by decide) (by decide) _).dbl 4#32 rfl (by decide) (by decide) _).dbl 8#32 rfl (by decide) (by decide) _) x r k d hx0 hx1
  case piece5 =>
    exact group_ld X W S hi ht h0 h1 h2 h3 2 256 rfl _ _ _ _ (fun R => dbl 4#32 (dbl 2#32 (dbl 1#32 R)))
      (fun R f h => (((back_one h).dbl 1#32 rfl (by decide) (by decide) _).dbl 2#32 rfl (by decide) (by decide) _).dbl 4#32 rfl (by decide) (by decide) _) x r k d hx0 hx1
  case piece6 =>
    exact group_ld X W S hi ht h0 h1 h2 h3 1 128 rfl _ _ _ _ (fun R => dbl 2#32 (dbl 1#32 R))
      (fun R f h => ((back_one h).dbl 1#32 rfl (by decide) (by decide) _).dbl 2#32 rfl (by decide) (by decide) _) x r k d hx0 hx1
  case piece7 =>
    exact group_ld X W S hi ht h0 h1 h2 h3 0 0 rfl _ _ _ _ (fun R => dbl 1#32 R)
      (fun R f h => (back_one h).dbl 1#32 rfl (by decide) (by decide) _) x r k d hx0 (hx1.trans (Nat.zero_add _).symm)
  all_goals exact absurd (hx1.symm.trans hk) (by omega)

/-- A block's right half: the gated convolution. -/
theorem out_right (hi : (i 0).val = t) (ht : t < 32)
    (h0 : ∀ (r : Fin 256) l, x0 (ix2 r l) = X (ix2 ⟨256 * t + r.val, by omega⟩ l))
    (h1 : ∀ (_ : 1 ≤ t) (k : Fin 16) l, x1 (ix2 k l) = X (ix2 ⟨256 * t - 16 + k.val, by omega⟩ l))
    (h4 : ∀ n c, x4 (ix2 n c) = C (ix2 n c)) (r : Fin 256) (k : Fin 4) (d : Fin 128) :
    out0_5 (F := Ideal) i x0 x1 x2 x3 x4 (ix2 r (half 1 (col k d))) = yd X C ⟨256 * t + r.val, by omega⟩ (col k d) := by
  have hk : (half 1 (col k d)).val = 512 + (128 * k.val + d.val) := rfl
  rw [out_eq]
  canon_tiles x hx
  case piece0 => exact gate_ld X C hi ht h0 h1 h4 3 384 896 1408 1920 896 rfl rfl rfl rfl rfl _ _ _ _ _ _ _ _ x r k d hx0 hx1
  case piece1 => exact gate_ld X C hi ht h0 h1 h4 2 256 768 1280 1792 768 rfl rfl rfl rfl rfl _ _ _ _ _ _ _ _ x r k d hx0 hx1
  case piece2 => exact gate_ld X C hi ht h0 h1 h4 1 128 640 1152 1664 640 rfl rfl rfl rfl rfl _ _ _ _ _ _ _ _ x r k d hx0 hx1
  case piece3 => exact gate_ld X C hi ht h0 h1 h4 0 0 512 1024 1536 512 rfl rfl rfl rfl rfl _ _ _ _ _ _ _ _ x r k d hx0 hx1
  all_goals exact absurd (hx1.symm.trans hk) (by omega)
end
end

end Cert.OfBlocks

end
-- ==== Proof.OfClaim.lean ====
/-
  The odd mixer's pooling and short convolution: the kernel's array and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.OfKernelIdeal.Value
public import proofs.«01_k».proof.Proof.Gen.OfReferenceIdeal.Read
public import proofs.«01_k».proof.Proof.Gen.OfReferenceIdeal.Run
public import proofs.«01_k».proof.Proof.OfBlocks
public import proofs.«01_k».proof.Proof.XaFinal

@[expose] public section

set_option maxRecDepth 16384

noncomputable section

namespace Cert.Proof.OfClaim

open Idealize.ShloMosaic Cert.Products Cert.Windows Cert.XaSpec Cert.OfBlocks
open Cert.XaFinal (hd ln hd_col ln_col ix_split col_hd)

/-- An index of the result is a row, a half, a group and a place. -/
theorem split {n : Nat} (y : (⟨2, ![n, 1024]⟩ : Shape).Idx) : ∃ (r : Fin n) (q : Fin 2) (k : Fin 4) (d : Fin 128), y = ix2 r (half q (col k d)) := by
  obtain ⟨r, l, rfl⟩ := ix2_split y
  have := l.isLt
  refine ⟨r, ⟨l.val / 512, by omega⟩, hd ⟨l.val % 512, Nat.mod_lt _ (by decide)⟩, ln ⟨l.val % 512, Nat.mod_lt _ (by decide)⟩, ?_⟩
  rw [← col_hd]
  exact congrArg (ix2 r) (Fin.ext (by show l.val = 512 * (l.val / 512) + l.val % 512; omega))

/-- The result. -/
def OF (X : Mat 8192 2048) (W : (⟨3, ![4, 128, 128]⟩ : Shape).Idx → EReal) (S : (⟨1, ![512]⟩ : Shape).Idx → EReal) (C : Mat 8 512) : Mat 8192 1024 := fun j =>
  if h : (j 1).val < 512 then yc X W (fun c => S (ix1 c)) (j 0) (hd ⟨(j 1).val, h⟩) (ln ⟨(j 1).val, h⟩)
  else yd X C (j 0) ⟨(j 1).val - 512, by have : (j 1).val < 1024 := (j 1).isLt; omega⟩

section
variable (X : Mat 8192 2048) (W : (⟨3, ![4, 128, 128]⟩ : Shape).Idx → EReal) (S : (⟨1, ![512]⟩ : Shape).Idx → EReal) (C : Mat 8 512)

theorem of_left (s : Fin 8192) (k : Fin 4) (d : Fin 128) : OF X W S C (ix2 s (half 0 (col k d))) = yc X W (fun c => S (ix1 c)) s k d := by
  have h : (half 0 (col k d)).val < 512 := by have := (col k d).isLt; show 512 * 0 + (col k d).val < 512; omega
  have e : (⟨(half 0 (col k d)).val, h⟩ : Fin 512) = col k d := Fin.ext (by show 512 * 0 + (col k d).val = _; omega)
  refine (dif_pos h).trans ?_
  show yc X W _ s (hd ⟨(half 0 (col k d)).val, h⟩) (ln ⟨(half 0 (col k d)).val, h⟩) = _
  rw [e, hd_col, ln_col]
theorem of_right (s : Fin 8192) (c : Fin 512) : OF X W S C (ix2 s (half 1 c)) = yd X C s c := by
  refine (dif_neg (by show ¬512 * 1 + c.val < 512; omega)).trans ?_
  exact congrArg (yd X C s) (Fin.ext (by show 512 * 1 + c.val - 512 = c.val; omega))
end

section
open Cert.OfKernelIdeal Cert.OfKernelIdeal.Gen
open Idealize.ShloMosaic.TcCoe Idealize.SL.Sem
open Idealize.ShloMosaic.Pipeline (Dat)
variable (m : (ℓ : Loc nD τ sig) → Buf (Elt Ideal) ℓ) (c : Dev nD)

/-- The rows. -/
abbrev Xa : Vec Ideal S8192x2048 .f32 := m ((c : Thread nD τ).loc main_arg0)
/-- The groups' weights. -/
abbrev Wa : Vec Ideal S4x128x128 .bf16 := m ((c : Thread nD τ).loc main_arg1)
/-- The scale. -/
abbrev Sa : Vec Ideal S512 .f32 := m ((c : Thread nD τ).loc main_arg2)
/-- The convolution's weights. -/
abbrev Ca : Vec Ideal S8x512 .f32 := m ((c : Thread nD τ).loc main_arg3)

/-- The windows' block indices at a point (decided). -/
theorem idx : ∀ t : Fin cfg0.N, win0_0.index t = ![t.val, 0] ∧ win0_1.index t = ![16 * t.val - 1, 0] ∧ win0_2.index t = ![0, 0, 0]
    ∧ win0_3.index t = ![0, 0] ∧ win0_4.index t = ![0, 0] ∧ win0_5.index t = ![t.val, 0] ∧ ((grid0.coords t) 0).val = t.val :=
  (by decide +kernel : ∀ t : Fin grid0.N, _)

theorem t_lt (t : Fin cfg0.N) : t.val < 32 := by
  have h : cfg0.N = 32 := N_0
  have := t.isLt; omega

theorem iblk0 (t : Fin cfg0.N) (r : Fin 256) (l : Fin 2048) :
    iblk m c 0 t (ix2 r l) = Xa m c (ix2 ⟨256 * t.val + r.val, by have := t_lt t; omega⟩ l) := by
  blk_ext [iblk, V, idx t]
theorem iblk1 (t : Fin cfg0.N) (h : 1 ≤ t.val) (k : Fin 16) (l : Fin 2048) :
    iblk m c 1 t (ix2 k l) = Xa m c (ix2 ⟨256 * t.val - 16 + k.val, by have := t_lt t; omega⟩ l) := by
  blk_ext [iblk, V, idx t]
theorem iblk2 (t : Fin cfg0.N) (g : Fin 4) (e d : Fin 128) : iblk m c 2 t (ix3 g e d) = Wa m c (ix3 g e d) := by
  blk_ext [iblk, V, idx t]
theorem iblk3 (t : Fin cfg0.N) (l : Fin 512) : iblk m c 3 t (ix2 0 l) = Sa m c (ix1 l) := by
  blk_ext! [iblk, V, idx t]
theorem iblk4 (t : Fin cfg0.N) (n : Fin 8) (l : Fin 512) : iblk m c 4 t (ix2 n l) = Ca m c (ix2 n l) := by
  blk_ext [iblk, V, idx t]

theorem final : (dats m 0 c).arrAt 5 cfg0.N = OF (Xa m c) (Wa m c) (Sa m c) (Ca m c) := by
  refine (dats m 0 c).arrAt_eq_of_covers 5 _ (by decide +kernel) fun t hf y => ?_
  blk_simp
  rw [after0_5]
  obtain ⟨r, q, k, d, rfl⟩ := split y
  have he : (win0_5.blk t).view.emb (ix2 r (half q (col k d))) = ix2 (⟨256 * t.val + r.val, by have := t_lt t; omega⟩ : Fin 8192) (half q (col k d)) := by
    blk_ext [idx t]
  rw [he]
  obtain rfl | rfl : q = 0 ∨ q = 1 := by fin_cases q; exact .inl rfl; exact .inr rfl
  · exact (out_left (Xa m c) (Wa m c) (fun c' => Sa m c (ix1 c')) (idx t).2.2.2.2.2.2 (t_lt t) (iblk0 m c t) (iblk1 m c t) (iblk2 m c t) (iblk3 m c t) r k d).trans
      (of_left _ _ _ _ _ k d).symm
  · exact (out_right (Xa m c) (Ca m c) (idx t).2.2.2.2.2.2 (t_lt t) (iblk0 m c t) (iblk1 m c t) (iblk4 m c t) r k d).trans
      (of_right _ _ _ _ _ _).symm
end

section
open Cert.OfReferenceIdeal Cert.OfReferenceIdeal.Gen Cert.OfReferenceIdeal.Read
variable (x0 : Vec Ideal S8192x2048 .f32) (x1 : Vec Ideal S4x128x128 .bf16) (x2 : Vec Ideal S512 .f32) (x3 : Vec Ideal S8x512 .f32)

/-- The table of the windows' widths. -/
theorem v22 (g : Fin 4) : val_main_v22 (F := Ideal) (ix1 g) = BitVec.ofNat 32 (wd g) := by
  revert g
  decide +kernel
theorem v23 (g : Fin 4) (u v : Fin 1) : val_main_v23 (F := Ideal) (ix3 g u v) = BitVec.ofNat 32 (wd g) := by
  rw [val_main_v23_apply]
  refine Eq.trans (congrArg _ (funext fun a => ?_)) (v22 g)
  fin_cases a
  rfl
theorem v38 (g : Fin 4) (s t : Fin 8192) : val_main_v38 (F := Ideal) (ix3 g s t) = if t.val ≤ s.val ∧ s.val < t.val + wd g then (1 : EReal) else 0 := by
  pointwise [val_main_v38, val_main_v37, val_main_v36, val_main_v35, val_main_v34, val_main_v33, val_main_v32, val_main_v31, val_main_v30, val_main_v29, val_main_v28, val_main_v27, val_main_v26, val_main_v25, val_main_v24, val_main_v1, val_main_call4_v0, val_main_call4_v1, val_main_cst, val_main_cst_12]
  have hw := wd_lt g
  have hs := s.isLt
  have ht := t.isLt
  rw [id, v23, show IntOp.addi (BitVec.ofNat 32 t.val) (BitVec.ofNat 32 (wd g)) = BitVec.ofNat 32 (t.val + wd g) from (BitVec.ofNat_add _ _).symm,
    WordCmp.cmpi_sle_ofNat (by omega) (by omega), WordCmp.cmpi_slt_ofNat (by omega) (by omega)]
  by_cases h1 : t.val ≤ s.val <;> by_cases h2 : s.val < t.val + wd g <;> simp [h1, h2, IntOp.andi, Scalar.select]
theorem v48 (g : Fin 4) (s : Fin 8192) (d : Fin 128) : val_main_v48 (F := Ideal) x0 (ix3 g s d) = zc x0 0 (col g d) s := by
  rw [val_main_v48_apply, val_main_v47_apply, val_main_v46_apply]
  refine congrArg x0 (funext fun a => Fin.ext ?_)
  have := d.isLt; have := g.isLt
  fin_cases a
  · show ((s.val * 4 + g.val) * 128 + d.val) / 512 = s.val; omega
  · show ((s.val * 4 + g.val) * 128 + d.val) % 512 = 512 * 0 + (128 * g.val + d.val); omega
theorem v45 (g : Fin 4) (s : Fin 8192) (u : Fin 1) : val_main_v45 (F := Ideal) (ix3 g s u) = cnt (wd g) s.val := by
  pointwise [val_main_v45, val_main_v44, val_main_v43, val_main_v42, val_main_v41, val_main_v40, val_main_v39, val_main_c_13, val_main_v24, val_main_v1]
  rw [id, v23, show IntOp.addi (BitVec.ofNat 32 s.val) 1#32 = BitVec.ofNat 32 (s.val + 1) from (BitVec.ofNat_add _ _).symm]
  rfl
theorem v52 (g : Fin 4) (s : Fin 8192) (d : Fin 128) : val_main_v52 (F := Ideal) x0 (ix3 g s d) = pl (wd g) (zc x0 0 (col g d)) s := by
  pointwise [val_main_v52, val_main_v51, val_main_v50, val_main_v49]
  simp only [v38, v48, v45]
  rw [sum_back _ _ _ (wd_lt g)]
  rfl
theorem v58 (s : Fin 8192) (g : Fin 4) (d : Fin 128) : val_main_v58 (F := Ideal) x0 x1 x2 (ix2 s (col g d)) = yc x0 x1 (fun c => x2 (ix1 c)) s g d := by
  have e : val_main_v55 (F := Ideal) x0 x1 (ix2 s (col g d)) = val_main_v53 (F := Ideal) x0 x1 (ix3 g s d) := by
    rw [val_main_v55_apply, val_main_v54_apply]
    refine congrArg (val_main_v53 (F := Ideal) x0 x1) (funext fun a => Fin.ext ?_)
    have := d.isLt; have := g.isLt
    fin_cases a
    · show (s.val * 512 + (128 * g.val + d.val)) / 128 % 4 = g.val; omega
    · show (s.val * 512 + (128 * g.val + d.val)) / 512 = s.val; omega
    · show (s.val * 512 + (128 * g.val + d.val)) % 128 = d.val; omega
  rw [val_main_v58_apply, e]
  pointwise [val_main_v57, val_main_v56, val_main_v53, val_main_v0]
  simp only [v52]
  rfl
theorem v64 (n : Fin 8194) (l : Fin 512) : val_main_v64 (F := Ideal) x0 (ix2 n l) = pad (xg x0 l) (n.val + 14) := by
  unfold val_main_v64
  have hn := n.isLt
  by_cases h : n.val < 2
  · refine (concatenate_pair_apply_left 0 _ _ concatenates_S2x512_S8192x512_S8194x512_d0 (ix2 n l) rfl (ix2 (⟨n.val, h⟩ : Fin 2) l) fun b => ?_).trans ?_
    · fin_cases b <;> rfl
    · rw [pad_lo _ _ (by omega)]
      pointwise [val_main_v62, val_main_cst_14]
  · refine (concatenate_pair_apply_right 0 _ _ concatenates_S2x512_S8192x512_S8194x512_d0 (ix2 n l) rfl rfl (ix2 (⟨n.val - 2, by omega⟩ : Fin 8192) l) (fun b hb => ?_) ?_).trans ?_
    · fin_cases b
      · exact absurd rfl hb
      · rfl
    · show n.val - 2 + 2 = n.val; omega
    · rw [pad_row _ ⟨n.val - 2, by omega⟩ _ (by show n.val + 14 = n.val - 2 + 16; omega)]
      pointwise [val_main_v63, val_main_v61, val_main_v59]
      rfl
theorem v87 (s : Fin 8192) (l : Fin 512) : val_main_v87 (F := Ideal) x0 x3 (ix2 s l) = yd x0 x3 s l := by
  pointwise [val_main_v87, val_main_v86, val_main_v85, val_main_v84, val_main_v83, val_main_v82, val_main_v81, val_main_v80, val_main_v79, val_main_v78, val_main_v77, val_main_v76, val_main_v75, val_main_v74, val_main_v73, val_main_v72, val_main_v71, val_main_cst_15, val_main_v70, val_main_v69, val_main_v68, val_main_v67, val_main_v66, val_main_v65, val_main_v60]
  rw [v64, v64, v64]
  unfold yd cv
  congr 3
  · exact congrArg (fun n => x3 (ix2 1 l) * pad (xg x0 l) n) (by show 1 + s.val + 14 = s.val + 15; omega)
  · exact congrArg (pad (xg x0 l)) (by show 2 + s.val + 14 = s.val + 16; omega)
theorem ref : val_main_v89 (F := Ideal) x0 x1 x2 x3 = OF x0 x1 x2 x3 := by
  funext j
  obtain ⟨s, q, k, d, rfl⟩ := split j
  show val_main_v88 (F := Ideal) x0 x1 x2 x3 _ = _
  unfold val_main_v88
  obtain rfl | rfl : q = 0 ∨ q = 1 := by fin_cases q; exact .inl rfl; exact .inr rfl
  · refine (concatenate_pair_apply_left 1 _ _ concatenates_S8192x512_S8192x512_S8192x1024_d1 (ix2 s (half 0 (col k d))) rfl (ix2 s (col k d)) fun b => ?_).trans
      ((v58 x0 x1 x2 s k d).trans (of_left _ _ _ _ s k d).symm)
    fin_cases b
    · rfl
    · exact (Nat.zero_add _).symm
  · refine (concatenate_pair_apply_right 1 _ _ concatenates_S8192x512_S8192x512_S8192x1024_d1 (ix2 s (half 1 (col k d))) rfl rfl (ix2 s (col k d)) (fun b hb => ?_) ?_).trans
      ((v87 x0 x3 s (col k d)).trans (of_right _ _ _ _ s _).symm)
    · fin_cases b
      · rfl
      · exact absurd rfl hb
    · exact Nat.add_comm _ _
end

/-- The kernel's array is the reference's. -/
theorem algebraic : Cert.algebraic_OfKernelIdeal_OfReferenceIdeal := by
  pair_intro
  · run_from Cert.OfKernelIdeal.Value.run_blocks m g
  · run_from Cert.OfReferenceIdeal.Value.run m' g'
    · obtain ⟨e0, e1, e2, e3⟩ := hagree c
      rw [Cert.OfReferenceIdeal.Read.val_main_v89_eq, e0, e1, e2, e3]
      exact (ref _ _ _ _).trans (final m c).symm

/-- The reference runs, keeps its arguments and leaves every counter at zero. -/
theorem frame_ref : Cert.quiescent_OfReferenceIdeal := fun m ρ _ =>
  (θ_run Cert.OfReferenceIdeal.defs _ _).mono (fun r h => ⟨fun c => (h c).2, sem_eq_zero_of_no_sems (by decide) r.2⟩)
    (Cert.OfReferenceIdeal.Value.run (F := Ideal) m ρ)

end Cert.Proof.OfClaim

end
-- ==== Proof.ObBlocks.lean ====
/-
  The gradient of what the odd mixer's pooling and short convolution take: what a grid point leaves, from its 256 rows, the
  16 before them and the 16 after them.
-/
module

public import proofs.«01_k».proof.Proof.Gen.ObKernelIdeal.Value
public import proofs.«01_k».proof.Proof.OfBlocks

@[expose] public section

set_option maxRecDepth 65536

noncomputable section

namespace Cert.ObBlocks

open Idealize.ShloMosaic Cert.Products Cert.Windows Cert.XaSpec Cert.OfBlocks

variable (X : Mat 8192 2048) (D : Mat 8192 1024) (W : (⟨3, ![4, 128, 128]⟩ : Shape).Idx → EReal) (S : Fin 512 → EReal) (C : Mat 8 512)

/-- The gradient of a group's pooled rows. -/
def dp (g : Fin 4) (e : Fin 128) (s : Fin 8192) : EReal := ∑ d, D (ix2 s (half 0 (col g d))) * S (col g d) * W (ix3 g e d)
/-- The gradient of a group's rows. -/
def dl (g : Fin 4) (e : Fin 128) (s : Fin 8192) : EReal :=
  ahead (wd g) (fun u => Ideal.div (dp D W S g e u) (cnt (wd g) u.val)) s.val - dp D W S g e s
/-- The gradient of the convolution. -/
def dc (c : Fin 512) (s : Fin 8192) : EReal := D (ix2 s (half 1 c)) * zc X 2 c s
/-- The gradient of the convolved sequence. -/
def dx (c : Fin 512) (s : Fin 8192) : EReal :=
  C (ix2 2 c) * dc X D c s + C (ix2 1 c) * pad (dc X D c) (s.val + 17) + C (ix2 0 c) * pad (dc X D c) (s.val + 18)
/-- A column of the gradient, by its quarter. -/
def dq (q : Fin 4) (g : Fin 4) (d : Fin 128) (s : Fin 8192) : EReal :=
  if q = 0 then dl D W S g d s
  else if q = 1 then dx X D C (col g d) s * zc X 3 (col g d) s
  else if q = 2 then D (ix2 s (half 1 (col g d))) * cv X C s (col g d)
  else dx X D C (col g d) s * zc X 1 (col g d) s

/-- A count is not zero. -/
theorem cnt_pos (g : Fin 4) (n : Nat) (hn : n < 2 ^ 20) : cnt (wd g) n ≠ 0 := by
  have hw := wd_lt g
  have h0 : 0 < wd g := Nat.two_pow_pos _
  have e : ∀ k, 0 < k → k < 2 ^ 21 → FloatOps.sitofp (F := Ideal) .f32 (BitVec.ofNat 32 k) ≠ 0 := fun k h1 h2 => by
    show (((BitVec.ofNat 32 k).toInt : ℝ) : EReal) ≠ 0
    rw [WordCmp.toInt_ofNat_of_lt (by omega)]
    exact_mod_cast (by omega : k ≠ 0)
  unfold cnt IntOp.minsi
  split
  · exact e _ (by omega) (by omega)
  · exact e _ h0 (by omega)

section
open Cert.ObKernelIdeal Cert.ObKernelIdeal.Gen

/-- Whether a point is the last. -/
abbrev b31 (i : grid0.Coords) : BitVec 1 := Scalar.cmpi .eq (BitVec.ofNat 32 (i 0).val) 31#32
/-- The rows after, or zeros at the last point. -/
def bot (i : grid0.Coords) (h : FVec Ideal S16x128 .f32) : FVec Ideal S16x128 .f32 :=
  Scalar.select (b31 i) (broadcast S16x128 (Scalar.ofBits (F := Ideal) .f32 0x00000000#32)) h
/-- The rows after below a block's own. -/
def low (i : grid0.Coords) (h : FVec Ideal S16x128 .f32) (v : FVec Ideal S256x128 .f32) : FVec Ideal S272x128 .f32 :=
  concatenate S272x128 0 [⟨S256x128, v⟩, ⟨S16x128, bot i h⟩] concatenates_S256x128_S16x128_S272x128_d0
/-- Rows of a result's gradient, scaled and through a group's weights. -/
def back' (i : grid0.Coords) (h : FVec Ideal S16x128 .f32) (v : FVec Ideal S256x128 .f32) (s : Vec Ideal S1x128 .f32) (W : Vec Ideal S1x128x128 .bf16) :
    FVec Ideal S272x128 .f32 :=
  matmul dot_S272x128_S128x128_S272x128_1_1_0_0_n_n none
    (truncf .bf16 (mulf (low i h v) (broadcastTo S272x128 (shapeCast S1x128 s shapeCasts_S1x128_S1x128) broadcasts_S1x128_S272x128)) bitsLt_bf16_f32)
    (shapeCast S128x128 W shapeCasts_S1x128x128_S128x128 : FVec Ideal S128x128 .bf16) (constant S272x128 .f32 0x00000000#32)
/-- Rows over their counts. -/
def quo (i : grid0.Coords) (n : BitVec 32) (M : FVec Ideal S272x128 .f32) : FVec Ideal S272x128 .f32 :=
  divf M (sitofp .f32 (minsi (addi (k0_pay10 i) (broadcast S272x128 1#32)) (broadcast S272x128 n)))
/-- A group's block from its rows and their sums. -/
def lin' (M Y : FVec Ideal S272x128 .f32) : Vec Ideal S256x128 .bf16 :=
  truncf .bf16 (subf (extractStridedSlice S256x128 ![0, 0] Y slices_S272x128_o0_0_S256x128)
    (extractStridedSlice S256x128 ![0, 0] M slices_S272x128_o0_0_S256x128)) bitsLt_bf16_f32

theorem inb2 {n L m r o : Nat} (hr : r + m ≤ n) (ho : o + 128 ≤ L) :
    ∀ a, (![r, o] : Fin 2 → Nat) a + (![m, 128] : Fin 2 → Nat) a ≤ (⟨2, ![n, L]⟩ : Shape).size a := fun a => by
  fin_cases a
  · exact hr
  · exact ho
theorem inb3 (g : Fin 4) : ∀ a, (![g.val, 0, 0] : Fin 3 → Nat) a + (![1, 128, 128] : Fin 3 → Nat) a ≤ S4x128x128.size a := fun a => by
  fin_cases a
  · exact g.isLt
  · exact Nat.le_refl _
  · exact Nat.le_refl _
/-- A window of a matrix. -/
def win {n L : Nat} (m : Nat) (x : Vec Ideal ⟨2, ![n, L]⟩ .f32) (r o : Nat) (hr : r + m ≤ n) (ho : o + 128 ≤ L) : Vec Ideal ⟨2, ![m, 128]⟩ .f32 :=
  View.ld x (Rect.unit (s := ⟨2, ![n, L]⟩) ![r, o] ![m, 128] (inb2 hr ho))

section
variable (i : grid0.Coords) (x0 : Vec Ideal S256x2048 .f32) (x1 : Vec Ideal S16x2048 .f32) (x2 : Vec Ideal S16x2048 .f32) (x3 : Vec Ideal S256x1024 .f32)
    (x4 : Vec Ideal S16x1024 .f32) (x5 : Vec Ideal S4x128x128 .bf16) (x6 : Vec Ideal S1x512 .f32) (x7 : Vec Ideal S8x512 .f32)

/-- A group's rows through its weights. -/
def rows (g : Fin 4) (o : Nat) (h : o + 128 ≤ 512) : FVec Ideal S272x128 .f32 :=
  back' i (win 16 x4 0 o (by omega) (by omega)) (win 256 x3 0 o (by omega) (by omega)) (win 1 x6 0 o (by omega) h)
    (View.ld x5 (Rect.unit (s := S4x128x128) ![g.val, 0, 0] S1x128x128.size (inb3 g)))
/-- The gradient of the convolution, in a point's rows. -/
def dcv (o : Nat) (h : o + 128 ≤ 512) : FVec Ideal S256x128 .f32 :=
  mulf (win 256 x3 0 (512 + o) (by omega) (by omega)) (win 256 x0 0 (1024 + o) (by omega) (by omega))
/-- The gradient of the convolved sequence. -/
def dxv (o : Nat) (h : o + 128 ≤ 512) : FVec Ideal S256x128 .f32 :=
  k0_pay48 (win 1 x7 0 o (by omega) h) (win 1 x7 1 o (by omega) h) (win 1 x7 2 o (by omega) h) (dcv x0 x3 o h)
    (low i (mulf (win 16 x4 0 (512 + o) (by omega) (by omega)) (win 16 x2 0 (1024 + o) (by omega) (by omega))) (dcv x0 x3 o h))
/-- The convolution. -/
def cvv (o : Nat) (h : o + 128 ≤ 512) : FVec Ideal S256x128 .f32 :=
  k0_pay42 (b0 i) (win 256 x0 0 (512 + o) (by omega) (by omega)) (win 256 x0 0 (1536 + o) (by omega) (by omega))
    (win 16 x1 0 (1536 + o) (by omega) (by omega)) (win 16 x1 0 (512 + o) (by omega) (by omega))
    (win 1 x7 0 o (by omega) h) (win 1 x7 1 o (by omega) h) (win 1 x7 2 o (by omega) h)
/-- The block of the value's gradient. -/
def blk1 (o : Nat) (h : o + 128 ≤ 512) : Vec Ideal S256x128 .bf16 :=
  truncf .bf16 (mulf (dxv i x0 x2 x3 x4 x7 o h) (win 256 x0 0 (1536 + o) (by omega) (by omega))) bitsLt_bf16_f32
/-- The block of the gate's gradient. -/
def blk2 (o : Nat) (h : o + 128 ≤ 512) : Vec Ideal S256x128 .bf16 :=
  truncf .bf16 (mulf (win 256 x3 0 (512 + o) (by omega) (by omega)) (cvv i x0 x1 x7 o h)) bitsLt_bf16_f32
/-- The block of the last gate's gradient. -/
def blk3 (o : Nat) (h : o + 128 ≤ 512) : Vec Ideal S256x128 .bf16 :=
  truncf .bf16 (mulf (dxv i x0 x2 x3 x4 x7 o h) (win 256 x0 0 (512 + o) (by omega) (by omega))) bitsLt_bf16_f32
/-- The block of a group. -/
def blk0 (n : BitVec 32) (Y : FVec Ideal S272x128 .f32 → FVec Ideal S272x128 .f32) (g : Fin 4) (o : Nat) (h : o + 128 ≤ 512) : Vec Ideal S256x128 .bf16 :=
  lin' (rows i x3 x4 x5 x6 g o h) (Y (quo i n (rows i x3 x4 x5 x6 g o h)))

/-- The blocks of a point's result. -/
def blocks : List (View.Piece (Elt Ideal) S256x2048 .bf16) := [
  ⟨Rect.unit (s := S256x2048) ![0, 1920] S256x128.size inb_S256x2048_S256x128_0_1920, blk3 i x0 x2 x3 x4 x7 384 (by decide)⟩,
  ⟨Rect.unit (s := S256x2048) ![0, 1408] S256x128.size inb_S256x2048_S256x128_0_1408, blk2 i x0 x1 x3 x7 384 (by decide)⟩,
  ⟨Rect.unit (s := S256x2048) ![0, 896] S256x128.size inb_S256x2048_S256x128_0_896, blk1 i x0 x2 x3 x4 x7 384 (by decide)⟩,
  ⟨Rect.unit (s := S256x2048) ![0, 1792] S256x128.size inb_S256x2048_S256x128_0_1792, blk3 i x0 x2 x3 x4 x7 256 (by decide)⟩,
  ⟨Rect.unit (s := S256x2048) ![0, 1280] S256x128.size inb_S256x2048_S256x128_0_1280, blk2 i x0 x1 x3 x7 256 (by decide)⟩,
  ⟨Rect.unit (s := S256x2048) ![0, 768] S256x128.size inb_S256x2048_S256x128_0_768, blk1 i x0 x2 x3 x4 x7 256 (by decide)⟩,
  ⟨Rect.unit (s := S256x2048) ![0, 1664] S256x128.size inb_S256x2048_S256x128_0_1664, blk3 i x0 x2 x3 x4 x7 128 (by decide)⟩,
  ⟨Rect.unit (s := S256x2048) ![0, 1152] S256x128.size inb_S256x2048_S256x128_0_1152, blk2 i x0 x1 x3 x7 128 (by decide)⟩,
  ⟨Rect.unit (s := S256x2048) ![0, 640] S256x128.size inb_S256x2048_S256x128_0_640, blk1 i x0 x2 x3 x4 x7 128 (by decide)⟩,
  ⟨Rect.unit (s := S256x2048) ![0, 1536] S256x128.size inb_S256x2048_S256x128_0_1536, blk3 i x0 x2 x3 x4 x7 0 (by decide)⟩,
  ⟨Rect.unit (s := S256x2048) ![0, 1024] S256x128.size inb_S256x2048_S256x128_0_1024, blk2 i x0 x1 x3 x7 0 (by decide)⟩,
  ⟨Rect.unit (s := S256x2048) ![0, 512] S256x128.size inb_S256x2048_S256x128_0_512, blk1 i x0 x2 x3 x4 x7 0 (by decide)⟩,
  ⟨Rect.unit (s := S256x2048) ![0, 384] S256x128.size inb_S256x2048_S256x128_0_384, blk0 i x3 x4 x5 x6 16#32 (fun Q => dbl 264#32 (dbl 268#32 (dbl 270#32 (dbl 271#32 Q)))) 3 384 (by decide)⟩,
  ⟨Rect.unit (s := S256x2048) ![0, 256] S256x128.size inb_S256x2048_S256x128_0_256, blk0 i x3 x4 x5 x6 8#32 (fun Q => dbl 268#32 (dbl 270#32 (dbl 271#32 Q))) 2 256 (by decide)⟩,
  ⟨Rect.unit (s := S256x2048) ![0, 128] S256x128.size inb_S256x2048_S256x128_0_128, blk0 i x3 x4 x5 x6 4#32 (fun Q => dbl 270#32 (dbl 271#32 Q)) 1 128 (by decide)⟩,
  ⟨Rect.unit (s := S256x2048) ![0, 0] S256x128.size inb_S256x2048_S256x128_0_0, blk0 i x3 x4 x5 x6 2#32 (fun Q => dbl 271#32 Q) 0 0 (by decide)⟩]
end

theorem low_at {t : Nat} {i : grid0.Coords} (hi : (i 0).val = t) (ht : t < 32) {h : FVec Ideal S16x128 .f32} {v : FVec Ideal S256x128 .f32}
    (z : Fin 128 → Fin 8192 → EReal)
    (hh : ∀ (h1 : t < 31) (k : Fin 16) d, h (ix2 k d) = z d ⟨256 * t + 256 + k.val, by omega⟩)
    (hv : ∀ (r : Fin 256) d, v (ix2 r d) = z d ⟨256 * t + r.val, by omega⟩) (k : Fin 272) (d : Fin 128) :
    low i h v (ix2 k d) = pad (z d) (256 * t + 16 + k.val) := by
  refine below_at (f := fun n d => pad (z d) (256 * t + 16 + n)) _ _ _ (fun k d => ?_) (fun r d => ?_) k d
  · show Scalar.select (Scalar.cmpi .eq (BitVec.ofNat 32 (i 0).val) 31#32) (broadcast S16x128 (Scalar.ofBits (F := Ideal) .f32 0x00000000#32)) h (ix2 k d) = _
    rw [hi]
    by_cases h0 : t = 31
    · subst h0
      rw [pad_hi _ _ (by omega)]
      exact Ideal.ofBits_zero_f32
    · rw [pad_row _ ⟨256 * t + 256 + k.val, by omega⟩ _ (by show 256 * t + 16 + (k.val + 256) = 256 * t + 256 + k.val + 16; omega), ← hh (by omega) k d]
      rw [show Scalar.cmpi .eq (BitVec.ofNat 32 t) 31#32 = 0#1 from (WordCmp.cmpi_eq_ofNat_eq_zero_iff (by omega) (by decide)).mpr h0]
      rfl
  · rw [pad_row _ ⟨256 * t + r.val, by omega⟩ _ (by show 256 * t + 16 + r.val = 256 * t + r.val + 16; omega)]
    exact hv r d

theorem back'_at (i : grid0.Coords) (h : FVec Ideal S16x128 .f32) (v : FVec Ideal S256x128 .f32) (s : Vec Ideal S1x128 .f32) (W : Vec Ideal S1x128x128 .bf16)
    (k : Fin 272) (e : Fin 128) : back' i h v s W (ix2 k e) = ∑ d : Fin 128, low i h v (ix2 k d) * s (ix2 0 d) * W (ix3 0 e d) := by
  unfold back'
  generalize low i h v = R
  pointwise []

theorem quo_at (i : grid0.Coords) (n : Nat) (M : FVec Ideal S272x128 .f32) (k : Fin 272) (e : Fin 128) :
    quo i (BitVec.ofNat 32 n) M (ix2 k e) = Ideal.div (M (ix2 k e)) (cnt n (256 * (i 0).val + k.val)) := by
  pointwise [quo, k0_pay10]
  have e' : IntOp.addi (IntOp.addi (Scalar.muli (BitVec.ofNat 32 (i 0).val) 256#32) (BitVec.ofNat 32 k.val)) 1#32
      = BitVec.ofNat 32 (256 * (i 0).val + k.val + 1) := by
    show BitVec.ofNat 32 (i 0).val * 256#32 + BitVec.ofNat 32 k.val + 1#32 = _
    rw [BitVec.ofNat_add, BitVec.ofNat_add, BitVec.ofNat_mul, BitVec.mul_comm]
  rw [e']
  rfl

theorem lin'_at (M Y : FVec Ideal S272x128 .f32) (r : Fin 256) (e : Fin 128) :
    lin' M Y (ix2 r e) = Y (ix2 ⟨r.val, by omega⟩ e) - M (ix2 ⟨r.val, by omega⟩ e) := by
  pointwise [lin']

theorem dxv_at (w0 w1 w2 : Vec Ideal S1x128 .f32) (v : FVec Ideal S256x128 .f32) (R : FVec Ideal S272x128 .f32) (f : Nat → Fin 128 → EReal)
    (hf : ∀ k d, R (ix2 k d) = f k.val d) (r : Fin 256) (d : Fin 128) : k0_pay48 w0 w1 w2 v R (ix2 r d)
      = w2 (ix2 0 d) * v (ix2 r d) + w1 (ix2 0 d) * f (r.val + 1) d + w0 (ix2 0 d) * f (r.val + 2) d := by
  pointwise [k0_pay48]
  rw [hf, hf]
  congr 2
  · exact congrArg (fun n => w1 (ix2 0 d) * f n d) (by show (r.val + 272 - 271) % 272 = r.val + 1; omega)
  · exact congrArg (f · d) (by show (r.val + 272 - 270) % 272 = r.val + 2; omega)

theorem cvv_at (i : grid0.Coords) (h3 h1 : FVec Ideal S16x128 .f32) (v3 v1 : FVec Ideal S256x128 .f32) (w0 w1 w2 : Vec Ideal S1x128 .f32)
    (f : Nat → Fin 128 → EReal) (hf : ∀ k d, ext i (mulf h3 h1) (mulf v3 v1) (ix2 k d) = f k.val d) (hv : ∀ (r : Fin 256) d, v3 (ix2 r d) * v1 (ix2 r d) = f (r.val + 16) d)
    (r : Fin 256) (d : Fin 128) : k0_pay42 (b0 i) v1 v3 h3 h1 w0 w1 w2 (ix2 r d)
      = w0 (ix2 0 d) * f (r.val + 14) d + w1 (ix2 0 d) * f (r.val + 15) d + w2 (ix2 0 d) * f (r.val + 16) d := by
  have e : k0_pay42 (F := Ideal) (b0 i) v1 v3 h3 h1 w0 w1 w2 = addf (addf
      (mulf (broadcastTo S256x128 w0 broadcasts_S1x128_S256x128) (extractStridedSlice S256x128 ![16, 0] (dynamicRotate 0 2#32 none (ext i (mulf h3 h1) (mulf v3 v1)) rotates_S272x128_d0) slices_S272x128_o16_0_S256x128))
      (mulf (broadcastTo S256x128 w1 broadcasts_S1x128_S256x128) (extractStridedSlice S256x128 ![16, 0] (dynamicRotate 0 1#32 none (ext i (mulf h3 h1) (mulf v3 v1)) rotates_S272x128_d0) slices_S272x128_o16_0_S256x128)))
      (mulf (broadcastTo S256x128 w2 broadcasts_S1x128_S256x128) (mulf v3 v1)) := rfl
  rw [e, ← hv]
  generalize ext i (mulf h3 h1) (mulf v3 v1) = R at hf
  pointwise []
  rw [hf, hf]
  congr 3
  · exact congrArg (f · d) (by show (16 + r.val + 272 - 2) % 272 = r.val + 14; omega)
  · exact congrArg (f · d) (by show (16 + r.val + 272 - 1) % 272 = r.val + 15; omega)

theorem win_at {n L m : Nat} (x : Vec Ideal ⟨2, ![n, L]⟩ .f32) (r o : Nat) (hr : r + m ≤ n) (ho : o + 128 ≤ L) (k : Fin m) (d : Fin 128) (j : Fin n) (l : Fin L)
    (hj : j.val = r + k.val) (hl : l.val = o + d.val) : win m x r o hr ho (ix2 k d) = x (ix2 j l) :=
  ld_at x r o _ k d j l hj hl

/-- What a point's windows hold. -/
structure Inp (t : Nat) (ht : t < 32) (i : grid0.Coords) (x0 : Vec Ideal S256x2048 .f32) (x1 : Vec Ideal S16x2048 .f32) (x2 : Vec Ideal S16x2048 .f32) (x3 : Vec Ideal S256x1024 .f32)
    (x4 : Vec Ideal S16x1024 .f32) (x5 : Vec Ideal S4x128x128 .bf16) (x6 : Vec Ideal S1x512 .f32) (x7 : Vec Ideal S8x512 .f32) : Prop where
  hi : (i 0).val = t
  h0 : ∀ (r : Fin 256) l, x0 (ix2 r l) = X (ix2 ⟨256 * t + r.val, by omega⟩ l)
  h1 : ∀ (_ : 1 ≤ t) (k : Fin 16) l, x1 (ix2 k l) = X (ix2 ⟨256 * t - 16 + k.val, by omega⟩ l)
  h2 : ∀ (_ : t < 31) (k : Fin 16) l, x2 (ix2 k l) = X (ix2 ⟨256 * t + 256 + k.val, by omega⟩ l)
  h3 : ∀ (r : Fin 256) l, x3 (ix2 r l) = D (ix2 ⟨256 * t + r.val, by omega⟩ l)
  h4 : ∀ (_ : t < 31) (k : Fin 16) l, x4 (ix2 k l) = D (ix2 ⟨256 * t + 256 + k.val, by omega⟩ l)
  h5 : ∀ g e d, x5 (ix3 g e d) = W (ix3 g e d)
  h6 : ∀ c, x6 (ix2 0 c) = S c
  h7 : ∀ n c, x7 (ix2 n c) = C (ix2 n c)

section
variable {t : Nat} {ht : t < 32} {i : grid0.Coords} {x0 : Vec Ideal S256x2048 .f32} {x1 : Vec Ideal S16x2048 .f32} {x2 : Vec Ideal S16x2048 .f32} {x3 : Vec Ideal S256x1024 .f32}
    {x4 : Vec Ideal S16x1024 .f32} {x5 : Vec Ideal S4x128x128 .bf16} {x6 : Vec Ideal S1x512 .f32} {x7 : Vec Ideal S8x512 .f32}
variable (H : Inp X D W S C t ht i x0 x1 x2 x3 x4 x5 x6 x7)
include H

theorem q0 (q : Fin 4) (N o : Nat) (g : Fin 4) (hN : N = 512 * q.val + o) (ho : o = 128 * g.val) (hw) (r : Fin 256) (d : Fin 128) :
    win 256 x0 0 N (by omega) hw (ix2 r d) = zc X q (col g d) ⟨256 * t + r.val, by omega⟩ :=
  (win_at x0 0 N _ _ r d r (quarter q (col g d)) (Nat.zero_add _).symm (by subst hN ho; exact (Nat.add_assoc _ _ _).symm)).trans (H.h0 r _)
theorem q1 (h : 1 ≤ t) (q : Fin 4) (N o : Nat) (g : Fin 4) (hN : N = 512 * q.val + o) (ho : o = 128 * g.val) (hw) (k : Fin 16) (d : Fin 128) :
    win 16 x1 0 N (by omega) hw (ix2 k d) = zc X q (col g d) ⟨256 * t - 16 + k.val, by omega⟩ :=
  (win_at x1 0 N _ _ k d k (quarter q (col g d)) (Nat.zero_add _).symm (by subst hN ho; exact (Nat.add_assoc _ _ _).symm)).trans (H.h1 h k _)
theorem q2 (h : t < 31) (q : Fin 4) (N o : Nat) (g : Fin 4) (hN : N = 512 * q.val + o) (ho : o = 128 * g.val) (hw) (k : Fin 16) (d : Fin 128) :
    win 16 x2 0 N (by omega) hw (ix2 k d) = zc X q (col g d) ⟨256 * t + 256 + k.val, by omega⟩ :=
  (win_at x2 0 N _ _ k d k (quarter q (col g d)) (Nat.zero_add _).symm (by subst hN ho; exact (Nat.add_assoc _ _ _).symm)).trans (H.h2 h k _)
theorem q3 (q : Fin 2) (N o : Nat) (g : Fin 4) (hN : N = 512 * q.val + o) (ho : o = 128 * g.val) (hw) (r : Fin 256) (d : Fin 128) :
    win 256 x3 0 N (by omega) hw (ix2 r d) = D (ix2 ⟨256 * t + r.val, by omega⟩ (half q (col g d))) :=
  (win_at x3 0 N _ _ r d r (half q (col g d)) (Nat.zero_add _).symm (by subst hN ho; exact (Nat.add_assoc _ _ _).symm)).trans (H.h3 r _)
theorem q4 (h : t < 31) (q : Fin 2) (N o : Nat) (g : Fin 4) (hN : N = 512 * q.val + o) (ho : o = 128 * g.val) (hw) (k : Fin 16) (d : Fin 128) :
    win 16 x4 0 N (by omega) hw (ix2 k d) = D (ix2 ⟨256 * t + 256 + k.val, by omega⟩ (half q (col g d))) :=
  (win_at x4 0 N _ _ k d k (half q (col g d)) (Nat.zero_add _).symm (by subst hN ho; exact (Nat.add_assoc _ _ _).symm)).trans (H.h4 h k _)
theorem q7 (n : Fin 8) (o : Nat) (g : Fin 4) (ho : o = 128 * g.val) (h1 hw) (d : Fin 128) :
    win 1 x7 n.val o h1 hw (ix2 0 d) = C (ix2 n (col g d)) :=
  (win_at x7 _ o _ _ 0 d n (col g d) rfl (by subst ho; rfl)).trans (H.h7 _ _)

theorem dcv_at (o : Nat) (h : o + 128 ≤ 512) (g : Fin 4) (ho : o = 128 * g.val) (r : Fin 256) (d : Fin 128) :
    dcv x0 x3 o h (ix2 r d) = dc X D (col g d) ⟨256 * t + r.val, by omega⟩ :=
  congrArg₂ (· * ·) (q3 X D W S C H 1 (512 + o) o g rfl ho _ r d) (q0 X D W S C H 2 (1024 + o) o g rfl ho _ r d)

theorem dx_at (o : Nat) (h : o + 128 ≤ 512) (g : Fin 4) (ho : o = 128 * g.val) (r : Fin 256) (d : Fin 128) :
    dxv i x0 x2 x3 x4 x7 o h (ix2 r d) = dx X D C (col g d) ⟨256 * t + r.val, by omega⟩ := by
  have hR := low_at (i := i) H.hi ht (h := mulf (win 16 x4 0 (512 + o) (by omega) (by omega)) (win 16 x2 0 (1024 + o) (by omega) (by omega)))
    (v := dcv x0 x3 o h) (fun d => dc X D (col g d))
    (fun h' k d => congrArg₂ (· * ·) (q4 X D W S C H h' 1 (512 + o) o g rfl ho _ k d) (q2 X D W S C H h' 2 (1024 + o) o g rfl ho _ k d))
    (dcv_at X D W S C H o h g ho)
  refine (dxv_at _ _ _ _ _ (fun n d => pad (dc X D (col g d)) (256 * t + 16 + n)) hR r d).trans ?_
  unfold dx
  congr 1
  · congr 1
    · exact congrArg₂ (· * ·) (q7 X D W S C H 2 o g ho _ _ d) (dcv_at X D W S C H o h g ho r d)
    · exact congrArg₂ (· * ·) (q7 X D W S C H 1 o g ho _ _ d) (congrArg _ (by show 256 * t + 16 + (r.val + 1) = 256 * t + r.val + 17; omega))
  · exact congrArg₂ (· * ·) (q7 X D W S C H 0 o g ho _ _ d) (congrArg _ (by show 256 * t + 16 + (r.val + 2) = 256 * t + r.val + 18; omega))

theorem cv_at (o : Nat) (h : o + 128 ≤ 512) (g : Fin 4) (ho : o = 128 * g.val) (r : Fin 256) (d : Fin 128) :
    cvv i x0 x1 x7 o h (ix2 r d) = cv X C ⟨256 * t + r.val, by omega⟩ (col g d) := by
  have hV : ∀ (r : Fin 256) d, win 256 x0 0 (1536 + o) (by omega) (by omega) (ix2 r d) * win 256 x0 0 (512 + o) (by omega) (by omega) (ix2 r d)
      = xg X (col g d) ⟨256 * t + r.val, by omega⟩ :=
    fun r d => congrArg₂ (· * ·) (q0 X D W S C H 3 (1536 + o) o g rfl ho _ r d) (q0 X D W S C H 1 (512 + o) o g rfl ho _ r d)
  have hR := ext_at (i := i) H.hi ht (h := mulf (win 16 x1 0 (1536 + o) (by omega) (by omega)) (win 16 x1 0 (512 + o) (by omega) (by omega)))
    (v := mulf (win 256 x0 0 (1536 + o) (by omega) (by omega)) (win 256 x0 0 (512 + o) (by omega) (by omega))) (fun d => xg X (col g d))
    (fun h' k d => congrArg₂ (· * ·) (q1 X D W S C H h' 3 (1536 + o) o g rfl ho _ k d) (q1 X D W S C H h' 1 (512 + o) o g rfl ho _ k d)) hV
  refine (cvv_at i _ _ _ _ _ _ _ (fun n d => pad (xg X (col g d)) (256 * t + n)) hR (fun r d => (hV r d).trans (pad_row _ _ _ ?_).symm) r d).trans ?_
  · show 256 * t + (r.val + 16) = 256 * t + r.val + 16; omega
  unfold cv
  congr 1
  · congr 1
    · exact congrArg₂ (· * ·) (q7 X D W S C H 0 o g ho _ _ d) (congrArg _ (Nat.add_assoc _ _ _).symm)
    · exact congrArg₂ (· * ·) (q7 X D W S C H 1 o g ho _ _ d) (congrArg _ (Nat.add_assoc _ _ _).symm)
  · exact congrArg₂ (· * ·) (q7 X D W S C H 2 o g ho _ _ d) (congrArg _ (Nat.add_assoc _ _ _).symm)

theorem rows_at (o : Nat) (h : o + 128 ≤ 512) (g : Fin 4) (ho : o = 128 * g.val) (k : Fin 272) (e : Fin 128) :
    rows i x3 x4 x5 x6 g o h (ix2 k e) = pad (dp D W S g e) (256 * t + 16 + k.val) := by
  have hR := low_at (i := i) H.hi ht (h := win 16 x4 0 o (by omega) (by omega)) (v := win 256 x3 0 o (by omega) (by omega))
    (fun d s => D (ix2 s (half 0 (col g d))))
    (fun h' k d => q4 X D W S C H h' 0 o o g (Nat.zero_add _).symm ho _ k d) (fun r d => q3 X D W S C H 0 o o g (Nat.zero_add _).symm ho _ r d)
  refine (back'_at i _ _ _ _ k e).trans ?_
  have hs : ∀ d, win 1 x6 0 o (by omega) h (ix2 0 d) = S (col g d) :=
    fun d => (win_at x6 0 o _ _ 0 d 0 (col g d) rfl (by subst ho; rfl)).trans (H.h6 _)
  have hw : ∀ d, View.ld x5 (Rect.unit (s := S4x128x128) ![g.val, 0, 0] S1x128x128.size (inb3 g)) (ix3 0 e d) = W (ix3 g e d) :=
    fun d => (ld3 g _ e d).trans (H.h5 _ _ _)
  simp only [hR, hs, hw]
  by_cases hk : 256 * t + k.val < 8192
  · have e' : 256 * t + 16 + k.val = (⟨256 * t + k.val, hk⟩ : Fin 8192).val + 16 := by show _ = 256 * t + k.val + 16; omega
    rw [pad_row _ ⟨256 * t + k.val, hk⟩ _ e']
    exact Finset.sum_congr rfl fun d _ => by rw [pad_row _ ⟨256 * t + k.val, hk⟩ _ e']
  · rw [pad_hi _ _ (by omega)]
    exact Finset.sum_eq_zero fun d _ => by rw [pad_hi _ _ (by omega), zero_mul, zero_mul]

/-- A group's block is the gradient of the group's rows, whatever its doublings. -/
theorem blk0_at (g : Fin 4) (o : Nat) (h : o + 128 ≤ 512) (ho : o = 128 * g.val) (Y : FVec Ideal S272x128 .f32 → FVec Ideal S272x128 .f32)
    (hY : ∀ (R : FVec Ideal S272x128 .f32) f, (∀ k d, R (ix2 k d) = f k.val d) → Ahead (wd g) f (Y R)) (r : Fin 256) (d : Fin 128) :
    blk0 i x3 x4 x5 x6 (BitVec.ofNat 32 (wd g)) Y g o h (ix2 r d) = dl D W S g d ⟨256 * t + r.val, by omega⟩ := by
  have hM := rows_at X D W S C H o h g ho
  have hQ : ∀ k e, quo i (BitVec.ofNat 32 (wd g)) (rows i x3 x4 x5 x6 g o h) (ix2 k e)
      = pad (fun u => Ideal.div (dp D W S g e u) (cnt (wd g) u.val)) (256 * t + 16 + k.val) := fun k e => by
    rw [quo_at, hM, H.hi]
    by_cases hk : 256 * t + k.val < 8192
    · have e' : 256 * t + 16 + k.val = (⟨256 * t + k.val, hk⟩ : Fin 8192).val + 16 := by show _ = 256 * t + k.val + 16; omega
      rw [pad_row _ ⟨256 * t + k.val, hk⟩ _ e', pad_row _ ⟨256 * t + k.val, hk⟩ _ e']
    · rw [pad_hi _ _ (by omega), pad_hi _ _ (by omega)]
      exact Ideal.zero_div (cnt_pos g _ (by omega))
  have hw := wd_lt g
  refine (lin'_at _ _ r d).trans ?_
  rw [hM, hY _ (fun n e => pad (fun u => Ideal.div (dp D W S g e u) (cnt (wd g) u.val)) (256 * t + 16 + n)) hQ _ _ (by show r.val + wd g ≤ 272; omega)]
  unfold dl ahead
  congr 1
  · exact Finset.sum_congr rfl fun j _ => congrArg _ (by show 256 * t + 16 + (r.val + j) = 256 * t + r.val + 16 + j; omega)
  · exact pad_row _ _ _ (by show 256 * t + 16 + r.val = 256 * t + r.val + 16; omega)

omit H in
/-- A column is in one quarter, one group and one place. -/
theorem pin {q k q' k' : Fin 4} {d e : Fin 128} (N : Nat) (hN : N = 512 * q'.val + 128 * k'.val) (h : (quarter q (col k d)).val = N + e.val) :
    q = q' ∧ k = k' ∧ d = e := by
  subst hN
  have h' : 512 * q.val + (128 * k.val + d.val) = 512 * q'.val + 128 * k'.val + e.val := h
  have := d.isLt; have := e.isLt; have := k.isLt; have := k'.isLt
  exact ⟨Fin.ext (by omega), Fin.ext (by omega), Fin.ext (by omega)⟩

/-- A block at an index of its rectangle, once it is known by row and column. -/
theorem tile (q' k' : Fin 4) (N : Nat) (hN : N = 512 * q'.val + 128 * k'.val) {B : Vec Ideal S256x128 .bf16}
    (hB : ∀ r d, B (ix2 r d) = dq X D W S C q' k' d ⟨256 * t + r.val, by omega⟩)
    (x : S256x128.Idx) (r : Fin 256) (q k : Fin 4) (d : Fin 128) (hx0 : r.val = (x 0).val) (hx1 : (quarter q (col k d)).val = N + (x 1).val) :
    B x = dq X D W S C q k d ⟨256 * t + r.val, by omega⟩ := by
  obtain ⟨a, b, rfl⟩ := ix2_split x
  obtain rfl : r = a := Fin.ext hx0
  obtain ⟨rfl, rfl, rfl⟩ := pin N hN hx1
  exact hB r d

theorem t0 (g : Fin 4) (o : Nat) (h : o + 128 ≤ 512) (ho : o = 128 * g.val) (Y : FVec Ideal S272x128 .f32 → FVec Ideal S272x128 .f32)
    (hY : ∀ (R : FVec Ideal S272x128 .f32) f, (∀ k d, R (ix2 k d) = f k.val d) → Ahead (wd g) f (Y R)) (r : Fin 256) (d : Fin 128) :
    blk0 i x3 x4 x5 x6 (BitVec.ofNat 32 (wd g)) Y g o h (ix2 r d) = dq X D W S C 0 g d ⟨256 * t + r.val, by omega⟩ :=
  blk0_at X D W S C H g o h ho Y hY r d
theorem t1 (o : Nat) (h : o + 128 ≤ 512) (g : Fin 4) (ho : o = 128 * g.val) (r : Fin 256) (d : Fin 128) :
    blk1 i x0 x2 x3 x4 x7 o h (ix2 r d) = dq X D W S C 1 g d ⟨256 * t + r.val, by omega⟩ :=
  congrArg₂ (· * ·) (dx_at X D W S C H o h g ho r d) (q0 X D W S C H 3 (1536 + o) o g rfl ho _ r d)
theorem t2 (o : Nat) (h : o + 128 ≤ 512) (g : Fin 4) (ho : o = 128 * g.val) (r : Fin 256) (d : Fin 128) :
    blk2 i x0 x1 x3 x7 o h (ix2 r d) = dq X D W S C 2 g d ⟨256 * t + r.val, by omega⟩ :=
  congrArg₂ (· * ·) (q3 X D W S C H 1 (512 + o) o g rfl ho _ r d) (cv_at X D W S C H o h g ho r d)
theorem t3 (o : Nat) (h : o + 128 ≤ 512) (g : Fin 4) (ho : o = 128 * g.val) (r : Fin 256) (d : Fin 128) :
    blk3 i x0 x2 x3 x4 x7 o h (ix2 r d) = dq X D W S C 3 g d ⟨256 * t + r.val, by omega⟩ :=
  congrArg₂ (· * ·) (dx_at X D W S C H o h g ho r d) (q0 X D W S C H 1 (512 + o) o g rfl ho _ r d)

/-- A point's result. -/
theorem blocks_at (r : Fin 256) (q k : Fin 4) (d : Fin 128) :
    View.canon (blocks i x0 x1 x2 x3 x4 x5 x6 x7) (ix2 r (quarter q (col k d))) = dq X D W S C q k d ⟨256 * t + r.val, by omega⟩ := by
  unfold blocks
  canon_tiles x hx
  case piece0 => exact tile X D W S C H 3 3 1920 rfl (t3 X D W S C H 384 (by decide) 3 rfl) x r q k d hx0 hx1
  case piece1 => exact tile X D W S C H 2 3 1408 rfl (t2 X D W S C H 384 (by decide) 3 rfl) x r q k d hx0 hx1
  case piece2 => exact tile X D W S C H 1 3 896 rfl (t1 X D W S C H 384 (by decide) 3 rfl) x r q k d hx0 hx1
  case piece3 => exact tile X D W S C H 3 2 1792 rfl (t3 X D W S C H 256 (by decide) 2 rfl) x r q k d hx0 hx1
  case piece4 => exact tile X D W S C H 2 2 1280 rfl (t2 X D W S C H 256 (by decide) 2 rfl) x r q k d hx0 hx1
  case piece5 => exact tile X D W S C H 1 2 768 rfl (t1 X D W S C H 256 (by decide) 2 rfl) x r q k d hx0 hx1
  case piece6 => exact tile X D W S C H 3 1 1664 rfl (t3 X D W S C H 128 (by decide) 1 rfl) x r q k d hx0 hx1
  case piece7 => exact tile X D W S C H 2 1 1152 rfl (t2 X D W S C H 128 (by decide) 1 rfl) x r q k d hx0 hx1
  case piece8 => exact tile X D W S C H 1 1 640 rfl (t1 X D W S C H 128 (by decide) 1 rfl) x r q k d hx0 hx1
  case piece9 => exact tile X D W S C H 3 0 1536 rfl (t3 X D W S C H 0 (by decide) 0 rfl) x r q k d hx0 hx1
  case piece10 => exact tile X D W S C H 2 0 1024 rfl (t2 X D W S C H 0 (by decide) 0 rfl) x r q k d hx0 hx1
  case piece11 => exact tile X D W S C H 1 0 512 rfl (t1 X D W S C H 0 (by decide) 0 rfl) x r q k d hx0 hx1
  case piece12 => exact tile X D W S C H 0 3 384 rfl (t0 X D W S C H 3 384 (by decide) rfl (fun R => dbl 264#32 (dbl 268#32 (dbl 270#32 (dbl 271#32 R)))) fun R f h => (((((ahead_one h).dbl 271#32 rfl (by decide) (by decide) _).dbl 270#32 rfl (by decide) (by decide) _).dbl 268#32 rfl (by decide) (by decide) _).dbl 264#32 rfl (by decide) (by decide) _)) x r q k d hx0 hx1
  case piece13 => exact tile X D W S C H 0 2 256 rfl (t0 X D W S C H 2 256 (by decide) rfl (fun R => dbl 268#32 (dbl 270#32 (dbl 271#32 R))) fun R f h => ((((ahead_one h).dbl 271#32 rfl (by decide) (by decide) _).dbl 270#32 rfl (by decide) (by decide) _).dbl 268#32 rfl (by decide) (by decide) _)) x r q k d hx0 hx1
  case piece14 => exact tile X D W S C H 0 1 128 rfl (t0 X D W S C H 1 128 (by decide) rfl (fun R => dbl 270#32 (dbl 271#32 R)) fun R f h => (((ahead_one h).dbl 271#32 rfl (by decide) (by decide) _).dbl 270#32 rfl (by decide) (by decide) _)) x r q k d hx0 hx1
  case piece15 => exact tile X D W S C H 0 0 0 rfl (t0 X D W S C H 0 0 (by decide) rfl (fun R => dbl 271#32 R) fun R f h => ((ahead_one h).dbl 271#32 rfl (by decide) (by decide) _)) x r q k d hx0 (hx1.trans (Nat.zero_add _).symm)
end
end

end Cert.ObBlocks

end
-- ==== Proof.ObOut.lean ====
/-
  The gradient of what the odd mixer's pooling and short convolution take: what the kernel leaves at a grid point are the blocks.
-/
module

public import proofs.«01_k».proof.Proof.ObBlocks

@[expose] public section

set_option maxRecDepth 65536

noncomputable section

namespace Cert.ObBlocks

open Idealize.ShloMosaic Cert.Products Cert.Windows Cert.XaSpec Cert.OfBlocks Cert.ObKernelIdeal Cert.ObKernelIdeal.Gen

theorem out_A (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = View.canon (blocks i x0 x1 x2 x3 x4 x5 x6 x7) := by
  unfold out0_A_8
  frame_out
  unfold blocks
  refine congrArg View.canon ?_
  iterate 16 refine List.cons_eq_cons.mpr ⟨congrArg (Sigma.mk _) rfl, ?_⟩
  rfl

theorem out_B (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : ¬cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) (xo9 : Vec Ideal S4x128x128 .f32) (xo10 : Vec Ideal S1x512 .f32) (xo11 : Vec Ideal S8x512 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = View.canon (blocks i x0 x1 x2 x3 x4 x5 x6 x7) := by
  unfold out0_B_8
  frame_out
  unfold blocks
  refine congrArg View.canon ?_
  iterate 16 refine List.cons_eq_cons.mpr ⟨congrArg (Sigma.mk _) rfl, ?_⟩
  rfl

end Cert.ObBlocks

end
-- ==== Proof.ObSums.lean ====
/-
  The gradients of the pooling's weights and of its scale: what a grid point adds to them, from its 256 rows and the 16 before
  them.
-/
module

public import Idealize.ShloMosaic.Lib.Pipeline.ReadBack
public import proofs.«01_k».proof.Proof.XaBlocks
public import proofs.«01_k».proof.Proof.ObBlocks

@[expose] public section

set_option maxRecDepth 65536

noncomputable section

namespace Cert.ObBlocks

open Idealize.ShloMosaic Cert.Products Cert.Windows Cert.XaSpec Cert.OfBlocks

variable (X : Mat 8192 2048) (D : Mat 8192 1024) (W : (⟨3, ![4, 128, 128]⟩ : Shape).Idx → EReal) (S : Fin 512 → EReal) (C : Mat 8 512)

/-- A row's part of the gradient of a group's weights. -/
def aw (g : Fin 4) (a e : Fin 128) (s : Fin 8192) : EReal := pl (wd g) (zc X 0 (col g a)) s * (D (ix2 s (half 0 (col g e))) * S (col g e))
/-- A row's part of the gradient of the scale. -/
def asc (g : Fin 4) (e : Fin 128) (s : Fin 8192) : EReal := D (ix2 s (half 0 (col g e))) * ∑ a, pl (wd g) (zc X 0 (col g a)) s * W (ix3 g a e)

section
open Cert.ObKernelIdeal Cert.ObKernelIdeal.Gen

/-- A group's pooled rows from its rows and their sums. -/
def pool (i : grid0.Coords) (n : BitVec 32) (R Y : FVec Ideal S272x128 .f32) : FVec Ideal S256x128 .f32 :=
  subf (divf (extractStridedSlice S256x128 ![16, 0] Y slices_S272x128_o16_0_S256x128)
    (sitofp .f32 (minsi (addi (k0_pay9 i) (broadcast S256x128 1#32)) (broadcast S256x128 n))))
    (extractStridedSlice S256x128 ![16, 0] R slices_S272x128_o16_0_S256x128)

theorem pool_at (i : grid0.Coords) (n : BitVec 32) (R Y : FVec Ideal S272x128 .f32) (r : Fin 256) (e : Fin 128) : pool i n R Y (ix2 r e)
    = Ideal.div (Y (ix2 ⟨16 + r.val, by omega⟩ e)) (FloatOps.sitofp (F := Ideal) .f32 (IntOp.minsi (BitVec.ofNat 32 (256 * (i 0).val + r.val + 1)) n))
      - R (ix2 ⟨16 + r.val, by omega⟩ e) := by
  pointwise [pool, k0_pay9]
  have e' : IntOp.addi (IntOp.addi (Scalar.muli (BitVec.ofNat 32 (i 0).val) 256#32) (BitVec.ofNat 32 r.val)) 1#32
      = BitVec.ofNat 32 (256 * (i 0).val + r.val + 1) := by
    show BitVec.ofNat 32 (i 0).val * 256#32 + BitVec.ofNat 32 r.val + 1#32 = _
    rw [BitVec.ofNat_add, BitVec.ofNat_add, BitVec.ofNat_mul, BitVec.mul_comm]
  rw [e']

theorem wts_at (b : BitVec 1) (p : FVec Ideal S256x128 .f32) (s : Vec Ideal S1x128 .f32) (v : Vec Ideal S256x128 .f32) (h : Vec Ideal S16x128 .f32)
    (A : Vec Ideal S1x128x128 .f32) (a e : Fin 128) :
    k0_pay16 b p (k0_pay12 s) v h A (ix3 0 a e) = A (ix3 0 a e) + ∑ r : Fin 256, p (ix2 r a) * (v (ix2 r e) * s (ix2 0 e)) := by
  have hl (r : Fin 256) (e : Fin 128) : concatenate S272x128 0 [⟨S256x128, v⟩, ⟨S16x128, Scalar.select b (broadcast S16x128 (Scalar.ofBits (F := Ideal) .f32 0x00000000#32)) h⟩]
      concatenates_S256x128_S16x128_S272x128_d0 (ix2 ⟨r.val, by omega⟩ e) = v (ix2 r e) :=
    concatenate_pair_apply_left 0 _ _ concatenates_S256x128_S16x128_S272x128_d0 (ix2 (⟨r.val, by omega⟩ : Fin 272) e) rfl (ix2 r e) fun b => by fin_cases b <;> rfl
  unfold k0_pay16 k0_pay15 k0_pay12
  dsimp only
  generalize concatenate S272x128 0 [⟨S256x128, v⟩, ⟨S16x128, Scalar.select b (broadcast S16x128 (Scalar.ofBits (F := Ideal) .f32 0x00000000#32)) h⟩]
      concatenates_S256x128_S16x128_S272x128_d0 = L at hl
  pointwise []
  simp only [hl]

theorem scl_at (p : FVec Ideal S256x128 .f32) (v : Vec Ideal S256x128 .f32) (A : Vec Ideal S1x128 .f32) (B : Vec Ideal S1x128x128 .bf16) (e : Fin 128) :
    k0_pay14 p v (k0_pay13 A) B (ix2 0 e) = A (ix2 0 e) + ∑ r : Fin 256, v (ix2 r e) * ∑ a : Fin 128, p (ix2 r a) * B (ix3 0 a e) := by
  pointwise [k0_pay14, k0_pay13]

section
variable (i : grid0.Coords) (x0 : Vec Ideal S256x2048 .f32) (x1 : Vec Ideal S16x2048 .f32) (x3 : Vec Ideal S256x1024 .f32)
    (x4 : Vec Ideal S16x1024 .f32) (x5 : Vec Ideal S4x128x128 .bf16) (x6 : Vec Ideal S1x512 .f32)

/-- A group's pooled rows at a point. -/
def pooled (n : BitVec 32) (Y : FVec Ideal S272x128 .f32 → FVec Ideal S272x128 .f32) (o : Nat) (h : o + 128 ≤ 512) : FVec Ideal S256x128 .f32 :=
  pool i n (ext i (win 16 x1 0 o (by omega) (by omega)) (win 256 x0 0 o (by omega) (by omega)))
    (Y (ext i (win 16 x1 0 o (by omega) (by omega)) (win 256 x0 0 o (by omega) (by omega))))
/-- A group's weights' gradient after a point, from what it was before. -/
def wts (n : BitVec 32) (Y : FVec Ideal S272x128 .f32 → FVec Ideal S272x128 .f32) (g : Fin 4) (o : Nat) (h : o + 128 ≤ 512) (A : Vec Ideal S4x128x128 .f32) : Vec Ideal S1x128x128 .f32 :=
  k0_pay16 (b31 i) (pooled i x0 x1 n Y o h) (k0_pay12 (win 1 x6 0 o (by omega) h)) (win 256 x3 0 o (by omega) (by omega)) (win 16 x4 0 o (by omega) (by omega))
    (View.ld A (Rect.unit (s := S4x128x128) ![g.val, 0, 0] S1x128x128.size (inb3 g)))
/-- A group's scale's gradient after a point, from what it was before. -/
def scl (n : BitVec 32) (Y : FVec Ideal S272x128 .f32 → FVec Ideal S272x128 .f32) (g : Fin 4) (o : Nat) (h : o + 128 ≤ 512) (A : Vec Ideal S1x512 .f32) : Vec Ideal S1x128 .f32 :=
  k0_pay14 (pooled i x0 x1 n Y o h) (win 256 x3 0 o (by omega) (by omega)) (k0_pay13 (win 1 A 0 o (by omega) h))
    (View.ld x5 (Rect.unit (s := S4x128x128) ![g.val, 0, 0] S1x128x128.size (inb3 g)))

/-- The groups' sums of rows. -/
abbrev y0 (R : FVec Ideal S272x128 .f32) : FVec Ideal S272x128 .f32 := dbl 1#32 R
abbrev y1 (R : FVec Ideal S272x128 .f32) : FVec Ideal S272x128 .f32 := dbl 2#32 (y0 R)
abbrev y2 (R : FVec Ideal S272x128 .f32) : FVec Ideal S272x128 .f32 := dbl 4#32 (y1 R)
abbrev y3 (R : FVec Ideal S272x128 .f32) : FVec Ideal S272x128 .f32 := dbl 8#32 (y2 R)

/-- The blocks of the weights' gradient. -/
def blocks9 (A : Vec Ideal S4x128x128 .f32) : List (View.Piece (Elt Ideal) S4x128x128 .f32) := [
  ⟨Rect.unit (s := S4x128x128) ![3, 0, 0] S1x128x128.size inb_S4x128x128_S1x128x128_3_0_0, wts i x0 x1 x3 x4 x6 16#32 y3 3 384 (by decide) A⟩,
  ⟨Rect.unit (s := S4x128x128) ![2, 0, 0] S1x128x128.size inb_S4x128x128_S1x128x128_2_0_0, wts i x0 x1 x3 x4 x6 8#32 y2 2 256 (by decide) A⟩,
  ⟨Rect.unit (s := S4x128x128) ![1, 0, 0] S1x128x128.size inb_S4x128x128_S1x128x128_1_0_0, wts i x0 x1 x3 x4 x6 4#32 y1 1 128 (by decide) A⟩,
  ⟨Rect.unit (s := S4x128x128) ![0, 0, 0] S1x128x128.size inb_S4x128x128_S1x128x128_0_0_0, wts i x0 x1 x3 x4 x6 2#32 y0 0 0 (by decide) A⟩]
/-- The blocks of the scale's gradient. -/
def blocks10 (A : Vec Ideal S1x512 .f32) : List (View.Piece (Elt Ideal) S1x512 .f32) := [
  ⟨Rect.unit (s := S1x512) ![0, 384] S1x128.size inb_S1x512_S1x128_0_384, scl i x0 x1 x3 x5 16#32 y3 3 384 (by decide) A⟩,
  ⟨Rect.unit (s := S1x512) ![0, 256] S1x128.size inb_S1x512_S1x128_0_256, scl i x0 x1 x3 x5 8#32 y2 2 256 (by decide) A⟩,
  ⟨Rect.unit (s := S1x512) ![0, 128] S1x128.size inb_S1x512_S1x128_0_128, scl i x0 x1 x3 x5 4#32 y1 1 128 (by decide) A⟩,
  ⟨Rect.unit (s := S1x512) ![0, 0] S1x128.size inb_S1x512_S1x128_0_0, scl i x0 x1 x3 x5 2#32 y0 0 0 (by decide) A⟩]
end

section
variable {t : Nat} {ht : t < 32} {i : grid0.Coords} {x0 : Vec Ideal S256x2048 .f32} {x1 : Vec Ideal S16x2048 .f32} {x2 : Vec Ideal S16x2048 .f32} {x3 : Vec Ideal S256x1024 .f32}
    {x4 : Vec Ideal S16x1024 .f32} {x5 : Vec Ideal S4x128x128 .bf16} {x6 : Vec Ideal S1x512 .f32} {x7 : Vec Ideal S8x512 .f32}

/-- The sums run over the groups' windows. -/
theorem b0' (R : FVec Ideal S272x128 .f32) (f : Nat → Fin 128 → EReal) (h : ∀ k d, R (ix2 k d) = f k.val d) : Back (wd 0) f (y0 R) :=
  (back_one h).dbl 1#32 rfl (by decide) (by decide) _
theorem b1' (R : FVec Ideal S272x128 .f32) (f : Nat → Fin 128 → EReal) (h : ∀ k d, R (ix2 k d) = f k.val d) : Back (wd 1) f (y1 R) :=
  (b0' R f h).dbl 2#32 rfl (by decide) (by decide) _
theorem b2' (R : FVec Ideal S272x128 .f32) (f : Nat → Fin 128 → EReal) (h : ∀ k d, R (ix2 k d) = f k.val d) : Back (wd 2) f (y2 R) :=
  (b1' R f h).dbl 4#32 rfl (by decide) (by decide) _
theorem b3' (R : FVec Ideal S272x128 .f32) (f : Nat → Fin 128 → EReal) (h : ∀ k d, R (ix2 k d) = f k.val d) : Back (wd 3) f (y3 R) :=
  (b2' R f h).dbl 8#32 rfl (by decide) (by decide) _

variable (H : Inp X D W S C t ht i x0 x1 x2 x3 x4 x5 x6 x7)
include H

theorem pooled_at (g : Fin 4) (o : Nat) (h : o + 128 ≤ 512) (ho : o = 128 * g.val) (Y : FVec Ideal S272x128 .f32 → FVec Ideal S272x128 .f32)
    (hY : ∀ (R : FVec Ideal S272x128 .f32) f, (∀ k d, R (ix2 k d) = f k.val d) → Back (wd g) f (Y R)) (r : Fin 256) (e : Fin 128) :
    pooled i x0 x1 (BitVec.ofNat 32 (wd g)) Y o h (ix2 r e) = pl (wd g) (zc X 0 (col g e)) ⟨256 * t + r.val, by omega⟩ := by
  have hR := ext_at (i := i) H.hi ht (h := win 16 x1 0 o (by omega) (by omega)) (v := win 256 x0 0 o (by omega) (by omega)) (fun e => zc X 0 (col g e))
    (fun h' k d => q1 X D W S C H h' 0 o o g (Nat.zero_add _).symm ho _ k d) (fun r d => q0 X D W S C H 0 o o g (Nat.zero_add _).symm ho _ r d)
  have hw := wd_lt g
  unfold pooled
  rw [pool_at, hR, hY _ (fun n d => pad (zc X 0 (col g d)) (256 * t + n)) hR _ _ (by show wd g ≤ 16 + r.val + 1; omega), H.hi]
  unfold pl cnt back
  congr 2
  · refine Finset.sum_congr rfl fun j hj => congrArg _ ?_
    have := Finset.mem_range.mp hj
    show 256 * t + (16 + r.val - j) = 256 * t + r.val + 16 - j
    omega
  · exact pad_row _ _ _ (by show 256 * t + (16 + r.val) = 256 * t + r.val + 16; omega)

theorem piece9 (k : Fin 4) (o : Nat) (h : o + 128 ≤ 512) (ho : o = 128 * k.val) (Y : FVec Ideal S272x128 .f32 → FVec Ideal S272x128 .f32)
    (hY : ∀ (R : FVec Ideal S272x128 .f32) f, (∀ k d, R (ix2 k d) = f k.val d) → Back (wd k) f (Y R)) (A : Vec Ideal S4x128x128 .f32)
    (x : S1x128x128.Idx) (g : Fin 4) (a e : Fin 128) (h0 : g.val = k.val + (x 0).val) (h1 : a.val = (x 1).val) (h2 : e.val = (x 2).val) :
    wts i x0 x1 x3 x4 x6 (BitVec.ofNat 32 (wd k)) Y k o h A x = A (ix3 g a e) + ∑ r : Fin 256, aw X D S g a e ⟨256 * t + r.val, by omega⟩ := by
  have hx : (x 0).val < 1 := (x 0).isLt
  obtain rfl : g = k := Fin.ext (by omega)
  obtain rfl : x = ix3 0 a e := funext fun b => by
    fin_cases b
    · exact Fin.ext (by show (x 0).val = 0; omega)
    · exact Fin.ext h1.symm
    · exact Fin.ext h2.symm
  refine (wts_at _ _ _ _ _ _ a e).trans ?_
  refine congrArg₂ (· + ·) (View.ld_unit_apply_of A _ _ _ _ _ fun b => ?_) (Finset.sum_congr rfl fun r _ => ?_)
  · fin_cases b
    · rfl
    · show a.val = 0 + a.val; omega
    · show e.val = 0 + e.val; omega
  · rw [pooled_at X D W S C H g o h ho Y hY r a, q3 X D W S C H 0 o o g (Nat.zero_add _).symm ho _ r e]
    unfold aw
    exact congrArg (fun v => _ * (_ * v)) ((win_at x6 0 o _ _ 0 e 0 (col g e) rfl (by subst ho; rfl)).trans (H.h6 _))

theorem piece10 (k : Fin 4) (o : Nat) (h : o + 128 ≤ 512) (ho : o = 128 * k.val) (Y : FVec Ideal S272x128 .f32 → FVec Ideal S272x128 .f32)
    (hY : ∀ (R : FVec Ideal S272x128 .f32) f, (∀ k d, R (ix2 k d) = f k.val d) → Back (wd k) f (Y R)) (A : Vec Ideal S1x512 .f32)
    (x : S1x128.Idx) (g : Fin 4) (e : Fin 128) (h1 : (col g e).val = o + (x 1).val) :
    scl i x0 x1 x3 x5 (BitVec.ofNat 32 (wd k)) Y k o h A x = A (ix2 0 (col g e)) + ∑ r : Fin 256, asc X D W g e ⟨256 * t + r.val, by omega⟩ := by
  obtain ⟨u, b, rfl⟩ := ix2_split x
  obtain rfl : u = 0 := Subsingleton.elim _ _
  obtain ⟨rfl, rfl⟩ : g = k ∧ e = b := by
    have h' : 128 * g.val + e.val = o + b.val := h1
    have := e.isLt; have := b.isLt
    exact ⟨Fin.ext (by omega), Fin.ext (by omega)⟩
  refine (scl_at _ _ _ _ e).trans ?_
  refine congrArg₂ (· + ·) (win_at A 0 o _ _ 0 e 0 (col g e) rfl h1) (Finset.sum_congr rfl fun r _ => ?_)
  rw [q3 X D W S C H 0 o o g (Nat.zero_add _).symm ho _ r e]
  unfold asc
  refine congrArg (_ * ·) (Finset.sum_congr rfl fun a _ => ?_)
  rw [pooled_at X D W S C H g o h ho Y hY r a, ← H.h5]
  refine congrArg (_ * ·) (View.ld_unit_apply_of x5 _ _ _ _ _ fun b => ?_)
  fin_cases b
  · rfl
  · show a.val = 0 + a.val; omega
  · show e.val = 0 + e.val; omega

/-- The weights' gradient after a point. -/
theorem blocks9_at (A : Vec Ideal S4x128x128 .f32) (g : Fin 4) (a e : Fin 128) :
    View.canon (blocks9 i x0 x1 x3 x4 x6 A) (ix3 g a e) = A (ix3 g a e) + ∑ r : Fin 256, aw X D S g a e ⟨256 * t + r.val, by omega⟩ := by
  unfold blocks9
  canon_tiles x hx
  case piece0 => exact piece9 X D W S C H 3 384 (by decide) rfl y3 b3' A x g a e hx0 hx1 hx2
  case piece1 => exact piece9 X D W S C H 2 256 (by decide) rfl y2 b2' A x g a e hx0 hx1 hx2
  case piece2 => exact piece9 X D W S C H 1 128 (by decide) rfl y1 b1' A x g a e hx0 hx1 hx2
  case piece3 => exact piece9 X D W S C H 0 0 (by decide) rfl y0 b0' A x g a e (hx0.trans (Nat.zero_add _).symm) hx1 hx2

/-- The scale's gradient after a point. -/
theorem blocks10_at (A : Vec Ideal S1x512 .f32) (g : Fin 4) (e : Fin 128) :
    View.canon (blocks10 i x0 x1 x3 x5 A) (ix2 0 (col g e)) = A (ix2 0 (col g e)) + ∑ r : Fin 256, asc X D W g e ⟨256 * t + r.val, by omega⟩ := by
  unfold blocks10
  canon_tiles x hx
  case piece0 => exact piece10 X D W S C H 3 384 (by decide) rfl y3 b3' A x g e hx1
  case piece1 => exact piece10 X D W S C H 2 256 (by decide) rfl y2 b2' A x g e hx1
  case piece2 => exact piece10 X D W S C H 1 128 (by decide) rfl y1 b1' A x g e hx1
  case piece3 => exact piece10 X D W S C H 0 0 (by decide) rfl y0 b0' A x g e (hx1.trans (Nat.zero_add _).symm)
end
end

end Cert.ObBlocks

end
-- ==== Proof.ObSumsOut.lean ====
/-
  The gradient of what the odd mixer's pooling and short convolution take: what the kernel leaves at a
  grid point of the weights' and the scale's gradients are their blocks, over zeros at the first point.
-/
module

public import proofs.«01_k».proof.Proof.ObSums

@[expose] public section

set_option maxRecDepth 65536

noncomputable section

namespace Cert.ObBlocks

open Idealize.ShloMosaic Cert.Products Cert.Windows Cert.XaSpec Cert.OfBlocks Cert.ObKernelIdeal Cert.ObKernelIdeal.Gen

theorem z9 (j : S4x128x128.Idx) : k0_pay6 (F := Ideal) j = 0 := by pointwise [k0_pay6]
theorem z10 (j : S1x512.Idx) : k0_pay7 (F := Ideal) j = 0 := by pointwise [k0_pay7]

theorem out9_A (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) (g : Fin 4) (a e : Fin 128) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix3 g a e) = View.canon (blocks9 i x0 x1 x3 x4 x6 (k0_pay6 (F := Ideal))) (ix3 g a e) := by
  unfold out0_A_9
  frame_open
  simp (disch := decide) only [↓ View.readCov_skip, ↓ View.readCov_cons_toLoadRect, ↓ View.readCov_fill]
  frame_out
  refine (Cert.XaBlocks.canon_hide4 _ _ _ _ _ _ ?_).trans ?_
  · exact View.cover_of_tiledL _ ![1, 128, 128] (by sl_kernel_rfl) _
  unfold blocks9
  refine congrFun (congrArg View.canon ?_) _
  iterate 4 refine List.cons_eq_cons.mpr ⟨congrArg (Sigma.mk _) rfl, ?_⟩
  rfl

theorem out9_B (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : ¬cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) (xo9 : Vec Ideal S4x128x128 .f32) (xo10 : Vec Ideal S1x512 .f32) (xo11 : Vec Ideal S8x512 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = View.canon (blocks9 i x0 x1 x3 x4 x6 xo9) := by
  unfold out0_B_9
  frame_open
  frame_out
  unfold blocks9
  refine congrArg View.canon ?_
  iterate 4 refine List.cons_eq_cons.mpr ⟨congrArg (Sigma.mk _) rfl, ?_⟩
  rfl

theorem out10_A (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) (g : Fin 4) (e : Fin 128) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 0 (col g e)) = View.canon (blocks10 i x0 x1 x3 x5 (k0_pay7 (F := Ideal))) (ix2 0 (col g e)) := by
  unfold out0_A_10
  frame_open
  simp (disch := decide) only [↓ View.readCov_skip, ↓ View.readCov_cons_toLoadRect, ↓ View.readCov_fill]
  frame_out
  refine (Cert.XaBlocks.canon_hide4 _ _ _ _ _ _ ?_).trans ?_
  · exact View.cover_of_tiledL _ ![1, 128] (by sl_kernel_rfl) _
  unfold blocks10
  refine congrFun (congrArg View.canon ?_) _
  iterate 4 refine List.cons_eq_cons.mpr ⟨congrArg (Sigma.mk _) rfl, ?_⟩
  rfl

theorem out10_B (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : ¬cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) (xo9 : Vec Ideal S4x128x128 .f32) (xo10 : Vec Ideal S1x512 .f32) (xo11 : Vec Ideal S8x512 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = View.canon (blocks10 i x0 x1 x3 x5 xo10) := by
  unfold out0_B_10
  frame_open
  frame_out
  unfold blocks10
  refine congrArg View.canon ?_
  iterate 4 refine List.cons_eq_cons.mpr ⟨congrArg (Sigma.mk _) rfl, ?_⟩
  rfl

end Cert.ObBlocks

end
-- ==== Proof.ObTaps.lean ====
/-
  The gradient of the short convolution's weights: what a grid point adds to it, from its 256 rows and the 16 before them.
-/
module

public import proofs.«01_k».proof.Proof.ObSums

@[expose] public section

set_option maxRecDepth 65536

noncomputable section

namespace Cert.ObBlocks

open Idealize.ShloMosaic Cert.Products Cert.Windows Cert.XaSpec Cert.OfBlocks

/-- Stores over contents are the stores after a store of the contents. -/
theorem read_canon {sig : RefSig} {κ : Kind} {sp : Space} {s : Shape} {e : EltTy} {Val : EltTy → Type} [∀ e, Nonempty (Val e)]
    (v : View sig κ sp s e) (f : v.ty.Contents Val) (off : Fin s.rank → Nat) (inb : ∀ a, off a + s.size a ≤ s.size a) (h0 : ∀ a, off a = 0) (L : List (View.Piece Val s e)) (y : s.Idx) :
    v.read Val (v.writes Val f L) y = View.canon (L ++ [⟨Rect.unit off s.size inb, v.read Val f⟩]) y := by
  by_cases h : ∃ p ∈ L, y ∈ p.1.set
  · rw [View.read_writes_apply_eq_canon v f y L h, Cert.XaBlocks.canon_hide L _ y h]
  · have h' : ∀ p ∈ L, y ∉ p.1.set := fun p hp hy => h ⟨p, hp, hy⟩
    rw [View.read_writes_apply_of_forall_not_mem v f y L h']
    clear h
    induction L with
    | nil => exact (congrFun (View.canon_cons_unit_lit inb _ [] h0) y).symm
    | cons p L ih =>
      rw [List.cons_append, View.canon_cons_of_not_mem p _ (h' p List.mem_cons_self)]
      exact ih fun q hq => h' q (List.mem_cons_of_mem _ hq)

/-- Stores that agree wherever they hold an index. -/
theorem canon_agree {s : Shape} {e : EltTy} {Val : EltTy → Type} [∀ e, Nonempty (Val e)] (L : List (View.Piece Val s e)) (y : s.Idx) (w : Val e)
    (hp : ∀ p ∈ L, ∀ x, p.1.emb x = y → p.2 x = w) (h : ∃ p ∈ L, y ∈ p.1.set) : View.canon L y = w := by
  induction L with
  | nil => obtain ⟨p, hp, -⟩ := h; exact absurd hp List.not_mem_nil
  | cons p L ih =>
    by_cases hy : y ∈ p.1.set
    · obtain ⟨x, hx⟩ := p.1.exists_idx_of_mem hy
      obtain rfl : p.1.emb x = y := hx
      exact (View.canon_cons_emb p.1 p.2 L x).trans (hp p List.mem_cons_self x rfl)
    · rw [View.canon_cons_of_not_mem p _ hy]
      obtain ⟨q, hq, hqy⟩ := h
      rcases List.mem_cons.mp hq with rfl | hq
      · exact absurd hqy hy
      · exact ih (fun q hq => hp q (List.mem_cons_of_mem _ hq)) ⟨q, hq, hqy⟩

variable (X : Mat 8192 2048) (D : Mat 8192 1024) (W : (⟨3, ![4, 128, 128]⟩ : Shape).Idx → EReal) (S : Fin 512 → EReal) (C : Mat 8 512)

/-- A row's part of the gradient of the convolution's weights; it has three taps. -/
def act (n : Fin 8) (c : Fin 512) (s : Fin 8192) : EReal := if n.val < 3 then dc X D c s * pad (xg X c) (s.val + 14 + n.val) else 0

section
open Cert.ObKernelIdeal Cert.ObKernelIdeal.Gen

theorem tap_at (p v : FVec Ideal S256x128 .f32) (A : Vec Ideal S1x128 .f32) (e : Fin 128) :
    k0_pay45 p v A (ix2 0 e) = A (ix2 0 e) + ∑ r : Fin 256, v (ix2 r e) * p (ix2 r e) := by
  pointwise [k0_pay45]

section
variable (i : grid0.Coords) (x0 : Vec Ideal S256x2048 .f32) (x1 : Vec Ideal S16x2048 .f32) (x3 : Vec Ideal S256x1024 .f32)

theorem o_lt (g : Fin 4) : 128 * g.val + 128 ≤ 512 := by omega
/-- The convolved sequence at a point's rows. -/
def xv (g : Fin 4) : FVec Ideal S256x128 .f32 :=
  mulf (win 256 x0 0 (1536 + 128 * g.val) (by omega) (by omega)) (win 256 x0 0 (512 + 128 * g.val) (by omega) (by omega))
/-- The convolved sequence under the rows before the point's. -/
def xe (g : Fin 4) : FVec Ideal S272x128 .f32 :=
  ext i (mulf (win 16 x1 0 (1536 + 128 * g.val) (by omega) (by omega)) (win 16 x1 0 (512 + 128 * g.val) (by omega) (by omega))) (xv x0 g)
/-- The convolved sequence, two rows, one row and no row later. -/
def shifted (k : Fin 3) (g : Fin 4) : FVec Ideal S256x128 .f32 :=
  match k with
  | 0 => extractStridedSlice S256x128 ![16, 0] (dynamicRotate 0 2#32 none (xe i x0 x1 g) rotates_S272x128_d0) slices_S272x128_o16_0_S256x128
  | 1 => extractStridedSlice S256x128 ![16, 0] (dynamicRotate 0 1#32 none (xe i x0 x1 g) rotates_S272x128_d0) slices_S272x128_o16_0_S256x128
  | 2 => xv x0 g
theorem inb11 (k : Fin 3) (g : Fin 4) : ∀ a, (![k.val, 128 * g.val] : Fin 2 → Nat) a + (![1, 128] : Fin 2 → Nat) a ≤ S8x512.size a :=
  inb2 (n := 8) (L := 512) (m := 1) (by omega) (by omega)
/-- A tap's block, from what it was before. -/
def tap (A : Vec Ideal S8x512 .f32) (k : Fin 3) (g : Fin 4) : View.Piece (Elt Ideal) S8x512 .f32 :=
  ⟨Rect.unit (s := S8x512) ![k.val, 128 * g.val] S1x128.size (inb11 k g),
    k0_pay45 (shifted i x0 x1 k g) (dcv x0 x3 (128 * g.val) (o_lt g)) (win 1 A k.val (128 * g.val) (by omega) (o_lt g))⟩
/-- The taps and the groups, last first. -/
abbrev order : List (Fin 3 × Fin 4) := [(2, 3), (1, 3), (0, 3), (2, 2), (1, 2), (0, 2), (2, 1), (1, 1), (0, 1), (2, 0), (1, 0), (0, 0)]
/-- The blocks of the gradient of the convolution's weights. -/
def blocks11 (A : Vec Ideal S8x512 .f32) : List (View.Piece (Elt Ideal) S8x512 .f32) := order.map fun p => tap i x0 x1 x3 A p.1 p.2
end

section
variable {t : Nat} {ht : t < 32} {i : grid0.Coords} {x0 : Vec Ideal S256x2048 .f32} {x1 : Vec Ideal S16x2048 .f32} {x2 : Vec Ideal S16x2048 .f32} {x3 : Vec Ideal S256x1024 .f32}
    {x4 : Vec Ideal S16x1024 .f32} {x5 : Vec Ideal S4x128x128 .bf16} {x6 : Vec Ideal S1x512 .f32} {x7 : Vec Ideal S8x512 .f32}
variable (H : Inp X D W S C t ht i x0 x1 x2 x3 x4 x5 x6 x7)
include H

theorem shifted_at (k : Fin 3) (g : Fin 4) (r : Fin 256) (d : Fin 128) :
    shifted i x0 x1 k g (ix2 r d) = pad (xg X (col g d)) (256 * t + r.val + 14 + k.val) := by
  have hV : ∀ (r : Fin 256) d, xv x0 g (ix2 r d) = xg X (col g d) ⟨256 * t + r.val, by omega⟩ :=
    fun r d => congrArg₂ (· * ·) (q0 X D W S C H 3 (1536 + 128 * g.val) (128 * g.val) g rfl rfl _ r d) (q0 X D W S C H 1 (512 + 128 * g.val) (128 * g.val) g rfl rfl _ r d)
  have hR : ∀ k d, xe i x0 x1 g (ix2 k d) = pad (xg X (col g d)) (256 * t + k.val) :=
    ext_at (i := i) H.hi ht (h := mulf (win 16 x1 0 (1536 + 128 * g.val) (by omega) (by omega)) (win 16 x1 0 (512 + 128 * g.val) (by omega) (by omega)))
      (v := xv x0 g) (fun d => xg X (col g d))
      (fun h' k d => congrArg₂ (· * ·) (q1 X D W S C H h' 3 (1536 + 128 * g.val) (128 * g.val) g rfl rfl _ k d) (q1 X D W S C H h' 1 (512 + 128 * g.val) (128 * g.val) g rfl rfl _ k d)) hV
  obtain rfl | rfl | rfl : k = 0 ∨ k = 1 ∨ k = 2 := by revert k; decide
  · unfold shifted
    generalize xe i x0 x1 g = R at hR
    pointwise []
    rw [hR]
    exact congrArg _ (by show 256 * t + (16 + r.val + 272 - 2) % 272 = 256 * t + r.val + 14 + 0; omega)
  · unfold shifted
    generalize xe i x0 x1 g = R at hR
    pointwise []
    rw [hR]
    exact congrArg _ (by show 256 * t + (16 + r.val + 272 - 1) % 272 = 256 * t + r.val + 14 + 1; omega)
  · exact (hV r d).trans (pad_row _ _ _ (by show 256 * t + r.val + 14 + 2 = 256 * t + r.val + 16; omega)).symm

/-- The convolution's weights' gradient after a point. -/
theorem blocks11_at (A : Vec Ideal S8x512 .f32) (off : Fin 2 → Nat) (inb) (h0 : ∀ a, off a = 0) (n : Fin 8) (g : Fin 4) (e : Fin 128) :
    View.canon (blocks11 i x0 x1 x3 A ++ [⟨Rect.unit (s := S8x512) off S8x512.size inb, A⟩]) (ix2 n (col g e))
      = A (ix2 n (col g e)) + ∑ r : Fin 256, act X D n (col g e) ⟨256 * t + r.val, by omega⟩ := by
  have key (k : Fin 3) (g' : Fin 4) (x : S1x128.Idx) (h : (tap i x0 x1 x3 A k g').1.emb x = ix2 n (col g e)) : n.val = k.val ∧ g = g' ∧ e.val = (x 1).val := by
    have h0 : k.val + 1 * (x 0).val = n.val := congrArg (fun j : S8x512.Idx => (j 0).val) h
    have h1 : 128 * g'.val + 1 * (x 1).val = 128 * g.val + e.val := congrArg (fun j : S8x512.Idx => (j 1).val) h
    have hx0 : (x 0).val < 1 := (x 0).isLt
    have hx1 : (x 1).val < 128 := (x 1).isLt
    have := e.isLt
    exact ⟨by omega, Fin.ext (by omega), by omega⟩
  by_cases hn : n.val < 3
  · have hc : ∃ p ∈ blocks11 i x0 x1 x3 A, (ix2 n (col g e) : S8x512.Idx) ∈ p.1.set := by
      refine ⟨tap i x0 x1 x3 A ⟨n.val, hn⟩ g, List.mem_map.mpr ⟨(⟨n.val, hn⟩, g), ?_, rfl⟩, (Rect.mem_set_unit (s := S8x512) (off := ![n.val, 128 * g.val]) (size := S1x128.size) (inb := inb11 ⟨n.val, hn⟩ g)).mpr fun a => ?_⟩
      · exact (by decide : ∀ (k : Fin 3) (g : Fin 4), (k, g) ∈ order) _ _
      · fin_cases a
        · show n.val ≤ n.val ∧ n.val < n.val + 1; omega
        · have := e.isLt
          show 128 * g.val ≤ 128 * g.val + e.val ∧ 128 * g.val + e.val < 128 * g.val + 128; omega
    rw [Cert.XaBlocks.canon_hide _ _ _ hc]
    refine canon_agree _ _ _ (fun p hp x hx => ?_) hc
    obtain ⟨⟨k, g'⟩, -, rfl⟩ := List.mem_map.mp hp
    obtain ⟨hk, rfl, he⟩ := key k g' x hx
    obtain ⟨u, b, rfl⟩ := ix2_split x
    obtain rfl : u = 0 := Subsingleton.elim _ _
    obtain rfl : e = b := Fin.ext he
    refine (tap_at _ _ _ e).trans ?_
    refine congrArg₂ (· + ·) (win_at A k.val _ _ _ 0 e n (col g e) hk rfl) (Finset.sum_congr rfl fun r _ => ?_)
    rw [dcv_at X D W S C H _ _ g rfl r e, shifted_at X D W S C H k g r e]
    unfold act
    rw [if_pos hn, hk]
  · have hc : ∀ p ∈ blocks11 i x0 x1 x3 A, (ix2 n (col g e) : S8x512.Idx) ∉ p.1.set := fun p hp hy => by
      obtain ⟨⟨k, g'⟩, -, rfl⟩ := List.mem_map.mp hp
      obtain ⟨x, hx⟩ := (tap i x0 x1 x3 A k g').1.exists_idx_of_mem hy
      have := (key k g' x hx).1
      omega
    have hz : ∑ r : Fin 256, act X D n (col g e) ⟨256 * t + r.val, by omega⟩ = 0 := Finset.sum_eq_zero fun r _ => if_neg hn
    rw [hz, add_zero]
    generalize blocks11 i x0 x1 x3 A = L at hc
    induction L with
    | nil => exact congrFun (View.canon_cons_unit_lit inb _ [] h0) _
    | cons p L ih =>
      rw [List.cons_append, View.canon_cons_of_not_mem p _ (hc p List.mem_cons_self)]
      exact ih fun q hq => hc q (List.mem_cons_of_mem _ hq)
end
end

end Cert.ObBlocks

end
-- ==== Proof.ObTapsOut.lean ====
/-
  The gradient of what the odd mixer's pooling and short convolution take: what the kernel leaves at a
  grid point of the gradient of the convolution's weights is its blocks, over zeros at the first point.
-/
module

public import proofs.«01_k».proof.Proof.ObTaps

@[expose] public section

set_option maxRecDepth 65536

noncomputable section

namespace Cert.ObBlocks

open Idealize.ShloMosaic Cert.Products Cert.Windows Cert.XaSpec Cert.OfBlocks Cert.ObKernelIdeal Cert.ObKernelIdeal.Gen

theorem z11 (j : S8x512.Idx) : k0_pay8 (F := Ideal) j = 0 := by pointwise [k0_pay8]

theorem out11_A (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = View.canon (blocks11 i x0 x1 x3 (k0_pay8 (F := Ideal)) ++ [⟨Rect.unit (s := S8x512) ![0, 0] S8x512.size inb_S8x512_S8x512_0_0, k0_pay8 (F := Ideal)⟩]) := by
  unfold out0_A_11
  frame_open
  simp (disch := decide) only [↓ View.readCov_skip, ↓ View.readCov_cons_toLoadRect, ↓ View.readCov_fill]
  frame_out
  unfold blocks11
  refine congrArg View.canon ?_
  iterate 12 refine List.cons_eq_cons.mpr ⟨congrArg (Sigma.mk _) rfl, ?_⟩
  rfl

theorem out11_B (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S256x1024 .f32) (harg4 : arg4.IsWhole) (arg5 : Memref sig .tc .vmem S16x1024 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S8x512 .f32) (harg12 : arg12.IsWhole) (hc0 : ¬cond0_0 i)
    (x0 : Vec Ideal S256x2048 .f32) (x1 : Vec Ideal S16x2048 .f32) (x2 : Vec Ideal S16x2048 .f32) (x3 : Vec Ideal S256x1024 .f32) (x4 : Vec Ideal S16x1024 .f32) (x5 : Vec Ideal S4x128x128 .bf16) (x6 : Vec Ideal S1x512 .f32) (x7 : Vec Ideal S8x512 .f32) (xo9 : Vec Ideal S4x128x128 .f32) (xo10 : Vec Ideal S1x512 .f32) (xo11 : Vec Ideal S8x512 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 xo11 = View.canon (blocks11 i x0 x1 x3 xo11 ++ [⟨Rect.unit (s := S8x512) ![0, 0] S8x512.size inb_S8x512_S8x512_0_0, xo11⟩]) := by
  unfold out0_B_11
  funext y
  refine (read_canon arg12.view (harg12.unread xo11) ![0, 0] inb_S8x512_S8x512_0_0 (by decide) _ y).trans ?_
  rw [harg12.read_unread xo11]
  refine congrFun (congrArg (fun L => View.canon (L ++ _)) ?_) y
  frame_out
  unfold blocks11
  iterate 12 refine List.cons_eq_cons.mpr ⟨congrArg (Sigma.mk _) rfl, ?_⟩
  rfl

end Cert.ObBlocks

end
-- ==== Proof.ObSumsRef.lean ====
/-
  The gradients of the odd mixer's pooling's weights and scale and of its short convolution's weights, and that the reference
  computes them.
-/
module

public import proofs.«01_k».proof.Defs
public import Idealize.ShloMosaic.Lib.Pointwise
public import proofs.«01_k».proof.Proof.Gen.ObReferenceIdeal.Read
public import proofs.«01_k».proof.Proof.ObTaps
public import proofs.«01_k».proof.Proof.OfClaim

@[expose] public section

set_option maxRecDepth 16384

noncomputable section

namespace Cert.Proof.ObSumsRef

open Idealize.ShloMosaic Cert.Products Cert.Windows Cert.XaSpec Cert.OfBlocks Cert.ObBlocks
open Cert.XaFinal (hd ln hd_col ln_col ix_split col_hd)

theorem ix3_split {a b c : Nat} (j : (⟨3, ![a, b, c]⟩ : Shape).Idx) : ∃ (x : Fin a) (y : Fin b) (z : Fin c), j = ix3 x y z :=
  ⟨j 0, j 1, j 2, funext fun i => by fin_cases i <;> rfl⟩

/-- The pooling's weights' gradient. -/
def DWp (X : Mat 8192 2048) (D : Mat 8192 1024) (S : (⟨1, ![512]⟩ : Shape).Idx → EReal) : (⟨3, ![4, 128, 128]⟩ : Shape).Idx → EReal := fun j =>
  ∑ s, aw X D (fun c => S (ix1 c)) (j 0) (j 1) (j 2) s
/-- The pooling's scale's gradient. -/
def DSp (X : Mat 8192 2048) (D : Mat 8192 1024) (W : (⟨3, ![4, 128, 128]⟩ : Shape).Idx → EReal) : Mat 1 512 := fun j => ∑ s, asc X D W (hd (j 1)) (ln (j 1)) s
/-- The convolution's weights' gradient. -/
def DCw (X : Mat 8192 2048) (D : Mat 8192 1024) : Mat 8 512 := fun j => ∑ s, act X D (j 0) (j 1) s

section
open Cert.ObReferenceIdeal Cert.ObReferenceIdeal.Gen Cert.ObReferenceIdeal.Read
variable (x0 : Vec Ideal S8192x2048 .f32) (x1 : Vec Ideal S8192x1024 .f32) (x2 : Vec Ideal S4x128x128 .bf16) (x3 : Vec Ideal S512 .f32)

theorem v182 (g : Fin 4) (s : Fin 8192) (d : Fin 128) : val_main_v182 (F := Ideal) x0 (ix3 g s d) = pl (wd g) (zc x0 0 (col g d)) s :=
  OfClaim.v52 x0 g s d
theorem v194 (n : Fin 8194) (l : Fin 512) : val_main_v194 (F := Ideal) x0 (ix2 n l) = Windows.pad (xg x0 l) (n.val + 14) :=
  OfClaim.v64 x0 n l
theorem v185 (s : Fin 8192) (g : Fin 4) (e : Fin 128) : val_main_v185 (F := Ideal) x0 x2 (ix2 s (col g e)) = ∑ a, pl (wd g) (zc x0 0 (col g a)) s * x2 (ix3 g a e) := by
  have h : val_main_v185 (F := Ideal) x0 x2 (ix2 s (col g e)) = val_main_v183 (F := Ideal) x0 x2 (ix3 g s e) := by
    rw [val_main_v185_apply, val_main_v184_apply]
    refine congrArg (val_main_v183 (F := Ideal) x0 x2) (funext fun a => Fin.ext ?_)
    have := e.isLt; have := g.isLt
    fin_cases a
    · show (s.val * 512 + (128 * g.val + e.val)) / 128 % 4 = g.val; omega
    · show (s.val * 512 + (128 * g.val + e.val)) / 512 = s.val; omega
    · show (s.val * 512 + (128 * g.val + e.val)) % 128 = e.val; omega
  rw [h]
  pointwise [val_main_v183, val_main_v130]
  simp only [v182]
theorem v249 (g : Fin 4) (s : Fin 8192) (d : Fin 128) : val_main_v249 (F := Ideal) x1 x3 (ix3 g s d) = x1 (ix2 s (half 0 (col g d))) * x3 (ix1 (col g d)) := by
  have e : val_main_v249 (F := Ideal) x1 x3 (ix3 g s d) = val_main_v246 (F := Ideal) x1 x3 (ix2 s (col g d)) := by
    rw [val_main_v249_apply, val_main_v248_apply]
    refine congrArg (val_main_v246 (F := Ideal) x1 x3) (funext fun a => Fin.ext ?_)
    have := d.isLt; have := g.isLt
    fin_cases a
    · show ((s.val * 4 + g.val) * 128 + d.val) / 512 = s.val; omega
    · show ((s.val * 4 + g.val) * 128 + d.val) % 512 = 128 * g.val + d.val; omega
  rw [e]
  pointwise [val_main_v246, val_main_v245, val_main_v186, val_main_v219]
  exact congrArg (fun l => x1 (ix2 s l) * x3 (ix1 (col g d))) (Fin.ext (by show _ = 512 * 0 + (col g d).val; first | rfl | (show (col g d).val = _; omega)))
theorem v251 : val_main_v251 (F := Ideal) x0 x1 x3 = DWp x0 x1 x3 := by
  funext j
  obtain ⟨g, a, e, rfl⟩ := ix3_split j
  pointwise [val_main_v251, val_main_v250]
  simp only [v249, v182]
  exact Finset.sum_congr rfl fun s _ => mul_comm _ _

theorem v252 : val_main_v252 (F := Ideal) x0 x1 x2 = DSp x0 x1 x2 := by
  funext j
  obtain ⟨u, g, e, rfl⟩ := ix_split j
  obtain rfl : u = 0 := Subsingleton.elim _ _
  show _ = ∑ s, asc x0 x1 x2 (hd (col g e)) (ln (col g e)) s
  rw [hd_col, ln_col]
  pointwise [val_main_v252, val_main_v247, val_main_cst_52, val_main_v244, val_main_v243, val_main_cst_51, val_main_v242, val_main_v219]
  refine (Fin.sum_univ_one _).trans (Finset.sum_congr rfl fun s _ => ?_)
  rw [v185, mul_comm]
  exact congrArg (fun i => x1 (ix2 s i) * _) (Fin.ext (by show 128 * g.val + e.val = 512 * 0 + (128 * g.val + e.val); omega))

/-- A row alone among eight. -/
theorem pad_taps (p : Fin 8) (lo hi : Nat) (v : Vec Ideal S1x512 .f32) (z : Vec Ideal S_ .f32) (h) (hz : z (Shape.Idx.first h_S_) = 0) (hl : lo = p.val)
    (n : Fin 8) (l : Fin 512) : Idealize.ShloMosaic.pad S8x512 ![lo, 0] ![hi, 0] ![0, 0] v z h h_S_ (ix2 n l) = if n = p then v (ix2 0 l) else 0 := by
  subst hl
  by_cases h' : n = p
  · subst h'
    rw [if_pos rfl]
    refine pad_apply_of_inside _ _ _ _ _ _ _ _ (ix2 0 l) fun a => ?_
    fin_cases a
    · show n.val = n.val + 0 * (0 + 1); omega
    · show l.val = 0 + l.val * (0 + 1); omega
  · rw [if_neg h', ← hz]
    refine pad_apply_of_not_inside _ _ _ _ _ _ _ _ 0 fun ha => h' (Fin.ext ?_)
    have h1 : p.val ≤ n.val := ha.1
    have h2 : (n.val - p.val) / (0 + 1) < 1 := ha.2.2
    omega
/-- A tap's sum. -/
theorem tap_sum (n : Fin 3) (l : Fin 512) (f : Fin 1 → Fin 8192 → EReal)
    (h : ∀ u s, f u s = zc x0 2 l s * x1 (ix2 s (half 1 l)) * Windows.pad (xg x0 l) (s.val + 14 + n.val)) :
    ∑ u, ∑ s, f u s = ∑ s, act x0 x1 ⟨n.val, by omega⟩ l s := by
  refine (Fin.sum_univ_one _).trans (Finset.sum_congr rfl fun s _ => ?_)
  unfold act
  rw [h, if_pos n.isLt]
  exact congrArg (· * _) (mul_comm _ _)
theorem v226 (l : Fin 512) : val_main_v226 (F := Ideal) x0 x1 (ix2 0 l) = ∑ s, act x0 x1 2 l s := by
  pointwise [val_main_v226, val_main_v225, val_main_cst_43, val_main_v224, val_main_v223, val_main_cst_42, val_main_v222, val_main_v212, val_main_v221, val_main_v190, val_main_v220]
  refine tap_sum x0 x1 2 l _ fun u s => ?_
  rw [v194]
  exact congrArg (_ * Windows.pad (xg x0 l) ·) (by show 2 + s.val + 14 = s.val + 14 + 2; omega)
theorem v232 (l : Fin 512) : val_main_v232 (F := Ideal) x0 x1 (ix2 0 l) = ∑ s, act x0 x1 1 l s := by
  pointwise [val_main_v232, val_main_v231, val_main_cst_46, val_main_v230, val_main_v229, val_main_cst_45, val_main_v228, val_main_v205, val_main_v221, val_main_v190, val_main_v220]
  refine tap_sum x0 x1 1 l _ fun u s => ?_
  rw [v194]
  exact congrArg (_ * Windows.pad (xg x0 l) ·) (by show 1 + s.val + 14 = s.val + 14 + 1; omega)
theorem v239 (l : Fin 512) : val_main_v239 (F := Ideal) x0 x1 (ix2 0 l) = ∑ s, act x0 x1 0 l s := by
  pointwise [val_main_v239, val_main_v238, val_main_cst_49, val_main_v237, val_main_v236, val_main_cst_48, val_main_v235, val_main_v197, val_main_v221, val_main_v190, val_main_v220]
  refine tap_sum x0 x1 0 l _ fun u s => ?_
  rw [v194]
  exact congrArg (_ * Windows.pad (xg x0 l) ·) (by show s.val + 14 = s.val + 14 + 0; omega)
theorem v241 : val_main_v241 (F := Ideal) x0 x1 = DCw x0 x1 := by
  funext j
  obtain ⟨n, l, rfl⟩ := ix2_split j
  show val_main_v227 (F := Ideal) x0 x1 _ + val_main_v233 (F := Ideal) x0 x1 _ + val_main_v240 (F := Ideal) x0 x1 _ = ∑ s, act x0 x1 n l s
  unfold val_main_v227 val_main_v233 val_main_v240
  rw [pad_taps 2 2 5 _ _ _ Ideal.ofBits_zero_f32 rfl, pad_taps 1 1 6 _ _ _ Ideal.ofBits_zero_f32 rfl, pad_taps 0 0 7 _ _ _ Ideal.ofBits_zero_f32 rfl, v226, v232, v239]
  by_cases h2 : n = 2
  · subst h2
    rw [if_pos rfl, if_neg (by decide), if_neg (by decide), add_zero, add_zero]
  by_cases h1 : n = 1
  · subst h1
    rw [if_neg (by decide), if_pos rfl, if_neg (by decide), zero_add, add_zero]
  by_cases h0 : n = 0
  · subst h0
    rw [if_neg (by decide), if_neg (by decide), if_pos rfl, zero_add, zero_add]
  · rw [if_neg h2, if_neg h1, if_neg h0, zero_add, zero_add]
    refine (Finset.sum_eq_zero fun s _ => if_neg fun hn => ?_).symm
    have : n = 0 ∨ n = 1 ∨ n = 2 := by revert h0 h1 h2 hn; revert n; decide
    exact this.elim h0 fun h => h.elim h1 h2
end

end Cert.Proof.ObSumsRef

end
-- ==== Proof.ObClaim.lean ====
/-
  The gradients of what the odd mixer's pooling and short convolution take, of the pooling's weights and scale and of the
  convolution's weights: the kernel's arrays and the reference's are equal.
-/
module

public import proofs.«01_k».proof.Defs
public import Idealize.ShloMosaic.Lib.Claim
public import Idealize.ShloMosaic.Lib.Pointwise
public import Idealize.ShloMosaic.Lib.KernelVsHost
public import proofs.«01_k».proof.Proof.Gen.ObReferenceIdeal.Read
public import proofs.«01_k».proof.Proof.Gen.ObReferenceIdeal.Run
public import proofs.«01_k».proof.Proof.ObOut
public import proofs.«01_k».proof.Proof.ObSumsOut
public import proofs.«01_k».proof.Proof.ObTapsOut
public import proofs.«01_k».proof.Proof.ObSumsRef

@[expose] public section

set_option maxRecDepth 16384

noncomputable section

namespace Cert.Proof.ObClaim

open Idealize.ShloMosaic Cert.Products Cert.Windows Cert.XaSpec Cert.OfBlocks Cert.ObBlocks
open Cert.Proof.ObSumsRef (ix3_split DWp DSp DCw v251 v252 v241)
open Cert.XaFinal (hd ln hd_col ln_col ix_split col_hd)

/-- An index of the result is a row, a quarter, a group and a place. -/
theorem split {n : Nat} (y : (⟨2, ![n, 2048]⟩ : Shape).Idx) : ∃ (r : Fin n) (q k : Fin 4) (d : Fin 128), y = ix2 r (quarter q (col k d)) := by
  obtain ⟨r, l, rfl⟩ := ix2_split y
  have := l.isLt
  refine ⟨r, ⟨l.val / 512, by omega⟩, hd ⟨l.val % 512, Nat.mod_lt _ (by decide)⟩, ln ⟨l.val % 512, Nat.mod_lt _ (by decide)⟩, ?_⟩
  rw [← col_hd]
  exact congrArg (ix2 r) (Fin.ext (by show l.val = 512 * (l.val / 512) + l.val % 512; omega))

/-- The gradient of the input. -/
def DZ (X : Mat 8192 2048) (D : Mat 8192 1024) (W : (⟨3, ![4, 128, 128]⟩ : Shape).Idx → EReal) (S : (⟨1, ![512]⟩ : Shape).Idx → EReal) (C : Mat 8 512) : Mat 8192 2048 := fun j =>
  dq X D W (fun c => S (ix1 c)) C ⟨(j 1).val / 512, by have : (j 1).val < 2048 := (j 1).isLt; omega⟩ (hd ⟨(j 1).val % 512, Nat.mod_lt _ (by decide)⟩)
    (ln ⟨(j 1).val % 512, Nat.mod_lt _ (by decide)⟩) (j 0)

theorem dz_at (X : Mat 8192 2048) (D : Mat 8192 1024) (W : (⟨3, ![4, 128, 128]⟩ : Shape).Idx → EReal) (S : (⟨1, ![512]⟩ : Shape).Idx → EReal) (C : Mat 8 512)
    (s : Fin 8192) (q k : Fin 4) (d : Fin 128) : DZ X D W S C (ix2 s (quarter q (col k d))) = dq X D W (fun c => S (ix1 c)) C q k d s := by
  have hc := (col k d).isLt
  have e : (⟨(512 * q.val + (col k d).val) % 512, Nat.mod_lt _ (by decide)⟩ : Fin 512) = col k d := Fin.ext (by show (512 * q.val + (col k d).val) % 512 = _; omega)
  have e' : (⟨(512 * q.val + (col k d).val) / 512, by have := q.isLt; omega⟩ : Fin 4) = q := Fin.ext (by show (512 * q.val + (col k d).val) / 512 = _; omega)
  show dq X D W _ C ⟨(512 * q.val + (col k d).val) / 512, _⟩ (hd ⟨(512 * q.val + (col k d).val) % 512, _⟩) (ln ⟨(512 * q.val + (col k d).val) % 512, _⟩) s = _
  rw [e, e', hd_col, ln_col]

section
open Cert.ObKernelIdeal Cert.ObKernelIdeal.Gen
open Idealize.ShloMosaic.TcCoe Idealize.SL.Sem
open Idealize.ShloMosaic.Pipeline (Dat)
variable (m : (ℓ : Loc nD τ sig) → Buf (Elt Ideal) ℓ) (c : Dev nD)

/-- The rows. -/
abbrev Xa : Vec Ideal S8192x2048 .f32 := m ((c : Thread nD τ).loc main_arg0)
/-- The gradient of the result. -/
abbrev Da : Vec Ideal S8192x1024 .f32 := m ((c : Thread nD τ).loc main_arg1)
/-- The groups' weights. -/
abbrev Wa : Vec Ideal S4x128x128 .bf16 := m ((c : Thread nD τ).loc main_arg2)
/-- The scale. -/
abbrev Sa : Vec Ideal S512 .f32 := m ((c : Thread nD τ).loc main_arg3)
/-- The convolution's weights. -/
abbrev Ca : Vec Ideal S8x512 .f32 := m ((c : Thread nD τ).loc main_arg4)

/-- The windows' block indices at a point (decided). -/
theorem idx : ∀ t : Fin cfg0.N, win0_0.index t = ![t.val, 0] ∧ win0_1.index t = ![16 * t.val - 1, 0] ∧ win0_2.index t = ![min (16 * t.val + 16) 511, 0]
    ∧ win0_3.index t = ![t.val, 0] ∧ win0_4.index t = ![min (16 * t.val + 16) 511, 0] ∧ win0_5.index t = ![0, 0, 0]
    ∧ win0_6.index t = ![0, 0] ∧ win0_7.index t = ![0, 0] ∧ win0_8.index t = ![t.val, 0] ∧ ((grid0.coords t) 0).val = t.val :=
  (by decide +kernel : ∀ t : Fin grid0.N, _)

theorem t_lt (t : Fin cfg0.N) : t.val < 32 := by
  have h : cfg0.N = 32 := N_0
  have := t.isLt; omega

theorem inp (t : Fin cfg0.N) : Inp (Xa m c) (Da m c) (Wa m c) (fun c' => Sa m c (ix1 c')) (Ca m c) t.val (t_lt t) (grid0.coords t)
    (iblk m c 0 t) (iblk m c 1 t) (iblk m c 2 t) (iblk m c 3 t) (iblk m c 4 t) (iblk m c 5 t) (iblk m c 6 t) (iblk m c 7 t) where
  hi := (idx t).2.2.2.2.2.2.2.2.2
  h0 r l := by blk_ext [iblk, V, idx t]
  h1 h k l := by blk_ext [iblk, V, idx t]
  h2 h k l := by blk_ext [iblk, V, idx t]
  h3 r l := by blk_ext [iblk, V, idx t]
  h4 h k l := by blk_ext [iblk, V, idx t]
  h5 g e d := by blk_ext [iblk, V, idx t]
  h6 l := by blk_ext! [iblk, V, idx t]
  h7 n l := by blk_ext [iblk, V, idx t]

/-- What a point leaves: its blocks. -/
theorem out8 (t : Fin cfg0.N) : (outsAt0 m c t.val t.isLt).1
    = View.canon (blocks (grid0.coords t) (iblk m c 0 t) (iblk m c 1 t) (iblk m c 2 t) (iblk m c 3 t) (iblk m c 4 t) (iblk m c 5 t) (iblk m c 6 t) (iblk m c 7 t)) := by
  by_cases h : t.val % 32 = 0
  · rw [outsAt0_A m c t h]
    dsimp only
    exact out_A _ _ _ _ _ _ _ _ _ _ _ _ _ _ _ _ _ _ _ _ _ _ _ _ _ _ _ _ _ _ _ _ _ _ _
  · rw [outsAt0_B m c t h]
    dsimp only
    exact out_B _ _ _ _ _ _ _ _ _ _ _ _ _ _ _ _ _ _ _ _ _ _ _ _ _ _ _ _ _ _ _ _ _ _ _ _ _ _

theorem final8 : (dats m 0 c).arrAt 8 cfg0.N = DZ (Xa m c) (Da m c) (Wa m c) (Sa m c) (Ca m c) := by
  refine (dats m 0 c).arrAt_eq_of_covers 8 _ (by decide +kernel) fun t hf y => ?_
  blk_simp
  rw [after0_8, out8]
  obtain ⟨r, q, k, d, rfl⟩ := split y
  have he : (win0_8.blk t).view.emb (ix2 r (quarter q (col k d))) = ix2 (⟨256 * t.val + r.val, by have := t_lt t; omega⟩ : Fin 8192) (quarter q (col k d)) := by
    blk_ext [idx t]
  rw [he]
  exact (blocks_at _ _ _ _ _ (inp m c t) r q k d).trans (dz_at _ _ _ _ _ _ q k d).symm

/-- A point's rows' part of a sum over the rows. -/
def rows (f : Fin 8192 → EReal) (t : Fin cfg0.N) : EReal := ∑ r : Fin 256, f ⟨256 * t.val + r.val, by have := t_lt t; omega⟩
theorem rows_sum (f : Fin 8192 → EReal) : ∑ t, rows f t = ∑ s, f s :=
  Fin.sum_mul_add_congr (S := cfg0.N) (n := 256) fun t r hl => congrArg f (Fin.ext (by show 256 * t.val + r.val = t.val * 256 + r.val; omega))
/-- The last point. -/
def tl : Fin cfg0.N := ⟨31, by show 31 < grid0.N; rw [N_0]; decide⟩

theorem final9 : (dats m 0 c).arrAt 9 cfg0.N = DWp (Xa m c) (Da m c) (Sa m c) := by
  refine (dats m 0 c).arrAt_eq_of_after_last 9 tl (by decide +kernel) _ fun j => ?_
  blk_simp
  rw [after0_9]
  obtain ⟨g, a, e, rfl⟩ := ix3_split j
  refine Eq.trans (Pipeline.eq_sum_fin_of_reset_step_apply_last
      (fun n hn (p : Fin 4 × Fin 128 × Fin 128) => (outsAt0 m c n hn).2.1 (ix3 p.1 p.2.1 p.2.2)) 32 (fun _ => 0)
      (fun t p => rows (aw (Xa m c) (Da m c) (fun l => Sa m c (ix1 l)) p.1 p.2.1 p.2.2) t)
      (fun t ht p => by rw [outsAt0_A m c t ht]; dsimp only; rw [out9_A, blocks9_at _ _ _ _ _ (inp m c t), z9]; rfl)
      (fun t ht p => by rw [outsAt0_B m c t ht]; dsimp only; rw [out9_B, blocks9_at _ _ _ _ _ (inp m c t)]; rfl)
      (le_of_eq N_0) tl rfl (g, a, e)) ?_
  rw [zero_add, rows_sum]
  rfl

theorem final10 : (dats m 0 c).arrAt 10 cfg0.N = DSp (Xa m c) (Da m c) (Wa m c) := by
  refine (dats m 0 c).arrAt_eq_of_after_last 10 tl (by decide +kernel) _ fun j => ?_
  blk_simp
  rw [after0_10]
  obtain ⟨u, g, e, rfl⟩ := ix_split j
  obtain rfl : u = 0 := Subsingleton.elim _ _
  refine Eq.trans (Pipeline.eq_sum_fin_of_reset_step_apply_last
      (fun n hn (p : Fin 4 × Fin 128) => (outsAt0 m c n hn).2.2.1 (ix2 0 (col p.1 p.2))) 32 (fun _ => 0)
      (fun t p => rows (asc (Xa m c) (Da m c) (Wa m c) p.1 p.2) t)
      (fun t ht p => by rw [outsAt0_A m c t ht]; dsimp only; rw [out10_A, blocks10_at _ _ _ _ _ (inp m c t), z10]; rfl)
      (fun t ht p => by rw [outsAt0_B m c t ht]; dsimp only; rw [out10_B, blocks10_at _ _ _ _ _ (inp m c t)]; rfl)
      (le_of_eq N_0) tl rfl (g, e)) ?_
  rw [zero_add, rows_sum]
  show _ = ∑ s, asc (Xa m c) (Da m c) (Wa m c) (hd (col g e)) (ln (col g e)) s
  rw [hd_col, ln_col]

theorem final11 : (dats m 0 c).arrAt 11 cfg0.N = DCw (Xa m c) (Da m c) := by
  refine (dats m 0 c).arrAt_eq_of_after_last 11 tl (by decide +kernel) _ fun j => ?_
  blk_simp
  rw [after0_11]
  obtain ⟨n, g, e, rfl⟩ := ix_split j
  refine Eq.trans (Pipeline.eq_sum_fin_of_reset_step_apply_last
      (fun n hn (p : Fin 8 × Fin 4 × Fin 128) => (outsAt0 m c n hn).2.2.2 (ix2 p.1 (col p.2.1 p.2.2))) 32 (fun _ => 0)
      (fun t p => rows (act (Xa m c) (Da m c) p.1 (col p.2.1 p.2.2)) t)
      (fun t ht p => by rw [outsAt0_A m c t ht]; dsimp only; rw [out11_A, blocks11_at _ _ _ _ _ (inp m c t) _ _ _ (by decide), z11]; rfl)
      (fun t ht p => by rw [outsAt0_B m c t ht]; dsimp only; rw [out11_B, blocks11_at _ _ _ _ _ (inp m c t) _ _ _ (by decide)]; rfl)
      (le_of_eq N_0) tl rfl (n, g, e)) ?_
  rw [zero_add, rows_sum]
  rfl
end

section
open Cert.ObReferenceIdeal Cert.ObReferenceIdeal.Gen Cert.ObReferenceIdeal.Read
variable (x0 : Vec Ideal S8192x2048 .f32) (x1 : Vec Ideal S8192x1024 .f32) (x2 : Vec Ideal S4x128x128 .bf16) (x3 : Vec Ideal S512 .f32) (x4 : Vec Ideal S8x512 .f32)

theorem v38 (g : Fin 4) (s t : Fin 8192) : val_main_v38 (F := Ideal) (ix3 g s t) = if t.val ≤ s.val ∧ s.val < t.val + wd g then (1 : EReal) else 0 :=
  OfClaim.v38 g s t
theorem v45 (g : Fin 4) (s : Fin 8192) (u : Fin 1) : val_main_v45 (F := Ideal) (ix3 g s u) = cnt (wd g) s.val :=
  OfClaim.v45 g s u
theorem v64 (n : Fin 8194) (l : Fin 512) : val_main_v64 (F := Ideal) x0 (ix2 n l) = Windows.pad (xg x0 l) (n.val + 14) :=
  OfClaim.v64 x0 n l
theorem v87 (s : Fin 8192) (l : Fin 512) : val_main_v87 (F := Ideal) x0 x4 (ix2 s l) = cv x0 x4 s l := by
  pointwise [val_main_v87, val_main_v86, val_main_v85, val_main_v84, val_main_v83, val_main_v82, val_main_v81, val_main_v80, val_main_v79, val_main_v78, val_main_v77, val_main_v76, val_main_v75, val_main_v74, val_main_v73, val_main_v72, val_main_v71, val_main_cst_16, val_main_v70, val_main_v69, val_main_v68, val_main_v67, val_main_v66]
  rw [v64, v64, v64]
  unfold cv
  congr 2
  · exact congrArg (fun n => x4 (ix2 1 l) * Windows.pad (xg x0 l) n) (by show 1 + s.val + 14 = s.val + 15; omega)
  · exact congrArg (Windows.pad (xg x0 l)) (by show 2 + s.val + 14 = s.val + 16; omega)

/-- Rows padded above and below. -/
theorem pad_rows (lo hi : Nat) (v : Vec Ideal S8192x512 .f32) (z : Vec Ideal S_ .f32) (h) (hz : z (Shape.Idx.first h_S_) = 0) (hl : lo ≤ 2) (n : Fin 8194) (l : Fin 512) :
    Idealize.ShloMosaic.pad S8194x512 ![lo, 0] ![hi, 0] ![0, 0] v z h h_S_ (ix2 n l) = Windows.pad (fun s => v (ix2 s l)) (n.val + 16 - lo) := by
  by_cases h' : lo ≤ n.val ∧ n.val - lo < 8192
  · rw [pad_row _ ⟨n.val - lo, h'.2⟩ _ (by show n.val + 16 - lo = n.val - lo + 16; omega)]
    refine pad_apply_of_inside _ _ _ _ _ _ _ _ (ix2 (⟨n.val - lo, h'.2⟩ : Fin 8192) l) fun a => ?_
    fin_cases a
    · show n.val = lo + (n.val - lo) * (0 + 1); omega
    · show l.val = 0 + l.val * (0 + 1); omega
  · have e : Windows.pad (fun s => v (ix2 s l)) (n.val + 16 - lo) = 0 := by
      by_cases h1 : lo ≤ n.val
      · exact pad_hi _ _ (by omega)
      · exact pad_lo _ _ (by omega)
    rw [e, ← hz]
    refine pad_apply_of_not_inside _ _ _ _ _ _ _ _ 0 fun ha => h' ⟨ha.1, ?_⟩
    have h2 : (n.val - lo) / (0 + 1) < 8192 := ha.2.2
    omega
/-- Columns padded to one quarter. -/
theorem pad_cols (p : Fin 4) (lo hi : Nat) (v : Vec Ideal S8192x512 .f32) (z : Vec Ideal S_ .f32) (h) (hz : z (Shape.Idx.first h_S_) = 0) (hl : lo = 512 * p.val)
    (s : Fin 8192) (q : Fin 4) (l : Fin 512) :
    Idealize.ShloMosaic.pad S8192x2048 ![0, lo] ![0, hi] ![0, 0] v z h h_S_ (ix2 s (quarter q l)) = if q = p then v (ix2 s l) else 0 := by
  subst hl
  have := l.isLt
  by_cases h' : q = p
  · subst h'
    rw [if_pos rfl]
    refine pad_apply_of_inside _ _ _ _ _ _ _ _ (ix2 s l) fun a => ?_
    fin_cases a
    · show s.val = 0 + s.val * (0 + 1); omega
    · show 512 * q.val + l.val = 512 * q.val + l.val * (0 + 1); omega
  · rw [if_neg h', ← hz]
    refine pad_apply_of_not_inside _ _ _ _ _ _ _ _ 1 fun ha => h' (Fin.ext ?_)
    have h1 : 512 * p.val ≤ 512 * q.val + l.val := ha.1
    have h2 : (512 * q.val + l.val - 512 * p.val) / (0 + 1) < 512 := ha.2.2
    omega
theorem pad_mul (a : EReal) (z : Fin 8192 → EReal) (n : Nat) : Windows.pad (fun s => a * z s) n = a * Windows.pad z n := by
  unfold Windows.pad
  split
  · rfl
  · exact (mul_zero a).symm

theorem v92 (s : Fin 8192) (l : Fin 512) : val_main_v92 (F := Ideal) x0 x1 (ix2 s l) = dc x0 x1 l s := by
  pointwise [val_main_v92, val_main_v91, val_main_v60]
  exact mul_comm _ _
theorem v95 (s : Fin 8192) (l : Fin 512) : val_main_v95 (F := Ideal) x0 x1 x4 (ix2 s l) = x4 (ix2 2 l) * dc x0 x1 l s := by
  pointwise [val_main_v95, val_main_v94, val_main_v84, val_main_v82, val_main_v81]
  rw [v92]
theorem v98 (s : Fin 8192) (l : Fin 512) : val_main_v98 (F := Ideal) x0 x1 x4 (ix2 s l) = x4 (ix2 1 l) * dc x0 x1 l s := by
  pointwise [val_main_v98, val_main_v97, val_main_v77, val_main_v75, val_main_v74]
  rw [v92]
theorem v102 (s : Fin 8192) (l : Fin 512) : val_main_v102 (F := Ideal) x0 x1 x4 (ix2 s l) = x4 (ix2 0 l) * dc x0 x1 l s := by
  pointwise [val_main_v102, val_main_v101, val_main_v69, val_main_v67, val_main_v66]
  rw [v92]
theorem v106 (s : Fin 8192) (l : Fin 512) : val_main_v106 (F := Ideal) x0 x1 x4 (ix2 s l) = dx x0 x1 x4 l s := by
  have e : val_main_v106 (F := Ideal) x0 x1 x4 (ix2 s l) = val_main_v104 (F := Ideal) x0 x1 x4 (ix2 (⟨2 + s.val, by omega⟩ : Fin 8194) l) := by
    rw [val_main_v106_apply]
    refine congrArg _ (funext fun a => ?_)
    fin_cases a <;> rfl
  rw [e]
  pointwise [val_main_v104, val_main_v100]
  unfold val_main_v96 val_main_v99 val_main_v103
  rw [pad_rows 2 0 _ _ _ Ideal.ofBits_zero_f32 (by decide), pad_rows 1 1 _ _ _ Ideal.ofBits_zero_f32 (by decide), pad_rows 0 2 _ _ _ Ideal.ofBits_zero_f32 (by decide)]
  simp only [v95, v98, v102, pad_mul]
  unfold dx
  congr 2
  · exact congrArg _ (pad_row _ s _ (by show 2 + s.val + 16 - 2 = s.val + 16; omega))
  · exact congrArg (fun n => x4 (ix2 1 l) * Windows.pad (dc x0 x1 l) n) (by show 2 + s.val + 16 - 1 = s.val + 17; omega)
  · exact congrArg (Windows.pad (dc x0 x1 l)) (by show 2 + s.val + 16 - 0 = s.val + 18; omega)

theorem v117 (g : Fin 4) (s : Fin 8192) (d : Fin 128) : val_main_v117 (F := Ideal) x1 x3 (ix3 g s d) = x1 (ix2 s (half 0 (col g d))) * x3 (ix1 (col g d)) :=
  ObSumsRef.v249 x1 x3 g s d
theorem v118 (g : Fin 4) (s : Fin 8192) (e : Fin 128) : val_main_v118 (F := Ideal) x1 x2 x3 (ix3 g s e) = dp x1 x2 (fun c => x3 (ix1 c)) g e s := by
  pointwise [val_main_v118, val_main_v0]
  simp only [v117]
  rfl
theorem v121 (g : Fin 4) (s : Fin 8192) (e : Fin 128) : val_main_v121 (F := Ideal) x1 x2 x3 (ix3 g s e)
    = Ideal.div (dp x1 x2 (fun c => x3 (ix1 c)) g e s) (cnt (wd g) s.val) := by
  pointwise [val_main_v121, val_main_v120]
  rw [v118, v45]
theorem v124 (g : Fin 4) (s : Fin 8192) (e : Fin 128) : val_main_v124 (F := Ideal) x1 x2 x3 (ix3 g s e) = dl x1 x2 (fun c => x3 (ix1 c)) g e s := by
  pointwise [val_main_v124, val_main_v123, val_main_v122, val_main_v119]
  simp only [v118, v121, v38]
  unfold dl
  rw [sub_eq_add_neg, add_comm]
  congr 1
  rw [← sum_ahead]
  exact Finset.sum_congr rfl fun t _ => mul_comm _ _
theorem v126 (s : Fin 8192) (g : Fin 4) (d : Fin 128) : val_main_v126 (F := Ideal) x1 x2 x3 (ix2 s (col g d)) = dl x1 x2 (fun c => x3 (ix1 c)) g d s := by
  rw [val_main_v126_apply, val_main_v125_apply, ← v124]
  refine congrArg (val_main_v124 (F := Ideal) x1 x2 x3) (funext fun a => Fin.ext ?_)
  have := d.isLt; have := g.isLt
  fin_cases a
  · show (s.val * 512 + (128 * g.val + d.val)) / 128 % 4 = g.val; omega
  · show (s.val * 512 + (128 * g.val + d.val)) / 512 = s.val; omega
  · show (s.val * 512 + (128 * g.val + d.val)) % 128 = d.val; omega
theorem v108 (s : Fin 8192) (l : Fin 512) : val_main_v108 (F := Ideal) x0 x1 x4 (ix2 s l) = dx x0 x1 x4 l s * zc x0 1 l s := by
  pointwise [val_main_v108, val_main_v59]
  rw [v106]
  rfl
theorem v93 (s : Fin 8192) (l : Fin 512) : val_main_v93 (F := Ideal) x0 x1 x4 (ix2 s l) = x1 (ix2 s (half 1 l)) * cv x0 x4 s l := by
  pointwise [val_main_v93, val_main_v91]
  rw [v87]
  rfl
theorem v107 (s : Fin 8192) (l : Fin 512) : val_main_v107 (F := Ideal) x0 x1 x4 (ix2 s l) = dx x0 x1 x4 l s * zc x0 3 l s := by
  pointwise [val_main_v107, val_main_v61]
  rw [v106]
  exact mul_comm _ _
theorem ref : val_main_v129 (F := Ideal) x0 x1 x2 x3 x4 = DZ x0 x1 x2 x3 x4 := by
  funext j
  obtain ⟨s, q, k, d, rfl⟩ := split j
  rw [dz_at]
  show val_main_v109 (F := Ideal) x0 x1 x4 _ + val_main_v110 (F := Ideal) x0 x1 x4 _ + val_main_v112 (F := Ideal) x0 x1 x4 _ + val_main_v127 (F := Ideal) x1 x2 x3 _ = _
  unfold val_main_v109 val_main_v110 val_main_v112 val_main_v127
  rw [pad_cols 3 1536 0 _ _ _ Ideal.ofBits_zero_f32 rfl, pad_cols 2 1024 512 _ _ _ Ideal.ofBits_zero_f32 rfl, pad_cols 1 512 1024 _ _ _ Ideal.ofBits_zero_f32 rfl,
    pad_cols 0 0 1536 _ _ _ Ideal.ofBits_zero_f32 rfl, v108, v93, v107, v126]
  unfold ObBlocks.dq
  obtain rfl | rfl | rfl | rfl : q = 0 ∨ q = 1 ∨ q = 2 ∨ q = 3 := by revert q; decide
  · rw [if_neg (by decide), if_neg (by decide), if_neg (by decide), if_pos rfl, if_pos rfl, zero_add, zero_add, zero_add]
  · rw [if_neg (by decide), if_neg (by decide), if_pos rfl, if_neg (by decide), if_neg (by decide), if_pos rfl, zero_add, zero_add, add_zero]
  · rw [if_neg (by decide), if_pos rfl, if_neg (by decide), if_neg (by decide), if_neg (by decide), if_neg (by decide), if_pos rfl, zero_add, add_zero, add_zero]
  · rw [if_pos rfl, if_neg (by decide), if_neg (by decide), if_neg (by decide), if_neg (by decide), if_neg (by decide), if_neg (by decide), add_zero, add_zero, add_zero]
end

/-- The kernel's arrays are the reference's. -/
theorem algebraic : Cert.algebraic_ObKernelIdeal_ObReferenceIdeal := by
  pair_intro
  · run_from Cert.ObKernelIdeal.Value.run_blocks m g
  · refine θ_run_mono (Cert.ObReferenceIdeal.Value.run m' g') fun r hr c => ?_
    obtain ⟨e0, e1, e2, e3, e4⟩ := hagree c
    obtain ⟨h0, h1, h2, h3, h⟩ := hr c
    refine ⟨h0.trans ?_, h1.trans ?_, h2.trans ?_, h3.trans ?_, h⟩
    · refine (Cert.ObReferenceIdeal.Read.val_main_v129_eq _).trans ?_
      show Cert.ObReferenceIdeal.Read.val_main_v129 (F := Ideal) (m' ((c.tc : Thread Cert.ObReferenceIdeal.nD Cert.ObReferenceIdeal.τ).loc Cert.ObReferenceIdeal.main_arg0)) (m' ((c.tc : Thread Cert.ObReferenceIdeal.nD Cert.ObReferenceIdeal.τ).loc Cert.ObReferenceIdeal.main_arg1)) (m' ((c.tc : Thread Cert.ObReferenceIdeal.nD Cert.ObReferenceIdeal.τ).loc Cert.ObReferenceIdeal.main_arg2)) (m' ((c.tc : Thread Cert.ObReferenceIdeal.nD Cert.ObReferenceIdeal.τ).loc Cert.ObReferenceIdeal.main_arg3)) (m' ((c.tc : Thread Cert.ObReferenceIdeal.nD Cert.ObReferenceIdeal.τ).loc Cert.ObReferenceIdeal.main_arg4)) = _
      rw [e0, e1, e2, e3, e4]
      exact (ref _ _ _ _ _).trans (final8 m c).symm
    · refine (Cert.ObReferenceIdeal.Read.val_main_v251_eq _).trans ?_
      show Cert.ObReferenceIdeal.Read.val_main_v251 (F := Ideal) (m' ((c.tc : Thread Cert.ObReferenceIdeal.nD Cert.ObReferenceIdeal.τ).loc Cert.ObReferenceIdeal.main_arg0)) (m' ((c.tc : Thread Cert.ObReferenceIdeal.nD Cert.ObReferenceIdeal.τ).loc Cert.ObReferenceIdeal.main_arg1)) (m' ((c.tc : Thread Cert.ObReferenceIdeal.nD Cert.ObReferenceIdeal.τ).loc Cert.ObReferenceIdeal.main_arg3)) = _
      rw [e0, e1, e3]
      exact (v251 _ _ _).trans (final9 m c).symm
    · refine (Cert.ObReferenceIdeal.Read.val_main_v252_eq _).trans ?_
      show Cert.ObReferenceIdeal.Read.val_main_v252 (F := Ideal) (m' ((c.tc : Thread Cert.ObReferenceIdeal.nD Cert.ObReferenceIdeal.τ).loc Cert.ObReferenceIdeal.main_arg0)) (m' ((c.tc : Thread Cert.ObReferenceIdeal.nD Cert.ObReferenceIdeal.τ).loc Cert.ObReferenceIdeal.main_arg1)) (m' ((c.tc : Thread Cert.ObReferenceIdeal.nD Cert.ObReferenceIdeal.τ).loc Cert.ObReferenceIdeal.main_arg2)) = _
      rw [e0, e1, e2]
      exact (v252 _ _ _).trans (final10 m c).symm
    · refine (Cert.ObReferenceIdeal.Read.val_main_v241_eq _).trans ?_
      show Cert.ObReferenceIdeal.Read.val_main_v241 (F := Ideal) (m' ((c.tc : Thread Cert.ObReferenceIdeal.nD Cert.ObReferenceIdeal.τ).loc Cert.ObReferenceIdeal.main_arg0)) (m' ((c.tc : Thread Cert.ObReferenceIdeal.nD Cert.ObReferenceIdeal.τ).loc Cert.ObReferenceIdeal.main_arg1)) = _
      rw [e0, e1]
      exact (v241 _ _).trans (final11 m c).symm

/-- The reference runs, keeps its arguments and leaves every counter at zero. -/
theorem frame_ref : Cert.quiescent_ObReferenceIdeal := fun m ρ _ =>
  (θ_run Cert.ObReferenceIdeal.defs _ _).mono (fun r h => ⟨fun c => (h c).2.2.2.2, sem_eq_zero_of_no_sems (by decide) r.2⟩)
    (Cert.ObReferenceIdeal.Value.run (F := Ideal) m ρ)

end Cert.Proof.ObClaim

end
-- ==== Proof.MfClaim.lean ====
/-
  The memory: its normalisation, the product with the key and value weights, and the keys' normalisation head by head. The
  kernel's four arrays and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.MfKernelIdeal.Value
public import proofs.«01_k».proof.Proof.Gen.MfReferenceIdeal.Read
public import proofs.«01_k».proof.Proof.Gen.MfReferenceIdeal.Run
public import proofs.«01_k».proof.Proof.NormBack
public import proofs.«01_k».proof.Proof.XaFinal

@[expose] public section

set_option maxRecDepth 16384

noncomputable section

namespace Cert.Proof.MfClaim

open Idealize.ShloMosaic Cert.Products Cert.NormBack Cert.XaSpec
open Cert.DhSpec (nrm)
open Cert.XaBlocks (col_inj)
open Cert.XaFinal (hd ln hd_col ln_col ix_split)

/-- Column `c` among the keys' columns, the first half, -/
def kc (c : Fin 512) : Fin 1024 := ⟨c.val, by have := c.isLt; omega⟩
/-- and among the values' columns, the second. -/
def vc (c : Fin 512) : Fin 1024 := ⟨512 + c.val, by have := c.isLt; omega⟩

section
variable (X : Mat 256 1024) (S : Fin 1024 → EReal) (W : Mat 1024 1024) (G : Fin 128 → EReal)

/-- The normalised memory, scaled. -/
def GM : Mat 256 1024 := fun j => X (ix2 (j 0) (j 1)) * nrm (row X (j 0)) * S (j 1)
/-- Its product with the weights. -/
def KV : Mat 256 1024 := nn (GM X S) W
/-- A key: its head's columns normalised and scaled. -/
def kh (s : Fin 256) (h : Fin 4) (d : Fin 128) : EReal := qn (fun d => KV X S W (ix2 s (kc (col h d)))) G d
/-- The keys. -/
def KH : Mat 256 512 := fun j => kh X S W G (j 0) (hd (j 1)) (ln (j 1))
/-- The values. -/
def VH : Mat 256 512 := fun j => KV X S W (ix2 (j 0) (vc (j 1)))

theorem KH_at (s : Fin 256) (h : Fin 4) (d : Fin 128) : KH X S W G (ix2 s (col h d)) = kh X S W G s h d := by
  show kh X S W G s (hd (col h d)) (ln (col h d)) = _
  rw [hd_col, ln_col]
end

section
open Cert.MfKernelIdeal Cert.MfKernelIdeal.Gen
open Idealize.ShloMosaic.TcCoe Idealize.SL.Sem
open Idealize.ShloMosaic.Pipeline (Dat)

section
variable (X : Vec Ideal S256x1024 .f32) (S : Vec Ideal S1x1024 .f32) (W : Vec Ideal S1024x1024 .bf16) (G : Vec Ideal S1x128 .f32)

/-- The scale, as a function of the column. -/
def sr (S : Vec Ideal S1x1024 .f32) : Fin 1024 → EReal := fun l => S (ix2 0 l)

theorem pay3 : k0_pay3 (F := Ideal) X S = GM X (sr S) := by
  funext j
  obtain ⟨i, l, rfl⟩ := ix2_split j
  pointwise [k0_pay3]
  rfl
theorem pay4 : k0_pay4 (F := Ideal) X S W = KV X (sr S) W := by
  funext j
  obtain ⟨i, l, rfl⟩ := ix2_split j
  pointwise [k0_pay4]
  rw [pay3]
  rfl

/-- One head's keys, from its columns of the product; the four stored values are this function. -/
def nh (Y : FVec Ideal S256x128 .f32) : FVec Ideal S256x128 .bf16 :=
  k0_pay1 Y (divf (shapeCast S256x1 (multiReduction .add [1] S256 (mulf Y Y) 0x00000000#32 reduces_S256x128_S256 (.inl rfl) rfl) shapeCasts_S256_S256x1)
    (broadcast S256x1 (Scalar.ofBits (F := Ideal) .f32 0x43000000#32))) (Scalar.ofBits (F := Ideal) .f32 0x358637BD#32) G
theorem nh_at (Y : FVec Ideal S256x128 .f32) (i : Fin 256) (d : Fin 128) :
    nh G Y (ix2 i d) = qn (fun d => Y (ix2 i d)) (fun d => G (ix2 0 d)) d := by
  pointwise [nh, k0_pay1]
  rfl

/-- A head's columns of the product. -/
theorem cut (k : Fin 4) (o : Nat) (ho : o = 128 * k.val) (M : Vec Ideal S256x1024 .f32) (h) (i : Fin 256) (d : Fin 128) :
    extractStridedSlice S256x128 ![0, o] M h (ix2 i d) = M (ix2 i (kc (col k d))) := by
  refine extractStridedSlice_apply _ M h _ _ fun a => ?_
  subst ho
  fin_cases a
  · exact (Nat.zero_add _).symm
  · rfl

theorem head (k : Fin 4) {Y : FVec Ideal S256x128 .f32} (hY : ∀ i d, Y (ix2 i d) = KV X (sr S) W (ix2 i (kc (col k d))))
    (x : S256x128.Idx) (i : Fin 256) (h : Fin 4) (d : Fin 128) (h0 : i.val = (x 0).val) (h1 : (col h d).val = 128 * k.val + (x 1).val) :
    nh G Y x = KH X (sr S) W (fun d => G (ix2 0 d)) (ix2 i (col h d)) := by
  obtain ⟨a, b, rfl⟩ := ix2_split x
  obtain ⟨rfl, rfl⟩ := col_inj (e := b) h1
  obtain rfl : i = a := Fin.ext h0
  rw [nh_at, KH_at]
  simp only [hY]
  rfl

theorem out4 : out0_4 (F := Ideal) X S W G = GM X (sr S) := by
  unfold out0_4
  frame_out
  exact pay3 X S
theorem out5 : out0_5 (F := Ideal) X S W G = KV X (sr S) W := by
  unfold out0_5
  frame_out
  exact pay4 X S W
theorem pay10 : k0_pay10 (F := Ideal) X S W G = KV X (sr S) W := by
  unfold k0_pay10
  frame_out
  exact pay4 X S W
theorem out7 : out0_7 (F := Ideal) X S W G = VH X (sr S) W := by
  unfold out0_7
  rw [pay10]
  frame_out
  funext j
  obtain ⟨i, l, rfl⟩ := ix2_split j
  pointwise [k0_pay2]
  rfl
theorem out6 (q : Fin 256) (h : Fin 4) (d : Fin 128) :
    out0_6 (F := Ideal) X S W G (ix2 q (col h d)) = KH X (sr S) W (fun d => G (ix2 0 d)) (ix2 q (col h d)) := by
  unfold out0_6
  rw [pay10]
  frame_out
  canon_tiles x hx
  case piece0 => exact head X S W G 3 (cut 3 384 rfl _ slices_S256x1024_o0_384_S256x128) x q h d hx0 hx1
  case piece1 => exact head X S W G 2 (cut 2 256 rfl _ slices_S256x1024_o0_256_S256x128) x q h d hx0 hx1
  case piece2 => exact head X S W G 1 (cut 1 128 rfl _ slices_S256x1024_o0_128_S256x128) x q h d hx0 hx1
  case piece3 =>
    rw [show k0_pay5 (F := Ideal) X S W G = nh G (extractStridedSlice S256x128 ![0, 0] (k0_pay4 (F := Ideal) X S W) slices_S256x1024_o0_0_S256x128) from rfl, pay4]
    exact head X S W G 0 (cut 0 0 rfl _ slices_S256x1024_o0_0_S256x128) x q h d hx0 (hx1.trans (Nat.zero_add _).symm)
end

variable (m : (ℓ : Loc nD τ sig) → Buf (Elt Ideal) ℓ) (c : Dev nD)

/-- The memory. -/
abbrev Xa : Vec Ideal S256x1024 .f32 := m ((c : Thread nD τ).loc main_arg0)
/-- The scale. -/
abbrev Sa : Fin 1024 → EReal := fun l => m ((c : Thread nD τ).loc main_arg1) (ix1 l)
/-- The weights. -/
abbrev Wa : Vec Ideal S1024x1024 .bf16 := m ((c : Thread nD τ).loc main_arg2)
/-- The keys' scale. -/
abbrev Ga : Fin 128 → EReal := fun d => m ((c : Thread nD τ).loc main_arg3) (ix1 d)

/-- The windows' block indices (decided). -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem iblk0 (t : Fin cfg0.N) : iblk m c 0 t = Xa m c := by
  blk_ext! [iblk, V, idx t]
theorem iblk1 (t : Fin cfg0.N) (u : Fin 1) (l : Fin 1024) : iblk m c 1 t (ix2 u l) = Sa m c l := by
  blk_ext! [iblk, V, idx t]
theorem iblk2 (t : Fin cfg0.N) : iblk m c 2 t = Wa m c := by
  blk_ext! [iblk, V, idx t]
theorem iblk3 (t : Fin cfg0.N) (u : Fin 1) (d : Fin 128) : iblk m c 3 t (ix2 u d) = Ga m c d := by
  blk_ext! [iblk, V, idx t]
theorem sr_blk (t : Fin cfg0.N) : sr (iblk m c 1 t) = Sa m c := funext fun l => iblk1 m c t 0 l
theorem gr_blk (t : Fin cfg0.N) : (fun d => iblk m c 3 t (ix2 0 d)) = Ga m c := funext fun d => iblk3 m c t 0 d

theorem final4 : (dats m 0 c).arrAt 4 cfg0.N = GM (Xa m c) (Sa m c) := by
  refine (dats m 0 c).arrAt_eq_of_covers 4 _ (by decide +kernel) fun t hf y => ?_
  blk_simp
  rw [after0_4, out4, iblk0, sr_blk]
  obtain ⟨i, l, rfl⟩ := ix2_split y
  exact congrArg _ (show ix2 i l = (win0_4.blk t).view.emb (ix2 i l) by blk_ext [idx t])
theorem final5 : (dats m 0 c).arrAt 5 cfg0.N = KV (Xa m c) (Sa m c) (Wa m c) := by
  refine (dats m 0 c).arrAt_eq_of_covers 5 _ (by decide +kernel) fun t hf y => ?_
  blk_simp
  rw [after0_5, out5, iblk0, iblk2, sr_blk]
  obtain ⟨i, l, rfl⟩ := ix2_split y
  exact congrArg _ (show ix2 i l = (win0_5.blk t).view.emb (ix2 i l) by blk_ext [idx t])
theorem final6 : (dats m 0 c).arrAt 6 cfg0.N = KH (Xa m c) (Sa m c) (Wa m c) (Ga m c) := by
  refine (dats m 0 c).arrAt_eq_of_covers 6 _ (by decide +kernel) fun t hf y => ?_
  blk_simp
  rw [after0_6]
  obtain ⟨i, h, d, rfl⟩ := ix_split y
  refine (out6 _ _ _ _ i h d).trans ?_
  rw [iblk0, iblk2, sr_blk, gr_blk]
  exact congrArg _ (show ix2 i (col h d) = (win0_6.blk t).view.emb (ix2 i (col h d)) by blk_ext [idx t])
theorem final7 : (dats m 0 c).arrAt 7 cfg0.N = VH (Xa m c) (Sa m c) (Wa m c) := by
  refine (dats m 0 c).arrAt_eq_of_covers 7 _ (by decide +kernel) fun t hf y => ?_
  blk_simp
  rw [after0_7, out7, iblk0, iblk2, sr_blk]
  obtain ⟨i, l, rfl⟩ := ix2_split y
  exact congrArg _ (show ix2 i l = (win0_7.blk t).view.emb (ix2 i l) by blk_ext [idx t])
end

section
open Cert.MfReferenceIdeal Cert.MfReferenceIdeal.Gen Cert.MfReferenceIdeal.Read
variable (x0 : Vec Ideal S256x1024 .f32) (x1 : Vec Ideal S1024 .f32) (x2 : Vec Ideal S1024x1024 .bf16) (x3 : Vec Ideal S128 .f32)

theorem v13 : val_main_v13 (F := Ideal) x0 x1 = GM x0 fun l => x1 (ix1 l) := by
  funext j
  obtain ⟨s, l, rfl⟩ := ix2_split j
  pointwise [val_main_v13, val_main_v12, val_main_v11, val_main_v10, val_main_v9, val_main_v8, val_main_v7, val_main_v6, val_main_cst_1, val_main_v5, val_main_v4, val_main_cst_0, val_main_v3, val_main_v2, val_main_cst, val_main_v1]
  rfl
theorem v32 : val_main_v32 (F := Ideal) x0 x1 = GM x0 fun l => x1 (ix1 l) := v13 x0 x1
theorem v14 : val_main_v14 (F := Ideal) x0 x1 x2 = KV x0 (fun l => x1 (ix1 l)) x2 := by
  funext j
  obtain ⟨s, l, rfl⟩ := ix2_split j
  pointwise [val_main_v14, val_main_v0]
  rw [v13]
  rfl
theorem v16 (s : Fin 256) (h : Fin 4) (d : Fin 128) :
    val_main_v16 (F := Ideal) x0 x1 x2 (ix3 s h d) = KV x0 (fun l => x1 (ix1 l)) x2 (ix2 s (kc (col h d))) := by
  rw [val_main_v16_apply, val_main_v15_apply, v14]
  refine congrArg _ (funext fun a => Fin.ext ?_)
  have := d.isLt; have := h.isLt
  fin_cases a
  · show ((s.val * 4 + h.val) * 128 + d.val) / 512 = s.val; omega
  · show ((s.val * 4 + h.val) * 128 + d.val) % 512 = 128 * h.val + d.val; omega
theorem v24 (s : Fin 256) (h : Fin 4) (u : Fin 1) :
    val_main_v24 (F := Ideal) x0 x1 x2 (ix3 s h u) = rs fun d => KV x0 (fun l => x1 (ix1 l)) x2 (ix2 s (kc (col h d))) := by
  pointwise [val_main_v24, val_main_v23, val_main_v22, val_main_cst_4, val_main_v21, val_main_v20, val_main_cst_3, val_main_v19, val_main_v18, val_main_cst_2, val_main_v17]
  simp only [v16]
  rfl
theorem v29 (s : Fin 256) (h : Fin 4) (d : Fin 128) : val_main_v29 (F := Ideal) x0 x1 x2 x3 (ix3 s h d)
    = qn (fun d => KV x0 (fun l => x1 (ix1 l)) x2 (ix2 s (kc (col h d)))) (fun d => x3 (ix1 d)) d := by
  pointwise [val_main_v29, val_main_v28, val_main_v27, val_main_v26, val_main_v25]
  rw [v16, v24]
  rfl
theorem v33 : val_main_v33 (F := Ideal) x0 x1 x2 x3 = KH x0 (fun l => x1 (ix1 l)) x2 fun d => x3 (ix1 d) := by
  funext j
  obtain ⟨s, h, d, rfl⟩ := ix_split j
  rw [KH_at]
  refine Eq.trans ?_ (v29 x0 x1 x2 x3 s h d)
  show val_main_v30 (F := Ideal) x0 x1 x2 x3 _ = _
  rw [val_main_v30_apply]
  refine congrArg (val_main_v29 (F := Ideal) x0 x1 x2 x3) (funext fun a => Fin.ext ?_)
  have := d.isLt; have := h.isLt
  fin_cases a
  · show (s.val * 512 + (128 * h.val + d.val)) / 512 = s.val; omega
  · show (s.val * 512 + (128 * h.val + d.val)) / 128 % 4 = h.val; omega
  · show (s.val * 512 + (128 * h.val + d.val)) % 128 = d.val; omega
theorem v34 : val_main_v34 (F := Ideal) x0 x1 x2 = VH x0 (fun l => x1 (ix1 l)) x2 := by
  funext j
  obtain ⟨s, l, rfl⟩ := ix2_split j
  show val_main_v31 (F := Ideal) x0 x1 x2 _ = _
  rw [val_main_v31_apply, v14]
  refine congrArg _ (funext fun a => ?_)
  fin_cases a <;> rfl
end

/-- The kernel's arrays are the reference's. -/
theorem algebraic : Cert.algebraic_MfKernelIdeal_MfReferenceIdeal := by
  pair_intro
  · run_from Cert.MfKernelIdeal.Value.run_blocks m g
  · run_from Cert.MfReferenceIdeal.Value.run m' g'
    · exact ((Cert.MfReferenceIdeal.Read.val_main_v32_eq _ _).trans (v32 _ _)).trans (final4 m c).symm
    · exact ((Cert.MfReferenceIdeal.Read.val_main_v14_eq _ _ _).trans (v14 _ _ _)).trans (final5 m c).symm
    · exact ((Cert.MfReferenceIdeal.Read.val_main_v33_eq _ _ _ _).trans (v33 _ _ _ _)).trans (final6 m c).symm
    · exact ((Cert.MfReferenceIdeal.Read.val_main_v34_eq _ _ _).trans (v34 _ _ _)).trans (final7 m c).symm

/-- The reference runs, keeps its arguments and leaves every counter at zero. -/
theorem frame_ref : Cert.quiescent_MfReferenceIdeal := fun m ρ _ =>
  (θ_run Cert.MfReferenceIdeal.defs _ _).mono (fun r h => ⟨fun c => (h c).2.2.2.2, sem_eq_zero_of_no_sems (by decide) r.2⟩)
    (Cert.MfReferenceIdeal.Value.run (F := Ideal) m ρ)

end Cert.Proof.MfClaim

end
-- ==== Proof.MbClaim.lean ====
/-
  The memory's gradients: the keys' gradient through their normalisation head by head, joined with the values' gradient; the
  weights' gradient; the gradient passed back through the weights, and what it leaves in the memory's scale. The kernel's
  three arrays and the reference's are equal.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.MbKernelIdeal.Value
public import proofs.«01_k».proof.Proof.Gen.MbReferenceIdeal.Read
public import proofs.«01_k».proof.Proof.Gen.MbReferenceIdeal.Run
public import proofs.«01_k».proof.Proof.MfClaim
public import proofs.«01_k».proof.Proof.Windows
public import proofs.«01_k».proof.Proof.XaRefB

@[expose] public section

set_option maxRecDepth 16384

noncomputable section

namespace Cert.Proof.MbClaim

open Idealize.ShloMosaic Cert.Products Cert.NormBack Cert.XaSpec Cert.Reals
open Cert.DhSpec (nrm)
open Cert.XaFinal (hd ln hd_col ln_col col_hd ix_split)
open Cert.Proof.MfClaim (kc vc)
open Cert.Windows (ld_at)
open Cert.XaRef (sum_lead)

/-- The gradient of one head's key `x` under the gradient `y` of the normalised key, as the kernel writes it, -/
def gk (x y : Fin 128 → EReal) (d : Fin 128) : EReal :=
  rs x * (y d - qh x d * Ideal.div (∑ j, y j * qh x j) (Ideal.ofBits .f32 0x43000000#32))
/-- the part of it through the root, as differentiation writes it, -/
def rt (x y : Fin 128 → EReal) : EReal :=
  Ideal.div ((∑ d, x d * y d) * (Ideal.ofBits .f32 0xBF000000#32 * Ideal.div (rs x) (ms x))) (Ideal.ofBits .f32 0x43000000#32)
/-- and the sum differentiation writes. -/
theorem gk_eq (x y : Fin 128 → EReal) (d : Fin 128) : gk x y d = y d * rs x + x d * rt x y + rt x y * x d := by
  obtain ⟨e, he, hE⟩ := ofBits_eps
  have := norm_grad (N := 128) (by norm_num) he x y d
  unfold gk rt qh rs ms
  rw [ofBits_128, ofBits_neg_half, hE]
  exact this

section
variable (X M K : Mat 256 1024) (D V : Mat 256 512) (G : Fin 128 → EReal) (W : Mat 1024 1024)

/-- A head's key, -/
def kx (s : Fin 256) (h : Fin 4) : Fin 128 → EReal := fun d => K (ix2 s (kc (col h d)))
/-- and the gradient of its normalised form. -/
def dy (s : Fin 256) (h : Fin 4) : Fin 128 → EReal := fun d => D (ix2 s (col h d)) * G d
/-- The gradient of a key's column. -/
def gc (s : Fin 256) (c : Fin 512) : EReal := gk (kx K s (hd c)) (dy D G s (hd c)) (ln c)
/-- The gradient of the keys and the values, side by side. -/
def DKV : Mat 256 1024 := fun j =>
  if h : (j 1).val < 512 then gc K D G (j 0) ⟨(j 1).val, h⟩ else V (ix2 (j 0) (⟨(j 1).val - 512, by have := (j 1).isLt; change (j 1).val < 1024 at this; omega⟩ : Fin 512))
/-- The weights' gradient, -/
def DW : Mat 1024 1024 := tn M (DKV K D V G)
/-- the memory scale's, -/
def DM : Mat 1 1024 := fun j => ∑ s : Fin 256, nt (DKV K D V G) W (ix2 s (j 1)) * (X (ix2 s (j 1)) * nrm (row X s))
/-- and the keys' scale's. -/
def DG : Mat 1 128 := fun j => ∑ h : Fin 4, ∑ s : Fin 256, D (ix2 s (col h (j 1))) * qh (kx K s h) (j 1)

/-- An array with the keys' gradient in its first half and the values' in its second. -/
theorem eq_DKV (f : Mat 256 1024) (hk : ∀ s h d, f (ix2 s (kc (col h d))) = gk (kx K s h) (dy D G s h) d)
    (hv : ∀ s c, f (ix2 s (vc c)) = V (ix2 s c)) : f = DKV K D V G := by
  funext j
  obtain ⟨s, l, rfl⟩ := ix2_split j
  by_cases h : l.val < 512
  · have e : DKV K D V G (ix2 s l) = gc K D G s ⟨l.val, h⟩ := dif_pos h
    rw [e]
    refine Eq.trans (congrArg (fun l => f (ix2 s l)) (?_ : l = kc (col (hd ⟨l.val, h⟩) (ln ⟨l.val, h⟩)))) (hk s _ _)
    rw [← col_hd]
    rfl
  · have e : DKV K D V G (ix2 s l) = V (ix2 s (⟨l.val - 512, by have := l.isLt; omega⟩ : Fin 512)) := dif_neg h
    rw [e, ← hv]
    exact congrArg (fun l => f (ix2 s l)) (Fin.ext (by show l.val = 512 + (l.val - 512); omega))
end

section
open Cert.MbKernelIdeal Cert.MbKernelIdeal.Gen
open Idealize.ShloMosaic.TcCoe Idealize.SL.Sem
open Idealize.ShloMosaic.Pipeline (Dat)

/-- One head's gradient from its columns; the four joined arrays are this function. -/
theorem hg_at (G : Vec Ideal S1x128 .f32) (Y D : Vec Ideal S256x128 .f32) (i : Fin 256) (d : Fin 128) :
    k0_pay6 (F := Ideal) G Y D (ix2 i d) = gk (fun d => Y (ix2 i d)) (fun d => D (ix2 i d) * G (ix2 0 d)) d := by
  pointwise [k0_pay6, k0_pay2, k0_pay4, k0_pay3]
  rfl

/-- The joined array, at a head's columns -/
theorem cat_k (A : Fin 4 → FVec Ideal S256x128 .f32) (V : FVec Ideal S256x512 .f32) (s : Fin 256) (k : Fin 4) (d : Fin 128) :
    concatenate S256x1024 1 [⟨S256x128, A 0⟩, ⟨S256x128, A 1⟩, ⟨S256x128, A 2⟩, ⟨S256x128, A 3⟩, ⟨S256x512, V⟩]
      concatenates_S256x128_S256x128_S256x128_S256x128_S256x512_S256x1024_d1 (ix2 s (kc (col k d))) = A k (ix2 s d) := by
  refine concatenate_apply_piece (t := S256x1024) 1 [⟨S256x128, A 0⟩, ⟨S256x128, A 1⟩, ⟨S256x128, A 2⟩, ⟨S256x128, A 3⟩, ⟨S256x512, V⟩]
    concatenates_S256x128_S256x128_S256x128_S256x128_S256x512_S256x1024_d1 _ k.val
    (by have := k.isLt; show k.val < 5; omega) S256x128 (A k) ?_ rfl (128 * k.val) ?_ (ix2 s d) (fun b hb => ?_) rfl
  · fin_cases k <;> rfl
  · fin_cases k <;> rfl
  · fin_cases b
    · rfl
    · exact absurd rfl hb
/-- and past them. -/
theorem cat_v (A : Fin 4 → FVec Ideal S256x128 .f32) (V : FVec Ideal S256x512 .f32) (s : Fin 256) (c : Fin 512) :
    concatenate S256x1024 1 [⟨S256x128, A 0⟩, ⟨S256x128, A 1⟩, ⟨S256x128, A 2⟩, ⟨S256x128, A 3⟩, ⟨S256x512, V⟩]
      concatenates_S256x128_S256x128_S256x128_S256x128_S256x512_S256x1024_d1 (ix2 s (vc c)) = V (ix2 s c) := by
  refine concatenate_apply_piece (t := S256x1024) 1 [⟨S256x128, A 0⟩, ⟨S256x128, A 1⟩, ⟨S256x128, A 2⟩, ⟨S256x128, A 3⟩, ⟨S256x512, V⟩]
    concatenates_S256x128_S256x128_S256x128_S256x128_S256x512_S256x1024_d1 _ 4
    (by show 4 < 5; decide) S256x512 V rfl rfl 512 rfl (ix2 s c) (fun b hb => ?_) rfl
  fin_cases b
  · rfl
  · exact absurd rfl hb

section
variable (x0 : Vec Ideal S256x1024 .f32) (x1 : Vec Ideal S1x1024 .f32) (x2 : Vec Ideal S256x1024 .bf16) (x3 : Vec Ideal S256x1024 .f32)
  (x4 : Vec Ideal S1x128 .f32) (x5 x6 : Vec Ideal S256x512 .f32) (x7 : Vec Ideal S1024x1024 .bf16)

/-- A head's columns of the keys and the values, -/
theorem cutK (k : Fin 4) (o : Nat) (ho : o = 128 * k.val) (inb) (s : Fin 256) (d : Fin 128) :
    View.ld x3 (Rect.unit (s := S256x1024) ![0, o] S256x128.size inb) (ix2 s d) = kx x3 s k d :=
  ld_at x3 0 o inb s d s (kc (col k d)) (Nat.zero_add _).symm (by subst ho; rfl)
/-- and of the gradient of the normalised keys. -/
theorem cutD (k : Fin 4) (o : Nat) (ho : o = 128 * k.val) (inb) (s : Fin 256) (d : Fin 128) :
    View.ld x5 (Rect.unit (s := S256x512) ![0, o] S256x128.size inb) (ix2 s d) = x5 (ix2 s (col k d)) :=
  ld_at x5 0 o inb s d s (col k d) (Nat.zero_add _).symm (by subst ho; rfl)

/-- The keys' columns by head, -/
def Yk : Fin 4 → Vec Ideal S256x128 .f32 := ![View.ld x3 r0_1, View.ld x3 r0_3, View.ld x3 r0_5, View.ld x3 r0_7]
/-- and the gradient's. -/
def Dk : Fin 4 → Vec Ideal S256x128 .f32 := ![View.ld x5 r0_2, View.ld x5 r0_4, View.ld x5 r0_6, View.ld x5 r0_8]
theorem Yk_at (k : Fin 4) (s : Fin 256) (d : Fin 128) : Yk x3 k (ix2 s d) = kx x3 s k d := by
  fin_cases k
  · exact cutK x3 0 0 rfl inb_S256x1024_S256x128_0_0 s d
  · exact cutK x3 1 128 rfl inb_S256x1024_S256x128_0_128 s d
  · exact cutK x3 2 256 rfl inb_S256x1024_S256x128_0_256 s d
  · exact cutK x3 3 384 rfl inb_S256x1024_S256x128_0_384 s d
theorem Dk_at (k : Fin 4) (s : Fin 256) (d : Fin 128) : Dk x5 k (ix2 s d) = x5 (ix2 s (col k d)) := by
  fin_cases k
  · exact cutD x5 0 0 rfl inb_S256x512_S256x128_0_0 s d
  · exact cutD x5 1 128 rfl inb_S256x512_S256x128_0_128 s d
  · exact cutD x5 2 256 rfl inb_S256x512_S256x128_0_256 s d
  · exact cutD x5 3 384 rfl inb_S256x512_S256x128_0_384 s d

/-- The keys' scale, as a function of the column. -/
def gr : Fin 128 → EReal := fun d => x4 (ix2 0 d)

/-- The joined array, -/
def joined : FVec Ideal S256x1024 .f32 :=
  concatenate S256x1024 1 [⟨S256x128, k0_pay6 (F := Ideal) x4 (Yk x3 0) (Dk x5 0)⟩, ⟨S256x128, k0_pay6 (F := Ideal) x4 (Yk x3 1) (Dk x5 1)⟩,
    ⟨S256x128, k0_pay6 (F := Ideal) x4 (Yk x3 2) (Dk x5 2)⟩, ⟨S256x128, k0_pay6 (F := Ideal) x4 (Yk x3 3) (Dk x5 3)⟩, ⟨S256x512, x6⟩]
    concatenates_S256x128_S256x128_S256x128_S256x128_S256x512_S256x1024_d1
theorem joined_eq : joined x3 x4 x5 x6 = DKV x3 x5 x6 (gr x4) := by
  refine eq_DKV _ _ _ _ _ (fun s k d => ?_) fun s c => ?_
  · refine (cat_k (fun k => k0_pay6 (F := Ideal) x4 (Yk x3 k) (Dk x5 k)) x6 s k d).trans ((hg_at x4 _ _ s d).trans ?_)
    simp only [Yk_at, Dk_at]
    rfl
  · exact cat_v (fun k => k0_pay6 (F := Ideal) x4 (Yk x3 k) (Dk x5 k)) x6 s c
/-- as the body joins it. -/
theorem pay17 : k0_pay17 (F := Ideal) (k0_pay2 x4) (k0_pay6 x4 (View.ld x3 r0_1) (View.ld x5 r0_2))
    (k0_pay9 (k0_pay2 x4) (k0_pay7 (View.ld x3 r0_3)) (k0_pay8 (View.ld x3 r0_3)) (View.ld x5 r0_4))
    (k0_pay13 (k0_pay2 x4) (View.ld x3 r0_5) (View.ld x5 r0_6)) (View.ld x3 r0_7) (View.ld x5 r0_8) x6 = DKV x3 x5 x6 (gr x4) :=
  (show _ = joined x3 x4 x5 x6 from rfl).trans (joined_eq x3 x4 x5 x6)

theorem out8 : out0_8 (F := Ideal) x0 x1 x2 x3 x4 x5 x6 x7 = DW x2 x3 x5 x6 (gr x4) := by
  unfold_out out0_8
  frame_out
  funext j
  obtain ⟨i, l, rfl⟩ := ix2_split j
  pointwise [k0_pay18]
  rw [pay17]
  rfl
theorem out10 (u : Fin 1) (l : Fin 1024) : out0_10 (F := Ideal) x0 x1 x2 x3 x4 x5 x6 x7 (ix2 u l) = DM x0 x3 x5 x6 (gr x4) x7 (ix2 u l) := by
  unfold_out out0_10
  frame_out
  pointwise [k0_pay1, k0_pay19]
  rw [pay17]
  rfl

/-- The keys' scale's gradient, head by head. -/
theorem scale_at (Y D : Fin 4 → Vec Ideal S256x128 .f32) (u : Fin 1) (d : Fin 128) :
    k0_pay16 (F := Ideal) (k0_pay12 (k0_pay5 (Y 0) (D 0)) (k0_pay8 (Y 1)) (D 1) (Y 2) (D 2)) (Y 3) (D 3) (ix2 u d)
      = ∑ h : Fin 4, ∑ s : Fin 256, D h (ix2 s d) * qh (fun d => Y h (ix2 s d)) d := by
  rw [Fin.sum_univ_four]
  pointwise [k0_pay16, k0_pay12, k0_pay5, k0_pay8, k0_pay7, k0_pay4, k0_pay3, k0_pay11, k0_pay10, k0_pay15, k0_pay14]
  rfl
theorem out9 (u : Fin 1) (d : Fin 128) : out0_9 (F := Ideal) x0 x1 x2 x3 x4 x5 x6 x7 (ix2 u d) = DG x3 x5 (ix2 u d) := by
  unfold_out out0_9
  frame_out
  refine (scale_at (Yk x3) (Dk x5) u d).trans ?_
  simp only [Yk_at, Dk_at]
  rfl
end

variable (m : (ℓ : Loc nD τ sig) → Buf (Elt Ideal) ℓ) (c : Dev nD)

/-- The memory, -/
abbrev Xa : Vec Ideal S256x1024 .f32 := m ((c : Thread nD τ).loc main_arg0)
/-- its normalised form, -/
abbrev Ma : Vec Ideal S256x1024 .bf16 := m ((c : Thread nD τ).loc main_arg2)
/-- the keys and the values, -/
abbrev Ka : Vec Ideal S256x1024 .f32 := m ((c : Thread nD τ).loc main_arg3)
/-- the keys' scale, -/
abbrev Ga : Fin 128 → EReal := fun d => m ((c : Thread nD τ).loc main_arg4) (ix1 d)
/-- the gradient of the normalised keys, -/
abbrev Da : Vec Ideal S256x512 .f32 := m ((c : Thread nD τ).loc main_arg5)
/-- that of the values, -/
abbrev Va : Vec Ideal S256x512 .f32 := m ((c : Thread nD τ).loc main_arg6)
/-- and the weights. -/
abbrev Wa : Vec Ideal S1024x1024 .bf16 := m ((c : Thread nD τ).loc main_arg7)

/-- The windows' block indices (decided). -/
theorem idx : ∀ t : Fin cfg0.N, win0_0.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

theorem iblk0 (t : Fin cfg0.N) : iblk m c 0 t = Xa m c := by
  blk_ext! [iblk, V, idx t]
theorem iblk2 (t : Fin cfg0.N) : iblk m c 2 t = Ma m c := by
  blk_ext! [iblk, V, idx t]
theorem iblk3 (t : Fin cfg0.N) : iblk m c 3 t = Ka m c := by
  blk_ext! [iblk, V, idx t]
theorem iblk4 (t : Fin cfg0.N) (u : Fin 1) (d : Fin 128) : iblk m c 4 t (ix2 u d) = Ga m c d := by
  blk_ext! [iblk, V, idx t]
theorem iblk5 (t : Fin cfg0.N) : iblk m c 5 t = Da m c := by
  blk_ext! [iblk, V, idx t]
theorem iblk6 (t : Fin cfg0.N) : iblk m c 6 t = Va m c := by
  blk_ext! [iblk, V, idx t]
theorem iblk7 (t : Fin cfg0.N) : iblk m c 7 t = Wa m c := by
  blk_ext! [iblk, V, idx t]
theorem gr_blk (t : Fin cfg0.N) : gr (iblk m c 4 t) = Ga m c := funext fun d => iblk4 m c t 0 d

theorem final8 : (dats m 0 c).arrAt 8 cfg0.N = DW (Ma m c) (Ka m c) (Da m c) (Va m c) (Ga m c) := by
  refine (dats m 0 c).arrAt_eq_of_covers 8 _ (by decide +kernel) fun t hf y => ?_
  blk_simp
  rw [after0_8, out8, iblk2, iblk3, iblk5, iblk6, gr_blk]
  obtain ⟨i, l, rfl⟩ := ix2_split y
  exact congrArg _ (show ix2 i l = (win0_8.blk t).view.emb (ix2 i l) by blk_ext [idx t])
theorem final9 : (dats m 0 c).arrAt 9 cfg0.N = DG (Ka m c) (Da m c) := by
  refine (dats m 0 c).arrAt_eq_of_covers 9 _ (by decide +kernel) fun t hf y => ?_
  blk_simp
  rw [after0_9]
  obtain ⟨u, d, rfl⟩ := ix2_split y
  refine (out9 _ _ _ _ _ _ _ _ u d).trans ?_
  rw [iblk3, iblk5]
  exact congrArg _ (show ix2 u d = (win0_9.blk t).view.emb (ix2 u d) by blk_ext [idx t])
theorem final10 : (dats m 0 c).arrAt 10 cfg0.N = DM (Xa m c) (Ka m c) (Da m c) (Va m c) (Ga m c) (Wa m c) := by
  refine (dats m 0 c).arrAt_eq_of_covers 10 _ (by decide +kernel) fun t hf y => ?_
  blk_simp
  rw [after0_10]
  obtain ⟨u, l, rfl⟩ := ix2_split y
  refine (out10 _ _ _ _ _ _ _ _ u l).trans ?_
  rw [iblk0, iblk3, iblk5, iblk6, iblk7, gr_blk]
  exact congrArg _ (show ix2 u l = (win0_10.blk t).view.emb (ix2 u l) by blk_ext [idx t])
end

section
open Cert.MbReferenceIdeal Cert.MbReferenceIdeal.Gen Cert.MbReferenceIdeal.Read
variable (x0 : Vec Ideal S256x1024 .f32) (x2 : Vec Ideal S256x1024 .bf16) (x3 : Vec Ideal S256x1024 .f32)
  (x4 : Vec Ideal S128 .f32) (x5 x6 : Vec Ideal S256x512 .f32) (x7 : Vec Ideal S1024x1024 .bf16)

/-- The keys' scale. -/
abbrev gs : Fin 128 → EReal := fun d => x4 (ix1 d)

theorem v1 (s : Fin 256) (h : Fin 4) (d : Fin 128) : val_main_v1 (F := Ideal) x3 (ix3 s h d) = kx x3 s h d := by
  rw [val_main_v1_apply, val_main_v0_apply]
  refine congrArg x3 (funext fun a => Fin.ext ?_)
  have := d.isLt; have := h.isLt
  fin_cases a
  · show ((s.val * 4 + h.val) * 128 + d.val) / 512 = s.val; omega
  · show ((s.val * 4 + h.val) * 128 + d.val) % 512 = 128 * h.val + d.val; omega
theorem v19 (s : Fin 256) (h : Fin 4) (d : Fin 128) : val_main_v19 (F := Ideal) x5 (ix3 s h d) = x5 (ix2 s (col h d)) := by
  rw [val_main_v19_apply]
  refine congrArg x5 (funext fun a => Fin.ext ?_)
  have := d.isLt; have := h.isLt
  fin_cases a
  · show ((s.val * 4 + h.val) * 128 + d.val) / 512 = s.val; omega
  · show ((s.val * 4 + h.val) * 128 + d.val) % 512 = 128 * h.val + d.val; omega
theorem v8 (s : Fin 256) (h : Fin 4) (u : Fin 1) : val_main_v8 (F := Ideal) x3 (ix3 s h u) = ms (kx x3 s h) := by
  pointwise [val_main_v8, val_main_v7, val_main_cst_1, val_main_v6, val_main_v5, val_main_cst_0, val_main_v4, val_main_v3, val_main_cst, val_main_v2]
  simp only [v1]
  rfl
theorem v9 (s : Fin 256) (h : Fin 4) (u : Fin 1) : val_main_v9 (F := Ideal) x3 (ix3 s h u) = rs (kx x3 s h) := by
  pointwise [val_main_v9]
  rw [v8]
  rfl
theorem v12 (s : Fin 256) (h : Fin 4) (u : Fin 1) : val_main_v12 (F := Ideal) x3 (ix3 s h u)
    = Ideal.ofBits .f32 0xBF000000#32 * Ideal.div (rs (kx x3 s h)) (ms (kx x3 s h)) := by
  pointwise [val_main_v12, val_main_v11, val_main_cst_2, val_main_v10]
  rw [v8, v9]
theorem v20 (s : Fin 256) (h : Fin 4) (d : Fin 128) : val_main_v20 (F := Ideal) x3 x5 (ix3 s h d)
    = x5 (ix2 s (col h d)) * qh (kx x3 s h) d := by
  pointwise [val_main_v20, val_main_v14, val_main_v13]
  rw [v1, v19, v9, mul_comm]
  rfl
theorem v24 (s : Fin 256) (h : Fin 4) (d : Fin 128) : val_main_v24 (F := Ideal) x4 x5 (ix3 s h d) = dy x5 (gs x4) s h d := by
  pointwise [val_main_v24, val_main_v23, val_main_v15]
  rw [v19]
  rfl
theorem v33 (s : Fin 256) (h : Fin 4) (u : Fin 1) : val_main_v33 (F := Ideal) x3 x4 x5 (ix3 s h u) = rt (kx x3 s h) (dy x5 (gs x4) s h) := by
  pointwise [val_main_v33, val_main_v32, val_main_cst_6, val_main_v31, val_main_v28, val_main_v27, val_main_cst_5, val_main_v26]
  simp only [v1, v24, v12]
  rfl
theorem v35 (s : Fin 256) (h : Fin 4) (d : Fin 128) : val_main_v35 (F := Ideal) x3 x4 x5 (ix3 s h d) = rt (kx x3 s h) (dy x5 (gs x4) s h) := by
  pointwise [val_main_v35, val_main_v34, val_main_cst_7]
  rw [Fin.sum_univ_one]
  exact v33 x3 x4 x5 s h 0
theorem v39 (s : Fin 256) (h : Fin 4) (d : Fin 128) : val_main_v39 (F := Ideal) x3 x4 x5 (ix3 s h d) = gk (kx x3 s h) (dy x5 (gs x4) s h) d := by
  pointwise [val_main_v39, val_main_v38, val_main_v37, val_main_v36, val_main_v30, val_main_v29]
  rw [v1, v24, v35, v9, gk_eq]

theorem v41 : val_main_v41 (F := Ideal) x3 x4 x5 x6 = DKV x3 x5 x6 (gs x4) := by
  unfold val_main_v41
  refine eq_DKV _ _ _ _ _ (fun s h d => ?_) fun s l => ?_
  · refine (concatenate_pair_apply_left 1 _ _ concatenates_S256x512_S256x512_S256x1024_d1 (ix2 s (kc (col h d))) rfl (ix2 s (col h d)) fun b => ?_).trans ?_
    · fin_cases b <;> rfl
    · rw [val_main_v40_apply, ← v39]
      refine congrArg _ (funext fun a => Fin.ext ?_)
      have := d.isLt; have := h.isLt
      fin_cases a
      · show (s.val * 512 + (128 * h.val + d.val)) / 512 = s.val; omega
      · show (s.val * 512 + (128 * h.val + d.val)) / 128 % 4 = h.val; omega
      · show (s.val * 512 + (128 * h.val + d.val)) % 128 = d.val; omega
  · refine concatenate_pair_apply_right 1 _ _ concatenates_S256x512_S256x512_S256x1024_d1 (ix2 s (vc l)) rfl rfl (ix2 s l) (fun b hb => ?_) ?_
    · fin_cases b
      · rfl
      · exact absurd rfl hb
    · exact Nat.add_comm l.val 512

theorem v46 : val_main_v46 (F := Ideal) x2 x3 x4 x5 x6 = DW x2 x3 x5 x6 (gs x4) := by
  funext j
  obtain ⟨i, l, rfl⟩ := ix2_split j
  pointwise [val_main_v46, val_main_v45, val_main_v42]
  rw [v41]
  exact tn_comm x2 (DKV x3 x5 x6 (gs x4)) i l
theorem v47 : val_main_v47 (F := Ideal) x3 x4 x5 x6 x7 = nt (DKV x3 x5 x6 (gs x4)) x7 := by
  funext j
  obtain ⟨i, l, rfl⟩ := ix2_split j
  pointwise [val_main_v47, val_main_v43]
  rw [v41]
  rfl
theorem v61 (s : Fin 256) (l : Fin 1024) : val_main_v61 (F := Ideal) x0 x3 x4 x5 x6 x7 (ix2 s l)
    = nt (DKV x3 x5 x6 (gs x4)) x7 (ix2 s l) * (x0 (ix2 s l) * nrm (row x0 s)) := by
  pointwise [val_main_v61, val_main_v57, val_main_v56, val_main_v55, val_main_v54, val_main_v53, val_main_cst_10, val_main_v52, val_main_v51, val_main_cst_9, val_main_v50, val_main_v49, val_main_cst_8, val_main_v48]
  rw [v47, mul_comm]
  rfl
theorem v66 : val_main_v66 (F := Ideal) x0 x3 x4 x5 x6 x7 = DM x0 x3 x5 x6 (gs x4) x7 := by
  funext j
  obtain ⟨u, l, rfl⟩ := ix2_split j
  obtain rfl := Subsingleton.elim u 0
  pointwise [val_main_v66, val_main_v64, val_main_cst_12, val_main_v63, val_main_v62, val_main_cst_11]
  simp only [Fin.sum_univ_one, v61]
  rfl
theorem v21 (d : Fin 128) : val_main_v21 (F := Ideal) x3 x5 (ix1 d) = ∑ h : Fin 4, ∑ s : Fin 256, x5 (ix2 s (col h d)) * qh (kx x3 s h) d := by
  refine (sum_lead _ d reducesTo_S256x4x128_S128_d0_1 h_S_).trans ?_
  simp only [v20]
theorem v25 (d : Fin 128) : val_main_v25 (F := Ideal) x3 x5 (ix1 d) = val_main_v21 (F := Ideal) x3 x5 (ix1 d) := by
  refine (sum_lead _ d reducesTo_S1x1x128_S128_d0_1 h_S_).trans ?_
  simp only [Fin.sum_univ_one]
  rw [val_main_v22_apply]
  refine congrArg (val_main_v21 (F := Ideal) x3 x5) (funext fun a => ?_)
  fin_cases a
  apply Fin.ext
  show (((0 : Fin 1).val * 1 + (0 : Fin 1).val) * 128 + d.val) = d.val
  simp
theorem v65 : val_main_v65 (F := Ideal) x3 x5 = DG x3 x5 := by
  funext j
  obtain ⟨u, d, rfl⟩ := ix2_split j
  obtain rfl := Subsingleton.elim u 0
  rw [val_main_v65_apply]
  refine Eq.trans (congrArg (val_main_v25 (F := Ideal) x3 x5) (?_ : _ = ix1 d)) ((v25 x3 x5 d).trans (v21 x3 x5 d))
  funext a
  fin_cases a
  apply Fin.ext
  show (0 : Fin 1).val * 128 + d.val = d.val
  simp
end

/-- The kernel's arrays are the reference's. -/
theorem algebraic : Cert.algebraic_MbKernelIdeal_MbReferenceIdeal := by
  pair_intro
  · run_from Cert.MbKernelIdeal.Value.run_blocks m g
  · run_from Cert.MbReferenceIdeal.Value.run m' g'
    · obtain ⟨e0, e1, e2, e3, e4, e5, e6, e7⟩ := hagree c
      rw [Cert.MbReferenceIdeal.Read.val_main_v46_eq, e2, e3, e4, e5, e6]
      exact (v46 _ _ _ _ _).trans (final8 m c).symm
    · exact ((Cert.MbReferenceIdeal.Read.val_main_v65_eq _ _).trans (v65 _ _)).trans (final9 m c).symm
    · obtain ⟨e0, e1, e2, e3, e4, e5, e6, e7⟩ := hagree c
      rw [Cert.MbReferenceIdeal.Read.val_main_v66_eq, e0, e3, e4, e5, e6, e7]
      exact (v66 _ _ _ _ _ _).trans (final10 m c).symm

/-- The reference runs, keeps its arguments and leaves every counter at zero. -/
theorem frame_ref : Cert.quiescent_MbReferenceIdeal := fun m ρ _ =>
  (θ_run Cert.MbReferenceIdeal.defs _ _).mono (fun r h => ⟨fun c => (h c).2.2.2, sem_eq_zero_of_no_sems (by decide) r.2⟩)
    (Cert.MbReferenceIdeal.Value.run (F := Ideal) m ρ)

end Cert.Proof.MbClaim

end
-- ==== Proof.LsClaim.lean ====
/-
  The loss head: the gradient of the loss in the output, and the loss as one sum per column.
-/
module

public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Gen.LsKernelIdeal.Value
public import proofs.«01_k».proof.Proof.Gen.LsReferenceIdeal.Read
public import proofs.«01_k».proof.Proof.Gen.LsReferenceIdeal.Run
public import proofs.«01_k».proof.Proof.Products
public import proofs.«01_k».proof.Proof.Reals

@[expose] public section

set_option maxRecDepth 16384

noncomputable section

namespace Cert.Proof.LsClaim

open Idealize.ShloMosaic Cert.Products Cert.Reals

/-- The gradient: the error over the number of columns. -/
def DY (Y T : Mat 8192 1024) : Mat 8192 1024 := fun j => (Y (ix2 (j 0) (j 1)) - T (ix2 (j 0) (j 1))) * ((1 / 1024 : ℝ) : EReal)
/-- A term of the loss: half a squared error over the number of columns. -/
def sq {n : Nat} (Y T : Mat n 1024) (s : Fin n) (l : Fin 1024) : EReal :=
  ((1 / 2048 : ℝ) : EReal) * ((Y (ix2 s l) - T (ix2 s l)) * (Y (ix2 s l) - T (ix2 s l)))
/-- The loss, column by column. -/
def LR (Y T : Mat 8192 1024) : Mat 1 1024 := fun j => ∑ s : Fin 8192, sq Y T s (j 1)

theorem c1024 : Ideal.ofBits .f32 0x44800000#32 = ((1024 : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num
theorem inv2048 : Ideal.ofBits .f32 0x3A000000#32 = ((1 / 2048 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

section
open Cert.LsKernelIdeal Cert.LsKernelIdeal.Gen
open Idealize.ShloMosaic.TcCoe Idealize.SL.Sem
open Idealize.ShloMosaic.Pipeline (Dat)

/-- The gradient's block, -/
theorem pay2 (Y T : Vec Ideal S512x1024 .f32) (i : Fin 512) (l : Fin 1024) :
    k0_pay2 (F := Ideal) Y T (ix2 i l) = (Y (ix2 i l) - T (ix2 i l)) * ((1 / 1024 : ℝ) : EReal) := by
  pointwise [k0_pay2, k0_pay1]
  exact congrArg _ inv1024
/-- the sums' start -/
theorem pay3 (j : S1x1024.Idx) : k0_pay3 (F := Ideal) j = 0 := by
  obtain ⟨i, l, rfl⟩ := ix2_split j
  pointwise [k0_pay3]
/-- and what a point adds to them. -/
theorem pay4 (Y T : Vec Ideal S512x1024 .f32) (R : Vec Ideal S1x1024 .f32) (u : Fin 1) (l : Fin 1024) :
    k0_pay4 (F := Ideal) Y T R (ix2 u l) = R (ix2 u l) + ∑ i : Fin 512, sq Y T i l := by
  obtain rfl : u = 0 := Subsingleton.elim _ _
  pointwise [k0_pay4, k0_pay1]
  unfold sq
  rw [← mul_sum_nn (by norm_num), mul_comm]
  exact congrArg (fun q : EReal => R (ix2 0 l) + q * _) inv2048

variable (m : (ℓ : Loc nD τ sig) → Buf (Elt Ideal) ℓ) (c : Dev nD)

/-- The output, -/
abbrev Ya : Vec Ideal S8192x1024 .f32 := m ((c : Thread nD τ).loc main_arg0)
/-- and the target. -/
abbrev Ta : Vec Ideal S8192x1024 .f32 := m ((c : Thread nD τ).loc main_arg1)

/-- The windows' block indices at a point (decided). -/
theorem idx : ∀ t : Fin cfg0.N, win0_0.index t = ![t.val, 0] ∧ win0_1.index t = ![t.val, 0] ∧ win0_2.index t = ![t.val, 0] :=
  (by decide +kernel : ∀ t : Fin grid0.N, _)

/-- Row `i` of point `t`'s block is a row of the array. -/
theorem row_lt (t : Fin cfg0.N) (i : Fin 512) : t.val * 512 + i.val < 8192 := by
  have h : cfg0.N = 16 := N_0
  have := t.isLt; have := i.isLt; omega

theorem iblk0 (t : Fin cfg0.N) (i : Fin 512) (l : Fin 1024) :
    iblk m c 0 t (ix2 i l) = Ya m c (ix2 ⟨t.val * 512 + i.val, row_lt t i⟩ l) := by
  blk_ext [iblk, V, idx t]
theorem iblk1 (t : Fin cfg0.N) (i : Fin 512) (l : Fin 1024) :
    iblk m c 1 t (ix2 i l) = Ta m c (ix2 ⟨t.val * 512 + i.val, row_lt t i⟩ l) := by
  blk_ext [iblk, V, idx t]

/-- What a point leaves in the gradient, -/
theorem out2 (t : Fin cfg0.N) (i : Fin 512) (l : Fin 1024) : (outsAt0 m c t.val t.isLt).1 (ix2 i l)
    = k0_pay2 (F := Ideal) (iblk m c 0 t) (iblk m c 1 t) (ix2 i l) := by
  by_cases h : t.val % 16 = 0
  · rw [outsAt0_A m c t h]
    dsimp only
    unfold out0_A_2
    frame_out
  · rw [outsAt0_B m c t h]
    dsimp only
    unfold out0_B_2
    frame_out
/-- and in the sums: the first point -/
theorem out3_A (t : Fin cfg0.N) (h : t.val % 16 = 0) (u : Fin 1) (l : Fin 1024) : (outsAt0 m c t.val t.isLt).2 (ix2 u l)
    = k0_pay4 (F := Ideal) (iblk m c 0 t) (iblk m c 1 t) (k0_pay3 (F := Ideal)) (ix2 u l) := by
  rw [outsAt0_A m c t h]
  dsimp only
  unfold out0_A_3
  frame_open
  simp (disch := decide) only [↓ View.readCov_skip, ↓ View.readCov_cons_toLoadRect, ↓ View.readCov_fill]
  frame_out
/-- and a later one. -/
theorem out3_B (t : Fin cfg0.N) (h : ¬t.val % 16 = 0) (u : Fin 1) (l : Fin 1024) : (outsAt0 m c t.val t.isLt).2 (ix2 u l)
    = k0_pay4 (F := Ideal) (iblk m c 0 t) (iblk m c 1 t)
        (outsAt0 m c (t.val - 1) (Nat.lt_of_le_of_lt (Nat.sub_le _ _) t.isLt)).2 (ix2 u l) := by
  rw [outsAt0_B m c t h]
  dsimp only
  unfold out0_B_3
  frame_open
  simp (disch := decide) only [↓ View.readCov_skip, ↓ View.readCov_cons_toLoadRect, ↓ View.readCov_fill]
  frame_out

theorem final2 : (dats m 0 c).arrAt 2 cfg0.N = DY (Ya m c) (Ta m c) := by
  refine (dats m 0 c).arrAt_eq_of_covers 2 _ (by decide +kernel) fun t hf y => ?_
  blk_simp
  rw [after0_2]
  obtain ⟨i, l, rfl⟩ := ix2_split y
  have he : (win0_2.blk t).view.emb (ix2 i l) = ix2 (⟨t.val * 512 + i.val, row_lt t i⟩ : Fin 8192) l := by
    blk_ext [idx t]
  rw [he]
  refine (out2 m c t i l).trans ?_
  rw [pay2, iblk0, iblk1]
  rfl

/-- There are sixteen points. -/
theorem pt_lt {a : Nat} (h : a < 16) : a < cfg0.N := lt_of_lt_of_eq h N_0.symm
/-- Tile `n`'s point. -/
abbrev pt (n : Fin 16) : Fin cfg0.N := ⟨n.val, pt_lt n.isLt⟩

/-- The sums at the last point. -/
theorem last (u : Fin 1) (l : Fin 1024) : (outsAt0 m c 15 (pt_lt (by decide))).2 (ix2 u l) = LR (Ya m c) (Ta m c) (ix2 u l) := by
  refine ((Pipeline.eq_sum_fin_of_reset_step_apply_last (N := 16) (fun n hn (p : Fin 1 × Fin 1024) => (outsAt0 m c n (pt_lt hn)).2 (ix2 p.1 p.2)) 16
    (fun _ => 0) (fun n p => ∑ i : Fin 512, sq (iblk m c 0 (pt n)) (iblk m c 1 (pt n)) i p.2)
    (fun n e p => (out3_A m c (pt n) (by have := n.isLt; dsimp only; omega) p.1 p.2).trans (by rw [pay4, pay3]))
    (fun n e p => (out3_B m c (pt n) (by have := n.isLt; dsimp only; omega) p.1 p.2).trans (by rw [pay4]))
    le_rfl (15 : Fin 16) rfl (u, l)).trans (zero_add _)).trans ?_
  show _ = ∑ s : Fin 8192, sq (Ya m c) (Ta m c) s l
  refine Fin.sum_mul_add_congr fun n i hl => ?_
  dsimp only [sq]
  rw [iblk0, iblk1]

theorem final3 : (dats m 0 c).arrAt 3 cfg0.N = LR (Ya m c) (Ta m c) := by
  refine (dats m 0 c).arrAt_eq_of_after_last 3 (pt 15) (by decide +kernel) _ fun j => ?_
  blk_simp
  rw [after0_3]
  obtain ⟨u, l, rfl⟩ := ix2_split j
  exact last m c u l
end

section
open Cert.LsReferenceIdeal Cert.LsReferenceIdeal.Gen Cert.LsReferenceIdeal.Read
variable (x0 x1 : Vec Ideal S8192x1024 .f32)

theorem v22 : val_main_v22 (F := Ideal) x0 x1 = DY x0 x1 := by
  funext j
  obtain ⟨s, l, rfl⟩ := ix2_split j
  pointwise [val_main_v22, val_main_v21, val_main_v20, val_main_v19, val_main_cst_9, val_main_v18, val_main_v17, val_main_cst_7, val_main_cst_8, val_main_v11, val_main_v10, val_main_cst_2, val_main_v8]
  rw [show Ideal.ofBits .f32 0x44800000#32 = _ from c1024, show Ideal.ofBits .f32 0x3F000000#32 = _ from half, show Ideal.ofBits .f32 0x40000000#32 = _ from two,
    Reals.div_pos (by norm_num), ← mul_assoc, ← EReal.coe_mul, ← EReal.coe_mul]
  rw [show (1 / 1024 * (1 / 2) * 2 : ℝ) = 1 / 1024 by norm_num, mul_comm]
  rfl
theorem v7 : val_main_v7 (F := Ideal) x0 x1 = LR x0 x1 := by
  funext j
  obtain ⟨u, l, rfl⟩ := ix2_split j
  pointwise [val_main_v7, val_main_v6, val_main_cst_1, val_main_v5, val_main_v4, val_main_cst_0, val_main_v3, val_main_v2, val_main_cst, val_main_v1, val_main_v0]
  rw [show Ideal.ofBits .f32 0x3F000000#32 = _ from half, mul_sum_nn (by norm_num)]
  refine Finset.sum_congr rfl fun s _ => ?_
  rw [show Ideal.ofBits .f32 0x44800000#32 = _ from c1024, Reals.div_pos (by norm_num), ← mul_assoc, ← EReal.coe_mul]
  rw [show (1 / 2 * (1 / 1024) : ℝ) = 1 / 2048 by norm_num]
  rfl
end

/-- The kernel's two arrays are the reference's. -/
theorem algebraic : Cert.algebraic_LsKernelIdeal_LsReferenceIdeal := by
  pair_intro
  · run_from Cert.LsKernelIdeal.Value.run_blocks m g
  · refine θ_run_mono (Cert.LsReferenceIdeal.Value.run m' g') fun r hr c => ?_
    obtain ⟨e0, e1⟩ := hagree c
    obtain ⟨h0, h1, h2, h3⟩ := hr c
    refine ⟨h0.trans ?_, h1.trans ?_, h2, h3⟩
    · rw [Cert.LsReferenceIdeal.Read.val_main_v22_eq, e0, e1]
      exact (v22 _ _).trans (final2 m c).symm
    · rw [Cert.LsReferenceIdeal.Read.val_main_v7_eq, e0, e1]
      exact (v7 _ _).trans (final3 m c).symm

/-- The reference runs, keeps its arguments and leaves every counter at zero. -/
theorem frame_ref : Cert.quiescent_LsReferenceIdeal := fun m ρ _ =>
  (θ_run Cert.LsReferenceIdeal.defs _ _).mono (fun r h => ⟨fun c => (h c).2.2, sem_eq_zero_of_no_sems (by decide) r.2⟩)
    (Cert.LsReferenceIdeal.Value.run (F := Ideal) m ρ)

end Cert.Proof.LsClaim

end
-- ==== Proof.lean ====
/-
  The proof of the certificate's claim.
-/
module

public import proofs.«01_k».proof.Defs
public import proofs.«01_k».proof.Proof.Gen.XaKernel
public import proofs.«01_k».proof.Proof.Gen.XaKernel.Frame
public import proofs.«01_k».proof.Proof.Gen.XaKernelIdeal
public import proofs.«01_k».proof.Proof.Gen.XaKernelIdeal.Frame
public import proofs.«01_k».proof.Proof.Gen.XaReferenceIdeal
public import proofs.«01_k».proof.Proof.Gen.XaKernelIdeal.Value
public import proofs.«01_k».proof.Proof.Gen.XaReferenceIdeal.Read
public import proofs.«01_k».proof.Proof.Gen.XaReferenceIdeal.Run
public import proofs.«01_k».proof.Proof.Gen.Pre_finite_keys
public import proofs.«01_k».proof.Proof.Gen.DhKernel
public import proofs.«01_k».proof.Proof.Gen.DhKernel.Frame
public import proofs.«01_k».proof.Proof.Gen.DhKernelIdeal
public import proofs.«01_k».proof.Proof.Gen.DhKernelIdeal.Frame
public import proofs.«01_k».proof.Proof.Gen.DhKernelIdeal.Value
public import proofs.«01_k».proof.Proof.Gen.DhReferenceIdeal
public import proofs.«01_k».proof.Proof.Gen.DhReferenceIdeal.Read
public import proofs.«01_k».proof.Proof.Gen.DhReferenceIdeal.Run
public import proofs.«01_k».proof.Proof.Gen.ActKernel
public import proofs.«01_k».proof.Proof.Gen.ActKernel.Frame
public import proofs.«01_k».proof.Proof.Gen.ActKernelIdeal
public import proofs.«01_k».proof.Proof.Gen.ActKernelIdeal.Frame
public import proofs.«01_k».proof.Proof.Gen.ActKernelIdeal.Value
public import proofs.«01_k».proof.Proof.Gen.ActReferenceIdeal
public import proofs.«01_k».proof.Proof.Gen.ActReferenceIdeal.Read
public import proofs.«01_k».proof.Proof.Gen.ActReferenceIdeal.Run
public import proofs.«01_k».proof.Proof.Gen.DwdKernel
public import proofs.«01_k».proof.Proof.Gen.DwdKernel.Frame
public import proofs.«01_k».proof.Proof.Gen.DwdKernelIdeal
public import proofs.«01_k».proof.Proof.Gen.DwdKernelIdeal.Frame
public import proofs.«01_k».proof.Proof.Gen.DwdKernelIdeal.Value
public import proofs.«01_k».proof.Proof.Gen.DwdReferenceIdeal
public import proofs.«01_k».proof.Proof.Gen.DwdReferenceIdeal.Read
public import proofs.«01_k».proof.Proof.Gen.DwdReferenceIdeal.Run
public import proofs.«01_k».proof.Proof.Gen.DwgKernel
public import proofs.«01_k».proof.Proof.Gen.DwgKernel.Frame
public import proofs.«01_k».proof.Proof.Gen.DwgKernelIdeal
public import proofs.«01_k».proof.Proof.Gen.DwgKernelIdeal.Frame
public import proofs.«01_k».proof.Proof.Gen.DwgKernelIdeal.Value
public import proofs.«01_k».proof.Proof.Gen.DwgReferenceIdeal
public import proofs.«01_k».proof.Proof.Gen.DwgReferenceIdeal.Read
public import proofs.«01_k».proof.Proof.Gen.DwgReferenceIdeal.Run
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Read
public import proofs.«01_k».proof.Proof.Gen.UpReferenceIdeal.Run
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Read
public import proofs.«01_k».proof.Proof.Gen.DownReferenceIdeal.Run
public import proofs.«01_k».proof.Proof.Gen.IneKernel
public import proofs.«01_k».proof.Proof.Gen.IneKernel.Frame
public import proofs.«01_k».proof.Proof.Gen.IneKernelIdeal
public import proofs.«01_k».proof.Proof.Gen.IneKernelIdeal.Frame
public import proofs.«01_k».proof.Proof.Gen.IneKernelIdeal.Value
public import proofs.«01_k».proof.Proof.Gen.IneReferenceIdeal
public import proofs.«01_k».proof.Proof.Gen.IneReferenceIdeal.Read
public import proofs.«01_k».proof.Proof.Gen.IneReferenceIdeal.Run
public import proofs.«01_k».proof.Proof.Gen.InoKernel
public import proofs.«01_k».proof.Proof.Gen.InoKernel.Frame
public import proofs.«01_k».proof.Proof.Gen.InoKernelIdeal
public import proofs.«01_k».proof.Proof.Gen.InoKernelIdeal.Frame
public import proofs.«01_k».proof.Proof.Gen.InoKernelIdeal.Value
public import proofs.«01_k».proof.Proof.Gen.InoReferenceIdeal
public import proofs.«01_k».proof.Proof.Gen.InoReferenceIdeal.Read
public import proofs.«01_k».proof.Proof.Gen.InoReferenceIdeal.Run
public import proofs.«01_k».proof.Proof.Gen.XqKernel
public import proofs.«01_k».proof.Proof.Gen.XqKernel.Frame
public import proofs.«01_k».proof.Proof.Gen.XqKernelIdeal
public import proofs.«01_k».proof.Proof.Gen.XqKernelIdeal.Frame
public import proofs.«01_k».proof.Proof.Gen.XqKernelIdeal.Value
public import proofs.«01_k».proof.Proof.Gen.XqReferenceIdeal
public import proofs.«01_k».proof.Proof.Gen.XqReferenceIdeal.Read
public import proofs.«01_k».proof.Proof.Gen.XqReferenceIdeal.Run
public import proofs.«01_k».proof.Proof.Gen.OuteKernel
public import proofs.«01_k».proof.Proof.Gen.OuteKernel.Frame
public import proofs.«01_k».proof.Proof.Gen.OuteKernelIdeal
public import proofs.«01_k».proof.Proof.Gen.OuteKernelIdeal.Frame
public import proofs.«01_k».proof.Proof.Gen.OuteKernelIdeal.Value
public import proofs.«01_k».proof.Proof.Gen.OuteReferenceIdeal
public import proofs.«01_k».proof.Proof.Gen.OuteReferenceIdeal.Read
public import proofs.«01_k».proof.Proof.Gen.OuteReferenceIdeal.Run
public import proofs.«01_k».proof.Proof.Gen.OutoKernel
public import proofs.«01_k».proof.Proof.Gen.OutoKernel.Frame
public import proofs.«01_k».proof.Proof.Gen.OutoKernelIdeal
public import proofs.«01_k».proof.Proof.Gen.OutoKernelIdeal.Frame
public import proofs.«01_k».proof.Proof.Gen.OutoKernelIdeal.Value
public import proofs.«01_k».proof.Proof.Gen.OutoReferenceIdeal
public import proofs.«01_k».proof.Proof.Gen.OutoReferenceIdeal.Read
public import proofs.«01_k».proof.Proof.Gen.OutoReferenceIdeal.Run
public import proofs.«01_k».proof.Proof.Gen.XoKernel
public import proofs.«01_k».proof.Proof.Gen.XoKernel.Frame
public import proofs.«01_k».proof.Proof.Gen.XoKernelIdeal
public import proofs.«01_k».proof.Proof.Gen.XoKernelIdeal.Frame
public import proofs.«01_k».proof.Proof.Gen.XoKernelIdeal.Value
public import proofs.«01_k».proof.Proof.Gen.XoReferenceIdeal
public import proofs.«01_k».proof.Proof.Gen.XoReferenceIdeal.Read
public import proofs.«01_k».proof.Proof.Gen.XoReferenceIdeal.Run
public import proofs.«01_k».proof.Proof.Gen.DwieKernel
public import proofs.«01_k».proof.Proof.Gen.DwieKernel.Frame
public import proofs.«01_k».proof.Proof.Gen.DwieKernelIdeal
public import proofs.«01_k».proof.Proof.Gen.DwieKernelIdeal.Frame
public import proofs.«01_k».proof.Proof.Gen.DwieKernelIdeal.Value
public import proofs.«01_k».proof.Proof.Gen.DwieReferenceIdeal
public import proofs.«01_k».proof.Proof.Gen.DwieReferenceIdeal.Read
public import proofs.«01_k».proof.Proof.Gen.DwieReferenceIdeal.Run
public import proofs.«01_k».proof.Proof.Gen.DwioKernel
public import proofs.«01_k».proof.Proof.Gen.DwioKernel.Frame
public import proofs.«01_k».proof.Proof.Gen.DwioKernelIdeal
public import proofs.«01_k».proof.Proof.Gen.DwioKernelIdeal.Frame
public import proofs.«01_k».proof.Proof.Gen.DwioKernelIdeal.Value
public import proofs.«01_k».proof.Proof.Gen.DwioReferenceIdeal
public import proofs.«01_k».proof.Proof.Gen.DwioReferenceIdeal.Read
public import proofs.«01_k».proof.Proof.Gen.DwioReferenceIdeal.Run
public import proofs.«01_k».proof.Proof.Gen.DwqKernel
public import proofs.«01_k».proof.Proof.Gen.DwqKernel.Frame
public import proofs.«01_k».proof.Proof.Gen.DwqKernelIdeal
public import proofs.«01_k».proof.Proof.Gen.DwqKernelIdeal.Frame
public import proofs.«01_k».proof.Proof.Gen.DwqKernelIdeal.Value
public import proofs.«01_k».proof.Proof.Gen.DwqReferenceIdeal
public import proofs.«01_k».proof.Proof.Gen.DwqReferenceIdeal.Read
public import proofs.«01_k».proof.Proof.Gen.DwqReferenceIdeal.Run
public import proofs.«01_k».proof.Proof.Gen.DwcKernel
public import proofs.«01_k».proof.Proof.Gen.DwcKernel.Frame
public import proofs.«01_k».proof.Proof.Gen.DwcKernelIdeal
public import proofs.«01_k».proof.Proof.Gen.DwcKernelIdeal.Frame
public import proofs.«01_k».proof.Proof.Gen.DwcKernelIdeal.Value
public import proofs.«01_k».proof.Proof.Gen.DwcReferenceIdeal
public import proofs.«01_k».proof.Proof.Gen.DwcReferenceIdeal.Read
public import proofs.«01_k».proof.Proof.Gen.DwcReferenceIdeal.Run
public import proofs.«01_k».proof.Proof.Gen.DwoKernel
public import proofs.«01_k».proof.Proof.Gen.DwoKernel.Frame
public import proofs.«01_k».proof.Proof.Gen.DwoKernelIdeal
public import proofs.«01_k».proof.Proof.Gen.DwoKernelIdeal.Frame
public import proofs.«01_k».proof.Proof.Gen.DwoKernelIdeal.Value
public import proofs.«01_k».proof.Proof.Gen.DwoReferenceIdeal
public import proofs.«01_k».proof.Proof.Gen.DwoReferenceIdeal.Read
public import proofs.«01_k».proof.Proof.Gen.DwoReferenceIdeal.Run
public import proofs.«01_k».proof.Proof.Gen.DheKernel
public import proofs.«01_k».proof.Proof.Gen.DheKernel.Frame
public import proofs.«01_k».proof.Proof.Gen.DheKernelIdeal
public import proofs.«01_k».proof.Proof.Gen.DheKernelIdeal.Frame
public import proofs.«01_k».proof.Proof.Gen.DheKernelIdeal.Value
public import proofs.«01_k».proof.Proof.Gen.DheReferenceIdeal
public import proofs.«01_k».proof.Proof.Gen.DheReferenceIdeal.Read
public import proofs.«01_k».proof.Proof.Gen.DheReferenceIdeal.Run
public import proofs.«01_k».proof.Proof.Gen.DhoKernel
public import proofs.«01_k».proof.Proof.Gen.DhoKernel.Frame
public import proofs.«01_k».proof.Proof.Gen.DhoKernelIdeal
public import proofs.«01_k».proof.Proof.Gen.DhoKernelIdeal.Frame
public import proofs.«01_k».proof.Proof.Gen.DhoKernelIdeal.Value
public import proofs.«01_k».proof.Proof.Gen.DhoReferenceIdeal
public import proofs.«01_k».proof.Proof.Gen.DhoReferenceIdeal.Read
public import proofs.«01_k».proof.Proof.Gen.DhoReferenceIdeal.Run
public import proofs.«01_k».proof.Proof.Gen.DhqKernel
public import proofs.«01_k».proof.Proof.Gen.DhqKernel.Frame
public import proofs.«01_k».proof.Proof.Gen.DhqKernelIdeal
public import proofs.«01_k».proof.Proof.Gen.DhqKernelIdeal.Frame
public import proofs.«01_k».proof.Proof.Gen.DhqKernelIdeal.Value
public import proofs.«01_k».proof.Proof.Gen.DhqReferenceIdeal
public import proofs.«01_k».proof.Proof.Gen.DhqReferenceIdeal.Read
public import proofs.«01_k».proof.Proof.Gen.DhqReferenceIdeal.Run
public import proofs.«01_k».proof.Proof.Gen.DyKernel
public import proofs.«01_k».proof.Proof.Gen.DyKernel.Frame
public import proofs.«01_k».proof.Proof.Gen.DyKernelIdeal
public import proofs.«01_k».proof.Proof.Gen.DyKernelIdeal.Frame
public import proofs.«01_k».proof.Proof.Gen.DyKernelIdeal.Value
public import proofs.«01_k».proof.Proof.Gen.DyReferenceIdeal
public import proofs.«01_k».proof.Proof.Gen.DyReferenceIdeal.Read
public import proofs.«01_k».proof.Proof.Gen.DyReferenceIdeal.Run
public import proofs.«01_k».proof.Proof.Gen.DoKernel
public import proofs.«01_k».proof.Proof.Gen.DoKernel.Frame
public import proofs.«01_k».proof.Proof.Gen.DoKernelIdeal
public import proofs.«01_k».proof.Proof.Gen.DoKernelIdeal.Frame
public import proofs.«01_k».proof.Proof.Gen.DoKernelIdeal.Value
public import proofs.«01_k».proof.Proof.Gen.DoReferenceIdeal
public import proofs.«01_k».proof.Proof.Gen.DoReferenceIdeal.Read
public import proofs.«01_k».proof.Proof.Gen.DoReferenceIdeal.Run
public import proofs.«01_k».proof.Proof.Gen.XfKernel
public import proofs.«01_k».proof.Proof.Gen.XfKernel.Frame
public import proofs.«01_k».proof.Proof.Gen.XfKernelIdeal
public import proofs.«01_k».proof.Proof.Gen.XfKernelIdeal.Frame
public import proofs.«01_k».proof.Proof.Gen.XfKernelIdeal.Value
public import proofs.«01_k».proof.Proof.Gen.XfReferenceIdeal
public import proofs.«01_k».proof.Proof.Gen.XfReferenceIdeal.Read
public import proofs.«01_k».proof.Proof.Gen.XfReferenceIdeal.Run
public import proofs.«01_k».proof.Proof.Gen.NfKernel
public import proofs.«01_k».proof.Proof.Gen.NfKernel.Frame
public import proofs.«01_k».proof.Proof.Gen.NfKernelIdeal
public import proofs.«01_k».proof.Proof.Gen.NfKernelIdeal.Frame
public import proofs.«01_k».proof.Proof.Gen.NfKernelIdeal.Value
public import proofs.«01_k».proof.Proof.Gen.NfReferenceIdeal
public import proofs.«01_k».proof.Proof.Gen.NfReferenceIdeal.Read
public import proofs.«01_k».proof.Proof.Gen.NfReferenceIdeal.Run
public import proofs.«01_k».proof.Proof.Gen.OfKernel
public import proofs.«01_k».proof.Proof.Gen.OfKernel.Frame
public import proofs.«01_k».proof.Proof.Gen.OfKernelIdeal
public import proofs.«01_k».proof.Proof.Gen.OfKernelIdeal.Frame
public import proofs.«01_k».proof.Proof.Gen.OfKernelIdeal.Value
public import proofs.«01_k».proof.Proof.Gen.OfReferenceIdeal
public import proofs.«01_k».proof.Proof.Gen.OfReferenceIdeal.Read
public import proofs.«01_k».proof.Proof.Gen.OfReferenceIdeal.Run
public import proofs.«01_k».proof.Proof.Gen.ObKernel
public import proofs.«01_k».proof.Proof.Gen.ObKernel.Frame
public import proofs.«01_k».proof.Proof.Gen.ObKernelIdeal
public import proofs.«01_k».proof.Proof.Gen.ObKernelIdeal.Frame
public import proofs.«01_k».proof.Proof.Gen.ObKernelIdeal.Value
public import proofs.«01_k».proof.Proof.Gen.ObReferenceIdeal
public import proofs.«01_k».proof.Proof.Gen.ObReferenceIdeal.Read
public import proofs.«01_k».proof.Proof.Gen.ObReferenceIdeal.Run
public import proofs.«01_k».proof.Proof.Gen.MfKernel
public import proofs.«01_k».proof.Proof.Gen.MfKernel.Frame
public import proofs.«01_k».proof.Proof.Gen.MfKernelIdeal
public import proofs.«01_k».proof.Proof.Gen.MfKernelIdeal.Frame
public import proofs.«01_k».proof.Proof.Gen.MfKernelIdeal.Value
public import proofs.«01_k».proof.Proof.Gen.MfReferenceIdeal
public import proofs.«01_k».proof.Proof.Gen.MfReferenceIdeal.Read
public import proofs.«01_k».proof.Proof.Gen.MfReferenceIdeal.Run
public import proofs.«01_k».proof.Proof.Gen.MbKernel
public import proofs.«01_k».proof.Proof.Gen.MbKernel.Frame
public import proofs.«01_k».proof.Proof.Gen.MbKernelIdeal
public import proofs.«01_k».proof.Proof.Gen.MbKernelIdeal.Frame
public import proofs.«01_k».proof.Proof.Gen.MbKernelIdeal.Value
public import proofs.«01_k».proof.Proof.Gen.MbReferenceIdeal
public import proofs.«01_k».proof.Proof.Gen.MbReferenceIdeal.Read
public import proofs.«01_k».proof.Proof.Gen.MbReferenceIdeal.Run
public import proofs.«01_k».proof.Proof.Gen.LsKernel
public import proofs.«01_k».proof.Proof.Gen.LsKernel.Frame
public import proofs.«01_k».proof.Proof.Gen.LsKernelIdeal
public import proofs.«01_k».proof.Proof.Gen.LsKernelIdeal.Frame
public import proofs.«01_k».proof.Proof.Gen.LsKernelIdeal.Value
public import proofs.«01_k».proof.Proof.Gen.LsReferenceIdeal
public import proofs.«01_k».proof.Proof.Gen.LsReferenceIdeal.Read
public import proofs.«01_k».proof.Proof.Gen.LsReferenceIdeal.Run
public import proofs.«01_k».proof.Proof.Gen.Pre_finite_gate
public import proofs.«01_k».proof.Proof.XaClaim
public import proofs.«01_k».proof.Proof.DhClaim
public import proofs.«01_k».proof.Proof.ActClaim
public import proofs.«01_k».proof.Proof.DwdClaim
public import proofs.«01_k».proof.Proof.DwgClaim
public import proofs.«01_k».proof.Proof.UpClaim
public import proofs.«01_k».proof.Proof.DownClaim
public import proofs.«01_k».proof.Proof.IneClaim
public import proofs.«01_k».proof.Proof.InoClaim
public import proofs.«01_k».proof.Proof.XqClaim
public import proofs.«01_k».proof.Proof.OuteClaim
public import proofs.«01_k».proof.Proof.OutoClaim
public import proofs.«01_k».proof.Proof.XoClaim
public import proofs.«01_k».proof.Proof.DwieClaim
public import proofs.«01_k».proof.Proof.DwioClaim
public import proofs.«01_k».proof.Proof.DwqClaim
public import proofs.«01_k».proof.Proof.DwcClaim
public import proofs.«01_k».proof.Proof.DwoClaim
public import proofs.«01_k».proof.Proof.DheClaim
public import proofs.«01_k».proof.Proof.DhoClaim
public import proofs.«01_k».proof.Proof.DhqClaim
public import proofs.«01_k».proof.Proof.DyClaim
public import proofs.«01_k».proof.Proof.DoClaim
public import proofs.«01_k».proof.Proof.XfClaim
public import proofs.«01_k».proof.Proof.NfClaim
public import proofs.«01_k».proof.Proof.OfClaim
public import proofs.«01_k».proof.Proof.ObClaim
public import proofs.«01_k».proof.Proof.MfClaim
public import proofs.«01_k».proof.Proof.MbClaim
public import proofs.«01_k».proof.Proof.LsClaim

@[expose] public section

noncomputable section

namespace Cert.Proof

open Idealize.ShloMosaic

theorem claim : Cert.Claim :=
  ⟨Cert.XaKernel.Gen.facts, Cert.XaKernelIdeal.Gen.facts, Cert.XaReferenceIdeal.Gen.facts,
    Cert.DhKernel.Gen.facts, Cert.DhKernelIdeal.Gen.facts, Cert.DhReferenceIdeal.Gen.facts,
    Cert.ActKernel.Gen.facts, Cert.ActKernelIdeal.Gen.facts, Cert.ActReferenceIdeal.Gen.facts,
    Cert.DwdKernel.Gen.facts, Cert.DwdKernelIdeal.Gen.facts, Cert.DwdReferenceIdeal.Gen.facts,
    Cert.DwgKernel.Gen.facts, Cert.DwgKernelIdeal.Gen.facts, Cert.DwgReferenceIdeal.Gen.facts,
    Cert.UpKernel.Gen.facts, Cert.UpKernelIdeal.Gen.facts, Cert.UpReferenceIdeal.Gen.facts,
    Cert.DownKernel.Gen.facts, Cert.DownKernelIdeal.Gen.facts, Cert.DownReferenceIdeal.Gen.facts,
    Cert.IneKernel.Gen.facts, Cert.IneKernelIdeal.Gen.facts, Cert.IneReferenceIdeal.Gen.facts,
    Cert.InoKernel.Gen.facts, Cert.InoKernelIdeal.Gen.facts, Cert.InoReferenceIdeal.Gen.facts,
    Cert.XqKernel.Gen.facts, Cert.XqKernelIdeal.Gen.facts, Cert.XqReferenceIdeal.Gen.facts,
    Cert.OuteKernel.Gen.facts, Cert.OuteKernelIdeal.Gen.facts, Cert.OuteReferenceIdeal.Gen.facts,
    Cert.OutoKernel.Gen.facts, Cert.OutoKernelIdeal.Gen.facts, Cert.OutoReferenceIdeal.Gen.facts,
    Cert.XoKernel.Gen.facts, Cert.XoKernelIdeal.Gen.facts, Cert.XoReferenceIdeal.Gen.facts,
    Cert.DwieKernel.Gen.facts, Cert.DwieKernelIdeal.Gen.facts, Cert.DwieReferenceIdeal.Gen.facts,
    Cert.DwioKernel.Gen.facts, Cert.DwioKernelIdeal.Gen.facts, Cert.DwioReferenceIdeal.Gen.facts,
    Cert.DwqKernel.Gen.facts, Cert.DwqKernelIdeal.Gen.facts, Cert.DwqReferenceIdeal.Gen.facts,
    Cert.DwcKernel.Gen.facts, Cert.DwcKernelIdeal.Gen.facts, Cert.DwcReferenceIdeal.Gen.facts,
    Cert.DwoKernel.Gen.facts, Cert.DwoKernelIdeal.Gen.facts, Cert.DwoReferenceIdeal.Gen.facts,
    Cert.DheKernel.Gen.facts, Cert.DheKernelIdeal.Gen.facts, Cert.DheReferenceIdeal.Gen.facts,
    Cert.DhoKernel.Gen.facts, Cert.DhoKernelIdeal.Gen.facts, Cert.DhoReferenceIdeal.Gen.facts,
    Cert.DhqKernel.Gen.facts, Cert.DhqKernelIdeal.Gen.facts, Cert.DhqReferenceIdeal.Gen.facts,
    Cert.DyKernel.Gen.facts, Cert.DyKernelIdeal.Gen.facts, Cert.DyReferenceIdeal.Gen.facts,
    Cert.DoKernel.Gen.facts, Cert.DoKernelIdeal.Gen.facts, Cert.DoReferenceIdeal.Gen.facts,
    Cert.XfKernel.Gen.facts, Cert.XfKernelIdeal.Gen.facts, Cert.XfReferenceIdeal.Gen.facts,
    Cert.NfKernel.Gen.facts, Cert.NfKernelIdeal.Gen.facts, Cert.NfReferenceIdeal.Gen.facts,
    Cert.OfKernel.Gen.facts, Cert.OfKernelIdeal.Gen.facts, Cert.OfReferenceIdeal.Gen.facts,
    Cert.ObKernel.Gen.facts, Cert.ObKernelIdeal.Gen.facts, Cert.ObReferenceIdeal.Gen.facts,
    Cert.MfKernel.Gen.facts, Cert.MfKernelIdeal.Gen.facts, Cert.MfReferenceIdeal.Gen.facts,
    Cert.MbKernel.Gen.facts, Cert.MbKernelIdeal.Gen.facts, Cert.MbReferenceIdeal.Gen.facts,
    Cert.LsKernel.Gen.facts, Cert.LsKernelIdeal.Gen.facts, Cert.LsReferenceIdeal.Gen.facts,
    Cert.Pre_finite_keys.Gen.facts, Cert.Pre_finite_gate.Gen.facts,
    fun m ρ _ => Cert.XaKernel.Gen.frame m ρ, fun m ρ _ => Cert.XaKernelIdeal.Gen.frame m ρ, fun m ρ _ => Cert.XaKernelIdeal.Gen.frame m ρ,
    XaClaim.frame_ref, fun m ρ _ => XaClaim.frame_ref m ρ trivial,
    fun m ρ _ => Cert.DhKernel.Gen.frame m ρ, fun m ρ _ => Cert.DhKernelIdeal.Gen.frame m ρ,
    DhClaim.frame_ref,
    fun m ρ _ => Cert.ActKernel.Gen.frame m ρ, fun m ρ _ => Cert.ActKernelIdeal.Gen.frame m ρ, fun m ρ _ => Cert.ActKernelIdeal.Gen.frame m ρ,
    ActClaim.frame_ref, fun m ρ _ => ActClaim.frame_ref m ρ trivial,
    fun m ρ _ => Cert.DwdKernel.Gen.frame m ρ, fun m ρ _ => Cert.DwdKernelIdeal.Gen.frame m ρ,
    DwdClaim.frame_ref,
    fun m ρ _ => Cert.DwgKernel.Gen.frame m ρ, fun m ρ _ => Cert.DwgKernelIdeal.Gen.frame m ρ,
    DwgClaim.frame_ref,
    fun m ρ _ => Cert.UpKernel.Gen.frame m ρ, fun m ρ _ => Cert.UpKernelIdeal.Gen.frame m ρ,
    UpClaim.frame_ref,
    fun m ρ _ => Cert.DownKernel.Gen.frame m ρ, fun m ρ _ => Cert.DownKernelIdeal.Gen.frame m ρ,
    DownClaim.frame_ref,
    fun m ρ _ => Cert.IneKernel.Gen.frame m ρ, fun m ρ _ => Cert.IneKernelIdeal.Gen.frame m ρ,
    IneClaim.frame_ref,
    fun m ρ _ => Cert.InoKernel.Gen.frame m ρ, fun m ρ _ => Cert.InoKernelIdeal.Gen.frame m ρ,
    InoClaim.frame_ref,
    fun m ρ _ => Cert.XqKernel.Gen.frame m ρ, fun m ρ _ => Cert.XqKernelIdeal.Gen.frame m ρ,
    XqClaim.frame_ref,
    fun m ρ _ => Cert.OuteKernel.Gen.frame m ρ, fun m ρ _ => Cert.OuteKernelIdeal.Gen.frame m ρ,
    OuteClaim.frame_ref,
    fun m ρ _ => Cert.OutoKernel.Gen.frame m ρ, fun m ρ _ => Cert.OutoKernelIdeal.Gen.frame m ρ,
    OutoClaim.frame_ref,
    fun m ρ _ => Cert.XoKernel.Gen.frame m ρ, fun m ρ _ => Cert.XoKernelIdeal.Gen.frame m ρ,
    XoClaim.frame_ref,
    fun m ρ _ => Cert.DwieKernel.Gen.frame m ρ, fun m ρ _ => Cert.DwieKernelIdeal.Gen.frame m ρ,
    DwieClaim.frame_ref,
    fun m ρ _ => Cert.DwioKernel.Gen.frame m ρ, fun m ρ _ => Cert.DwioKernelIdeal.Gen.frame m ρ,
    DwioClaim.frame_ref,
    fun m ρ _ => Cert.DwqKernel.Gen.frame m ρ, fun m ρ _ => Cert.DwqKernelIdeal.Gen.frame m ρ,
    DwqClaim.frame_ref,
    fun m ρ _ => Cert.DwcKernel.Gen.frame m ρ, fun m ρ _ => Cert.DwcKernelIdeal.Gen.frame m ρ,
    DwcClaim.frame_ref,
    fun m ρ _ => Cert.DwoKernel.Gen.frame m ρ, fun m ρ _ => Cert.DwoKernelIdeal.Gen.frame m ρ,
    DwoClaim.frame_ref,
    fun m ρ _ => Cert.DheKernel.Gen.frame m ρ, fun m ρ _ => Cert.DheKernelIdeal.Gen.frame m ρ,
    DheClaim.frame_ref,
    fun m ρ _ => Cert.DhoKernel.Gen.frame m ρ, fun m ρ _ => Cert.DhoKernelIdeal.Gen.frame m ρ,
    DhoClaim.frame_ref,
    fun m ρ _ => Cert.DhqKernel.Gen.frame m ρ, fun m ρ _ => Cert.DhqKernelIdeal.Gen.frame m ρ,
    DhqClaim.frame_ref,
    fun m ρ _ => Cert.DyKernel.Gen.frame m ρ, fun m ρ _ => Cert.DyKernelIdeal.Gen.frame m ρ,
    DyClaim.frame_ref,
    fun m ρ _ => Cert.DoKernel.Gen.frame m ρ, fun m ρ _ => Cert.DoKernelIdeal.Gen.frame m ρ,
    DoClaim.frame_ref,
    fun m ρ _ => Cert.XfKernel.Gen.frame m ρ, fun m ρ _ => Cert.XfKernelIdeal.Gen.frame m ρ,
    XfClaim.frame_ref,
    fun m ρ _ => Cert.NfKernel.Gen.frame m ρ, fun m ρ _ => Cert.NfKernelIdeal.Gen.frame m ρ,
    NfClaim.frame_ref,
    fun m ρ _ => Cert.OfKernel.Gen.frame m ρ, fun m ρ _ => Cert.OfKernelIdeal.Gen.frame m ρ,
    OfClaim.frame_ref,
    fun m ρ _ => Cert.ObKernel.Gen.frame m ρ, fun m ρ _ => Cert.ObKernelIdeal.Gen.frame m ρ,
    ObClaim.frame_ref,
    fun m ρ _ => Cert.MfKernel.Gen.frame m ρ, fun m ρ _ => Cert.MfKernelIdeal.Gen.frame m ρ,
    MfClaim.frame_ref,
    fun m ρ _ => Cert.MbKernel.Gen.frame m ρ, fun m ρ _ => Cert.MbKernelIdeal.Gen.frame m ρ,
    MbClaim.frame_ref,
    fun m ρ _ => Cert.LsKernel.Gen.frame m ρ, fun m ρ _ => Cert.LsKernelIdeal.Gen.frame m ρ,
    LsClaim.frame_ref,
    IdealRules.named_const.statement Cert.XaKernelIdeal.κ "inv_sqrt_hd" .f32 0x3DB504F3#32 (((Real.sqrt 128)⁻¹ : ℝ) : EReal) rfl,
    XaClaim.algebraic,
    trivial, DhClaim.algebraic,
    trivial, ActClaim.algebraic,
    trivial, DwdClaim.algebraic,
    trivial, DwgClaim.algebraic,
    trivial, UpClaim.algebraic,
    trivial, DownClaim.algebraic,
    trivial, IneClaim.algebraic,
    trivial, InoClaim.algebraic,
    trivial, XqClaim.algebraic,
    trivial, OuteClaim.algebraic,
    trivial, OutoClaim.algebraic,
    trivial, XoClaim.algebraic,
    trivial, DwieClaim.algebraic,
    trivial, DwioClaim.algebraic,
    trivial, DwqClaim.algebraic,
    trivial, DwcClaim.algebraic,
    trivial, DwoClaim.algebraic,
    trivial, DheClaim.algebraic,
    trivial, DhoClaim.algebraic,
    trivial, DhqClaim.algebraic,
    trivial, DyClaim.algebraic,
    trivial, DoClaim.algebraic,
    IdealRules.named_const.statement Cert.XfKernelIdeal.κ "inv_sqrt_hd" .f32 0x3DB504F3#32 (((Real.sqrt 128)⁻¹ : ℝ) : EReal) rfl, XfClaim.algebraic,
    trivial, NfClaim.algebraic,
    trivial, OfClaim.algebraic,
    trivial, ObClaim.algebraic,
    trivial, MfClaim.algebraic,
    trivial, MbClaim.algebraic,
    trivial, LsClaim.algebraic⟩

end Cert.Proof

end
